-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x63x3 : Shape := ⟨3, ![64, 63, 3]⟩
abbrev S64x63x512 : Shape := ⟨3, ![64, 63, 512]⟩
abbrev S64 : Shape := ⟨1, ![64]⟩
abbrev S64x63x1 : Shape := ⟨3, ![64, 63, 1]⟩
abbrev S64x63 : Shape := ⟨2, ![64, 63]⟩
abbrev S_ : Shape := ⟨0, ![]⟩
abbrev S63 : Shape := ⟨1, ![63]⟩
abbrev S1x63 : Shape := ⟨2, ![1, 63]⟩
abbrev S64x1 : Shape := ⟨2, ![64, 1]⟩
abbrev S63x64x512 : Shape := ⟨3, ![63, 64, 512]⟩
abbrev S784x64x512 : Shape := ⟨3, ![784, 64, 512]⟩
abbrev S63x8x512 : Shape := ⟨3, ![63, 8, 512]⟩
abbrev S784x8x512 : Shape := ⟨3, ![784, 8, 512]⟩
abbrev S1x1 : Shape := ⟨2, ![1, 1]⟩
abbrev S1x1x512 : Shape := ⟨3, ![1, 1, 512]⟩
abbrev S1x512 : Shape := ⟨2, ![1, 512]⟩
abbrev S28x28x64x512 : Shape := ⟨4, ![28, 28, 64, 512]⟩
abbrev S64x512x28x28 : Shape := ⟨4, ![64, 512, 28, 28]⟩

abbrev nBuf : Space → Nat
  | .hbm => 63
  | .vmem => 4
  | .smem => 1
  | _ => 0

abbrev bufTy : (tb : Table) → Fin (tcTables nBuf tb) → BufTy
  | .hbm, ⟨0, _⟩ => ⟨S64x63x3, .f32⟩
  | .hbm, ⟨1, _⟩ => ⟨S64x63x512, .f32⟩
  | .hbm, ⟨2, _⟩ => ⟨S64, .i32⟩
  | .hbm, ⟨3, _⟩ => ⟨S64x63x1, .f32⟩
  | .hbm, ⟨4, _⟩ => ⟨S64x63, .f32⟩
  | .hbm, ⟨5, _⟩ => ⟨S64x63x1, .f32⟩
  | .hbm, ⟨6, _⟩ => ⟨S64x63, .f32⟩
  | .hbm, ⟨7, _⟩ => ⟨S_, .f32⟩
  | .hbm, ⟨8, _⟩ => ⟨S64x63, .f32⟩
  | .hbm, ⟨9, _⟩ => ⟨S64x63, .f32⟩
  | .hbm, ⟨10, _⟩ => ⟨S_, .f32⟩
  | .hbm, ⟨11, _⟩ => ⟨S64x63, .f32⟩
  | .hbm, ⟨12, _⟩ => ⟨S64x63, .f32⟩
  | .hbm, ⟨13, _⟩ => ⟨S64x63, .i32⟩
  | .hbm, ⟨14, _⟩ => ⟨S_, .f32⟩
  | .hbm, ⟨15, _⟩ => ⟨S64x63, .f32⟩
  | .hbm, ⟨16, _⟩ => ⟨S64x63, .f32⟩
  | .hbm, ⟨17, _⟩ => ⟨S_, .f32⟩
  | .hbm, ⟨18, _⟩ => ⟨S64x63, .f32⟩
  | .hbm, ⟨19, _⟩ => ⟨S64x63, .f32⟩
  | .hbm, ⟨20, _⟩ => ⟨S64x63, .i32⟩
  | .hbm, ⟨21, _⟩ => ⟨S63, .i32⟩
  | .hbm, ⟨22, _⟩ => ⟨S1x63, .i32⟩
  | .hbm, ⟨23, _⟩ => ⟨S64x1, .i32⟩
  | .hbm, ⟨24, _⟩ => ⟨S64x63, .i32⟩
  | .hbm, ⟨25, _⟩ => ⟨S64x63, .i32⟩
  | .hbm, ⟨26, _⟩ => ⟨S64x63, .i1⟩
  | .hbm, ⟨27, _⟩ => ⟨S_, .i32⟩
  | .hbm, ⟨28, _⟩ => ⟨S64x63, .i32⟩
  | .hbm, ⟨29, _⟩ => ⟨S64x63, .i1⟩
  | .hbm, ⟨30, _⟩ => ⟨S64x63, .i1⟩
  | .hbm, ⟨31, _⟩ => ⟨S_, .i32⟩
  | .hbm, ⟨32, _⟩ => ⟨S64x63, .i32⟩
  | .hbm, ⟨33, _⟩ => ⟨S64x63, .i1⟩
  | .hbm, ⟨34, _⟩ => ⟨S64x63, .i1⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S64x63, .i32⟩
  | .hbm, ⟨39, _⟩ => ⟨S64x63, .i32⟩
  | .hbm, ⟨40, _⟩ => ⟨S_, .i32⟩
  | .hbm, ⟨41, _⟩ => ⟨S64x63, .i32⟩
  | .hbm, ⟨42, _⟩ => ⟨S64x63, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S64x63, .i32⟩
  | .hbm, ⟨47, _⟩ => ⟨S64x63, .i32⟩
  | .hbm, ⟨48, _⟩ => ⟨S_, .i32⟩
  | .hbm, ⟨49, _⟩ => ⟨S64x63, .i32⟩
  | .hbm, ⟨50, _⟩ => ⟨S64x63, .i32⟩
  | .hbm, ⟨51, _⟩ => ⟨S_, .i32⟩
  | .hbm, ⟨52, _⟩ => ⟨S64x63, .i32⟩
  | .hbm, ⟨53, _⟩ => ⟨S64x63, .i32⟩
  | .hbm, ⟨54, _⟩ => ⟨S64x63, .i32⟩
  | .hbm, ⟨55, _⟩ => ⟨S64x63, .i32⟩
  | .hbm, ⟨56, _⟩ => ⟨S_, .i32⟩
  | .hbm, ⟨57, _⟩ => ⟨S64x63, .i32⟩
  | .hbm, ⟨58, _⟩ => ⟨S64x63, .i32⟩
  | .hbm, ⟨59, _⟩ => ⟨S63x64x512, .f32⟩
  | .hbm, ⟨60, _⟩ => ⟨S784x64x512, .f32⟩
  | .hbm, ⟨61, _⟩ => ⟨S28x28x64x512, .f32⟩
  | .hbm, ⟨62, _⟩ => ⟨S64x512x28x28, .f32⟩
  | .local _ .vmem, ⟨0, _⟩ => ⟨S63x8x512, .f32⟩
  | .local _ .vmem, ⟨1, _⟩ => ⟨S63x8x512, .f32⟩
  | .local _ .vmem, ⟨2, _⟩ => ⟨S784x8x512, .f32⟩
  | .local _ .vmem, ⟨3, _⟩ => ⟨S784x8x512, .f32⟩
  | .local _ .smem, ⟨0, _⟩ => ⟨S64x63, .i32⟩
  | _, _ => ⟨S64x63x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_4 : Ref sig .tc := ⟨.hbm, 35, rfl⟩
abbrev main_c_5 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v26 : Ref sig .tc := ⟨.hbm, 42, rfl⟩
abbrev main_c_6 : Ref sig .tc := ⟨.hbm, 43, rfl⟩
abbrev main_c_7 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_v27 : Ref sig .tc := ⟨.hbm, 50, rfl⟩
abbrev main_c_8 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_9 : Ref sig .tc := ⟨.hbm, 56, rfl⟩
abbrev main_v32 : Ref sig .tc := ⟨.hbm, 57, rfl⟩
abbrev main_v33 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v34 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v34.idx], fun | 0 => main_v34.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let c8_i32 : BitVec 32 := 8#32
  let v2 : BitVec 32 := Scalar.muli arg0 c8_i32
  let c0_i32 : BitVec 32 := 0#32
  let v3 : BitVec 32 := Scalar.addi v2 c0_i32
  let v4 : Index := Scalar.indexCast v3
  let c0_2 : Index := 0#32
  ![v4.toNat, 0]
def k0_off2 (v5 : BitVec 32) : Fin 3 → Nat :=
  let c1023_i32 : BitVec 32 := 1023#32
  let v6 : BitVec 32 := Scalar.andi v5 c1023_i32
  let v13 : Index := Scalar.indexCast v6
  let c0_6 : Index := 0#32
  let c0_7 : Index := 0#32
  ![v13.toNat, 0, 0]

def k0_off3 (i : grid0.Coords) : Fin 2 → Nat :=
  let arg0 : BitVec 32 := BitVec.ofNat 32 (i 0).val
  let c8_i32_8 : BitVec 32 := 8#32
  let v17 : BitVec 32 := Scalar.muli arg0 c8_i32_8
  let c1_i32 : BitVec 32 := 1#32
  let v18 : BitVec 32 := Scalar.addi v17 c1_i32
  let v19 : Index := Scalar.indexCast v18
  let c0_9 : Index := 0#32
  ![v19.toNat, 0]
def k0_off4 (v20 : BitVec 32) : Fin 3 → Nat :=
  let c1023_i32_10 : BitVec 32 := 1023#32
  let v21 : BitVec 32 := Scalar.andi v20 c1023_i32_10
  let v28 : Index := Scalar.indexCast v21
  let c1_14 : Index := 1#32
  let c0_15 : Index := 0#32
  ![v28.toNat, 1, 0]

def k0_off5 (i : grid0.Coords) : Fin 2 → Nat :=
  let arg0 : BitVec 32 := BitVec.ofNat 32 (i 0).val
  let c8_i32_16 : BitVec 32 := 8#32
  let v32 : BitVec 32 := Scalar.muli arg0 c8_i32_16
  let c2_i32 : BitVec 32 := 2#32
  let v33 : BitVec 32 := Scalar.addi v32 c2_i32
  let v34 : Index := Scalar.indexCast v33
  let c0_17 : Index := 0#32
  ![v34.toNat, 0]
def k0_off6 (v35 : BitVec 32) : Fin 3 → Nat :=
  let c1023_i32_18 : BitVec 32 := 1023#32
  let v36 : BitVec 32 := Scalar.andi v35 c1023_i32_18
  let v43 : Index := Scalar.indexCast v36
  let c2_22 : Index := 2#32
  let c0_23 : Index := 0#32
  ![v43.toNat, 2, 0]

def k0_off7 (i : grid0.Coords) : Fin 2 → Nat :=
  let arg0 : BitVec 32 := BitVec.ofNat 32 (i 0).val
  let c8_i32_24 : BitVec 32 := 8#32
  let v47 : BitVec 32 := Scalar.muli arg0 c8_i32_24
  let c3_i32 : BitVec 32 := 3#32
  let v48 : BitVec 32 := Scalar.addi v47 c3_i32
  let v49 : Index := Scalar.indexCast v48
  let c0_25 : Index := 0#32
  ![v49.toNat, 0]
def k0_off8 (v50 : BitVec 32) : Fin 3 → Nat :=
  let c1023_i32_26 : BitVec 32 := 1023#32
  let v51 : BitVec 32 := Scalar.andi v50 c1023_i32_26
  let v58 : Index := Scalar.indexCast v51
  let c3_30 : Index := 3#32
  let c0_31 : Index := 0#32
  ![v58.toNat, 3, 0]

def k0_off9 (i : grid0.Coords) : Fin 2 → Nat :=
  let arg0 : BitVec 32 := BitVec.ofNat 32 (i 0).val
  let c8_i32_32 : BitVec 32 := 8#32
  let v62 : BitVec 32 := Scalar.muli arg0 c8_i32_32
  let c4_i32 : BitVec 32 := 4#32
  let v63 : BitVec 32 := Scalar.addi v62 c4_i32
  let v64 : Index := Scalar.indexCast v63
  let c0_33 : Index := 0#32
  ![v64.toNat, 0]
def k0_off10 (v65 : BitVec 32) : Fin 3 → Nat :=
  let c1023_i32_34 : BitVec 32 := 1023#32
  let v66 : BitVec 32 := Scalar.andi v65 c1023_i32_34
  let v73 : Index := Scalar.indexCast v66
  let c4_38 : Index := 4#32
  let c0_39 : Index := 0#32
  ![v73.toNat, 4, 0]

def k0_off11 (i : grid0.Coords) : Fin 2 → Nat :=
  let arg0 : BitVec 32 := BitVec.ofNat 32 (i 0).val
  let c8_i32_40 : BitVec 32 := 8#32
  let v77 : BitVec 32 := Scalar.muli arg0 c8_i32_40
  let c5_i32 : BitVec 32 := 5#32
  let v78 : BitVec 32 := Scalar.addi v77 c5_i32
  let v79 : Index := Scalar.indexCast v78
  let c0_41 : Index := 0#32
  ![v79.toNat, 0]
def k0_off12 (v80 : BitVec 32) : Fin 3 → Nat :=
  let c1023_i32_42 : BitVec 32 := 1023#32
  let v81 : BitVec 32 := Scalar.andi v80 c1023_i32_42
  let v88 : Index := Scalar.indexCast v81
  let c5_46 : Index := 5#32
  let c0_47 : Index := 0#32
  ![v88.toNat, 5, 0]

def k0_off13 (i : grid0.Coords) : Fin 2 → Nat :=
  let arg0 : BitVec 32 := BitVec.ofNat 32 (i 0).val
  let c8_i32_48 : BitVec 32 := 8#32
  let v92 : BitVec 32 := Scalar.muli arg0 c8_i32_48
  let c6_i32 : BitVec 32 := 6#32
  let v93 : BitVec 32 := Scalar.addi v92 c6_i32
  let v94 : Index := Scalar.indexCast v93
  let c0_49 : Index := 0#32
  ![v94.toNat, 0]
def k0_off14 (v95 : BitVec 32) : Fin 3 → Nat :=
  let c1023_i32_50 : BitVec 32 := 1023#32
  let v96 : BitVec 32 := Scalar.andi v95 c1023_i32_50
  let v103 : Index := Scalar.indexCast v96
  let c6_54 : Index := 6#32
  let c0_55 : Index := 0#32
  ![v103.toNat, 6, 0]

def k0_off15 (i : grid0.Coords) : Fin 2 → Nat :=
  let arg0 : BitVec 32 := BitVec.ofNat 32 (i 0).val
  let c8_i32_56 : BitVec 32 := 8#32
  let v107 : BitVec 32 := Scalar.muli arg0 c8_i32_56
  let c7_i32 : BitVec 32 := 7#32
  let v108 : BitVec 32 := Scalar.addi v107 c7_i32
  let v109 : Index := Scalar.indexCast v108
  let c0_57 : Index := 0#32
  ![v109.toNat, 0]
def k0_off16 (v110 : BitVec 32) : Fin 3 → Nat :=
  let c1023_i32_58 : BitVec 32 := 1023#32
  let v111 : BitVec 32 := Scalar.andi v110 c1023_i32_58
  let v118 : Index := Scalar.indexCast v111
  let c7_62 : Index := 7#32
  let c0_63 : Index := 0#32
  ![v118.toNat, 7, 0]

def k0_chk8 (v110 : BitVec 32) : Prop :=
  (∀ a, (k0_off16 v110) a + S1x1x512.size a ≤ S784x8x512.size a)
theorem k0_off16_inb : ∀ (v110 : BitVec 32) (k0_hw8 : k0_chk8 v110), ∀ a, (k0_off16 v110) a + S1x1x512.size a ≤ S784x8x512.size a := fun v110 k0_hw8 => k0_hw8

def k0_off17 (v5 : BitVec 32) : Fin 3 → Nat :=
  let c1023_i32 : BitVec 32 := 1023#32
  let v6 : BitVec 32 := Scalar.andi v5 c1023_i32
  let v122 : Index := Scalar.indexCast v6
  let c0_64 : Index := 0#32
  let c0_65 : Index := 0#32
  ![v122.toNat, 0, 0]

def k0_chk1 (v5 : BitVec 32) : Prop :=
  (∀ a, (k0_off2 v5) a + S1x1x512.size a ≤ S784x8x512.size a) ∧
  (∀ a, (k0_off17 v5) a + S1x1x512.size a ≤ S784x8x512.size a)
theorem k0_off2_inb : ∀ (v5 : BitVec 32) (k0_hw1 : k0_chk1 v5), ∀ a, (k0_off2 v5) a + S1x1x512.size a ≤ S784x8x512.size a := fun v5 k0_hw1 => k0_hw1.1
theorem k0_off17_inb : ∀ (v5 : BitVec 32) (k0_hw1 : k0_chk1 v5), ∀ a, (k0_off17 v5) a + S1x1x512.size a ≤ S784x8x512.size a := fun v5 k0_hw1 => k0_hw1.2

def k0_off18 (v20 : BitVec 32) : Fin 3 → Nat :=
  let c1023_i32_10 : BitVec 32 := 1023#32
  let v21 : BitVec 32 := Scalar.andi v20 c1023_i32_10
  let v126 : Index := Scalar.indexCast v21
  let c1_66 : Index := 1#32
  let c0_67 : Index := 0#32
  ![v126.toNat, 1, 0]

def k0_chk2 (v20 : BitVec 32) : Prop :=
  (∀ a, (k0_off4 v20) a + S1x1x512.size a ≤ S784x8x512.size a) ∧
  (∀ a, (k0_off18 v20) a + S1x1x512.size a ≤ S784x8x512.size a)
theorem k0_off4_inb : ∀ (v20 : BitVec 32) (k0_hw2 : k0_chk2 v20), ∀ a, (k0_off4 v20) a + S1x1x512.size a ≤ S784x8x512.size a := fun v20 k0_hw2 => k0_hw2.1
theorem k0_off18_inb : ∀ (v20 : BitVec 32) (k0_hw2 : k0_chk2 v20), ∀ a, (k0_off18 v20) a + S1x1x512.size a ≤ S784x8x512.size a := fun v20 k0_hw2 => k0_hw2.2

def k0_off19 (v35 : BitVec 32) : Fin 3 → Nat :=
  let c1023_i32_18 : BitVec 32 := 1023#32
  let v36 : BitVec 32 := Scalar.andi v35 c1023_i32_18
  let v130 : Index := Scalar.indexCast v36
  let c2_68 : Index := 2#32
  let c0_69 : Index := 0#32
  ![v130.toNat, 2, 0]

def k0_chk3 (v35 : BitVec 32) : Prop :=
  (∀ a, (k0_off6 v35) a + S1x1x512.size a ≤ S784x8x512.size a) ∧
  (∀ a, (k0_off19 v35) a + S1x1x512.size a ≤ S784x8x512.size a)
theorem k0_off6_inb : ∀ (v35 : BitVec 32) (k0_hw3 : k0_chk3 v35), ∀ a, (k0_off6 v35) a + S1x1x512.size a ≤ S784x8x512.size a := fun v35 k0_hw3 => k0_hw3.1
theorem k0_off19_inb : ∀ (v35 : BitVec 32) (k0_hw3 : k0_chk3 v35), ∀ a, (k0_off19 v35) a + S1x1x512.size a ≤ S784x8x512.size a := fun v35 k0_hw3 => k0_hw3.2

def k0_off20 (v50 : BitVec 32) : Fin 3 → Nat :=
  let c1023_i32_26 : BitVec 32 := 1023#32
  let v51 : BitVec 32 := Scalar.andi v50 c1023_i32_26
  let v134 : Index := Scalar.indexCast v51
  let c3_70 : Index := 3#32
  let c0_71 : Index := 0#32
  ![v134.toNat, 3, 0]

def k0_chk4 (v50 : BitVec 32) : Prop :=
  (∀ a, (k0_off8 v50) a + S1x1x512.size a ≤ S784x8x512.size a) ∧
  (∀ a, (k0_off20 v50) a + S1x1x512.size a ≤ S784x8x512.size a)
theorem k0_off8_inb : ∀ (v50 : BitVec 32) (k0_hw4 : k0_chk4 v50), ∀ a, (k0_off8 v50) a + S1x1x512.size a ≤ S784x8x512.size a := fun v50 k0_hw4 => k0_hw4.1
theorem k0_off20_inb : ∀ (v50 : BitVec 32) (k0_hw4 : k0_chk4 v50), ∀ a, (k0_off20 v50) a + S1x1x512.size a ≤ S784x8x512.size a := fun v50 k0_hw4 => k0_hw4.2

def k0_off21 (v65 : BitVec 32) : Fin 3 → Nat :=
  let c1023_i32_34 : BitVec 32 := 1023#32
  let v66 : BitVec 32 := Scalar.andi v65 c1023_i32_34
  let v138 : Index := Scalar.indexCast v66
  let c4_72 : Index := 4#32
  let c0_73 : Index := 0#32
  ![v138.toNat, 4, 0]

def k0_chk5 (v65 : BitVec 32) : Prop :=
  (∀ a, (k0_off10 v65) a + S1x1x512.size a ≤ S784x8x512.size a) ∧
  (∀ a, (k0_off21 v65) a + S1x1x512.size a ≤ S784x8x512.size a)
theorem k0_off10_inb : ∀ (v65 : BitVec 32) (k0_hw5 : k0_chk5 v65), ∀ a, (k0_off10 v65) a + S1x1x512.size a ≤ S784x8x512.size a := fun v65 k0_hw5 => k0_hw5.1
theorem k0_off21_inb : ∀ (v65 : BitVec 32) (k0_hw5 : k0_chk5 v65), ∀ a, (k0_off21 v65) a + S1x1x512.size a ≤ S784x8x512.size a := fun v65 k0_hw5 => k0_hw5.2

def k0_off22 (v80 : BitVec 32) : Fin 3 → Nat :=
  let c1023_i32_42 : BitVec 32 := 1023#32
  let v81 : BitVec 32 := Scalar.andi v80 c1023_i32_42
  let v142 : Index := Scalar.indexCast v81
  let c5_74 : Index := 5#32
  let c0_75 : Index := 0#32
  ![v142.toNat, 5, 0]

def k0_chk6 (v80 : BitVec 32) : Prop :=
  (∀ a, (k0_off12 v80) a + S1x1x512.size a ≤ S784x8x512.size a) ∧
  (∀ a, (k0_off22 v80) a + S1x1x512.size a ≤ S784x8x512.size a)
theorem k0_off12_inb : ∀ (v80 : BitVec 32) (k0_hw6 : k0_chk6 v80), ∀ a, (k0_off12 v80) a + S1x1x512.size a ≤ S784x8x512.size a := fun v80 k0_hw6 => k0_hw6.1
theorem k0_off22_inb : ∀ (v80 : BitVec 32) (k0_hw6 : k0_chk6 v80), ∀ a, (k0_off22 v80) a + S1x1x512.size a ≤ S784x8x512.size a := fun v80 k0_hw6 => k0_hw6.2

def k0_off23 (v95 : BitVec 32) : Fin 3 → Nat :=
  let c1023_i32_50 : BitVec 32 := 1023#32
  let v96 : BitVec 32 := Scalar.andi v95 c1023_i32_50
  let v146 : Index := Scalar.indexCast v96
  let c6_76 : Index := 6#32
  let c0_77 : Index := 0#32
  ![v146.toNat, 6, 0]

def k0_chk7 (v95 : BitVec 32) : Prop :=
  (∀ a, (k0_off14 v95) a + S1x1x512.size a ≤ S784x8x512.size a) ∧
  (∀ a, (k0_off23 v95) a + S1x1x512.size a ≤ S784x8x512.size a)
theorem k0_off14_inb : ∀ (v95 : BitVec 32) (k0_hw7 : k0_chk7 v95), ∀ a, (k0_off14 v95) a + S1x1x512.size a ≤ S784x8x512.size a := fun v95 k0_hw7 => k0_hw7.1
theorem k0_off23_inb : ∀ (v95 : BitVec 32) (k0_hw7 : k0_chk7 v95), ∀ a, (k0_off23 v95) a + S1x1x512.size a ≤ S784x8x512.size a := fun v95 k0_hw7 => k0_hw7.2

def k0_off24 (i : grid0.Coords) : Fin 2 → Nat :=
  let arg0 : BitVec 32 := BitVec.ofNat 32 (i 0).val
  let c8_i32_80 : BitVec 32 := 8#32
  let v154 : BitVec 32 := Scalar.muli arg0 c8_i32_80
  let c0_i32_81 : BitVec 32 := 0#32
  let v155 : BitVec 32 := Scalar.addi v154 c0_i32_81
  let v156 : Index := Scalar.indexCast v155
  let c1_82 : Index := 1#32
  ![v156.toNat, 1]
def k0_off25 (v157 : BitVec 32) : Fin 3 → Nat :=
  let c1023_i32_83 : BitVec 32 := 1023#32
  let v158 : BitVec 32 := Scalar.andi v157 c1023_i32_83
  let v165 : Index := Scalar.indexCast v158
  let c0_88 : Index := 0#32
  let c0_89 : Index := 0#32
  ![v165.toNat, 0, 0]

def k0_off26 (i : grid0.Coords) : Fin 2 → Nat :=
  let arg0 : BitVec 32 := BitVec.ofNat 32 (i 0).val
  let c8_i32_90 : BitVec 32 := 8#32
  let v169 : BitVec 32 := Scalar.muli arg0 c8_i32_90
  let c1_i32_91 : BitVec 32 := 1#32
  let v170 : BitVec 32 := Scalar.addi v169 c1_i32_91
  let v171 : Index := Scalar.indexCast v170
  let c1_92 : Index := 1#32
  ![v171.toNat, 1]
def k0_off27 (v172 : BitVec 32) : Fin 3 → Nat :=
  let c1023_i32_93 : BitVec 32 := 1023#32
  let v173 : BitVec 32 := Scalar.andi v172 c1023_i32_93
  let v180 : Index := Scalar.indexCast v173
  let c1_98 : Index := 1#32
  let c0_99 : Index := 0#32
  ![v180.toNat, 1, 0]

def k0_off28 (i : grid0.Coords) : Fin 2 → Nat :=
  let arg0 : BitVec 32 := BitVec.ofNat 32 (i 0).val
  let c8_i32_100 : BitVec 32 := 8#32
  let v184 : BitVec 32 := Scalar.muli arg0 c8_i32_100
  let c2_i32_101 : BitVec 32 := 2#32
  let v185 : BitVec 32 := Scalar.addi v184 c2_i32_101
  let v186 : Index := Scalar.indexCast v185
  let c1_102 : Index := 1#32
  ![v186.toNat, 1]
def k0_off29 (v187 : BitVec 32) : Fin 3 → Nat :=
  let c1023_i32_103 : BitVec 32 := 1023#32
  let v188 : BitVec 32 := Scalar.andi v187 c1023_i32_103
  let v195 : Index := Scalar.indexCast v188
  let c2_108 : Index := 2#32
  let c0_109 : Index := 0#32
  ![v195.toNat, 2, 0]

def k0_off30 (i : grid0.Coords) : Fin 2 → Nat :=
  let arg0 : BitVec 32 := BitVec.ofNat 32 (i 0).val
  let c8_i32_110 : BitVec 32 := 8#32
  let v199 : BitVec 32 := Scalar.muli arg0 c8_i32_110
  let c3_i32_111 : BitVec 32 := 3#32
  let v200 : BitVec 32 := Scalar.addi v199 c3_i32_111
  let v201 : Index := Scalar.indexCast v200
  let c1_112 : Index := 1#32
  ![v201.toNat, 1]
def k0_off31 (v202 : BitVec 32) : Fin 3 → Nat :=
  let c1023_i32_113 : BitVec 32 := 1023#32
  let v203 : BitVec 32 := Scalar.andi v202 c1023_i32_113
  let v210 : Index := Scalar.indexCast v203
  let c3_118 : Index := 3#32
  let c0_119 : Index := 0#32
  ![v210.toNat, 3, 0]

def k0_off32 (i : grid0.Coords) : Fin 2 → Nat :=
  let arg0 : BitVec 32 := BitVec.ofNat 32 (i 0).val
  let c8_i32_120 : BitVec 32 := 8#32
  let v214 : BitVec 32 := Scalar.muli arg0 c8_i32_120
  let c4_i32_121 : BitVec 32 := 4#32
  let v215 : BitVec 32 := Scalar.addi v214 c4_i32_121
  let v216 : Index := Scalar.indexCast v215
  let c1_122 : Index := 1#32
  ![v216.toNat, 1]
def k0_off33 (v217 : BitVec 32) : Fin 3 → Nat :=
  let c1023_i32_123 : BitVec 32 := 1023#32
  let v218 : BitVec 32 := Scalar.andi v217 c1023_i32_123
  let v225 : Index := Scalar.indexCast v218
  let c4_128 : Index := 4#32
  let c0_129 : Index := 0#32
  ![v225.toNat, 4, 0]

def k0_off34 (i : grid0.Coords) : Fin 2 → Nat :=
  let arg0 : BitVec 32 := BitVec.ofNat 32 (i 0).val
  let c8_i32_130 : BitVec 32 := 8#32
  let v229 : BitVec 32 := Scalar.muli arg0 c8_i32_130
  let c5_i32_131 : BitVec 32 := 5#32
  let v230 : BitVec 32 := Scalar.addi v229 c5_i32_131
  let v231 : Index := Scalar.indexCast v230
  let c1_132 : Index := 1#32
  ![v231.toNat, 1]
def k0_off35 (v232 : BitVec 32) : Fin 3 → Nat :=
  let c1023_i32_133 : BitVec 32 := 1023#32
  let v233 : BitVec 32 := Scalar.andi v232 c1023_i32_133
  let v240 : Index := Scalar.indexCast v233
  let c5_138 : Index := 5#32
  let c0_139 : Index := 0#32
  ![v240.toNat, 5, 0]

def k0_off36 (i : grid0.Coords) : Fin 2 → Nat :=
  let arg0 : BitVec 32 := BitVec.ofNat 32 (i 0).val
  let c8_i32_140 : BitVec 32 := 8#32
  let v244 : BitVec 32 := Scalar.muli arg0 c8_i32_140
  let c6_i32_141 : BitVec 32 := 6#32
  let v245 : BitVec 32 := Scalar.addi v244 c6_i32_141
  let v246 : Index := Scalar.indexCast v245
  let c1_142 : Index := 1#32
  ![v246.toNat, 1]
def k0_off37 (v247 : BitVec 32) : Fin 3 → Nat :=
  let c1023_i32_143 : BitVec 32 := 1023#32
  let v248 : BitVec 32 := Scalar.andi v247 c1023_i32_143
  let v255 : Index := Scalar.indexCast v248
  let c6_148 : Index := 6#32
  let c0_149 : Index := 0#32
  ![v255.toNat, 6, 0]

def k0_off38 (i : grid0.Coords) : Fin 2 → Nat :=
  let arg0 : BitVec 32 := BitVec.ofNat 32 (i 0).val
  let c8_i32_150 : BitVec 32 := 8#32
  let v259 : BitVec 32 := Scalar.muli arg0 c8_i32_150
  let c7_i32_151 : BitVec 32 := 7#32
  let v260 : BitVec 32 := Scalar.addi v259 c7_i32_151
  let v261 : Index := Scalar.indexCast v260
  let c1_152 : Index := 1#32
  ![v261.toNat, 1]
def k0_off39 (v262 : BitVec 32) : Fin 3 → Nat :=
  let c1023_i32_153 : BitVec 32 := 1023#32
  let v263 : BitVec 32 := Scalar.andi v262 c1023_i32_153
  let v270 : Index := Scalar.indexCast v263
  let c7_158 : Index := 7#32
  let c0_159 : Index := 0#32
  ![v270.toNat, 7, 0]

def k0_chk16 (v262 : BitVec 32) : Prop :=
  (∀ a, (k0_off39 v262) a + S1x1x512.size a ≤ S784x8x512.size a)
theorem k0_off39_inb : ∀ (v262 : BitVec 32) (k0_hw16 : k0_chk16 v262), ∀ a, (k0_off39 v262) a + S1x1x512.size a ≤ S784x8x512.size a := fun v262 k0_hw16 => k0_hw16

def k0_off40 (v157 : BitVec 32) : Fin 3 → Nat :=
  let c1023_i32_83 : BitVec 32 := 1023#32
  let v158 : BitVec 32 := Scalar.andi v157 c1023_i32_83
  let v274 : Index := Scalar.indexCast v158
  let c0_160 : Index := 0#32
  let c0_161 : Index := 0#32
  ![v274.toNat, 0, 0]

def k0_chk9 (v157 : BitVec 32) : Prop :=
  (∀ a, (k0_off25 v157) a + S1x1x512.size a ≤ S784x8x512.size a) ∧
  (∀ a, (k0_off40 v157) a + S1x1x512.size a ≤ S784x8x512.size a)
theorem k0_off25_inb : ∀ (v157 : BitVec 32) (k0_hw9 : k0_chk9 v157), ∀ a, (k0_off25 v157) a + S1x1x512.size a ≤ S784x8x512.size a := fun v157 k0_hw9 => k0_hw9.1
theorem k0_off40_inb : ∀ (v157 : BitVec 32) (k0_hw9 : k0_chk9 v157), ∀ a, (k0_off40 v157) a + S1x1x512.size a ≤ S784x8x512.size a := fun v157 k0_hw9 => k0_hw9.2

def k0_off41 (v172 : BitVec 32) : Fin 3 → Nat :=
  let c1023_i32_93 : BitVec 32 := 1023#32
  let v173 : BitVec 32 := Scalar.andi v172 c1023_i32_93
  let v278 : Index := Scalar.indexCast v173
  let c1_162 : Index := 1#32
  let c0_163 : Index := 0#32
  ![v278.toNat, 1, 0]

def k0_chk10 (v172 : BitVec 32) : Prop :=
  (∀ a, (k0_off27 v172) a + S1x1x512.size a ≤ S784x8x512.size a) ∧
  (∀ a, (k0_off41 v172) a + S1x1x512.size a ≤ S784x8x512.size a)
theorem k0_off27_inb : ∀ (v172 : BitVec 32) (k0_hw10 : k0_chk10 v172), ∀ a, (k0_off27 v172) a + S1x1x512.size a ≤ S784x8x512.size a := fun v172 k0_hw10 => k0_hw10.1
theorem k0_off41_inb : ∀ (v172 : BitVec 32) (k0_hw10 : k0_chk10 v172), ∀ a, (k0_off41 v172) a + S1x1x512.size a ≤ S784x8x512.size a := fun v172 k0_hw10 => k0_hw10.2

def k0_off42 (v187 : BitVec 32) : Fin 3 → Nat :=
  let c1023_i32_103 : BitVec 32 := 1023#32
  let v188 : BitVec 32 := Scalar.andi v187 c1023_i32_103
  let v282 : Index := Scalar.indexCast v188
  let c2_164 : Index := 2#32
  let c0_165 : Index := 0#32
  ![v282.toNat, 2, 0]

def k0_chk11 (v187 : BitVec 32) : Prop :=
  (∀ a, (k0_off29 v187) a + S1x1x512.size a ≤ S784x8x512.size a) ∧
  (∀ a, (k0_off42 v187) a + S1x1x512.size a ≤ S784x8x512.size a)
theorem k0_off29_inb : ∀ (v187 : BitVec 32) (k0_hw11 : k0_chk11 v187), ∀ a, (k0_off29 v187) a + S1x1x512.size a ≤ S784x8x512.size a := fun v187 k0_hw11 => k0_hw11.1
theorem k0_off42_inb : ∀ (v187 : BitVec 32) (k0_hw11 : k0_chk11 v187), ∀ a, (k0_off42 v187) a + S1x1x512.size a ≤ S784x8x512.size a := fun v187 k0_hw11 => k0_hw11.2

def k0_off43 (v202 : BitVec 32) : Fin 3 → Nat :=
  let c1023_i32_113 : BitVec 32 := 1023#32
  let v203 : BitVec 32 := Scalar.andi v202 c1023_i32_113
  let v286 : Index := Scalar.indexCast v203
  let c3_166 : Index := 3#32
  let c0_167 : Index := 0#32
  ![v286.toNat, 3, 0]

def k0_chk12 (v202 : BitVec 32) : Prop :=
  (∀ a, (k0_off31 v202) a + S1x1x512.size a ≤ S784x8x512.size a) ∧
  (∀ a, (k0_off43 v202) a + S1x1x512.size a ≤ S784x8x512.size a)
theorem k0_off31_inb : ∀ (v202 : BitVec 32) (k0_hw12 : k0_chk12 v202), ∀ a, (k0_off31 v202) a + S1x1x512.size a ≤ S784x8x512.size a := fun v202 k0_hw12 => k0_hw12.1
theorem k0_off43_inb : ∀ (v202 : BitVec 32) (k0_hw12 : k0_chk12 v202), ∀ a, (k0_off43 v202) a + S1x1x512.size a ≤ S784x8x512.size a := fun v202 k0_hw12 => k0_hw12.2

def k0_off44 (v217 : BitVec 32) : Fin 3 → Nat :=
  let c1023_i32_123 : BitVec 32 := 1023#32
  let v218 : BitVec 32 := Scalar.andi v217 c1023_i32_123
  let v290 : Index := Scalar.indexCast v218
  let c4_168 : Index := 4#32
  let c0_169 : Index := 0#32
  ![v290.toNat, 4, 0]

def k0_chk13 (v217 : BitVec 32) : Prop :=
  (∀ a, (k0_off33 v217) a + S1x1x512.size a ≤ S784x8x512.size a) ∧
  (∀ a, (k0_off44 v217) a + S1x1x512.size a ≤ S784x8x512.size a)
theorem k0_off33_inb : ∀ (v217 : BitVec 32) (k0_hw13 : k0_chk13 v217), ∀ a, (k0_off33 v217) a + S1x1x512.size a ≤ S784x8x512.size a := fun v217 k0_hw13 => k0_hw13.1
theorem k0_off44_inb : ∀ (v217 : BitVec 32) (k0_hw13 : k0_chk13 v217), ∀ a, (k0_off44 v217) a + S1x1x512.size a ≤ S784x8x512.size a := fun v217 k0_hw13 => k0_hw13.2

def k0_off45 (v232 : BitVec 32) : Fin 3 → Nat :=
  let c1023_i32_133 : BitVec 32 := 1023#32
  let v233 : BitVec 32 := Scalar.andi v232 c1023_i32_133
  let v294 : Index := Scalar.indexCast v233
  let c5_170 : Index := 5#32
  let c0_171 : Index := 0#32
  ![v294.toNat, 5, 0]

def k0_chk14 (v232 : BitVec 32) : Prop :=
  (∀ a, (k0_off35 v232) a + S1x1x512.size a ≤ S784x8x512.size a) ∧
  (∀ a, (k0_off45 v232) a + S1x1x512.size a ≤ S784x8x512.size a)
theorem k0_off35_inb : ∀ (v232 : BitVec 32) (k0_hw14 : k0_chk14 v232), ∀ a, (k0_off35 v232) a + S1x1x512.size a ≤ S784x8x512.size a := fun v232 k0_hw14 => k0_hw14.1
theorem k0_off45_inb : ∀ (v232 : BitVec 32) (k0_hw14 : k0_chk14 v232), ∀ a, (k0_off45 v232) a + S1x1x512.size a ≤ S784x8x512.size a := fun v232 k0_hw14 => k0_hw14.2

def k0_off46 (v247 : BitVec 32) : Fin 3 → Nat :=
  let c1023_i32_143 : BitVec 32 := 1023#32
  let v248 : BitVec 32 := Scalar.andi v247 c1023_i32_143
  let v298 : Index := Scalar.indexCast v248
  let c6_172 : Index := 6#32
  let c0_173 : Index := 0#32
  ![v298.toNat, 6, 0]

def k0_chk15 (v247 : BitVec 32) : Prop :=
  (∀ a, (k0_off37 v247) a + S1x1x512.size a ≤ S784x8x512.size a) ∧
  (∀ a, (k0_off46 v247) a + S1x1x512.size a ≤ S784x8x512.size a)
theorem k0_off37_inb : ∀ (v247 : BitVec 32) (k0_hw15 : k0_chk15 v247), ∀ a, (k0_off37 v247) a + S1x1x512.size a ≤ S784x8x512.size a := fun v247 k0_hw15 => k0_hw15.1
theorem k0_off46_inb : ∀ (v247 : BitVec 32) (k0_hw15 : k0_chk15 v247), ∀ a, (k0_off46 v247) a + S1x1x512.size a ≤ S784x8x512.size a := fun v247 k0_hw15 => k0_hw15.2

def k0_off47 (i : grid0.Coords) : Fin 2 → Nat :=
  let arg0 : BitVec 32 := BitVec.ofNat 32 (i 0).val
  let c8_i32_176 : BitVec 32 := 8#32
  let v306 : BitVec 32 := Scalar.muli arg0 c8_i32_176
  let c0_i32_177 : BitVec 32 := 0#32
  let v307 : BitVec 32 := Scalar.addi v306 c0_i32_177
  let v308 : Index := Scalar.indexCast v307
  let c2_178 : Index := 2#32
  ![v308.toNat, 2]
def k0_off48 (v309 : BitVec 32) : Fin 3 → Nat :=
  let c1023_i32_179 : BitVec 32 := 1023#32
  let v310 : BitVec 32 := Scalar.andi v309 c1023_i32_179
  let v317 : Index := Scalar.indexCast v310
  let c0_184 : Index := 0#32
  let c0_185 : Index := 0#32
  ![v317.toNat, 0, 0]

def k0_off49 (i : grid0.Coords) : Fin 2 → Nat :=
  let arg0 : BitVec 32 := BitVec.ofNat 32 (i 0).val
  let c8_i32_186 : BitVec 32 := 8#32
  let v321 : BitVec 32 := Scalar.muli arg0 c8_i32_186
  let c1_i32_187 : BitVec 32 := 1#32
  let v322 : BitVec 32 := Scalar.addi v321 c1_i32_187
  let v323 : Index := Scalar.indexCast v322
  let c2_188 : Index := 2#32
  ![v323.toNat, 2]
def k0_off50 (v324 : BitVec 32) : Fin 3 → Nat :=
  let c1023_i32_189 : BitVec 32 := 1023#32
  let v325 : BitVec 32 := Scalar.andi v324 c1023_i32_189
  let v332 : Index := Scalar.indexCast v325
  let c1_194 : Index := 1#32
  let c0_195 : Index := 0#32
  ![v332.toNat, 1, 0]

def k0_off51 (i : grid0.Coords) : Fin 2 → Nat :=
  let arg0 : BitVec 32 := BitVec.ofNat 32 (i 0).val
  let c8_i32_196 : BitVec 32 := 8#32
  let v336 : BitVec 32 := Scalar.muli arg0 c8_i32_196
  let c2_i32_197 : BitVec 32 := 2#32
  let v337 : BitVec 32 := Scalar.addi v336 c2_i32_197
  let v338 : Index := Scalar.indexCast v337
  let c2_198 : Index := 2#32
  ![v338.toNat, 2]
def k0_off52 (v339 : BitVec 32) : Fin 3 → Nat :=
  let c1023_i32_199 : BitVec 32 := 1023#32
  let v340 : BitVec 32 := Scalar.andi v339 c1023_i32_199
  let v347 : Index := Scalar.indexCast v340
  let c2_204 : Index := 2#32
  let c0_205 : Index := 0#32
  ![v347.toNat, 2, 0]

def k0_off53 (i : grid0.Coords) : Fin 2 → Nat :=
  let arg0 : BitVec 32 := BitVec.ofNat 32 (i 0).val
  let c8_i32_206 : BitVec 32 := 8#32
  let v351 : BitVec 32 := Scalar.muli arg0 c8_i32_206
  let c3_i32_207 : BitVec 32 := 3#32
  let v352 : BitVec 32 := Scalar.addi v351 c3_i32_207
  let v353 : Index := Scalar.indexCast v352
  let c2_208 : Index := 2#32
  ![v353.toNat, 2]
def k0_off54 (v354 : BitVec 32) : Fin 3 → Nat :=
  let c1023_i32_209 : BitVec 32 := 1023#32
  let v355 : BitVec 32 := Scalar.andi v354 c1023_i32_209
  let v362 : Index := Scalar.indexCast v355
  let c3_214 : Index := 3#32
  let c0_215 : Index := 0#32
  ![v362.toNat, 3, 0]

def k0_off55 (i : grid0.Coords) : Fin 2 → Nat :=
  let arg0 : BitVec 32 := BitVec.ofNat 32 (i 0).val
  let c8_i32_216 : BitVec 32 := 8#32
  let v366 : BitVec 32 := Scalar.muli arg0 c8_i32_216
  let c4_i32_217 : BitVec 32 := 4#32
  let v367 : BitVec 32 := Scalar.addi v366 c4_i32_217
  let v368 : Index := Scalar.indexCast v367
  let c2_218 : Index := 2#32
  ![v368.toNat, 2]
def k0_off56 (v369 : BitVec 32) : Fin 3 → Nat :=
  let c1023_i32_219 : BitVec 32 := 1023#32
  let v370 : BitVec 32 := Scalar.andi v369 c1023_i32_219
  let v377 : Index := Scalar.indexCast v370
  let c4_224 : Index := 4#32
  let c0_225 : Index := 0#32
  ![v377.toNat, 4, 0]

def k0_off57 (i : grid0.Coords) : Fin 2 → Nat :=
  let arg0 : BitVec 32 := BitVec.ofNat 32 (i 0).val
  let c8_i32_226 : BitVec 32 := 8#32
  let v381 : BitVec 32 := Scalar.muli arg0 c8_i32_226
  let c5_i32_227 : BitVec 32 := 5#32
  let v382 : BitVec 32 := Scalar.addi v381 c5_i32_227
  let v383 : Index := Scalar.indexCast v382
  let c2_228 : Index := 2#32
  ![v383.toNat, 2]
def k0_off58 (v384 : BitVec 32) : Fin 3 → Nat :=
  let c1023_i32_229 : BitVec 32 := 1023#32
  let v385 : BitVec 32 := Scalar.andi v384 c1023_i32_229
  let v392 : Index := Scalar.indexCast v385
  let c5_234 : Index := 5#32
  let c0_235 : Index := 0#32
  ![v392.toNat, 5, 0]

def k0_off59 (i : grid0.Coords) : Fin 2 → Nat :=
  let arg0 : BitVec 32 := BitVec.ofNat 32 (i 0).val
  let c8_i32_236 : BitVec 32 := 8#32
  let v396 : BitVec 32 := Scalar.muli arg0 c8_i32_236
  let c6_i32_237 : BitVec 32 := 6#32
  let v397 : BitVec 32 := Scalar.addi v396 c6_i32_237
  let v398 : Index := Scalar.indexCast v397
  let c2_238 : Index := 2#32
  ![v398.toNat, 2]
def k0_off60 (v399 : BitVec 32) : Fin 3 → Nat :=
  let c1023_i32_239 : BitVec 32 := 1023#32
  let v400 : BitVec 32 := Scalar.andi v399 c1023_i32_239
  let v407 : Index := Scalar.indexCast v400
  let c6_244 : Index := 6#32
  let c0_245 : Index := 0#32
  ![v407.toNat, 6, 0]

def k0_off61 (i : grid0.Coords) : Fin 2 → Nat :=
  let arg0 : BitVec 32 := BitVec.ofNat 32 (i 0).val
  let c8_i32_246 : BitVec 32 := 8#32
  let v411 : BitVec 32 := Scalar.muli arg0 c8_i32_246
  let c7_i32_247 : BitVec 32 := 7#32
  let v412 : BitVec 32 := Scalar.addi v411 c7_i32_247
  let v413 : Index := Scalar.indexCast v412
  let c2_248 : Index := 2#32
  ![v413.toNat, 2]
def k0_off62 (v414 : BitVec 32) : Fin 3 → Nat :=
  let c1023_i32_249 : BitVec 32 := 1023#32
  let v415 : BitVec 32 := Scalar.andi v414 c1023_i32_249
  let v422 : Index := Scalar.indexCast v415
  let c7_254 : Index := 7#32
  let c0_255 : Index := 0#32
  ![v422.toNat, 7, 0]

def k0_chk24 (v414 : BitVec 32) : Prop :=
  (∀ a, (k0_off62 v414) a + S1x1x512.size a ≤ S784x8x512.size a)
theorem k0_off62_inb : ∀ (v414 : BitVec 32) (k0_hw24 : k0_chk24 v414), ∀ a, (k0_off62 v414) a + S1x1x512.size a ≤ S784x8x512.size a := fun v414 k0_hw24 => k0_hw24

def k0_off63 (v309 : BitVec 32) : Fin 3 → Nat :=
  let c1023_i32_179 : BitVec 32 := 1023#32
  let v310 : BitVec 32 := Scalar.andi v309 c1023_i32_179
  let v426 : Index := Scalar.indexCast v310
  let c0_256 : Index := 0#32
  let c0_257 : Index := 0#32
  ![v426.toNat, 0, 0]

def k0_chk17 (v309 : BitVec 32) : Prop :=
  (∀ a, (k0_off48 v309) a + S1x1x512.size a ≤ S784x8x512.size a) ∧
  (∀ a, (k0_off63 v309) a + S1x1x512.size a ≤ S784x8x512.size a)
theorem k0_off48_inb : ∀ (v309 : BitVec 32) (k0_hw17 : k0_chk17 v309), ∀ a, (k0_off48 v309) a + S1x1x512.size a ≤ S784x8x512.size a := fun v309 k0_hw17 => k0_hw17.1
theorem k0_off63_inb : ∀ (v309 : BitVec 32) (k0_hw17 : k0_chk17 v309), ∀ a, (k0_off63 v309) a + S1x1x512.size a ≤ S784x8x512.size a := fun v309 k0_hw17 => k0_hw17.2

def k0_off64 (v324 : BitVec 32) : Fin 3 → Nat :=
  let c1023_i32_189 : BitVec 32 := 1023#32
  let v325 : BitVec 32 := Scalar.andi v324 c1023_i32_189
  let v430 : Index := Scalar.indexCast v325
  let c1_258 : Index := 1#32
  let c0_259 : Index := 0#32
  ![v430.toNat, 1, 0]

def k0_chk18 (v324 : BitVec 32) : Prop :=
  (∀ a, (k0_off50 v324) a + S1x1x512.size a ≤ S784x8x512.size a) ∧
  (∀ a, (k0_off64 v324) a + S1x1x512.size a ≤ S784x8x512.size a)
theorem k0_off50_inb : ∀ (v324 : BitVec 32) (k0_hw18 : k0_chk18 v324), ∀ a, (k0_off50 v324) a + S1x1x512.size a ≤ S784x8x512.size a := fun v324 k0_hw18 => k0_hw18.1
theorem k0_off64_inb : ∀ (v324 : BitVec 32) (k0_hw18 : k0_chk18 v324), ∀ a, (k0_off64 v324) a + S1x1x512.size a ≤ S784x8x512.size a := fun v324 k0_hw18 => k0_hw18.2

def k0_off65 (v339 : BitVec 32) : Fin 3 → Nat :=
  let c1023_i32_199 : BitVec 32 := 1023#32
  let v340 : BitVec 32 := Scalar.andi v339 c1023_i32_199
  let v434 : Index := Scalar.indexCast v340
  let c2_260 : Index := 2#32
  let c0_261 : Index := 0#32
  ![v434.toNat, 2, 0]

def k0_chk19 (v339 : BitVec 32) : Prop :=
  (∀ a, (k0_off52 v339) a + S1x1x512.size a ≤ S784x8x512.size a) ∧
  (∀ a, (k0_off65 v339) a + S1x1x512.size a ≤ S784x8x512.size a)
theorem k0_off52_inb : ∀ (v339 : BitVec 32) (k0_hw19 : k0_chk19 v339), ∀ a, (k0_off52 v339) a + S1x1x512.size a ≤ S784x8x512.size a := fun v339 k0_hw19 => k0_hw19.1
theorem k0_off65_inb : ∀ (v339 : BitVec 32) (k0_hw19 : k0_chk19 v339), ∀ a, (k0_off65 v339) a + S1x1x512.size a ≤ S784x8x512.size a := fun v339 k0_hw19 => k0_hw19.2

def k0_off66 (v354 : BitVec 32) : Fin 3 → Nat :=
  let c1023_i32_209 : BitVec 32 := 1023#32
  let v355 : BitVec 32 := Scalar.andi v354 c1023_i32_209
  let v438 : Index := Scalar.indexCast v355
  let c3_262 : Index := 3#32
  let c0_263 : Index := 0#32
  ![v438.toNat, 3, 0]

def k0_chk20 (v354 : BitVec 32) : Prop :=
  (∀ a, (k0_off54 v354) a + S1x1x512.size a ≤ S784x8x512.size a) ∧
  (∀ a, (k0_off66 v354) a + S1x1x512.size a ≤ S784x8x512.size a)
theorem k0_off54_inb : ∀ (v354 : BitVec 32) (k0_hw20 : k0_chk20 v354), ∀ a, (k0_off54 v354) a + S1x1x512.size a ≤ S784x8x512.size a := fun v354 k0_hw20 => k0_hw20.1
theorem k0_off66_inb : ∀ (v354 : BitVec 32) (k0_hw20 : k0_chk20 v354), ∀ a, (k0_off66 v354) a + S1x1x512.size a ≤ S784x8x512.size a := fun v354 k0_hw20 => k0_hw20.2

def k0_off67 (v369 : BitVec 32) : Fin 3 → Nat :=
  let c1023_i32_219 : BitVec 32 := 1023#32
  let v370 : BitVec 32 := Scalar.andi v369 c1023_i32_219
  let v442 : Index := Scalar.indexCast v370
  let c4_264 : Index := 4#32
  let c0_265 : Index := 0#32
  ![v442.toNat, 4, 0]

def k0_chk21 (v369 : BitVec 32) : Prop :=
  (∀ a, (k0_off56 v369) a + S1x1x512.size a ≤ S784x8x512.size a) ∧
  (∀ a, (k0_off67 v369) a + S1x1x512.size a ≤ S784x8x512.size a)
theorem k0_off56_inb : ∀ (v369 : BitVec 32) (k0_hw21 : k0_chk21 v369), ∀ a, (k0_off56 v369) a + S1x1x512.size a ≤ S784x8x512.size a := fun v369 k0_hw21 => k0_hw21.1
theorem k0_off67_inb : ∀ (v369 : BitVec 32) (k0_hw21 : k0_chk21 v369), ∀ a, (k0_off67 v369) a + S1x1x512.size a ≤ S784x8x512.size a := fun v369 k0_hw21 => k0_hw21.2

def k0_off68 (v384 : BitVec 32) : Fin 3 → Nat :=
  let c1023_i32_229 : BitVec 32 := 1023#32
  let v385 : BitVec 32 := Scalar.andi v384 c1023_i32_229
  let v446 : Index := Scalar.indexCast v385
  let c5_266 : Index := 5#32
  let c0_267 : Index := 0#32
  ![v446.toNat, 5, 0]

def k0_chk22 (v384 : BitVec 32) : Prop :=
  (∀ a, (k0_off58 v384) a + S1x1x512.size a ≤ S784x8x512.size a) ∧
  (∀ a, (k0_off68 v384) a + S1x1x512.size a ≤ S784x8x512.size a)
theorem k0_off58_inb : ∀ (v384 : BitVec 32) (k0_hw22 : k0_chk22 v384), ∀ a, (k0_off58 v384) a + S1x1x512.size a ≤ S784x8x512.size a := fun v384 k0_hw22 => k0_hw22.1
theorem k0_off68_inb : ∀ (v384 : BitVec 32) (k0_hw22 : k0_chk22 v384), ∀ a, (k0_off68 v384) a + S1x1x512.size a ≤ S784x8x512.size a := fun v384 k0_hw22 => k0_hw22.2

def k0_off69 (v399 : BitVec 32) : Fin 3 → Nat :=
  let c1023_i32_239 : BitVec 32 := 1023#32
  let v400 : BitVec 32 := Scalar.andi v399 c1023_i32_239
  let v450 : Index := Scalar.indexCast v400
  let c6_268 : Index := 6#32
  let c0_269 : Index := 0#32
  ![v450.toNat, 6, 0]

def k0_chk23 (v399 : BitVec 32) : Prop :=
  (∀ a, (k0_off60 v399) a + S1x1x512.size a ≤ S784x8x512.size a) ∧
  (∀ a, (k0_off69 v399) a + S1x1x512.size a ≤ S784x8x512.size a)
theorem k0_off60_inb : ∀ (v399 : BitVec 32) (k0_hw23 : k0_chk23 v399), ∀ a, (k0_off60 v399) a + S1x1x512.size a ≤ S784x8x512.size a := fun v399 k0_hw23 => k0_hw23.1
theorem k0_off69_inb : ∀ (v399 : BitVec 32) (k0_hw23 : k0_chk23 v399), ∀ a, (k0_off69 v399) a + S1x1x512.size a ≤ S784x8x512.size a := fun v399 k0_hw23 => k0_hw23.2

def k0_off70 (i : grid0.Coords) : Fin 2 → Nat :=
  let arg0 : BitVec 32 := BitVec.ofNat 32 (i 0).val
  let c8_i32_272 : BitVec 32 := 8#32
  let v458 : BitVec 32 := Scalar.muli arg0 c8_i32_272
  let c0_i32_273 : BitVec 32 := 0#32
  let v459 : BitVec 32 := Scalar.addi v458 c0_i32_273
  let v460 : Index := Scalar.indexCast v459
  let c3_274 : Index := 3#32
  ![v460.toNat, 3]
def k0_off71 (v461 : BitVec 32) : Fin 3 → Nat :=
  let c1023_i32_275 : BitVec 32 := 1023#32
  let v462 : BitVec 32 := Scalar.andi v461 c1023_i32_275
  let v469 : Index := Scalar.indexCast v462
  let c0_280 : Index := 0#32
  let c0_281 : Index := 0#32
  ![v469.toNat, 0, 0]

def k0_off72 (i : grid0.Coords) : Fin 2 → Nat :=
  let arg0 : BitVec 32 := BitVec.ofNat 32 (i 0).val
  let c8_i32_282 : BitVec 32 := 8#32
  let v473 : BitVec 32 := Scalar.muli arg0 c8_i32_282
  let c1_i32_283 : BitVec 32 := 1#32
  let v474 : BitVec 32 := Scalar.addi v473 c1_i32_283
  let v475 : Index := Scalar.indexCast v474
  let c3_284 : Index := 3#32
  ![v475.toNat, 3]
def k0_off73 (v476 : BitVec 32) : Fin 3 → Nat :=
  let c1023_i32_285 : BitVec 32 := 1023#32
  let v477 : BitVec 32 := Scalar.andi v476 c1023_i32_285
  let v484 : Index := Scalar.indexCast v477
  let c1_290 : Index := 1#32
  let c0_291 : Index := 0#32
  ![v484.toNat, 1, 0]

def k0_off74 (i : grid0.Coords) : Fin 2 → Nat :=
  let arg0 : BitVec 32 := BitVec.ofNat 32 (i 0).val
  let c8_i32_292 : BitVec 32 := 8#32
  let v488 : BitVec 32 := Scalar.muli arg0 c8_i32_292
  let c2_i32_293 : BitVec 32 := 2#32
  let v489 : BitVec 32 := Scalar.addi v488 c2_i32_293
  let v490 : Index := Scalar.indexCast v489
  let c3_294 : Index := 3#32
  ![v490.toNat, 3]
def k0_off75 (v491 : BitVec 32) : Fin 3 → Nat :=
  let c1023_i32_295 : BitVec 32 := 1023#32
  let v492 : BitVec 32 := Scalar.andi v491 c1023_i32_295
  let v499 : Index := Scalar.indexCast v492
  let c2_300 : Index := 2#32
  let c0_301 : Index := 0#32
  ![v499.toNat, 2, 0]

def k0_off76 (i : grid0.Coords) : Fin 2 → Nat :=
  let arg0 : BitVec 32 := BitVec.ofNat 32 (i 0).val
  let c8_i32_302 : BitVec 32 := 8#32
  let v503 : BitVec 32 := Scalar.muli arg0 c8_i32_302
  let c3_i32_303 : BitVec 32 := 3#32
  let v504 : BitVec 32 := Scalar.addi v503 c3_i32_303
  let v505 : Index := Scalar.indexCast v504
  let c3_304 : Index := 3#32
  ![v505.toNat, 3]
def k0_off77 (v506 : BitVec 32) : Fin 3 → Nat :=
  let c1023_i32_305 : BitVec 32 := 1023#32
  let v507 : BitVec 32 := Scalar.andi v506 c1023_i32_305
  let v514 : Index := Scalar.indexCast v507
  let c3_310 : Index := 3#32
  let c0_311 : Index := 0#32
  ![v514.toNat, 3, 0]

def k0_off78 (i : grid0.Coords) : Fin 2 → Nat :=
  let arg0 : BitVec 32 := BitVec.ofNat 32 (i 0).val
  let c8_i32_312 : BitVec 32 := 8#32
  let v518 : BitVec 32 := Scalar.muli arg0 c8_i32_312
  let c4_i32_313 : BitVec 32 := 4#32
  let v519 : BitVec 32 := Scalar.addi v518 c4_i32_313
  let v520 : Index := Scalar.indexCast v519
  let c3_314 : Index := 3#32
  ![v520.toNat, 3]
def k0_off79 (v521 : BitVec 32) : Fin 3 → Nat :=
  let c1023_i32_315 : BitVec 32 := 1023#32
  let v522 : BitVec 32 := Scalar.andi v521 c1023_i32_315
  let v529 : Index := Scalar.indexCast v522
  let c4_320 : Index := 4#32
  let c0_321 : Index := 0#32
  ![v529.toNat, 4, 0]

def k0_off80 (i : grid0.Coords) : Fin 2 → Nat :=
  let arg0 : BitVec 32 := BitVec.ofNat 32 (i 0).val
  let c8_i32_322 : BitVec 32 := 8#32
  let v533 : BitVec 32 := Scalar.muli arg0 c8_i32_322
  let c5_i32_323 : BitVec 32 := 5#32
  let v534 : BitVec 32 := Scalar.addi v533 c5_i32_323
  let v535 : Index := Scalar.indexCast v534
  let c3_324 : Index := 3#32
  ![v535.toNat, 3]
def k0_off81 (v536 : BitVec 32) : Fin 3 → Nat :=
  let c1023_i32_325 : BitVec 32 := 1023#32
  let v537 : BitVec 32 := Scalar.andi v536 c1023_i32_325
  let v544 : Index := Scalar.indexCast v537
  let c5_330 : Index := 5#32
  let c0_331 : Index := 0#32
  ![v544.toNat, 5, 0]

def k0_off82 (i : grid0.Coords) : Fin 2 → Nat :=
  let arg0 : BitVec 32 := BitVec.ofNat 32 (i 0).val
  let c8_i32_332 : BitVec 32 := 8#32
  let v548 : BitVec 32 := Scalar.muli arg0 c8_i32_332
  let c6_i32_333 : BitVec 32 := 6#32
  let v549 : BitVec 32 := Scalar.addi v548 c6_i32_333
  let v550 : Index := Scalar.indexCast v549
  let c3_334 : Index := 3#32
  ![v550.toNat, 3]
def k0_off83 (v551 : BitVec 32) : Fin 3 → Nat :=
  let c1023_i32_335 : BitVec 32 := 1023#32
  let v552 : BitVec 32 := Scalar.andi v551 c1023_i32_335
  let v559 : Index := Scalar.indexCast v552
  let c6_340 : Index := 6#32
  let c0_341 : Index := 0#32
  ![v559.toNat, 6, 0]

def k0_off84 (i : grid0.Coords) : Fin 2 → Nat :=
  let arg0 : BitVec 32 := BitVec.ofNat 32 (i 0).val
  let c8_i32_342 : BitVec 32 := 8#32
  let v563 : BitVec 32 := Scalar.muli arg0 c8_i32_342
  let c7_i32_343 : BitVec 32 := 7#32
  let v564 : BitVec 32 := Scalar.addi v563 c7_i32_343
  let v565 : Index := Scalar.indexCast v564
  let c3_344 : Index := 3#32
  ![v565.toNat, 3]
def k0_off85 (v566 : BitVec 32) : Fin 3 → Nat :=
  let c1023_i32_345 : BitVec 32 := 1023#32
  let v567 : BitVec 32 := Scalar.andi v566 c1023_i32_345
  let v574 : Index := Scalar.indexCast v567
  let c7_350 : Index := 7#32
  let c0_351 : Index := 0#32
  ![v574.toNat, 7, 0]

def k0_chk32 (v566 : BitVec 32) : Prop :=
  (∀ a, (k0_off85 v566) a + S1x1x512.size a ≤ S784x8x512.size a)
theorem k0_off85_inb : ∀ (v566 : BitVec 32) (k0_hw32 : k0_chk32 v566), ∀ a, (k0_off85 v566) a + S1x1x512.size a ≤ S784x8x512.size a := fun v566 k0_hw32 => k0_hw32

def k0_off86 (v461 : BitVec 32) : Fin 3 → Nat :=
  let c1023_i32_275 : BitVec 32 := 1023#32
  let v462 : BitVec 32 := Scalar.andi v461 c1023_i32_275
  let v578 : Index := Scalar.indexCast v462
  let c0_352 : Index := 0#32
  let c0_353 : Index := 0#32
  ![v578.toNat, 0, 0]

def k0_chk25 (v461 : BitVec 32) : Prop :=
  (∀ a, (k0_off71 v461) a + S1x1x512.size a ≤ S784x8x512.size a) ∧
  (∀ a, (k0_off86 v461) a + S1x1x512.size a ≤ S784x8x512.size a)
theorem k0_off71_inb : ∀ (v461 : BitVec 32) (k0_hw25 : k0_chk25 v461), ∀ a, (k0_off71 v461) a + S1x1x512.size a ≤ S784x8x512.size a := fun v461 k0_hw25 => k0_hw25.1
theorem k0_off86_inb : ∀ (v461 : BitVec 32) (k0_hw25 : k0_chk25 v461), ∀ a, (k0_off86 v461) a + S1x1x512.size a ≤ S784x8x512.size a := fun v461 k0_hw25 => k0_hw25.2

def k0_off87 (v476 : BitVec 32) : Fin 3 → Nat :=
  let c1023_i32_285 : BitVec 32 := 1023#32
  let v477 : BitVec 32 := Scalar.andi v476 c1023_i32_285
  let v582 : Index := Scalar.indexCast v477
  let c1_354 : Index := 1#32
  let c0_355 : Index := 0#32
  ![v582.toNat, 1, 0]

def k0_chk26 (v476 : BitVec 32) : Prop :=
  (∀ a, (k0_off73 v476) a + S1x1x512.size a ≤ S784x8x512.size a) ∧
  (∀ a, (k0_off87 v476) a + S1x1x512.size a ≤ S784x8x512.size a)
theorem k0_off73_inb : ∀ (v476 : BitVec 32) (k0_hw26 : k0_chk26 v476), ∀ a, (k0_off73 v476) a + S1x1x512.size a ≤ S784x8x512.size a := fun v476 k0_hw26 => k0_hw26.1
theorem k0_off87_inb : ∀ (v476 : BitVec 32) (k0_hw26 : k0_chk26 v476), ∀ a, (k0_off87 v476) a + S1x1x512.size a ≤ S784x8x512.size a := fun v476 k0_hw26 => k0_hw26.2

def k0_off88 (v491 : BitVec 32) : Fin 3 → Nat :=
  let c1023_i32_295 : BitVec 32 := 1023#32
  let v492 : BitVec 32 := Scalar.andi v491 c1023_i32_295
  let v586 : Index := Scalar.indexCast v492
  let c2_356 : Index := 2#32
  let c0_357 : Index := 0#32
  ![v586.toNat, 2, 0]

def k0_chk27 (v491 : BitVec 32) : Prop :=
  (∀ a, (k0_off75 v491) a + S1x1x512.size a ≤ S784x8x512.size a) ∧
  (∀ a, (k0_off88 v491) a + S1x1x512.size a ≤ S784x8x512.size a)
theorem k0_off75_inb : ∀ (v491 : BitVec 32) (k0_hw27 : k0_chk27 v491), ∀ a, (k0_off75 v491) a + S1x1x512.size a ≤ S784x8x512.size a := fun v491 k0_hw27 => k0_hw27.1
theorem k0_off88_inb : ∀ (v491 : BitVec 32) (k0_hw27 : k0_chk27 v491), ∀ a, (k0_off88 v491) a + S1x1x512.size a ≤ S784x8x512.size a := fun v491 k0_hw27 => k0_hw27.2

def k0_off89 (v506 : BitVec 32) : Fin 3 → Nat :=
  let c1023_i32_305 : BitVec 32 := 1023#32
  let v507 : BitVec 32 := Scalar.andi v506 c1023_i32_305
  let v590 : Index := Scalar.indexCast v507
  let c3_358 : Index := 3#32
  let c0_359 : Index := 0#32
  ![v590.toNat, 3, 0]

def k0_chk28 (v506 : BitVec 32) : Prop :=
  (∀ a, (k0_off77 v506) a + S1x1x512.size a ≤ S784x8x512.size a) ∧
  (∀ a, (k0_off89 v506) a + S1x1x512.size a ≤ S784x8x512.size a)
theorem k0_off77_inb : ∀ (v506 : BitVec 32) (k0_hw28 : k0_chk28 v506), ∀ a, (k0_off77 v506) a + S1x1x512.size a ≤ S784x8x512.size a := fun v506 k0_hw28 => k0_hw28.1
theorem k0_off89_inb : ∀ (v506 : BitVec 32) (k0_hw28 : k0_chk28 v506), ∀ a, (k0_off89 v506) a + S1x1x512.size a ≤ S784x8x512.size a := fun v506 k0_hw28 => k0_hw28.2

def k0_off90 (v521 : BitVec 32) : Fin 3 → Nat :=
  let c1023_i32_315 : BitVec 32 := 1023#32
  let v522 : BitVec 32 := Scalar.andi v521 c1023_i32_315
  let v594 : Index := Scalar.indexCast v522
  let c4_360 : Index := 4#32
  let c0_361 : Index := 0#32
  ![v594.toNat, 4, 0]

def k0_chk29 (v521 : BitVec 32) : Prop :=
  (∀ a, (k0_off79 v521) a + S1x1x512.size a ≤ S784x8x512.size a) ∧
  (∀ a, (k0_off90 v521) a + S1x1x512.size a ≤ S784x8x512.size a)
theorem k0_off79_inb : ∀ (v521 : BitVec 32) (k0_hw29 : k0_chk29 v521), ∀ a, (k0_off79 v521) a + S1x1x512.size a ≤ S784x8x512.size a := fun v521 k0_hw29 => k0_hw29.1
theorem k0_off90_inb : ∀ (v521 : BitVec 32) (k0_hw29 : k0_chk29 v521), ∀ a, (k0_off90 v521) a + S1x1x512.size a ≤ S784x8x512.size a := fun v521 k0_hw29 => k0_hw29.2

def k0_off91 (v536 : BitVec 32) : Fin 3 → Nat :=
  let c1023_i32_325 : BitVec 32 := 1023#32
  let v537 : BitVec 32 := Scalar.andi v536 c1023_i32_325
  let v598 : Index := Scalar.indexCast v537
  let c5_362 : Index := 5#32
  let c0_363 : Index := 0#32
  ![v598.toNat, 5, 0]

def k0_chk30 (v536 : BitVec 32) : Prop :=
  (∀ a, (k0_off81 v536) a + S1x1x512.size a ≤ S784x8x512.size a) ∧
  (∀ a, (k0_off91 v536) a + S1x1x512.size a ≤ S784x8x512.size a)
theorem k0_off81_inb : ∀ (v536 : BitVec 32) (k0_hw30 : k0_chk30 v536), ∀ a, (k0_off81 v536) a + S1x1x512.size a ≤ S784x8x512.size a := fun v536 k0_hw30 => k0_hw30.1
theorem k0_off91_inb : ∀ (v536 : BitVec 32) (k0_hw30 : k0_chk30 v536), ∀ a, (k0_off91 v536) a + S1x1x512.size a ≤ S784x8x512.size a := fun v536 k0_hw30 => k0_hw30.2

def k0_off92 (v551 : BitVec 32) : Fin 3 → Nat :=
  let c1023_i32_335 : BitVec 32 := 1023#32
  let v552 : BitVec 32 := Scalar.andi v551 c1023_i32_335
  let v602 : Index := Scalar.indexCast v552
  let c6_364 : Index := 6#32
  let c0_365 : Index := 0#32
  ![v602.toNat, 6, 0]

def k0_chk31 (v551 : BitVec 32) : Prop :=
  (∀ a, (k0_off83 v551) a + S1x1x512.size a ≤ S784x8x512.size a) ∧
  (∀ a, (k0_off92 v551) a + S1x1x512.size a ≤ S784x8x512.size a)
theorem k0_off83_inb : ∀ (v551 : BitVec 32) (k0_hw31 : k0_chk31 v551), ∀ a, (k0_off83 v551) a + S1x1x512.size a ≤ S784x8x512.size a := fun v551 k0_hw31 => k0_hw31.1
theorem k0_off92_inb : ∀ (v551 : BitVec 32) (k0_hw31 : k0_chk31 v551), ∀ a, (k0_off92 v551) a + S1x1x512.size a ≤ S784x8x512.size a := fun v551 k0_hw31 => k0_hw31.2

def k0_off93 (i : grid0.Coords) : Fin 2 → Nat :=
  let arg0 : BitVec 32 := BitVec.ofNat 32 (i 0).val
  let c8_i32_368 : BitVec 32 := 8#32
  let v610 : BitVec 32 := Scalar.muli arg0 c8_i32_368
  let c0_i32_369 : BitVec 32 := 0#32
  let v611 : BitVec 32 := Scalar.addi v610 c0_i32_369
  let v612 : Index := Scalar.indexCast v611
  let c4_370 : Index := 4#32
  ![v612.toNat, 4]
def k0_off94 (v613 : BitVec 32) : Fin 3 → Nat :=
  let c1023_i32_371 : BitVec 32 := 1023#32
  let v614 : BitVec 32 := Scalar.andi v613 c1023_i32_371
  let v621 : Index := Scalar.indexCast v614
  let c0_376 : Index := 0#32
  let c0_377 : Index := 0#32
  ![v621.toNat, 0, 0]

def k0_off95 (i : grid0.Coords) : Fin 2 → Nat :=
  let arg0 : BitVec 32 := BitVec.ofNat 32 (i 0).val
  let c8_i32_378 : BitVec 32 := 8#32
  let v625 : BitVec 32 := Scalar.muli arg0 c8_i32_378
  let c1_i32_379 : BitVec 32 := 1#32
  let v626 : BitVec 32 := Scalar.addi v625 c1_i32_379
  let v627 : Index := Scalar.indexCast v626
  let c4_380 : Index := 4#32
  ![v627.toNat, 4]
def k0_off96 (v628 : BitVec 32) : Fin 3 → Nat :=
  let c1023_i32_381 : BitVec 32 := 1023#32
  let v629 : BitVec 32 := Scalar.andi v628 c1023_i32_381
  let v636 : Index := Scalar.indexCast v629
  let c1_386 : Index := 1#32
  let c0_387 : Index := 0#32
  ![v636.toNat, 1, 0]

def k0_off97 (i : grid0.Coords) : Fin 2 → Nat :=
  let arg0 : BitVec 32 := BitVec.ofNat 32 (i 0).val
  let c8_i32_388 : BitVec 32 := 8#32
  let v640 : BitVec 32 := Scalar.muli arg0 c8_i32_388
  let c2_i32_389 : BitVec 32 := 2#32
  let v641 : BitVec 32 := Scalar.addi v640 c2_i32_389
  let v642 : Index := Scalar.indexCast v641
  let c4_390 : Index := 4#32
  ![v642.toNat, 4]
def k0_off98 (v643 : BitVec 32) : Fin 3 → Nat :=
  let c1023_i32_391 : BitVec 32 := 1023#32
  let v644 : BitVec 32 := Scalar.andi v643 c1023_i32_391
  let v651 : Index := Scalar.indexCast v644
  let c2_396 : Index := 2#32
  let c0_397 : Index := 0#32
  ![v651.toNat, 2, 0]

def k0_off99 (i : grid0.Coords) : Fin 2 → Nat :=
  let arg0 : BitVec 32 := BitVec.ofNat 32 (i 0).val
  let c8_i32_398 : BitVec 32 := 8#32
  let v655 : BitVec 32 := Scalar.muli arg0 c8_i32_398
  let c3_i32_399 : BitVec 32 := 3#32
  let v656 : BitVec 32 := Scalar.addi v655 c3_i32_399
  let v657 : Index := Scalar.indexCast v656
  let c4_400 : Index := 4#32
  ![v657.toNat, 4]
def k0_off100 (v658 : BitVec 32) : Fin 3 → Nat :=
  let c1023_i32_401 : BitVec 32 := 1023#32
  let v659 : BitVec 32 := Scalar.andi v658 c1023_i32_401
  let v666 : Index := Scalar.indexCast v659
  let c3_406 : Index := 3#32
  let c0_407 : Index := 0#32
  ![v666.toNat, 3, 0]

def k0_off101 (i : grid0.Coords) : Fin 2 → Nat :=
  let arg0 : BitVec 32 := BitVec.ofNat 32 (i 0).val
  let c8_i32_408 : BitVec 32 := 8#32
  let v670 : BitVec 32 := Scalar.muli arg0 c8_i32_408
  let c4_i32_409 : BitVec 32 := 4#32
  let v671 : BitVec 32 := Scalar.addi v670 c4_i32_409
  let v672 : Index := Scalar.indexCast v671
  let c4_410 : Index := 4#32
  ![v672.toNat, 4]
def k0_off102 (v673 : BitVec 32) : Fin 3 → Nat :=
  let c1023_i32_411 : BitVec 32 := 1023#32
  let v674 : BitVec 32 := Scalar.andi v673 c1023_i32_411
  let v681 : Index := Scalar.indexCast v674
  let c4_416 : Index := 4#32
  let c0_417 : Index := 0#32
  ![v681.toNat, 4, 0]

def k0_off103 (i : grid0.Coords) : Fin 2 → Nat :=
  let arg0 : BitVec 32 := BitVec.ofNat 32 (i 0).val
  let c8_i32_418 : BitVec 32 := 8#32
  let v685 : BitVec 32 := Scalar.muli arg0 c8_i32_418
  let c5_i32_419 : BitVec 32 := 5#32
  let v686 : BitVec 32 := Scalar.addi v685 c5_i32_419
  let v687 : Index := Scalar.indexCast v686
  let c4_420 : Index := 4#32
  ![v687.toNat, 4]
def k0_off104 (v688 : BitVec 32) : Fin 3 → Nat :=
  let c1023_i32_421 : BitVec 32 := 1023#32
  let v689 : BitVec 32 := Scalar.andi v688 c1023_i32_421
  let v696 : Index := Scalar.indexCast v689
  let c5_426 : Index := 5#32
  let c0_427 : Index := 0#32
  ![v696.toNat, 5, 0]

def k0_off105 (i : grid0.Coords) : Fin 2 → Nat :=
  let arg0 : BitVec 32 := BitVec.ofNat 32 (i 0).val
  let c8_i32_428 : BitVec 32 := 8#32
  let v700 : BitVec 32 := Scalar.muli arg0 c8_i32_428
  let c6_i32_429 : BitVec 32 := 6#32
  let v701 : BitVec 32 := Scalar.addi v700 c6_i32_429
  let v702 : Index := Scalar.indexCast v701
  let c4_430 : Index := 4#32
  ![v702.toNat, 4]
def k0_off106 (v703 : BitVec 32) : Fin 3 → Nat :=
  let c1023_i32_431 : BitVec 32 := 1023#32
  let v704 : BitVec 32 := Scalar.andi v703 c1023_i32_431
  let v711 : Index := Scalar.indexCast v704
  let c6_436 : Index := 6#32
  let c0_437 : Index := 0#32
  ![v711.toNat, 6, 0]

def k0_off107 (i : grid0.Coords) : Fin 2 → Nat :=
  let arg0 : BitVec 32 := BitVec.ofNat 32 (i 0).val
  let c8_i32_438 : BitVec 32 := 8#32
  let v715 : BitVec 32 := Scalar.muli arg0 c8_i32_438
  let c7_i32_439 : BitVec 32 := 7#32
  let v716 : BitVec 32 := Scalar.addi v715 c7_i32_439
  let v717 : Index := Scalar.indexCast v716
  let c4_440 : Index := 4#32
  ![v717.toNat, 4]
def k0_off108 (v718 : BitVec 32) : Fin 3 → Nat :=
  let c1023_i32_441 : BitVec 32 := 1023#32
  let v719 : BitVec 32 := Scalar.andi v718 c1023_i32_441
  let v726 : Index := Scalar.indexCast v719
  let c7_446 : Index := 7#32
  let c0_447 : Index := 0#32
  ![v726.toNat, 7, 0]

def k0_chk40 (v718 : BitVec 32) : Prop :=
  (∀ a, (k0_off108 v718) a + S1x1x512.size a ≤ S784x8x512.size a)
theorem k0_off108_inb : ∀ (v718 : BitVec 32) (k0_hw40 : k0_chk40 v718), ∀ a, (k0_off108 v718) a + S1x1x512.size a ≤ S784x8x512.size a := fun v718 k0_hw40 => k0_hw40

def k0_off109 (v613 : BitVec 32) : Fin 3 → Nat :=
  let c1023_i32_371 : BitVec 32 := 1023#32
  let v614 : BitVec 32 := Scalar.andi v613 c1023_i32_371
  let v730 : Index := Scalar.indexCast v614
  let c0_448 : Index := 0#32
  let c0_449 : Index := 0#32
  ![v730.toNat, 0, 0]

def k0_chk33 (v613 : BitVec 32) : Prop :=
  (∀ a, (k0_off94 v613) a + S1x1x512.size a ≤ S784x8x512.size a) ∧
  (∀ a, (k0_off109 v613) a + S1x1x512.size a ≤ S784x8x512.size a)
theorem k0_off94_inb : ∀ (v613 : BitVec 32) (k0_hw33 : k0_chk33 v613), ∀ a, (k0_off94 v613) a + S1x1x512.size a ≤ S784x8x512.size a := fun v613 k0_hw33 => k0_hw33.1
theorem k0_off109_inb : ∀ (v613 : BitVec 32) (k0_hw33 : k0_chk33 v613), ∀ a, (k0_off109 v613) a + S1x1x512.size a ≤ S784x8x512.size a := fun v613 k0_hw33 => k0_hw33.2

def k0_off110 (v628 : BitVec 32) : Fin 3 → Nat :=
  let c1023_i32_381 : BitVec 32 := 1023#32
  let v629 : BitVec 32 := Scalar.andi v628 c1023_i32_381
  let v734 : Index := Scalar.indexCast v629
  let c1_450 : Index := 1#32
  let c0_451 : Index := 0#32
  ![v734.toNat, 1, 0]

def k0_chk34 (v628 : BitVec 32) : Prop :=
  (∀ a, (k0_off96 v628) a + S1x1x512.size a ≤ S784x8x512.size a) ∧
  (∀ a, (k0_off110 v628) a + S1x1x512.size a ≤ S784x8x512.size a)
theorem k0_off96_inb : ∀ (v628 : BitVec 32) (k0_hw34 : k0_chk34 v628), ∀ a, (k0_off96 v628) a + S1x1x512.size a ≤ S784x8x512.size a := fun v628 k0_hw34 => k0_hw34.1
theorem k0_off110_inb : ∀ (v628 : BitVec 32) (k0_hw34 : k0_chk34 v628), ∀ a, (k0_off110 v628) a + S1x1x512.size a ≤ S784x8x512.size a := fun v628 k0_hw34 => k0_hw34.2

def k0_off111 (v643 : BitVec 32) : Fin 3 → Nat :=
  let c1023_i32_391 : BitVec 32 := 1023#32
  let v644 : BitVec 32 := Scalar.andi v643 c1023_i32_391
  let v738 : Index := Scalar.indexCast v644
  let c2_452 : Index := 2#32
  let c0_453 : Index := 0#32
  ![v738.toNat, 2, 0]

def k0_chk35 (v643 : BitVec 32) : Prop :=
  (∀ a, (k0_off98 v643) a + S1x1x512.size a ≤ S784x8x512.size a) ∧
  (∀ a, (k0_off111 v643) a + S1x1x512.size a ≤ S784x8x512.size a)
theorem k0_off98_inb : ∀ (v643 : BitVec 32) (k0_hw35 : k0_chk35 v643), ∀ a, (k0_off98 v643) a + S1x1x512.size a ≤ S784x8x512.size a := fun v643 k0_hw35 => k0_hw35.1
theorem k0_off111_inb : ∀ (v643 : BitVec 32) (k0_hw35 : k0_chk35 v643), ∀ a, (k0_off111 v643) a + S1x1x512.size a ≤ S784x8x512.size a := fun v643 k0_hw35 => k0_hw35.2

def k0_off112 (v658 : BitVec 32) : Fin 3 → Nat :=
  let c1023_i32_401 : BitVec 32 := 1023#32
  let v659 : BitVec 32 := Scalar.andi v658 c1023_i32_401
  let v742 : Index := Scalar.indexCast v659
  let c3_454 : Index := 3#32
  let c0_455 : Index := 0#32
  ![v742.toNat, 3, 0]

def k0_chk36 (v658 : BitVec 32) : Prop :=
  (∀ a, (k0_off100 v658) a + S1x1x512.size a ≤ S784x8x512.size a) ∧
  (∀ a, (k0_off112 v658) a + S1x1x512.size a ≤ S784x8x512.size a)
theorem k0_off100_inb : ∀ (v658 : BitVec 32) (k0_hw36 : k0_chk36 v658), ∀ a, (k0_off100 v658) a + S1x1x512.size a ≤ S784x8x512.size a := fun v658 k0_hw36 => k0_hw36.1
theorem k0_off112_inb : ∀ (v658 : BitVec 32) (k0_hw36 : k0_chk36 v658), ∀ a, (k0_off112 v658) a + S1x1x512.size a ≤ S784x8x512.size a := fun v658 k0_hw36 => k0_hw36.2

def k0_off113 (v673 : BitVec 32) : Fin 3 → Nat :=
  let c1023_i32_411 : BitVec 32 := 1023#32
  let v674 : BitVec 32 := Scalar.andi v673 c1023_i32_411
  let v746 : Index := Scalar.indexCast v674
  let c4_456 : Index := 4#32
  let c0_457 : Index := 0#32
  ![v746.toNat, 4, 0]

def k0_chk37 (v673 : BitVec 32) : Prop :=
  (∀ a, (k0_off102 v673) a + S1x1x512.size a ≤ S784x8x512.size a) ∧
  (∀ a, (k0_off113 v673) a + S1x1x512.size a ≤ S784x8x512.size a)
theorem k0_off102_inb : ∀ (v673 : BitVec 32) (k0_hw37 : k0_chk37 v673), ∀ a, (k0_off102 v673) a + S1x1x512.size a ≤ S784x8x512.size a := fun v673 k0_hw37 => k0_hw37.1
theorem k0_off113_inb : ∀ (v673 : BitVec 32) (k0_hw37 : k0_chk37 v673), ∀ a, (k0_off113 v673) a + S1x1x512.size a ≤ S784x8x512.size a := fun v673 k0_hw37 => k0_hw37.2

def k0_off114 (v688 : BitVec 32) : Fin 3 → Nat :=
  let c1023_i32_421 : BitVec 32 := 1023#32
  let v689 : BitVec 32 := Scalar.andi v688 c1023_i32_421
  let v750 : Index := Scalar.indexCast v689
  let c5_458 : Index := 5#32
  let c0_459 : Index := 0#32
  ![v750.toNat, 5, 0]

def k0_chk38 (v688 : BitVec 32) : Prop :=
  (∀ a, (k0_off104 v688) a + S1x1x512.size a ≤ S784x8x512.size a) ∧
  (∀ a, (k0_off114 v688) a + S1x1x512.size a ≤ S784x8x512.size a)
theorem k0_off104_inb : ∀ (v688 : BitVec 32) (k0_hw38 : k0_chk38 v688), ∀ a, (k0_off104 v688) a + S1x1x512.size a ≤ S784x8x512.size a := fun v688 k0_hw38 => k0_hw38.1
theorem k0_off114_inb : ∀ (v688 : BitVec 32) (k0_hw38 : k0_chk38 v688), ∀ a, (k0_off114 v688) a + S1x1x512.size a ≤ S784x8x512.size a := fun v688 k0_hw38 => k0_hw38.2

def k0_off115 (v703 : BitVec 32) : Fin 3 → Nat :=
  let c1023_i32_431 : BitVec 32 := 1023#32
  let v704 : BitVec 32 := Scalar.andi v703 c1023_i32_431
  let v754 : Index := Scalar.indexCast v704
  let c6_460 : Index := 6#32
  let c0_461 : Index := 0#32
  ![v754.toNat, 6, 0]

def k0_chk39 (v703 : BitVec 32) : Prop :=
  (∀ a, (k0_off106 v703) a + S1x1x512.size a ≤ S784x8x512.size a) ∧
  (∀ a, (k0_off115 v703) a + S1x1x512.size a ≤ S784x8x512.size a)
theorem k0_off106_inb : ∀ (v703 : BitVec 32) (k0_hw39 : k0_chk39 v703), ∀ a, (k0_off106 v703) a + S1x1x512.size a ≤ S784x8x512.size a := fun v703 k0_hw39 => k0_hw39.1
theorem k0_off115_inb : ∀ (v703 : BitVec 32) (k0_hw39 : k0_chk39 v703), ∀ a, (k0_off115 v703) a + S1x1x512.size a ≤ S784x8x512.size a := fun v703 k0_hw39 => k0_hw39.2

def k0_off116 (i : grid0.Coords) : Fin 2 → Nat :=
  let arg0 : BitVec 32 := BitVec.ofNat 32 (i 0).val
  let c8_i32_464 : BitVec 32 := 8#32
  let v762 : BitVec 32 := Scalar.muli arg0 c8_i32_464
  let c0_i32_465 : BitVec 32 := 0#32
  let v763 : BitVec 32 := Scalar.addi v762 c0_i32_465
  let v764 : Index := Scalar.indexCast v763
  let c5_466 : Index := 5#32
  ![v764.toNat, 5]
def k0_off117 (v765 : BitVec 32) : Fin 3 → Nat :=
  let c1023_i32_467 : BitVec 32 := 1023#32
  let v766 : BitVec 32 := Scalar.andi v765 c1023_i32_467
  let v773 : Index := Scalar.indexCast v766
  let c0_472 : Index := 0#32
  let c0_473 : Index := 0#32
  ![v773.toNat, 0, 0]

def k0_off118 (i : grid0.Coords) : Fin 2 → Nat :=
  let arg0 : BitVec 32 := BitVec.ofNat 32 (i 0).val
  let c8_i32_474 : BitVec 32 := 8#32
  let v777 : BitVec 32 := Scalar.muli arg0 c8_i32_474
  let c1_i32_475 : BitVec 32 := 1#32
  let v778 : BitVec 32 := Scalar.addi v777 c1_i32_475
  let v779 : Index := Scalar.indexCast v778
  let c5_476 : Index := 5#32
  ![v779.toNat, 5]
def k0_off119 (v780 : BitVec 32) : Fin 3 → Nat :=
  let c1023_i32_477 : BitVec 32 := 1023#32
  let v781 : BitVec 32 := Scalar.andi v780 c1023_i32_477
  let v788 : Index := Scalar.indexCast v781
  let c1_482 : Index := 1#32
  let c0_483 : Index := 0#32
  ![v788.toNat, 1, 0]

def k0_off120 (i : grid0.Coords) : Fin 2 → Nat :=
  let arg0 : BitVec 32 := BitVec.ofNat 32 (i 0).val
  let c8_i32_484 : BitVec 32 := 8#32
  let v792 : BitVec 32 := Scalar.muli arg0 c8_i32_484
  let c2_i32_485 : BitVec 32 := 2#32
  let v793 : BitVec 32 := Scalar.addi v792 c2_i32_485
  let v794 : Index := Scalar.indexCast v793
  let c5_486 : Index := 5#32
  ![v794.toNat, 5]
def k0_off121 (v795 : BitVec 32) : Fin 3 → Nat :=
  let c1023_i32_487 : BitVec 32 := 1023#32
  let v796 : BitVec 32 := Scalar.andi v795 c1023_i32_487
  let v803 : Index := Scalar.indexCast v796
  let c2_492 : Index := 2#32
  let c0_493 : Index := 0#32
  ![v803.toNat, 2, 0]

def k0_off122 (i : grid0.Coords) : Fin 2 → Nat :=
  let arg0 : BitVec 32 := BitVec.ofNat 32 (i 0).val
  let c8_i32_494 : BitVec 32 := 8#32
  let v807 : BitVec 32 := Scalar.muli arg0 c8_i32_494
  let c3_i32_495 : BitVec 32 := 3#32
  let v808 : BitVec 32 := Scalar.addi v807 c3_i32_495
  let v809 : Index := Scalar.indexCast v808
  let c5_496 : Index := 5#32
  ![v809.toNat, 5]
def k0_off123 (v810 : BitVec 32) : Fin 3 → Nat :=
  let c1023_i32_497 : BitVec 32 := 1023#32
  let v811 : BitVec 32 := Scalar.andi v810 c1023_i32_497
  let v818 : Index := Scalar.indexCast v811
  let c3_502 : Index := 3#32
  let c0_503 : Index := 0#32
  ![v818.toNat, 3, 0]

def k0_off124 (i : grid0.Coords) : Fin 2 → Nat :=
  let arg0 : BitVec 32 := BitVec.ofNat 32 (i 0).val
  let c8_i32_504 : BitVec 32 := 8#32
  let v822 : BitVec 32 := Scalar.muli arg0 c8_i32_504
  let c4_i32_505 : BitVec 32 := 4#32
  let v823 : BitVec 32 := Scalar.addi v822 c4_i32_505
  let v824 : Index := Scalar.indexCast v823
  let c5_506 : Index := 5#32
  ![v824.toNat, 5]
def k0_off125 (v825 : BitVec 32) : Fin 3 → Nat :=
  let c1023_i32_507 : BitVec 32 := 1023#32
  let v826 : BitVec 32 := Scalar.andi v825 c1023_i32_507
  let v833 : Index := Scalar.indexCast v826
  let c4_512 : Index := 4#32
  let c0_513 : Index := 0#32
  ![v833.toNat, 4, 0]

def k0_off126 (i : grid0.Coords) : Fin 2 → Nat :=
  let arg0 : BitVec 32 := BitVec.ofNat 32 (i 0).val
  let c8_i32_514 : BitVec 32 := 8#32
  let v837 : BitVec 32 := Scalar.muli arg0 c8_i32_514
  let c5_i32_515 : BitVec 32 := 5#32
  let v838 : BitVec 32 := Scalar.addi v837 c5_i32_515
  let v839 : Index := Scalar.indexCast v838
  let c5_516 : Index := 5#32
  ![v839.toNat, 5]
def k0_off127 (v840 : BitVec 32) : Fin 3 → Nat :=
  let c1023_i32_517 : BitVec 32 := 1023#32
  let v841 : BitVec 32 := Scalar.andi v840 c1023_i32_517
  let v848 : Index := Scalar.indexCast v841
  let c5_522 : Index := 5#32
  let c0_523 : Index := 0#32
  ![v848.toNat, 5, 0]

def k0_off128 (i : grid0.Coords) : Fin 2 → Nat :=
  let arg0 : BitVec 32 := BitVec.ofNat 32 (i 0).val
  let c8_i32_524 : BitVec 32 := 8#32
  let v852 : BitVec 32 := Scalar.muli arg0 c8_i32_524
  let c6_i32_525 : BitVec 32 := 6#32
  let v853 : BitVec 32 := Scalar.addi v852 c6_i32_525
  let v854 : Index := Scalar.indexCast v853
  let c5_526 : Index := 5#32
  ![v854.toNat, 5]
def k0_off129 (v855 : BitVec 32) : Fin 3 → Nat :=
  let c1023_i32_527 : BitVec 32 := 1023#32
  let v856 : BitVec 32 := Scalar.andi v855 c1023_i32_527
  let v863 : Index := Scalar.indexCast v856
  let c6_532 : Index := 6#32
  let c0_533 : Index := 0#32
  ![v863.toNat, 6, 0]

def k0_off130 (i : grid0.Coords) : Fin 2 → Nat :=
  let arg0 : BitVec 32 := BitVec.ofNat 32 (i 0).val
  let c8_i32_534 : BitVec 32 := 8#32
  let v867 : BitVec 32 := Scalar.muli arg0 c8_i32_534
  let c7_i32_535 : BitVec 32 := 7#32
  let v868 : BitVec 32 := Scalar.addi v867 c7_i32_535
  let v869 : Index := Scalar.indexCast v868
  let c5_536 : Index := 5#32
  ![v869.toNat, 5]
def k0_off131 (v870 : BitVec 32) : Fin 3 → Nat :=
  let c1023_i32_537 : BitVec 32 := 1023#32
  let v871 : BitVec 32 := Scalar.andi v870 c1023_i32_537
  let v878 : Index := Scalar.indexCast v871
  let c7_542 : Index := 7#32
  let c0_543 : Index := 0#32
  ![v878.toNat, 7, 0]

def k0_chk48 (v870 : BitVec 32) : Prop :=
  (∀ a, (k0_off131 v870) a + S1x1x512.size a ≤ S784x8x512.size a)
theorem k0_off131_inb : ∀ (v870 : BitVec 32) (k0_hw48 : k0_chk48 v870), ∀ a, (k0_off131 v870) a + S1x1x512.size a ≤ S784x8x512.size a := fun v870 k0_hw48 => k0_hw48

def k0_off132 (v765 : BitVec 32) : Fin 3 → Nat :=
  let c1023_i32_467 : BitVec 32 := 1023#32
  let v766 : BitVec 32 := Scalar.andi v765 c1023_i32_467
  let v882 : Index := Scalar.indexCast v766
  let c0_544 : Index := 0#32
  let c0_545 : Index := 0#32
  ![v882.toNat, 0, 0]

def k0_chk41 (v765 : BitVec 32) : Prop :=
  (∀ a, (k0_off117 v765) a + S1x1x512.size a ≤ S784x8x512.size a) ∧
  (∀ a, (k0_off132 v765) a + S1x1x512.size a ≤ S784x8x512.size a)
theorem k0_off117_inb : ∀ (v765 : BitVec 32) (k0_hw41 : k0_chk41 v765), ∀ a, (k0_off117 v765) a + S1x1x512.size a ≤ S784x8x512.size a := fun v765 k0_hw41 => k0_hw41.1
theorem k0_off132_inb : ∀ (v765 : BitVec 32) (k0_hw41 : k0_chk41 v765), ∀ a, (k0_off132 v765) a + S1x1x512.size a ≤ S784x8x512.size a := fun v765 k0_hw41 => k0_hw41.2

def k0_off133 (v780 : BitVec 32) : Fin 3 → Nat :=
  let c1023_i32_477 : BitVec 32 := 1023#32
  let v781 : BitVec 32 := Scalar.andi v780 c1023_i32_477
  let v886 : Index := Scalar.indexCast v781
  let c1_546 : Index := 1#32
  let c0_547 : Index := 0#32
  ![v886.toNat, 1, 0]

def k0_chk42 (v780 : BitVec 32) : Prop :=
  (∀ a, (k0_off119 v780) a + S1x1x512.size a ≤ S784x8x512.size a) ∧
  (∀ a, (k0_off133 v780) a + S1x1x512.size a ≤ S784x8x512.size a)
theorem k0_off119_inb : ∀ (v780 : BitVec 32) (k0_hw42 : k0_chk42 v780), ∀ a, (k0_off119 v780) a + S1x1x512.size a ≤ S784x8x512.size a := fun v780 k0_hw42 => k0_hw42.1
theorem k0_off133_inb : ∀ (v780 : BitVec 32) (k0_hw42 : k0_chk42 v780), ∀ a, (k0_off133 v780) a + S1x1x512.size a ≤ S784x8x512.size a := fun v780 k0_hw42 => k0_hw42.2

def k0_off134 (v795 : BitVec 32) : Fin 3 → Nat :=
  let c1023_i32_487 : BitVec 32 := 1023#32
  let v796 : BitVec 32 := Scalar.andi v795 c1023_i32_487
  let v890 : Index := Scalar.indexCast v796
  let c2_548 : Index := 2#32
  let c0_549 : Index := 0#32
  ![v890.toNat, 2, 0]

def k0_chk43 (v795 : BitVec 32) : Prop :=
  (∀ a, (k0_off121 v795) a + S1x1x512.size a ≤ S784x8x512.size a) ∧
  (∀ a, (k0_off134 v795) a + S1x1x512.size a ≤ S784x8x512.size a)
theorem k0_off121_inb : ∀ (v795 : BitVec 32) (k0_hw43 : k0_chk43 v795), ∀ a, (k0_off121 v795) a + S1x1x512.size a ≤ S784x8x512.size a := fun v795 k0_hw43 => k0_hw43.1
theorem k0_off134_inb : ∀ (v795 : BitVec 32) (k0_hw43 : k0_chk43 v795), ∀ a, (k0_off134 v795) a + S1x1x512.size a ≤ S784x8x512.size a := fun v795 k0_hw43 => k0_hw43.2

def k0_off135 (v810 : BitVec 32) : Fin 3 → Nat :=
  let c1023_i32_497 : BitVec 32 := 1023#32
  let v811 : BitVec 32 := Scalar.andi v810 c1023_i32_497
  let v894 : Index := Scalar.indexCast v811
  let c3_550 : Index := 3#32
  let c0_551 : Index := 0#32
  ![v894.toNat, 3, 0]

def k0_chk44 (v810 : BitVec 32) : Prop :=
  (∀ a, (k0_off123 v810) a + S1x1x512.size a ≤ S784x8x512.size a) ∧
  (∀ a, (k0_off135 v810) a + S1x1x512.size a ≤ S784x8x512.size a)
theorem k0_off123_inb : ∀ (v810 : BitVec 32) (k0_hw44 : k0_chk44 v810), ∀ a, (k0_off123 v810) a + S1x1x512.size a ≤ S784x8x512.size a := fun v810 k0_hw44 => k0_hw44.1
theorem k0_off135_inb : ∀ (v810 : BitVec 32) (k0_hw44 : k0_chk44 v810), ∀ a, (k0_off135 v810) a + S1x1x512.size a ≤ S784x8x512.size a := fun v810 k0_hw44 => k0_hw44.2

def k0_off136 (v825 : BitVec 32) : Fin 3 → Nat :=
  let c1023_i32_507 : BitVec 32 := 1023#32
  let v826 : BitVec 32 := Scalar.andi v825 c1023_i32_507
  let v898 : Index := Scalar.indexCast v826
  let c4_552 : Index := 4#32
  let c0_553 : Index := 0#32
  ![v898.toNat, 4, 0]

def k0_chk45 (v825 : BitVec 32) : Prop :=
  (∀ a, (k0_off125 v825) a + S1x1x512.size a ≤ S784x8x512.size a) ∧
  (∀ a, (k0_off136 v825) a + S1x1x512.size a ≤ S784x8x512.size a)
theorem k0_off125_inb : ∀ (v825 : BitVec 32) (k0_hw45 : k0_chk45 v825), ∀ a, (k0_off125 v825) a + S1x1x512.size a ≤ S784x8x512.size a := fun v825 k0_hw45 => k0_hw45.1
theorem k0_off136_inb : ∀ (v825 : BitVec 32) (k0_hw45 : k0_chk45 v825), ∀ a, (k0_off136 v825) a + S1x1x512.size a ≤ S784x8x512.size a := fun v825 k0_hw45 => k0_hw45.2

def k0_off137 (v840 : BitVec 32) : Fin 3 → Nat :=
  let c1023_i32_517 : BitVec 32 := 1023#32
  let v841 : BitVec 32 := Scalar.andi v840 c1023_i32_517
  let v902 : Index := Scalar.indexCast v841
  let c5_554 : Index := 5#32
  let c0_555 : Index := 0#32
  ![v902.toNat, 5, 0]

def k0_chk46 (v840 : BitVec 32) : Prop :=
  (∀ a, (k0_off127 v840) a + S1x1x512.size a ≤ S784x8x512.size a) ∧
  (∀ a, (k0_off137 v840) a + S1x1x512.size a ≤ S784x8x512.size a)
theorem k0_off127_inb : ∀ (v840 : BitVec 32) (k0_hw46 : k0_chk46 v840), ∀ a, (k0_off127 v840) a + S1x1x512.size a ≤ S784x8x512.size a := fun v840 k0_hw46 => k0_hw46.1
theorem k0_off137_inb : ∀ (v840 : BitVec 32) (k0_hw46 : k0_chk46 v840), ∀ a, (k0_off137 v840) a + S1x1x512.size a ≤ S784x8x512.size a := fun v840 k0_hw46 => k0_hw46.2

def k0_off138 (v855 : BitVec 32) : Fin 3 → Nat :=
  let c1023_i32_527 : BitVec 32 := 1023#32
  let v856 : BitVec 32 := Scalar.andi v855 c1023_i32_527
  let v906 : Index := Scalar.indexCast v856
  let c6_556 : Index := 6#32
  let c0_557 : Index := 0#32
  ![v906.toNat, 6, 0]

def k0_chk47 (v855 : BitVec 32) : Prop :=
  (∀ a, (k0_off129 v855) a + S1x1x512.size a ≤ S784x8x512.size a) ∧
  (∀ a, (k0_off138 v855) a + S1x1x512.size a ≤ S784x8x512.size a)
theorem k0_off129_inb : ∀ (v855 : BitVec 32) (k0_hw47 : k0_chk47 v855), ∀ a, (k0_off129 v855) a + S1x1x512.size a ≤ S784x8x512.size a := fun v855 k0_hw47 => k0_hw47.1
theorem k0_off138_inb : ∀ (v855 : BitVec 32) (k0_hw47 : k0_chk47 v855), ∀ a, (k0_off138 v855) a + S1x1x512.size a ≤ S784x8x512.size a := fun v855 k0_hw47 => k0_hw47.2

def k0_off139 (i : grid0.Coords) : Fin 2 → Nat :=
  let arg0 : BitVec 32 := BitVec.ofNat 32 (i 0).val
  let c8_i32_560 : BitVec 32 := 8#32
  let v914 : BitVec 32 := Scalar.muli arg0 c8_i32_560
  let c0_i32_561 : BitVec 32 := 0#32
  let v915 : BitVec 32 := Scalar.addi v914 c0_i32_561
  let v916 : Index := Scalar.indexCast v915
  let c6_562 : Index := 6#32
  ![v916.toNat, 6]
def k0_off140 (v917 : BitVec 32) : Fin 3 → Nat :=
  let c1023_i32_563 : BitVec 32 := 1023#32
  let v918 : BitVec 32 := Scalar.andi v917 c1023_i32_563
  let v925 : Index := Scalar.indexCast v918
  let c0_568 : Index := 0#32
  let c0_569 : Index := 0#32
  ![v925.toNat, 0, 0]

def k0_off141 (i : grid0.Coords) : Fin 2 → Nat :=
  let arg0 : BitVec 32 := BitVec.ofNat 32 (i 0).val
  let c8_i32_570 : BitVec 32 := 8#32
  let v929 : BitVec 32 := Scalar.muli arg0 c8_i32_570
  let c1_i32_571 : BitVec 32 := 1#32
  let v930 : BitVec 32 := Scalar.addi v929 c1_i32_571
  let v931 : Index := Scalar.indexCast v930
  let c6_572 : Index := 6#32
  ![v931.toNat, 6]
def k0_off142 (v932 : BitVec 32) : Fin 3 → Nat :=
  let c1023_i32_573 : BitVec 32 := 1023#32
  let v933 : BitVec 32 := Scalar.andi v932 c1023_i32_573
  let v940 : Index := Scalar.indexCast v933
  let c1_578 : Index := 1#32
  let c0_579 : Index := 0#32
  ![v940.toNat, 1, 0]

def k0_off143 (i : grid0.Coords) : Fin 2 → Nat :=
  let arg0 : BitVec 32 := BitVec.ofNat 32 (i 0).val
  let c8_i32_580 : BitVec 32 := 8#32
  let v944 : BitVec 32 := Scalar.muli arg0 c8_i32_580
  let c2_i32_581 : BitVec 32 := 2#32
  let v945 : BitVec 32 := Scalar.addi v944 c2_i32_581
  let v946 : Index := Scalar.indexCast v945
  let c6_582 : Index := 6#32
  ![v946.toNat, 6]
def k0_off144 (v947 : BitVec 32) : Fin 3 → Nat :=
  let c1023_i32_583 : BitVec 32 := 1023#32
  let v948 : BitVec 32 := Scalar.andi v947 c1023_i32_583
  let v955 : Index := Scalar.indexCast v948
  let c2_588 : Index := 2#32
  let c0_589 : Index := 0#32
  ![v955.toNat, 2, 0]

def k0_off145 (i : grid0.Coords) : Fin 2 → Nat :=
  let arg0 : BitVec 32 := BitVec.ofNat 32 (i 0).val
  let c8_i32_590 : BitVec 32 := 8#32
  let v959 : BitVec 32 := Scalar.muli arg0 c8_i32_590
  let c3_i32_591 : BitVec 32 := 3#32
  let v960 : BitVec 32 := Scalar.addi v959 c3_i32_591
  let v961 : Index := Scalar.indexCast v960
  let c6_592 : Index := 6#32
  ![v961.toNat, 6]
def k0_off146 (v962 : BitVec 32) : Fin 3 → Nat :=
  let c1023_i32_593 : BitVec 32 := 1023#32
  let v963 : BitVec 32 := Scalar.andi v962 c1023_i32_593
  let v970 : Index := Scalar.indexCast v963
  let c3_598 : Index := 3#32
  let c0_599 : Index := 0#32
  ![v970.toNat, 3, 0]

def k0_off147 (i : grid0.Coords) : Fin 2 → Nat :=
  let arg0 : BitVec 32 := BitVec.ofNat 32 (i 0).val
  let c8_i32_600 : BitVec 32 := 8#32
  let v974 : BitVec 32 := Scalar.muli arg0 c8_i32_600
  let c4_i32_601 : BitVec 32 := 4#32
  let v975 : BitVec 32 := Scalar.addi v974 c4_i32_601
  let v976 : Index := Scalar.indexCast v975
  let c6_602 : Index := 6#32
  ![v976.toNat, 6]
def k0_off148 (v977 : BitVec 32) : Fin 3 → Nat :=
  let c1023_i32_603 : BitVec 32 := 1023#32
  let v978 : BitVec 32 := Scalar.andi v977 c1023_i32_603
  let v985 : Index := Scalar.indexCast v978
  let c4_608 : Index := 4#32
  let c0_609 : Index := 0#32
  ![v985.toNat, 4, 0]

def k0_off149 (i : grid0.Coords) : Fin 2 → Nat :=
  let arg0 : BitVec 32 := BitVec.ofNat 32 (i 0).val
  let c8_i32_610 : BitVec 32 := 8#32
  let v989 : BitVec 32 := Scalar.muli arg0 c8_i32_610
  let c5_i32_611 : BitVec 32 := 5#32
  let v990 : BitVec 32 := Scalar.addi v989 c5_i32_611
  let v991 : Index := Scalar.indexCast v990
  let c6_612 : Index := 6#32
  ![v991.toNat, 6]
def k0_off150 (v992 : BitVec 32) : Fin 3 → Nat :=
  let c1023_i32_613 : BitVec 32 := 1023#32
  let v993 : BitVec 32 := Scalar.andi v992 c1023_i32_613
  let v1000 : Index := Scalar.indexCast v993
  let c5_618 : Index := 5#32
  let c0_619 : Index := 0#32
  ![v1000.toNat, 5, 0]

def k0_off151 (i : grid0.Coords) : Fin 2 → Nat :=
  let arg0 : BitVec 32 := BitVec.ofNat 32 (i 0).val
  let c8_i32_620 : BitVec 32 := 8#32
  let v1004 : BitVec 32 := Scalar.muli arg0 c8_i32_620
  let c6_i32_621 : BitVec 32 := 6#32
  let v1005 : BitVec 32 := Scalar.addi v1004 c6_i32_621
  let v1006 : Index := Scalar.indexCast v1005
  let c6_622 : Index := 6#32
  ![v1006.toNat, 6]
def k0_off152 (v1007 : BitVec 32) : Fin 3 → Nat :=
  let c1023_i32_623 : BitVec 32 := 1023#32
  let v1008 : BitVec 32 := Scalar.andi v1007 c1023_i32_623
  let v1015 : Index := Scalar.indexCast v1008
  let c6_628 : Index := 6#32
  let c0_629 : Index := 0#32
  ![v1015.toNat, 6, 0]

def k0_off153 (i : grid0.Coords) : Fin 2 → Nat :=
  let arg0 : BitVec 32 := BitVec.ofNat 32 (i 0).val
  let c8_i32_630 : BitVec 32 := 8#32
  let v1019 : BitVec 32 := Scalar.muli arg0 c8_i32_630
  let c7_i32_631 : BitVec 32 := 7#32
  let v1020 : BitVec 32 := Scalar.addi v1019 c7_i32_631
  let v1021 : Index := Scalar.indexCast v1020
  let c6_632 : Index := 6#32
  ![v1021.toNat, 6]
def k0_off154 (v1022 : BitVec 32) : Fin 3 → Nat :=
  let c1023_i32_633 : BitVec 32 := 1023#32
  let v1023 : BitVec 32 := Scalar.andi v1022 c1023_i32_633
  let v1030 : Index := Scalar.indexCast v1023
  let c7_638 : Index := 7#32
  let c0_639 : Index := 0#32
  ![v1030.toNat, 7, 0]

def k0_chk56 (v1022 : BitVec 32) : Prop :=
  (∀ a, (k0_off154 v1022) a + S1x1x512.size a ≤ S784x8x512.size a)
theorem k0_off154_inb : ∀ (v1022 : BitVec 32) (k0_hw56 : k0_chk56 v1022), ∀ a, (k0_off154 v1022) a + S1x1x512.size a ≤ S784x8x512.size a := fun v1022 k0_hw56 => k0_hw56

def k0_off155 (v917 : BitVec 32) : Fin 3 → Nat :=
  let c1023_i32_563 : BitVec 32 := 1023#32
  let v918 : BitVec 32 := Scalar.andi v917 c1023_i32_563
  let v1034 : Index := Scalar.indexCast v918
  let c0_640 : Index := 0#32
  let c0_641 : Index := 0#32
  ![v1034.toNat, 0, 0]

def k0_chk49 (v917 : BitVec 32) : Prop :=
  (∀ a, (k0_off140 v917) a + S1x1x512.size a ≤ S784x8x512.size a) ∧
  (∀ a, (k0_off155 v917) a + S1x1x512.size a ≤ S784x8x512.size a)
theorem k0_off140_inb : ∀ (v917 : BitVec 32) (k0_hw49 : k0_chk49 v917), ∀ a, (k0_off140 v917) a + S1x1x512.size a ≤ S784x8x512.size a := fun v917 k0_hw49 => k0_hw49.1
theorem k0_off155_inb : ∀ (v917 : BitVec 32) (k0_hw49 : k0_chk49 v917), ∀ a, (k0_off155 v917) a + S1x1x512.size a ≤ S784x8x512.size a := fun v917 k0_hw49 => k0_hw49.2

def k0_off156 (v932 : BitVec 32) : Fin 3 → Nat :=
  let c1023_i32_573 : BitVec 32 := 1023#32
  let v933 : BitVec 32 := Scalar.andi v932 c1023_i32_573
  let v1038 : Index := Scalar.indexCast v933
  let c1_642 : Index := 1#32
  let c0_643 : Index := 0#32
  ![v1038.toNat, 1, 0]

def k0_chk50 (v932 : BitVec 32) : Prop :=
  (∀ a, (k0_off142 v932) a + S1x1x512.size a ≤ S784x8x512.size a) ∧
  (∀ a, (k0_off156 v932) a + S1x1x512.size a ≤ S784x8x512.size a)
theorem k0_off142_inb : ∀ (v932 : BitVec 32) (k0_hw50 : k0_chk50 v932), ∀ a, (k0_off142 v932) a + S1x1x512.size a ≤ S784x8x512.size a := fun v932 k0_hw50 => k0_hw50.1
theorem k0_off156_inb : ∀ (v932 : BitVec 32) (k0_hw50 : k0_chk50 v932), ∀ a, (k0_off156 v932) a + S1x1x512.size a ≤ S784x8x512.size a := fun v932 k0_hw50 => k0_hw50.2

def k0_off157 (v947 : BitVec 32) : Fin 3 → Nat :=
  let c1023_i32_583 : BitVec 32 := 1023#32
  let v948 : BitVec 32 := Scalar.andi v947 c1023_i32_583
  let v1042 : Index := Scalar.indexCast v948
  let c2_644 : Index := 2#32
  let c0_645 : Index := 0#32
  ![v1042.toNat, 2, 0]

def k0_chk51 (v947 : BitVec 32) : Prop :=
  (∀ a, (k0_off144 v947) a + S1x1x512.size a ≤ S784x8x512.size a) ∧
  (∀ a, (k0_off157 v947) a + S1x1x512.size a ≤ S784x8x512.size a)
theorem k0_off144_inb : ∀ (v947 : BitVec 32) (k0_hw51 : k0_chk51 v947), ∀ a, (k0_off144 v947) a + S1x1x512.size a ≤ S784x8x512.size a := fun v947 k0_hw51 => k0_hw51.1
theorem k0_off157_inb : ∀ (v947 : BitVec 32) (k0_hw51 : k0_chk51 v947), ∀ a, (k0_off157 v947) a + S1x1x512.size a ≤ S784x8x512.size a := fun v947 k0_hw51 => k0_hw51.2

def k0_off158 (v962 : BitVec 32) : Fin 3 → Nat :=
  let c1023_i32_593 : BitVec 32 := 1023#32
  let v963 : BitVec 32 := Scalar.andi v962 c1023_i32_593
  let v1046 : Index := Scalar.indexCast v963
  let c3_646 : Index := 3#32
  let c0_647 : Index := 0#32
  ![v1046.toNat, 3, 0]

def k0_chk52 (v962 : BitVec 32) : Prop :=
  (∀ a, (k0_off146 v962) a + S1x1x512.size a ≤ S784x8x512.size a) ∧
  (∀ a, (k0_off158 v962) a + S1x1x512.size a ≤ S784x8x512.size a)
theorem k0_off146_inb : ∀ (v962 : BitVec 32) (k0_hw52 : k0_chk52 v962), ∀ a, (k0_off146 v962) a + S1x1x512.size a ≤ S784x8x512.size a := fun v962 k0_hw52 => k0_hw52.1
theorem k0_off158_inb : ∀ (v962 : BitVec 32) (k0_hw52 : k0_chk52 v962), ∀ a, (k0_off158 v962) a + S1x1x512.size a ≤ S784x8x512.size a := fun v962 k0_hw52 => k0_hw52.2

def k0_off159 (v977 : BitVec 32) : Fin 3 → Nat :=
  let c1023_i32_603 : BitVec 32 := 1023#32
  let v978 : BitVec 32 := Scalar.andi v977 c1023_i32_603
  let v1050 : Index := Scalar.indexCast v978
  let c4_648 : Index := 4#32
  let c0_649 : Index := 0#32
  ![v1050.toNat, 4, 0]

def k0_chk53 (v977 : BitVec 32) : Prop :=
  (∀ a, (k0_off148 v977) a + S1x1x512.size a ≤ S784x8x512.size a) ∧
  (∀ a, (k0_off159 v977) a + S1x1x512.size a ≤ S784x8x512.size a)
theorem k0_off148_inb : ∀ (v977 : BitVec 32) (k0_hw53 : k0_chk53 v977), ∀ a, (k0_off148 v977) a + S1x1x512.size a ≤ S784x8x512.size a := fun v977 k0_hw53 => k0_hw53.1
theorem k0_off159_inb : ∀ (v977 : BitVec 32) (k0_hw53 : k0_chk53 v977), ∀ a, (k0_off159 v977) a + S1x1x512.size a ≤ S784x8x512.size a := fun v977 k0_hw53 => k0_hw53.2

def k0_off160 (v992 : BitVec 32) : Fin 3 → Nat :=
  let c1023_i32_613 : BitVec 32 := 1023#32
  let v993 : BitVec 32 := Scalar.andi v992 c1023_i32_613
  let v1054 : Index := Scalar.indexCast v993
  let c5_650 : Index := 5#32
  let c0_651 : Index := 0#32
  ![v1054.toNat, 5, 0]

def k0_chk54 (v992 : BitVec 32) : Prop :=
  (∀ a, (k0_off150 v992) a + S1x1x512.size a ≤ S784x8x512.size a) ∧
  (∀ a, (k0_off160 v992) a + S1x1x512.size a ≤ S784x8x512.size a)
theorem k0_off150_inb : ∀ (v992 : BitVec 32) (k0_hw54 : k0_chk54 v992), ∀ a, (k0_off150 v992) a + S1x1x512.size a ≤ S784x8x512.size a := fun v992 k0_hw54 => k0_hw54.1
theorem k0_off160_inb : ∀ (v992 : BitVec 32) (k0_hw54 : k0_chk54 v992), ∀ a, (k0_off160 v992) a + S1x1x512.size a ≤ S784x8x512.size a := fun v992 k0_hw54 => k0_hw54.2

def k0_off161 (v1007 : BitVec 32) : Fin 3 → Nat :=
  let c1023_i32_623 : BitVec 32 := 1023#32
  let v1008 : BitVec 32 := Scalar.andi v1007 c1023_i32_623
  let v1058 : Index := Scalar.indexCast v1008
  let c6_652 : Index := 6#32
  let c0_653 : Index := 0#32
  ![v1058.toNat, 6, 0]

def k0_chk55 (v1007 : BitVec 32) : Prop :=
  (∀ a, (k0_off152 v1007) a + S1x1x512.size a ≤ S784x8x512.size a) ∧
  (∀ a, (k0_off161 v1007) a + S1x1x512.size a ≤ S784x8x512.size a)
theorem k0_off152_inb : ∀ (v1007 : BitVec 32) (k0_hw55 : k0_chk55 v1007), ∀ a, (k0_off152 v1007) a + S1x1x512.size a ≤ S784x8x512.size a := fun v1007 k0_hw55 => k0_hw55.1
theorem k0_off161_inb : ∀ (v1007 : BitVec 32) (k0_hw55 : k0_chk55 v1007), ∀ a, (k0_off161 v1007) a + S1x1x512.size a ≤ S784x8x512.size a := fun v1007 k0_hw55 => k0_hw55.2

def k0_off162 (i : grid0.Coords) : Fin 2 → Nat :=
  let arg0 : BitVec 32 := BitVec.ofNat 32 (i 0).val
  let c8_i32_656 : BitVec 32 := 8#32
  let v1066 : BitVec 32 := Scalar.muli arg0 c8_i32_656
  let c0_i32_657 : BitVec 32 := 0#32
  let v1067 : BitVec 32 := Scalar.addi v1066 c0_i32_657
  let v1068 : Index := Scalar.indexCast v1067
  let c7_658 : Index := 7#32
  ![v1068.toNat, 7]
def k0_off163 (v1069 : BitVec 32) : Fin 3 → Nat :=
  let c1023_i32_659 : BitVec 32 := 1023#32
  let v1070 : BitVec 32 := Scalar.andi v1069 c1023_i32_659
  let v1077 : Index := Scalar.indexCast v1070
  let c0_664 : Index := 0#32
  let c0_665 : Index := 0#32
  ![v1077.toNat, 0, 0]

def k0_off164 (i : grid0.Coords) : Fin 2 → Nat :=
  let arg0 : BitVec 32 := BitVec.ofNat 32 (i 0).val
  let c8_i32_666 : BitVec 32 := 8#32
  let v1081 : BitVec 32 := Scalar.muli arg0 c8_i32_666
  let c1_i32_667 : BitVec 32 := 1#32
  let v1082 : BitVec 32 := Scalar.addi v1081 c1_i32_667
  let v1083 : Index := Scalar.indexCast v1082
  let c7_668 : Index := 7#32
  ![v1083.toNat, 7]
def k0_off165 (v1084 : BitVec 32) : Fin 3 → Nat :=
  let c1023_i32_669 : BitVec 32 := 1023#32
  let v1085 : BitVec 32 := Scalar.andi v1084 c1023_i32_669
  let v1092 : Index := Scalar.indexCast v1085
  let c1_674 : Index := 1#32
  let c0_675 : Index := 0#32
  ![v1092.toNat, 1, 0]

def k0_off166 (i : grid0.Coords) : Fin 2 → Nat :=
  let arg0 : BitVec 32 := BitVec.ofNat 32 (i 0).val
  let c8_i32_676 : BitVec 32 := 8#32
  let v1096 : BitVec 32 := Scalar.muli arg0 c8_i32_676
  let c2_i32_677 : BitVec 32 := 2#32
  let v1097 : BitVec 32 := Scalar.addi v1096 c2_i32_677
  let v1098 : Index := Scalar.indexCast v1097
  let c7_678 : Index := 7#32
  ![v1098.toNat, 7]
def k0_off167 (v1099 : BitVec 32) : Fin 3 → Nat :=
  let c1023_i32_679 : BitVec 32 := 1023#32
  let v1100 : BitVec 32 := Scalar.andi v1099 c1023_i32_679
  let v1107 : Index := Scalar.indexCast v1100
  let c2_684 : Index := 2#32
  let c0_685 : Index := 0#32
  ![v1107.toNat, 2, 0]

def k0_off168 (i : grid0.Coords) : Fin 2 → Nat :=
  let arg0 : BitVec 32 := BitVec.ofNat 32 (i 0).val
  let c8_i32_686 : BitVec 32 := 8#32
  let v1111 : BitVec 32 := Scalar.muli arg0 c8_i32_686
  let c3_i32_687 : BitVec 32 := 3#32
  let v1112 : BitVec 32 := Scalar.addi v1111 c3_i32_687
  let v1113 : Index := Scalar.indexCast v1112
  let c7_688 : Index := 7#32
  ![v1113.toNat, 7]
def k0_off169 (v1114 : BitVec 32) : Fin 3 → Nat :=
  let c1023_i32_689 : BitVec 32 := 1023#32
  let v1115 : BitVec 32 := Scalar.andi v1114 c1023_i32_689
  let v1122 : Index := Scalar.indexCast v1115
  let c3_694 : Index := 3#32
  let c0_695 : Index := 0#32
  ![v1122.toNat, 3, 0]

def k0_off170 (i : grid0.Coords) : Fin 2 → Nat :=
  let arg0 : BitVec 32 := BitVec.ofNat 32 (i 0).val
  let c8_i32_696 : BitVec 32 := 8#32
  let v1126 : BitVec 32 := Scalar.muli arg0 c8_i32_696
  let c4_i32_697 : BitVec 32 := 4#32
  let v1127 : BitVec 32 := Scalar.addi v1126 c4_i32_697
  let v1128 : Index := Scalar.indexCast v1127
  let c7_698 : Index := 7#32
  ![v1128.toNat, 7]
def k0_off171 (v1129 : BitVec 32) : Fin 3 → Nat :=
  let c1023_i32_699 : BitVec 32 := 1023#32
  let v1130 : BitVec 32 := Scalar.andi v1129 c1023_i32_699
  let v1137 : Index := Scalar.indexCast v1130
  let c4_704 : Index := 4#32
  let c0_705 : Index := 0#32
  ![v1137.toNat, 4, 0]

def k0_off172 (i : grid0.Coords) : Fin 2 → Nat :=
  let arg0 : BitVec 32 := BitVec.ofNat 32 (i 0).val
  let c8_i32_706 : BitVec 32 := 8#32
  let v1141 : BitVec 32 := Scalar.muli arg0 c8_i32_706
  let c5_i32_707 : BitVec 32 := 5#32
  let v1142 : BitVec 32 := Scalar.addi v1141 c5_i32_707
  let v1143 : Index := Scalar.indexCast v1142
  let c7_708 : Index := 7#32
  ![v1143.toNat, 7]
def k0_off173 (v1144 : BitVec 32) : Fin 3 → Nat :=
  let c1023_i32_709 : BitVec 32 := 1023#32
  let v1145 : BitVec 32 := Scalar.andi v1144 c1023_i32_709
  let v1152 : Index := Scalar.indexCast v1145
  let c5_714 : Index := 5#32
  let c0_715 : Index := 0#32
  ![v1152.toNat, 5, 0]

def k0_off174 (i : grid0.Coords) : Fin 2 → Nat :=
  let arg0 : BitVec 32 := BitVec.ofNat 32 (i 0).val
  let c8_i32_716 : BitVec 32 := 8#32
  let v1156 : BitVec 32 := Scalar.muli arg0 c8_i32_716
  let c6_i32_717 : BitVec 32 := 6#32
  let v1157 : BitVec 32 := Scalar.addi v1156 c6_i32_717
  let v1158 : Index := Scalar.indexCast v1157
  let c7_718 : Index := 7#32
  ![v1158.toNat, 7]
def k0_off175 (v1159 : BitVec 32) : Fin 3 → Nat :=
  let c1023_i32_719 : BitVec 32 := 1023#32
  let v1160 : BitVec 32 := Scalar.andi v1159 c1023_i32_719
  let v1167 : Index := Scalar.indexCast v1160
  let c6_724 : Index := 6#32
  let c0_725 : Index := 0#32
  ![v1167.toNat, 6, 0]

def k0_off176 (i : grid0.Coords) : Fin 2 → Nat :=
  let arg0 : BitVec 32 := BitVec.ofNat 32 (i 0).val
  let c8_i32_726 : BitVec 32 := 8#32
  let v1171 : BitVec 32 := Scalar.muli arg0 c8_i32_726
  let c7_i32_727 : BitVec 32 := 7#32
  let v1172 : BitVec 32 := Scalar.addi v1171 c7_i32_727
  let v1173 : Index := Scalar.indexCast v1172
  let c7_728 : Index := 7#32
  ![v1173.toNat, 7]
def k0_off177 (v1174 : BitVec 32) : Fin 3 → Nat :=
  let c1023_i32_729 : BitVec 32 := 1023#32
  let v1175 : BitVec 32 := Scalar.andi v1174 c1023_i32_729
  let v1182 : Index := Scalar.indexCast v1175
  let c7_734 : Index := 7#32
  let c0_735 : Index := 0#32
  ![v1182.toNat, 7, 0]

def k0_chk64 (v1174 : BitVec 32) : Prop :=
  (∀ a, (k0_off177 v1174) a + S1x1x512.size a ≤ S784x8x512.size a)
theorem k0_off177_inb : ∀ (v1174 : BitVec 32) (k0_hw64 : k0_chk64 v1174), ∀ a, (k0_off177 v1174) a + S1x1x512.size a ≤ S784x8x512.size a := fun v1174 k0_hw64 => k0_hw64

def k0_off178 (v1069 : BitVec 32) : Fin 3 → Nat :=
  let c1023_i32_659 : BitVec 32 := 1023#32
  let v1070 : BitVec 32 := Scalar.andi v1069 c1023_i32_659
  let v1186 : Index := Scalar.indexCast v1070
  let c0_736 : Index := 0#32
  let c0_737 : Index := 0#32
  ![v1186.toNat, 0, 0]

def k0_chk57 (v1069 : BitVec 32) : Prop :=
  (∀ a, (k0_off163 v1069) a + S1x1x512.size a ≤ S784x8x512.size a) ∧
  (∀ a, (k0_off178 v1069) a + S1x1x512.size a ≤ S784x8x512.size a)
theorem k0_off163_inb : ∀ (v1069 : BitVec 32) (k0_hw57 : k0_chk57 v1069), ∀ a, (k0_off163 v1069) a + S1x1x512.size a ≤ S784x8x512.size a := fun v1069 k0_hw57 => k0_hw57.1
theorem k0_off178_inb : ∀ (v1069 : BitVec 32) (k0_hw57 : k0_chk57 v1069), ∀ a, (k0_off178 v1069) a + S1x1x512.size a ≤ S784x8x512.size a := fun v1069 k0_hw57 => k0_hw57.2

def k0_off179 (v1084 : BitVec 32) : Fin 3 → Nat :=
  let c1023_i32_669 : BitVec 32 := 1023#32
  let v1085 : BitVec 32 := Scalar.andi v1084 c1023_i32_669
  let v1190 : Index := Scalar.indexCast v1085
  let c1_738 : Index := 1#32
  let c0_739 : Index := 0#32
  ![v1190.toNat, 1, 0]

def k0_chk58 (v1084 : BitVec 32) : Prop :=
  (∀ a, (k0_off165 v1084) a + S1x1x512.size a ≤ S784x8x512.size a) ∧
  (∀ a, (k0_off179 v1084) a + S1x1x512.size a ≤ S784x8x512.size a)
theorem k0_off165_inb : ∀ (v1084 : BitVec 32) (k0_hw58 : k0_chk58 v1084), ∀ a, (k0_off165 v1084) a + S1x1x512.size a ≤ S784x8x512.size a := fun v1084 k0_hw58 => k0_hw58.1
theorem k0_off179_inb : ∀ (v1084 : BitVec 32) (k0_hw58 : k0_chk58 v1084), ∀ a, (k0_off179 v1084) a + S1x1x512.size a ≤ S784x8x512.size a := fun v1084 k0_hw58 => k0_hw58.2

def k0_off180 (v1099 : BitVec 32) : Fin 3 → Nat :=
  let c1023_i32_679 : BitVec 32 := 1023#32
  let v1100 : BitVec 32 := Scalar.andi v1099 c1023_i32_679
  let v1194 : Index := Scalar.indexCast v1100
  let c2_740 : Index := 2#32
  let c0_741 : Index := 0#32
  ![v1194.toNat, 2, 0]

def k0_chk59 (v1099 : BitVec 32) : Prop :=
  (∀ a, (k0_off167 v1099) a + S1x1x512.size a ≤ S784x8x512.size a) ∧
  (∀ a, (k0_off180 v1099) a + S1x1x512.size a ≤ S784x8x512.size a)
theorem k0_off167_inb : ∀ (v1099 : BitVec 32) (k0_hw59 : k0_chk59 v1099), ∀ a, (k0_off167 v1099) a + S1x1x512.size a ≤ S784x8x512.size a := fun v1099 k0_hw59 => k0_hw59.1
theorem k0_off180_inb : ∀ (v1099 : BitVec 32) (k0_hw59 : k0_chk59 v1099), ∀ a, (k0_off180 v1099) a + S1x1x512.size a ≤ S784x8x512.size a := fun v1099 k0_hw59 => k0_hw59.2

def k0_off181 (v1114 : BitVec 32) : Fin 3 → Nat :=
  let c1023_i32_689 : BitVec 32 := 1023#32
  let v1115 : BitVec 32 := Scalar.andi v1114 c1023_i32_689
  let v1198 : Index := Scalar.indexCast v1115
  let c3_742 : Index := 3#32
  let c0_743 : Index := 0#32
  ![v1198.toNat, 3, 0]

def k0_chk60 (v1114 : BitVec 32) : Prop :=
  (∀ a, (k0_off169 v1114) a + S1x1x512.size a ≤ S784x8x512.size a) ∧
  (∀ a, (k0_off181 v1114) a + S1x1x512.size a ≤ S784x8x512.size a)
theorem k0_off169_inb : ∀ (v1114 : BitVec 32) (k0_hw60 : k0_chk60 v1114), ∀ a, (k0_off169 v1114) a + S1x1x512.size a ≤ S784x8x512.size a := fun v1114 k0_hw60 => k0_hw60.1
theorem k0_off181_inb : ∀ (v1114 : BitVec 32) (k0_hw60 : k0_chk60 v1114), ∀ a, (k0_off181 v1114) a + S1x1x512.size a ≤ S784x8x512.size a := fun v1114 k0_hw60 => k0_hw60.2

def k0_off182 (v1129 : BitVec 32) : Fin 3 → Nat :=
  let c1023_i32_699 : BitVec 32 := 1023#32
  let v1130 : BitVec 32 := Scalar.andi v1129 c1023_i32_699
  let v1202 : Index := Scalar.indexCast v1130
  let c4_744 : Index := 4#32
  let c0_745 : Index := 0#32
  ![v1202.toNat, 4, 0]

def k0_chk61 (v1129 : BitVec 32) : Prop :=
  (∀ a, (k0_off171 v1129) a + S1x1x512.size a ≤ S784x8x512.size a) ∧
  (∀ a, (k0_off182 v1129) a + S1x1x512.size a ≤ S784x8x512.size a)
theorem k0_off171_inb : ∀ (v1129 : BitVec 32) (k0_hw61 : k0_chk61 v1129), ∀ a, (k0_off171 v1129) a + S1x1x512.size a ≤ S784x8x512.size a := fun v1129 k0_hw61 => k0_hw61.1
theorem k0_off182_inb : ∀ (v1129 : BitVec 32) (k0_hw61 : k0_chk61 v1129), ∀ a, (k0_off182 v1129) a + S1x1x512.size a ≤ S784x8x512.size a := fun v1129 k0_hw61 => k0_hw61.2

def k0_off183 (v1144 : BitVec 32) : Fin 3 → Nat :=
  let c1023_i32_709 : BitVec 32 := 1023#32
  let v1145 : BitVec 32 := Scalar.andi v1144 c1023_i32_709
  let v1206 : Index := Scalar.indexCast v1145
  let c5_746 : Index := 5#32
  let c0_747 : Index := 0#32
  ![v1206.toNat, 5, 0]

def k0_chk62 (v1144 : BitVec 32) : Prop :=
  (∀ a, (k0_off173 v1144) a + S1x1x512.size a ≤ S784x8x512.size a) ∧
  (∀ a, (k0_off183 v1144) a + S1x1x512.size a ≤ S784x8x512.size a)
theorem k0_off173_inb : ∀ (v1144 : BitVec 32) (k0_hw62 : k0_chk62 v1144), ∀ a, (k0_off173 v1144) a + S1x1x512.size a ≤ S784x8x512.size a := fun v1144 k0_hw62 => k0_hw62.1
theorem k0_off183_inb : ∀ (v1144 : BitVec 32) (k0_hw62 : k0_chk62 v1144), ∀ a, (k0_off183 v1144) a + S1x1x512.size a ≤ S784x8x512.size a := fun v1144 k0_hw62 => k0_hw62.2

def k0_off184 (v1159 : BitVec 32) : Fin 3 → Nat :=
  let c1023_i32_719 : BitVec 32 := 1023#32
  let v1160 : BitVec 32 := Scalar.andi v1159 c1023_i32_719
  let v1210 : Index := Scalar.indexCast v1160
  let c6_748 : Index := 6#32
  let c0_749 : Index := 0#32
  ![v1210.toNat, 6, 0]

def k0_chk63 (v1159 : BitVec 32) : Prop :=
  (∀ a, (k0_off175 v1159) a + S1x1x512.size a ≤ S784x8x512.size a) ∧
  (∀ a, (k0_off184 v1159) a + S1x1x512.size a ≤ S784x8x512.size a)
theorem k0_off175_inb : ∀ (v1159 : BitVec 32) (k0_hw63 : k0_chk63 v1159), ∀ a, (k0_off175 v1159) a + S1x1x512.size a ≤ S784x8x512.size a := fun v1159 k0_hw63 => k0_hw63.1
theorem k0_off184_inb : ∀ (v1159 : BitVec 32) (k0_hw63 : k0_chk63 v1159), ∀ a, (k0_off184 v1159) a + S1x1x512.size a ≤ S784x8x512.size a := fun v1159 k0_hw63 => k0_hw63.2

def k0_off185 (i : grid0.Coords) : Fin 2 → Nat :=
  let arg0 : BitVec 32 := BitVec.ofNat 32 (i 0).val
  let c8_i32_752 : BitVec 32 := 8#32
  let v1218 : BitVec 32 := Scalar.muli arg0 c8_i32_752
  let c0_i32_753 : BitVec 32 := 0#32
  let v1219 : BitVec 32 := Scalar.addi v1218 c0_i32_753
  let v1220 : Index := Scalar.indexCast v1219
  let c8 : Index := 8#32
  ![v1220.toNat, 8]
def k0_off186 (v1221 : BitVec 32) : Fin 3 → Nat :=
  let c1023_i32_754 : BitVec 32 := 1023#32
  let v1222 : BitVec 32 := Scalar.andi v1221 c1023_i32_754
  let v1229 : Index := Scalar.indexCast v1222
  let c0_759 : Index := 0#32
  let c0_760 : Index := 0#32
  ![v1229.toNat, 0, 0]

def k0_off187 (i : grid0.Coords) : Fin 2 → Nat :=
  let arg0 : BitVec 32 := BitVec.ofNat 32 (i 0).val
  let c8_i32_761 : BitVec 32 := 8#32
  let v1233 : BitVec 32 := Scalar.muli arg0 c8_i32_761
  let c1_i32_762 : BitVec 32 := 1#32
  let v1234 : BitVec 32 := Scalar.addi v1233 c1_i32_762
  let v1235 : Index := Scalar.indexCast v1234
  let c8_763 : Index := 8#32
  ![v1235.toNat, 8]
def k0_off188 (v1236 : BitVec 32) : Fin 3 → Nat :=
  let c1023_i32_764 : BitVec 32 := 1023#32
  let v1237 : BitVec 32 := Scalar.andi v1236 c1023_i32_764
  let v1244 : Index := Scalar.indexCast v1237
  let c1_769 : Index := 1#32
  let c0_770 : Index := 0#32
  ![v1244.toNat, 1, 0]

def k0_off189 (i : grid0.Coords) : Fin 2 → Nat :=
  let arg0 : BitVec 32 := BitVec.ofNat 32 (i 0).val
  let c8_i32_771 : BitVec 32 := 8#32
  let v1248 : BitVec 32 := Scalar.muli arg0 c8_i32_771
  let c2_i32_772 : BitVec 32 := 2#32
  let v1249 : BitVec 32 := Scalar.addi v1248 c2_i32_772
  let v1250 : Index := Scalar.indexCast v1249
  let c8_773 : Index := 8#32
  ![v1250.toNat, 8]
def k0_off190 (v1251 : BitVec 32) : Fin 3 → Nat :=
  let c1023_i32_774 : BitVec 32 := 1023#32
  let v1252 : BitVec 32 := Scalar.andi v1251 c1023_i32_774
  let v1259 : Index := Scalar.indexCast v1252
  let c2_779 : Index := 2#32
  let c0_780 : Index := 0#32
  ![v1259.toNat, 2, 0]

def k0_off191 (i : grid0.Coords) : Fin 2 → Nat :=
  let arg0 : BitVec 32 := BitVec.ofNat 32 (i 0).val
  let c8_i32_781 : BitVec 32 := 8#32
  let v1263 : BitVec 32 := Scalar.muli arg0 c8_i32_781
  let c3_i32_782 : BitVec 32 := 3#32
  let v1264 : BitVec 32 := Scalar.addi v1263 c3_i32_782
  let v1265 : Index := Scalar.indexCast v1264
  let c8_783 : Index := 8#32
  ![v1265.toNat, 8]
def k0_off192 (v1266 : BitVec 32) : Fin 3 → Nat :=
  let c1023_i32_784 : BitVec 32 := 1023#32
  let v1267 : BitVec 32 := Scalar.andi v1266 c1023_i32_784
  let v1274 : Index := Scalar.indexCast v1267
  let c3_789 : Index := 3#32
  let c0_790 : Index := 0#32
  ![v1274.toNat, 3, 0]

def k0_off193 (i : grid0.Coords) : Fin 2 → Nat :=
  let arg0 : BitVec 32 := BitVec.ofNat 32 (i 0).val
  let c8_i32_791 : BitVec 32 := 8#32
  let v1278 : BitVec 32 := Scalar.muli arg0 c8_i32_791
  let c4_i32_792 : BitVec 32 := 4#32
  let v1279 : BitVec 32 := Scalar.addi v1278 c4_i32_792
  let v1280 : Index := Scalar.indexCast v1279
  let c8_793 : Index := 8#32
  ![v1280.toNat, 8]
def k0_off194 (v1281 : BitVec 32) : Fin 3 → Nat :=
  let c1023_i32_794 : BitVec 32 := 1023#32
  let v1282 : BitVec 32 := Scalar.andi v1281 c1023_i32_794
  let v1289 : Index := Scalar.indexCast v1282
  let c4_799 : Index := 4#32
  let c0_800 : Index := 0#32
  ![v1289.toNat, 4, 0]

def k0_off195 (i : grid0.Coords) : Fin 2 → Nat :=
  let arg0 : BitVec 32 := BitVec.ofNat 32 (i 0).val
  let c8_i32_801 : BitVec 32 := 8#32
  let v1293 : BitVec 32 := Scalar.muli arg0 c8_i32_801
  let c5_i32_802 : BitVec 32 := 5#32
  let v1294 : BitVec 32 := Scalar.addi v1293 c5_i32_802
  let v1295 : Index := Scalar.indexCast v1294
  let c8_803 : Index := 8#32
  ![v1295.toNat, 8]
def k0_off196 (v1296 : BitVec 32) : Fin 3 → Nat :=
  let c1023_i32_804 : BitVec 32 := 1023#32
  let v1297 : BitVec 32 := Scalar.andi v1296 c1023_i32_804
  let v1304 : Index := Scalar.indexCast v1297
  let c5_809 : Index := 5#32
  let c0_810 : Index := 0#32
  ![v1304.toNat, 5, 0]

def k0_off197 (i : grid0.Coords) : Fin 2 → Nat :=
  let arg0 : BitVec 32 := BitVec.ofNat 32 (i 0).val
  let c8_i32_811 : BitVec 32 := 8#32
  let v1308 : BitVec 32 := Scalar.muli arg0 c8_i32_811
  let c6_i32_812 : BitVec 32 := 6#32
  let v1309 : BitVec 32 := Scalar.addi v1308 c6_i32_812
  let v1310 : Index := Scalar.indexCast v1309
  let c8_813 : Index := 8#32
  ![v1310.toNat, 8]
def k0_off198 (v1311 : BitVec 32) : Fin 3 → Nat :=
  let c1023_i32_814 : BitVec 32 := 1023#32
  let v1312 : BitVec 32 := Scalar.andi v1311 c1023_i32_814
  let v1319 : Index := Scalar.indexCast v1312
  let c6_819 : Index := 6#32
  let c0_820 : Index := 0#32
  ![v1319.toNat, 6, 0]

def k0_off199 (i : grid0.Coords) : Fin 2 → Nat :=
  let arg0 : BitVec 32 := BitVec.ofNat 32 (i 0).val
  let c8_i32_821 : BitVec 32 := 8#32
  let v1323 : BitVec 32 := Scalar.muli arg0 c8_i32_821
  let c7_i32_822 : BitVec 32 := 7#32
  let v1324 : BitVec 32 := Scalar.addi v1323 c7_i32_822
  let v1325 : Index := Scalar.indexCast v1324
  let c8_823 : Index := 8#32
  ![v1325.toNat, 8]
def k0_off200 (v1326 : BitVec 32) : Fin 3 → Nat :=
  let c1023_i32_824 : BitVec 32 := 1023#32
  let v1327 : BitVec 32 := Scalar.andi v1326 c1023_i32_824
  let v1334 : Index := Scalar.indexCast v1327
  let c7_829 : Index := 7#32
  let c0_830 : Index := 0#32
  ![v1334.toNat, 7, 0]

def k0_chk72 (v1326 : BitVec 32) : Prop :=
  (∀ a, (k0_off200 v1326) a + S1x1x512.size a ≤ S784x8x512.size a)
theorem k0_off200_inb : ∀ (v1326 : BitVec 32) (k0_hw72 : k0_chk72 v1326), ∀ a, (k0_off200 v1326) a + S1x1x512.size a ≤ S784x8x512.size a := fun v1326 k0_hw72 => k0_hw72

def k0_off201 (v1221 : BitVec 32) : Fin 3 → Nat :=
  let c1023_i32_754 : BitVec 32 := 1023#32
  let v1222 : BitVec 32 := Scalar.andi v1221 c1023_i32_754
  let v1338 : Index := Scalar.indexCast v1222
  let c0_831 : Index := 0#32
  let c0_832 : Index := 0#32
  ![v1338.toNat, 0, 0]

def k0_chk65 (v1221 : BitVec 32) : Prop :=
  (∀ a, (k0_off186 v1221) a + S1x1x512.size a ≤ S784x8x512.size a) ∧
  (∀ a, (k0_off201 v1221) a + S1x1x512.size a ≤ S784x8x512.size a)
theorem k0_off186_inb : ∀ (v1221 : BitVec 32) (k0_hw65 : k0_chk65 v1221), ∀ a, (k0_off186 v1221) a + S1x1x512.size a ≤ S784x8x512.size a := fun v1221 k0_hw65 => k0_hw65.1
theorem k0_off201_inb : ∀ (v1221 : BitVec 32) (k0_hw65 : k0_chk65 v1221), ∀ a, (k0_off201 v1221) a + S1x1x512.size a ≤ S784x8x512.size a := fun v1221 k0_hw65 => k0_hw65.2

def k0_off202 (v1236 : BitVec 32) : Fin 3 → Nat :=
  let c1023_i32_764 : BitVec 32 := 1023#32
  let v1237 : BitVec 32 := Scalar.andi v1236 c1023_i32_764
  let v1342 : Index := Scalar.indexCast v1237
  let c1_833 : Index := 1#32
  let c0_834 : Index := 0#32
  ![v1342.toNat, 1, 0]

def k0_chk66 (v1236 : BitVec 32) : Prop :=
  (∀ a, (k0_off188 v1236) a + S1x1x512.size a ≤ S784x8x512.size a) ∧
  (∀ a, (k0_off202 v1236) a + S1x1x512.size a ≤ S784x8x512.size a)
theorem k0_off188_inb : ∀ (v1236 : BitVec 32) (k0_hw66 : k0_chk66 v1236), ∀ a, (k0_off188 v1236) a + S1x1x512.size a ≤ S784x8x512.size a := fun v1236 k0_hw66 => k0_hw66.1
theorem k0_off202_inb : ∀ (v1236 : BitVec 32) (k0_hw66 : k0_chk66 v1236), ∀ a, (k0_off202 v1236) a + S1x1x512.size a ≤ S784x8x512.size a := fun v1236 k0_hw66 => k0_hw66.2

def k0_off203 (v1251 : BitVec 32) : Fin 3 → Nat :=
  let c1023_i32_774 : BitVec 32 := 1023#32
  let v1252 : BitVec 32 := Scalar.andi v1251 c1023_i32_774
  let v1346 : Index := Scalar.indexCast v1252
  let c2_835 : Index := 2#32
  let c0_836 : Index := 0#32
  ![v1346.toNat, 2, 0]

def k0_chk67 (v1251 : BitVec 32) : Prop :=
  (∀ a, (k0_off190 v1251) a + S1x1x512.size a ≤ S784x8x512.size a) ∧
  (∀ a, (k0_off203 v1251) a + S1x1x512.size a ≤ S784x8x512.size a)
theorem k0_off190_inb : ∀ (v1251 : BitVec 32) (k0_hw67 : k0_chk67 v1251), ∀ a, (k0_off190 v1251) a + S1x1x512.size a ≤ S784x8x512.size a := fun v1251 k0_hw67 => k0_hw67.1
theorem k0_off203_inb : ∀ (v1251 : BitVec 32) (k0_hw67 : k0_chk67 v1251), ∀ a, (k0_off203 v1251) a + S1x1x512.size a ≤ S784x8x512.size a := fun v1251 k0_hw67 => k0_hw67.2

def k0_off204 (v1266 : BitVec 32) : Fin 3 → Nat :=
  let c1023_i32_784 : BitVec 32 := 1023#32
  let v1267 : BitVec 32 := Scalar.andi v1266 c1023_i32_784
  let v1350 : Index := Scalar.indexCast v1267
  let c3_837 : Index := 3#32
  let c0_838 : Index := 0#32
  ![v1350.toNat, 3, 0]

def k0_chk68 (v1266 : BitVec 32) : Prop :=
  (∀ a, (k0_off192 v1266) a + S1x1x512.size a ≤ S784x8x512.size a) ∧
  (∀ a, (k0_off204 v1266) a + S1x1x512.size a ≤ S784x8x512.size a)
theorem k0_off192_inb : ∀ (v1266 : BitVec 32) (k0_hw68 : k0_chk68 v1266), ∀ a, (k0_off192 v1266) a + S1x1x512.size a ≤ S784x8x512.size a := fun v1266 k0_hw68 => k0_hw68.1
theorem k0_off204_inb : ∀ (v1266 : BitVec 32) (k0_hw68 : k0_chk68 v1266), ∀ a, (k0_off204 v1266) a + S1x1x512.size a ≤ S784x8x512.size a := fun v1266 k0_hw68 => k0_hw68.2

def k0_off205 (v1281 : BitVec 32) : Fin 3 → Nat :=
  let c1023_i32_794 : BitVec 32 := 1023#32
  let v1282 : BitVec 32 := Scalar.andi v1281 c1023_i32_794
  let v1354 : Index := Scalar.indexCast v1282
  let c4_839 : Index := 4#32
  let c0_840 : Index := 0#32
  ![v1354.toNat, 4, 0]

def k0_chk69 (v1281 : BitVec 32) : Prop :=
  (∀ a, (k0_off194 v1281) a + S1x1x512.size a ≤ S784x8x512.size a) ∧
  (∀ a, (k0_off205 v1281) a + S1x1x512.size a ≤ S784x8x512.size a)
theorem k0_off194_inb : ∀ (v1281 : BitVec 32) (k0_hw69 : k0_chk69 v1281), ∀ a, (k0_off194 v1281) a + S1x1x512.size a ≤ S784x8x512.size a := fun v1281 k0_hw69 => k0_hw69.1
theorem k0_off205_inb : ∀ (v1281 : BitVec 32) (k0_hw69 : k0_chk69 v1281), ∀ a, (k0_off205 v1281) a + S1x1x512.size a ≤ S784x8x512.size a := fun v1281 k0_hw69 => k0_hw69.2

def k0_off206 (v1296 : BitVec 32) : Fin 3 → Nat :=
  let c1023_i32_804 : BitVec 32 := 1023#32
  let v1297 : BitVec 32 := Scalar.andi v1296 c1023_i32_804
  let v1358 : Index := Scalar.indexCast v1297
  let c5_841 : Index := 5#32
  let c0_842 : Index := 0#32
  ![v1358.toNat, 5, 0]

def k0_chk70 (v1296 : BitVec 32) : Prop :=
  (∀ a, (k0_off196 v1296) a + S1x1x512.size a ≤ S784x8x512.size a) ∧
  (∀ a, (k0_off206 v1296) a + S1x1x512.size a ≤ S784x8x512.size a)
theorem k0_off196_inb : ∀ (v1296 : BitVec 32) (k0_hw70 : k0_chk70 v1296), ∀ a, (k0_off196 v1296) a + S1x1x512.size a ≤ S784x8x512.size a := fun v1296 k0_hw70 => k0_hw70.1
theorem k0_off206_inb : ∀ (v1296 : BitVec 32) (k0_hw70 : k0_chk70 v1296), ∀ a, (k0_off206 v1296) a + S1x1x512.size a ≤ S784x8x512.size a := fun v1296 k0_hw70 => k0_hw70.2

def k0_off207 (v1311 : BitVec 32) : Fin 3 → Nat :=
  let c1023_i32_814 : BitVec 32 := 1023#32
  let v1312 : BitVec 32 := Scalar.andi v1311 c1023_i32_814
  let v1362 : Index := Scalar.indexCast v1312
  let c6_843 : Index := 6#32
  let c0_844 : Index := 0#32
  ![v1362.toNat, 6, 0]

def k0_chk71 (v1311 : BitVec 32) : Prop :=
  (∀ a, (k0_off198 v1311) a + S1x1x512.size a ≤ S784x8x512.size a) ∧
  (∀ a, (k0_off207 v1311) a + S1x1x512.size a ≤ S784x8x512.size a)
theorem k0_off198_inb : ∀ (v1311 : BitVec 32) (k0_hw71 : k0_chk71 v1311), ∀ a, (k0_off198 v1311) a + S1x1x512.size a ≤ S784x8x512.size a := fun v1311 k0_hw71 => k0_hw71.1
theorem k0_off207_inb : ∀ (v1311 : BitVec 32) (k0_hw71 : k0_chk71 v1311), ∀ a, (k0_off207 v1311) a + S1x1x512.size a ≤ S784x8x512.size a := fun v1311 k0_hw71 => k0_hw71.2

def k0_off208 (i : grid0.Coords) : Fin 2 → Nat :=
  let arg0 : BitVec 32 := BitVec.ofNat 32 (i 0).val
  let c8_i32_847 : BitVec 32 := 8#32
  let v1370 : BitVec 32 := Scalar.muli arg0 c8_i32_847
  let c0_i32_848 : BitVec 32 := 0#32
  let v1371 : BitVec 32 := Scalar.addi v1370 c0_i32_848
  let v1372 : Index := Scalar.indexCast v1371
  let c9 : Index := 9#32
  ![v1372.toNat, 9]
def k0_off209 (v1373 : BitVec 32) : Fin 3 → Nat :=
  let c1023_i32_849 : BitVec 32 := 1023#32
  let v1374 : BitVec 32 := Scalar.andi v1373 c1023_i32_849
  let v1381 : Index := Scalar.indexCast v1374
  let c0_854 : Index := 0#32
  let c0_855 : Index := 0#32
  ![v1381.toNat, 0, 0]

def k0_off210 (i : grid0.Coords) : Fin 2 → Nat :=
  let arg0 : BitVec 32 := BitVec.ofNat 32 (i 0).val
  let c8_i32_856 : BitVec 32 := 8#32
  let v1385 : BitVec 32 := Scalar.muli arg0 c8_i32_856
  let c1_i32_857 : BitVec 32 := 1#32
  let v1386 : BitVec 32 := Scalar.addi v1385 c1_i32_857
  let v1387 : Index := Scalar.indexCast v1386
  let c9_858 : Index := 9#32
  ![v1387.toNat, 9]
def k0_off211 (v1388 : BitVec 32) : Fin 3 → Nat :=
  let c1023_i32_859 : BitVec 32 := 1023#32
  let v1389 : BitVec 32 := Scalar.andi v1388 c1023_i32_859
  let v1396 : Index := Scalar.indexCast v1389
  let c1_864 : Index := 1#32
  let c0_865 : Index := 0#32
  ![v1396.toNat, 1, 0]

def k0_off212 (i : grid0.Coords) : Fin 2 → Nat :=
  let arg0 : BitVec 32 := BitVec.ofNat 32 (i 0).val
  let c8_i32_866 : BitVec 32 := 8#32
  let v1400 : BitVec 32 := Scalar.muli arg0 c8_i32_866
  let c2_i32_867 : BitVec 32 := 2#32
  let v1401 : BitVec 32 := Scalar.addi v1400 c2_i32_867
  let v1402 : Index := Scalar.indexCast v1401
  let c9_868 : Index := 9#32
  ![v1402.toNat, 9]
def k0_off213 (v1403 : BitVec 32) : Fin 3 → Nat :=
  let c1023_i32_869 : BitVec 32 := 1023#32
  let v1404 : BitVec 32 := Scalar.andi v1403 c1023_i32_869
  let v1411 : Index := Scalar.indexCast v1404
  let c2_874 : Index := 2#32
  let c0_875 : Index := 0#32
  ![v1411.toNat, 2, 0]

def k0_off214 (i : grid0.Coords) : Fin 2 → Nat :=
  let arg0 : BitVec 32 := BitVec.ofNat 32 (i 0).val
  let c8_i32_876 : BitVec 32 := 8#32
  let v1415 : BitVec 32 := Scalar.muli arg0 c8_i32_876
  let c3_i32_877 : BitVec 32 := 3#32
  let v1416 : BitVec 32 := Scalar.addi v1415 c3_i32_877
  let v1417 : Index := Scalar.indexCast v1416
  let c9_878 : Index := 9#32
  ![v1417.toNat, 9]
def k0_off215 (v1418 : BitVec 32) : Fin 3 → Nat :=
  let c1023_i32_879 : BitVec 32 := 1023#32
  let v1419 : BitVec 32 := Scalar.andi v1418 c1023_i32_879
  let v1426 : Index := Scalar.indexCast v1419
  let c3_884 : Index := 3#32
  let c0_885 : Index := 0#32
  ![v1426.toNat, 3, 0]

def k0_off216 (i : grid0.Coords) : Fin 2 → Nat :=
  let arg0 : BitVec 32 := BitVec.ofNat 32 (i 0).val
  let c8_i32_886 : BitVec 32 := 8#32
  let v1430 : BitVec 32 := Scalar.muli arg0 c8_i32_886
  let c4_i32_887 : BitVec 32 := 4#32
  let v1431 : BitVec 32 := Scalar.addi v1430 c4_i32_887
  let v1432 : Index := Scalar.indexCast v1431
  let c9_888 : Index := 9#32
  ![v1432.toNat, 9]
def k0_off217 (v1433 : BitVec 32) : Fin 3 → Nat :=
  let c1023_i32_889 : BitVec 32 := 1023#32
  let v1434 : BitVec 32 := Scalar.andi v1433 c1023_i32_889
  let v1441 : Index := Scalar.indexCast v1434
  let c4_894 : Index := 4#32
  let c0_895 : Index := 0#32
  ![v1441.toNat, 4, 0]

def k0_off218 (i : grid0.Coords) : Fin 2 → Nat :=
  let arg0 : BitVec 32 := BitVec.ofNat 32 (i 0).val
  let c8_i32_896 : BitVec 32 := 8#32
  let v1445 : BitVec 32 := Scalar.muli arg0 c8_i32_896
  let c5_i32_897 : BitVec 32 := 5#32
  let v1446 : BitVec 32 := Scalar.addi v1445 c5_i32_897
  let v1447 : Index := Scalar.indexCast v1446
  let c9_898 : Index := 9#32
  ![v1447.toNat, 9]
def k0_off219 (v1448 : BitVec 32) : Fin 3 → Nat :=
  let c1023_i32_899 : BitVec 32 := 1023#32
  let v1449 : BitVec 32 := Scalar.andi v1448 c1023_i32_899
  let v1456 : Index := Scalar.indexCast v1449
  let c5_904 : Index := 5#32
  let c0_905 : Index := 0#32
  ![v1456.toNat, 5, 0]

def k0_off220 (i : grid0.Coords) : Fin 2 → Nat :=
  let arg0 : BitVec 32 := BitVec.ofNat 32 (i 0).val
  let c8_i32_906 : BitVec 32 := 8#32
  let v1460 : BitVec 32 := Scalar.muli arg0 c8_i32_906
  let c6_i32_907 : BitVec 32 := 6#32
  let v1461 : BitVec 32 := Scalar.addi v1460 c6_i32_907
  let v1462 : Index := Scalar.indexCast v1461
  let c9_908 : Index := 9#32
  ![v1462.toNat, 9]
def k0_off221 (v1463 : BitVec 32) : Fin 3 → Nat :=
  let c1023_i32_909 : BitVec 32 := 1023#32
  let v1464 : BitVec 32 := Scalar.andi v1463 c1023_i32_909
  let v1471 : Index := Scalar.indexCast v1464
  let c6_914 : Index := 6#32
  let c0_915 : Index := 0#32
  ![v1471.toNat, 6, 0]

def k0_off222 (i : grid0.Coords) : Fin 2 → Nat :=
  let arg0 : BitVec 32 := BitVec.ofNat 32 (i 0).val
  let c8_i32_916 : BitVec 32 := 8#32
  let v1475 : BitVec 32 := Scalar.muli arg0 c8_i32_916
  let c7_i32_917 : BitVec 32 := 7#32
  let v1476 : BitVec 32 := Scalar.addi v1475 c7_i32_917
  let v1477 : Index := Scalar.indexCast v1476
  let c9_918 : Index := 9#32
  ![v1477.toNat, 9]
def k0_off223 (v1478 : BitVec 32) : Fin 3 → Nat :=
  let c1023_i32_919 : BitVec 32 := 1023#32
  let v1479 : BitVec 32 := Scalar.andi v1478 c1023_i32_919
  let v1486 : Index := Scalar.indexCast v1479
  let c7_924 : Index := 7#32
  let c0_925 : Index := 0#32
  ![v1486.toNat, 7, 0]

def k0_chk80 (v1478 : BitVec 32) : Prop :=
  (∀ a, (k0_off223 v1478) a + S1x1x512.size a ≤ S784x8x512.size a)
theorem k0_off223_inb : ∀ (v1478 : BitVec 32) (k0_hw80 : k0_chk80 v1478), ∀ a, (k0_off223 v1478) a + S1x1x512.size a ≤ S784x8x512.size a := fun v1478 k0_hw80 => k0_hw80

def k0_off224 (v1373 : BitVec 32) : Fin 3 → Nat :=
  let c1023_i32_849 : BitVec 32 := 1023#32
  let v1374 : BitVec 32 := Scalar.andi v1373 c1023_i32_849
  let v1490 : Index := Scalar.indexCast v1374
  let c0_926 : Index := 0#32
  let c0_927 : Index := 0#32
  ![v1490.toNat, 0, 0]

def k0_chk73 (v1373 : BitVec 32) : Prop :=
  (∀ a, (k0_off209 v1373) a + S1x1x512.size a ≤ S784x8x512.size a) ∧
  (∀ a, (k0_off224 v1373) a + S1x1x512.size a ≤ S784x8x512.size a)
theorem k0_off209_inb : ∀ (v1373 : BitVec 32) (k0_hw73 : k0_chk73 v1373), ∀ a, (k0_off209 v1373) a + S1x1x512.size a ≤ S784x8x512.size a := fun v1373 k0_hw73 => k0_hw73.1
theorem k0_off224_inb : ∀ (v1373 : BitVec 32) (k0_hw73 : k0_chk73 v1373), ∀ a, (k0_off224 v1373) a + S1x1x512.size a ≤ S784x8x512.size a := fun v1373 k0_hw73 => k0_hw73.2

def k0_off225 (v1388 : BitVec 32) : Fin 3 → Nat :=
  let c1023_i32_859 : BitVec 32 := 1023#32
  let v1389 : BitVec 32 := Scalar.andi v1388 c1023_i32_859
  let v1494 : Index := Scalar.indexCast v1389
  let c1_928 : Index := 1#32
  let c0_929 : Index := 0#32
  ![v1494.toNat, 1, 0]

def k0_chk74 (v1388 : BitVec 32) : Prop :=
  (∀ a, (k0_off211 v1388) a + S1x1x512.size a ≤ S784x8x512.size a) ∧
  (∀ a, (k0_off225 v1388) a + S1x1x512.size a ≤ S784x8x512.size a)
theorem k0_off211_inb : ∀ (v1388 : BitVec 32) (k0_hw74 : k0_chk74 v1388), ∀ a, (k0_off211 v1388) a + S1x1x512.size a ≤ S784x8x512.size a := fun v1388 k0_hw74 => k0_hw74.1
theorem k0_off225_inb : ∀ (v1388 : BitVec 32) (k0_hw74 : k0_chk74 v1388), ∀ a, (k0_off225 v1388) a + S1x1x512.size a ≤ S784x8x512.size a := fun v1388 k0_hw74 => k0_hw74.2

def k0_off226 (v1403 : BitVec 32) : Fin 3 → Nat :=
  let c1023_i32_869 : BitVec 32 := 1023#32
  let v1404 : BitVec 32 := Scalar.andi v1403 c1023_i32_869
  let v1498 : Index := Scalar.indexCast v1404
  let c2_930 : Index := 2#32
  let c0_931 : Index := 0#32
  ![v1498.toNat, 2, 0]

def k0_chk75 (v1403 : BitVec 32) : Prop :=
  (∀ a, (k0_off213 v1403) a + S1x1x512.size a ≤ S784x8x512.size a) ∧
  (∀ a, (k0_off226 v1403) a + S1x1x512.size a ≤ S784x8x512.size a)
theorem k0_off213_inb : ∀ (v1403 : BitVec 32) (k0_hw75 : k0_chk75 v1403), ∀ a, (k0_off213 v1403) a + S1x1x512.size a ≤ S784x8x512.size a := fun v1403 k0_hw75 => k0_hw75.1
theorem k0_off226_inb : ∀ (v1403 : BitVec 32) (k0_hw75 : k0_chk75 v1403), ∀ a, (k0_off226 v1403) a + S1x1x512.size a ≤ S784x8x512.size a := fun v1403 k0_hw75 => k0_hw75.2

def k0_off227 (v1418 : BitVec 32) : Fin 3 → Nat :=
  let c1023_i32_879 : BitVec 32 := 1023#32
  let v1419 : BitVec 32 := Scalar.andi v1418 c1023_i32_879
  let v1502 : Index := Scalar.indexCast v1419
  let c3_932 : Index := 3#32
  let c0_933 : Index := 0#32
  ![v1502.toNat, 3, 0]

def k0_chk76 (v1418 : BitVec 32) : Prop :=
  (∀ a, (k0_off215 v1418) a + S1x1x512.size a ≤ S784x8x512.size a) ∧
  (∀ a, (k0_off227 v1418) a + S1x1x512.size a ≤ S784x8x512.size a)
theorem k0_off215_inb : ∀ (v1418 : BitVec 32) (k0_hw76 : k0_chk76 v1418), ∀ a, (k0_off215 v1418) a + S1x1x512.size a ≤ S784x8x512.size a := fun v1418 k0_hw76 => k0_hw76.1
theorem k0_off227_inb : ∀ (v1418 : BitVec 32) (k0_hw76 : k0_chk76 v1418), ∀ a, (k0_off227 v1418) a + S1x1x512.size a ≤ S784x8x512.size a := fun v1418 k0_hw76 => k0_hw76.2

def k0_off228 (v1433 : BitVec 32) : Fin 3 → Nat :=
  let c1023_i32_889 : BitVec 32 := 1023#32
  let v1434 : BitVec 32 := Scalar.andi v1433 c1023_i32_889
  let v1506 : Index := Scalar.indexCast v1434
  let c4_934 : Index := 4#32
  let c0_935 : Index := 0#32
  ![v1506.toNat, 4, 0]

def k0_chk77 (v1433 : BitVec 32) : Prop :=
  (∀ a, (k0_off217 v1433) a + S1x1x512.size a ≤ S784x8x512.size a) ∧
  (∀ a, (k0_off228 v1433) a + S1x1x512.size a ≤ S784x8x512.size a)
theorem k0_off217_inb : ∀ (v1433 : BitVec 32) (k0_hw77 : k0_chk77 v1433), ∀ a, (k0_off217 v1433) a + S1x1x512.size a ≤ S784x8x512.size a := fun v1433 k0_hw77 => k0_hw77.1
theorem k0_off228_inb : ∀ (v1433 : BitVec 32) (k0_hw77 : k0_chk77 v1433), ∀ a, (k0_off228 v1433) a + S1x1x512.size a ≤ S784x8x512.size a := fun v1433 k0_hw77 => k0_hw77.2

def k0_off229 (v1448 : BitVec 32) : Fin 3 → Nat :=
  let c1023_i32_899 : BitVec 32 := 1023#32
  let v1449 : BitVec 32 := Scalar.andi v1448 c1023_i32_899
  let v1510 : Index := Scalar.indexCast v1449
  let c5_936 : Index := 5#32
  let c0_937 : Index := 0#32
  ![v1510.toNat, 5, 0]

def k0_chk78 (v1448 : BitVec 32) : Prop :=
  (∀ a, (k0_off219 v1448) a + S1x1x512.size a ≤ S784x8x512.size a) ∧
  (∀ a, (k0_off229 v1448) a + S1x1x512.size a ≤ S784x8x512.size a)
theorem k0_off219_inb : ∀ (v1448 : BitVec 32) (k0_hw78 : k0_chk78 v1448), ∀ a, (k0_off219 v1448) a + S1x1x512.size a ≤ S784x8x512.size a := fun v1448 k0_hw78 => k0_hw78.1
theorem k0_off229_inb : ∀ (v1448 : BitVec 32) (k0_hw78 : k0_chk78 v1448), ∀ a, (k0_off229 v1448) a + S1x1x512.size a ≤ S784x8x512.size a := fun v1448 k0_hw78 => k0_hw78.2

def k0_off230 (v1463 : BitVec 32) : Fin 3 → Nat :=
  let c1023_i32_909 : BitVec 32 := 1023#32
  let v1464 : BitVec 32 := Scalar.andi v1463 c1023_i32_909
  let v1514 : Index := Scalar.indexCast v1464
  let c6_938 : Index := 6#32
  let c0_939 : Index := 0#32
  ![v1514.toNat, 6, 0]

def k0_chk79 (v1463 : BitVec 32) : Prop :=
  (∀ a, (k0_off221 v1463) a + S1x1x512.size a ≤ S784x8x512.size a) ∧
  (∀ a, (k0_off230 v1463) a + S1x1x512.size a ≤ S784x8x512.size a)
theorem k0_off221_inb : ∀ (v1463 : BitVec 32) (k0_hw79 : k0_chk79 v1463), ∀ a, (k0_off221 v1463) a + S1x1x512.size a ≤ S784x8x512.size a := fun v1463 k0_hw79 => k0_hw79.1
theorem k0_off230_inb : ∀ (v1463 : BitVec 32) (k0_hw79 : k0_chk79 v1463), ∀ a, (k0_off230 v1463) a + S1x1x512.size a ≤ S784x8x512.size a := fun v1463 k0_hw79 => k0_hw79.2

def k0_off231 (i : grid0.Coords) : Fin 2 → Nat :=
  let arg0 : BitVec 32 := BitVec.ofNat 32 (i 0).val
  let c8_i32_942 : BitVec 32 := 8#32
  let v1522 : BitVec 32 := Scalar.muli arg0 c8_i32_942
  let c0_i32_943 : BitVec 32 := 0#32
  let v1523 : BitVec 32 := Scalar.addi v1522 c0_i32_943
  let v1524 : Index := Scalar.indexCast v1523
  let c10 : Index := 10#32
  ![v1524.toNat, 10]
def k0_off232 (v1525 : BitVec 32) : Fin 3 → Nat :=
  let c1023_i32_944 : BitVec 32 := 1023#32
  let v1526 : BitVec 32 := Scalar.andi v1525 c1023_i32_944
  let v1533 : Index := Scalar.indexCast v1526
  let c0_949 : Index := 0#32
  let c0_950 : Index := 0#32
  ![v1533.toNat, 0, 0]

def k0_off233 (i : grid0.Coords) : Fin 2 → Nat :=
  let arg0 : BitVec 32 := BitVec.ofNat 32 (i 0).val
  let c8_i32_951 : BitVec 32 := 8#32
  let v1537 : BitVec 32 := Scalar.muli arg0 c8_i32_951
  let c1_i32_952 : BitVec 32 := 1#32
  let v1538 : BitVec 32 := Scalar.addi v1537 c1_i32_952
  let v1539 : Index := Scalar.indexCast v1538
  let c10_953 : Index := 10#32
  ![v1539.toNat, 10]
def k0_off234 (v1540 : BitVec 32) : Fin 3 → Nat :=
  let c1023_i32_954 : BitVec 32 := 1023#32
  let v1541 : BitVec 32 := Scalar.andi v1540 c1023_i32_954
  let v1548 : Index := Scalar.indexCast v1541
  let c1_959 : Index := 1#32
  let c0_960 : Index := 0#32
  ![v1548.toNat, 1, 0]

def k0_off235 (i : grid0.Coords) : Fin 2 → Nat :=
  let arg0 : BitVec 32 := BitVec.ofNat 32 (i 0).val
  let c8_i32_961 : BitVec 32 := 8#32
  let v1552 : BitVec 32 := Scalar.muli arg0 c8_i32_961
  let c2_i32_962 : BitVec 32 := 2#32
  let v1553 : BitVec 32 := Scalar.addi v1552 c2_i32_962
  let v1554 : Index := Scalar.indexCast v1553
  let c10_963 : Index := 10#32
  ![v1554.toNat, 10]
def k0_off236 (v1555 : BitVec 32) : Fin 3 → Nat :=
  let c1023_i32_964 : BitVec 32 := 1023#32
  let v1556 : BitVec 32 := Scalar.andi v1555 c1023_i32_964
  let v1563 : Index := Scalar.indexCast v1556
  let c2_969 : Index := 2#32
  let c0_970 : Index := 0#32
  ![v1563.toNat, 2, 0]

def k0_off237 (i : grid0.Coords) : Fin 2 → Nat :=
  let arg0 : BitVec 32 := BitVec.ofNat 32 (i 0).val
  let c8_i32_971 : BitVec 32 := 8#32
  let v1567 : BitVec 32 := Scalar.muli arg0 c8_i32_971
  let c3_i32_972 : BitVec 32 := 3#32
  let v1568 : BitVec 32 := Scalar.addi v1567 c3_i32_972
  let v1569 : Index := Scalar.indexCast v1568
  let c10_973 : Index := 10#32
  ![v1569.toNat, 10]
def k0_off238 (v1570 : BitVec 32) : Fin 3 → Nat :=
  let c1023_i32_974 : BitVec 32 := 1023#32
  let v1571 : BitVec 32 := Scalar.andi v1570 c1023_i32_974
  let v1578 : Index := Scalar.indexCast v1571
  let c3_979 : Index := 3#32
  let c0_980 : Index := 0#32
  ![v1578.toNat, 3, 0]

def k0_off239 (i : grid0.Coords) : Fin 2 → Nat :=
  let arg0 : BitVec 32 := BitVec.ofNat 32 (i 0).val
  let c8_i32_981 : BitVec 32 := 8#32
  let v1582 : BitVec 32 := Scalar.muli arg0 c8_i32_981
  let c4_i32_982 : BitVec 32 := 4#32
  let v1583 : BitVec 32 := Scalar.addi v1582 c4_i32_982
  let v1584 : Index := Scalar.indexCast v1583
  let c10_983 : Index := 10#32
  ![v1584.toNat, 10]
def k0_off240 (v1585 : BitVec 32) : Fin 3 → Nat :=
  let c1023_i32_984 : BitVec 32 := 1023#32
  let v1586 : BitVec 32 := Scalar.andi v1585 c1023_i32_984
  let v1593 : Index := Scalar.indexCast v1586
  let c4_989 : Index := 4#32
  let c0_990 : Index := 0#32
  ![v1593.toNat, 4, 0]

def k0_off241 (i : grid0.Coords) : Fin 2 → Nat :=
  let arg0 : BitVec 32 := BitVec.ofNat 32 (i 0).val
  let c8_i32_991 : BitVec 32 := 8#32
  let v1597 : BitVec 32 := Scalar.muli arg0 c8_i32_991
  let c5_i32_992 : BitVec 32 := 5#32
  let v1598 : BitVec 32 := Scalar.addi v1597 c5_i32_992
  let v1599 : Index := Scalar.indexCast v1598
  let c10_993 : Index := 10#32
  ![v1599.toNat, 10]
def k0_off242 (v1600 : BitVec 32) : Fin 3 → Nat :=
  let c1023_i32_994 : BitVec 32 := 1023#32
  let v1601 : BitVec 32 := Scalar.andi v1600 c1023_i32_994
  let v1608 : Index := Scalar.indexCast v1601
  let c5_999 : Index := 5#32
  let c0_1000 : Index := 0#32
  ![v1608.toNat, 5, 0]

def k0_off243 (i : grid0.Coords) : Fin 2 → Nat :=
  let arg0 : BitVec 32 := BitVec.ofNat 32 (i 0).val
  let c8_i32_1001 : BitVec 32 := 8#32
  let v1612 : BitVec 32 := Scalar.muli arg0 c8_i32_1001
  let c6_i32_1002 : BitVec 32 := 6#32
  let v1613 : BitVec 32 := Scalar.addi v1612 c6_i32_1002
  let v1614 : Index := Scalar.indexCast v1613
  let c10_1003 : Index := 10#32
  ![v1614.toNat, 10]
def k0_off244 (v1615 : BitVec 32) : Fin 3 → Nat :=
  let c1023_i32_1004 : BitVec 32 := 1023#32
  let v1616 : BitVec 32 := Scalar.andi v1615 c1023_i32_1004
  let v1623 : Index := Scalar.indexCast v1616
  let c6_1009 : Index := 6#32
  let c0_1010 : Index := 0#32
  ![v1623.toNat, 6, 0]

def k0_off245 (i : grid0.Coords) : Fin 2 → Nat :=
  let arg0 : BitVec 32 := BitVec.ofNat 32 (i 0).val
  let c8_i32_1011 : BitVec 32 := 8#32
  let v1627 : BitVec 32 := Scalar.muli arg0 c8_i32_1011
  let c7_i32_1012 : BitVec 32 := 7#32
  let v1628 : BitVec 32 := Scalar.addi v1627 c7_i32_1012
  let v1629 : Index := Scalar.indexCast v1628
  let c10_1013 : Index := 10#32
  ![v1629.toNat, 10]
def k0_off246 (v1630 : BitVec 32) : Fin 3 → Nat :=
  let c1023_i32_1014 : BitVec 32 := 1023#32
  let v1631 : BitVec 32 := Scalar.andi v1630 c1023_i32_1014
  let v1638 : Index := Scalar.indexCast v1631
  let c7_1019 : Index := 7#32
  let c0_1020 : Index := 0#32
  ![v1638.toNat, 7, 0]

def k0_chk88 (v1630 : BitVec 32) : Prop :=
  (∀ a, (k0_off246 v1630) a + S1x1x512.size a ≤ S784x8x512.size a)
theorem k0_off246_inb : ∀ (v1630 : BitVec 32) (k0_hw88 : k0_chk88 v1630), ∀ a, (k0_off246 v1630) a + S1x1x512.size a ≤ S784x8x512.size a := fun v1630 k0_hw88 => k0_hw88

def k0_off247 (v1525 : BitVec 32) : Fin 3 → Nat :=
  let c1023_i32_944 : BitVec 32 := 1023#32
  let v1526 : BitVec 32 := Scalar.andi v1525 c1023_i32_944
  let v1642 : Index := Scalar.indexCast v1526
  let c0_1021 : Index := 0#32
  let c0_1022 : Index := 0#32
  ![v1642.toNat, 0, 0]

def k0_chk81 (v1525 : BitVec 32) : Prop :=
  (∀ a, (k0_off232 v1525) a + S1x1x512.size a ≤ S784x8x512.size a) ∧
  (∀ a, (k0_off247 v1525) a + S1x1x512.size a ≤ S784x8x512.size a)
theorem k0_off232_inb : ∀ (v1525 : BitVec 32) (k0_hw81 : k0_chk81 v1525), ∀ a, (k0_off232 v1525) a + S1x1x512.size a ≤ S784x8x512.size a := fun v1525 k0_hw81 => k0_hw81.1
theorem k0_off247_inb : ∀ (v1525 : BitVec 32) (k0_hw81 : k0_chk81 v1525), ∀ a, (k0_off247 v1525) a + S1x1x512.size a ≤ S784x8x512.size a := fun v1525 k0_hw81 => k0_hw81.2

def k0_off248 (v1540 : BitVec 32) : Fin 3 → Nat :=
  let c1023_i32_954 : BitVec 32 := 1023#32
  let v1541 : BitVec 32 := Scalar.andi v1540 c1023_i32_954
  let v1646 : Index := Scalar.indexCast v1541
  let c1_1023 : Index := 1#32
  let c0_1024 : Index := 0#32
  ![v1646.toNat, 1, 0]

def k0_chk82 (v1540 : BitVec 32) : Prop :=
  (∀ a, (k0_off234 v1540) a + S1x1x512.size a ≤ S784x8x512.size a) ∧
  (∀ a, (k0_off248 v1540) a + S1x1x512.size a ≤ S784x8x512.size a)
theorem k0_off234_inb : ∀ (v1540 : BitVec 32) (k0_hw82 : k0_chk82 v1540), ∀ a, (k0_off234 v1540) a + S1x1x512.size a ≤ S784x8x512.size a := fun v1540 k0_hw82 => k0_hw82.1
theorem k0_off248_inb : ∀ (v1540 : BitVec 32) (k0_hw82 : k0_chk82 v1540), ∀ a, (k0_off248 v1540) a + S1x1x512.size a ≤ S784x8x512.size a := fun v1540 k0_hw82 => k0_hw82.2

def k0_off249 (v1555 : BitVec 32) : Fin 3 → Nat :=
  let c1023_i32_964 : BitVec 32 := 1023#32
  let v1556 : BitVec 32 := Scalar.andi v1555 c1023_i32_964
  let v1650 : Index := Scalar.indexCast v1556
  let c2_1025 : Index := 2#32
  let c0_1026 : Index := 0#32
  ![v1650.toNat, 2, 0]

def k0_chk83 (v1555 : BitVec 32) : Prop :=
  (∀ a, (k0_off236 v1555) a + S1x1x512.size a ≤ S784x8x512.size a) ∧
  (∀ a, (k0_off249 v1555) a + S1x1x512.size a ≤ S784x8x512.size a)
theorem k0_off236_inb : ∀ (v1555 : BitVec 32) (k0_hw83 : k0_chk83 v1555), ∀ a, (k0_off236 v1555) a + S1x1x512.size a ≤ S784x8x512.size a := fun v1555 k0_hw83 => k0_hw83.1
theorem k0_off249_inb : ∀ (v1555 : BitVec 32) (k0_hw83 : k0_chk83 v1555), ∀ a, (k0_off249 v1555) a + S1x1x512.size a ≤ S784x8x512.size a := fun v1555 k0_hw83 => k0_hw83.2

def k0_off250 (v1570 : BitVec 32) : Fin 3 → Nat :=
  let c1023_i32_974 : BitVec 32 := 1023#32
  let v1571 : BitVec 32 := Scalar.andi v1570 c1023_i32_974
  let v1654 : Index := Scalar.indexCast v1571
  let c3_1027 : Index := 3#32
  let c0_1028 : Index := 0#32
  ![v1654.toNat, 3, 0]

def k0_chk84 (v1570 : BitVec 32) : Prop :=
  (∀ a, (k0_off238 v1570) a + S1x1x512.size a ≤ S784x8x512.size a) ∧
  (∀ a, (k0_off250 v1570) a + S1x1x512.size a ≤ S784x8x512.size a)
theorem k0_off238_inb : ∀ (v1570 : BitVec 32) (k0_hw84 : k0_chk84 v1570), ∀ a, (k0_off238 v1570) a + S1x1x512.size a ≤ S784x8x512.size a := fun v1570 k0_hw84 => k0_hw84.1
theorem k0_off250_inb : ∀ (v1570 : BitVec 32) (k0_hw84 : k0_chk84 v1570), ∀ a, (k0_off250 v1570) a + S1x1x512.size a ≤ S784x8x512.size a := fun v1570 k0_hw84 => k0_hw84.2

def k0_off251 (v1585 : BitVec 32) : Fin 3 → Nat :=
  let c1023_i32_984 : BitVec 32 := 1023#32
  let v1586 : BitVec 32 := Scalar.andi v1585 c1023_i32_984
  let v1658 : Index := Scalar.indexCast v1586
  let c4_1029 : Index := 4#32
  let c0_1030 : Index := 0#32
  ![v1658.toNat, 4, 0]

def k0_chk85 (v1585 : BitVec 32) : Prop :=
  (∀ a, (k0_off240 v1585) a + S1x1x512.size a ≤ S784x8x512.size a) ∧
  (∀ a, (k0_off251 v1585) a + S1x1x512.size a ≤ S784x8x512.size a)
theorem k0_off240_inb : ∀ (v1585 : BitVec 32) (k0_hw85 : k0_chk85 v1585), ∀ a, (k0_off240 v1585) a + S1x1x512.size a ≤ S784x8x512.size a := fun v1585 k0_hw85 => k0_hw85.1
theorem k0_off251_inb : ∀ (v1585 : BitVec 32) (k0_hw85 : k0_chk85 v1585), ∀ a, (k0_off251 v1585) a + S1x1x512.size a ≤ S784x8x512.size a := fun v1585 k0_hw85 => k0_hw85.2

def k0_off252 (v1600 : BitVec 32) : Fin 3 → Nat :=
  let c1023_i32_994 : BitVec 32 := 1023#32
  let v1601 : BitVec 32 := Scalar.andi v1600 c1023_i32_994
  let v1662 : Index := Scalar.indexCast v1601
  let c5_1031 : Index := 5#32
  let c0_1032 : Index := 0#32
  ![v1662.toNat, 5, 0]

def k0_chk86 (v1600 : BitVec 32) : Prop :=
  (∀ a, (k0_off242 v1600) a + S1x1x512.size a ≤ S784x8x512.size a) ∧
  (∀ a, (k0_off252 v1600) a + S1x1x512.size a ≤ S784x8x512.size a)
theorem k0_off242_inb : ∀ (v1600 : BitVec 32) (k0_hw86 : k0_chk86 v1600), ∀ a, (k0_off242 v1600) a + S1x1x512.size a ≤ S784x8x512.size a := fun v1600 k0_hw86 => k0_hw86.1
theorem k0_off252_inb : ∀ (v1600 : BitVec 32) (k0_hw86 : k0_chk86 v1600), ∀ a, (k0_off252 v1600) a + S1x1x512.size a ≤ S784x8x512.size a := fun v1600 k0_hw86 => k0_hw86.2

def k0_off253 (v1615 : BitVec 32) : Fin 3 → Nat :=
  let c1023_i32_1004 : BitVec 32 := 1023#32
  let v1616 : BitVec 32 := Scalar.andi v1615 c1023_i32_1004
  let v1666 : Index := Scalar.indexCast v1616
  let c6_1033 : Index := 6#32
  let c0_1034 : Index := 0#32
  ![v1666.toNat, 6, 0]

def k0_chk87 (v1615 : BitVec 32) : Prop :=
  (∀ a, (k0_off244 v1615) a + S1x1x512.size a ≤ S784x8x512.size a) ∧
  (∀ a, (k0_off253 v1615) a + S1x1x512.size a ≤ S784x8x512.size a)
theorem k0_off244_inb : ∀ (v1615 : BitVec 32) (k0_hw87 : k0_chk87 v1615), ∀ a, (k0_off244 v1615) a + S1x1x512.size a ≤ S784x8x512.size a := fun v1615 k0_hw87 => k0_hw87.1
theorem k0_off253_inb : ∀ (v1615 : BitVec 32) (k0_hw87 : k0_chk87 v1615), ∀ a, (k0_off253 v1615) a + S1x1x512.size a ≤ S784x8x512.size a := fun v1615 k0_hw87 => k0_hw87.2

def k0_off254 (i : grid0.Coords) : Fin 2 → Nat :=
  let arg0 : BitVec 32 := BitVec.ofNat 32 (i 0).val
  let c8_i32_1037 : BitVec 32 := 8#32
  let v1674 : BitVec 32 := Scalar.muli arg0 c8_i32_1037
  let c0_i32_1038 : BitVec 32 := 0#32
  let v1675 : BitVec 32 := Scalar.addi v1674 c0_i32_1038
  let v1676 : Index := Scalar.indexCast v1675
  let c11 : Index := 11#32
  ![v1676.toNat, 11]
def k0_off255 (v1677 : BitVec 32) : Fin 3 → Nat :=
  let c1023_i32_1039 : BitVec 32 := 1023#32
  let v1678 : BitVec 32 := Scalar.andi v1677 c1023_i32_1039
  let v1685 : Index := Scalar.indexCast v1678
  let c0_1044 : Index := 0#32
  let c0_1045 : Index := 0#32
  ![v1685.toNat, 0, 0]

def k0_off256 (i : grid0.Coords) : Fin 2 → Nat :=
  let arg0 : BitVec 32 := BitVec.ofNat 32 (i 0).val
  let c8_i32_1046 : BitVec 32 := 8#32
  let v1689 : BitVec 32 := Scalar.muli arg0 c8_i32_1046
  let c1_i32_1047 : BitVec 32 := 1#32
  let v1690 : BitVec 32 := Scalar.addi v1689 c1_i32_1047
  let v1691 : Index := Scalar.indexCast v1690
  let c11_1048 : Index := 11#32
  ![v1691.toNat, 11]
def k0_off257 (v1692 : BitVec 32) : Fin 3 → Nat :=
  let c1023_i32_1049 : BitVec 32 := 1023#32
  let v1693 : BitVec 32 := Scalar.andi v1692 c1023_i32_1049
  let v1700 : Index := Scalar.indexCast v1693
  let c1_1054 : Index := 1#32
  let c0_1055 : Index := 0#32
  ![v1700.toNat, 1, 0]

def k0_off258 (i : grid0.Coords) : Fin 2 → Nat :=
  let arg0 : BitVec 32 := BitVec.ofNat 32 (i 0).val
  let c8_i32_1056 : BitVec 32 := 8#32
  let v1704 : BitVec 32 := Scalar.muli arg0 c8_i32_1056
  let c2_i32_1057 : BitVec 32 := 2#32
  let v1705 : BitVec 32 := Scalar.addi v1704 c2_i32_1057
  let v1706 : Index := Scalar.indexCast v1705
  let c11_1058 : Index := 11#32
  ![v1706.toNat, 11]
def k0_off259 (v1707 : BitVec 32) : Fin 3 → Nat :=
  let c1023_i32_1059 : BitVec 32 := 1023#32
  let v1708 : BitVec 32 := Scalar.andi v1707 c1023_i32_1059
  let v1715 : Index := Scalar.indexCast v1708
  let c2_1064 : Index := 2#32
  let c0_1065 : Index := 0#32
  ![v1715.toNat, 2, 0]

def k0_off260 (i : grid0.Coords) : Fin 2 → Nat :=
  let arg0 : BitVec 32 := BitVec.ofNat 32 (i 0).val
  let c8_i32_1066 : BitVec 32 := 8#32
  let v1719 : BitVec 32 := Scalar.muli arg0 c8_i32_1066
  let c3_i32_1067 : BitVec 32 := 3#32
  let v1720 : BitVec 32 := Scalar.addi v1719 c3_i32_1067
  let v1721 : Index := Scalar.indexCast v1720
  let c11_1068 : Index := 11#32
  ![v1721.toNat, 11]
def k0_off261 (v1722 : BitVec 32) : Fin 3 → Nat :=
  let c1023_i32_1069 : BitVec 32 := 1023#32
  let v1723 : BitVec 32 := Scalar.andi v1722 c1023_i32_1069
  let v1730 : Index := Scalar.indexCast v1723
  let c3_1074 : Index := 3#32
  let c0_1075 : Index := 0#32
  ![v1730.toNat, 3, 0]

def k0_off262 (i : grid0.Coords) : Fin 2 → Nat :=
  let arg0 : BitVec 32 := BitVec.ofNat 32 (i 0).val
  let c8_i32_1076 : BitVec 32 := 8#32
  let v1734 : BitVec 32 := Scalar.muli arg0 c8_i32_1076
  let c4_i32_1077 : BitVec 32 := 4#32
  let v1735 : BitVec 32 := Scalar.addi v1734 c4_i32_1077
  let v1736 : Index := Scalar.indexCast v1735
  let c11_1078 : Index := 11#32
  ![v1736.toNat, 11]
def k0_off263 (v1737 : BitVec 32) : Fin 3 → Nat :=
  let c1023_i32_1079 : BitVec 32 := 1023#32
  let v1738 : BitVec 32 := Scalar.andi v1737 c1023_i32_1079
  let v1745 : Index := Scalar.indexCast v1738
  let c4_1084 : Index := 4#32
  let c0_1085 : Index := 0#32
  ![v1745.toNat, 4, 0]

def k0_off264 (i : grid0.Coords) : Fin 2 → Nat :=
  let arg0 : BitVec 32 := BitVec.ofNat 32 (i 0).val
  let c8_i32_1086 : BitVec 32 := 8#32
  let v1749 : BitVec 32 := Scalar.muli arg0 c8_i32_1086
  let c5_i32_1087 : BitVec 32 := 5#32
  let v1750 : BitVec 32 := Scalar.addi v1749 c5_i32_1087
  let v1751 : Index := Scalar.indexCast v1750
  let c11_1088 : Index := 11#32
  ![v1751.toNat, 11]
def k0_off265 (v1752 : BitVec 32) : Fin 3 → Nat :=
  let c1023_i32_1089 : BitVec 32 := 1023#32
  let v1753 : BitVec 32 := Scalar.andi v1752 c1023_i32_1089
  let v1760 : Index := Scalar.indexCast v1753
  let c5_1094 : Index := 5#32
  let c0_1095 : Index := 0#32
  ![v1760.toNat, 5, 0]

def k0_off266 (i : grid0.Coords) : Fin 2 → Nat :=
  let arg0 : BitVec 32 := BitVec.ofNat 32 (i 0).val
  let c8_i32_1096 : BitVec 32 := 8#32
  let v1764 : BitVec 32 := Scalar.muli arg0 c8_i32_1096
  let c6_i32_1097 : BitVec 32 := 6#32
  let v1765 : BitVec 32 := Scalar.addi v1764 c6_i32_1097
  let v1766 : Index := Scalar.indexCast v1765
  let c11_1098 : Index := 11#32
  ![v1766.toNat, 11]
def k0_off267 (v1767 : BitVec 32) : Fin 3 → Nat :=
  let c1023_i32_1099 : BitVec 32 := 1023#32
  let v1768 : BitVec 32 := Scalar.andi v1767 c1023_i32_1099
  let v1775 : Index := Scalar.indexCast v1768
  let c6_1104 : Index := 6#32
  let c0_1105 : Index := 0#32
  ![v1775.toNat, 6, 0]

def k0_off268 (i : grid0.Coords) : Fin 2 → Nat :=
  let arg0 : BitVec 32 := BitVec.ofNat 32 (i 0).val
  let c8_i32_1106 : BitVec 32 := 8#32
  let v1779 : BitVec 32 := Scalar.muli arg0 c8_i32_1106
  let c7_i32_1107 : BitVec 32 := 7#32
  let v1780 : BitVec 32 := Scalar.addi v1779 c7_i32_1107
  let v1781 : Index := Scalar.indexCast v1780
  let c11_1108 : Index := 11#32
  ![v1781.toNat, 11]
def k0_off269 (v1782 : BitVec 32) : Fin 3 → Nat :=
  let c1023_i32_1109 : BitVec 32 := 1023#32
  let v1783 : BitVec 32 := Scalar.andi v1782 c1023_i32_1109
  let v1790 : Index := Scalar.indexCast v1783
  let c7_1114 : Index := 7#32
  let c0_1115 : Index := 0#32
  ![v1790.toNat, 7, 0]

def k0_chk96 (v1782 : BitVec 32) : Prop :=
  (∀ a, (k0_off269 v1782) a + S1x1x512.size a ≤ S784x8x512.size a)
theorem k0_off269_inb : ∀ (v1782 : BitVec 32) (k0_hw96 : k0_chk96 v1782), ∀ a, (k0_off269 v1782) a + S1x1x512.size a ≤ S784x8x512.size a := fun v1782 k0_hw96 => k0_hw96

def k0_off270 (v1677 : BitVec 32) : Fin 3 → Nat :=
  let c1023_i32_1039 : BitVec 32 := 1023#32
  let v1678 : BitVec 32 := Scalar.andi v1677 c1023_i32_1039
  let v1794 : Index := Scalar.indexCast v1678
  let c0_1116 : Index := 0#32
  let c0_1117 : Index := 0#32
  ![v1794.toNat, 0, 0]

def k0_chk89 (v1677 : BitVec 32) : Prop :=
  (∀ a, (k0_off255 v1677) a + S1x1x512.size a ≤ S784x8x512.size a) ∧
  (∀ a, (k0_off270 v1677) a + S1x1x512.size a ≤ S784x8x512.size a)
theorem k0_off255_inb : ∀ (v1677 : BitVec 32) (k0_hw89 : k0_chk89 v1677), ∀ a, (k0_off255 v1677) a + S1x1x512.size a ≤ S784x8x512.size a := fun v1677 k0_hw89 => k0_hw89.1
theorem k0_off270_inb : ∀ (v1677 : BitVec 32) (k0_hw89 : k0_chk89 v1677), ∀ a, (k0_off270 v1677) a + S1x1x512.size a ≤ S784x8x512.size a := fun v1677 k0_hw89 => k0_hw89.2

def k0_off271 (v1692 : BitVec 32) : Fin 3 → Nat :=
  let c1023_i32_1049 : BitVec 32 := 1023#32
  let v1693 : BitVec 32 := Scalar.andi v1692 c1023_i32_1049
  let v1798 : Index := Scalar.indexCast v1693
  let c1_1118 : Index := 1#32
  let c0_1119 : Index := 0#32
  ![v1798.toNat, 1, 0]

def k0_chk90 (v1692 : BitVec 32) : Prop :=
  (∀ a, (k0_off257 v1692) a + S1x1x512.size a ≤ S784x8x512.size a) ∧
  (∀ a, (k0_off271 v1692) a + S1x1x512.size a ≤ S784x8x512.size a)
theorem k0_off257_inb : ∀ (v1692 : BitVec 32) (k0_hw90 : k0_chk90 v1692), ∀ a, (k0_off257 v1692) a + S1x1x512.size a ≤ S784x8x512.size a := fun v1692 k0_hw90 => k0_hw90.1
theorem k0_off271_inb : ∀ (v1692 : BitVec 32) (k0_hw90 : k0_chk90 v1692), ∀ a, (k0_off271 v1692) a + S1x1x512.size a ≤ S784x8x512.size a := fun v1692 k0_hw90 => k0_hw90.2

def k0_off272 (v1707 : BitVec 32) : Fin 3 → Nat :=
  let c1023_i32_1059 : BitVec 32 := 1023#32
  let v1708 : BitVec 32 := Scalar.andi v1707 c1023_i32_1059
  let v1802 : Index := Scalar.indexCast v1708
  let c2_1120 : Index := 2#32
  let c0_1121 : Index := 0#32
  ![v1802.toNat, 2, 0]

def k0_chk91 (v1707 : BitVec 32) : Prop :=
  (∀ a, (k0_off259 v1707) a + S1x1x512.size a ≤ S784x8x512.size a) ∧
  (∀ a, (k0_off272 v1707) a + S1x1x512.size a ≤ S784x8x512.size a)
theorem k0_off259_inb : ∀ (v1707 : BitVec 32) (k0_hw91 : k0_chk91 v1707), ∀ a, (k0_off259 v1707) a + S1x1x512.size a ≤ S784x8x512.size a := fun v1707 k0_hw91 => k0_hw91.1
theorem k0_off272_inb : ∀ (v1707 : BitVec 32) (k0_hw91 : k0_chk91 v1707), ∀ a, (k0_off272 v1707) a + S1x1x512.size a ≤ S784x8x512.size a := fun v1707 k0_hw91 => k0_hw91.2

def k0_off273 (v1722 : BitVec 32) : Fin 3 → Nat :=
  let c1023_i32_1069 : BitVec 32 := 1023#32
  let v1723 : BitVec 32 := Scalar.andi v1722 c1023_i32_1069
  let v1806 : Index := Scalar.indexCast v1723
  let c3_1122 : Index := 3#32
  let c0_1123 : Index := 0#32
  ![v1806.toNat, 3, 0]

def k0_chk92 (v1722 : BitVec 32) : Prop :=
  (∀ a, (k0_off261 v1722) a + S1x1x512.size a ≤ S784x8x512.size a) ∧
  (∀ a, (k0_off273 v1722) a + S1x1x512.size a ≤ S784x8x512.size a)
theorem k0_off261_inb : ∀ (v1722 : BitVec 32) (k0_hw92 : k0_chk92 v1722), ∀ a, (k0_off261 v1722) a + S1x1x512.size a ≤ S784x8x512.size a := fun v1722 k0_hw92 => k0_hw92.1
theorem k0_off273_inb : ∀ (v1722 : BitVec 32) (k0_hw92 : k0_chk92 v1722), ∀ a, (k0_off273 v1722) a + S1x1x512.size a ≤ S784x8x512.size a := fun v1722 k0_hw92 => k0_hw92.2

def k0_off274 (v1737 : BitVec 32) : Fin 3 → Nat :=
  let c1023_i32_1079 : BitVec 32 := 1023#32
  let v1738 : BitVec 32 := Scalar.andi v1737 c1023_i32_1079
  let v1810 : Index := Scalar.indexCast v1738
  let c4_1124 : Index := 4#32
  let c0_1125 : Index := 0#32
  ![v1810.toNat, 4, 0]

def k0_chk93 (v1737 : BitVec 32) : Prop :=
  (∀ a, (k0_off263 v1737) a + S1x1x512.size a ≤ S784x8x512.size a) ∧
  (∀ a, (k0_off274 v1737) a + S1x1x512.size a ≤ S784x8x512.size a)
theorem k0_off263_inb : ∀ (v1737 : BitVec 32) (k0_hw93 : k0_chk93 v1737), ∀ a, (k0_off263 v1737) a + S1x1x512.size a ≤ S784x8x512.size a := fun v1737 k0_hw93 => k0_hw93.1
theorem k0_off274_inb : ∀ (v1737 : BitVec 32) (k0_hw93 : k0_chk93 v1737), ∀ a, (k0_off274 v1737) a + S1x1x512.size a ≤ S784x8x512.size a := fun v1737 k0_hw93 => k0_hw93.2

def k0_off275 (v1752 : BitVec 32) : Fin 3 → Nat :=
  let c1023_i32_1089 : BitVec 32 := 1023#32
  let v1753 : BitVec 32 := Scalar.andi v1752 c1023_i32_1089
  let v1814 : Index := Scalar.indexCast v1753
  let c5_1126 : Index := 5#32
  let c0_1127 : Index := 0#32
  ![v1814.toNat, 5, 0]

def k0_chk94 (v1752 : BitVec 32) : Prop :=
  (∀ a, (k0_off265 v1752) a + S1x1x512.size a ≤ S784x8x512.size a) ∧
  (∀ a, (k0_off275 v1752) a + S1x1x512.size a ≤ S784x8x512.size a)
theorem k0_off265_inb : ∀ (v1752 : BitVec 32) (k0_hw94 : k0_chk94 v1752), ∀ a, (k0_off265 v1752) a + S1x1x512.size a ≤ S784x8x512.size a := fun v1752 k0_hw94 => k0_hw94.1
theorem k0_off275_inb : ∀ (v1752 : BitVec 32) (k0_hw94 : k0_chk94 v1752), ∀ a, (k0_off275 v1752) a + S1x1x512.size a ≤ S784x8x512.size a := fun v1752 k0_hw94 => k0_hw94.2

def k0_off276 (v1767 : BitVec 32) : Fin 3 → Nat :=
  let c1023_i32_1099 : BitVec 32 := 1023#32
  let v1768 : BitVec 32 := Scalar.andi v1767 c1023_i32_1099
  let v1818 : Index := Scalar.indexCast v1768
  let c6_1128 : Index := 6#32
  let c0_1129 : Index := 0#32
  ![v1818.toNat, 6, 0]

def k0_chk95 (v1767 : BitVec 32) : Prop :=
  (∀ a, (k0_off267 v1767) a + S1x1x512.size a ≤ S784x8x512.size a) ∧
  (∀ a, (k0_off276 v1767) a + S1x1x512.size a ≤ S784x8x512.size a)
theorem k0_off267_inb : ∀ (v1767 : BitVec 32) (k0_hw95 : k0_chk95 v1767), ∀ a, (k0_off267 v1767) a + S1x1x512.size a ≤ S784x8x512.size a := fun v1767 k0_hw95 => k0_hw95.1
theorem k0_off276_inb : ∀ (v1767 : BitVec 32) (k0_hw95 : k0_chk95 v1767), ∀ a, (k0_off276 v1767) a + S1x1x512.size a ≤ S784x8x512.size a := fun v1767 k0_hw95 => k0_hw95.2

def k0_off277 (i : grid0.Coords) : Fin 2 → Nat :=
  let arg0 : BitVec 32 := BitVec.ofNat 32 (i 0).val
  let c8_i32_1132 : BitVec 32 := 8#32
  let v1826 : BitVec 32 := Scalar.muli arg0 c8_i32_1132
  let c0_i32_1133 : BitVec 32 := 0#32
  let v1827 : BitVec 32 := Scalar.addi v1826 c0_i32_1133
  let v1828 : Index := Scalar.indexCast v1827
  let c12 : Index := 12#32
  ![v1828.toNat, 12]
def k0_off278 (v1829 : BitVec 32) : Fin 3 → Nat :=
  let c1023_i32_1134 : BitVec 32 := 1023#32
  let v1830 : BitVec 32 := Scalar.andi v1829 c1023_i32_1134
  let v1837 : Index := Scalar.indexCast v1830
  let c0_1139 : Index := 0#32
  let c0_1140 : Index := 0#32
  ![v1837.toNat, 0, 0]

def k0_off279 (i : grid0.Coords) : Fin 2 → Nat :=
  let arg0 : BitVec 32 := BitVec.ofNat 32 (i 0).val
  let c8_i32_1141 : BitVec 32 := 8#32
  let v1841 : BitVec 32 := Scalar.muli arg0 c8_i32_1141
  let c1_i32_1142 : BitVec 32 := 1#32
  let v1842 : BitVec 32 := Scalar.addi v1841 c1_i32_1142
  let v1843 : Index := Scalar.indexCast v1842
  let c12_1143 : Index := 12#32
  ![v1843.toNat, 12]
def k0_off280 (v1844 : BitVec 32) : Fin 3 → Nat :=
  let c1023_i32_1144 : BitVec 32 := 1023#32
  let v1845 : BitVec 32 := Scalar.andi v1844 c1023_i32_1144
  let v1852 : Index := Scalar.indexCast v1845
  let c1_1149 : Index := 1#32
  let c0_1150 : Index := 0#32
  ![v1852.toNat, 1, 0]

def k0_off281 (i : grid0.Coords) : Fin 2 → Nat :=
  let arg0 : BitVec 32 := BitVec.ofNat 32 (i 0).val
  let c8_i32_1151 : BitVec 32 := 8#32
  let v1856 : BitVec 32 := Scalar.muli arg0 c8_i32_1151
  let c2_i32_1152 : BitVec 32 := 2#32
  let v1857 : BitVec 32 := Scalar.addi v1856 c2_i32_1152
  let v1858 : Index := Scalar.indexCast v1857
  let c12_1153 : Index := 12#32
  ![v1858.toNat, 12]
def k0_off282 (v1859 : BitVec 32) : Fin 3 → Nat :=
  let c1023_i32_1154 : BitVec 32 := 1023#32
  let v1860 : BitVec 32 := Scalar.andi v1859 c1023_i32_1154
  let v1867 : Index := Scalar.indexCast v1860
  let c2_1159 : Index := 2#32
  let c0_1160 : Index := 0#32
  ![v1867.toNat, 2, 0]

def k0_off283 (i : grid0.Coords) : Fin 2 → Nat :=
  let arg0 : BitVec 32 := BitVec.ofNat 32 (i 0).val
  let c8_i32_1161 : BitVec 32 := 8#32
  let v1871 : BitVec 32 := Scalar.muli arg0 c8_i32_1161
  let c3_i32_1162 : BitVec 32 := 3#32
  let v1872 : BitVec 32 := Scalar.addi v1871 c3_i32_1162
  let v1873 : Index := Scalar.indexCast v1872
  let c12_1163 : Index := 12#32
  ![v1873.toNat, 12]
def k0_off284 (v1874 : BitVec 32) : Fin 3 → Nat :=
  let c1023_i32_1164 : BitVec 32 := 1023#32
  let v1875 : BitVec 32 := Scalar.andi v1874 c1023_i32_1164
  let v1882 : Index := Scalar.indexCast v1875
  let c3_1169 : Index := 3#32
  let c0_1170 : Index := 0#32
  ![v1882.toNat, 3, 0]

def k0_off285 (i : grid0.Coords) : Fin 2 → Nat :=
  let arg0 : BitVec 32 := BitVec.ofNat 32 (i 0).val
  let c8_i32_1171 : BitVec 32 := 8#32
  let v1886 : BitVec 32 := Scalar.muli arg0 c8_i32_1171
  let c4_i32_1172 : BitVec 32 := 4#32
  let v1887 : BitVec 32 := Scalar.addi v1886 c4_i32_1172
  let v1888 : Index := Scalar.indexCast v1887
  let c12_1173 : Index := 12#32
  ![v1888.toNat, 12]
def k0_off286 (v1889 : BitVec 32) : Fin 3 → Nat :=
  let c1023_i32_1174 : BitVec 32 := 1023#32
  let v1890 : BitVec 32 := Scalar.andi v1889 c1023_i32_1174
  let v1897 : Index := Scalar.indexCast v1890
  let c4_1179 : Index := 4#32
  let c0_1180 : Index := 0#32
  ![v1897.toNat, 4, 0]

def k0_off287 (i : grid0.Coords) : Fin 2 → Nat :=
  let arg0 : BitVec 32 := BitVec.ofNat 32 (i 0).val
  let c8_i32_1181 : BitVec 32 := 8#32
  let v1901 : BitVec 32 := Scalar.muli arg0 c8_i32_1181
  let c5_i32_1182 : BitVec 32 := 5#32
  let v1902 : BitVec 32 := Scalar.addi v1901 c5_i32_1182
  let v1903 : Index := Scalar.indexCast v1902
  let c12_1183 : Index := 12#32
  ![v1903.toNat, 12]
def k0_off288 (v1904 : BitVec 32) : Fin 3 → Nat :=
  let c1023_i32_1184 : BitVec 32 := 1023#32
  let v1905 : BitVec 32 := Scalar.andi v1904 c1023_i32_1184
  let v1912 : Index := Scalar.indexCast v1905
  let c5_1189 : Index := 5#32
  let c0_1190 : Index := 0#32
  ![v1912.toNat, 5, 0]

def k0_off289 (i : grid0.Coords) : Fin 2 → Nat :=
  let arg0 : BitVec 32 := BitVec.ofNat 32 (i 0).val
  let c8_i32_1191 : BitVec 32 := 8#32
  let v1916 : BitVec 32 := Scalar.muli arg0 c8_i32_1191
  let c6_i32_1192 : BitVec 32 := 6#32
  let v1917 : BitVec 32 := Scalar.addi v1916 c6_i32_1192
  let v1918 : Index := Scalar.indexCast v1917
  let c12_1193 : Index := 12#32
  ![v1918.toNat, 12]
def k0_off290 (v1919 : BitVec 32) : Fin 3 → Nat :=
  let c1023_i32_1194 : BitVec 32 := 1023#32
  let v1920 : BitVec 32 := Scalar.andi v1919 c1023_i32_1194
  let v1927 : Index := Scalar.indexCast v1920
  let c6_1199 : Index := 6#32
  let c0_1200 : Index := 0#32
  ![v1927.toNat, 6, 0]

def k0_off291 (i : grid0.Coords) : Fin 2 → Nat :=
  let arg0 : BitVec 32 := BitVec.ofNat 32 (i 0).val
  let c8_i32_1201 : BitVec 32 := 8#32
  let v1931 : BitVec 32 := Scalar.muli arg0 c8_i32_1201
  let c7_i32_1202 : BitVec 32 := 7#32
  let v1932 : BitVec 32 := Scalar.addi v1931 c7_i32_1202
  let v1933 : Index := Scalar.indexCast v1932
  let c12_1203 : Index := 12#32
  ![v1933.toNat, 12]
def k0_off292 (v1934 : BitVec 32) : Fin 3 → Nat :=
  let c1023_i32_1204 : BitVec 32 := 1023#32
  let v1935 : BitVec 32 := Scalar.andi v1934 c1023_i32_1204
  let v1942 : Index := Scalar.indexCast v1935
  let c7_1209 : Index := 7#32
  let c0_1210 : Index := 0#32
  ![v1942.toNat, 7, 0]

def k0_chk104 (v1934 : BitVec 32) : Prop :=
  (∀ a, (k0_off292 v1934) a + S1x1x512.size a ≤ S784x8x512.size a)
theorem k0_off292_inb : ∀ (v1934 : BitVec 32) (k0_hw104 : k0_chk104 v1934), ∀ a, (k0_off292 v1934) a + S1x1x512.size a ≤ S784x8x512.size a := fun v1934 k0_hw104 => k0_hw104

def k0_off293 (v1829 : BitVec 32) : Fin 3 → Nat :=
  let c1023_i32_1134 : BitVec 32 := 1023#32
  let v1830 : BitVec 32 := Scalar.andi v1829 c1023_i32_1134
  let v1946 : Index := Scalar.indexCast v1830
  let c0_1211 : Index := 0#32
  let c0_1212 : Index := 0#32
  ![v1946.toNat, 0, 0]

def k0_chk97 (v1829 : BitVec 32) : Prop :=
  (∀ a, (k0_off278 v1829) a + S1x1x512.size a ≤ S784x8x512.size a) ∧
  (∀ a, (k0_off293 v1829) a + S1x1x512.size a ≤ S784x8x512.size a)
theorem k0_off278_inb : ∀ (v1829 : BitVec 32) (k0_hw97 : k0_chk97 v1829), ∀ a, (k0_off278 v1829) a + S1x1x512.size a ≤ S784x8x512.size a := fun v1829 k0_hw97 => k0_hw97.1
theorem k0_off293_inb : ∀ (v1829 : BitVec 32) (k0_hw97 : k0_chk97 v1829), ∀ a, (k0_off293 v1829) a + S1x1x512.size a ≤ S784x8x512.size a := fun v1829 k0_hw97 => k0_hw97.2

def k0_off294 (v1844 : BitVec 32) : Fin 3 → Nat :=
  let c1023_i32_1144 : BitVec 32 := 1023#32
  let v1845 : BitVec 32 := Scalar.andi v1844 c1023_i32_1144
  let v1950 : Index := Scalar.indexCast v1845
  let c1_1213 : Index := 1#32
  let c0_1214 : Index := 0#32
  ![v1950.toNat, 1, 0]

def k0_chk98 (v1844 : BitVec 32) : Prop :=
  (∀ a, (k0_off280 v1844) a + S1x1x512.size a ≤ S784x8x512.size a) ∧
  (∀ a, (k0_off294 v1844) a + S1x1x512.size a ≤ S784x8x512.size a)
theorem k0_off280_inb : ∀ (v1844 : BitVec 32) (k0_hw98 : k0_chk98 v1844), ∀ a, (k0_off280 v1844) a + S1x1x512.size a ≤ S784x8x512.size a := fun v1844 k0_hw98 => k0_hw98.1
theorem k0_off294_inb : ∀ (v1844 : BitVec 32) (k0_hw98 : k0_chk98 v1844), ∀ a, (k0_off294 v1844) a + S1x1x512.size a ≤ S784x8x512.size a := fun v1844 k0_hw98 => k0_hw98.2

def k0_off295 (v1859 : BitVec 32) : Fin 3 → Nat :=
  let c1023_i32_1154 : BitVec 32 := 1023#32
  let v1860 : BitVec 32 := Scalar.andi v1859 c1023_i32_1154
  let v1954 : Index := Scalar.indexCast v1860
  let c2_1215 : Index := 2#32
  let c0_1216 : Index := 0#32
  ![v1954.toNat, 2, 0]

def k0_chk99 (v1859 : BitVec 32) : Prop :=
  (∀ a, (k0_off282 v1859) a + S1x1x512.size a ≤ S784x8x512.size a) ∧
  (∀ a, (k0_off295 v1859) a + S1x1x512.size a ≤ S784x8x512.size a)
theorem k0_off282_inb : ∀ (v1859 : BitVec 32) (k0_hw99 : k0_chk99 v1859), ∀ a, (k0_off282 v1859) a + S1x1x512.size a ≤ S784x8x512.size a := fun v1859 k0_hw99 => k0_hw99.1
theorem k0_off295_inb : ∀ (v1859 : BitVec 32) (k0_hw99 : k0_chk99 v1859), ∀ a, (k0_off295 v1859) a + S1x1x512.size a ≤ S784x8x512.size a := fun v1859 k0_hw99 => k0_hw99.2

def k0_off296 (v1874 : BitVec 32) : Fin 3 → Nat :=
  let c1023_i32_1164 : BitVec 32 := 1023#32
  let v1875 : BitVec 32 := Scalar.andi v1874 c1023_i32_1164
  let v1958 : Index := Scalar.indexCast v1875
  let c3_1217 : Index := 3#32
  let c0_1218 : Index := 0#32
  ![v1958.toNat, 3, 0]

def k0_chk100 (v1874 : BitVec 32) : Prop :=
  (∀ a, (k0_off284 v1874) a + S1x1x512.size a ≤ S784x8x512.size a) ∧
  (∀ a, (k0_off296 v1874) a + S1x1x512.size a ≤ S784x8x512.size a)
theorem k0_off284_inb : ∀ (v1874 : BitVec 32) (k0_hw100 : k0_chk100 v1874), ∀ a, (k0_off284 v1874) a + S1x1x512.size a ≤ S784x8x512.size a := fun v1874 k0_hw100 => k0_hw100.1
theorem k0_off296_inb : ∀ (v1874 : BitVec 32) (k0_hw100 : k0_chk100 v1874), ∀ a, (k0_off296 v1874) a + S1x1x512.size a ≤ S784x8x512.size a := fun v1874 k0_hw100 => k0_hw100.2

def k0_off297 (v1889 : BitVec 32) : Fin 3 → Nat :=
  let c1023_i32_1174 : BitVec 32 := 1023#32
  let v1890 : BitVec 32 := Scalar.andi v1889 c1023_i32_1174
  let v1962 : Index := Scalar.indexCast v1890
  let c4_1219 : Index := 4#32
  let c0_1220 : Index := 0#32
  ![v1962.toNat, 4, 0]

def k0_chk101 (v1889 : BitVec 32) : Prop :=
  (∀ a, (k0_off286 v1889) a + S1x1x512.size a ≤ S784x8x512.size a) ∧
  (∀ a, (k0_off297 v1889) a + S1x1x512.size a ≤ S784x8x512.size a)
theorem k0_off286_inb : ∀ (v1889 : BitVec 32) (k0_hw101 : k0_chk101 v1889), ∀ a, (k0_off286 v1889) a + S1x1x512.size a ≤ S784x8x512.size a := fun v1889 k0_hw101 => k0_hw101.1
theorem k0_off297_inb : ∀ (v1889 : BitVec 32) (k0_hw101 : k0_chk101 v1889), ∀ a, (k0_off297 v1889) a + S1x1x512.size a ≤ S784x8x512.size a := fun v1889 k0_hw101 => k0_hw101.2

def k0_off298 (v1904 : BitVec 32) : Fin 3 → Nat :=
  let c1023_i32_1184 : BitVec 32 := 1023#32
  let v1905 : BitVec 32 := Scalar.andi v1904 c1023_i32_1184
  let v1966 : Index := Scalar.indexCast v1905
  let c5_1221 : Index := 5#32
  let c0_1222 : Index := 0#32
  ![v1966.toNat, 5, 0]

def k0_chk102 (v1904 : BitVec 32) : Prop :=
  (∀ a, (k0_off288 v1904) a + S1x1x512.size a ≤ S784x8x512.size a) ∧
  (∀ a, (k0_off298 v1904) a + S1x1x512.size a ≤ S784x8x512.size a)
theorem k0_off288_inb : ∀ (v1904 : BitVec 32) (k0_hw102 : k0_chk102 v1904), ∀ a, (k0_off288 v1904) a + S1x1x512.size a ≤ S784x8x512.size a := fun v1904 k0_hw102 => k0_hw102.1
theorem k0_off298_inb : ∀ (v1904 : BitVec 32) (k0_hw102 : k0_chk102 v1904), ∀ a, (k0_off298 v1904) a + S1x1x512.size a ≤ S784x8x512.size a := fun v1904 k0_hw102 => k0_hw102.2

def k0_off299 (v1919 : BitVec 32) : Fin 3 → Nat :=
  let c1023_i32_1194 : BitVec 32 := 1023#32
  let v1920 : BitVec 32 := Scalar.andi v1919 c1023_i32_1194
  let v1970 : Index := Scalar.indexCast v1920
  let c6_1223 : Index := 6#32
  let c0_1224 : Index := 0#32
  ![v1970.toNat, 6, 0]

def k0_chk103 (v1919 : BitVec 32) : Prop :=
  (∀ a, (k0_off290 v1919) a + S1x1x512.size a ≤ S784x8x512.size a) ∧
  (∀ a, (k0_off299 v1919) a + S1x1x512.size a ≤ S784x8x512.size a)
theorem k0_off290_inb : ∀ (v1919 : BitVec 32) (k0_hw103 : k0_chk103 v1919), ∀ a, (k0_off290 v1919) a + S1x1x512.size a ≤ S784x8x512.size a := fun v1919 k0_hw103 => k0_hw103.1
theorem k0_off299_inb : ∀ (v1919 : BitVec 32) (k0_hw103 : k0_chk103 v1919), ∀ a, (k0_off299 v1919) a + S1x1x512.size a ≤ S784x8x512.size a := fun v1919 k0_hw103 => k0_hw103.2

def k0_off300 (i : grid0.Coords) : Fin 2 → Nat :=
  let arg0 : BitVec 32 := BitVec.ofNat 32 (i 0).val
  let c8_i32_1227 : BitVec 32 := 8#32
  let v1978 : BitVec 32 := Scalar.muli arg0 c8_i32_1227
  let c0_i32_1228 : BitVec 32 := 0#32
  let v1979 : BitVec 32 := Scalar.addi v1978 c0_i32_1228
  let v1980 : Index := Scalar.indexCast v1979
  let c13 : Index := 13#32
  ![v1980.toNat, 13]
def k0_off301 (v1981 : BitVec 32) : Fin 3 → Nat :=
  let c1023_i32_1229 : BitVec 32 := 1023#32
  let v1982 : BitVec 32 := Scalar.andi v1981 c1023_i32_1229
  let v1989 : Index := Scalar.indexCast v1982
  let c0_1234 : Index := 0#32
  let c0_1235 : Index := 0#32
  ![v1989.toNat, 0, 0]

def k0_off302 (i : grid0.Coords) : Fin 2 → Nat :=
  let arg0 : BitVec 32 := BitVec.ofNat 32 (i 0).val
  let c8_i32_1236 : BitVec 32 := 8#32
  let v1993 : BitVec 32 := Scalar.muli arg0 c8_i32_1236
  let c1_i32_1237 : BitVec 32 := 1#32
  let v1994 : BitVec 32 := Scalar.addi v1993 c1_i32_1237
  let v1995 : Index := Scalar.indexCast v1994
  let c13_1238 : Index := 13#32
  ![v1995.toNat, 13]
def k0_off303 (v1996 : BitVec 32) : Fin 3 → Nat :=
  let c1023_i32_1239 : BitVec 32 := 1023#32
  let v1997 : BitVec 32 := Scalar.andi v1996 c1023_i32_1239
  let v2004 : Index := Scalar.indexCast v1997
  let c1_1244 : Index := 1#32
  let c0_1245 : Index := 0#32
  ![v2004.toNat, 1, 0]

def k0_off304 (i : grid0.Coords) : Fin 2 → Nat :=
  let arg0 : BitVec 32 := BitVec.ofNat 32 (i 0).val
  let c8_i32_1246 : BitVec 32 := 8#32
  let v2008 : BitVec 32 := Scalar.muli arg0 c8_i32_1246
  let c2_i32_1247 : BitVec 32 := 2#32
  let v2009 : BitVec 32 := Scalar.addi v2008 c2_i32_1247
  let v2010 : Index := Scalar.indexCast v2009
  let c13_1248 : Index := 13#32
  ![v2010.toNat, 13]
def k0_off305 (v2011 : BitVec 32) : Fin 3 → Nat :=
  let c1023_i32_1249 : BitVec 32 := 1023#32
  let v2012 : BitVec 32 := Scalar.andi v2011 c1023_i32_1249
  let v2019 : Index := Scalar.indexCast v2012
  let c2_1254 : Index := 2#32
  let c0_1255 : Index := 0#32
  ![v2019.toNat, 2, 0]

def k0_off306 (i : grid0.Coords) : Fin 2 → Nat :=
  let arg0 : BitVec 32 := BitVec.ofNat 32 (i 0).val
  let c8_i32_1256 : BitVec 32 := 8#32
  let v2023 : BitVec 32 := Scalar.muli arg0 c8_i32_1256
  let c3_i32_1257 : BitVec 32 := 3#32
  let v2024 : BitVec 32 := Scalar.addi v2023 c3_i32_1257
  let v2025 : Index := Scalar.indexCast v2024
  let c13_1258 : Index := 13#32
  ![v2025.toNat, 13]
def k0_off307 (v2026 : BitVec 32) : Fin 3 → Nat :=
  let c1023_i32_1259 : BitVec 32 := 1023#32
  let v2027 : BitVec 32 := Scalar.andi v2026 c1023_i32_1259
  let v2034 : Index := Scalar.indexCast v2027
  let c3_1264 : Index := 3#32
  let c0_1265 : Index := 0#32
  ![v2034.toNat, 3, 0]

def k0_off308 (i : grid0.Coords) : Fin 2 → Nat :=
  let arg0 : BitVec 32 := BitVec.ofNat 32 (i 0).val
  let c8_i32_1266 : BitVec 32 := 8#32
  let v2038 : BitVec 32 := Scalar.muli arg0 c8_i32_1266
  let c4_i32_1267 : BitVec 32 := 4#32
  let v2039 : BitVec 32 := Scalar.addi v2038 c4_i32_1267
  let v2040 : Index := Scalar.indexCast v2039
  let c13_1268 : Index := 13#32
  ![v2040.toNat, 13]
def k0_off309 (v2041 : BitVec 32) : Fin 3 → Nat :=
  let c1023_i32_1269 : BitVec 32 := 1023#32
  let v2042 : BitVec 32 := Scalar.andi v2041 c1023_i32_1269
  let v2049 : Index := Scalar.indexCast v2042
  let c4_1274 : Index := 4#32
  let c0_1275 : Index := 0#32
  ![v2049.toNat, 4, 0]

def k0_off310 (i : grid0.Coords) : Fin 2 → Nat :=
  let arg0 : BitVec 32 := BitVec.ofNat 32 (i 0).val
  let c8_i32_1276 : BitVec 32 := 8#32
  let v2053 : BitVec 32 := Scalar.muli arg0 c8_i32_1276
  let c5_i32_1277 : BitVec 32 := 5#32
  let v2054 : BitVec 32 := Scalar.addi v2053 c5_i32_1277
  let v2055 : Index := Scalar.indexCast v2054
  let c13_1278 : Index := 13#32
  ![v2055.toNat, 13]
def k0_off311 (v2056 : BitVec 32) : Fin 3 → Nat :=
  let c1023_i32_1279 : BitVec 32 := 1023#32
  let v2057 : BitVec 32 := Scalar.andi v2056 c1023_i32_1279
  let v2064 : Index := Scalar.indexCast v2057
  let c5_1284 : Index := 5#32
  let c0_1285 : Index := 0#32
  ![v2064.toNat, 5, 0]

def k0_off312 (i : grid0.Coords) : Fin 2 → Nat :=
  let arg0 : BitVec 32 := BitVec.ofNat 32 (i 0).val
  let c8_i32_1286 : BitVec 32 := 8#32
  let v2068 : BitVec 32 := Scalar.muli arg0 c8_i32_1286
  let c6_i32_1287 : BitVec 32 := 6#32
  let v2069 : BitVec 32 := Scalar.addi v2068 c6_i32_1287
  let v2070 : Index := Scalar.indexCast v2069
  let c13_1288 : Index := 13#32
  ![v2070.toNat, 13]
def k0_off313 (v2071 : BitVec 32) : Fin 3 → Nat :=
  let c1023_i32_1289 : BitVec 32 := 1023#32
  let v2072 : BitVec 32 := Scalar.andi v2071 c1023_i32_1289
  let v2079 : Index := Scalar.indexCast v2072
  let c6_1294 : Index := 6#32
  let c0_1295 : Index := 0#32
  ![v2079.toNat, 6, 0]

def k0_off314 (i : grid0.Coords) : Fin 2 → Nat :=
  let arg0 : BitVec 32 := BitVec.ofNat 32 (i 0).val
  let c8_i32_1296 : BitVec 32 := 8#32
  let v2083 : BitVec 32 := Scalar.muli arg0 c8_i32_1296
  let c7_i32_1297 : BitVec 32 := 7#32
  let v2084 : BitVec 32 := Scalar.addi v2083 c7_i32_1297
  let v2085 : Index := Scalar.indexCast v2084
  let c13_1298 : Index := 13#32
  ![v2085.toNat, 13]
def k0_off315 (v2086 : BitVec 32) : Fin 3 → Nat :=
  let c1023_i32_1299 : BitVec 32 := 1023#32
  let v2087 : BitVec 32 := Scalar.andi v2086 c1023_i32_1299
  let v2094 : Index := Scalar.indexCast v2087
  let c7_1304 : Index := 7#32
  let c0_1305 : Index := 0#32
  ![v2094.toNat, 7, 0]

def k0_chk112 (v2086 : BitVec 32) : Prop :=
  (∀ a, (k0_off315 v2086) a + S1x1x512.size a ≤ S784x8x512.size a)
theorem k0_off315_inb : ∀ (v2086 : BitVec 32) (k0_hw112 : k0_chk112 v2086), ∀ a, (k0_off315 v2086) a + S1x1x512.size a ≤ S784x8x512.size a := fun v2086 k0_hw112 => k0_hw112

def k0_off316 (v1981 : BitVec 32) : Fin 3 → Nat :=
  let c1023_i32_1229 : BitVec 32 := 1023#32
  let v1982 : BitVec 32 := Scalar.andi v1981 c1023_i32_1229
  let v2098 : Index := Scalar.indexCast v1982
  let c0_1306 : Index := 0#32
  let c0_1307 : Index := 0#32
  ![v2098.toNat, 0, 0]

def k0_chk105 (v1981 : BitVec 32) : Prop :=
  (∀ a, (k0_off301 v1981) a + S1x1x512.size a ≤ S784x8x512.size a) ∧
  (∀ a, (k0_off316 v1981) a + S1x1x512.size a ≤ S784x8x512.size a)
theorem k0_off301_inb : ∀ (v1981 : BitVec 32) (k0_hw105 : k0_chk105 v1981), ∀ a, (k0_off301 v1981) a + S1x1x512.size a ≤ S784x8x512.size a := fun v1981 k0_hw105 => k0_hw105.1
theorem k0_off316_inb : ∀ (v1981 : BitVec 32) (k0_hw105 : k0_chk105 v1981), ∀ a, (k0_off316 v1981) a + S1x1x512.size a ≤ S784x8x512.size a := fun v1981 k0_hw105 => k0_hw105.2

def k0_off317 (v1996 : BitVec 32) : Fin 3 → Nat :=
  let c1023_i32_1239 : BitVec 32 := 1023#32
  let v1997 : BitVec 32 := Scalar.andi v1996 c1023_i32_1239
  let v2102 : Index := Scalar.indexCast v1997
  let c1_1308 : Index := 1#32
  let c0_1309 : Index := 0#32
  ![v2102.toNat, 1, 0]

def k0_chk106 (v1996 : BitVec 32) : Prop :=
  (∀ a, (k0_off303 v1996) a + S1x1x512.size a ≤ S784x8x512.size a) ∧
  (∀ a, (k0_off317 v1996) a + S1x1x512.size a ≤ S784x8x512.size a)
theorem k0_off303_inb : ∀ (v1996 : BitVec 32) (k0_hw106 : k0_chk106 v1996), ∀ a, (k0_off303 v1996) a + S1x1x512.size a ≤ S784x8x512.size a := fun v1996 k0_hw106 => k0_hw106.1
theorem k0_off317_inb : ∀ (v1996 : BitVec 32) (k0_hw106 : k0_chk106 v1996), ∀ a, (k0_off317 v1996) a + S1x1x512.size a ≤ S784x8x512.size a := fun v1996 k0_hw106 => k0_hw106.2

def k0_off318 (v2011 : BitVec 32) : Fin 3 → Nat :=
  let c1023_i32_1249 : BitVec 32 := 1023#32
  let v2012 : BitVec 32 := Scalar.andi v2011 c1023_i32_1249
  let v2106 : Index := Scalar.indexCast v2012
  let c2_1310 : Index := 2#32
  let c0_1311 : Index := 0#32
  ![v2106.toNat, 2, 0]

def k0_chk107 (v2011 : BitVec 32) : Prop :=
  (∀ a, (k0_off305 v2011) a + S1x1x512.size a ≤ S784x8x512.size a) ∧
  (∀ a, (k0_off318 v2011) a + S1x1x512.size a ≤ S784x8x512.size a)
theorem k0_off305_inb : ∀ (v2011 : BitVec 32) (k0_hw107 : k0_chk107 v2011), ∀ a, (k0_off305 v2011) a + S1x1x512.size a ≤ S784x8x512.size a := fun v2011 k0_hw107 => k0_hw107.1
theorem k0_off318_inb : ∀ (v2011 : BitVec 32) (k0_hw107 : k0_chk107 v2011), ∀ a, (k0_off318 v2011) a + S1x1x512.size a ≤ S784x8x512.size a := fun v2011 k0_hw107 => k0_hw107.2

def k0_off319 (v2026 : BitVec 32) : Fin 3 → Nat :=
  let c1023_i32_1259 : BitVec 32 := 1023#32
  let v2027 : BitVec 32 := Scalar.andi v2026 c1023_i32_1259
  let v2110 : Index := Scalar.indexCast v2027
  let c3_1312 : Index := 3#32
  let c0_1313 : Index := 0#32
  ![v2110.toNat, 3, 0]

def k0_chk108 (v2026 : BitVec 32) : Prop :=
  (∀ a, (k0_off307 v2026) a + S1x1x512.size a ≤ S784x8x512.size a) ∧
  (∀ a, (k0_off319 v2026) a + S1x1x512.size a ≤ S784x8x512.size a)
theorem k0_off307_inb : ∀ (v2026 : BitVec 32) (k0_hw108 : k0_chk108 v2026), ∀ a, (k0_off307 v2026) a + S1x1x512.size a ≤ S784x8x512.size a := fun v2026 k0_hw108 => k0_hw108.1
theorem k0_off319_inb : ∀ (v2026 : BitVec 32) (k0_hw108 : k0_chk108 v2026), ∀ a, (k0_off319 v2026) a + S1x1x512.size a ≤ S784x8x512.size a := fun v2026 k0_hw108 => k0_hw108.2

def k0_off320 (v2041 : BitVec 32) : Fin 3 → Nat :=
  let c1023_i32_1269 : BitVec 32 := 1023#32
  let v2042 : BitVec 32 := Scalar.andi v2041 c1023_i32_1269
  let v2114 : Index := Scalar.indexCast v2042
  let c4_1314 : Index := 4#32
  let c0_1315 : Index := 0#32
  ![v2114.toNat, 4, 0]

def k0_chk109 (v2041 : BitVec 32) : Prop :=
  (∀ a, (k0_off309 v2041) a + S1x1x512.size a ≤ S784x8x512.size a) ∧
  (∀ a, (k0_off320 v2041) a + S1x1x512.size a ≤ S784x8x512.size a)
theorem k0_off309_inb : ∀ (v2041 : BitVec 32) (k0_hw109 : k0_chk109 v2041), ∀ a, (k0_off309 v2041) a + S1x1x512.size a ≤ S784x8x512.size a := fun v2041 k0_hw109 => k0_hw109.1
theorem k0_off320_inb : ∀ (v2041 : BitVec 32) (k0_hw109 : k0_chk109 v2041), ∀ a, (k0_off320 v2041) a + S1x1x512.size a ≤ S784x8x512.size a := fun v2041 k0_hw109 => k0_hw109.2

def k0_off321 (v2056 : BitVec 32) : Fin 3 → Nat :=
  let c1023_i32_1279 : BitVec 32 := 1023#32
  let v2057 : BitVec 32 := Scalar.andi v2056 c1023_i32_1279
  let v2118 : Index := Scalar.indexCast v2057
  let c5_1316 : Index := 5#32
  let c0_1317 : Index := 0#32
  ![v2118.toNat, 5, 0]

def k0_chk110 (v2056 : BitVec 32) : Prop :=
  (∀ a, (k0_off311 v2056) a + S1x1x512.size a ≤ S784x8x512.size a) ∧
  (∀ a, (k0_off321 v2056) a + S1x1x512.size a ≤ S784x8x512.size a)
theorem k0_off311_inb : ∀ (v2056 : BitVec 32) (k0_hw110 : k0_chk110 v2056), ∀ a, (k0_off311 v2056) a + S1x1x512.size a ≤ S784x8x512.size a := fun v2056 k0_hw110 => k0_hw110.1
theorem k0_off321_inb : ∀ (v2056 : BitVec 32) (k0_hw110 : k0_chk110 v2056), ∀ a, (k0_off321 v2056) a + S1x1x512.size a ≤ S784x8x512.size a := fun v2056 k0_hw110 => k0_hw110.2

def k0_off322 (v2071 : BitVec 32) : Fin 3 → Nat :=
  let c1023_i32_1289 : BitVec 32 := 1023#32
  let v2072 : BitVec 32 := Scalar.andi v2071 c1023_i32_1289
  let v2122 : Index := Scalar.indexCast v2072
  let c6_1318 : Index := 6#32
  let c0_1319 : Index := 0#32
  ![v2122.toNat, 6, 0]

def k0_chk111 (v2071 : BitVec 32) : Prop :=
  (∀ a, (k0_off313 v2071) a + S1x1x512.size a ≤ S784x8x512.size a) ∧
  (∀ a, (k0_off322 v2071) a + S1x1x512.size a ≤ S784x8x512.size a)
theorem k0_off313_inb : ∀ (v2071 : BitVec 32) (k0_hw111 : k0_chk111 v2071), ∀ a, (k0_off313 v2071) a + S1x1x512.size a ≤ S784x8x512.size a := fun v2071 k0_hw111 => k0_hw111.1
theorem k0_off322_inb : ∀ (v2071 : BitVec 32) (k0_hw111 : k0_chk111 v2071), ∀ a, (k0_off322 v2071) a + S1x1x512.size a ≤ S784x8x512.size a := fun v2071 k0_hw111 => k0_hw111.2

def k0_off323 (i : grid0.Coords) : Fin 2 → Nat :=
  let arg0 : BitVec 32 := BitVec.ofNat 32 (i 0).val
  let c8_i32_1322 : BitVec 32 := 8#32
  let v2130 : BitVec 32 := Scalar.muli arg0 c8_i32_1322
  let c0_i32_1323 : BitVec 32 := 0#32
  let v2131 : BitVec 32 := Scalar.addi v2130 c0_i32_1323
  let v2132 : Index := Scalar.indexCast v2131
  let c14 : Index := 14#32
  ![v2132.toNat, 14]
def k0_off324 (v2133 : BitVec 32) : Fin 3 → Nat :=
  let c1023_i32_1324 : BitVec 32 := 1023#32
  let v2134 : BitVec 32 := Scalar.andi v2133 c1023_i32_1324
  let v2141 : Index := Scalar.indexCast v2134
  let c0_1329 : Index := 0#32
  let c0_1330 : Index := 0#32
  ![v2141.toNat, 0, 0]

def k0_off325 (i : grid0.Coords) : Fin 2 → Nat :=
  let arg0 : BitVec 32 := BitVec.ofNat 32 (i 0).val
  let c8_i32_1331 : BitVec 32 := 8#32
  let v2145 : BitVec 32 := Scalar.muli arg0 c8_i32_1331
  let c1_i32_1332 : BitVec 32 := 1#32
  let v2146 : BitVec 32 := Scalar.addi v2145 c1_i32_1332
  let v2147 : Index := Scalar.indexCast v2146
  let c14_1333 : Index := 14#32
  ![v2147.toNat, 14]
def k0_off326 (v2148 : BitVec 32) : Fin 3 → Nat :=
  let c1023_i32_1334 : BitVec 32 := 1023#32
  let v2149 : BitVec 32 := Scalar.andi v2148 c1023_i32_1334
  let v2156 : Index := Scalar.indexCast v2149
  let c1_1339 : Index := 1#32
  let c0_1340 : Index := 0#32
  ![v2156.toNat, 1, 0]

def k0_off327 (i : grid0.Coords) : Fin 2 → Nat :=
  let arg0 : BitVec 32 := BitVec.ofNat 32 (i 0).val
  let c8_i32_1341 : BitVec 32 := 8#32
  let v2160 : BitVec 32 := Scalar.muli arg0 c8_i32_1341
  let c2_i32_1342 : BitVec 32 := 2#32
  let v2161 : BitVec 32 := Scalar.addi v2160 c2_i32_1342
  let v2162 : Index := Scalar.indexCast v2161
  let c14_1343 : Index := 14#32
  ![v2162.toNat, 14]
def k0_off328 (v2163 : BitVec 32) : Fin 3 → Nat :=
  let c1023_i32_1344 : BitVec 32 := 1023#32
  let v2164 : BitVec 32 := Scalar.andi v2163 c1023_i32_1344
  let v2171 : Index := Scalar.indexCast v2164
  let c2_1349 : Index := 2#32
  let c0_1350 : Index := 0#32
  ![v2171.toNat, 2, 0]

def k0_off329 (i : grid0.Coords) : Fin 2 → Nat :=
  let arg0 : BitVec 32 := BitVec.ofNat 32 (i 0).val
  let c8_i32_1351 : BitVec 32 := 8#32
  let v2175 : BitVec 32 := Scalar.muli arg0 c8_i32_1351
  let c3_i32_1352 : BitVec 32 := 3#32
  let v2176 : BitVec 32 := Scalar.addi v2175 c3_i32_1352
  let v2177 : Index := Scalar.indexCast v2176
  let c14_1353 : Index := 14#32
  ![v2177.toNat, 14]
def k0_off330 (v2178 : BitVec 32) : Fin 3 → Nat :=
  let c1023_i32_1354 : BitVec 32 := 1023#32
  let v2179 : BitVec 32 := Scalar.andi v2178 c1023_i32_1354
  let v2186 : Index := Scalar.indexCast v2179
  let c3_1359 : Index := 3#32
  let c0_1360 : Index := 0#32
  ![v2186.toNat, 3, 0]

def k0_off331 (i : grid0.Coords) : Fin 2 → Nat :=
  let arg0 : BitVec 32 := BitVec.ofNat 32 (i 0).val
  let c8_i32_1361 : BitVec 32 := 8#32
  let v2190 : BitVec 32 := Scalar.muli arg0 c8_i32_1361
  let c4_i32_1362 : BitVec 32 := 4#32
  let v2191 : BitVec 32 := Scalar.addi v2190 c4_i32_1362
  let v2192 : Index := Scalar.indexCast v2191
  let c14_1363 : Index := 14#32
  ![v2192.toNat, 14]
def k0_off332 (v2193 : BitVec 32) : Fin 3 → Nat :=
  let c1023_i32_1364 : BitVec 32 := 1023#32
  let v2194 : BitVec 32 := Scalar.andi v2193 c1023_i32_1364
  let v2201 : Index := Scalar.indexCast v2194
  let c4_1369 : Index := 4#32
  let c0_1370 : Index := 0#32
  ![v2201.toNat, 4, 0]

def k0_off333 (i : grid0.Coords) : Fin 2 → Nat :=
  let arg0 : BitVec 32 := BitVec.ofNat 32 (i 0).val
  let c8_i32_1371 : BitVec 32 := 8#32
  let v2205 : BitVec 32 := Scalar.muli arg0 c8_i32_1371
  let c5_i32_1372 : BitVec 32 := 5#32
  let v2206 : BitVec 32 := Scalar.addi v2205 c5_i32_1372
  let v2207 : Index := Scalar.indexCast v2206
  let c14_1373 : Index := 14#32
  ![v2207.toNat, 14]
def k0_off334 (v2208 : BitVec 32) : Fin 3 → Nat :=
  let c1023_i32_1374 : BitVec 32 := 1023#32
  let v2209 : BitVec 32 := Scalar.andi v2208 c1023_i32_1374
  let v2216 : Index := Scalar.indexCast v2209
  let c5_1379 : Index := 5#32
  let c0_1380 : Index := 0#32
  ![v2216.toNat, 5, 0]

def k0_off335 (i : grid0.Coords) : Fin 2 → Nat :=
  let arg0 : BitVec 32 := BitVec.ofNat 32 (i 0).val
  let c8_i32_1381 : BitVec 32 := 8#32
  let v2220 : BitVec 32 := Scalar.muli arg0 c8_i32_1381
  let c6_i32_1382 : BitVec 32 := 6#32
  let v2221 : BitVec 32 := Scalar.addi v2220 c6_i32_1382
  let v2222 : Index := Scalar.indexCast v2221
  let c14_1383 : Index := 14#32
  ![v2222.toNat, 14]
def k0_off336 (v2223 : BitVec 32) : Fin 3 → Nat :=
  let c1023_i32_1384 : BitVec 32 := 1023#32
  let v2224 : BitVec 32 := Scalar.andi v2223 c1023_i32_1384
  let v2231 : Index := Scalar.indexCast v2224
  let c6_1389 : Index := 6#32
  let c0_1390 : Index := 0#32
  ![v2231.toNat, 6, 0]

def k0_off337 (i : grid0.Coords) : Fin 2 → Nat :=
  let arg0 : BitVec 32 := BitVec.ofNat 32 (i 0).val
  let c8_i32_1391 : BitVec 32 := 8#32
  let v2235 : BitVec 32 := Scalar.muli arg0 c8_i32_1391
  let c7_i32_1392 : BitVec 32 := 7#32
  let v2236 : BitVec 32 := Scalar.addi v2235 c7_i32_1392
  let v2237 : Index := Scalar.indexCast v2236
  let c14_1393 : Index := 14#32
  ![v2237.toNat, 14]
def k0_off338 (v2238 : BitVec 32) : Fin 3 → Nat :=
  let c1023_i32_1394 : BitVec 32 := 1023#32
  let v2239 : BitVec 32 := Scalar.andi v2238 c1023_i32_1394
  let v2246 : Index := Scalar.indexCast v2239
  let c7_1399 : Index := 7#32
  let c0_1400 : Index := 0#32
  ![v2246.toNat, 7, 0]

def k0_chk120 (v2238 : BitVec 32) : Prop :=
  (∀ a, (k0_off338 v2238) a + S1x1x512.size a ≤ S784x8x512.size a)
theorem k0_off338_inb : ∀ (v2238 : BitVec 32) (k0_hw120 : k0_chk120 v2238), ∀ a, (k0_off338 v2238) a + S1x1x512.size a ≤ S784x8x512.size a := fun v2238 k0_hw120 => k0_hw120

def k0_off339 (v2133 : BitVec 32) : Fin 3 → Nat :=
  let c1023_i32_1324 : BitVec 32 := 1023#32
  let v2134 : BitVec 32 := Scalar.andi v2133 c1023_i32_1324
  let v2250 : Index := Scalar.indexCast v2134
  let c0_1401 : Index := 0#32
  let c0_1402 : Index := 0#32
  ![v2250.toNat, 0, 0]

def k0_chk113 (v2133 : BitVec 32) : Prop :=
  (∀ a, (k0_off324 v2133) a + S1x1x512.size a ≤ S784x8x512.size a) ∧
  (∀ a, (k0_off339 v2133) a + S1x1x512.size a ≤ S784x8x512.size a)
theorem k0_off324_inb : ∀ (v2133 : BitVec 32) (k0_hw113 : k0_chk113 v2133), ∀ a, (k0_off324 v2133) a + S1x1x512.size a ≤ S784x8x512.size a := fun v2133 k0_hw113 => k0_hw113.1
theorem k0_off339_inb : ∀ (v2133 : BitVec 32) (k0_hw113 : k0_chk113 v2133), ∀ a, (k0_off339 v2133) a + S1x1x512.size a ≤ S784x8x512.size a := fun v2133 k0_hw113 => k0_hw113.2

def k0_off340 (v2148 : BitVec 32) : Fin 3 → Nat :=
  let c1023_i32_1334 : BitVec 32 := 1023#32
  let v2149 : BitVec 32 := Scalar.andi v2148 c1023_i32_1334
  let v2254 : Index := Scalar.indexCast v2149
  let c1_1403 : Index := 1#32
  let c0_1404 : Index := 0#32
  ![v2254.toNat, 1, 0]

def k0_chk114 (v2148 : BitVec 32) : Prop :=
  (∀ a, (k0_off326 v2148) a + S1x1x512.size a ≤ S784x8x512.size a) ∧
  (∀ a, (k0_off340 v2148) a + S1x1x512.size a ≤ S784x8x512.size a)
theorem k0_off326_inb : ∀ (v2148 : BitVec 32) (k0_hw114 : k0_chk114 v2148), ∀ a, (k0_off326 v2148) a + S1x1x512.size a ≤ S784x8x512.size a := fun v2148 k0_hw114 => k0_hw114.1
theorem k0_off340_inb : ∀ (v2148 : BitVec 32) (k0_hw114 : k0_chk114 v2148), ∀ a, (k0_off340 v2148) a + S1x1x512.size a ≤ S784x8x512.size a := fun v2148 k0_hw114 => k0_hw114.2

def k0_off341 (v2163 : BitVec 32) : Fin 3 → Nat :=
  let c1023_i32_1344 : BitVec 32 := 1023#32
  let v2164 : BitVec 32 := Scalar.andi v2163 c1023_i32_1344
  let v2258 : Index := Scalar.indexCast v2164
  let c2_1405 : Index := 2#32
  let c0_1406 : Index := 0#32
  ![v2258.toNat, 2, 0]

def k0_chk115 (v2163 : BitVec 32) : Prop :=
  (∀ a, (k0_off328 v2163) a + S1x1x512.size a ≤ S784x8x512.size a) ∧
  (∀ a, (k0_off341 v2163) a + S1x1x512.size a ≤ S784x8x512.size a)
theorem k0_off328_inb : ∀ (v2163 : BitVec 32) (k0_hw115 : k0_chk115 v2163), ∀ a, (k0_off328 v2163) a + S1x1x512.size a ≤ S784x8x512.size a := fun v2163 k0_hw115 => k0_hw115.1
theorem k0_off341_inb : ∀ (v2163 : BitVec 32) (k0_hw115 : k0_chk115 v2163), ∀ a, (k0_off341 v2163) a + S1x1x512.size a ≤ S784x8x512.size a := fun v2163 k0_hw115 => k0_hw115.2

def k0_off342 (v2178 : BitVec 32) : Fin 3 → Nat :=
  let c1023_i32_1354 : BitVec 32 := 1023#32
  let v2179 : BitVec 32 := Scalar.andi v2178 c1023_i32_1354
  let v2262 : Index := Scalar.indexCast v2179
  let c3_1407 : Index := 3#32
  let c0_1408 : Index := 0#32
  ![v2262.toNat, 3, 0]

def k0_chk116 (v2178 : BitVec 32) : Prop :=
  (∀ a, (k0_off330 v2178) a + S1x1x512.size a ≤ S784x8x512.size a) ∧
  (∀ a, (k0_off342 v2178) a + S1x1x512.size a ≤ S784x8x512.size a)
theorem k0_off330_inb : ∀ (v2178 : BitVec 32) (k0_hw116 : k0_chk116 v2178), ∀ a, (k0_off330 v2178) a + S1x1x512.size a ≤ S784x8x512.size a := fun v2178 k0_hw116 => k0_hw116.1
theorem k0_off342_inb : ∀ (v2178 : BitVec 32) (k0_hw116 : k0_chk116 v2178), ∀ a, (k0_off342 v2178) a + S1x1x512.size a ≤ S784x8x512.size a := fun v2178 k0_hw116 => k0_hw116.2

def k0_off343 (v2193 : BitVec 32) : Fin 3 → Nat :=
  let c1023_i32_1364 : BitVec 32 := 1023#32
  let v2194 : BitVec 32 := Scalar.andi v2193 c1023_i32_1364
  let v2266 : Index := Scalar.indexCast v2194
  let c4_1409 : Index := 4#32
  let c0_1410 : Index := 0#32
  ![v2266.toNat, 4, 0]

def k0_chk117 (v2193 : BitVec 32) : Prop :=
  (∀ a, (k0_off332 v2193) a + S1x1x512.size a ≤ S784x8x512.size a) ∧
  (∀ a, (k0_off343 v2193) a + S1x1x512.size a ≤ S784x8x512.size a)
theorem k0_off332_inb : ∀ (v2193 : BitVec 32) (k0_hw117 : k0_chk117 v2193), ∀ a, (k0_off332 v2193) a + S1x1x512.size a ≤ S784x8x512.size a := fun v2193 k0_hw117 => k0_hw117.1
theorem k0_off343_inb : ∀ (v2193 : BitVec 32) (k0_hw117 : k0_chk117 v2193), ∀ a, (k0_off343 v2193) a + S1x1x512.size a ≤ S784x8x512.size a := fun v2193 k0_hw117 => k0_hw117.2

def k0_off344 (v2208 : BitVec 32) : Fin 3 → Nat :=
  let c1023_i32_1374 : BitVec 32 := 1023#32
  let v2209 : BitVec 32 := Scalar.andi v2208 c1023_i32_1374
  let v2270 : Index := Scalar.indexCast v2209
  let c5_1411 : Index := 5#32
  let c0_1412 : Index := 0#32
  ![v2270.toNat, 5, 0]

def k0_chk118 (v2208 : BitVec 32) : Prop :=
  (∀ a, (k0_off334 v2208) a + S1x1x512.size a ≤ S784x8x512.size a) ∧
  (∀ a, (k0_off344 v2208) a + S1x1x512.size a ≤ S784x8x512.size a)
theorem k0_off334_inb : ∀ (v2208 : BitVec 32) (k0_hw118 : k0_chk118 v2208), ∀ a, (k0_off334 v2208) a + S1x1x512.size a ≤ S784x8x512.size a := fun v2208 k0_hw118 => k0_hw118.1
theorem k0_off344_inb : ∀ (v2208 : BitVec 32) (k0_hw118 : k0_chk118 v2208), ∀ a, (k0_off344 v2208) a + S1x1x512.size a ≤ S784x8x512.size a := fun v2208 k0_hw118 => k0_hw118.2

def k0_off345 (v2223 : BitVec 32) : Fin 3 → Nat :=
  let c1023_i32_1384 : BitVec 32 := 1023#32
  let v2224 : BitVec 32 := Scalar.andi v2223 c1023_i32_1384
  let v2274 : Index := Scalar.indexCast v2224
  let c6_1413 : Index := 6#32
  let c0_1414 : Index := 0#32
  ![v2274.toNat, 6, 0]

def k0_chk119 (v2223 : BitVec 32) : Prop :=
  (∀ a, (k0_off336 v2223) a + S1x1x512.size a ≤ S784x8x512.size a) ∧
  (∀ a, (k0_off345 v2223) a + S1x1x512.size a ≤ S784x8x512.size a)
theorem k0_off336_inb : ∀ (v2223 : BitVec 32) (k0_hw119 : k0_chk119 v2223), ∀ a, (k0_off336 v2223) a + S1x1x512.size a ≤ S784x8x512.size a := fun v2223 k0_hw119 => k0_hw119.1
theorem k0_off345_inb : ∀ (v2223 : BitVec 32) (k0_hw119 : k0_chk119 v2223), ∀ a, (k0_off345 v2223) a + S1x1x512.size a ≤ S784x8x512.size a := fun v2223 k0_hw119 => k0_hw119.2

def k0_off346 (i : grid0.Coords) : Fin 2 → Nat :=
  let arg0 : BitVec 32 := BitVec.ofNat 32 (i 0).val
  let c8_i32_1417 : BitVec 32 := 8#32
  let v2282 : BitVec 32 := Scalar.muli arg0 c8_i32_1417
  let c0_i32_1418 : BitVec 32 := 0#32
  let v2283 : BitVec 32 := Scalar.addi v2282 c0_i32_1418
  let v2284 : Index := Scalar.indexCast v2283
  let c15 : Index := 15#32
  ![v2284.toNat, 15]
def k0_off347 (v2285 : BitVec 32) : Fin 3 → Nat :=
  let c1023_i32_1419 : BitVec 32 := 1023#32
  let v2286 : BitVec 32 := Scalar.andi v2285 c1023_i32_1419
  let v2293 : Index := Scalar.indexCast v2286
  let c0_1424 : Index := 0#32
  let c0_1425 : Index := 0#32
  ![v2293.toNat, 0, 0]

def k0_off348 (i : grid0.Coords) : Fin 2 → Nat :=
  let arg0 : BitVec 32 := BitVec.ofNat 32 (i 0).val
  let c8_i32_1426 : BitVec 32 := 8#32
  let v2297 : BitVec 32 := Scalar.muli arg0 c8_i32_1426
  let c1_i32_1427 : BitVec 32 := 1#32
  let v2298 : BitVec 32 := Scalar.addi v2297 c1_i32_1427
  let v2299 : Index := Scalar.indexCast v2298
  let c15_1428 : Index := 15#32
  ![v2299.toNat, 15]
def k0_off349 (v2300 : BitVec 32) : Fin 3 → Nat :=
  let c1023_i32_1429 : BitVec 32 := 1023#32
  let v2301 : BitVec 32 := Scalar.andi v2300 c1023_i32_1429
  let v2308 : Index := Scalar.indexCast v2301
  let c1_1434 : Index := 1#32
  let c0_1435 : Index := 0#32
  ![v2308.toNat, 1, 0]

def k0_off350 (i : grid0.Coords) : Fin 2 → Nat :=
  let arg0 : BitVec 32 := BitVec.ofNat 32 (i 0).val
  let c8_i32_1436 : BitVec 32 := 8#32
  let v2312 : BitVec 32 := Scalar.muli arg0 c8_i32_1436
  let c2_i32_1437 : BitVec 32 := 2#32
  let v2313 : BitVec 32 := Scalar.addi v2312 c2_i32_1437
  let v2314 : Index := Scalar.indexCast v2313
  let c15_1438 : Index := 15#32
  ![v2314.toNat, 15]
def k0_off351 (v2315 : BitVec 32) : Fin 3 → Nat :=
  let c1023_i32_1439 : BitVec 32 := 1023#32
  let v2316 : BitVec 32 := Scalar.andi v2315 c1023_i32_1439
  let v2323 : Index := Scalar.indexCast v2316
  let c2_1444 : Index := 2#32
  let c0_1445 : Index := 0#32
  ![v2323.toNat, 2, 0]

def k0_off352 (i : grid0.Coords) : Fin 2 → Nat :=
  let arg0 : BitVec 32 := BitVec.ofNat 32 (i 0).val
  let c8_i32_1446 : BitVec 32 := 8#32
  let v2327 : BitVec 32 := Scalar.muli arg0 c8_i32_1446
  let c3_i32_1447 : BitVec 32 := 3#32
  let v2328 : BitVec 32 := Scalar.addi v2327 c3_i32_1447
  let v2329 : Index := Scalar.indexCast v2328
  let c15_1448 : Index := 15#32
  ![v2329.toNat, 15]
def k0_off353 (v2330 : BitVec 32) : Fin 3 → Nat :=
  let c1023_i32_1449 : BitVec 32 := 1023#32
  let v2331 : BitVec 32 := Scalar.andi v2330 c1023_i32_1449
  let v2338 : Index := Scalar.indexCast v2331
  let c3_1454 : Index := 3#32
  let c0_1455 : Index := 0#32
  ![v2338.toNat, 3, 0]

def k0_off354 (i : grid0.Coords) : Fin 2 → Nat :=
  let arg0 : BitVec 32 := BitVec.ofNat 32 (i 0).val
  let c8_i32_1456 : BitVec 32 := 8#32
  let v2342 : BitVec 32 := Scalar.muli arg0 c8_i32_1456
  let c4_i32_1457 : BitVec 32 := 4#32
  let v2343 : BitVec 32 := Scalar.addi v2342 c4_i32_1457
  let v2344 : Index := Scalar.indexCast v2343
  let c15_1458 : Index := 15#32
  ![v2344.toNat, 15]
def k0_off355 (v2345 : BitVec 32) : Fin 3 → Nat :=
  let c1023_i32_1459 : BitVec 32 := 1023#32
  let v2346 : BitVec 32 := Scalar.andi v2345 c1023_i32_1459
  let v2353 : Index := Scalar.indexCast v2346
  let c4_1464 : Index := 4#32
  let c0_1465 : Index := 0#32
  ![v2353.toNat, 4, 0]

def k0_off356 (i : grid0.Coords) : Fin 2 → Nat :=
  let arg0 : BitVec 32 := BitVec.ofNat 32 (i 0).val
  let c8_i32_1466 : BitVec 32 := 8#32
  let v2357 : BitVec 32 := Scalar.muli arg0 c8_i32_1466
  let c5_i32_1467 : BitVec 32 := 5#32
  let v2358 : BitVec 32 := Scalar.addi v2357 c5_i32_1467
  let v2359 : Index := Scalar.indexCast v2358
  let c15_1468 : Index := 15#32
  ![v2359.toNat, 15]
def k0_off357 (v2360 : BitVec 32) : Fin 3 → Nat :=
  let c1023_i32_1469 : BitVec 32 := 1023#32
  let v2361 : BitVec 32 := Scalar.andi v2360 c1023_i32_1469
  let v2368 : Index := Scalar.indexCast v2361
  let c5_1474 : Index := 5#32
  let c0_1475 : Index := 0#32
  ![v2368.toNat, 5, 0]

def k0_off358 (i : grid0.Coords) : Fin 2 → Nat :=
  let arg0 : BitVec 32 := BitVec.ofNat 32 (i 0).val
  let c8_i32_1476 : BitVec 32 := 8#32
  let v2372 : BitVec 32 := Scalar.muli arg0 c8_i32_1476
  let c6_i32_1477 : BitVec 32 := 6#32
  let v2373 : BitVec 32 := Scalar.addi v2372 c6_i32_1477
  let v2374 : Index := Scalar.indexCast v2373
  let c15_1478 : Index := 15#32
  ![v2374.toNat, 15]
def k0_off359 (v2375 : BitVec 32) : Fin 3 → Nat :=
  let c1023_i32_1479 : BitVec 32 := 1023#32
  let v2376 : BitVec 32 := Scalar.andi v2375 c1023_i32_1479
  let v2383 : Index := Scalar.indexCast v2376
  let c6_1484 : Index := 6#32
  let c0_1485 : Index := 0#32
  ![v2383.toNat, 6, 0]

def k0_off360 (i : grid0.Coords) : Fin 2 → Nat :=
  let arg0 : BitVec 32 := BitVec.ofNat 32 (i 0).val
  let c8_i32_1486 : BitVec 32 := 8#32
  let v2387 : BitVec 32 := Scalar.muli arg0 c8_i32_1486
  let c7_i32_1487 : BitVec 32 := 7#32
  let v2388 : BitVec 32 := Scalar.addi v2387 c7_i32_1487
  let v2389 : Index := Scalar.indexCast v2388
  let c15_1488 : Index := 15#32
  ![v2389.toNat, 15]
def k0_off361 (v2390 : BitVec 32) : Fin 3 → Nat :=
  let c1023_i32_1489 : BitVec 32 := 1023#32
  let v2391 : BitVec 32 := Scalar.andi v2390 c1023_i32_1489
  let v2398 : Index := Scalar.indexCast v2391
  let c7_1494 : Index := 7#32
  let c0_1495 : Index := 0#32
  ![v2398.toNat, 7, 0]

def k0_chk128 (v2390 : BitVec 32) : Prop :=
  (∀ a, (k0_off361 v2390) a + S1x1x512.size a ≤ S784x8x512.size a)
theorem k0_off361_inb : ∀ (v2390 : BitVec 32) (k0_hw128 : k0_chk128 v2390), ∀ a, (k0_off361 v2390) a + S1x1x512.size a ≤ S784x8x512.size a := fun v2390 k0_hw128 => k0_hw128

def k0_off362 (v2285 : BitVec 32) : Fin 3 → Nat :=
  let c1023_i32_1419 : BitVec 32 := 1023#32
  let v2286 : BitVec 32 := Scalar.andi v2285 c1023_i32_1419
  let v2402 : Index := Scalar.indexCast v2286
  let c0_1496 : Index := 0#32
  let c0_1497 : Index := 0#32
  ![v2402.toNat, 0, 0]

def k0_chk121 (v2285 : BitVec 32) : Prop :=
  (∀ a, (k0_off347 v2285) a + S1x1x512.size a ≤ S784x8x512.size a) ∧
  (∀ a, (k0_off362 v2285) a + S1x1x512.size a ≤ S784x8x512.size a)
theorem k0_off347_inb : ∀ (v2285 : BitVec 32) (k0_hw121 : k0_chk121 v2285), ∀ a, (k0_off347 v2285) a + S1x1x512.size a ≤ S784x8x512.size a := fun v2285 k0_hw121 => k0_hw121.1
theorem k0_off362_inb : ∀ (v2285 : BitVec 32) (k0_hw121 : k0_chk121 v2285), ∀ a, (k0_off362 v2285) a + S1x1x512.size a ≤ S784x8x512.size a := fun v2285 k0_hw121 => k0_hw121.2

def k0_off363 (v2300 : BitVec 32) : Fin 3 → Nat :=
  let c1023_i32_1429 : BitVec 32 := 1023#32
  let v2301 : BitVec 32 := Scalar.andi v2300 c1023_i32_1429
  let v2406 : Index := Scalar.indexCast v2301
  let c1_1498 : Index := 1#32
  let c0_1499 : Index := 0#32
  ![v2406.toNat, 1, 0]

def k0_chk122 (v2300 : BitVec 32) : Prop :=
  (∀ a, (k0_off349 v2300) a + S1x1x512.size a ≤ S784x8x512.size a) ∧
  (∀ a, (k0_off363 v2300) a + S1x1x512.size a ≤ S784x8x512.size a)
theorem k0_off349_inb : ∀ (v2300 : BitVec 32) (k0_hw122 : k0_chk122 v2300), ∀ a, (k0_off349 v2300) a + S1x1x512.size a ≤ S784x8x512.size a := fun v2300 k0_hw122 => k0_hw122.1
theorem k0_off363_inb : ∀ (v2300 : BitVec 32) (k0_hw122 : k0_chk122 v2300), ∀ a, (k0_off363 v2300) a + S1x1x512.size a ≤ S784x8x512.size a := fun v2300 k0_hw122 => k0_hw122.2

def k0_off364 (v2315 : BitVec 32) : Fin 3 → Nat :=
  let c1023_i32_1439 : BitVec 32 := 1023#32
  let v2316 : BitVec 32 := Scalar.andi v2315 c1023_i32_1439
  let v2410 : Index := Scalar.indexCast v2316
  let c2_1500 : Index := 2#32
  let c0_1501 : Index := 0#32
  ![v2410.toNat, 2, 0]

def k0_chk123 (v2315 : BitVec 32) : Prop :=
  (∀ a, (k0_off351 v2315) a + S1x1x512.size a ≤ S784x8x512.size a) ∧
  (∀ a, (k0_off364 v2315) a + S1x1x512.size a ≤ S784x8x512.size a)
theorem k0_off351_inb : ∀ (v2315 : BitVec 32) (k0_hw123 : k0_chk123 v2315), ∀ a, (k0_off351 v2315) a + S1x1x512.size a ≤ S784x8x512.size a := fun v2315 k0_hw123 => k0_hw123.1
theorem k0_off364_inb : ∀ (v2315 : BitVec 32) (k0_hw123 : k0_chk123 v2315), ∀ a, (k0_off364 v2315) a + S1x1x512.size a ≤ S784x8x512.size a := fun v2315 k0_hw123 => k0_hw123.2

def k0_off365 (v2330 : BitVec 32) : Fin 3 → Nat :=
  let c1023_i32_1449 : BitVec 32 := 1023#32
  let v2331 : BitVec 32 := Scalar.andi v2330 c1023_i32_1449
  let v2414 : Index := Scalar.indexCast v2331
  let c3_1502 : Index := 3#32
  let c0_1503 : Index := 0#32
  ![v2414.toNat, 3, 0]

def k0_chk124 (v2330 : BitVec 32) : Prop :=
  (∀ a, (k0_off353 v2330) a + S1x1x512.size a ≤ S784x8x512.size a) ∧
  (∀ a, (k0_off365 v2330) a + S1x1x512.size a ≤ S784x8x512.size a)
theorem k0_off353_inb : ∀ (v2330 : BitVec 32) (k0_hw124 : k0_chk124 v2330), ∀ a, (k0_off353 v2330) a + S1x1x512.size a ≤ S784x8x512.size a := fun v2330 k0_hw124 => k0_hw124.1
theorem k0_off365_inb : ∀ (v2330 : BitVec 32) (k0_hw124 : k0_chk124 v2330), ∀ a, (k0_off365 v2330) a + S1x1x512.size a ≤ S784x8x512.size a := fun v2330 k0_hw124 => k0_hw124.2

def k0_off366 (v2345 : BitVec 32) : Fin 3 → Nat :=
  let c1023_i32_1459 : BitVec 32 := 1023#32
  let v2346 : BitVec 32 := Scalar.andi v2345 c1023_i32_1459
  let v2418 : Index := Scalar.indexCast v2346
  let c4_1504 : Index := 4#32
  let c0_1505 : Index := 0#32
  ![v2418.toNat, 4, 0]

def k0_chk125 (v2345 : BitVec 32) : Prop :=
  (∀ a, (k0_off355 v2345) a + S1x1x512.size a ≤ S784x8x512.size a) ∧
  (∀ a, (k0_off366 v2345) a + S1x1x512.size a ≤ S784x8x512.size a)
theorem k0_off355_inb : ∀ (v2345 : BitVec 32) (k0_hw125 : k0_chk125 v2345), ∀ a, (k0_off355 v2345) a + S1x1x512.size a ≤ S784x8x512.size a := fun v2345 k0_hw125 => k0_hw125.1
theorem k0_off366_inb : ∀ (v2345 : BitVec 32) (k0_hw125 : k0_chk125 v2345), ∀ a, (k0_off366 v2345) a + S1x1x512.size a ≤ S784x8x512.size a := fun v2345 k0_hw125 => k0_hw125.2

def k0_off367 (v2360 : BitVec 32) : Fin 3 → Nat :=
  let c1023_i32_1469 : BitVec 32 := 1023#32
  let v2361 : BitVec 32 := Scalar.andi v2360 c1023_i32_1469
  let v2422 : Index := Scalar.indexCast v2361
  let c5_1506 : Index := 5#32
  let c0_1507 : Index := 0#32
  ![v2422.toNat, 5, 0]

def k0_chk126 (v2360 : BitVec 32) : Prop :=
  (∀ a, (k0_off357 v2360) a + S1x1x512.size a ≤ S784x8x512.size a) ∧
  (∀ a, (k0_off367 v2360) a + S1x1x512.size a ≤ S784x8x512.size a)
theorem k0_off357_inb : ∀ (v2360 : BitVec 32) (k0_hw126 : k0_chk126 v2360), ∀ a, (k0_off357 v2360) a + S1x1x512.size a ≤ S784x8x512.size a := fun v2360 k0_hw126 => k0_hw126.1
theorem k0_off367_inb : ∀ (v2360 : BitVec 32) (k0_hw126 : k0_chk126 v2360), ∀ a, (k0_off367 v2360) a + S1x1x512.size a ≤ S784x8x512.size a := fun v2360 k0_hw126 => k0_hw126.2

def k0_off368 (v2375 : BitVec 32) : Fin 3 → Nat :=
  let c1023_i32_1479 : BitVec 32 := 1023#32
  let v2376 : BitVec 32 := Scalar.andi v2375 c1023_i32_1479
  let v2426 : Index := Scalar.indexCast v2376
  let c6_1508 : Index := 6#32
  let c0_1509 : Index := 0#32
  ![v2426.toNat, 6, 0]

def k0_chk127 (v2375 : BitVec 32) : Prop :=
  (∀ a, (k0_off359 v2375) a + S1x1x512.size a ≤ S784x8x512.size a) ∧
  (∀ a, (k0_off368 v2375) a + S1x1x512.size a ≤ S784x8x512.size a)
theorem k0_off359_inb : ∀ (v2375 : BitVec 32) (k0_hw127 : k0_chk127 v2375), ∀ a, (k0_off359 v2375) a + S1x1x512.size a ≤ S784x8x512.size a := fun v2375 k0_hw127 => k0_hw127.1
theorem k0_off368_inb : ∀ (v2375 : BitVec 32) (k0_hw127 : k0_chk127 v2375), ∀ a, (k0_off368 v2375) a + S1x1x512.size a ≤ S784x8x512.size a := fun v2375 k0_hw127 => k0_hw127.2

def k0_off369 (i : grid0.Coords) : Fin 2 → Nat :=
  let arg0 : BitVec 32 := BitVec.ofNat 32 (i 0).val
  let c8_i32_1512 : BitVec 32 := 8#32
  let v2434 : BitVec 32 := Scalar.muli arg0 c8_i32_1512
  let c0_i32_1513 : BitVec 32 := 0#32
  let v2435 : BitVec 32 := Scalar.addi v2434 c0_i32_1513
  let v2436 : Index := Scalar.indexCast v2435
  let c16 : Index := 16#32
  ![v2436.toNat, 16]
def k0_off370 (v2437 : BitVec 32) : Fin 3 → Nat :=
  let c1023_i32_1514 : BitVec 32 := 1023#32
  let v2438 : BitVec 32 := Scalar.andi v2437 c1023_i32_1514
  let v2445 : Index := Scalar.indexCast v2438
  let c0_1519 : Index := 0#32
  let c0_1520 : Index := 0#32
  ![v2445.toNat, 0, 0]

def k0_off371 (i : grid0.Coords) : Fin 2 → Nat :=
  let arg0 : BitVec 32 := BitVec.ofNat 32 (i 0).val
  let c8_i32_1521 : BitVec 32 := 8#32
  let v2449 : BitVec 32 := Scalar.muli arg0 c8_i32_1521
  let c1_i32_1522 : BitVec 32 := 1#32
  let v2450 : BitVec 32 := Scalar.addi v2449 c1_i32_1522
  let v2451 : Index := Scalar.indexCast v2450
  let c16_1523 : Index := 16#32
  ![v2451.toNat, 16]
def k0_off372 (v2452 : BitVec 32) : Fin 3 → Nat :=
  let c1023_i32_1524 : BitVec 32 := 1023#32
  let v2453 : BitVec 32 := Scalar.andi v2452 c1023_i32_1524
  let v2460 : Index := Scalar.indexCast v2453
  let c1_1529 : Index := 1#32
  let c0_1530 : Index := 0#32
  ![v2460.toNat, 1, 0]

def k0_off373 (i : grid0.Coords) : Fin 2 → Nat :=
  let arg0 : BitVec 32 := BitVec.ofNat 32 (i 0).val
  let c8_i32_1531 : BitVec 32 := 8#32
  let v2464 : BitVec 32 := Scalar.muli arg0 c8_i32_1531
  let c2_i32_1532 : BitVec 32 := 2#32
  let v2465 : BitVec 32 := Scalar.addi v2464 c2_i32_1532
  let v2466 : Index := Scalar.indexCast v2465
  let c16_1533 : Index := 16#32
  ![v2466.toNat, 16]
def k0_off374 (v2467 : BitVec 32) : Fin 3 → Nat :=
  let c1023_i32_1534 : BitVec 32 := 1023#32
  let v2468 : BitVec 32 := Scalar.andi v2467 c1023_i32_1534
  let v2475 : Index := Scalar.indexCast v2468
  let c2_1539 : Index := 2#32
  let c0_1540 : Index := 0#32
  ![v2475.toNat, 2, 0]

def k0_off375 (i : grid0.Coords) : Fin 2 → Nat :=
  let arg0 : BitVec 32 := BitVec.ofNat 32 (i 0).val
  let c8_i32_1541 : BitVec 32 := 8#32
  let v2479 : BitVec 32 := Scalar.muli arg0 c8_i32_1541
  let c3_i32_1542 : BitVec 32 := 3#32
  let v2480 : BitVec 32 := Scalar.addi v2479 c3_i32_1542
  let v2481 : Index := Scalar.indexCast v2480
  let c16_1543 : Index := 16#32
  ![v2481.toNat, 16]
def k0_off376 (v2482 : BitVec 32) : Fin 3 → Nat :=
  let c1023_i32_1544 : BitVec 32 := 1023#32
  let v2483 : BitVec 32 := Scalar.andi v2482 c1023_i32_1544
  let v2490 : Index := Scalar.indexCast v2483
  let c3_1549 : Index := 3#32
  let c0_1550 : Index := 0#32
  ![v2490.toNat, 3, 0]

def k0_off377 (i : grid0.Coords) : Fin 2 → Nat :=
  let arg0 : BitVec 32 := BitVec.ofNat 32 (i 0).val
  let c8_i32_1551 : BitVec 32 := 8#32
  let v2494 : BitVec 32 := Scalar.muli arg0 c8_i32_1551
  let c4_i32_1552 : BitVec 32 := 4#32
  let v2495 : BitVec 32 := Scalar.addi v2494 c4_i32_1552
  let v2496 : Index := Scalar.indexCast v2495
  let c16_1553 : Index := 16#32
  ![v2496.toNat, 16]
def k0_off378 (v2497 : BitVec 32) : Fin 3 → Nat :=
  let c1023_i32_1554 : BitVec 32 := 1023#32
  let v2498 : BitVec 32 := Scalar.andi v2497 c1023_i32_1554
  let v2505 : Index := Scalar.indexCast v2498
  let c4_1559 : Index := 4#32
  let c0_1560 : Index := 0#32
  ![v2505.toNat, 4, 0]

def k0_off379 (i : grid0.Coords) : Fin 2 → Nat :=
  let arg0 : BitVec 32 := BitVec.ofNat 32 (i 0).val
  let c8_i32_1561 : BitVec 32 := 8#32
  let v2509 : BitVec 32 := Scalar.muli arg0 c8_i32_1561
  let c5_i32_1562 : BitVec 32 := 5#32
  let v2510 : BitVec 32 := Scalar.addi v2509 c5_i32_1562
  let v2511 : Index := Scalar.indexCast v2510
  let c16_1563 : Index := 16#32
  ![v2511.toNat, 16]
def k0_off380 (v2512 : BitVec 32) : Fin 3 → Nat :=
  let c1023_i32_1564 : BitVec 32 := 1023#32
  let v2513 : BitVec 32 := Scalar.andi v2512 c1023_i32_1564
  let v2520 : Index := Scalar.indexCast v2513
  let c5_1569 : Index := 5#32
  let c0_1570 : Index := 0#32
  ![v2520.toNat, 5, 0]

def k0_off381 (i : grid0.Coords) : Fin 2 → Nat :=
  let arg0 : BitVec 32 := BitVec.ofNat 32 (i 0).val
  let c8_i32_1571 : BitVec 32 := 8#32
  let v2524 : BitVec 32 := Scalar.muli arg0 c8_i32_1571
  let c6_i32_1572 : BitVec 32 := 6#32
  let v2525 : BitVec 32 := Scalar.addi v2524 c6_i32_1572
  let v2526 : Index := Scalar.indexCast v2525
  let c16_1573 : Index := 16#32
  ![v2526.toNat, 16]
def k0_off382 (v2527 : BitVec 32) : Fin 3 → Nat :=
  let c1023_i32_1574 : BitVec 32 := 1023#32
  let v2528 : BitVec 32 := Scalar.andi v2527 c1023_i32_1574
  let v2535 : Index := Scalar.indexCast v2528
  let c6_1579 : Index := 6#32
  let c0_1580 : Index := 0#32
  ![v2535.toNat, 6, 0]

def k0_off383 (i : grid0.Coords) : Fin 2 → Nat :=
  let arg0 : BitVec 32 := BitVec.ofNat 32 (i 0).val
  let c8_i32_1581 : BitVec 32 := 8#32
  let v2539 : BitVec 32 := Scalar.muli arg0 c8_i32_1581
  let c7_i32_1582 : BitVec 32 := 7#32
  let v2540 : BitVec 32 := Scalar.addi v2539 c7_i32_1582
  let v2541 : Index := Scalar.indexCast v2540
  let c16_1583 : Index := 16#32
  ![v2541.toNat, 16]
def k0_off384 (v2542 : BitVec 32) : Fin 3 → Nat :=
  let c1023_i32_1584 : BitVec 32 := 1023#32
  let v2543 : BitVec 32 := Scalar.andi v2542 c1023_i32_1584
  let v2550 : Index := Scalar.indexCast v2543
  let c7_1589 : Index := 7#32
  let c0_1590 : Index := 0#32
  ![v2550.toNat, 7, 0]

def k0_chk136 (v2542 : BitVec 32) : Prop :=
  (∀ a, (k0_off384 v2542) a + S1x1x512.size a ≤ S784x8x512.size a)
theorem k0_off384_inb : ∀ (v2542 : BitVec 32) (k0_hw136 : k0_chk136 v2542), ∀ a, (k0_off384 v2542) a + S1x1x512.size a ≤ S784x8x512.size a := fun v2542 k0_hw136 => k0_hw136

def k0_off385 (v2437 : BitVec 32) : Fin 3 → Nat :=
  let c1023_i32_1514 : BitVec 32 := 1023#32
  let v2438 : BitVec 32 := Scalar.andi v2437 c1023_i32_1514
  let v2554 : Index := Scalar.indexCast v2438
  let c0_1591 : Index := 0#32
  let c0_1592 : Index := 0#32
  ![v2554.toNat, 0, 0]

def k0_chk129 (v2437 : BitVec 32) : Prop :=
  (∀ a, (k0_off370 v2437) a + S1x1x512.size a ≤ S784x8x512.size a) ∧
  (∀ a, (k0_off385 v2437) a + S1x1x512.size a ≤ S784x8x512.size a)
theorem k0_off370_inb : ∀ (v2437 : BitVec 32) (k0_hw129 : k0_chk129 v2437), ∀ a, (k0_off370 v2437) a + S1x1x512.size a ≤ S784x8x512.size a := fun v2437 k0_hw129 => k0_hw129.1
theorem k0_off385_inb : ∀ (v2437 : BitVec 32) (k0_hw129 : k0_chk129 v2437), ∀ a, (k0_off385 v2437) a + S1x1x512.size a ≤ S784x8x512.size a := fun v2437 k0_hw129 => k0_hw129.2

def k0_off386 (v2452 : BitVec 32) : Fin 3 → Nat :=
  let c1023_i32_1524 : BitVec 32 := 1023#32
  let v2453 : BitVec 32 := Scalar.andi v2452 c1023_i32_1524
  let v2558 : Index := Scalar.indexCast v2453
  let c1_1593 : Index := 1#32
  let c0_1594 : Index := 0#32
  ![v2558.toNat, 1, 0]

def k0_chk130 (v2452 : BitVec 32) : Prop :=
  (∀ a, (k0_off372 v2452) a + S1x1x512.size a ≤ S784x8x512.size a) ∧
  (∀ a, (k0_off386 v2452) a + S1x1x512.size a ≤ S784x8x512.size a)
theorem k0_off372_inb : ∀ (v2452 : BitVec 32) (k0_hw130 : k0_chk130 v2452), ∀ a, (k0_off372 v2452) a + S1x1x512.size a ≤ S784x8x512.size a := fun v2452 k0_hw130 => k0_hw130.1
theorem k0_off386_inb : ∀ (v2452 : BitVec 32) (k0_hw130 : k0_chk130 v2452), ∀ a, (k0_off386 v2452) a + S1x1x512.size a ≤ S784x8x512.size a := fun v2452 k0_hw130 => k0_hw130.2

def k0_off387 (v2467 : BitVec 32) : Fin 3 → Nat :=
  let c1023_i32_1534 : BitVec 32 := 1023#32
  let v2468 : BitVec 32 := Scalar.andi v2467 c1023_i32_1534
  let v2562 : Index := Scalar.indexCast v2468
  let c2_1595 : Index := 2#32
  let c0_1596 : Index := 0#32
  ![v2562.toNat, 2, 0]

def k0_chk131 (v2467 : BitVec 32) : Prop :=
  (∀ a, (k0_off374 v2467) a + S1x1x512.size a ≤ S784x8x512.size a) ∧
  (∀ a, (k0_off387 v2467) a + S1x1x512.size a ≤ S784x8x512.size a)
theorem k0_off374_inb : ∀ (v2467 : BitVec 32) (k0_hw131 : k0_chk131 v2467), ∀ a, (k0_off374 v2467) a + S1x1x512.size a ≤ S784x8x512.size a := fun v2467 k0_hw131 => k0_hw131.1
theorem k0_off387_inb : ∀ (v2467 : BitVec 32) (k0_hw131 : k0_chk131 v2467), ∀ a, (k0_off387 v2467) a + S1x1x512.size a ≤ S784x8x512.size a := fun v2467 k0_hw131 => k0_hw131.2

def k0_off388 (v2482 : BitVec 32) : Fin 3 → Nat :=
  let c1023_i32_1544 : BitVec 32 := 1023#32
  let v2483 : BitVec 32 := Scalar.andi v2482 c1023_i32_1544
  let v2566 : Index := Scalar.indexCast v2483
  let c3_1597 : Index := 3#32
  let c0_1598 : Index := 0#32
  ![v2566.toNat, 3, 0]

def k0_chk132 (v2482 : BitVec 32) : Prop :=
  (∀ a, (k0_off376 v2482) a + S1x1x512.size a ≤ S784x8x512.size a) ∧
  (∀ a, (k0_off388 v2482) a + S1x1x512.size a ≤ S784x8x512.size a)
theorem k0_off376_inb : ∀ (v2482 : BitVec 32) (k0_hw132 : k0_chk132 v2482), ∀ a, (k0_off376 v2482) a + S1x1x512.size a ≤ S784x8x512.size a := fun v2482 k0_hw132 => k0_hw132.1
theorem k0_off388_inb : ∀ (v2482 : BitVec 32) (k0_hw132 : k0_chk132 v2482), ∀ a, (k0_off388 v2482) a + S1x1x512.size a ≤ S784x8x512.size a := fun v2482 k0_hw132 => k0_hw132.2

def k0_off389 (v2497 : BitVec 32) : Fin 3 → Nat :=
  let c1023_i32_1554 : BitVec 32 := 1023#32
  let v2498 : BitVec 32 := Scalar.andi v2497 c1023_i32_1554
  let v2570 : Index := Scalar.indexCast v2498
  let c4_1599 : Index := 4#32
  let c0_1600 : Index := 0#32
  ![v2570.toNat, 4, 0]

def k0_chk133 (v2497 : BitVec 32) : Prop :=
  (∀ a, (k0_off378 v2497) a + S1x1x512.size a ≤ S784x8x512.size a) ∧
  (∀ a, (k0_off389 v2497) a + S1x1x512.size a ≤ S784x8x512.size a)
theorem k0_off378_inb : ∀ (v2497 : BitVec 32) (k0_hw133 : k0_chk133 v2497), ∀ a, (k0_off378 v2497) a + S1x1x512.size a ≤ S784x8x512.size a := fun v2497 k0_hw133 => k0_hw133.1
theorem k0_off389_inb : ∀ (v2497 : BitVec 32) (k0_hw133 : k0_chk133 v2497), ∀ a, (k0_off389 v2497) a + S1x1x512.size a ≤ S784x8x512.size a := fun v2497 k0_hw133 => k0_hw133.2

def k0_off390 (v2512 : BitVec 32) : Fin 3 → Nat :=
  let c1023_i32_1564 : BitVec 32 := 1023#32
  let v2513 : BitVec 32 := Scalar.andi v2512 c1023_i32_1564
  let v2574 : Index := Scalar.indexCast v2513
  let c5_1601 : Index := 5#32
  let c0_1602 : Index := 0#32
  ![v2574.toNat, 5, 0]

def k0_chk134 (v2512 : BitVec 32) : Prop :=
  (∀ a, (k0_off380 v2512) a + S1x1x512.size a ≤ S784x8x512.size a) ∧
  (∀ a, (k0_off390 v2512) a + S1x1x512.size a ≤ S784x8x512.size a)
theorem k0_off380_inb : ∀ (v2512 : BitVec 32) (k0_hw134 : k0_chk134 v2512), ∀ a, (k0_off380 v2512) a + S1x1x512.size a ≤ S784x8x512.size a := fun v2512 k0_hw134 => k0_hw134.1
theorem k0_off390_inb : ∀ (v2512 : BitVec 32) (k0_hw134 : k0_chk134 v2512), ∀ a, (k0_off390 v2512) a + S1x1x512.size a ≤ S784x8x512.size a := fun v2512 k0_hw134 => k0_hw134.2

def k0_off391 (v2527 : BitVec 32) : Fin 3 → Nat :=
  let c1023_i32_1574 : BitVec 32 := 1023#32
  let v2528 : BitVec 32 := Scalar.andi v2527 c1023_i32_1574
  let v2578 : Index := Scalar.indexCast v2528
  let c6_1603 : Index := 6#32
  let c0_1604 : Index := 0#32
  ![v2578.toNat, 6, 0]

def k0_chk135 (v2527 : BitVec 32) : Prop :=
  (∀ a, (k0_off382 v2527) a + S1x1x512.size a ≤ S784x8x512.size a) ∧
  (∀ a, (k0_off391 v2527) a + S1x1x512.size a ≤ S784x8x512.size a)
theorem k0_off382_inb : ∀ (v2527 : BitVec 32) (k0_hw135 : k0_chk135 v2527), ∀ a, (k0_off382 v2527) a + S1x1x512.size a ≤ S784x8x512.size a := fun v2527 k0_hw135 => k0_hw135.1
theorem k0_off391_inb : ∀ (v2527 : BitVec 32) (k0_hw135 : k0_chk135 v2527), ∀ a, (k0_off391 v2527) a + S1x1x512.size a ≤ S784x8x512.size a := fun v2527 k0_hw135 => k0_hw135.2

def k0_off392 (i : grid0.Coords) : Fin 2 → Nat :=
  let arg0 : BitVec 32 := BitVec.ofNat 32 (i 0).val
  let c8_i32_1607 : BitVec 32 := 8#32
  let v2586 : BitVec 32 := Scalar.muli arg0 c8_i32_1607
  let c0_i32_1608 : BitVec 32 := 0#32
  let v2587 : BitVec 32 := Scalar.addi v2586 c0_i32_1608
  let v2588 : Index := Scalar.indexCast v2587
  let c17 : Index := 17#32
  ![v2588.toNat, 17]
def k0_off393 (v2589 : BitVec 32) : Fin 3 → Nat :=
  let c1023_i32_1609 : BitVec 32 := 1023#32
  let v2590 : BitVec 32 := Scalar.andi v2589 c1023_i32_1609
  let v2597 : Index := Scalar.indexCast v2590
  let c0_1614 : Index := 0#32
  let c0_1615 : Index := 0#32
  ![v2597.toNat, 0, 0]

def k0_off394 (i : grid0.Coords) : Fin 2 → Nat :=
  let arg0 : BitVec 32 := BitVec.ofNat 32 (i 0).val
  let c8_i32_1616 : BitVec 32 := 8#32
  let v2601 : BitVec 32 := Scalar.muli arg0 c8_i32_1616
  let c1_i32_1617 : BitVec 32 := 1#32
  let v2602 : BitVec 32 := Scalar.addi v2601 c1_i32_1617
  let v2603 : Index := Scalar.indexCast v2602
  let c17_1618 : Index := 17#32
  ![v2603.toNat, 17]
def k0_off395 (v2604 : BitVec 32) : Fin 3 → Nat :=
  let c1023_i32_1619 : BitVec 32 := 1023#32
  let v2605 : BitVec 32 := Scalar.andi v2604 c1023_i32_1619
  let v2612 : Index := Scalar.indexCast v2605
  let c1_1624 : Index := 1#32
  let c0_1625 : Index := 0#32
  ![v2612.toNat, 1, 0]

def k0_off396 (i : grid0.Coords) : Fin 2 → Nat :=
  let arg0 : BitVec 32 := BitVec.ofNat 32 (i 0).val
  let c8_i32_1626 : BitVec 32 := 8#32
  let v2616 : BitVec 32 := Scalar.muli arg0 c8_i32_1626
  let c2_i32_1627 : BitVec 32 := 2#32
  let v2617 : BitVec 32 := Scalar.addi v2616 c2_i32_1627
  let v2618 : Index := Scalar.indexCast v2617
  let c17_1628 : Index := 17#32
  ![v2618.toNat, 17]
def k0_off397 (v2619 : BitVec 32) : Fin 3 → Nat :=
  let c1023_i32_1629 : BitVec 32 := 1023#32
  let v2620 : BitVec 32 := Scalar.andi v2619 c1023_i32_1629
  let v2627 : Index := Scalar.indexCast v2620
  let c2_1634 : Index := 2#32
  let c0_1635 : Index := 0#32
  ![v2627.toNat, 2, 0]

def k0_off398 (i : grid0.Coords) : Fin 2 → Nat :=
  let arg0 : BitVec 32 := BitVec.ofNat 32 (i 0).val
  let c8_i32_1636 : BitVec 32 := 8#32
  let v2631 : BitVec 32 := Scalar.muli arg0 c8_i32_1636
  let c3_i32_1637 : BitVec 32 := 3#32
  let v2632 : BitVec 32 := Scalar.addi v2631 c3_i32_1637
  let v2633 : Index := Scalar.indexCast v2632
  let c17_1638 : Index := 17#32
  ![v2633.toNat, 17]
def k0_off399 (v2634 : BitVec 32) : Fin 3 → Nat :=
  let c1023_i32_1639 : BitVec 32 := 1023#32
  let v2635 : BitVec 32 := Scalar.andi v2634 c1023_i32_1639
  let v2642 : Index := Scalar.indexCast v2635
  let c3_1644 : Index := 3#32
  let c0_1645 : Index := 0#32
  ![v2642.toNat, 3, 0]

def k0_off400 (i : grid0.Coords) : Fin 2 → Nat :=
  let arg0 : BitVec 32 := BitVec.ofNat 32 (i 0).val
  let c8_i32_1646 : BitVec 32 := 8#32
  let v2646 : BitVec 32 := Scalar.muli arg0 c8_i32_1646
  let c4_i32_1647 : BitVec 32 := 4#32
  let v2647 : BitVec 32 := Scalar.addi v2646 c4_i32_1647
  let v2648 : Index := Scalar.indexCast v2647
  let c17_1648 : Index := 17#32
  ![v2648.toNat, 17]
def k0_off401 (v2649 : BitVec 32) : Fin 3 → Nat :=
  let c1023_i32_1649 : BitVec 32 := 1023#32
  let v2650 : BitVec 32 := Scalar.andi v2649 c1023_i32_1649
  let v2657 : Index := Scalar.indexCast v2650
  let c4_1654 : Index := 4#32
  let c0_1655 : Index := 0#32
  ![v2657.toNat, 4, 0]

def k0_off402 (i : grid0.Coords) : Fin 2 → Nat :=
  let arg0 : BitVec 32 := BitVec.ofNat 32 (i 0).val
  let c8_i32_1656 : BitVec 32 := 8#32
  let v2661 : BitVec 32 := Scalar.muli arg0 c8_i32_1656
  let c5_i32_1657 : BitVec 32 := 5#32
  let v2662 : BitVec 32 := Scalar.addi v2661 c5_i32_1657
  let v2663 : Index := Scalar.indexCast v2662
  let c17_1658 : Index := 17#32
  ![v2663.toNat, 17]
def k0_off403 (v2664 : BitVec 32) : Fin 3 → Nat :=
  let c1023_i32_1659 : BitVec 32 := 1023#32
  let v2665 : BitVec 32 := Scalar.andi v2664 c1023_i32_1659
  let v2672 : Index := Scalar.indexCast v2665
  let c5_1664 : Index := 5#32
  let c0_1665 : Index := 0#32
  ![v2672.toNat, 5, 0]

def k0_off404 (i : grid0.Coords) : Fin 2 → Nat :=
  let arg0 : BitVec 32 := BitVec.ofNat 32 (i 0).val
  let c8_i32_1666 : BitVec 32 := 8#32
  let v2676 : BitVec 32 := Scalar.muli arg0 c8_i32_1666
  let c6_i32_1667 : BitVec 32 := 6#32
  let v2677 : BitVec 32 := Scalar.addi v2676 c6_i32_1667
  let v2678 : Index := Scalar.indexCast v2677
  let c17_1668 : Index := 17#32
  ![v2678.toNat, 17]
def k0_off405 (v2679 : BitVec 32) : Fin 3 → Nat :=
  let c1023_i32_1669 : BitVec 32 := 1023#32
  let v2680 : BitVec 32 := Scalar.andi v2679 c1023_i32_1669
  let v2687 : Index := Scalar.indexCast v2680
  let c6_1674 : Index := 6#32
  let c0_1675 : Index := 0#32
  ![v2687.toNat, 6, 0]

def k0_off406 (i : grid0.Coords) : Fin 2 → Nat :=
  let arg0 : BitVec 32 := BitVec.ofNat 32 (i 0).val
  let c8_i32_1676 : BitVec 32 := 8#32
  let v2691 : BitVec 32 := Scalar.muli arg0 c8_i32_1676
  let c7_i32_1677 : BitVec 32 := 7#32
  let v2692 : BitVec 32 := Scalar.addi v2691 c7_i32_1677
  let v2693 : Index := Scalar.indexCast v2692
  let c17_1678 : Index := 17#32
  ![v2693.toNat, 17]
def k0_off407 (v2694 : BitVec 32) : Fin 3 → Nat :=
  let c1023_i32_1679 : BitVec 32 := 1023#32
  let v2695 : BitVec 32 := Scalar.andi v2694 c1023_i32_1679
  let v2702 : Index := Scalar.indexCast v2695
  let c7_1684 : Index := 7#32
  let c0_1685 : Index := 0#32
  ![v2702.toNat, 7, 0]

def k0_chk144 (v2694 : BitVec 32) : Prop :=
  (∀ a, (k0_off407 v2694) a + S1x1x512.size a ≤ S784x8x512.size a)
theorem k0_off407_inb : ∀ (v2694 : BitVec 32) (k0_hw144 : k0_chk144 v2694), ∀ a, (k0_off407 v2694) a + S1x1x512.size a ≤ S784x8x512.size a := fun v2694 k0_hw144 => k0_hw144

def k0_off408 (v2589 : BitVec 32) : Fin 3 → Nat :=
  let c1023_i32_1609 : BitVec 32 := 1023#32
  let v2590 : BitVec 32 := Scalar.andi v2589 c1023_i32_1609
  let v2706 : Index := Scalar.indexCast v2590
  let c0_1686 : Index := 0#32
  let c0_1687 : Index := 0#32
  ![v2706.toNat, 0, 0]

def k0_chk137 (v2589 : BitVec 32) : Prop :=
  (∀ a, (k0_off393 v2589) a + S1x1x512.size a ≤ S784x8x512.size a) ∧
  (∀ a, (k0_off408 v2589) a + S1x1x512.size a ≤ S784x8x512.size a)
theorem k0_off393_inb : ∀ (v2589 : BitVec 32) (k0_hw137 : k0_chk137 v2589), ∀ a, (k0_off393 v2589) a + S1x1x512.size a ≤ S784x8x512.size a := fun v2589 k0_hw137 => k0_hw137.1
theorem k0_off408_inb : ∀ (v2589 : BitVec 32) (k0_hw137 : k0_chk137 v2589), ∀ a, (k0_off408 v2589) a + S1x1x512.size a ≤ S784x8x512.size a := fun v2589 k0_hw137 => k0_hw137.2

def k0_off409 (v2604 : BitVec 32) : Fin 3 → Nat :=
  let c1023_i32_1619 : BitVec 32 := 1023#32
  let v2605 : BitVec 32 := Scalar.andi v2604 c1023_i32_1619
  let v2710 : Index := Scalar.indexCast v2605
  let c1_1688 : Index := 1#32
  let c0_1689 : Index := 0#32
  ![v2710.toNat, 1, 0]

def k0_chk138 (v2604 : BitVec 32) : Prop :=
  (∀ a, (k0_off395 v2604) a + S1x1x512.size a ≤ S784x8x512.size a) ∧
  (∀ a, (k0_off409 v2604) a + S1x1x512.size a ≤ S784x8x512.size a)
theorem k0_off395_inb : ∀ (v2604 : BitVec 32) (k0_hw138 : k0_chk138 v2604), ∀ a, (k0_off395 v2604) a + S1x1x512.size a ≤ S784x8x512.size a := fun v2604 k0_hw138 => k0_hw138.1
theorem k0_off409_inb : ∀ (v2604 : BitVec 32) (k0_hw138 : k0_chk138 v2604), ∀ a, (k0_off409 v2604) a + S1x1x512.size a ≤ S784x8x512.size a := fun v2604 k0_hw138 => k0_hw138.2

def k0_off410 (v2619 : BitVec 32) : Fin 3 → Nat :=
  let c1023_i32_1629 : BitVec 32 := 1023#32
  let v2620 : BitVec 32 := Scalar.andi v2619 c1023_i32_1629
  let v2714 : Index := Scalar.indexCast v2620
  let c2_1690 : Index := 2#32
  let c0_1691 : Index := 0#32
  ![v2714.toNat, 2, 0]

def k0_chk139 (v2619 : BitVec 32) : Prop :=
  (∀ a, (k0_off397 v2619) a + S1x1x512.size a ≤ S784x8x512.size a) ∧
  (∀ a, (k0_off410 v2619) a + S1x1x512.size a ≤ S784x8x512.size a)
theorem k0_off397_inb : ∀ (v2619 : BitVec 32) (k0_hw139 : k0_chk139 v2619), ∀ a, (k0_off397 v2619) a + S1x1x512.size a ≤ S784x8x512.size a := fun v2619 k0_hw139 => k0_hw139.1
theorem k0_off410_inb : ∀ (v2619 : BitVec 32) (k0_hw139 : k0_chk139 v2619), ∀ a, (k0_off410 v2619) a + S1x1x512.size a ≤ S784x8x512.size a := fun v2619 k0_hw139 => k0_hw139.2

def k0_off411 (v2634 : BitVec 32) : Fin 3 → Nat :=
  let c1023_i32_1639 : BitVec 32 := 1023#32
  let v2635 : BitVec 32 := Scalar.andi v2634 c1023_i32_1639
  let v2718 : Index := Scalar.indexCast v2635
  let c3_1692 : Index := 3#32
  let c0_1693 : Index := 0#32
  ![v2718.toNat, 3, 0]

def k0_chk140 (v2634 : BitVec 32) : Prop :=
  (∀ a, (k0_off399 v2634) a + S1x1x512.size a ≤ S784x8x512.size a) ∧
  (∀ a, (k0_off411 v2634) a + S1x1x512.size a ≤ S784x8x512.size a)
theorem k0_off399_inb : ∀ (v2634 : BitVec 32) (k0_hw140 : k0_chk140 v2634), ∀ a, (k0_off399 v2634) a + S1x1x512.size a ≤ S784x8x512.size a := fun v2634 k0_hw140 => k0_hw140.1
theorem k0_off411_inb : ∀ (v2634 : BitVec 32) (k0_hw140 : k0_chk140 v2634), ∀ a, (k0_off411 v2634) a + S1x1x512.size a ≤ S784x8x512.size a := fun v2634 k0_hw140 => k0_hw140.2

def k0_off412 (v2649 : BitVec 32) : Fin 3 → Nat :=
  let c1023_i32_1649 : BitVec 32 := 1023#32
  let v2650 : BitVec 32 := Scalar.andi v2649 c1023_i32_1649
  let v2722 : Index := Scalar.indexCast v2650
  let c4_1694 : Index := 4#32
  let c0_1695 : Index := 0#32
  ![v2722.toNat, 4, 0]

def k0_chk141 (v2649 : BitVec 32) : Prop :=
  (∀ a, (k0_off401 v2649) a + S1x1x512.size a ≤ S784x8x512.size a) ∧
  (∀ a, (k0_off412 v2649) a + S1x1x512.size a ≤ S784x8x512.size a)
theorem k0_off401_inb : ∀ (v2649 : BitVec 32) (k0_hw141 : k0_chk141 v2649), ∀ a, (k0_off401 v2649) a + S1x1x512.size a ≤ S784x8x512.size a := fun v2649 k0_hw141 => k0_hw141.1
theorem k0_off412_inb : ∀ (v2649 : BitVec 32) (k0_hw141 : k0_chk141 v2649), ∀ a, (k0_off412 v2649) a + S1x1x512.size a ≤ S784x8x512.size a := fun v2649 k0_hw141 => k0_hw141.2

def k0_off413 (v2664 : BitVec 32) : Fin 3 → Nat :=
  let c1023_i32_1659 : BitVec 32 := 1023#32
  let v2665 : BitVec 32 := Scalar.andi v2664 c1023_i32_1659
  let v2726 : Index := Scalar.indexCast v2665
  let c5_1696 : Index := 5#32
  let c0_1697 : Index := 0#32
  ![v2726.toNat, 5, 0]

def k0_chk142 (v2664 : BitVec 32) : Prop :=
  (∀ a, (k0_off403 v2664) a + S1x1x512.size a ≤ S784x8x512.size a) ∧
  (∀ a, (k0_off413 v2664) a + S1x1x512.size a ≤ S784x8x512.size a)
theorem k0_off403_inb : ∀ (v2664 : BitVec 32) (k0_hw142 : k0_chk142 v2664), ∀ a, (k0_off403 v2664) a + S1x1x512.size a ≤ S784x8x512.size a := fun v2664 k0_hw142 => k0_hw142.1
theorem k0_off413_inb : ∀ (v2664 : BitVec 32) (k0_hw142 : k0_chk142 v2664), ∀ a, (k0_off413 v2664) a + S1x1x512.size a ≤ S784x8x512.size a := fun v2664 k0_hw142 => k0_hw142.2

def k0_off414 (v2679 : BitVec 32) : Fin 3 → Nat :=
  let c1023_i32_1669 : BitVec 32 := 1023#32
  let v2680 : BitVec 32 := Scalar.andi v2679 c1023_i32_1669
  let v2730 : Index := Scalar.indexCast v2680
  let c6_1698 : Index := 6#32
  let c0_1699 : Index := 0#32
  ![v2730.toNat, 6, 0]

def k0_chk143 (v2679 : BitVec 32) : Prop :=
  (∀ a, (k0_off405 v2679) a + S1x1x512.size a ≤ S784x8x512.size a) ∧
  (∀ a, (k0_off414 v2679) a + S1x1x512.size a ≤ S784x8x512.size a)
theorem k0_off405_inb : ∀ (v2679 : BitVec 32) (k0_hw143 : k0_chk143 v2679), ∀ a, (k0_off405 v2679) a + S1x1x512.size a ≤ S784x8x512.size a := fun v2679 k0_hw143 => k0_hw143.1
theorem k0_off414_inb : ∀ (v2679 : BitVec 32) (k0_hw143 : k0_chk143 v2679), ∀ a, (k0_off414 v2679) a + S1x1x512.size a ≤ S784x8x512.size a := fun v2679 k0_hw143 => k0_hw143.2

def k0_off415 (i : grid0.Coords) : Fin 2 → Nat :=
  let arg0 : BitVec 32 := BitVec.ofNat 32 (i 0).val
  let c8_i32_1702 : BitVec 32 := 8#32
  let v2738 : BitVec 32 := Scalar.muli arg0 c8_i32_1702
  let c0_i32_1703 : BitVec 32 := 0#32
  let v2739 : BitVec 32 := Scalar.addi v2738 c0_i32_1703
  let v2740 : Index := Scalar.indexCast v2739
  let c18 : Index := 18#32
  ![v2740.toNat, 18]
def k0_off416 (v2741 : BitVec 32) : Fin 3 → Nat :=
  let c1023_i32_1704 : BitVec 32 := 1023#32
  let v2742 : BitVec 32 := Scalar.andi v2741 c1023_i32_1704
  let v2749 : Index := Scalar.indexCast v2742
  let c0_1709 : Index := 0#32
  let c0_1710 : Index := 0#32
  ![v2749.toNat, 0, 0]

def k0_off417 (i : grid0.Coords) : Fin 2 → Nat :=
  let arg0 : BitVec 32 := BitVec.ofNat 32 (i 0).val
  let c8_i32_1711 : BitVec 32 := 8#32
  let v2753 : BitVec 32 := Scalar.muli arg0 c8_i32_1711
  let c1_i32_1712 : BitVec 32 := 1#32
  let v2754 : BitVec 32 := Scalar.addi v2753 c1_i32_1712
  let v2755 : Index := Scalar.indexCast v2754
  let c18_1713 : Index := 18#32
  ![v2755.toNat, 18]
def k0_off418 (v2756 : BitVec 32) : Fin 3 → Nat :=
  let c1023_i32_1714 : BitVec 32 := 1023#32
  let v2757 : BitVec 32 := Scalar.andi v2756 c1023_i32_1714
  let v2764 : Index := Scalar.indexCast v2757
  let c1_1719 : Index := 1#32
  let c0_1720 : Index := 0#32
  ![v2764.toNat, 1, 0]

def k0_off419 (i : grid0.Coords) : Fin 2 → Nat :=
  let arg0 : BitVec 32 := BitVec.ofNat 32 (i 0).val
  let c8_i32_1721 : BitVec 32 := 8#32
  let v2768 : BitVec 32 := Scalar.muli arg0 c8_i32_1721
  let c2_i32_1722 : BitVec 32 := 2#32
  let v2769 : BitVec 32 := Scalar.addi v2768 c2_i32_1722
  let v2770 : Index := Scalar.indexCast v2769
  let c18_1723 : Index := 18#32
  ![v2770.toNat, 18]
def k0_off420 (v2771 : BitVec 32) : Fin 3 → Nat :=
  let c1023_i32_1724 : BitVec 32 := 1023#32
  let v2772 : BitVec 32 := Scalar.andi v2771 c1023_i32_1724
  let v2779 : Index := Scalar.indexCast v2772
  let c2_1729 : Index := 2#32
  let c0_1730 : Index := 0#32
  ![v2779.toNat, 2, 0]

def k0_off421 (i : grid0.Coords) : Fin 2 → Nat :=
  let arg0 : BitVec 32 := BitVec.ofNat 32 (i 0).val
  let c8_i32_1731 : BitVec 32 := 8#32
  let v2783 : BitVec 32 := Scalar.muli arg0 c8_i32_1731
  let c3_i32_1732 : BitVec 32 := 3#32
  let v2784 : BitVec 32 := Scalar.addi v2783 c3_i32_1732
  let v2785 : Index := Scalar.indexCast v2784
  let c18_1733 : Index := 18#32
  ![v2785.toNat, 18]
def k0_off422 (v2786 : BitVec 32) : Fin 3 → Nat :=
  let c1023_i32_1734 : BitVec 32 := 1023#32
  let v2787 : BitVec 32 := Scalar.andi v2786 c1023_i32_1734
  let v2794 : Index := Scalar.indexCast v2787
  let c3_1739 : Index := 3#32
  let c0_1740 : Index := 0#32
  ![v2794.toNat, 3, 0]

def k0_off423 (i : grid0.Coords) : Fin 2 → Nat :=
  let arg0 : BitVec 32 := BitVec.ofNat 32 (i 0).val
  let c8_i32_1741 : BitVec 32 := 8#32
  let v2798 : BitVec 32 := Scalar.muli arg0 c8_i32_1741
  let c4_i32_1742 : BitVec 32 := 4#32
  let v2799 : BitVec 32 := Scalar.addi v2798 c4_i32_1742
  let v2800 : Index := Scalar.indexCast v2799
  let c18_1743 : Index := 18#32
  ![v2800.toNat, 18]
def k0_off424 (v2801 : BitVec 32) : Fin 3 → Nat :=
  let c1023_i32_1744 : BitVec 32 := 1023#32
  let v2802 : BitVec 32 := Scalar.andi v2801 c1023_i32_1744
  let v2809 : Index := Scalar.indexCast v2802
  let c4_1749 : Index := 4#32
  let c0_1750 : Index := 0#32
  ![v2809.toNat, 4, 0]

def k0_off425 (i : grid0.Coords) : Fin 2 → Nat :=
  let arg0 : BitVec 32 := BitVec.ofNat 32 (i 0).val
  let c8_i32_1751 : BitVec 32 := 8#32
  let v2813 : BitVec 32 := Scalar.muli arg0 c8_i32_1751
  let c5_i32_1752 : BitVec 32 := 5#32
  let v2814 : BitVec 32 := Scalar.addi v2813 c5_i32_1752
  let v2815 : Index := Scalar.indexCast v2814
  let c18_1753 : Index := 18#32
  ![v2815.toNat, 18]
def k0_off426 (v2816 : BitVec 32) : Fin 3 → Nat :=
  let c1023_i32_1754 : BitVec 32 := 1023#32
  let v2817 : BitVec 32 := Scalar.andi v2816 c1023_i32_1754
  let v2824 : Index := Scalar.indexCast v2817
  let c5_1759 : Index := 5#32
  let c0_1760 : Index := 0#32
  ![v2824.toNat, 5, 0]

def k0_off427 (i : grid0.Coords) : Fin 2 → Nat :=
  let arg0 : BitVec 32 := BitVec.ofNat 32 (i 0).val
  let c8_i32_1761 : BitVec 32 := 8#32
  let v2828 : BitVec 32 := Scalar.muli arg0 c8_i32_1761
  let c6_i32_1762 : BitVec 32 := 6#32
  let v2829 : BitVec 32 := Scalar.addi v2828 c6_i32_1762
  let v2830 : Index := Scalar.indexCast v2829
  let c18_1763 : Index := 18#32
  ![v2830.toNat, 18]
def k0_off428 (v2831 : BitVec 32) : Fin 3 → Nat :=
  let c1023_i32_1764 : BitVec 32 := 1023#32
  let v2832 : BitVec 32 := Scalar.andi v2831 c1023_i32_1764
  let v2839 : Index := Scalar.indexCast v2832
  let c6_1769 : Index := 6#32
  let c0_1770 : Index := 0#32
  ![v2839.toNat, 6, 0]

def k0_off429 (i : grid0.Coords) : Fin 2 → Nat :=
  let arg0 : BitVec 32 := BitVec.ofNat 32 (i 0).val
  let c8_i32_1771 : BitVec 32 := 8#32
  let v2843 : BitVec 32 := Scalar.muli arg0 c8_i32_1771
  let c7_i32_1772 : BitVec 32 := 7#32
  let v2844 : BitVec 32 := Scalar.addi v2843 c7_i32_1772
  let v2845 : Index := Scalar.indexCast v2844
  let c18_1773 : Index := 18#32
  ![v2845.toNat, 18]
def k0_off430 (v2846 : BitVec 32) : Fin 3 → Nat :=
  let c1023_i32_1774 : BitVec 32 := 1023#32
  let v2847 : BitVec 32 := Scalar.andi v2846 c1023_i32_1774
  let v2854 : Index := Scalar.indexCast v2847
  let c7_1779 : Index := 7#32
  let c0_1780 : Index := 0#32
  ![v2854.toNat, 7, 0]

def k0_chk152 (v2846 : BitVec 32) : Prop :=
  (∀ a, (k0_off430 v2846) a + S1x1x512.size a ≤ S784x8x512.size a)
theorem k0_off430_inb : ∀ (v2846 : BitVec 32) (k0_hw152 : k0_chk152 v2846), ∀ a, (k0_off430 v2846) a + S1x1x512.size a ≤ S784x8x512.size a := fun v2846 k0_hw152 => k0_hw152

def k0_off431 (v2741 : BitVec 32) : Fin 3 → Nat :=
  let c1023_i32_1704 : BitVec 32 := 1023#32
  let v2742 : BitVec 32 := Scalar.andi v2741 c1023_i32_1704
  let v2858 : Index := Scalar.indexCast v2742
  let c0_1781 : Index := 0#32
  let c0_1782 : Index := 0#32
  ![v2858.toNat, 0, 0]

def k0_chk145 (v2741 : BitVec 32) : Prop :=
  (∀ a, (k0_off416 v2741) a + S1x1x512.size a ≤ S784x8x512.size a) ∧
  (∀ a, (k0_off431 v2741) a + S1x1x512.size a ≤ S784x8x512.size a)
theorem k0_off416_inb : ∀ (v2741 : BitVec 32) (k0_hw145 : k0_chk145 v2741), ∀ a, (k0_off416 v2741) a + S1x1x512.size a ≤ S784x8x512.size a := fun v2741 k0_hw145 => k0_hw145.1
theorem k0_off431_inb : ∀ (v2741 : BitVec 32) (k0_hw145 : k0_chk145 v2741), ∀ a, (k0_off431 v2741) a + S1x1x512.size a ≤ S784x8x512.size a := fun v2741 k0_hw145 => k0_hw145.2

def k0_off432 (v2756 : BitVec 32) : Fin 3 → Nat :=
  let c1023_i32_1714 : BitVec 32 := 1023#32
  let v2757 : BitVec 32 := Scalar.andi v2756 c1023_i32_1714
  let v2862 : Index := Scalar.indexCast v2757
  let c1_1783 : Index := 1#32
  let c0_1784 : Index := 0#32
  ![v2862.toNat, 1, 0]

def k0_chk146 (v2756 : BitVec 32) : Prop :=
  (∀ a, (k0_off418 v2756) a + S1x1x512.size a ≤ S784x8x512.size a) ∧
  (∀ a, (k0_off432 v2756) a + S1x1x512.size a ≤ S784x8x512.size a)
theorem k0_off418_inb : ∀ (v2756 : BitVec 32) (k0_hw146 : k0_chk146 v2756), ∀ a, (k0_off418 v2756) a + S1x1x512.size a ≤ S784x8x512.size a := fun v2756 k0_hw146 => k0_hw146.1
theorem k0_off432_inb : ∀ (v2756 : BitVec 32) (k0_hw146 : k0_chk146 v2756), ∀ a, (k0_off432 v2756) a + S1x1x512.size a ≤ S784x8x512.size a := fun v2756 k0_hw146 => k0_hw146.2

def k0_off433 (v2771 : BitVec 32) : Fin 3 → Nat :=
  let c1023_i32_1724 : BitVec 32 := 1023#32
  let v2772 : BitVec 32 := Scalar.andi v2771 c1023_i32_1724
  let v2866 : Index := Scalar.indexCast v2772
  let c2_1785 : Index := 2#32
  let c0_1786 : Index := 0#32
  ![v2866.toNat, 2, 0]

def k0_chk147 (v2771 : BitVec 32) : Prop :=
  (∀ a, (k0_off420 v2771) a + S1x1x512.size a ≤ S784x8x512.size a) ∧
  (∀ a, (k0_off433 v2771) a + S1x1x512.size a ≤ S784x8x512.size a)
theorem k0_off420_inb : ∀ (v2771 : BitVec 32) (k0_hw147 : k0_chk147 v2771), ∀ a, (k0_off420 v2771) a + S1x1x512.size a ≤ S784x8x512.size a := fun v2771 k0_hw147 => k0_hw147.1
theorem k0_off433_inb : ∀ (v2771 : BitVec 32) (k0_hw147 : k0_chk147 v2771), ∀ a, (k0_off433 v2771) a + S1x1x512.size a ≤ S784x8x512.size a := fun v2771 k0_hw147 => k0_hw147.2

def k0_off434 (v2786 : BitVec 32) : Fin 3 → Nat :=
  let c1023_i32_1734 : BitVec 32 := 1023#32
  let v2787 : BitVec 32 := Scalar.andi v2786 c1023_i32_1734
  let v2870 : Index := Scalar.indexCast v2787
  let c3_1787 : Index := 3#32
  let c0_1788 : Index := 0#32
  ![v2870.toNat, 3, 0]

def k0_chk148 (v2786 : BitVec 32) : Prop :=
  (∀ a, (k0_off422 v2786) a + S1x1x512.size a ≤ S784x8x512.size a) ∧
  (∀ a, (k0_off434 v2786) a + S1x1x512.size a ≤ S784x8x512.size a)
theorem k0_off422_inb : ∀ (v2786 : BitVec 32) (k0_hw148 : k0_chk148 v2786), ∀ a, (k0_off422 v2786) a + S1x1x512.size a ≤ S784x8x512.size a := fun v2786 k0_hw148 => k0_hw148.1
theorem k0_off434_inb : ∀ (v2786 : BitVec 32) (k0_hw148 : k0_chk148 v2786), ∀ a, (k0_off434 v2786) a + S1x1x512.size a ≤ S784x8x512.size a := fun v2786 k0_hw148 => k0_hw148.2

def k0_off435 (v2801 : BitVec 32) : Fin 3 → Nat :=
  let c1023_i32_1744 : BitVec 32 := 1023#32
  let v2802 : BitVec 32 := Scalar.andi v2801 c1023_i32_1744
  let v2874 : Index := Scalar.indexCast v2802
  let c4_1789 : Index := 4#32
  let c0_1790 : Index := 0#32
  ![v2874.toNat, 4, 0]

def k0_chk149 (v2801 : BitVec 32) : Prop :=
  (∀ a, (k0_off424 v2801) a + S1x1x512.size a ≤ S784x8x512.size a) ∧
  (∀ a, (k0_off435 v2801) a + S1x1x512.size a ≤ S784x8x512.size a)
theorem k0_off424_inb : ∀ (v2801 : BitVec 32) (k0_hw149 : k0_chk149 v2801), ∀ a, (k0_off424 v2801) a + S1x1x512.size a ≤ S784x8x512.size a := fun v2801 k0_hw149 => k0_hw149.1
theorem k0_off435_inb : ∀ (v2801 : BitVec 32) (k0_hw149 : k0_chk149 v2801), ∀ a, (k0_off435 v2801) a + S1x1x512.size a ≤ S784x8x512.size a := fun v2801 k0_hw149 => k0_hw149.2

def k0_off436 (v2816 : BitVec 32) : Fin 3 → Nat :=
  let c1023_i32_1754 : BitVec 32 := 1023#32
  let v2817 : BitVec 32 := Scalar.andi v2816 c1023_i32_1754
  let v2878 : Index := Scalar.indexCast v2817
  let c5_1791 : Index := 5#32
  let c0_1792 : Index := 0#32
  ![v2878.toNat, 5, 0]

def k0_chk150 (v2816 : BitVec 32) : Prop :=
  (∀ a, (k0_off426 v2816) a + S1x1x512.size a ≤ S784x8x512.size a) ∧
  (∀ a, (k0_off436 v2816) a + S1x1x512.size a ≤ S784x8x512.size a)
theorem k0_off426_inb : ∀ (v2816 : BitVec 32) (k0_hw150 : k0_chk150 v2816), ∀ a, (k0_off426 v2816) a + S1x1x512.size a ≤ S784x8x512.size a := fun v2816 k0_hw150 => k0_hw150.1
theorem k0_off436_inb : ∀ (v2816 : BitVec 32) (k0_hw150 : k0_chk150 v2816), ∀ a, (k0_off436 v2816) a + S1x1x512.size a ≤ S784x8x512.size a := fun v2816 k0_hw150 => k0_hw150.2

def k0_off437 (v2831 : BitVec 32) : Fin 3 → Nat :=
  let c1023_i32_1764 : BitVec 32 := 1023#32
  let v2832 : BitVec 32 := Scalar.andi v2831 c1023_i32_1764
  let v2882 : Index := Scalar.indexCast v2832
  let c6_1793 : Index := 6#32
  let c0_1794 : Index := 0#32
  ![v2882.toNat, 6, 0]

def k0_chk151 (v2831 : BitVec 32) : Prop :=
  (∀ a, (k0_off428 v2831) a + S1x1x512.size a ≤ S784x8x512.size a) ∧
  (∀ a, (k0_off437 v2831) a + S1x1x512.size a ≤ S784x8x512.size a)
theorem k0_off428_inb : ∀ (v2831 : BitVec 32) (k0_hw151 : k0_chk151 v2831), ∀ a, (k0_off428 v2831) a + S1x1x512.size a ≤ S784x8x512.size a := fun v2831 k0_hw151 => k0_hw151.1
theorem k0_off437_inb : ∀ (v2831 : BitVec 32) (k0_hw151 : k0_chk151 v2831), ∀ a, (k0_off437 v2831) a + S1x1x512.size a ≤ S784x8x512.size a := fun v2831 k0_hw151 => k0_hw151.2

def k0_off438 (i : grid0.Coords) : Fin 2 → Nat :=
  let arg0 : BitVec 32 := BitVec.ofNat 32 (i 0).val
  let c8_i32_1797 : BitVec 32 := 8#32
  let v2890 : BitVec 32 := Scalar.muli arg0 c8_i32_1797
  let c0_i32_1798 : BitVec 32 := 0#32
  let v2891 : BitVec 32 := Scalar.addi v2890 c0_i32_1798
  let v2892 : Index := Scalar.indexCast v2891
  let c19 : Index := 19#32
  ![v2892.toNat, 19]
def k0_off439 (v2893 : BitVec 32) : Fin 3 → Nat :=
  let c1023_i32_1799 : BitVec 32 := 1023#32
  let v2894 : BitVec 32 := Scalar.andi v2893 c1023_i32_1799
  let v2901 : Index := Scalar.indexCast v2894
  let c0_1804 : Index := 0#32
  let c0_1805 : Index := 0#32
  ![v2901.toNat, 0, 0]

def k0_off440 (i : grid0.Coords) : Fin 2 → Nat :=
  let arg0 : BitVec 32 := BitVec.ofNat 32 (i 0).val
  let c8_i32_1806 : BitVec 32 := 8#32
  let v2905 : BitVec 32 := Scalar.muli arg0 c8_i32_1806
  let c1_i32_1807 : BitVec 32 := 1#32
  let v2906 : BitVec 32 := Scalar.addi v2905 c1_i32_1807
  let v2907 : Index := Scalar.indexCast v2906
  let c19_1808 : Index := 19#32
  ![v2907.toNat, 19]
def k0_off441 (v2908 : BitVec 32) : Fin 3 → Nat :=
  let c1023_i32_1809 : BitVec 32 := 1023#32
  let v2909 : BitVec 32 := Scalar.andi v2908 c1023_i32_1809
  let v2916 : Index := Scalar.indexCast v2909
  let c1_1814 : Index := 1#32
  let c0_1815 : Index := 0#32
  ![v2916.toNat, 1, 0]

def k0_off442 (i : grid0.Coords) : Fin 2 → Nat :=
  let arg0 : BitVec 32 := BitVec.ofNat 32 (i 0).val
  let c8_i32_1816 : BitVec 32 := 8#32
  let v2920 : BitVec 32 := Scalar.muli arg0 c8_i32_1816
  let c2_i32_1817 : BitVec 32 := 2#32
  let v2921 : BitVec 32 := Scalar.addi v2920 c2_i32_1817
  let v2922 : Index := Scalar.indexCast v2921
  let c19_1818 : Index := 19#32
  ![v2922.toNat, 19]
def k0_off443 (v2923 : BitVec 32) : Fin 3 → Nat :=
  let c1023_i32_1819 : BitVec 32 := 1023#32
  let v2924 : BitVec 32 := Scalar.andi v2923 c1023_i32_1819
  let v2931 : Index := Scalar.indexCast v2924
  let c2_1824 : Index := 2#32
  let c0_1825 : Index := 0#32
  ![v2931.toNat, 2, 0]

def k0_off444 (i : grid0.Coords) : Fin 2 → Nat :=
  let arg0 : BitVec 32 := BitVec.ofNat 32 (i 0).val
  let c8_i32_1826 : BitVec 32 := 8#32
  let v2935 : BitVec 32 := Scalar.muli arg0 c8_i32_1826
  let c3_i32_1827 : BitVec 32 := 3#32
  let v2936 : BitVec 32 := Scalar.addi v2935 c3_i32_1827
  let v2937 : Index := Scalar.indexCast v2936
  let c19_1828 : Index := 19#32
  ![v2937.toNat, 19]
def k0_off445 (v2938 : BitVec 32) : Fin 3 → Nat :=
  let c1023_i32_1829 : BitVec 32 := 1023#32
  let v2939 : BitVec 32 := Scalar.andi v2938 c1023_i32_1829
  let v2946 : Index := Scalar.indexCast v2939
  let c3_1834 : Index := 3#32
  let c0_1835 : Index := 0#32
  ![v2946.toNat, 3, 0]

def k0_off446 (i : grid0.Coords) : Fin 2 → Nat :=
  let arg0 : BitVec 32 := BitVec.ofNat 32 (i 0).val
  let c8_i32_1836 : BitVec 32 := 8#32
  let v2950 : BitVec 32 := Scalar.muli arg0 c8_i32_1836
  let c4_i32_1837 : BitVec 32 := 4#32
  let v2951 : BitVec 32 := Scalar.addi v2950 c4_i32_1837
  let v2952 : Index := Scalar.indexCast v2951
  let c19_1838 : Index := 19#32
  ![v2952.toNat, 19]
def k0_off447 (v2953 : BitVec 32) : Fin 3 → Nat :=
  let c1023_i32_1839 : BitVec 32 := 1023#32
  let v2954 : BitVec 32 := Scalar.andi v2953 c1023_i32_1839
  let v2961 : Index := Scalar.indexCast v2954
  let c4_1844 : Index := 4#32
  let c0_1845 : Index := 0#32
  ![v2961.toNat, 4, 0]

def k0_off448 (i : grid0.Coords) : Fin 2 → Nat :=
  let arg0 : BitVec 32 := BitVec.ofNat 32 (i 0).val
  let c8_i32_1846 : BitVec 32 := 8#32
  let v2965 : BitVec 32 := Scalar.muli arg0 c8_i32_1846
  let c5_i32_1847 : BitVec 32 := 5#32
  let v2966 : BitVec 32 := Scalar.addi v2965 c5_i32_1847
  let v2967 : Index := Scalar.indexCast v2966
  let c19_1848 : Index := 19#32
  ![v2967.toNat, 19]
def k0_off449 (v2968 : BitVec 32) : Fin 3 → Nat :=
  let c1023_i32_1849 : BitVec 32 := 1023#32
  let v2969 : BitVec 32 := Scalar.andi v2968 c1023_i32_1849
  let v2976 : Index := Scalar.indexCast v2969
  let c5_1854 : Index := 5#32
  let c0_1855 : Index := 0#32
  ![v2976.toNat, 5, 0]

def k0_off450 (i : grid0.Coords) : Fin 2 → Nat :=
  let arg0 : BitVec 32 := BitVec.ofNat 32 (i 0).val
  let c8_i32_1856 : BitVec 32 := 8#32
  let v2980 : BitVec 32 := Scalar.muli arg0 c8_i32_1856
  let c6_i32_1857 : BitVec 32 := 6#32
  let v2981 : BitVec 32 := Scalar.addi v2980 c6_i32_1857
  let v2982 : Index := Scalar.indexCast v2981
  let c19_1858 : Index := 19#32
  ![v2982.toNat, 19]
def k0_off451 (v2983 : BitVec 32) : Fin 3 → Nat :=
  let c1023_i32_1859 : BitVec 32 := 1023#32
  let v2984 : BitVec 32 := Scalar.andi v2983 c1023_i32_1859
  let v2991 : Index := Scalar.indexCast v2984
  let c6_1864 : Index := 6#32
  let c0_1865 : Index := 0#32
  ![v2991.toNat, 6, 0]

def k0_off452 (i : grid0.Coords) : Fin 2 → Nat :=
  let arg0 : BitVec 32 := BitVec.ofNat 32 (i 0).val
  let c8_i32_1866 : BitVec 32 := 8#32
  let v2995 : BitVec 32 := Scalar.muli arg0 c8_i32_1866
  let c7_i32_1867 : BitVec 32 := 7#32
  let v2996 : BitVec 32 := Scalar.addi v2995 c7_i32_1867
  let v2997 : Index := Scalar.indexCast v2996
  let c19_1868 : Index := 19#32
  ![v2997.toNat, 19]
def k0_off453 (v2998 : BitVec 32) : Fin 3 → Nat :=
  let c1023_i32_1869 : BitVec 32 := 1023#32
  let v2999 : BitVec 32 := Scalar.andi v2998 c1023_i32_1869
  let v3006 : Index := Scalar.indexCast v2999
  let c7_1874 : Index := 7#32
  let c0_1875 : Index := 0#32
  ![v3006.toNat, 7, 0]

def k0_chk160 (v2998 : BitVec 32) : Prop :=
  (∀ a, (k0_off453 v2998) a + S1x1x512.size a ≤ S784x8x512.size a)
theorem k0_off453_inb : ∀ (v2998 : BitVec 32) (k0_hw160 : k0_chk160 v2998), ∀ a, (k0_off453 v2998) a + S1x1x512.size a ≤ S784x8x512.size a := fun v2998 k0_hw160 => k0_hw160

def k0_off454 (v2893 : BitVec 32) : Fin 3 → Nat :=
  let c1023_i32_1799 : BitVec 32 := 1023#32
  let v2894 : BitVec 32 := Scalar.andi v2893 c1023_i32_1799
  let v3010 : Index := Scalar.indexCast v2894
  let c0_1876 : Index := 0#32
  let c0_1877 : Index := 0#32
  ![v3010.toNat, 0, 0]

def k0_chk153 (v2893 : BitVec 32) : Prop :=
  (∀ a, (k0_off439 v2893) a + S1x1x512.size a ≤ S784x8x512.size a) ∧
  (∀ a, (k0_off454 v2893) a + S1x1x512.size a ≤ S784x8x512.size a)
theorem k0_off439_inb : ∀ (v2893 : BitVec 32) (k0_hw153 : k0_chk153 v2893), ∀ a, (k0_off439 v2893) a + S1x1x512.size a ≤ S784x8x512.size a := fun v2893 k0_hw153 => k0_hw153.1
theorem k0_off454_inb : ∀ (v2893 : BitVec 32) (k0_hw153 : k0_chk153 v2893), ∀ a, (k0_off454 v2893) a + S1x1x512.size a ≤ S784x8x512.size a := fun v2893 k0_hw153 => k0_hw153.2

def k0_off455 (v2908 : BitVec 32) : Fin 3 → Nat :=
  let c1023_i32_1809 : BitVec 32 := 1023#32
  let v2909 : BitVec 32 := Scalar.andi v2908 c1023_i32_1809
  let v3014 : Index := Scalar.indexCast v2909
  let c1_1878 : Index := 1#32
  let c0_1879 : Index := 0#32
  ![v3014.toNat, 1, 0]

def k0_chk154 (v2908 : BitVec 32) : Prop :=
  (∀ a, (k0_off441 v2908) a + S1x1x512.size a ≤ S784x8x512.size a) ∧
  (∀ a, (k0_off455 v2908) a + S1x1x512.size a ≤ S784x8x512.size a)
theorem k0_off441_inb : ∀ (v2908 : BitVec 32) (k0_hw154 : k0_chk154 v2908), ∀ a, (k0_off441 v2908) a + S1x1x512.size a ≤ S784x8x512.size a := fun v2908 k0_hw154 => k0_hw154.1
theorem k0_off455_inb : ∀ (v2908 : BitVec 32) (k0_hw154 : k0_chk154 v2908), ∀ a, (k0_off455 v2908) a + S1x1x512.size a ≤ S784x8x512.size a := fun v2908 k0_hw154 => k0_hw154.2

def k0_off456 (v2923 : BitVec 32) : Fin 3 → Nat :=
  let c1023_i32_1819 : BitVec 32 := 1023#32
  let v2924 : BitVec 32 := Scalar.andi v2923 c1023_i32_1819
  let v3018 : Index := Scalar.indexCast v2924
  let c2_1880 : Index := 2#32
  let c0_1881 : Index := 0#32
  ![v3018.toNat, 2, 0]

def k0_chk155 (v2923 : BitVec 32) : Prop :=
  (∀ a, (k0_off443 v2923) a + S1x1x512.size a ≤ S784x8x512.size a) ∧
  (∀ a, (k0_off456 v2923) a + S1x1x512.size a ≤ S784x8x512.size a)
theorem k0_off443_inb : ∀ (v2923 : BitVec 32) (k0_hw155 : k0_chk155 v2923), ∀ a, (k0_off443 v2923) a + S1x1x512.size a ≤ S784x8x512.size a := fun v2923 k0_hw155 => k0_hw155.1
theorem k0_off456_inb : ∀ (v2923 : BitVec 32) (k0_hw155 : k0_chk155 v2923), ∀ a, (k0_off456 v2923) a + S1x1x512.size a ≤ S784x8x512.size a := fun v2923 k0_hw155 => k0_hw155.2

def k0_off457 (v2938 : BitVec 32) : Fin 3 → Nat :=
  let c1023_i32_1829 : BitVec 32 := 1023#32
  let v2939 : BitVec 32 := Scalar.andi v2938 c1023_i32_1829
  let v3022 : Index := Scalar.indexCast v2939
  let c3_1882 : Index := 3#32
  let c0_1883 : Index := 0#32
  ![v3022.toNat, 3, 0]

def k0_chk156 (v2938 : BitVec 32) : Prop :=
  (∀ a, (k0_off445 v2938) a + S1x1x512.size a ≤ S784x8x512.size a) ∧
  (∀ a, (k0_off457 v2938) a + S1x1x512.size a ≤ S784x8x512.size a)
theorem k0_off445_inb : ∀ (v2938 : BitVec 32) (k0_hw156 : k0_chk156 v2938), ∀ a, (k0_off445 v2938) a + S1x1x512.size a ≤ S784x8x512.size a := fun v2938 k0_hw156 => k0_hw156.1
theorem k0_off457_inb : ∀ (v2938 : BitVec 32) (k0_hw156 : k0_chk156 v2938), ∀ a, (k0_off457 v2938) a + S1x1x512.size a ≤ S784x8x512.size a := fun v2938 k0_hw156 => k0_hw156.2

def k0_off458 (v2953 : BitVec 32) : Fin 3 → Nat :=
  let c1023_i32_1839 : BitVec 32 := 1023#32
  let v2954 : BitVec 32 := Scalar.andi v2953 c1023_i32_1839
  let v3026 : Index := Scalar.indexCast v2954
  let c4_1884 : Index := 4#32
  let c0_1885 : Index := 0#32
  ![v3026.toNat, 4, 0]

def k0_chk157 (v2953 : BitVec 32) : Prop :=
  (∀ a, (k0_off447 v2953) a + S1x1x512.size a ≤ S784x8x512.size a) ∧
  (∀ a, (k0_off458 v2953) a + S1x1x512.size a ≤ S784x8x512.size a)
theorem k0_off447_inb : ∀ (v2953 : BitVec 32) (k0_hw157 : k0_chk157 v2953), ∀ a, (k0_off447 v2953) a + S1x1x512.size a ≤ S784x8x512.size a := fun v2953 k0_hw157 => k0_hw157.1
theorem k0_off458_inb : ∀ (v2953 : BitVec 32) (k0_hw157 : k0_chk157 v2953), ∀ a, (k0_off458 v2953) a + S1x1x512.size a ≤ S784x8x512.size a := fun v2953 k0_hw157 => k0_hw157.2

def k0_off459 (v2968 : BitVec 32) : Fin 3 → Nat :=
  let c1023_i32_1849 : BitVec 32 := 1023#32
  let v2969 : BitVec 32 := Scalar.andi v2968 c1023_i32_1849
  let v3030 : Index := Scalar.indexCast v2969
  let c5_1886 : Index := 5#32
  let c0_1887 : Index := 0#32
  ![v3030.toNat, 5, 0]

def k0_chk158 (v2968 : BitVec 32) : Prop :=
  (∀ a, (k0_off449 v2968) a + S1x1x512.size a ≤ S784x8x512.size a) ∧
  (∀ a, (k0_off459 v2968) a + S1x1x512.size a ≤ S784x8x512.size a)
theorem k0_off449_inb : ∀ (v2968 : BitVec 32) (k0_hw158 : k0_chk158 v2968), ∀ a, (k0_off449 v2968) a + S1x1x512.size a ≤ S784x8x512.size a := fun v2968 k0_hw158 => k0_hw158.1
theorem k0_off459_inb : ∀ (v2968 : BitVec 32) (k0_hw158 : k0_chk158 v2968), ∀ a, (k0_off459 v2968) a + S1x1x512.size a ≤ S784x8x512.size a := fun v2968 k0_hw158 => k0_hw158.2

def k0_off460 (v2983 : BitVec 32) : Fin 3 → Nat :=
  let c1023_i32_1859 : BitVec 32 := 1023#32
  let v2984 : BitVec 32 := Scalar.andi v2983 c1023_i32_1859
  let v3034 : Index := Scalar.indexCast v2984
  let c6_1888 : Index := 6#32
  let c0_1889 : Index := 0#32
  ![v3034.toNat, 6, 0]

def k0_chk159 (v2983 : BitVec 32) : Prop :=
  (∀ a, (k0_off451 v2983) a + S1x1x512.size a ≤ S784x8x512.size a) ∧
  (∀ a, (k0_off460 v2983) a + S1x1x512.size a ≤ S784x8x512.size a)
theorem k0_off451_inb : ∀ (v2983 : BitVec 32) (k0_hw159 : k0_chk159 v2983), ∀ a, (k0_off451 v2983) a + S1x1x512.size a ≤ S784x8x512.size a := fun v2983 k0_hw159 => k0_hw159.1
theorem k0_off460_inb : ∀ (v2983 : BitVec 32) (k0_hw159 : k0_chk159 v2983), ∀ a, (k0_off460 v2983) a + S1x1x512.size a ≤ S784x8x512.size a := fun v2983 k0_hw159 => k0_hw159.2

def k0_off461 (i : grid0.Coords) : Fin 2 → Nat :=
  let arg0 : BitVec 32 := BitVec.ofNat 32 (i 0).val
  let c8_i32_1892 : BitVec 32 := 8#32
  let v3042 : BitVec 32 := Scalar.muli arg0 c8_i32_1892
  let c0_i32_1893 : BitVec 32 := 0#32
  let v3043 : BitVec 32 := Scalar.addi v3042 c0_i32_1893
  let v3044 : Index := Scalar.indexCast v3043
  let c20 : Index := 20#32
  ![v3044.toNat, 20]
def k0_off462 (v3045 : BitVec 32) : Fin 3 → Nat :=
  let c1023_i32_1894 : BitVec 32 := 1023#32
  let v3046 : BitVec 32 := Scalar.andi v3045 c1023_i32_1894
  let v3053 : Index := Scalar.indexCast v3046
  let c0_1899 : Index := 0#32
  let c0_1900 : Index := 0#32
  ![v3053.toNat, 0, 0]

def k0_off463 (i : grid0.Coords) : Fin 2 → Nat :=
  let arg0 : BitVec 32 := BitVec.ofNat 32 (i 0).val
  let c8_i32_1901 : BitVec 32 := 8#32
  let v3057 : BitVec 32 := Scalar.muli arg0 c8_i32_1901
  let c1_i32_1902 : BitVec 32 := 1#32
  let v3058 : BitVec 32 := Scalar.addi v3057 c1_i32_1902
  let v3059 : Index := Scalar.indexCast v3058
  let c20_1903 : Index := 20#32
  ![v3059.toNat, 20]
def k0_off464 (v3060 : BitVec 32) : Fin 3 → Nat :=
  let c1023_i32_1904 : BitVec 32 := 1023#32
  let v3061 : BitVec 32 := Scalar.andi v3060 c1023_i32_1904
  let v3068 : Index := Scalar.indexCast v3061
  let c1_1909 : Index := 1#32
  let c0_1910 : Index := 0#32
  ![v3068.toNat, 1, 0]

def k0_off465 (i : grid0.Coords) : Fin 2 → Nat :=
  let arg0 : BitVec 32 := BitVec.ofNat 32 (i 0).val
  let c8_i32_1911 : BitVec 32 := 8#32
  let v3072 : BitVec 32 := Scalar.muli arg0 c8_i32_1911
  let c2_i32_1912 : BitVec 32 := 2#32
  let v3073 : BitVec 32 := Scalar.addi v3072 c2_i32_1912
  let v3074 : Index := Scalar.indexCast v3073
  let c20_1913 : Index := 20#32
  ![v3074.toNat, 20]
def k0_off466 (v3075 : BitVec 32) : Fin 3 → Nat :=
  let c1023_i32_1914 : BitVec 32 := 1023#32
  let v3076 : BitVec 32 := Scalar.andi v3075 c1023_i32_1914
  let v3083 : Index := Scalar.indexCast v3076
  let c2_1919 : Index := 2#32
  let c0_1920 : Index := 0#32
  ![v3083.toNat, 2, 0]

def k0_off467 (i : grid0.Coords) : Fin 2 → Nat :=
  let arg0 : BitVec 32 := BitVec.ofNat 32 (i 0).val
  let c8_i32_1921 : BitVec 32 := 8#32
  let v3087 : BitVec 32 := Scalar.muli arg0 c8_i32_1921
  let c3_i32_1922 : BitVec 32 := 3#32
  let v3088 : BitVec 32 := Scalar.addi v3087 c3_i32_1922
  let v3089 : Index := Scalar.indexCast v3088
  let c20_1923 : Index := 20#32
  ![v3089.toNat, 20]
def k0_off468 (v3090 : BitVec 32) : Fin 3 → Nat :=
  let c1023_i32_1924 : BitVec 32 := 1023#32
  let v3091 : BitVec 32 := Scalar.andi v3090 c1023_i32_1924
  let v3098 : Index := Scalar.indexCast v3091
  let c3_1929 : Index := 3#32
  let c0_1930 : Index := 0#32
  ![v3098.toNat, 3, 0]

def k0_off469 (i : grid0.Coords) : Fin 2 → Nat :=
  let arg0 : BitVec 32 := BitVec.ofNat 32 (i 0).val
  let c8_i32_1931 : BitVec 32 := 8#32
  let v3102 : BitVec 32 := Scalar.muli arg0 c8_i32_1931
  let c4_i32_1932 : BitVec 32 := 4#32
  let v3103 : BitVec 32 := Scalar.addi v3102 c4_i32_1932
  let v3104 : Index := Scalar.indexCast v3103
  let c20_1933 : Index := 20#32
  ![v3104.toNat, 20]
def k0_off470 (v3105 : BitVec 32) : Fin 3 → Nat :=
  let c1023_i32_1934 : BitVec 32 := 1023#32
  let v3106 : BitVec 32 := Scalar.andi v3105 c1023_i32_1934
  let v3113 : Index := Scalar.indexCast v3106
  let c4_1939 : Index := 4#32
  let c0_1940 : Index := 0#32
  ![v3113.toNat, 4, 0]

def k0_off471 (i : grid0.Coords) : Fin 2 → Nat :=
  let arg0 : BitVec 32 := BitVec.ofNat 32 (i 0).val
  let c8_i32_1941 : BitVec 32 := 8#32
  let v3117 : BitVec 32 := Scalar.muli arg0 c8_i32_1941
  let c5_i32_1942 : BitVec 32 := 5#32
  let v3118 : BitVec 32 := Scalar.addi v3117 c5_i32_1942
  let v3119 : Index := Scalar.indexCast v3118
  let c20_1943 : Index := 20#32
  ![v3119.toNat, 20]
def k0_off472 (v3120 : BitVec 32) : Fin 3 → Nat :=
  let c1023_i32_1944 : BitVec 32 := 1023#32
  let v3121 : BitVec 32 := Scalar.andi v3120 c1023_i32_1944
  let v3128 : Index := Scalar.indexCast v3121
  let c5_1949 : Index := 5#32
  let c0_1950 : Index := 0#32
  ![v3128.toNat, 5, 0]

def k0_off473 (i : grid0.Coords) : Fin 2 → Nat :=
  let arg0 : BitVec 32 := BitVec.ofNat 32 (i 0).val
  let c8_i32_1951 : BitVec 32 := 8#32
  let v3132 : BitVec 32 := Scalar.muli arg0 c8_i32_1951
  let c6_i32_1952 : BitVec 32 := 6#32
  let v3133 : BitVec 32 := Scalar.addi v3132 c6_i32_1952
  let v3134 : Index := Scalar.indexCast v3133
  let c20_1953 : Index := 20#32
  ![v3134.toNat, 20]
def k0_off474 (v3135 : BitVec 32) : Fin 3 → Nat :=
  let c1023_i32_1954 : BitVec 32 := 1023#32
  let v3136 : BitVec 32 := Scalar.andi v3135 c1023_i32_1954
  let v3143 : Index := Scalar.indexCast v3136
  let c6_1959 : Index := 6#32
  let c0_1960 : Index := 0#32
  ![v3143.toNat, 6, 0]

def k0_off475 (i : grid0.Coords) : Fin 2 → Nat :=
  let arg0 : BitVec 32 := BitVec.ofNat 32 (i 0).val
  let c8_i32_1961 : BitVec 32 := 8#32
  let v3147 : BitVec 32 := Scalar.muli arg0 c8_i32_1961
  let c7_i32_1962 : BitVec 32 := 7#32
  let v3148 : BitVec 32 := Scalar.addi v3147 c7_i32_1962
  let v3149 : Index := Scalar.indexCast v3148
  let c20_1963 : Index := 20#32
  ![v3149.toNat, 20]
def k0_off476 (v3150 : BitVec 32) : Fin 3 → Nat :=
  let c1023_i32_1964 : BitVec 32 := 1023#32
  let v3151 : BitVec 32 := Scalar.andi v3150 c1023_i32_1964
  let v3158 : Index := Scalar.indexCast v3151
  let c7_1969 : Index := 7#32
  let c0_1970 : Index := 0#32
  ![v3158.toNat, 7, 0]

def k0_chk168 (v3150 : BitVec 32) : Prop :=
  (∀ a, (k0_off476 v3150) a + S1x1x512.size a ≤ S784x8x512.size a)
theorem k0_off476_inb : ∀ (v3150 : BitVec 32) (k0_hw168 : k0_chk168 v3150), ∀ a, (k0_off476 v3150) a + S1x1x512.size a ≤ S784x8x512.size a := fun v3150 k0_hw168 => k0_hw168

def k0_off477 (v3045 : BitVec 32) : Fin 3 → Nat :=
  let c1023_i32_1894 : BitVec 32 := 1023#32
  let v3046 : BitVec 32 := Scalar.andi v3045 c1023_i32_1894
  let v3162 : Index := Scalar.indexCast v3046
  let c0_1971 : Index := 0#32
  let c0_1972 : Index := 0#32
  ![v3162.toNat, 0, 0]

def k0_chk161 (v3045 : BitVec 32) : Prop :=
  (∀ a, (k0_off462 v3045) a + S1x1x512.size a ≤ S784x8x512.size a) ∧
  (∀ a, (k0_off477 v3045) a + S1x1x512.size a ≤ S784x8x512.size a)
theorem k0_off462_inb : ∀ (v3045 : BitVec 32) (k0_hw161 : k0_chk161 v3045), ∀ a, (k0_off462 v3045) a + S1x1x512.size a ≤ S784x8x512.size a := fun v3045 k0_hw161 => k0_hw161.1
theorem k0_off477_inb : ∀ (v3045 : BitVec 32) (k0_hw161 : k0_chk161 v3045), ∀ a, (k0_off477 v3045) a + S1x1x512.size a ≤ S784x8x512.size a := fun v3045 k0_hw161 => k0_hw161.2

def k0_off478 (v3060 : BitVec 32) : Fin 3 → Nat :=
  let c1023_i32_1904 : BitVec 32 := 1023#32
  let v3061 : BitVec 32 := Scalar.andi v3060 c1023_i32_1904
  let v3166 : Index := Scalar.indexCast v3061
  let c1_1973 : Index := 1#32
  let c0_1974 : Index := 0#32
  ![v3166.toNat, 1, 0]

def k0_chk162 (v3060 : BitVec 32) : Prop :=
  (∀ a, (k0_off464 v3060) a + S1x1x512.size a ≤ S784x8x512.size a) ∧
  (∀ a, (k0_off478 v3060) a + S1x1x512.size a ≤ S784x8x512.size a)
theorem k0_off464_inb : ∀ (v3060 : BitVec 32) (k0_hw162 : k0_chk162 v3060), ∀ a, (k0_off464 v3060) a + S1x1x512.size a ≤ S784x8x512.size a := fun v3060 k0_hw162 => k0_hw162.1
theorem k0_off478_inb : ∀ (v3060 : BitVec 32) (k0_hw162 : k0_chk162 v3060), ∀ a, (k0_off478 v3060) a + S1x1x512.size a ≤ S784x8x512.size a := fun v3060 k0_hw162 => k0_hw162.2

def k0_off479 (v3075 : BitVec 32) : Fin 3 → Nat :=
  let c1023_i32_1914 : BitVec 32 := 1023#32
  let v3076 : BitVec 32 := Scalar.andi v3075 c1023_i32_1914
  let v3170 : Index := Scalar.indexCast v3076
  let c2_1975 : Index := 2#32
  let c0_1976 : Index := 0#32
  ![v3170.toNat, 2, 0]

def k0_chk163 (v3075 : BitVec 32) : Prop :=
  (∀ a, (k0_off466 v3075) a + S1x1x512.size a ≤ S784x8x512.size a) ∧
  (∀ a, (k0_off479 v3075) a + S1x1x512.size a ≤ S784x8x512.size a)
theorem k0_off466_inb : ∀ (v3075 : BitVec 32) (k0_hw163 : k0_chk163 v3075), ∀ a, (k0_off466 v3075) a + S1x1x512.size a ≤ S784x8x512.size a := fun v3075 k0_hw163 => k0_hw163.1
theorem k0_off479_inb : ∀ (v3075 : BitVec 32) (k0_hw163 : k0_chk163 v3075), ∀ a, (k0_off479 v3075) a + S1x1x512.size a ≤ S784x8x512.size a := fun v3075 k0_hw163 => k0_hw163.2

def k0_off480 (v3090 : BitVec 32) : Fin 3 → Nat :=
  let c1023_i32_1924 : BitVec 32 := 1023#32
  let v3091 : BitVec 32 := Scalar.andi v3090 c1023_i32_1924
  let v3174 : Index := Scalar.indexCast v3091
  let c3_1977 : Index := 3#32
  let c0_1978 : Index := 0#32
  ![v3174.toNat, 3, 0]

def k0_chk164 (v3090 : BitVec 32) : Prop :=
  (∀ a, (k0_off468 v3090) a + S1x1x512.size a ≤ S784x8x512.size a) ∧
  (∀ a, (k0_off480 v3090) a + S1x1x512.size a ≤ S784x8x512.size a)
theorem k0_off468_inb : ∀ (v3090 : BitVec 32) (k0_hw164 : k0_chk164 v3090), ∀ a, (k0_off468 v3090) a + S1x1x512.size a ≤ S784x8x512.size a := fun v3090 k0_hw164 => k0_hw164.1
theorem k0_off480_inb : ∀ (v3090 : BitVec 32) (k0_hw164 : k0_chk164 v3090), ∀ a, (k0_off480 v3090) a + S1x1x512.size a ≤ S784x8x512.size a := fun v3090 k0_hw164 => k0_hw164.2

def k0_off481 (v3105 : BitVec 32) : Fin 3 → Nat :=
  let c1023_i32_1934 : BitVec 32 := 1023#32
  let v3106 : BitVec 32 := Scalar.andi v3105 c1023_i32_1934
  let v3178 : Index := Scalar.indexCast v3106
  let c4_1979 : Index := 4#32
  let c0_1980 : Index := 0#32
  ![v3178.toNat, 4, 0]

def k0_chk165 (v3105 : BitVec 32) : Prop :=
  (∀ a, (k0_off470 v3105) a + S1x1x512.size a ≤ S784x8x512.size a) ∧
  (∀ a, (k0_off481 v3105) a + S1x1x512.size a ≤ S784x8x512.size a)
theorem k0_off470_inb : ∀ (v3105 : BitVec 32) (k0_hw165 : k0_chk165 v3105), ∀ a, (k0_off470 v3105) a + S1x1x512.size a ≤ S784x8x512.size a := fun v3105 k0_hw165 => k0_hw165.1
theorem k0_off481_inb : ∀ (v3105 : BitVec 32) (k0_hw165 : k0_chk165 v3105), ∀ a, (k0_off481 v3105) a + S1x1x512.size a ≤ S784x8x512.size a := fun v3105 k0_hw165 => k0_hw165.2

def k0_off482 (v3120 : BitVec 32) : Fin 3 → Nat :=
  let c1023_i32_1944 : BitVec 32 := 1023#32
  let v3121 : BitVec 32 := Scalar.andi v3120 c1023_i32_1944
  let v3182 : Index := Scalar.indexCast v3121
  let c5_1981 : Index := 5#32
  let c0_1982 : Index := 0#32
  ![v3182.toNat, 5, 0]

def k0_chk166 (v3120 : BitVec 32) : Prop :=
  (∀ a, (k0_off472 v3120) a + S1x1x512.size a ≤ S784x8x512.size a) ∧
  (∀ a, (k0_off482 v3120) a + S1x1x512.size a ≤ S784x8x512.size a)
theorem k0_off472_inb : ∀ (v3120 : BitVec 32) (k0_hw166 : k0_chk166 v3120), ∀ a, (k0_off472 v3120) a + S1x1x512.size a ≤ S784x8x512.size a := fun v3120 k0_hw166 => k0_hw166.1
theorem k0_off482_inb : ∀ (v3120 : BitVec 32) (k0_hw166 : k0_chk166 v3120), ∀ a, (k0_off482 v3120) a + S1x1x512.size a ≤ S784x8x512.size a := fun v3120 k0_hw166 => k0_hw166.2

def k0_off483 (v3135 : BitVec 32) : Fin 3 → Nat :=
  let c1023_i32_1954 : BitVec 32 := 1023#32
  let v3136 : BitVec 32 := Scalar.andi v3135 c1023_i32_1954
  let v3186 : Index := Scalar.indexCast v3136
  let c6_1983 : Index := 6#32
  let c0_1984 : Index := 0#32
  ![v3186.toNat, 6, 0]

def k0_chk167 (v3135 : BitVec 32) : Prop :=
  (∀ a, (k0_off474 v3135) a + S1x1x512.size a ≤ S784x8x512.size a) ∧
  (∀ a, (k0_off483 v3135) a + S1x1x512.size a ≤ S784x8x512.size a)
theorem k0_off474_inb : ∀ (v3135 : BitVec 32) (k0_hw167 : k0_chk167 v3135), ∀ a, (k0_off474 v3135) a + S1x1x512.size a ≤ S784x8x512.size a := fun v3135 k0_hw167 => k0_hw167.1
theorem k0_off483_inb : ∀ (v3135 : BitVec 32) (k0_hw167 : k0_chk167 v3135), ∀ a, (k0_off483 v3135) a + S1x1x512.size a ≤ S784x8x512.size a := fun v3135 k0_hw167 => k0_hw167.2

def k0_off484 (i : grid0.Coords) : Fin 2 → Nat :=
  let arg0 : BitVec 32 := BitVec.ofNat 32 (i 0).val
  let c8_i32_1987 : BitVec 32 := 8#32
  let v3194 : BitVec 32 := Scalar.muli arg0 c8_i32_1987
  let c0_i32_1988 : BitVec 32 := 0#32
  let v3195 : BitVec 32 := Scalar.addi v3194 c0_i32_1988
  let v3196 : Index := Scalar.indexCast v3195
  let c21 : Index := 21#32
  ![v3196.toNat, 21]
def k0_off485 (v3197 : BitVec 32) : Fin 3 → Nat :=
  let c1023_i32_1989 : BitVec 32 := 1023#32
  let v3198 : BitVec 32 := Scalar.andi v3197 c1023_i32_1989
  let v3205 : Index := Scalar.indexCast v3198
  let c0_1994 : Index := 0#32
  let c0_1995 : Index := 0#32
  ![v3205.toNat, 0, 0]

def k0_off486 (i : grid0.Coords) : Fin 2 → Nat :=
  let arg0 : BitVec 32 := BitVec.ofNat 32 (i 0).val
  let c8_i32_1996 : BitVec 32 := 8#32
  let v3209 : BitVec 32 := Scalar.muli arg0 c8_i32_1996
  let c1_i32_1997 : BitVec 32 := 1#32
  let v3210 : BitVec 32 := Scalar.addi v3209 c1_i32_1997
  let v3211 : Index := Scalar.indexCast v3210
  let c21_1998 : Index := 21#32
  ![v3211.toNat, 21]
def k0_off487 (v3212 : BitVec 32) : Fin 3 → Nat :=
  let c1023_i32_1999 : BitVec 32 := 1023#32
  let v3213 : BitVec 32 := Scalar.andi v3212 c1023_i32_1999
  let v3220 : Index := Scalar.indexCast v3213
  let c1_2004 : Index := 1#32
  let c0_2005 : Index := 0#32
  ![v3220.toNat, 1, 0]

def k0_off488 (i : grid0.Coords) : Fin 2 → Nat :=
  let arg0 : BitVec 32 := BitVec.ofNat 32 (i 0).val
  let c8_i32_2006 : BitVec 32 := 8#32
  let v3224 : BitVec 32 := Scalar.muli arg0 c8_i32_2006
  let c2_i32_2007 : BitVec 32 := 2#32
  let v3225 : BitVec 32 := Scalar.addi v3224 c2_i32_2007
  let v3226 : Index := Scalar.indexCast v3225
  let c21_2008 : Index := 21#32
  ![v3226.toNat, 21]
def k0_off489 (v3227 : BitVec 32) : Fin 3 → Nat :=
  let c1023_i32_2009 : BitVec 32 := 1023#32
  let v3228 : BitVec 32 := Scalar.andi v3227 c1023_i32_2009
  let v3235 : Index := Scalar.indexCast v3228
  let c2_2014 : Index := 2#32
  let c0_2015 : Index := 0#32
  ![v3235.toNat, 2, 0]

def k0_off490 (i : grid0.Coords) : Fin 2 → Nat :=
  let arg0 : BitVec 32 := BitVec.ofNat 32 (i 0).val
  let c8_i32_2016 : BitVec 32 := 8#32
  let v3239 : BitVec 32 := Scalar.muli arg0 c8_i32_2016
  let c3_i32_2017 : BitVec 32 := 3#32
  let v3240 : BitVec 32 := Scalar.addi v3239 c3_i32_2017
  let v3241 : Index := Scalar.indexCast v3240
  let c21_2018 : Index := 21#32
  ![v3241.toNat, 21]
def k0_off491 (v3242 : BitVec 32) : Fin 3 → Nat :=
  let c1023_i32_2019 : BitVec 32 := 1023#32
  let v3243 : BitVec 32 := Scalar.andi v3242 c1023_i32_2019
  let v3250 : Index := Scalar.indexCast v3243
  let c3_2024 : Index := 3#32
  let c0_2025 : Index := 0#32
  ![v3250.toNat, 3, 0]

def k0_off492 (i : grid0.Coords) : Fin 2 → Nat :=
  let arg0 : BitVec 32 := BitVec.ofNat 32 (i 0).val
  let c8_i32_2026 : BitVec 32 := 8#32
  let v3254 : BitVec 32 := Scalar.muli arg0 c8_i32_2026
  let c4_i32_2027 : BitVec 32 := 4#32
  let v3255 : BitVec 32 := Scalar.addi v3254 c4_i32_2027
  let v3256 : Index := Scalar.indexCast v3255
  let c21_2028 : Index := 21#32
  ![v3256.toNat, 21]
def k0_off493 (v3257 : BitVec 32) : Fin 3 → Nat :=
  let c1023_i32_2029 : BitVec 32 := 1023#32
  let v3258 : BitVec 32 := Scalar.andi v3257 c1023_i32_2029
  let v3265 : Index := Scalar.indexCast v3258
  let c4_2034 : Index := 4#32
  let c0_2035 : Index := 0#32
  ![v3265.toNat, 4, 0]

def k0_off494 (i : grid0.Coords) : Fin 2 → Nat :=
  let arg0 : BitVec 32 := BitVec.ofNat 32 (i 0).val
  let c8_i32_2036 : BitVec 32 := 8#32
  let v3269 : BitVec 32 := Scalar.muli arg0 c8_i32_2036
  let c5_i32_2037 : BitVec 32 := 5#32
  let v3270 : BitVec 32 := Scalar.addi v3269 c5_i32_2037
  let v3271 : Index := Scalar.indexCast v3270
  let c21_2038 : Index := 21#32
  ![v3271.toNat, 21]
def k0_off495 (v3272 : BitVec 32) : Fin 3 → Nat :=
  let c1023_i32_2039 : BitVec 32 := 1023#32
  let v3273 : BitVec 32 := Scalar.andi v3272 c1023_i32_2039
  let v3280 : Index := Scalar.indexCast v3273
  let c5_2044 : Index := 5#32
  let c0_2045 : Index := 0#32
  ![v3280.toNat, 5, 0]

def k0_off496 (i : grid0.Coords) : Fin 2 → Nat :=
  let arg0 : BitVec 32 := BitVec.ofNat 32 (i 0).val
  let c8_i32_2046 : BitVec 32 := 8#32
  let v3284 : BitVec 32 := Scalar.muli arg0 c8_i32_2046
  let c6_i32_2047 : BitVec 32 := 6#32
  let v3285 : BitVec 32 := Scalar.addi v3284 c6_i32_2047
  let v3286 : Index := Scalar.indexCast v3285
  let c21_2048 : Index := 21#32
  ![v3286.toNat, 21]
def k0_off497 (v3287 : BitVec 32) : Fin 3 → Nat :=
  let c1023_i32_2049 : BitVec 32 := 1023#32
  let v3288 : BitVec 32 := Scalar.andi v3287 c1023_i32_2049
  let v3295 : Index := Scalar.indexCast v3288
  let c6_2054 : Index := 6#32
  let c0_2055 : Index := 0#32
  ![v3295.toNat, 6, 0]

def k0_off498 (i : grid0.Coords) : Fin 2 → Nat :=
  let arg0 : BitVec 32 := BitVec.ofNat 32 (i 0).val
  let c8_i32_2056 : BitVec 32 := 8#32
  let v3299 : BitVec 32 := Scalar.muli arg0 c8_i32_2056
  let c7_i32_2057 : BitVec 32 := 7#32
  let v3300 : BitVec 32 := Scalar.addi v3299 c7_i32_2057
  let v3301 : Index := Scalar.indexCast v3300
  let c21_2058 : Index := 21#32
  ![v3301.toNat, 21]
def k0_off499 (v3302 : BitVec 32) : Fin 3 → Nat :=
  let c1023_i32_2059 : BitVec 32 := 1023#32
  let v3303 : BitVec 32 := Scalar.andi v3302 c1023_i32_2059
  let v3310 : Index := Scalar.indexCast v3303
  let c7_2064 : Index := 7#32
  let c0_2065 : Index := 0#32
  ![v3310.toNat, 7, 0]

def k0_chk176 (v3302 : BitVec 32) : Prop :=
  (∀ a, (k0_off499 v3302) a + S1x1x512.size a ≤ S784x8x512.size a)
theorem k0_off499_inb : ∀ (v3302 : BitVec 32) (k0_hw176 : k0_chk176 v3302), ∀ a, (k0_off499 v3302) a + S1x1x512.size a ≤ S784x8x512.size a := fun v3302 k0_hw176 => k0_hw176

def k0_off500 (v3197 : BitVec 32) : Fin 3 → Nat :=
  let c1023_i32_1989 : BitVec 32 := 1023#32
  let v3198 : BitVec 32 := Scalar.andi v3197 c1023_i32_1989
  let v3314 : Index := Scalar.indexCast v3198
  let c0_2066 : Index := 0#32
  let c0_2067 : Index := 0#32
  ![v3314.toNat, 0, 0]

def k0_chk169 (v3197 : BitVec 32) : Prop :=
  (∀ a, (k0_off485 v3197) a + S1x1x512.size a ≤ S784x8x512.size a) ∧
  (∀ a, (k0_off500 v3197) a + S1x1x512.size a ≤ S784x8x512.size a)
theorem k0_off485_inb : ∀ (v3197 : BitVec 32) (k0_hw169 : k0_chk169 v3197), ∀ a, (k0_off485 v3197) a + S1x1x512.size a ≤ S784x8x512.size a := fun v3197 k0_hw169 => k0_hw169.1
theorem k0_off500_inb : ∀ (v3197 : BitVec 32) (k0_hw169 : k0_chk169 v3197), ∀ a, (k0_off500 v3197) a + S1x1x512.size a ≤ S784x8x512.size a := fun v3197 k0_hw169 => k0_hw169.2

def k0_off501 (v3212 : BitVec 32) : Fin 3 → Nat :=
  let c1023_i32_1999 : BitVec 32 := 1023#32
  let v3213 : BitVec 32 := Scalar.andi v3212 c1023_i32_1999
  let v3318 : Index := Scalar.indexCast v3213
  let c1_2068 : Index := 1#32
  let c0_2069 : Index := 0#32
  ![v3318.toNat, 1, 0]

def k0_chk170 (v3212 : BitVec 32) : Prop :=
  (∀ a, (k0_off487 v3212) a + S1x1x512.size a ≤ S784x8x512.size a) ∧
  (∀ a, (k0_off501 v3212) a + S1x1x512.size a ≤ S784x8x512.size a)
theorem k0_off487_inb : ∀ (v3212 : BitVec 32) (k0_hw170 : k0_chk170 v3212), ∀ a, (k0_off487 v3212) a + S1x1x512.size a ≤ S784x8x512.size a := fun v3212 k0_hw170 => k0_hw170.1
theorem k0_off501_inb : ∀ (v3212 : BitVec 32) (k0_hw170 : k0_chk170 v3212), ∀ a, (k0_off501 v3212) a + S1x1x512.size a ≤ S784x8x512.size a := fun v3212 k0_hw170 => k0_hw170.2

def k0_off502 (v3227 : BitVec 32) : Fin 3 → Nat :=
  let c1023_i32_2009 : BitVec 32 := 1023#32
  let v3228 : BitVec 32 := Scalar.andi v3227 c1023_i32_2009
  let v3322 : Index := Scalar.indexCast v3228
  let c2_2070 : Index := 2#32
  let c0_2071 : Index := 0#32
  ![v3322.toNat, 2, 0]

def k0_chk171 (v3227 : BitVec 32) : Prop :=
  (∀ a, (k0_off489 v3227) a + S1x1x512.size a ≤ S784x8x512.size a) ∧
  (∀ a, (k0_off502 v3227) a + S1x1x512.size a ≤ S784x8x512.size a)
theorem k0_off489_inb : ∀ (v3227 : BitVec 32) (k0_hw171 : k0_chk171 v3227), ∀ a, (k0_off489 v3227) a + S1x1x512.size a ≤ S784x8x512.size a := fun v3227 k0_hw171 => k0_hw171.1
theorem k0_off502_inb : ∀ (v3227 : BitVec 32) (k0_hw171 : k0_chk171 v3227), ∀ a, (k0_off502 v3227) a + S1x1x512.size a ≤ S784x8x512.size a := fun v3227 k0_hw171 => k0_hw171.2

def k0_off503 (v3242 : BitVec 32) : Fin 3 → Nat :=
  let c1023_i32_2019 : BitVec 32 := 1023#32
  let v3243 : BitVec 32 := Scalar.andi v3242 c1023_i32_2019
  let v3326 : Index := Scalar.indexCast v3243
  let c3_2072 : Index := 3#32
  let c0_2073 : Index := 0#32
  ![v3326.toNat, 3, 0]

def k0_chk172 (v3242 : BitVec 32) : Prop :=
  (∀ a, (k0_off491 v3242) a + S1x1x512.size a ≤ S784x8x512.size a) ∧
  (∀ a, (k0_off503 v3242) a + S1x1x512.size a ≤ S784x8x512.size a)
theorem k0_off491_inb : ∀ (v3242 : BitVec 32) (k0_hw172 : k0_chk172 v3242), ∀ a, (k0_off491 v3242) a + S1x1x512.size a ≤ S784x8x512.size a := fun v3242 k0_hw172 => k0_hw172.1
theorem k0_off503_inb : ∀ (v3242 : BitVec 32) (k0_hw172 : k0_chk172 v3242), ∀ a, (k0_off503 v3242) a + S1x1x512.size a ≤ S784x8x512.size a := fun v3242 k0_hw172 => k0_hw172.2

def k0_off504 (v3257 : BitVec 32) : Fin 3 → Nat :=
  let c1023_i32_2029 : BitVec 32 := 1023#32
  let v3258 : BitVec 32 := Scalar.andi v3257 c1023_i32_2029
  let v3330 : Index := Scalar.indexCast v3258
  let c4_2074 : Index := 4#32
  let c0_2075 : Index := 0#32
  ![v3330.toNat, 4, 0]

def k0_chk173 (v3257 : BitVec 32) : Prop :=
  (∀ a, (k0_off493 v3257) a + S1x1x512.size a ≤ S784x8x512.size a) ∧
  (∀ a, (k0_off504 v3257) a + S1x1x512.size a ≤ S784x8x512.size a)
theorem k0_off493_inb : ∀ (v3257 : BitVec 32) (k0_hw173 : k0_chk173 v3257), ∀ a, (k0_off493 v3257) a + S1x1x512.size a ≤ S784x8x512.size a := fun v3257 k0_hw173 => k0_hw173.1
theorem k0_off504_inb : ∀ (v3257 : BitVec 32) (k0_hw173 : k0_chk173 v3257), ∀ a, (k0_off504 v3257) a + S1x1x512.size a ≤ S784x8x512.size a := fun v3257 k0_hw173 => k0_hw173.2

def k0_off505 (v3272 : BitVec 32) : Fin 3 → Nat :=
  let c1023_i32_2039 : BitVec 32 := 1023#32
  let v3273 : BitVec 32 := Scalar.andi v3272 c1023_i32_2039
  let v3334 : Index := Scalar.indexCast v3273
  let c5_2076 : Index := 5#32
  let c0_2077 : Index := 0#32
  ![v3334.toNat, 5, 0]

def k0_chk174 (v3272 : BitVec 32) : Prop :=
  (∀ a, (k0_off495 v3272) a + S1x1x512.size a ≤ S784x8x512.size a) ∧
  (∀ a, (k0_off505 v3272) a + S1x1x512.size a ≤ S784x8x512.size a)
theorem k0_off495_inb : ∀ (v3272 : BitVec 32) (k0_hw174 : k0_chk174 v3272), ∀ a, (k0_off495 v3272) a + S1x1x512.size a ≤ S784x8x512.size a := fun v3272 k0_hw174 => k0_hw174.1
theorem k0_off505_inb : ∀ (v3272 : BitVec 32) (k0_hw174 : k0_chk174 v3272), ∀ a, (k0_off505 v3272) a + S1x1x512.size a ≤ S784x8x512.size a := fun v3272 k0_hw174 => k0_hw174.2

def k0_off506 (v3287 : BitVec 32) : Fin 3 → Nat :=
  let c1023_i32_2049 : BitVec 32 := 1023#32
  let v3288 : BitVec 32 := Scalar.andi v3287 c1023_i32_2049
  let v3338 : Index := Scalar.indexCast v3288
  let c6_2078 : Index := 6#32
  let c0_2079 : Index := 0#32
  ![v3338.toNat, 6, 0]

def k0_chk175 (v3287 : BitVec 32) : Prop :=
  (∀ a, (k0_off497 v3287) a + S1x1x512.size a ≤ S784x8x512.size a) ∧
  (∀ a, (k0_off506 v3287) a + S1x1x512.size a ≤ S784x8x512.size a)
theorem k0_off497_inb : ∀ (v3287 : BitVec 32) (k0_hw175 : k0_chk175 v3287), ∀ a, (k0_off497 v3287) a + S1x1x512.size a ≤ S784x8x512.size a := fun v3287 k0_hw175 => k0_hw175.1
theorem k0_off506_inb : ∀ (v3287 : BitVec 32) (k0_hw175 : k0_chk175 v3287), ∀ a, (k0_off506 v3287) a + S1x1x512.size a ≤ S784x8x512.size a := fun v3287 k0_hw175 => k0_hw175.2

def k0_off507 (i : grid0.Coords) : Fin 2 → Nat :=
  let arg0 : BitVec 32 := BitVec.ofNat 32 (i 0).val
  let c8_i32_2082 : BitVec 32 := 8#32
  let v3346 : BitVec 32 := Scalar.muli arg0 c8_i32_2082
  let c0_i32_2083 : BitVec 32 := 0#32
  let v3347 : BitVec 32 := Scalar.addi v3346 c0_i32_2083
  let v3348 : Index := Scalar.indexCast v3347
  let c22 : Index := 22#32
  ![v3348.toNat, 22]
def k0_off508 (v3349 : BitVec 32) : Fin 3 → Nat :=
  let c1023_i32_2084 : BitVec 32 := 1023#32
  let v3350 : BitVec 32 := Scalar.andi v3349 c1023_i32_2084
  let v3357 : Index := Scalar.indexCast v3350
  let c0_2089 : Index := 0#32
  let c0_2090 : Index := 0#32
  ![v3357.toNat, 0, 0]

def k0_off509 (i : grid0.Coords) : Fin 2 → Nat :=
  let arg0 : BitVec 32 := BitVec.ofNat 32 (i 0).val
  let c8_i32_2091 : BitVec 32 := 8#32
  let v3361 : BitVec 32 := Scalar.muli arg0 c8_i32_2091
  let c1_i32_2092 : BitVec 32 := 1#32
  let v3362 : BitVec 32 := Scalar.addi v3361 c1_i32_2092
  let v3363 : Index := Scalar.indexCast v3362
  let c22_2093 : Index := 22#32
  ![v3363.toNat, 22]
def k0_off510 (v3364 : BitVec 32) : Fin 3 → Nat :=
  let c1023_i32_2094 : BitVec 32 := 1023#32
  let v3365 : BitVec 32 := Scalar.andi v3364 c1023_i32_2094
  let v3372 : Index := Scalar.indexCast v3365
  let c1_2099 : Index := 1#32
  let c0_2100 : Index := 0#32
  ![v3372.toNat, 1, 0]

def k0_off511 (i : grid0.Coords) : Fin 2 → Nat :=
  let arg0 : BitVec 32 := BitVec.ofNat 32 (i 0).val
  let c8_i32_2101 : BitVec 32 := 8#32
  let v3376 : BitVec 32 := Scalar.muli arg0 c8_i32_2101
  let c2_i32_2102 : BitVec 32 := 2#32
  let v3377 : BitVec 32 := Scalar.addi v3376 c2_i32_2102
  let v3378 : Index := Scalar.indexCast v3377
  let c22_2103 : Index := 22#32
  ![v3378.toNat, 22]
def k0_off512 (v3379 : BitVec 32) : Fin 3 → Nat :=
  let c1023_i32_2104 : BitVec 32 := 1023#32
  let v3380 : BitVec 32 := Scalar.andi v3379 c1023_i32_2104
  let v3387 : Index := Scalar.indexCast v3380
  let c2_2109 : Index := 2#32
  let c0_2110 : Index := 0#32
  ![v3387.toNat, 2, 0]

def k0_off513 (i : grid0.Coords) : Fin 2 → Nat :=
  let arg0 : BitVec 32 := BitVec.ofNat 32 (i 0).val
  let c8_i32_2111 : BitVec 32 := 8#32
  let v3391 : BitVec 32 := Scalar.muli arg0 c8_i32_2111
  let c3_i32_2112 : BitVec 32 := 3#32
  let v3392 : BitVec 32 := Scalar.addi v3391 c3_i32_2112
  let v3393 : Index := Scalar.indexCast v3392
  let c22_2113 : Index := 22#32
  ![v3393.toNat, 22]
def k0_off514 (v3394 : BitVec 32) : Fin 3 → Nat :=
  let c1023_i32_2114 : BitVec 32 := 1023#32
  let v3395 : BitVec 32 := Scalar.andi v3394 c1023_i32_2114
  let v3402 : Index := Scalar.indexCast v3395
  let c3_2119 : Index := 3#32
  let c0_2120 : Index := 0#32
  ![v3402.toNat, 3, 0]

def k0_off515 (i : grid0.Coords) : Fin 2 → Nat :=
  let arg0 : BitVec 32 := BitVec.ofNat 32 (i 0).val
  let c8_i32_2121 : BitVec 32 := 8#32
  let v3406 : BitVec 32 := Scalar.muli arg0 c8_i32_2121
  let c4_i32_2122 : BitVec 32 := 4#32
  let v3407 : BitVec 32 := Scalar.addi v3406 c4_i32_2122
  let v3408 : Index := Scalar.indexCast v3407
  let c22_2123 : Index := 22#32
  ![v3408.toNat, 22]
def k0_off516 (v3409 : BitVec 32) : Fin 3 → Nat :=
  let c1023_i32_2124 : BitVec 32 := 1023#32
  let v3410 : BitVec 32 := Scalar.andi v3409 c1023_i32_2124
  let v3417 : Index := Scalar.indexCast v3410
  let c4_2129 : Index := 4#32
  let c0_2130 : Index := 0#32
  ![v3417.toNat, 4, 0]

def k0_off517 (i : grid0.Coords) : Fin 2 → Nat :=
  let arg0 : BitVec 32 := BitVec.ofNat 32 (i 0).val
  let c8_i32_2131 : BitVec 32 := 8#32
  let v3421 : BitVec 32 := Scalar.muli arg0 c8_i32_2131
  let c5_i32_2132 : BitVec 32 := 5#32
  let v3422 : BitVec 32 := Scalar.addi v3421 c5_i32_2132
  let v3423 : Index := Scalar.indexCast v3422
  let c22_2133 : Index := 22#32
  ![v3423.toNat, 22]
def k0_off518 (v3424 : BitVec 32) : Fin 3 → Nat :=
  let c1023_i32_2134 : BitVec 32 := 1023#32
  let v3425 : BitVec 32 := Scalar.andi v3424 c1023_i32_2134
  let v3432 : Index := Scalar.indexCast v3425
  let c5_2139 : Index := 5#32
  let c0_2140 : Index := 0#32
  ![v3432.toNat, 5, 0]

def k0_off519 (i : grid0.Coords) : Fin 2 → Nat :=
  let arg0 : BitVec 32 := BitVec.ofNat 32 (i 0).val
  let c8_i32_2141 : BitVec 32 := 8#32
  let v3436 : BitVec 32 := Scalar.muli arg0 c8_i32_2141
  let c6_i32_2142 : BitVec 32 := 6#32
  let v3437 : BitVec 32 := Scalar.addi v3436 c6_i32_2142
  let v3438 : Index := Scalar.indexCast v3437
  let c22_2143 : Index := 22#32
  ![v3438.toNat, 22]
def k0_off520 (v3439 : BitVec 32) : Fin 3 → Nat :=
  let c1023_i32_2144 : BitVec 32 := 1023#32
  let v3440 : BitVec 32 := Scalar.andi v3439 c1023_i32_2144
  let v3447 : Index := Scalar.indexCast v3440
  let c6_2149 : Index := 6#32
  let c0_2150 : Index := 0#32
  ![v3447.toNat, 6, 0]

def k0_off521 (i : grid0.Coords) : Fin 2 → Nat :=
  let arg0 : BitVec 32 := BitVec.ofNat 32 (i 0).val
  let c8_i32_2151 : BitVec 32 := 8#32
  let v3451 : BitVec 32 := Scalar.muli arg0 c8_i32_2151
  let c7_i32_2152 : BitVec 32 := 7#32
  let v3452 : BitVec 32 := Scalar.addi v3451 c7_i32_2152
  let v3453 : Index := Scalar.indexCast v3452
  let c22_2153 : Index := 22#32
  ![v3453.toNat, 22]
def k0_off522 (v3454 : BitVec 32) : Fin 3 → Nat :=
  let c1023_i32_2154 : BitVec 32 := 1023#32
  let v3455 : BitVec 32 := Scalar.andi v3454 c1023_i32_2154
  let v3462 : Index := Scalar.indexCast v3455
  let c7_2159 : Index := 7#32
  let c0_2160 : Index := 0#32
  ![v3462.toNat, 7, 0]

def k0_chk184 (v3454 : BitVec 32) : Prop :=
  (∀ a, (k0_off522 v3454) a + S1x1x512.size a ≤ S784x8x512.size a)
theorem k0_off522_inb : ∀ (v3454 : BitVec 32) (k0_hw184 : k0_chk184 v3454), ∀ a, (k0_off522 v3454) a + S1x1x512.size a ≤ S784x8x512.size a := fun v3454 k0_hw184 => k0_hw184

def k0_off523 (v3349 : BitVec 32) : Fin 3 → Nat :=
  let c1023_i32_2084 : BitVec 32 := 1023#32
  let v3350 : BitVec 32 := Scalar.andi v3349 c1023_i32_2084
  let v3466 : Index := Scalar.indexCast v3350
  let c0_2161 : Index := 0#32
  let c0_2162 : Index := 0#32
  ![v3466.toNat, 0, 0]

def k0_chk177 (v3349 : BitVec 32) : Prop :=
  (∀ a, (k0_off508 v3349) a + S1x1x512.size a ≤ S784x8x512.size a) ∧
  (∀ a, (k0_off523 v3349) a + S1x1x512.size a ≤ S784x8x512.size a)
theorem k0_off508_inb : ∀ (v3349 : BitVec 32) (k0_hw177 : k0_chk177 v3349), ∀ a, (k0_off508 v3349) a + S1x1x512.size a ≤ S784x8x512.size a := fun v3349 k0_hw177 => k0_hw177.1
theorem k0_off523_inb : ∀ (v3349 : BitVec 32) (k0_hw177 : k0_chk177 v3349), ∀ a, (k0_off523 v3349) a + S1x1x512.size a ≤ S784x8x512.size a := fun v3349 k0_hw177 => k0_hw177.2

def k0_off524 (v3364 : BitVec 32) : Fin 3 → Nat :=
  let c1023_i32_2094 : BitVec 32 := 1023#32
  let v3365 : BitVec 32 := Scalar.andi v3364 c1023_i32_2094
  let v3470 : Index := Scalar.indexCast v3365
  let c1_2163 : Index := 1#32
  let c0_2164 : Index := 0#32
  ![v3470.toNat, 1, 0]

def k0_chk178 (v3364 : BitVec 32) : Prop :=
  (∀ a, (k0_off510 v3364) a + S1x1x512.size a ≤ S784x8x512.size a) ∧
  (∀ a, (k0_off524 v3364) a + S1x1x512.size a ≤ S784x8x512.size a)
theorem k0_off510_inb : ∀ (v3364 : BitVec 32) (k0_hw178 : k0_chk178 v3364), ∀ a, (k0_off510 v3364) a + S1x1x512.size a ≤ S784x8x512.size a := fun v3364 k0_hw178 => k0_hw178.1
theorem k0_off524_inb : ∀ (v3364 : BitVec 32) (k0_hw178 : k0_chk178 v3364), ∀ a, (k0_off524 v3364) a + S1x1x512.size a ≤ S784x8x512.size a := fun v3364 k0_hw178 => k0_hw178.2

def k0_off525 (v3379 : BitVec 32) : Fin 3 → Nat :=
  let c1023_i32_2104 : BitVec 32 := 1023#32
  let v3380 : BitVec 32 := Scalar.andi v3379 c1023_i32_2104
  let v3474 : Index := Scalar.indexCast v3380
  let c2_2165 : Index := 2#32
  let c0_2166 : Index := 0#32
  ![v3474.toNat, 2, 0]

def k0_chk179 (v3379 : BitVec 32) : Prop :=
  (∀ a, (k0_off512 v3379) a + S1x1x512.size a ≤ S784x8x512.size a) ∧
  (∀ a, (k0_off525 v3379) a + S1x1x512.size a ≤ S784x8x512.size a)
theorem k0_off512_inb : ∀ (v3379 : BitVec 32) (k0_hw179 : k0_chk179 v3379), ∀ a, (k0_off512 v3379) a + S1x1x512.size a ≤ S784x8x512.size a := fun v3379 k0_hw179 => k0_hw179.1
theorem k0_off525_inb : ∀ (v3379 : BitVec 32) (k0_hw179 : k0_chk179 v3379), ∀ a, (k0_off525 v3379) a + S1x1x512.size a ≤ S784x8x512.size a := fun v3379 k0_hw179 => k0_hw179.2

def k0_off526 (v3394 : BitVec 32) : Fin 3 → Nat :=
  let c1023_i32_2114 : BitVec 32 := 1023#32
  let v3395 : BitVec 32 := Scalar.andi v3394 c1023_i32_2114
  let v3478 : Index := Scalar.indexCast v3395
  let c3_2167 : Index := 3#32
  let c0_2168 : Index := 0#32
  ![v3478.toNat, 3, 0]

def k0_chk180 (v3394 : BitVec 32) : Prop :=
  (∀ a, (k0_off514 v3394) a + S1x1x512.size a ≤ S784x8x512.size a) ∧
  (∀ a, (k0_off526 v3394) a + S1x1x512.size a ≤ S784x8x512.size a)
theorem k0_off514_inb : ∀ (v3394 : BitVec 32) (k0_hw180 : k0_chk180 v3394), ∀ a, (k0_off514 v3394) a + S1x1x512.size a ≤ S784x8x512.size a := fun v3394 k0_hw180 => k0_hw180.1
theorem k0_off526_inb : ∀ (v3394 : BitVec 32) (k0_hw180 : k0_chk180 v3394), ∀ a, (k0_off526 v3394) a + S1x1x512.size a ≤ S784x8x512.size a := fun v3394 k0_hw180 => k0_hw180.2

def k0_off527 (v3409 : BitVec 32) : Fin 3 → Nat :=
  let c1023_i32_2124 : BitVec 32 := 1023#32
  let v3410 : BitVec 32 := Scalar.andi v3409 c1023_i32_2124
  let v3482 : Index := Scalar.indexCast v3410
  let c4_2169 : Index := 4#32
  let c0_2170 : Index := 0#32
  ![v3482.toNat, 4, 0]

def k0_chk181 (v3409 : BitVec 32) : Prop :=
  (∀ a, (k0_off516 v3409) a + S1x1x512.size a ≤ S784x8x512.size a) ∧
  (∀ a, (k0_off527 v3409) a + S1x1x512.size a ≤ S784x8x512.size a)
theorem k0_off516_inb : ∀ (v3409 : BitVec 32) (k0_hw181 : k0_chk181 v3409), ∀ a, (k0_off516 v3409) a + S1x1x512.size a ≤ S784x8x512.size a := fun v3409 k0_hw181 => k0_hw181.1
theorem k0_off527_inb : ∀ (v3409 : BitVec 32) (k0_hw181 : k0_chk181 v3409), ∀ a, (k0_off527 v3409) a + S1x1x512.size a ≤ S784x8x512.size a := fun v3409 k0_hw181 => k0_hw181.2

def k0_off528 (v3424 : BitVec 32) : Fin 3 → Nat :=
  let c1023_i32_2134 : BitVec 32 := 1023#32
  let v3425 : BitVec 32 := Scalar.andi v3424 c1023_i32_2134
  let v3486 : Index := Scalar.indexCast v3425
  let c5_2171 : Index := 5#32
  let c0_2172 : Index := 0#32
  ![v3486.toNat, 5, 0]

def k0_chk182 (v3424 : BitVec 32) : Prop :=
  (∀ a, (k0_off518 v3424) a + S1x1x512.size a ≤ S784x8x512.size a) ∧
  (∀ a, (k0_off528 v3424) a + S1x1x512.size a ≤ S784x8x512.size a)
theorem k0_off518_inb : ∀ (v3424 : BitVec 32) (k0_hw182 : k0_chk182 v3424), ∀ a, (k0_off518 v3424) a + S1x1x512.size a ≤ S784x8x512.size a := fun v3424 k0_hw182 => k0_hw182.1
theorem k0_off528_inb : ∀ (v3424 : BitVec 32) (k0_hw182 : k0_chk182 v3424), ∀ a, (k0_off528 v3424) a + S1x1x512.size a ≤ S784x8x512.size a := fun v3424 k0_hw182 => k0_hw182.2

def k0_off529 (v3439 : BitVec 32) : Fin 3 → Nat :=
  let c1023_i32_2144 : BitVec 32 := 1023#32
  let v3440 : BitVec 32 := Scalar.andi v3439 c1023_i32_2144
  let v3490 : Index := Scalar.indexCast v3440
  let c6_2173 : Index := 6#32
  let c0_2174 : Index := 0#32
  ![v3490.toNat, 6, 0]

def k0_chk183 (v3439 : BitVec 32) : Prop :=
  (∀ a, (k0_off520 v3439) a + S1x1x512.size a ≤ S784x8x512.size a) ∧
  (∀ a, (k0_off529 v3439) a + S1x1x512.size a ≤ S784x8x512.size a)
theorem k0_off520_inb : ∀ (v3439 : BitVec 32) (k0_hw183 : k0_chk183 v3439), ∀ a, (k0_off520 v3439) a + S1x1x512.size a ≤ S784x8x512.size a := fun v3439 k0_hw183 => k0_hw183.1
theorem k0_off529_inb : ∀ (v3439 : BitVec 32) (k0_hw183 : k0_chk183 v3439), ∀ a, (k0_off529 v3439) a + S1x1x512.size a ≤ S784x8x512.size a := fun v3439 k0_hw183 => k0_hw183.2

def k0_off530 (i : grid0.Coords) : Fin 2 → Nat :=
  let arg0 : BitVec 32 := BitVec.ofNat 32 (i 0).val
  let c8_i32_2177 : BitVec 32 := 8#32
  let v3498 : BitVec 32 := Scalar.muli arg0 c8_i32_2177
  let c0_i32_2178 : BitVec 32 := 0#32
  let v3499 : BitVec 32 := Scalar.addi v3498 c0_i32_2178
  let v3500 : Index := Scalar.indexCast v3499
  let c23 : Index := 23#32
  ![v3500.toNat, 23]
def k0_off531 (v3501 : BitVec 32) : Fin 3 → Nat :=
  let c1023_i32_2179 : BitVec 32 := 1023#32
  let v3502 : BitVec 32 := Scalar.andi v3501 c1023_i32_2179
  let v3509 : Index := Scalar.indexCast v3502
  let c0_2184 : Index := 0#32
  let c0_2185 : Index := 0#32
  ![v3509.toNat, 0, 0]

def k0_off532 (i : grid0.Coords) : Fin 2 → Nat :=
  let arg0 : BitVec 32 := BitVec.ofNat 32 (i 0).val
  let c8_i32_2186 : BitVec 32 := 8#32
  let v3513 : BitVec 32 := Scalar.muli arg0 c8_i32_2186
  let c1_i32_2187 : BitVec 32 := 1#32
  let v3514 : BitVec 32 := Scalar.addi v3513 c1_i32_2187
  let v3515 : Index := Scalar.indexCast v3514
  let c23_2188 : Index := 23#32
  ![v3515.toNat, 23]
def k0_off533 (v3516 : BitVec 32) : Fin 3 → Nat :=
  let c1023_i32_2189 : BitVec 32 := 1023#32
  let v3517 : BitVec 32 := Scalar.andi v3516 c1023_i32_2189
  let v3524 : Index := Scalar.indexCast v3517
  let c1_2194 : Index := 1#32
  let c0_2195 : Index := 0#32
  ![v3524.toNat, 1, 0]

def k0_off534 (i : grid0.Coords) : Fin 2 → Nat :=
  let arg0 : BitVec 32 := BitVec.ofNat 32 (i 0).val
  let c8_i32_2196 : BitVec 32 := 8#32
  let v3528 : BitVec 32 := Scalar.muli arg0 c8_i32_2196
  let c2_i32_2197 : BitVec 32 := 2#32
  let v3529 : BitVec 32 := Scalar.addi v3528 c2_i32_2197
  let v3530 : Index := Scalar.indexCast v3529
  let c23_2198 : Index := 23#32
  ![v3530.toNat, 23]
def k0_off535 (v3531 : BitVec 32) : Fin 3 → Nat :=
  let c1023_i32_2199 : BitVec 32 := 1023#32
  let v3532 : BitVec 32 := Scalar.andi v3531 c1023_i32_2199
  let v3539 : Index := Scalar.indexCast v3532
  let c2_2204 : Index := 2#32
  let c0_2205 : Index := 0#32
  ![v3539.toNat, 2, 0]

def k0_off536 (i : grid0.Coords) : Fin 2 → Nat :=
  let arg0 : BitVec 32 := BitVec.ofNat 32 (i 0).val
  let c8_i32_2206 : BitVec 32 := 8#32
  let v3543 : BitVec 32 := Scalar.muli arg0 c8_i32_2206
  let c3_i32_2207 : BitVec 32 := 3#32
  let v3544 : BitVec 32 := Scalar.addi v3543 c3_i32_2207
  let v3545 : Index := Scalar.indexCast v3544
  let c23_2208 : Index := 23#32
  ![v3545.toNat, 23]
def k0_off537 (v3546 : BitVec 32) : Fin 3 → Nat :=
  let c1023_i32_2209 : BitVec 32 := 1023#32
  let v3547 : BitVec 32 := Scalar.andi v3546 c1023_i32_2209
  let v3554 : Index := Scalar.indexCast v3547
  let c3_2214 : Index := 3#32
  let c0_2215 : Index := 0#32
  ![v3554.toNat, 3, 0]

def k0_off538 (i : grid0.Coords) : Fin 2 → Nat :=
  let arg0 : BitVec 32 := BitVec.ofNat 32 (i 0).val
  let c8_i32_2216 : BitVec 32 := 8#32
  let v3558 : BitVec 32 := Scalar.muli arg0 c8_i32_2216
  let c4_i32_2217 : BitVec 32 := 4#32
  let v3559 : BitVec 32 := Scalar.addi v3558 c4_i32_2217
  let v3560 : Index := Scalar.indexCast v3559
  let c23_2218 : Index := 23#32
  ![v3560.toNat, 23]
def k0_off539 (v3561 : BitVec 32) : Fin 3 → Nat :=
  let c1023_i32_2219 : BitVec 32 := 1023#32
  let v3562 : BitVec 32 := Scalar.andi v3561 c1023_i32_2219
  let v3569 : Index := Scalar.indexCast v3562
  let c4_2224 : Index := 4#32
  let c0_2225 : Index := 0#32
  ![v3569.toNat, 4, 0]

def k0_off540 (i : grid0.Coords) : Fin 2 → Nat :=
  let arg0 : BitVec 32 := BitVec.ofNat 32 (i 0).val
  let c8_i32_2226 : BitVec 32 := 8#32
  let v3573 : BitVec 32 := Scalar.muli arg0 c8_i32_2226
  let c5_i32_2227 : BitVec 32 := 5#32
  let v3574 : BitVec 32 := Scalar.addi v3573 c5_i32_2227
  let v3575 : Index := Scalar.indexCast v3574
  let c23_2228 : Index := 23#32
  ![v3575.toNat, 23]
def k0_off541 (v3576 : BitVec 32) : Fin 3 → Nat :=
  let c1023_i32_2229 : BitVec 32 := 1023#32
  let v3577 : BitVec 32 := Scalar.andi v3576 c1023_i32_2229
  let v3584 : Index := Scalar.indexCast v3577
  let c5_2234 : Index := 5#32
  let c0_2235 : Index := 0#32
  ![v3584.toNat, 5, 0]

def k0_off542 (i : grid0.Coords) : Fin 2 → Nat :=
  let arg0 : BitVec 32 := BitVec.ofNat 32 (i 0).val
  let c8_i32_2236 : BitVec 32 := 8#32
  let v3588 : BitVec 32 := Scalar.muli arg0 c8_i32_2236
  let c6_i32_2237 : BitVec 32 := 6#32
  let v3589 : BitVec 32 := Scalar.addi v3588 c6_i32_2237
  let v3590 : Index := Scalar.indexCast v3589
  let c23_2238 : Index := 23#32
  ![v3590.toNat, 23]
def k0_off543 (v3591 : BitVec 32) : Fin 3 → Nat :=
  let c1023_i32_2239 : BitVec 32 := 1023#32
  let v3592 : BitVec 32 := Scalar.andi v3591 c1023_i32_2239
  let v3599 : Index := Scalar.indexCast v3592
  let c6_2244 : Index := 6#32
  let c0_2245 : Index := 0#32
  ![v3599.toNat, 6, 0]

def k0_off544 (i : grid0.Coords) : Fin 2 → Nat :=
  let arg0 : BitVec 32 := BitVec.ofNat 32 (i 0).val
  let c8_i32_2246 : BitVec 32 := 8#32
  let v3603 : BitVec 32 := Scalar.muli arg0 c8_i32_2246
  let c7_i32_2247 : BitVec 32 := 7#32
  let v3604 : BitVec 32 := Scalar.addi v3603 c7_i32_2247
  let v3605 : Index := Scalar.indexCast v3604
  let c23_2248 : Index := 23#32
  ![v3605.toNat, 23]
def k0_off545 (v3606 : BitVec 32) : Fin 3 → Nat :=
  let c1023_i32_2249 : BitVec 32 := 1023#32
  let v3607 : BitVec 32 := Scalar.andi v3606 c1023_i32_2249
  let v3614 : Index := Scalar.indexCast v3607
  let c7_2254 : Index := 7#32
  let c0_2255 : Index := 0#32
  ![v3614.toNat, 7, 0]

def k0_chk192 (v3606 : BitVec 32) : Prop :=
  (∀ a, (k0_off545 v3606) a + S1x1x512.size a ≤ S784x8x512.size a)
theorem k0_off545_inb : ∀ (v3606 : BitVec 32) (k0_hw192 : k0_chk192 v3606), ∀ a, (k0_off545 v3606) a + S1x1x512.size a ≤ S784x8x512.size a := fun v3606 k0_hw192 => k0_hw192

def k0_off546 (v3501 : BitVec 32) : Fin 3 → Nat :=
  let c1023_i32_2179 : BitVec 32 := 1023#32
  let v3502 : BitVec 32 := Scalar.andi v3501 c1023_i32_2179
  let v3618 : Index := Scalar.indexCast v3502
  let c0_2256 : Index := 0#32
  let c0_2257 : Index := 0#32
  ![v3618.toNat, 0, 0]

def k0_chk185 (v3501 : BitVec 32) : Prop :=
  (∀ a, (k0_off531 v3501) a + S1x1x512.size a ≤ S784x8x512.size a) ∧
  (∀ a, (k0_off546 v3501) a + S1x1x512.size a ≤ S784x8x512.size a)
theorem k0_off531_inb : ∀ (v3501 : BitVec 32) (k0_hw185 : k0_chk185 v3501), ∀ a, (k0_off531 v3501) a + S1x1x512.size a ≤ S784x8x512.size a := fun v3501 k0_hw185 => k0_hw185.1
theorem k0_off546_inb : ∀ (v3501 : BitVec 32) (k0_hw185 : k0_chk185 v3501), ∀ a, (k0_off546 v3501) a + S1x1x512.size a ≤ S784x8x512.size a := fun v3501 k0_hw185 => k0_hw185.2

def k0_off547 (v3516 : BitVec 32) : Fin 3 → Nat :=
  let c1023_i32_2189 : BitVec 32 := 1023#32
  let v3517 : BitVec 32 := Scalar.andi v3516 c1023_i32_2189
  let v3622 : Index := Scalar.indexCast v3517
  let c1_2258 : Index := 1#32
  let c0_2259 : Index := 0#32
  ![v3622.toNat, 1, 0]

def k0_chk186 (v3516 : BitVec 32) : Prop :=
  (∀ a, (k0_off533 v3516) a + S1x1x512.size a ≤ S784x8x512.size a) ∧
  (∀ a, (k0_off547 v3516) a + S1x1x512.size a ≤ S784x8x512.size a)
theorem k0_off533_inb : ∀ (v3516 : BitVec 32) (k0_hw186 : k0_chk186 v3516), ∀ a, (k0_off533 v3516) a + S1x1x512.size a ≤ S784x8x512.size a := fun v3516 k0_hw186 => k0_hw186.1
theorem k0_off547_inb : ∀ (v3516 : BitVec 32) (k0_hw186 : k0_chk186 v3516), ∀ a, (k0_off547 v3516) a + S1x1x512.size a ≤ S784x8x512.size a := fun v3516 k0_hw186 => k0_hw186.2

def k0_off548 (v3531 : BitVec 32) : Fin 3 → Nat :=
  let c1023_i32_2199 : BitVec 32 := 1023#32
  let v3532 : BitVec 32 := Scalar.andi v3531 c1023_i32_2199
  let v3626 : Index := Scalar.indexCast v3532
  let c2_2260 : Index := 2#32
  let c0_2261 : Index := 0#32
  ![v3626.toNat, 2, 0]

def k0_chk187 (v3531 : BitVec 32) : Prop :=
  (∀ a, (k0_off535 v3531) a + S1x1x512.size a ≤ S784x8x512.size a) ∧
  (∀ a, (k0_off548 v3531) a + S1x1x512.size a ≤ S784x8x512.size a)
theorem k0_off535_inb : ∀ (v3531 : BitVec 32) (k0_hw187 : k0_chk187 v3531), ∀ a, (k0_off535 v3531) a + S1x1x512.size a ≤ S784x8x512.size a := fun v3531 k0_hw187 => k0_hw187.1
theorem k0_off548_inb : ∀ (v3531 : BitVec 32) (k0_hw187 : k0_chk187 v3531), ∀ a, (k0_off548 v3531) a + S1x1x512.size a ≤ S784x8x512.size a := fun v3531 k0_hw187 => k0_hw187.2

def k0_off549 (v3546 : BitVec 32) : Fin 3 → Nat :=
  let c1023_i32_2209 : BitVec 32 := 1023#32
  let v3547 : BitVec 32 := Scalar.andi v3546 c1023_i32_2209
  let v3630 : Index := Scalar.indexCast v3547
  let c3_2262 : Index := 3#32
  let c0_2263 : Index := 0#32
  ![v3630.toNat, 3, 0]

def k0_chk188 (v3546 : BitVec 32) : Prop :=
  (∀ a, (k0_off537 v3546) a + S1x1x512.size a ≤ S784x8x512.size a) ∧
  (∀ a, (k0_off549 v3546) a + S1x1x512.size a ≤ S784x8x512.size a)
theorem k0_off537_inb : ∀ (v3546 : BitVec 32) (k0_hw188 : k0_chk188 v3546), ∀ a, (k0_off537 v3546) a + S1x1x512.size a ≤ S784x8x512.size a := fun v3546 k0_hw188 => k0_hw188.1
theorem k0_off549_inb : ∀ (v3546 : BitVec 32) (k0_hw188 : k0_chk188 v3546), ∀ a, (k0_off549 v3546) a + S1x1x512.size a ≤ S784x8x512.size a := fun v3546 k0_hw188 => k0_hw188.2

def k0_off550 (v3561 : BitVec 32) : Fin 3 → Nat :=
  let c1023_i32_2219 : BitVec 32 := 1023#32
  let v3562 : BitVec 32 := Scalar.andi v3561 c1023_i32_2219
  let v3634 : Index := Scalar.indexCast v3562
  let c4_2264 : Index := 4#32
  let c0_2265 : Index := 0#32
  ![v3634.toNat, 4, 0]

def k0_chk189 (v3561 : BitVec 32) : Prop :=
  (∀ a, (k0_off539 v3561) a + S1x1x512.size a ≤ S784x8x512.size a) ∧
  (∀ a, (k0_off550 v3561) a + S1x1x512.size a ≤ S784x8x512.size a)
theorem k0_off539_inb : ∀ (v3561 : BitVec 32) (k0_hw189 : k0_chk189 v3561), ∀ a, (k0_off539 v3561) a + S1x1x512.size a ≤ S784x8x512.size a := fun v3561 k0_hw189 => k0_hw189.1
theorem k0_off550_inb : ∀ (v3561 : BitVec 32) (k0_hw189 : k0_chk189 v3561), ∀ a, (k0_off550 v3561) a + S1x1x512.size a ≤ S784x8x512.size a := fun v3561 k0_hw189 => k0_hw189.2

def k0_off551 (v3576 : BitVec 32) : Fin 3 → Nat :=
  let c1023_i32_2229 : BitVec 32 := 1023#32
  let v3577 : BitVec 32 := Scalar.andi v3576 c1023_i32_2229
  let v3638 : Index := Scalar.indexCast v3577
  let c5_2266 : Index := 5#32
  let c0_2267 : Index := 0#32
  ![v3638.toNat, 5, 0]

def k0_chk190 (v3576 : BitVec 32) : Prop :=
  (∀ a, (k0_off541 v3576) a + S1x1x512.size a ≤ S784x8x512.size a) ∧
  (∀ a, (k0_off551 v3576) a + S1x1x512.size a ≤ S784x8x512.size a)
theorem k0_off541_inb : ∀ (v3576 : BitVec 32) (k0_hw190 : k0_chk190 v3576), ∀ a, (k0_off541 v3576) a + S1x1x512.size a ≤ S784x8x512.size a := fun v3576 k0_hw190 => k0_hw190.1
theorem k0_off551_inb : ∀ (v3576 : BitVec 32) (k0_hw190 : k0_chk190 v3576), ∀ a, (k0_off551 v3576) a + S1x1x512.size a ≤ S784x8x512.size a := fun v3576 k0_hw190 => k0_hw190.2

def k0_off552 (v3591 : BitVec 32) : Fin 3 → Nat :=
  let c1023_i32_2239 : BitVec 32 := 1023#32
  let v3592 : BitVec 32 := Scalar.andi v3591 c1023_i32_2239
  let v3642 : Index := Scalar.indexCast v3592
  let c6_2268 : Index := 6#32
  let c0_2269 : Index := 0#32
  ![v3642.toNat, 6, 0]

def k0_chk191 (v3591 : BitVec 32) : Prop :=
  (∀ a, (k0_off543 v3591) a + S1x1x512.size a ≤ S784x8x512.size a) ∧
  (∀ a, (k0_off552 v3591) a + S1x1x512.size a ≤ S784x8x512.size a)
theorem k0_off543_inb : ∀ (v3591 : BitVec 32) (k0_hw191 : k0_chk191 v3591), ∀ a, (k0_off543 v3591) a + S1x1x512.size a ≤ S784x8x512.size a := fun v3591 k0_hw191 => k0_hw191.1
theorem k0_off552_inb : ∀ (v3591 : BitVec 32) (k0_hw191 : k0_chk191 v3591), ∀ a, (k0_off552 v3591) a + S1x1x512.size a ≤ S784x8x512.size a := fun v3591 k0_hw191 => k0_hw191.2

def k0_off553 (i : grid0.Coords) : Fin 2 → Nat :=
  let arg0 : BitVec 32 := BitVec.ofNat 32 (i 0).val
  let c8_i32_2272 : BitVec 32 := 8#32
  let v3650 : BitVec 32 := Scalar.muli arg0 c8_i32_2272
  let c0_i32_2273 : BitVec 32 := 0#32
  let v3651 : BitVec 32 := Scalar.addi v3650 c0_i32_2273
  let v3652 : Index := Scalar.indexCast v3651
  let c24 : Index := 24#32
  ![v3652.toNat, 24]
def k0_off554 (v3653 : BitVec 32) : Fin 3 → Nat :=
  let c1023_i32_2274 : BitVec 32 := 1023#32
  let v3654 : BitVec 32 := Scalar.andi v3653 c1023_i32_2274
  let v3661 : Index := Scalar.indexCast v3654
  let c0_2279 : Index := 0#32
  let c0_2280 : Index := 0#32
  ![v3661.toNat, 0, 0]

def k0_off555 (i : grid0.Coords) : Fin 2 → Nat :=
  let arg0 : BitVec 32 := BitVec.ofNat 32 (i 0).val
  let c8_i32_2281 : BitVec 32 := 8#32
  let v3665 : BitVec 32 := Scalar.muli arg0 c8_i32_2281
  let c1_i32_2282 : BitVec 32 := 1#32
  let v3666 : BitVec 32 := Scalar.addi v3665 c1_i32_2282
  let v3667 : Index := Scalar.indexCast v3666
  let c24_2283 : Index := 24#32
  ![v3667.toNat, 24]
def k0_off556 (v3668 : BitVec 32) : Fin 3 → Nat :=
  let c1023_i32_2284 : BitVec 32 := 1023#32
  let v3669 : BitVec 32 := Scalar.andi v3668 c1023_i32_2284
  let v3676 : Index := Scalar.indexCast v3669
  let c1_2289 : Index := 1#32
  let c0_2290 : Index := 0#32
  ![v3676.toNat, 1, 0]

def k0_off557 (i : grid0.Coords) : Fin 2 → Nat :=
  let arg0 : BitVec 32 := BitVec.ofNat 32 (i 0).val
  let c8_i32_2291 : BitVec 32 := 8#32
  let v3680 : BitVec 32 := Scalar.muli arg0 c8_i32_2291
  let c2_i32_2292 : BitVec 32 := 2#32
  let v3681 : BitVec 32 := Scalar.addi v3680 c2_i32_2292
  let v3682 : Index := Scalar.indexCast v3681
  let c24_2293 : Index := 24#32
  ![v3682.toNat, 24]
def k0_off558 (v3683 : BitVec 32) : Fin 3 → Nat :=
  let c1023_i32_2294 : BitVec 32 := 1023#32
  let v3684 : BitVec 32 := Scalar.andi v3683 c1023_i32_2294
  let v3691 : Index := Scalar.indexCast v3684
  let c2_2299 : Index := 2#32
  let c0_2300 : Index := 0#32
  ![v3691.toNat, 2, 0]

def k0_off559 (i : grid0.Coords) : Fin 2 → Nat :=
  let arg0 : BitVec 32 := BitVec.ofNat 32 (i 0).val
  let c8_i32_2301 : BitVec 32 := 8#32
  let v3695 : BitVec 32 := Scalar.muli arg0 c8_i32_2301
  let c3_i32_2302 : BitVec 32 := 3#32
  let v3696 : BitVec 32 := Scalar.addi v3695 c3_i32_2302
  let v3697 : Index := Scalar.indexCast v3696
  let c24_2303 : Index := 24#32
  ![v3697.toNat, 24]
def k0_off560 (v3698 : BitVec 32) : Fin 3 → Nat :=
  let c1023_i32_2304 : BitVec 32 := 1023#32
  let v3699 : BitVec 32 := Scalar.andi v3698 c1023_i32_2304
  let v3706 : Index := Scalar.indexCast v3699
  let c3_2309 : Index := 3#32
  let c0_2310 : Index := 0#32
  ![v3706.toNat, 3, 0]

def k0_off561 (i : grid0.Coords) : Fin 2 → Nat :=
  let arg0 : BitVec 32 := BitVec.ofNat 32 (i 0).val
  let c8_i32_2311 : BitVec 32 := 8#32
  let v3710 : BitVec 32 := Scalar.muli arg0 c8_i32_2311
  let c4_i32_2312 : BitVec 32 := 4#32
  let v3711 : BitVec 32 := Scalar.addi v3710 c4_i32_2312
  let v3712 : Index := Scalar.indexCast v3711
  let c24_2313 : Index := 24#32
  ![v3712.toNat, 24]
def k0_off562 (v3713 : BitVec 32) : Fin 3 → Nat :=
  let c1023_i32_2314 : BitVec 32 := 1023#32
  let v3714 : BitVec 32 := Scalar.andi v3713 c1023_i32_2314
  let v3721 : Index := Scalar.indexCast v3714
  let c4_2319 : Index := 4#32
  let c0_2320 : Index := 0#32
  ![v3721.toNat, 4, 0]

def k0_off563 (i : grid0.Coords) : Fin 2 → Nat :=
  let arg0 : BitVec 32 := BitVec.ofNat 32 (i 0).val
  let c8_i32_2321 : BitVec 32 := 8#32
  let v3725 : BitVec 32 := Scalar.muli arg0 c8_i32_2321
  let c5_i32_2322 : BitVec 32 := 5#32
  let v3726 : BitVec 32 := Scalar.addi v3725 c5_i32_2322
  let v3727 : Index := Scalar.indexCast v3726
  let c24_2323 : Index := 24#32
  ![v3727.toNat, 24]
def k0_off564 (v3728 : BitVec 32) : Fin 3 → Nat :=
  let c1023_i32_2324 : BitVec 32 := 1023#32
  let v3729 : BitVec 32 := Scalar.andi v3728 c1023_i32_2324
  let v3736 : Index := Scalar.indexCast v3729
  let c5_2329 : Index := 5#32
  let c0_2330 : Index := 0#32
  ![v3736.toNat, 5, 0]

def k0_off565 (i : grid0.Coords) : Fin 2 → Nat :=
  let arg0 : BitVec 32 := BitVec.ofNat 32 (i 0).val
  let c8_i32_2331 : BitVec 32 := 8#32
  let v3740 : BitVec 32 := Scalar.muli arg0 c8_i32_2331
  let c6_i32_2332 : BitVec 32 := 6#32
  let v3741 : BitVec 32 := Scalar.addi v3740 c6_i32_2332
  let v3742 : Index := Scalar.indexCast v3741
  let c24_2333 : Index := 24#32
  ![v3742.toNat, 24]
def k0_off566 (v3743 : BitVec 32) : Fin 3 → Nat :=
  let c1023_i32_2334 : BitVec 32 := 1023#32
  let v3744 : BitVec 32 := Scalar.andi v3743 c1023_i32_2334
  let v3751 : Index := Scalar.indexCast v3744
  let c6_2339 : Index := 6#32
  let c0_2340 : Index := 0#32
  ![v3751.toNat, 6, 0]

def k0_off567 (i : grid0.Coords) : Fin 2 → Nat :=
  let arg0 : BitVec 32 := BitVec.ofNat 32 (i 0).val
  let c8_i32_2341 : BitVec 32 := 8#32
  let v3755 : BitVec 32 := Scalar.muli arg0 c8_i32_2341
  let c7_i32_2342 : BitVec 32 := 7#32
  let v3756 : BitVec 32 := Scalar.addi v3755 c7_i32_2342
  let v3757 : Index := Scalar.indexCast v3756
  let c24_2343 : Index := 24#32
  ![v3757.toNat, 24]
def k0_off568 (v3758 : BitVec 32) : Fin 3 → Nat :=
  let c1023_i32_2344 : BitVec 32 := 1023#32
  let v3759 : BitVec 32 := Scalar.andi v3758 c1023_i32_2344
  let v3766 : Index := Scalar.indexCast v3759
  let c7_2349 : Index := 7#32
  let c0_2350 : Index := 0#32
  ![v3766.toNat, 7, 0]

def k0_chk200 (v3758 : BitVec 32) : Prop :=
  (∀ a, (k0_off568 v3758) a + S1x1x512.size a ≤ S784x8x512.size a)
theorem k0_off568_inb : ∀ (v3758 : BitVec 32) (k0_hw200 : k0_chk200 v3758), ∀ a, (k0_off568 v3758) a + S1x1x512.size a ≤ S784x8x512.size a := fun v3758 k0_hw200 => k0_hw200

def k0_off569 (v3653 : BitVec 32) : Fin 3 → Nat :=
  let c1023_i32_2274 : BitVec 32 := 1023#32
  let v3654 : BitVec 32 := Scalar.andi v3653 c1023_i32_2274
  let v3770 : Index := Scalar.indexCast v3654
  let c0_2351 : Index := 0#32
  let c0_2352 : Index := 0#32
  ![v3770.toNat, 0, 0]

def k0_chk193 (v3653 : BitVec 32) : Prop :=
  (∀ a, (k0_off554 v3653) a + S1x1x512.size a ≤ S784x8x512.size a) ∧
  (∀ a, (k0_off569 v3653) a + S1x1x512.size a ≤ S784x8x512.size a)
theorem k0_off554_inb : ∀ (v3653 : BitVec 32) (k0_hw193 : k0_chk193 v3653), ∀ a, (k0_off554 v3653) a + S1x1x512.size a ≤ S784x8x512.size a := fun v3653 k0_hw193 => k0_hw193.1
theorem k0_off569_inb : ∀ (v3653 : BitVec 32) (k0_hw193 : k0_chk193 v3653), ∀ a, (k0_off569 v3653) a + S1x1x512.size a ≤ S784x8x512.size a := fun v3653 k0_hw193 => k0_hw193.2

def k0_off570 (v3668 : BitVec 32) : Fin 3 → Nat :=
  let c1023_i32_2284 : BitVec 32 := 1023#32
  let v3669 : BitVec 32 := Scalar.andi v3668 c1023_i32_2284
  let v3774 : Index := Scalar.indexCast v3669
  let c1_2353 : Index := 1#32
  let c0_2354 : Index := 0#32
  ![v3774.toNat, 1, 0]

def k0_chk194 (v3668 : BitVec 32) : Prop :=
  (∀ a, (k0_off556 v3668) a + S1x1x512.size a ≤ S784x8x512.size a) ∧
  (∀ a, (k0_off570 v3668) a + S1x1x512.size a ≤ S784x8x512.size a)
theorem k0_off556_inb : ∀ (v3668 : BitVec 32) (k0_hw194 : k0_chk194 v3668), ∀ a, (k0_off556 v3668) a + S1x1x512.size a ≤ S784x8x512.size a := fun v3668 k0_hw194 => k0_hw194.1
theorem k0_off570_inb : ∀ (v3668 : BitVec 32) (k0_hw194 : k0_chk194 v3668), ∀ a, (k0_off570 v3668) a + S1x1x512.size a ≤ S784x8x512.size a := fun v3668 k0_hw194 => k0_hw194.2

def k0_off571 (v3683 : BitVec 32) : Fin 3 → Nat :=
  let c1023_i32_2294 : BitVec 32 := 1023#32
  let v3684 : BitVec 32 := Scalar.andi v3683 c1023_i32_2294
  let v3778 : Index := Scalar.indexCast v3684
  let c2_2355 : Index := 2#32
  let c0_2356 : Index := 0#32
  ![v3778.toNat, 2, 0]

def k0_chk195 (v3683 : BitVec 32) : Prop :=
  (∀ a, (k0_off558 v3683) a + S1x1x512.size a ≤ S784x8x512.size a) ∧
  (∀ a, (k0_off571 v3683) a + S1x1x512.size a ≤ S784x8x512.size a)
theorem k0_off558_inb : ∀ (v3683 : BitVec 32) (k0_hw195 : k0_chk195 v3683), ∀ a, (k0_off558 v3683) a + S1x1x512.size a ≤ S784x8x512.size a := fun v3683 k0_hw195 => k0_hw195.1
theorem k0_off571_inb : ∀ (v3683 : BitVec 32) (k0_hw195 : k0_chk195 v3683), ∀ a, (k0_off571 v3683) a + S1x1x512.size a ≤ S784x8x512.size a := fun v3683 k0_hw195 => k0_hw195.2

def k0_off572 (v3698 : BitVec 32) : Fin 3 → Nat :=
  let c1023_i32_2304 : BitVec 32 := 1023#32
  let v3699 : BitVec 32 := Scalar.andi v3698 c1023_i32_2304
  let v3782 : Index := Scalar.indexCast v3699
  let c3_2357 : Index := 3#32
  let c0_2358 : Index := 0#32
  ![v3782.toNat, 3, 0]

def k0_chk196 (v3698 : BitVec 32) : Prop :=
  (∀ a, (k0_off560 v3698) a + S1x1x512.size a ≤ S784x8x512.size a) ∧
  (∀ a, (k0_off572 v3698) a + S1x1x512.size a ≤ S784x8x512.size a)
theorem k0_off560_inb : ∀ (v3698 : BitVec 32) (k0_hw196 : k0_chk196 v3698), ∀ a, (k0_off560 v3698) a + S1x1x512.size a ≤ S784x8x512.size a := fun v3698 k0_hw196 => k0_hw196.1
theorem k0_off572_inb : ∀ (v3698 : BitVec 32) (k0_hw196 : k0_chk196 v3698), ∀ a, (k0_off572 v3698) a + S1x1x512.size a ≤ S784x8x512.size a := fun v3698 k0_hw196 => k0_hw196.2

def k0_off573 (v3713 : BitVec 32) : Fin 3 → Nat :=
  let c1023_i32_2314 : BitVec 32 := 1023#32
  let v3714 : BitVec 32 := Scalar.andi v3713 c1023_i32_2314
  let v3786 : Index := Scalar.indexCast v3714
  let c4_2359 : Index := 4#32
  let c0_2360 : Index := 0#32
  ![v3786.toNat, 4, 0]

def k0_chk197 (v3713 : BitVec 32) : Prop :=
  (∀ a, (k0_off562 v3713) a + S1x1x512.size a ≤ S784x8x512.size a) ∧
  (∀ a, (k0_off573 v3713) a + S1x1x512.size a ≤ S784x8x512.size a)
theorem k0_off562_inb : ∀ (v3713 : BitVec 32) (k0_hw197 : k0_chk197 v3713), ∀ a, (k0_off562 v3713) a + S1x1x512.size a ≤ S784x8x512.size a := fun v3713 k0_hw197 => k0_hw197.1
theorem k0_off573_inb : ∀ (v3713 : BitVec 32) (k0_hw197 : k0_chk197 v3713), ∀ a, (k0_off573 v3713) a + S1x1x512.size a ≤ S784x8x512.size a := fun v3713 k0_hw197 => k0_hw197.2

def k0_off574 (v3728 : BitVec 32) : Fin 3 → Nat :=
  let c1023_i32_2324 : BitVec 32 := 1023#32
  let v3729 : BitVec 32 := Scalar.andi v3728 c1023_i32_2324
  let v3790 : Index := Scalar.indexCast v3729
  let c5_2361 : Index := 5#32
  let c0_2362 : Index := 0#32
  ![v3790.toNat, 5, 0]

def k0_chk198 (v3728 : BitVec 32) : Prop :=
  (∀ a, (k0_off564 v3728) a + S1x1x512.size a ≤ S784x8x512.size a) ∧
  (∀ a, (k0_off574 v3728) a + S1x1x512.size a ≤ S784x8x512.size a)
theorem k0_off564_inb : ∀ (v3728 : BitVec 32) (k0_hw198 : k0_chk198 v3728), ∀ a, (k0_off564 v3728) a + S1x1x512.size a ≤ S784x8x512.size a := fun v3728 k0_hw198 => k0_hw198.1
theorem k0_off574_inb : ∀ (v3728 : BitVec 32) (k0_hw198 : k0_chk198 v3728), ∀ a, (k0_off574 v3728) a + S1x1x512.size a ≤ S784x8x512.size a := fun v3728 k0_hw198 => k0_hw198.2

def k0_off575 (v3743 : BitVec 32) : Fin 3 → Nat :=
  let c1023_i32_2334 : BitVec 32 := 1023#32
  let v3744 : BitVec 32 := Scalar.andi v3743 c1023_i32_2334
  let v3794 : Index := Scalar.indexCast v3744
  let c6_2363 : Index := 6#32
  let c0_2364 : Index := 0#32
  ![v3794.toNat, 6, 0]

def k0_chk199 (v3743 : BitVec 32) : Prop :=
  (∀ a, (k0_off566 v3743) a + S1x1x512.size a ≤ S784x8x512.size a) ∧
  (∀ a, (k0_off575 v3743) a + S1x1x512.size a ≤ S784x8x512.size a)
theorem k0_off566_inb : ∀ (v3743 : BitVec 32) (k0_hw199 : k0_chk199 v3743), ∀ a, (k0_off566 v3743) a + S1x1x512.size a ≤ S784x8x512.size a := fun v3743 k0_hw199 => k0_hw199.1
theorem k0_off575_inb : ∀ (v3743 : BitVec 32) (k0_hw199 : k0_chk199 v3743), ∀ a, (k0_off575 v3743) a + S1x1x512.size a ≤ S784x8x512.size a := fun v3743 k0_hw199 => k0_hw199.2

def k0_off576 (i : grid0.Coords) : Fin 2 → Nat :=
  let arg0 : BitVec 32 := BitVec.ofNat 32 (i 0).val
  let c8_i32_2367 : BitVec 32 := 8#32
  let v3802 : BitVec 32 := Scalar.muli arg0 c8_i32_2367
  let c0_i32_2368 : BitVec 32 := 0#32
  let v3803 : BitVec 32 := Scalar.addi v3802 c0_i32_2368
  let v3804 : Index := Scalar.indexCast v3803
  let c25 : Index := 25#32
  ![v3804.toNat, 25]
def k0_off577 (v3805 : BitVec 32) : Fin 3 → Nat :=
  let c1023_i32_2369 : BitVec 32 := 1023#32
  let v3806 : BitVec 32 := Scalar.andi v3805 c1023_i32_2369
  let v3813 : Index := Scalar.indexCast v3806
  let c0_2374 : Index := 0#32
  let c0_2375 : Index := 0#32
  ![v3813.toNat, 0, 0]

def k0_off578 (i : grid0.Coords) : Fin 2 → Nat :=
  let arg0 : BitVec 32 := BitVec.ofNat 32 (i 0).val
  let c8_i32_2376 : BitVec 32 := 8#32
  let v3817 : BitVec 32 := Scalar.muli arg0 c8_i32_2376
  let c1_i32_2377 : BitVec 32 := 1#32
  let v3818 : BitVec 32 := Scalar.addi v3817 c1_i32_2377
  let v3819 : Index := Scalar.indexCast v3818
  let c25_2378 : Index := 25#32
  ![v3819.toNat, 25]
def k0_off579 (v3820 : BitVec 32) : Fin 3 → Nat :=
  let c1023_i32_2379 : BitVec 32 := 1023#32
  let v3821 : BitVec 32 := Scalar.andi v3820 c1023_i32_2379
  let v3828 : Index := Scalar.indexCast v3821
  let c1_2384 : Index := 1#32
  let c0_2385 : Index := 0#32
  ![v3828.toNat, 1, 0]

def k0_off580 (i : grid0.Coords) : Fin 2 → Nat :=
  let arg0 : BitVec 32 := BitVec.ofNat 32 (i 0).val
  let c8_i32_2386 : BitVec 32 := 8#32
  let v3832 : BitVec 32 := Scalar.muli arg0 c8_i32_2386
  let c2_i32_2387 : BitVec 32 := 2#32
  let v3833 : BitVec 32 := Scalar.addi v3832 c2_i32_2387
  let v3834 : Index := Scalar.indexCast v3833
  let c25_2388 : Index := 25#32
  ![v3834.toNat, 25]
def k0_off581 (v3835 : BitVec 32) : Fin 3 → Nat :=
  let c1023_i32_2389 : BitVec 32 := 1023#32
  let v3836 : BitVec 32 := Scalar.andi v3835 c1023_i32_2389
  let v3843 : Index := Scalar.indexCast v3836
  let c2_2394 : Index := 2#32
  let c0_2395 : Index := 0#32
  ![v3843.toNat, 2, 0]

def k0_off582 (i : grid0.Coords) : Fin 2 → Nat :=
  let arg0 : BitVec 32 := BitVec.ofNat 32 (i 0).val
  let c8_i32_2396 : BitVec 32 := 8#32
  let v3847 : BitVec 32 := Scalar.muli arg0 c8_i32_2396
  let c3_i32_2397 : BitVec 32 := 3#32
  let v3848 : BitVec 32 := Scalar.addi v3847 c3_i32_2397
  let v3849 : Index := Scalar.indexCast v3848
  let c25_2398 : Index := 25#32
  ![v3849.toNat, 25]
def k0_off583 (v3850 : BitVec 32) : Fin 3 → Nat :=
  let c1023_i32_2399 : BitVec 32 := 1023#32
  let v3851 : BitVec 32 := Scalar.andi v3850 c1023_i32_2399
  let v3858 : Index := Scalar.indexCast v3851
  let c3_2404 : Index := 3#32
  let c0_2405 : Index := 0#32
  ![v3858.toNat, 3, 0]

def k0_off584 (i : grid0.Coords) : Fin 2 → Nat :=
  let arg0 : BitVec 32 := BitVec.ofNat 32 (i 0).val
  let c8_i32_2406 : BitVec 32 := 8#32
  let v3862 : BitVec 32 := Scalar.muli arg0 c8_i32_2406
  let c4_i32_2407 : BitVec 32 := 4#32
  let v3863 : BitVec 32 := Scalar.addi v3862 c4_i32_2407
  let v3864 : Index := Scalar.indexCast v3863
  let c25_2408 : Index := 25#32
  ![v3864.toNat, 25]
def k0_off585 (v3865 : BitVec 32) : Fin 3 → Nat :=
  let c1023_i32_2409 : BitVec 32 := 1023#32
  let v3866 : BitVec 32 := Scalar.andi v3865 c1023_i32_2409
  let v3873 : Index := Scalar.indexCast v3866
  let c4_2414 : Index := 4#32
  let c0_2415 : Index := 0#32
  ![v3873.toNat, 4, 0]

def k0_off586 (i : grid0.Coords) : Fin 2 → Nat :=
  let arg0 : BitVec 32 := BitVec.ofNat 32 (i 0).val
  let c8_i32_2416 : BitVec 32 := 8#32
  let v3877 : BitVec 32 := Scalar.muli arg0 c8_i32_2416
  let c5_i32_2417 : BitVec 32 := 5#32
  let v3878 : BitVec 32 := Scalar.addi v3877 c5_i32_2417
  let v3879 : Index := Scalar.indexCast v3878
  let c25_2418 : Index := 25#32
  ![v3879.toNat, 25]
def k0_off587 (v3880 : BitVec 32) : Fin 3 → Nat :=
  let c1023_i32_2419 : BitVec 32 := 1023#32
  let v3881 : BitVec 32 := Scalar.andi v3880 c1023_i32_2419
  let v3888 : Index := Scalar.indexCast v3881
  let c5_2424 : Index := 5#32
  let c0_2425 : Index := 0#32
  ![v3888.toNat, 5, 0]

def k0_off588 (i : grid0.Coords) : Fin 2 → Nat :=
  let arg0 : BitVec 32 := BitVec.ofNat 32 (i 0).val
  let c8_i32_2426 : BitVec 32 := 8#32
  let v3892 : BitVec 32 := Scalar.muli arg0 c8_i32_2426
  let c6_i32_2427 : BitVec 32 := 6#32
  let v3893 : BitVec 32 := Scalar.addi v3892 c6_i32_2427
  let v3894 : Index := Scalar.indexCast v3893
  let c25_2428 : Index := 25#32
  ![v3894.toNat, 25]
def k0_off589 (v3895 : BitVec 32) : Fin 3 → Nat :=
  let c1023_i32_2429 : BitVec 32 := 1023#32
  let v3896 : BitVec 32 := Scalar.andi v3895 c1023_i32_2429
  let v3903 : Index := Scalar.indexCast v3896
  let c6_2434 : Index := 6#32
  let c0_2435 : Index := 0#32
  ![v3903.toNat, 6, 0]

def k0_off590 (i : grid0.Coords) : Fin 2 → Nat :=
  let arg0 : BitVec 32 := BitVec.ofNat 32 (i 0).val
  let c8_i32_2436 : BitVec 32 := 8#32
  let v3907 : BitVec 32 := Scalar.muli arg0 c8_i32_2436
  let c7_i32_2437 : BitVec 32 := 7#32
  let v3908 : BitVec 32 := Scalar.addi v3907 c7_i32_2437
  let v3909 : Index := Scalar.indexCast v3908
  let c25_2438 : Index := 25#32
  ![v3909.toNat, 25]
def k0_off591 (v3910 : BitVec 32) : Fin 3 → Nat :=
  let c1023_i32_2439 : BitVec 32 := 1023#32
  let v3911 : BitVec 32 := Scalar.andi v3910 c1023_i32_2439
  let v3918 : Index := Scalar.indexCast v3911
  let c7_2444 : Index := 7#32
  let c0_2445 : Index := 0#32
  ![v3918.toNat, 7, 0]

def k0_chk208 (v3910 : BitVec 32) : Prop :=
  (∀ a, (k0_off591 v3910) a + S1x1x512.size a ≤ S784x8x512.size a)
theorem k0_off591_inb : ∀ (v3910 : BitVec 32) (k0_hw208 : k0_chk208 v3910), ∀ a, (k0_off591 v3910) a + S1x1x512.size a ≤ S784x8x512.size a := fun v3910 k0_hw208 => k0_hw208

def k0_off592 (v3805 : BitVec 32) : Fin 3 → Nat :=
  let c1023_i32_2369 : BitVec 32 := 1023#32
  let v3806 : BitVec 32 := Scalar.andi v3805 c1023_i32_2369
  let v3922 : Index := Scalar.indexCast v3806
  let c0_2446 : Index := 0#32
  let c0_2447 : Index := 0#32
  ![v3922.toNat, 0, 0]

def k0_chk201 (v3805 : BitVec 32) : Prop :=
  (∀ a, (k0_off577 v3805) a + S1x1x512.size a ≤ S784x8x512.size a) ∧
  (∀ a, (k0_off592 v3805) a + S1x1x512.size a ≤ S784x8x512.size a)
theorem k0_off577_inb : ∀ (v3805 : BitVec 32) (k0_hw201 : k0_chk201 v3805), ∀ a, (k0_off577 v3805) a + S1x1x512.size a ≤ S784x8x512.size a := fun v3805 k0_hw201 => k0_hw201.1
theorem k0_off592_inb : ∀ (v3805 : BitVec 32) (k0_hw201 : k0_chk201 v3805), ∀ a, (k0_off592 v3805) a + S1x1x512.size a ≤ S784x8x512.size a := fun v3805 k0_hw201 => k0_hw201.2

def k0_off593 (v3820 : BitVec 32) : Fin 3 → Nat :=
  let c1023_i32_2379 : BitVec 32 := 1023#32
  let v3821 : BitVec 32 := Scalar.andi v3820 c1023_i32_2379
  let v3926 : Index := Scalar.indexCast v3821
  let c1_2448 : Index := 1#32
  let c0_2449 : Index := 0#32
  ![v3926.toNat, 1, 0]

def k0_chk202 (v3820 : BitVec 32) : Prop :=
  (∀ a, (k0_off579 v3820) a + S1x1x512.size a ≤ S784x8x512.size a) ∧
  (∀ a, (k0_off593 v3820) a + S1x1x512.size a ≤ S784x8x512.size a)
theorem k0_off579_inb : ∀ (v3820 : BitVec 32) (k0_hw202 : k0_chk202 v3820), ∀ a, (k0_off579 v3820) a + S1x1x512.size a ≤ S784x8x512.size a := fun v3820 k0_hw202 => k0_hw202.1
theorem k0_off593_inb : ∀ (v3820 : BitVec 32) (k0_hw202 : k0_chk202 v3820), ∀ a, (k0_off593 v3820) a + S1x1x512.size a ≤ S784x8x512.size a := fun v3820 k0_hw202 => k0_hw202.2

def k0_off594 (v3835 : BitVec 32) : Fin 3 → Nat :=
  let c1023_i32_2389 : BitVec 32 := 1023#32
  let v3836 : BitVec 32 := Scalar.andi v3835 c1023_i32_2389
  let v3930 : Index := Scalar.indexCast v3836
  let c2_2450 : Index := 2#32
  let c0_2451 : Index := 0#32
  ![v3930.toNat, 2, 0]

def k0_chk203 (v3835 : BitVec 32) : Prop :=
  (∀ a, (k0_off581 v3835) a + S1x1x512.size a ≤ S784x8x512.size a) ∧
  (∀ a, (k0_off594 v3835) a + S1x1x512.size a ≤ S784x8x512.size a)
theorem k0_off581_inb : ∀ (v3835 : BitVec 32) (k0_hw203 : k0_chk203 v3835), ∀ a, (k0_off581 v3835) a + S1x1x512.size a ≤ S784x8x512.size a := fun v3835 k0_hw203 => k0_hw203.1
theorem k0_off594_inb : ∀ (v3835 : BitVec 32) (k0_hw203 : k0_chk203 v3835), ∀ a, (k0_off594 v3835) a + S1x1x512.size a ≤ S784x8x512.size a := fun v3835 k0_hw203 => k0_hw203.2

def k0_off595 (v3850 : BitVec 32) : Fin 3 → Nat :=
  let c1023_i32_2399 : BitVec 32 := 1023#32
  let v3851 : BitVec 32 := Scalar.andi v3850 c1023_i32_2399
  let v3934 : Index := Scalar.indexCast v3851
  let c3_2452 : Index := 3#32
  let c0_2453 : Index := 0#32
  ![v3934.toNat, 3, 0]

def k0_chk204 (v3850 : BitVec 32) : Prop :=
  (∀ a, (k0_off583 v3850) a + S1x1x512.size a ≤ S784x8x512.size a) ∧
  (∀ a, (k0_off595 v3850) a + S1x1x512.size a ≤ S784x8x512.size a)
theorem k0_off583_inb : ∀ (v3850 : BitVec 32) (k0_hw204 : k0_chk204 v3850), ∀ a, (k0_off583 v3850) a + S1x1x512.size a ≤ S784x8x512.size a := fun v3850 k0_hw204 => k0_hw204.1
theorem k0_off595_inb : ∀ (v3850 : BitVec 32) (k0_hw204 : k0_chk204 v3850), ∀ a, (k0_off595 v3850) a + S1x1x512.size a ≤ S784x8x512.size a := fun v3850 k0_hw204 => k0_hw204.2

def k0_off596 (v3865 : BitVec 32) : Fin 3 → Nat :=
  let c1023_i32_2409 : BitVec 32 := 1023#32
  let v3866 : BitVec 32 := Scalar.andi v3865 c1023_i32_2409
  let v3938 : Index := Scalar.indexCast v3866
  let c4_2454 : Index := 4#32
  let c0_2455 : Index := 0#32
  ![v3938.toNat, 4, 0]

def k0_chk205 (v3865 : BitVec 32) : Prop :=
  (∀ a, (k0_off585 v3865) a + S1x1x512.size a ≤ S784x8x512.size a) ∧
  (∀ a, (k0_off596 v3865) a + S1x1x512.size a ≤ S784x8x512.size a)
theorem k0_off585_inb : ∀ (v3865 : BitVec 32) (k0_hw205 : k0_chk205 v3865), ∀ a, (k0_off585 v3865) a + S1x1x512.size a ≤ S784x8x512.size a := fun v3865 k0_hw205 => k0_hw205.1
theorem k0_off596_inb : ∀ (v3865 : BitVec 32) (k0_hw205 : k0_chk205 v3865), ∀ a, (k0_off596 v3865) a + S1x1x512.size a ≤ S784x8x512.size a := fun v3865 k0_hw205 => k0_hw205.2

def k0_off597 (v3880 : BitVec 32) : Fin 3 → Nat :=
  let c1023_i32_2419 : BitVec 32 := 1023#32
  let v3881 : BitVec 32 := Scalar.andi v3880 c1023_i32_2419
  let v3942 : Index := Scalar.indexCast v3881
  let c5_2456 : Index := 5#32
  let c0_2457 : Index := 0#32
  ![v3942.toNat, 5, 0]

def k0_chk206 (v3880 : BitVec 32) : Prop :=
  (∀ a, (k0_off587 v3880) a + S1x1x512.size a ≤ S784x8x512.size a) ∧
  (∀ a, (k0_off597 v3880) a + S1x1x512.size a ≤ S784x8x512.size a)
theorem k0_off587_inb : ∀ (v3880 : BitVec 32) (k0_hw206 : k0_chk206 v3880), ∀ a, (k0_off587 v3880) a + S1x1x512.size a ≤ S784x8x512.size a := fun v3880 k0_hw206 => k0_hw206.1
theorem k0_off597_inb : ∀ (v3880 : BitVec 32) (k0_hw206 : k0_chk206 v3880), ∀ a, (k0_off597 v3880) a + S1x1x512.size a ≤ S784x8x512.size a := fun v3880 k0_hw206 => k0_hw206.2

def k0_off598 (v3895 : BitVec 32) : Fin 3 → Nat :=
  let c1023_i32_2429 : BitVec 32 := 1023#32
  let v3896 : BitVec 32 := Scalar.andi v3895 c1023_i32_2429
  let v3946 : Index := Scalar.indexCast v3896
  let c6_2458 : Index := 6#32
  let c0_2459 : Index := 0#32
  ![v3946.toNat, 6, 0]

def k0_chk207 (v3895 : BitVec 32) : Prop :=
  (∀ a, (k0_off589 v3895) a + S1x1x512.size a ≤ S784x8x512.size a) ∧
  (∀ a, (k0_off598 v3895) a + S1x1x512.size a ≤ S784x8x512.size a)
theorem k0_off589_inb : ∀ (v3895 : BitVec 32) (k0_hw207 : k0_chk207 v3895), ∀ a, (k0_off589 v3895) a + S1x1x512.size a ≤ S784x8x512.size a := fun v3895 k0_hw207 => k0_hw207.1
theorem k0_off598_inb : ∀ (v3895 : BitVec 32) (k0_hw207 : k0_chk207 v3895), ∀ a, (k0_off598 v3895) a + S1x1x512.size a ≤ S784x8x512.size a := fun v3895 k0_hw207 => k0_hw207.2

def k0_off599 (i : grid0.Coords) : Fin 2 → Nat :=
  let arg0 : BitVec 32 := BitVec.ofNat 32 (i 0).val
  let c8_i32_2462 : BitVec 32 := 8#32
  let v3954 : BitVec 32 := Scalar.muli arg0 c8_i32_2462
  let c0_i32_2463 : BitVec 32 := 0#32
  let v3955 : BitVec 32 := Scalar.addi v3954 c0_i32_2463
  let v3956 : Index := Scalar.indexCast v3955
  let c26 : Index := 26#32
  ![v3956.toNat, 26]
def k0_off600 (v3957 : BitVec 32) : Fin 3 → Nat :=
  let c1023_i32_2464 : BitVec 32 := 1023#32
  let v3958 : BitVec 32 := Scalar.andi v3957 c1023_i32_2464
  let v3965 : Index := Scalar.indexCast v3958
  let c0_2469 : Index := 0#32
  let c0_2470 : Index := 0#32
  ![v3965.toNat, 0, 0]

def k0_off601 (i : grid0.Coords) : Fin 2 → Nat :=
  let arg0 : BitVec 32 := BitVec.ofNat 32 (i 0).val
  let c8_i32_2471 : BitVec 32 := 8#32
  let v3969 : BitVec 32 := Scalar.muli arg0 c8_i32_2471
  let c1_i32_2472 : BitVec 32 := 1#32
  let v3970 : BitVec 32 := Scalar.addi v3969 c1_i32_2472
  let v3971 : Index := Scalar.indexCast v3970
  let c26_2473 : Index := 26#32
  ![v3971.toNat, 26]
def k0_off602 (v3972 : BitVec 32) : Fin 3 → Nat :=
  let c1023_i32_2474 : BitVec 32 := 1023#32
  let v3973 : BitVec 32 := Scalar.andi v3972 c1023_i32_2474
  let v3980 : Index := Scalar.indexCast v3973
  let c1_2479 : Index := 1#32
  let c0_2480 : Index := 0#32
  ![v3980.toNat, 1, 0]

def k0_off603 (i : grid0.Coords) : Fin 2 → Nat :=
  let arg0 : BitVec 32 := BitVec.ofNat 32 (i 0).val
  let c8_i32_2481 : BitVec 32 := 8#32
  let v3984 : BitVec 32 := Scalar.muli arg0 c8_i32_2481
  let c2_i32_2482 : BitVec 32 := 2#32
  let v3985 : BitVec 32 := Scalar.addi v3984 c2_i32_2482
  let v3986 : Index := Scalar.indexCast v3985
  let c26_2483 : Index := 26#32
  ![v3986.toNat, 26]
def k0_off604 (v3987 : BitVec 32) : Fin 3 → Nat :=
  let c1023_i32_2484 : BitVec 32 := 1023#32
  let v3988 : BitVec 32 := Scalar.andi v3987 c1023_i32_2484
  let v3995 : Index := Scalar.indexCast v3988
  let c2_2489 : Index := 2#32
  let c0_2490 : Index := 0#32
  ![v3995.toNat, 2, 0]

def k0_off605 (i : grid0.Coords) : Fin 2 → Nat :=
  let arg0 : BitVec 32 := BitVec.ofNat 32 (i 0).val
  let c8_i32_2491 : BitVec 32 := 8#32
  let v3999 : BitVec 32 := Scalar.muli arg0 c8_i32_2491
  let c3_i32_2492 : BitVec 32 := 3#32
  let v4000 : BitVec 32 := Scalar.addi v3999 c3_i32_2492
  let v4001 : Index := Scalar.indexCast v4000
  let c26_2493 : Index := 26#32
  ![v4001.toNat, 26]
def k0_off606 (v4002 : BitVec 32) : Fin 3 → Nat :=
  let c1023_i32_2494 : BitVec 32 := 1023#32
  let v4003 : BitVec 32 := Scalar.andi v4002 c1023_i32_2494
  let v4010 : Index := Scalar.indexCast v4003
  let c3_2499 : Index := 3#32
  let c0_2500 : Index := 0#32
  ![v4010.toNat, 3, 0]

def k0_off607 (i : grid0.Coords) : Fin 2 → Nat :=
  let arg0 : BitVec 32 := BitVec.ofNat 32 (i 0).val
  let c8_i32_2501 : BitVec 32 := 8#32
  let v4014 : BitVec 32 := Scalar.muli arg0 c8_i32_2501
  let c4_i32_2502 : BitVec 32 := 4#32
  let v4015 : BitVec 32 := Scalar.addi v4014 c4_i32_2502
  let v4016 : Index := Scalar.indexCast v4015
  let c26_2503 : Index := 26#32
  ![v4016.toNat, 26]
def k0_off608 (v4017 : BitVec 32) : Fin 3 → Nat :=
  let c1023_i32_2504 : BitVec 32 := 1023#32
  let v4018 : BitVec 32 := Scalar.andi v4017 c1023_i32_2504
  let v4025 : Index := Scalar.indexCast v4018
  let c4_2509 : Index := 4#32
  let c0_2510 : Index := 0#32
  ![v4025.toNat, 4, 0]

def k0_off609 (i : grid0.Coords) : Fin 2 → Nat :=
  let arg0 : BitVec 32 := BitVec.ofNat 32 (i 0).val
  let c8_i32_2511 : BitVec 32 := 8#32
  let v4029 : BitVec 32 := Scalar.muli arg0 c8_i32_2511
  let c5_i32_2512 : BitVec 32 := 5#32
  let v4030 : BitVec 32 := Scalar.addi v4029 c5_i32_2512
  let v4031 : Index := Scalar.indexCast v4030
  let c26_2513 : Index := 26#32
  ![v4031.toNat, 26]
def k0_off610 (v4032 : BitVec 32) : Fin 3 → Nat :=
  let c1023_i32_2514 : BitVec 32 := 1023#32
  let v4033 : BitVec 32 := Scalar.andi v4032 c1023_i32_2514
  let v4040 : Index := Scalar.indexCast v4033
  let c5_2519 : Index := 5#32
  let c0_2520 : Index := 0#32
  ![v4040.toNat, 5, 0]

def k0_off611 (i : grid0.Coords) : Fin 2 → Nat :=
  let arg0 : BitVec 32 := BitVec.ofNat 32 (i 0).val
  let c8_i32_2521 : BitVec 32 := 8#32
  let v4044 : BitVec 32 := Scalar.muli arg0 c8_i32_2521
  let c6_i32_2522 : BitVec 32 := 6#32
  let v4045 : BitVec 32 := Scalar.addi v4044 c6_i32_2522
  let v4046 : Index := Scalar.indexCast v4045
  let c26_2523 : Index := 26#32
  ![v4046.toNat, 26]
def k0_off612 (v4047 : BitVec 32) : Fin 3 → Nat :=
  let c1023_i32_2524 : BitVec 32 := 1023#32
  let v4048 : BitVec 32 := Scalar.andi v4047 c1023_i32_2524
  let v4055 : Index := Scalar.indexCast v4048
  let c6_2529 : Index := 6#32
  let c0_2530 : Index := 0#32
  ![v4055.toNat, 6, 0]

def k0_off613 (i : grid0.Coords) : Fin 2 → Nat :=
  let arg0 : BitVec 32 := BitVec.ofNat 32 (i 0).val
  let c8_i32_2531 : BitVec 32 := 8#32
  let v4059 : BitVec 32 := Scalar.muli arg0 c8_i32_2531
  let c7_i32_2532 : BitVec 32 := 7#32
  let v4060 : BitVec 32 := Scalar.addi v4059 c7_i32_2532
  let v4061 : Index := Scalar.indexCast v4060
  let c26_2533 : Index := 26#32
  ![v4061.toNat, 26]
def k0_off614 (v4062 : BitVec 32) : Fin 3 → Nat :=
  let c1023_i32_2534 : BitVec 32 := 1023#32
  let v4063 : BitVec 32 := Scalar.andi v4062 c1023_i32_2534
  let v4070 : Index := Scalar.indexCast v4063
  let c7_2539 : Index := 7#32
  let c0_2540 : Index := 0#32
  ![v4070.toNat, 7, 0]

def k0_chk216 (v4062 : BitVec 32) : Prop :=
  (∀ a, (k0_off614 v4062) a + S1x1x512.size a ≤ S784x8x512.size a)
theorem k0_off614_inb : ∀ (v4062 : BitVec 32) (k0_hw216 : k0_chk216 v4062), ∀ a, (k0_off614 v4062) a + S1x1x512.size a ≤ S784x8x512.size a := fun v4062 k0_hw216 => k0_hw216

def k0_off615 (v3957 : BitVec 32) : Fin 3 → Nat :=
  let c1023_i32_2464 : BitVec 32 := 1023#32
  let v3958 : BitVec 32 := Scalar.andi v3957 c1023_i32_2464
  let v4074 : Index := Scalar.indexCast v3958
  let c0_2541 : Index := 0#32
  let c0_2542 : Index := 0#32
  ![v4074.toNat, 0, 0]

def k0_chk209 (v3957 : BitVec 32) : Prop :=
  (∀ a, (k0_off600 v3957) a + S1x1x512.size a ≤ S784x8x512.size a) ∧
  (∀ a, (k0_off615 v3957) a + S1x1x512.size a ≤ S784x8x512.size a)
theorem k0_off600_inb : ∀ (v3957 : BitVec 32) (k0_hw209 : k0_chk209 v3957), ∀ a, (k0_off600 v3957) a + S1x1x512.size a ≤ S784x8x512.size a := fun v3957 k0_hw209 => k0_hw209.1
theorem k0_off615_inb : ∀ (v3957 : BitVec 32) (k0_hw209 : k0_chk209 v3957), ∀ a, (k0_off615 v3957) a + S1x1x512.size a ≤ S784x8x512.size a := fun v3957 k0_hw209 => k0_hw209.2

def k0_off616 (v3972 : BitVec 32) : Fin 3 → Nat :=
  let c1023_i32_2474 : BitVec 32 := 1023#32
  let v3973 : BitVec 32 := Scalar.andi v3972 c1023_i32_2474
  let v4078 : Index := Scalar.indexCast v3973
  let c1_2543 : Index := 1#32
  let c0_2544 : Index := 0#32
  ![v4078.toNat, 1, 0]

def k0_chk210 (v3972 : BitVec 32) : Prop :=
  (∀ a, (k0_off602 v3972) a + S1x1x512.size a ≤ S784x8x512.size a) ∧
  (∀ a, (k0_off616 v3972) a + S1x1x512.size a ≤ S784x8x512.size a)
theorem k0_off602_inb : ∀ (v3972 : BitVec 32) (k0_hw210 : k0_chk210 v3972), ∀ a, (k0_off602 v3972) a + S1x1x512.size a ≤ S784x8x512.size a := fun v3972 k0_hw210 => k0_hw210.1
theorem k0_off616_inb : ∀ (v3972 : BitVec 32) (k0_hw210 : k0_chk210 v3972), ∀ a, (k0_off616 v3972) a + S1x1x512.size a ≤ S784x8x512.size a := fun v3972 k0_hw210 => k0_hw210.2

def k0_off617 (v3987 : BitVec 32) : Fin 3 → Nat :=
  let c1023_i32_2484 : BitVec 32 := 1023#32
  let v3988 : BitVec 32 := Scalar.andi v3987 c1023_i32_2484
  let v4082 : Index := Scalar.indexCast v3988
  let c2_2545 : Index := 2#32
  let c0_2546 : Index := 0#32
  ![v4082.toNat, 2, 0]

def k0_chk211 (v3987 : BitVec 32) : Prop :=
  (∀ a, (k0_off604 v3987) a + S1x1x512.size a ≤ S784x8x512.size a) ∧
  (∀ a, (k0_off617 v3987) a + S1x1x512.size a ≤ S784x8x512.size a)
theorem k0_off604_inb : ∀ (v3987 : BitVec 32) (k0_hw211 : k0_chk211 v3987), ∀ a, (k0_off604 v3987) a + S1x1x512.size a ≤ S784x8x512.size a := fun v3987 k0_hw211 => k0_hw211.1
theorem k0_off617_inb : ∀ (v3987 : BitVec 32) (k0_hw211 : k0_chk211 v3987), ∀ a, (k0_off617 v3987) a + S1x1x512.size a ≤ S784x8x512.size a := fun v3987 k0_hw211 => k0_hw211.2

def k0_off618 (v4002 : BitVec 32) : Fin 3 → Nat :=
  let c1023_i32_2494 : BitVec 32 := 1023#32
  let v4003 : BitVec 32 := Scalar.andi v4002 c1023_i32_2494
  let v4086 : Index := Scalar.indexCast v4003
  let c3_2547 : Index := 3#32
  let c0_2548 : Index := 0#32
  ![v4086.toNat, 3, 0]

def k0_chk212 (v4002 : BitVec 32) : Prop :=
  (∀ a, (k0_off606 v4002) a + S1x1x512.size a ≤ S784x8x512.size a) ∧
  (∀ a, (k0_off618 v4002) a + S1x1x512.size a ≤ S784x8x512.size a)
theorem k0_off606_inb : ∀ (v4002 : BitVec 32) (k0_hw212 : k0_chk212 v4002), ∀ a, (k0_off606 v4002) a + S1x1x512.size a ≤ S784x8x512.size a := fun v4002 k0_hw212 => k0_hw212.1
theorem k0_off618_inb : ∀ (v4002 : BitVec 32) (k0_hw212 : k0_chk212 v4002), ∀ a, (k0_off618 v4002) a + S1x1x512.size a ≤ S784x8x512.size a := fun v4002 k0_hw212 => k0_hw212.2

def k0_off619 (v4017 : BitVec 32) : Fin 3 → Nat :=
  let c1023_i32_2504 : BitVec 32 := 1023#32
  let v4018 : BitVec 32 := Scalar.andi v4017 c1023_i32_2504
  let v4090 : Index := Scalar.indexCast v4018
  let c4_2549 : Index := 4#32
  let c0_2550 : Index := 0#32
  ![v4090.toNat, 4, 0]

def k0_chk213 (v4017 : BitVec 32) : Prop :=
  (∀ a, (k0_off608 v4017) a + S1x1x512.size a ≤ S784x8x512.size a) ∧
  (∀ a, (k0_off619 v4017) a + S1x1x512.size a ≤ S784x8x512.size a)
theorem k0_off608_inb : ∀ (v4017 : BitVec 32) (k0_hw213 : k0_chk213 v4017), ∀ a, (k0_off608 v4017) a + S1x1x512.size a ≤ S784x8x512.size a := fun v4017 k0_hw213 => k0_hw213.1
theorem k0_off619_inb : ∀ (v4017 : BitVec 32) (k0_hw213 : k0_chk213 v4017), ∀ a, (k0_off619 v4017) a + S1x1x512.size a ≤ S784x8x512.size a := fun v4017 k0_hw213 => k0_hw213.2

def k0_off620 (v4032 : BitVec 32) : Fin 3 → Nat :=
  let c1023_i32_2514 : BitVec 32 := 1023#32
  let v4033 : BitVec 32 := Scalar.andi v4032 c1023_i32_2514
  let v4094 : Index := Scalar.indexCast v4033
  let c5_2551 : Index := 5#32
  let c0_2552 : Index := 0#32
  ![v4094.toNat, 5, 0]

def k0_chk214 (v4032 : BitVec 32) : Prop :=
  (∀ a, (k0_off610 v4032) a + S1x1x512.size a ≤ S784x8x512.size a) ∧
  (∀ a, (k0_off620 v4032) a + S1x1x512.size a ≤ S784x8x512.size a)
theorem k0_off610_inb : ∀ (v4032 : BitVec 32) (k0_hw214 : k0_chk214 v4032), ∀ a, (k0_off610 v4032) a + S1x1x512.size a ≤ S784x8x512.size a := fun v4032 k0_hw214 => k0_hw214.1
theorem k0_off620_inb : ∀ (v4032 : BitVec 32) (k0_hw214 : k0_chk214 v4032), ∀ a, (k0_off620 v4032) a + S1x1x512.size a ≤ S784x8x512.size a := fun v4032 k0_hw214 => k0_hw214.2

def k0_off621 (v4047 : BitVec 32) : Fin 3 → Nat :=
  let c1023_i32_2524 : BitVec 32 := 1023#32
  let v4048 : BitVec 32 := Scalar.andi v4047 c1023_i32_2524
  let v4098 : Index := Scalar.indexCast v4048
  let c6_2553 : Index := 6#32
  let c0_2554 : Index := 0#32
  ![v4098.toNat, 6, 0]

def k0_chk215 (v4047 : BitVec 32) : Prop :=
  (∀ a, (k0_off612 v4047) a + S1x1x512.size a ≤ S784x8x512.size a) ∧
  (∀ a, (k0_off621 v4047) a + S1x1x512.size a ≤ S784x8x512.size a)
theorem k0_off612_inb : ∀ (v4047 : BitVec 32) (k0_hw215 : k0_chk215 v4047), ∀ a, (k0_off612 v4047) a + S1x1x512.size a ≤ S784x8x512.size a := fun v4047 k0_hw215 => k0_hw215.1
theorem k0_off621_inb : ∀ (v4047 : BitVec 32) (k0_hw215 : k0_chk215 v4047), ∀ a, (k0_off621 v4047) a + S1x1x512.size a ≤ S784x8x512.size a := fun v4047 k0_hw215 => k0_hw215.2

def k0_off622 (i : grid0.Coords) : Fin 2 → Nat :=
  let arg0 : BitVec 32 := BitVec.ofNat 32 (i 0).val
  let c8_i32_2557 : BitVec 32 := 8#32
  let v4106 : BitVec 32 := Scalar.muli arg0 c8_i32_2557
  let c0_i32_2558 : BitVec 32 := 0#32
  let v4107 : BitVec 32 := Scalar.addi v4106 c0_i32_2558
  let v4108 : Index := Scalar.indexCast v4107
  let c27 : Index := 27#32
  ![v4108.toNat, 27]
def k0_off623 (v4109 : BitVec 32) : Fin 3 → Nat :=
  let c1023_i32_2559 : BitVec 32 := 1023#32
  let v4110 : BitVec 32 := Scalar.andi v4109 c1023_i32_2559
  let v4117 : Index := Scalar.indexCast v4110
  let c0_2564 : Index := 0#32
  let c0_2565 : Index := 0#32
  ![v4117.toNat, 0, 0]

def k0_off624 (i : grid0.Coords) : Fin 2 → Nat :=
  let arg0 : BitVec 32 := BitVec.ofNat 32 (i 0).val
  let c8_i32_2566 : BitVec 32 := 8#32
  let v4121 : BitVec 32 := Scalar.muli arg0 c8_i32_2566
  let c1_i32_2567 : BitVec 32 := 1#32
  let v4122 : BitVec 32 := Scalar.addi v4121 c1_i32_2567
  let v4123 : Index := Scalar.indexCast v4122
  let c27_2568 : Index := 27#32
  ![v4123.toNat, 27]
def k0_off625 (v4124 : BitVec 32) : Fin 3 → Nat :=
  let c1023_i32_2569 : BitVec 32 := 1023#32
  let v4125 : BitVec 32 := Scalar.andi v4124 c1023_i32_2569
  let v4132 : Index := Scalar.indexCast v4125
  let c1_2574 : Index := 1#32
  let c0_2575 : Index := 0#32
  ![v4132.toNat, 1, 0]

def k0_off626 (i : grid0.Coords) : Fin 2 → Nat :=
  let arg0 : BitVec 32 := BitVec.ofNat 32 (i 0).val
  let c8_i32_2576 : BitVec 32 := 8#32
  let v4136 : BitVec 32 := Scalar.muli arg0 c8_i32_2576
  let c2_i32_2577 : BitVec 32 := 2#32
  let v4137 : BitVec 32 := Scalar.addi v4136 c2_i32_2577
  let v4138 : Index := Scalar.indexCast v4137
  let c27_2578 : Index := 27#32
  ![v4138.toNat, 27]
def k0_off627 (v4139 : BitVec 32) : Fin 3 → Nat :=
  let c1023_i32_2579 : BitVec 32 := 1023#32
  let v4140 : BitVec 32 := Scalar.andi v4139 c1023_i32_2579
  let v4147 : Index := Scalar.indexCast v4140
  let c2_2584 : Index := 2#32
  let c0_2585 : Index := 0#32
  ![v4147.toNat, 2, 0]

def k0_off628 (i : grid0.Coords) : Fin 2 → Nat :=
  let arg0 : BitVec 32 := BitVec.ofNat 32 (i 0).val
  let c8_i32_2586 : BitVec 32 := 8#32
  let v4151 : BitVec 32 := Scalar.muli arg0 c8_i32_2586
  let c3_i32_2587 : BitVec 32 := 3#32
  let v4152 : BitVec 32 := Scalar.addi v4151 c3_i32_2587
  let v4153 : Index := Scalar.indexCast v4152
  let c27_2588 : Index := 27#32
  ![v4153.toNat, 27]
def k0_off629 (v4154 : BitVec 32) : Fin 3 → Nat :=
  let c1023_i32_2589 : BitVec 32 := 1023#32
  let v4155 : BitVec 32 := Scalar.andi v4154 c1023_i32_2589
  let v4162 : Index := Scalar.indexCast v4155
  let c3_2594 : Index := 3#32
  let c0_2595 : Index := 0#32
  ![v4162.toNat, 3, 0]

def k0_off630 (i : grid0.Coords) : Fin 2 → Nat :=
  let arg0 : BitVec 32 := BitVec.ofNat 32 (i 0).val
  let c8_i32_2596 : BitVec 32 := 8#32
  let v4166 : BitVec 32 := Scalar.muli arg0 c8_i32_2596
  let c4_i32_2597 : BitVec 32 := 4#32
  let v4167 : BitVec 32 := Scalar.addi v4166 c4_i32_2597
  let v4168 : Index := Scalar.indexCast v4167
  let c27_2598 : Index := 27#32
  ![v4168.toNat, 27]
def k0_off631 (v4169 : BitVec 32) : Fin 3 → Nat :=
  let c1023_i32_2599 : BitVec 32 := 1023#32
  let v4170 : BitVec 32 := Scalar.andi v4169 c1023_i32_2599
  let v4177 : Index := Scalar.indexCast v4170
  let c4_2604 : Index := 4#32
  let c0_2605 : Index := 0#32
  ![v4177.toNat, 4, 0]

def k0_off632 (i : grid0.Coords) : Fin 2 → Nat :=
  let arg0 : BitVec 32 := BitVec.ofNat 32 (i 0).val
  let c8_i32_2606 : BitVec 32 := 8#32
  let v4181 : BitVec 32 := Scalar.muli arg0 c8_i32_2606
  let c5_i32_2607 : BitVec 32 := 5#32
  let v4182 : BitVec 32 := Scalar.addi v4181 c5_i32_2607
  let v4183 : Index := Scalar.indexCast v4182
  let c27_2608 : Index := 27#32
  ![v4183.toNat, 27]
def k0_off633 (v4184 : BitVec 32) : Fin 3 → Nat :=
  let c1023_i32_2609 : BitVec 32 := 1023#32
  let v4185 : BitVec 32 := Scalar.andi v4184 c1023_i32_2609
  let v4192 : Index := Scalar.indexCast v4185
  let c5_2614 : Index := 5#32
  let c0_2615 : Index := 0#32
  ![v4192.toNat, 5, 0]

def k0_off634 (i : grid0.Coords) : Fin 2 → Nat :=
  let arg0 : BitVec 32 := BitVec.ofNat 32 (i 0).val
  let c8_i32_2616 : BitVec 32 := 8#32
  let v4196 : BitVec 32 := Scalar.muli arg0 c8_i32_2616
  let c6_i32_2617 : BitVec 32 := 6#32
  let v4197 : BitVec 32 := Scalar.addi v4196 c6_i32_2617
  let v4198 : Index := Scalar.indexCast v4197
  let c27_2618 : Index := 27#32
  ![v4198.toNat, 27]
def k0_off635 (v4199 : BitVec 32) : Fin 3 → Nat :=
  let c1023_i32_2619 : BitVec 32 := 1023#32
  let v4200 : BitVec 32 := Scalar.andi v4199 c1023_i32_2619
  let v4207 : Index := Scalar.indexCast v4200
  let c6_2624 : Index := 6#32
  let c0_2625 : Index := 0#32
  ![v4207.toNat, 6, 0]

def k0_off636 (i : grid0.Coords) : Fin 2 → Nat :=
  let arg0 : BitVec 32 := BitVec.ofNat 32 (i 0).val
  let c8_i32_2626 : BitVec 32 := 8#32
  let v4211 : BitVec 32 := Scalar.muli arg0 c8_i32_2626
  let c7_i32_2627 : BitVec 32 := 7#32
  let v4212 : BitVec 32 := Scalar.addi v4211 c7_i32_2627
  let v4213 : Index := Scalar.indexCast v4212
  let c27_2628 : Index := 27#32
  ![v4213.toNat, 27]
def k0_off637 (v4214 : BitVec 32) : Fin 3 → Nat :=
  let c1023_i32_2629 : BitVec 32 := 1023#32
  let v4215 : BitVec 32 := Scalar.andi v4214 c1023_i32_2629
  let v4222 : Index := Scalar.indexCast v4215
  let c7_2634 : Index := 7#32
  let c0_2635 : Index := 0#32
  ![v4222.toNat, 7, 0]

def k0_chk224 (v4214 : BitVec 32) : Prop :=
  (∀ a, (k0_off637 v4214) a + S1x1x512.size a ≤ S784x8x512.size a)
theorem k0_off637_inb : ∀ (v4214 : BitVec 32) (k0_hw224 : k0_chk224 v4214), ∀ a, (k0_off637 v4214) a + S1x1x512.size a ≤ S784x8x512.size a := fun v4214 k0_hw224 => k0_hw224

def k0_off638 (v4109 : BitVec 32) : Fin 3 → Nat :=
  let c1023_i32_2559 : BitVec 32 := 1023#32
  let v4110 : BitVec 32 := Scalar.andi v4109 c1023_i32_2559
  let v4226 : Index := Scalar.indexCast v4110
  let c0_2636 : Index := 0#32
  let c0_2637 : Index := 0#32
  ![v4226.toNat, 0, 0]

def k0_chk217 (v4109 : BitVec 32) : Prop :=
  (∀ a, (k0_off623 v4109) a + S1x1x512.size a ≤ S784x8x512.size a) ∧
  (∀ a, (k0_off638 v4109) a + S1x1x512.size a ≤ S784x8x512.size a)
theorem k0_off623_inb : ∀ (v4109 : BitVec 32) (k0_hw217 : k0_chk217 v4109), ∀ a, (k0_off623 v4109) a + S1x1x512.size a ≤ S784x8x512.size a := fun v4109 k0_hw217 => k0_hw217.1
theorem k0_off638_inb : ∀ (v4109 : BitVec 32) (k0_hw217 : k0_chk217 v4109), ∀ a, (k0_off638 v4109) a + S1x1x512.size a ≤ S784x8x512.size a := fun v4109 k0_hw217 => k0_hw217.2

def k0_off639 (v4124 : BitVec 32) : Fin 3 → Nat :=
  let c1023_i32_2569 : BitVec 32 := 1023#32
  let v4125 : BitVec 32 := Scalar.andi v4124 c1023_i32_2569
  let v4230 : Index := Scalar.indexCast v4125
  let c1_2638 : Index := 1#32
  let c0_2639 : Index := 0#32
  ![v4230.toNat, 1, 0]

def k0_chk218 (v4124 : BitVec 32) : Prop :=
  (∀ a, (k0_off625 v4124) a + S1x1x512.size a ≤ S784x8x512.size a) ∧
  (∀ a, (k0_off639 v4124) a + S1x1x512.size a ≤ S784x8x512.size a)
theorem k0_off625_inb : ∀ (v4124 : BitVec 32) (k0_hw218 : k0_chk218 v4124), ∀ a, (k0_off625 v4124) a + S1x1x512.size a ≤ S784x8x512.size a := fun v4124 k0_hw218 => k0_hw218.1
theorem k0_off639_inb : ∀ (v4124 : BitVec 32) (k0_hw218 : k0_chk218 v4124), ∀ a, (k0_off639 v4124) a + S1x1x512.size a ≤ S784x8x512.size a := fun v4124 k0_hw218 => k0_hw218.2

def k0_off640 (v4139 : BitVec 32) : Fin 3 → Nat :=
  let c1023_i32_2579 : BitVec 32 := 1023#32
  let v4140 : BitVec 32 := Scalar.andi v4139 c1023_i32_2579
  let v4234 : Index := Scalar.indexCast v4140
  let c2_2640 : Index := 2#32
  let c0_2641 : Index := 0#32
  ![v4234.toNat, 2, 0]

def k0_chk219 (v4139 : BitVec 32) : Prop :=
  (∀ a, (k0_off627 v4139) a + S1x1x512.size a ≤ S784x8x512.size a) ∧
  (∀ a, (k0_off640 v4139) a + S1x1x512.size a ≤ S784x8x512.size a)
theorem k0_off627_inb : ∀ (v4139 : BitVec 32) (k0_hw219 : k0_chk219 v4139), ∀ a, (k0_off627 v4139) a + S1x1x512.size a ≤ S784x8x512.size a := fun v4139 k0_hw219 => k0_hw219.1
theorem k0_off640_inb : ∀ (v4139 : BitVec 32) (k0_hw219 : k0_chk219 v4139), ∀ a, (k0_off640 v4139) a + S1x1x512.size a ≤ S784x8x512.size a := fun v4139 k0_hw219 => k0_hw219.2

def k0_off641 (v4154 : BitVec 32) : Fin 3 → Nat :=
  let c1023_i32_2589 : BitVec 32 := 1023#32
  let v4155 : BitVec 32 := Scalar.andi v4154 c1023_i32_2589
  let v4238 : Index := Scalar.indexCast v4155
  let c3_2642 : Index := 3#32
  let c0_2643 : Index := 0#32
  ![v4238.toNat, 3, 0]

def k0_chk220 (v4154 : BitVec 32) : Prop :=
  (∀ a, (k0_off629 v4154) a + S1x1x512.size a ≤ S784x8x512.size a) ∧
  (∀ a, (k0_off641 v4154) a + S1x1x512.size a ≤ S784x8x512.size a)
theorem k0_off629_inb : ∀ (v4154 : BitVec 32) (k0_hw220 : k0_chk220 v4154), ∀ a, (k0_off629 v4154) a + S1x1x512.size a ≤ S784x8x512.size a := fun v4154 k0_hw220 => k0_hw220.1
theorem k0_off641_inb : ∀ (v4154 : BitVec 32) (k0_hw220 : k0_chk220 v4154), ∀ a, (k0_off641 v4154) a + S1x1x512.size a ≤ S784x8x512.size a := fun v4154 k0_hw220 => k0_hw220.2

def k0_off642 (v4169 : BitVec 32) : Fin 3 → Nat :=
  let c1023_i32_2599 : BitVec 32 := 1023#32
  let v4170 : BitVec 32 := Scalar.andi v4169 c1023_i32_2599
  let v4242 : Index := Scalar.indexCast v4170
  let c4_2644 : Index := 4#32
  let c0_2645 : Index := 0#32
  ![v4242.toNat, 4, 0]

def k0_chk221 (v4169 : BitVec 32) : Prop :=
  (∀ a, (k0_off631 v4169) a + S1x1x512.size a ≤ S784x8x512.size a) ∧
  (∀ a, (k0_off642 v4169) a + S1x1x512.size a ≤ S784x8x512.size a)
theorem k0_off631_inb : ∀ (v4169 : BitVec 32) (k0_hw221 : k0_chk221 v4169), ∀ a, (k0_off631 v4169) a + S1x1x512.size a ≤ S784x8x512.size a := fun v4169 k0_hw221 => k0_hw221.1
theorem k0_off642_inb : ∀ (v4169 : BitVec 32) (k0_hw221 : k0_chk221 v4169), ∀ a, (k0_off642 v4169) a + S1x1x512.size a ≤ S784x8x512.size a := fun v4169 k0_hw221 => k0_hw221.2

def k0_off643 (v4184 : BitVec 32) : Fin 3 → Nat :=
  let c1023_i32_2609 : BitVec 32 := 1023#32
  let v4185 : BitVec 32 := Scalar.andi v4184 c1023_i32_2609
  let v4246 : Index := Scalar.indexCast v4185
  let c5_2646 : Index := 5#32
  let c0_2647 : Index := 0#32
  ![v4246.toNat, 5, 0]

def k0_chk222 (v4184 : BitVec 32) : Prop :=
  (∀ a, (k0_off633 v4184) a + S1x1x512.size a ≤ S784x8x512.size a) ∧
  (∀ a, (k0_off643 v4184) a + S1x1x512.size a ≤ S784x8x512.size a)
theorem k0_off633_inb : ∀ (v4184 : BitVec 32) (k0_hw222 : k0_chk222 v4184), ∀ a, (k0_off633 v4184) a + S1x1x512.size a ≤ S784x8x512.size a := fun v4184 k0_hw222 => k0_hw222.1
theorem k0_off643_inb : ∀ (v4184 : BitVec 32) (k0_hw222 : k0_chk222 v4184), ∀ a, (k0_off643 v4184) a + S1x1x512.size a ≤ S784x8x512.size a := fun v4184 k0_hw222 => k0_hw222.2

def k0_off644 (v4199 : BitVec 32) : Fin 3 → Nat :=
  let c1023_i32_2619 : BitVec 32 := 1023#32
  let v4200 : BitVec 32 := Scalar.andi v4199 c1023_i32_2619
  let v4250 : Index := Scalar.indexCast v4200
  let c6_2648 : Index := 6#32
  let c0_2649 : Index := 0#32
  ![v4250.toNat, 6, 0]

def k0_chk223 (v4199 : BitVec 32) : Prop :=
  (∀ a, (k0_off635 v4199) a + S1x1x512.size a ≤ S784x8x512.size a) ∧
  (∀ a, (k0_off644 v4199) a + S1x1x512.size a ≤ S784x8x512.size a)
theorem k0_off635_inb : ∀ (v4199 : BitVec 32) (k0_hw223 : k0_chk223 v4199), ∀ a, (k0_off635 v4199) a + S1x1x512.size a ≤ S784x8x512.size a := fun v4199 k0_hw223 => k0_hw223.1
theorem k0_off644_inb : ∀ (v4199 : BitVec 32) (k0_hw223 : k0_chk223 v4199), ∀ a, (k0_off644 v4199) a + S1x1x512.size a ≤ S784x8x512.size a := fun v4199 k0_hw223 => k0_hw223.2

def k0_off645 (i : grid0.Coords) : Fin 2 → Nat :=
  let arg0 : BitVec 32 := BitVec.ofNat 32 (i 0).val
  let c8_i32_2652 : BitVec 32 := 8#32
  let v4258 : BitVec 32 := Scalar.muli arg0 c8_i32_2652
  let c0_i32_2653 : BitVec 32 := 0#32
  let v4259 : BitVec 32 := Scalar.addi v4258 c0_i32_2653
  let v4260 : Index := Scalar.indexCast v4259
  let c28 : Index := 28#32
  ![v4260.toNat, 28]
def k0_off646 (v4261 : BitVec 32) : Fin 3 → Nat :=
  let c1023_i32_2654 : BitVec 32 := 1023#32
  let v4262 : BitVec 32 := Scalar.andi v4261 c1023_i32_2654
  let v4269 : Index := Scalar.indexCast v4262
  let c0_2659 : Index := 0#32
  let c0_2660 : Index := 0#32
  ![v4269.toNat, 0, 0]

def k0_off647 (i : grid0.Coords) : Fin 2 → Nat :=
  let arg0 : BitVec 32 := BitVec.ofNat 32 (i 0).val
  let c8_i32_2661 : BitVec 32 := 8#32
  let v4273 : BitVec 32 := Scalar.muli arg0 c8_i32_2661
  let c1_i32_2662 : BitVec 32 := 1#32
  let v4274 : BitVec 32 := Scalar.addi v4273 c1_i32_2662
  let v4275 : Index := Scalar.indexCast v4274
  let c28_2663 : Index := 28#32
  ![v4275.toNat, 28]
def k0_off648 (v4276 : BitVec 32) : Fin 3 → Nat :=
  let c1023_i32_2664 : BitVec 32 := 1023#32
  let v4277 : BitVec 32 := Scalar.andi v4276 c1023_i32_2664
  let v4284 : Index := Scalar.indexCast v4277
  let c1_2669 : Index := 1#32
  let c0_2670 : Index := 0#32
  ![v4284.toNat, 1, 0]

def k0_off649 (i : grid0.Coords) : Fin 2 → Nat :=
  let arg0 : BitVec 32 := BitVec.ofNat 32 (i 0).val
  let c8_i32_2671 : BitVec 32 := 8#32
  let v4288 : BitVec 32 := Scalar.muli arg0 c8_i32_2671
  let c2_i32_2672 : BitVec 32 := 2#32
  let v4289 : BitVec 32 := Scalar.addi v4288 c2_i32_2672
  let v4290 : Index := Scalar.indexCast v4289
  let c28_2673 : Index := 28#32
  ![v4290.toNat, 28]
def k0_off650 (v4291 : BitVec 32) : Fin 3 → Nat :=
  let c1023_i32_2674 : BitVec 32 := 1023#32
  let v4292 : BitVec 32 := Scalar.andi v4291 c1023_i32_2674
  let v4299 : Index := Scalar.indexCast v4292
  let c2_2679 : Index := 2#32
  let c0_2680 : Index := 0#32
  ![v4299.toNat, 2, 0]

def k0_off651 (i : grid0.Coords) : Fin 2 → Nat :=
  let arg0 : BitVec 32 := BitVec.ofNat 32 (i 0).val
  let c8_i32_2681 : BitVec 32 := 8#32
  let v4303 : BitVec 32 := Scalar.muli arg0 c8_i32_2681
  let c3_i32_2682 : BitVec 32 := 3#32
  let v4304 : BitVec 32 := Scalar.addi v4303 c3_i32_2682
  let v4305 : Index := Scalar.indexCast v4304
  let c28_2683 : Index := 28#32
  ![v4305.toNat, 28]
def k0_off652 (v4306 : BitVec 32) : Fin 3 → Nat :=
  let c1023_i32_2684 : BitVec 32 := 1023#32
  let v4307 : BitVec 32 := Scalar.andi v4306 c1023_i32_2684
  let v4314 : Index := Scalar.indexCast v4307
  let c3_2689 : Index := 3#32
  let c0_2690 : Index := 0#32
  ![v4314.toNat, 3, 0]

def k0_off653 (i : grid0.Coords) : Fin 2 → Nat :=
  let arg0 : BitVec 32 := BitVec.ofNat 32 (i 0).val
  let c8_i32_2691 : BitVec 32 := 8#32
  let v4318 : BitVec 32 := Scalar.muli arg0 c8_i32_2691
  let c4_i32_2692 : BitVec 32 := 4#32
  let v4319 : BitVec 32 := Scalar.addi v4318 c4_i32_2692
  let v4320 : Index := Scalar.indexCast v4319
  let c28_2693 : Index := 28#32
  ![v4320.toNat, 28]
def k0_off654 (v4321 : BitVec 32) : Fin 3 → Nat :=
  let c1023_i32_2694 : BitVec 32 := 1023#32
  let v4322 : BitVec 32 := Scalar.andi v4321 c1023_i32_2694
  let v4329 : Index := Scalar.indexCast v4322
  let c4_2699 : Index := 4#32
  let c0_2700 : Index := 0#32
  ![v4329.toNat, 4, 0]

def k0_off655 (i : grid0.Coords) : Fin 2 → Nat :=
  let arg0 : BitVec 32 := BitVec.ofNat 32 (i 0).val
  let c8_i32_2701 : BitVec 32 := 8#32
  let v4333 : BitVec 32 := Scalar.muli arg0 c8_i32_2701
  let c5_i32_2702 : BitVec 32 := 5#32
  let v4334 : BitVec 32 := Scalar.addi v4333 c5_i32_2702
  let v4335 : Index := Scalar.indexCast v4334
  let c28_2703 : Index := 28#32
  ![v4335.toNat, 28]
def k0_off656 (v4336 : BitVec 32) : Fin 3 → Nat :=
  let c1023_i32_2704 : BitVec 32 := 1023#32
  let v4337 : BitVec 32 := Scalar.andi v4336 c1023_i32_2704
  let v4344 : Index := Scalar.indexCast v4337
  let c5_2709 : Index := 5#32
  let c0_2710 : Index := 0#32
  ![v4344.toNat, 5, 0]

def k0_off657 (i : grid0.Coords) : Fin 2 → Nat :=
  let arg0 : BitVec 32 := BitVec.ofNat 32 (i 0).val
  let c8_i32_2711 : BitVec 32 := 8#32
  let v4348 : BitVec 32 := Scalar.muli arg0 c8_i32_2711
  let c6_i32_2712 : BitVec 32 := 6#32
  let v4349 : BitVec 32 := Scalar.addi v4348 c6_i32_2712
  let v4350 : Index := Scalar.indexCast v4349
  let c28_2713 : Index := 28#32
  ![v4350.toNat, 28]
def k0_off658 (v4351 : BitVec 32) : Fin 3 → Nat :=
  let c1023_i32_2714 : BitVec 32 := 1023#32
  let v4352 : BitVec 32 := Scalar.andi v4351 c1023_i32_2714
  let v4359 : Index := Scalar.indexCast v4352
  let c6_2719 : Index := 6#32
  let c0_2720 : Index := 0#32
  ![v4359.toNat, 6, 0]

def k0_off659 (i : grid0.Coords) : Fin 2 → Nat :=
  let arg0 : BitVec 32 := BitVec.ofNat 32 (i 0).val
  let c8_i32_2721 : BitVec 32 := 8#32
  let v4363 : BitVec 32 := Scalar.muli arg0 c8_i32_2721
  let c7_i32_2722 : BitVec 32 := 7#32
  let v4364 : BitVec 32 := Scalar.addi v4363 c7_i32_2722
  let v4365 : Index := Scalar.indexCast v4364
  let c28_2723 : Index := 28#32
  ![v4365.toNat, 28]
def k0_off660 (v4366 : BitVec 32) : Fin 3 → Nat :=
  let c1023_i32_2724 : BitVec 32 := 1023#32
  let v4367 : BitVec 32 := Scalar.andi v4366 c1023_i32_2724
  let v4374 : Index := Scalar.indexCast v4367
  let c7_2729 : Index := 7#32
  let c0_2730 : Index := 0#32
  ![v4374.toNat, 7, 0]

def k0_chk232 (v4366 : BitVec 32) : Prop :=
  (∀ a, (k0_off660 v4366) a + S1x1x512.size a ≤ S784x8x512.size a)
theorem k0_off660_inb : ∀ (v4366 : BitVec 32) (k0_hw232 : k0_chk232 v4366), ∀ a, (k0_off660 v4366) a + S1x1x512.size a ≤ S784x8x512.size a := fun v4366 k0_hw232 => k0_hw232

def k0_off661 (v4261 : BitVec 32) : Fin 3 → Nat :=
  let c1023_i32_2654 : BitVec 32 := 1023#32
  let v4262 : BitVec 32 := Scalar.andi v4261 c1023_i32_2654
  let v4378 : Index := Scalar.indexCast v4262
  let c0_2731 : Index := 0#32
  let c0_2732 : Index := 0#32
  ![v4378.toNat, 0, 0]

def k0_chk225 (v4261 : BitVec 32) : Prop :=
  (∀ a, (k0_off646 v4261) a + S1x1x512.size a ≤ S784x8x512.size a) ∧
  (∀ a, (k0_off661 v4261) a + S1x1x512.size a ≤ S784x8x512.size a)
theorem k0_off646_inb : ∀ (v4261 : BitVec 32) (k0_hw225 : k0_chk225 v4261), ∀ a, (k0_off646 v4261) a + S1x1x512.size a ≤ S784x8x512.size a := fun v4261 k0_hw225 => k0_hw225.1
theorem k0_off661_inb : ∀ (v4261 : BitVec 32) (k0_hw225 : k0_chk225 v4261), ∀ a, (k0_off661 v4261) a + S1x1x512.size a ≤ S784x8x512.size a := fun v4261 k0_hw225 => k0_hw225.2

def k0_off662 (v4276 : BitVec 32) : Fin 3 → Nat :=
  let c1023_i32_2664 : BitVec 32 := 1023#32
  let v4277 : BitVec 32 := Scalar.andi v4276 c1023_i32_2664
  let v4382 : Index := Scalar.indexCast v4277
  let c1_2733 : Index := 1#32
  let c0_2734 : Index := 0#32
  ![v4382.toNat, 1, 0]

def k0_chk226 (v4276 : BitVec 32) : Prop :=
  (∀ a, (k0_off648 v4276) a + S1x1x512.size a ≤ S784x8x512.size a) ∧
  (∀ a, (k0_off662 v4276) a + S1x1x512.size a ≤ S784x8x512.size a)
theorem k0_off648_inb : ∀ (v4276 : BitVec 32) (k0_hw226 : k0_chk226 v4276), ∀ a, (k0_off648 v4276) a + S1x1x512.size a ≤ S784x8x512.size a := fun v4276 k0_hw226 => k0_hw226.1
theorem k0_off662_inb : ∀ (v4276 : BitVec 32) (k0_hw226 : k0_chk226 v4276), ∀ a, (k0_off662 v4276) a + S1x1x512.size a ≤ S784x8x512.size a := fun v4276 k0_hw226 => k0_hw226.2

def k0_off663 (v4291 : BitVec 32) : Fin 3 → Nat :=
  let c1023_i32_2674 : BitVec 32 := 1023#32
  let v4292 : BitVec 32 := Scalar.andi v4291 c1023_i32_2674
  let v4386 : Index := Scalar.indexCast v4292
  let c2_2735 : Index := 2#32
  let c0_2736 : Index := 0#32
  ![v4386.toNat, 2, 0]

def k0_chk227 (v4291 : BitVec 32) : Prop :=
  (∀ a, (k0_off650 v4291) a + S1x1x512.size a ≤ S784x8x512.size a) ∧
  (∀ a, (k0_off663 v4291) a + S1x1x512.size a ≤ S784x8x512.size a)
theorem k0_off650_inb : ∀ (v4291 : BitVec 32) (k0_hw227 : k0_chk227 v4291), ∀ a, (k0_off650 v4291) a + S1x1x512.size a ≤ S784x8x512.size a := fun v4291 k0_hw227 => k0_hw227.1
theorem k0_off663_inb : ∀ (v4291 : BitVec 32) (k0_hw227 : k0_chk227 v4291), ∀ a, (k0_off663 v4291) a + S1x1x512.size a ≤ S784x8x512.size a := fun v4291 k0_hw227 => k0_hw227.2

def k0_off664 (v4306 : BitVec 32) : Fin 3 → Nat :=
  let c1023_i32_2684 : BitVec 32 := 1023#32
  let v4307 : BitVec 32 := Scalar.andi v4306 c1023_i32_2684
  let v4390 : Index := Scalar.indexCast v4307
  let c3_2737 : Index := 3#32
  let c0_2738 : Index := 0#32
  ![v4390.toNat, 3, 0]

def k0_chk228 (v4306 : BitVec 32) : Prop :=
  (∀ a, (k0_off652 v4306) a + S1x1x512.size a ≤ S784x8x512.size a) ∧
  (∀ a, (k0_off664 v4306) a + S1x1x512.size a ≤ S784x8x512.size a)
theorem k0_off652_inb : ∀ (v4306 : BitVec 32) (k0_hw228 : k0_chk228 v4306), ∀ a, (k0_off652 v4306) a + S1x1x512.size a ≤ S784x8x512.size a := fun v4306 k0_hw228 => k0_hw228.1
theorem k0_off664_inb : ∀ (v4306 : BitVec 32) (k0_hw228 : k0_chk228 v4306), ∀ a, (k0_off664 v4306) a + S1x1x512.size a ≤ S784x8x512.size a := fun v4306 k0_hw228 => k0_hw228.2

def k0_off665 (v4321 : BitVec 32) : Fin 3 → Nat :=
  let c1023_i32_2694 : BitVec 32 := 1023#32
  let v4322 : BitVec 32 := Scalar.andi v4321 c1023_i32_2694
  let v4394 : Index := Scalar.indexCast v4322
  let c4_2739 : Index := 4#32
  let c0_2740 : Index := 0#32
  ![v4394.toNat, 4, 0]

def k0_chk229 (v4321 : BitVec 32) : Prop :=
  (∀ a, (k0_off654 v4321) a + S1x1x512.size a ≤ S784x8x512.size a) ∧
  (∀ a, (k0_off665 v4321) a + S1x1x512.size a ≤ S784x8x512.size a)
theorem k0_off654_inb : ∀ (v4321 : BitVec 32) (k0_hw229 : k0_chk229 v4321), ∀ a, (k0_off654 v4321) a + S1x1x512.size a ≤ S784x8x512.size a := fun v4321 k0_hw229 => k0_hw229.1
theorem k0_off665_inb : ∀ (v4321 : BitVec 32) (k0_hw229 : k0_chk229 v4321), ∀ a, (k0_off665 v4321) a + S1x1x512.size a ≤ S784x8x512.size a := fun v4321 k0_hw229 => k0_hw229.2

def k0_off666 (v4336 : BitVec 32) : Fin 3 → Nat :=
  let c1023_i32_2704 : BitVec 32 := 1023#32
  let v4337 : BitVec 32 := Scalar.andi v4336 c1023_i32_2704
  let v4398 : Index := Scalar.indexCast v4337
  let c5_2741 : Index := 5#32
  let c0_2742 : Index := 0#32
  ![v4398.toNat, 5, 0]

def k0_chk230 (v4336 : BitVec 32) : Prop :=
  (∀ a, (k0_off656 v4336) a + S1x1x512.size a ≤ S784x8x512.size a) ∧
  (∀ a, (k0_off666 v4336) a + S1x1x512.size a ≤ S784x8x512.size a)
theorem k0_off656_inb : ∀ (v4336 : BitVec 32) (k0_hw230 : k0_chk230 v4336), ∀ a, (k0_off656 v4336) a + S1x1x512.size a ≤ S784x8x512.size a := fun v4336 k0_hw230 => k0_hw230.1
theorem k0_off666_inb : ∀ (v4336 : BitVec 32) (k0_hw230 : k0_chk230 v4336), ∀ a, (k0_off666 v4336) a + S1x1x512.size a ≤ S784x8x512.size a := fun v4336 k0_hw230 => k0_hw230.2

def k0_off667 (v4351 : BitVec 32) : Fin 3 → Nat :=
  let c1023_i32_2714 : BitVec 32 := 1023#32
  let v4352 : BitVec 32 := Scalar.andi v4351 c1023_i32_2714
  let v4402 : Index := Scalar.indexCast v4352
  let c6_2743 : Index := 6#32
  let c0_2744 : Index := 0#32
  ![v4402.toNat, 6, 0]

def k0_chk231 (v4351 : BitVec 32) : Prop :=
  (∀ a, (k0_off658 v4351) a + S1x1x512.size a ≤ S784x8x512.size a) ∧
  (∀ a, (k0_off667 v4351) a + S1x1x512.size a ≤ S784x8x512.size a)
theorem k0_off658_inb : ∀ (v4351 : BitVec 32) (k0_hw231 : k0_chk231 v4351), ∀ a, (k0_off658 v4351) a + S1x1x512.size a ≤ S784x8x512.size a := fun v4351 k0_hw231 => k0_hw231.1
theorem k0_off667_inb : ∀ (v4351 : BitVec 32) (k0_hw231 : k0_chk231 v4351), ∀ a, (k0_off667 v4351) a + S1x1x512.size a ≤ S784x8x512.size a := fun v4351 k0_hw231 => k0_hw231.2

def k0_off668 (i : grid0.Coords) : Fin 2 → Nat :=
  let arg0 : BitVec 32 := BitVec.ofNat 32 (i 0).val
  let c8_i32_2747 : BitVec 32 := 8#32
  let v4410 : BitVec 32 := Scalar.muli arg0 c8_i32_2747
  let c0_i32_2748 : BitVec 32 := 0#32
  let v4411 : BitVec 32 := Scalar.addi v4410 c0_i32_2748
  let v4412 : Index := Scalar.indexCast v4411
  let c29 : Index := 29#32
  ![v4412.toNat, 29]
def k0_off669 (v4413 : BitVec 32) : Fin 3 → Nat :=
  let c1023_i32_2749 : BitVec 32 := 1023#32
  let v4414 : BitVec 32 := Scalar.andi v4413 c1023_i32_2749
  let v4421 : Index := Scalar.indexCast v4414
  let c0_2754 : Index := 0#32
  let c0_2755 : Index := 0#32
  ![v4421.toNat, 0, 0]

def k0_off670 (i : grid0.Coords) : Fin 2 → Nat :=
  let arg0 : BitVec 32 := BitVec.ofNat 32 (i 0).val
  let c8_i32_2756 : BitVec 32 := 8#32
  let v4425 : BitVec 32 := Scalar.muli arg0 c8_i32_2756
  let c1_i32_2757 : BitVec 32 := 1#32
  let v4426 : BitVec 32 := Scalar.addi v4425 c1_i32_2757
  let v4427 : Index := Scalar.indexCast v4426
  let c29_2758 : Index := 29#32
  ![v4427.toNat, 29]
def k0_off671 (v4428 : BitVec 32) : Fin 3 → Nat :=
  let c1023_i32_2759 : BitVec 32 := 1023#32
  let v4429 : BitVec 32 := Scalar.andi v4428 c1023_i32_2759
  let v4436 : Index := Scalar.indexCast v4429
  let c1_2764 : Index := 1#32
  let c0_2765 : Index := 0#32
  ![v4436.toNat, 1, 0]

def k0_off672 (i : grid0.Coords) : Fin 2 → Nat :=
  let arg0 : BitVec 32 := BitVec.ofNat 32 (i 0).val
  let c8_i32_2766 : BitVec 32 := 8#32
  let v4440 : BitVec 32 := Scalar.muli arg0 c8_i32_2766
  let c2_i32_2767 : BitVec 32 := 2#32
  let v4441 : BitVec 32 := Scalar.addi v4440 c2_i32_2767
  let v4442 : Index := Scalar.indexCast v4441
  let c29_2768 : Index := 29#32
  ![v4442.toNat, 29]
def k0_off673 (v4443 : BitVec 32) : Fin 3 → Nat :=
  let c1023_i32_2769 : BitVec 32 := 1023#32
  let v4444 : BitVec 32 := Scalar.andi v4443 c1023_i32_2769
  let v4451 : Index := Scalar.indexCast v4444
  let c2_2774 : Index := 2#32
  let c0_2775 : Index := 0#32
  ![v4451.toNat, 2, 0]

def k0_off674 (i : grid0.Coords) : Fin 2 → Nat :=
  let arg0 : BitVec 32 := BitVec.ofNat 32 (i 0).val
  let c8_i32_2776 : BitVec 32 := 8#32
  let v4455 : BitVec 32 := Scalar.muli arg0 c8_i32_2776
  let c3_i32_2777 : BitVec 32 := 3#32
  let v4456 : BitVec 32 := Scalar.addi v4455 c3_i32_2777
  let v4457 : Index := Scalar.indexCast v4456
  let c29_2778 : Index := 29#32
  ![v4457.toNat, 29]
def k0_off675 (v4458 : BitVec 32) : Fin 3 → Nat :=
  let c1023_i32_2779 : BitVec 32 := 1023#32
  let v4459 : BitVec 32 := Scalar.andi v4458 c1023_i32_2779
  let v4466 : Index := Scalar.indexCast v4459
  let c3_2784 : Index := 3#32
  let c0_2785 : Index := 0#32
  ![v4466.toNat, 3, 0]

def k0_off676 (i : grid0.Coords) : Fin 2 → Nat :=
  let arg0 : BitVec 32 := BitVec.ofNat 32 (i 0).val
  let c8_i32_2786 : BitVec 32 := 8#32
  let v4470 : BitVec 32 := Scalar.muli arg0 c8_i32_2786
  let c4_i32_2787 : BitVec 32 := 4#32
  let v4471 : BitVec 32 := Scalar.addi v4470 c4_i32_2787
  let v4472 : Index := Scalar.indexCast v4471
  let c29_2788 : Index := 29#32
  ![v4472.toNat, 29]
def k0_off677 (v4473 : BitVec 32) : Fin 3 → Nat :=
  let c1023_i32_2789 : BitVec 32 := 1023#32
  let v4474 : BitVec 32 := Scalar.andi v4473 c1023_i32_2789
  let v4481 : Index := Scalar.indexCast v4474
  let c4_2794 : Index := 4#32
  let c0_2795 : Index := 0#32
  ![v4481.toNat, 4, 0]

def k0_off678 (i : grid0.Coords) : Fin 2 → Nat :=
  let arg0 : BitVec 32 := BitVec.ofNat 32 (i 0).val
  let c8_i32_2796 : BitVec 32 := 8#32
  let v4485 : BitVec 32 := Scalar.muli arg0 c8_i32_2796
  let c5_i32_2797 : BitVec 32 := 5#32
  let v4486 : BitVec 32 := Scalar.addi v4485 c5_i32_2797
  let v4487 : Index := Scalar.indexCast v4486
  let c29_2798 : Index := 29#32
  ![v4487.toNat, 29]
def k0_off679 (v4488 : BitVec 32) : Fin 3 → Nat :=
  let c1023_i32_2799 : BitVec 32 := 1023#32
  let v4489 : BitVec 32 := Scalar.andi v4488 c1023_i32_2799
  let v4496 : Index := Scalar.indexCast v4489
  let c5_2804 : Index := 5#32
  let c0_2805 : Index := 0#32
  ![v4496.toNat, 5, 0]

def k0_off680 (i : grid0.Coords) : Fin 2 → Nat :=
  let arg0 : BitVec 32 := BitVec.ofNat 32 (i 0).val
  let c8_i32_2806 : BitVec 32 := 8#32
  let v4500 : BitVec 32 := Scalar.muli arg0 c8_i32_2806
  let c6_i32_2807 : BitVec 32 := 6#32
  let v4501 : BitVec 32 := Scalar.addi v4500 c6_i32_2807
  let v4502 : Index := Scalar.indexCast v4501
  let c29_2808 : Index := 29#32
  ![v4502.toNat, 29]
def k0_off681 (v4503 : BitVec 32) : Fin 3 → Nat :=
  let c1023_i32_2809 : BitVec 32 := 1023#32
  let v4504 : BitVec 32 := Scalar.andi v4503 c1023_i32_2809
  let v4511 : Index := Scalar.indexCast v4504
  let c6_2814 : Index := 6#32
  let c0_2815 : Index := 0#32
  ![v4511.toNat, 6, 0]

def k0_off682 (i : grid0.Coords) : Fin 2 → Nat :=
  let arg0 : BitVec 32 := BitVec.ofNat 32 (i 0).val
  let c8_i32_2816 : BitVec 32 := 8#32
  let v4515 : BitVec 32 := Scalar.muli arg0 c8_i32_2816
  let c7_i32_2817 : BitVec 32 := 7#32
  let v4516 : BitVec 32 := Scalar.addi v4515 c7_i32_2817
  let v4517 : Index := Scalar.indexCast v4516
  let c29_2818 : Index := 29#32
  ![v4517.toNat, 29]
def k0_off683 (v4518 : BitVec 32) : Fin 3 → Nat :=
  let c1023_i32_2819 : BitVec 32 := 1023#32
  let v4519 : BitVec 32 := Scalar.andi v4518 c1023_i32_2819
  let v4526 : Index := Scalar.indexCast v4519
  let c7_2824 : Index := 7#32
  let c0_2825 : Index := 0#32
  ![v4526.toNat, 7, 0]

def k0_chk240 (v4518 : BitVec 32) : Prop :=
  (∀ a, (k0_off683 v4518) a + S1x1x512.size a ≤ S784x8x512.size a)
theorem k0_off683_inb : ∀ (v4518 : BitVec 32) (k0_hw240 : k0_chk240 v4518), ∀ a, (k0_off683 v4518) a + S1x1x512.size a ≤ S784x8x512.size a := fun v4518 k0_hw240 => k0_hw240

def k0_off684 (v4413 : BitVec 32) : Fin 3 → Nat :=
  let c1023_i32_2749 : BitVec 32 := 1023#32
  let v4414 : BitVec 32 := Scalar.andi v4413 c1023_i32_2749
  let v4530 : Index := Scalar.indexCast v4414
  let c0_2826 : Index := 0#32
  let c0_2827 : Index := 0#32
  ![v4530.toNat, 0, 0]

def k0_chk233 (v4413 : BitVec 32) : Prop :=
  (∀ a, (k0_off669 v4413) a + S1x1x512.size a ≤ S784x8x512.size a) ∧
  (∀ a, (k0_off684 v4413) a + S1x1x512.size a ≤ S784x8x512.size a)
theorem k0_off669_inb : ∀ (v4413 : BitVec 32) (k0_hw233 : k0_chk233 v4413), ∀ a, (k0_off669 v4413) a + S1x1x512.size a ≤ S784x8x512.size a := fun v4413 k0_hw233 => k0_hw233.1
theorem k0_off684_inb : ∀ (v4413 : BitVec 32) (k0_hw233 : k0_chk233 v4413), ∀ a, (k0_off684 v4413) a + S1x1x512.size a ≤ S784x8x512.size a := fun v4413 k0_hw233 => k0_hw233.2

def k0_off685 (v4428 : BitVec 32) : Fin 3 → Nat :=
  let c1023_i32_2759 : BitVec 32 := 1023#32
  let v4429 : BitVec 32 := Scalar.andi v4428 c1023_i32_2759
  let v4534 : Index := Scalar.indexCast v4429
  let c1_2828 : Index := 1#32
  let c0_2829 : Index := 0#32
  ![v4534.toNat, 1, 0]

def k0_chk234 (v4428 : BitVec 32) : Prop :=
  (∀ a, (k0_off671 v4428) a + S1x1x512.size a ≤ S784x8x512.size a) ∧
  (∀ a, (k0_off685 v4428) a + S1x1x512.size a ≤ S784x8x512.size a)
theorem k0_off671_inb : ∀ (v4428 : BitVec 32) (k0_hw234 : k0_chk234 v4428), ∀ a, (k0_off671 v4428) a + S1x1x512.size a ≤ S784x8x512.size a := fun v4428 k0_hw234 => k0_hw234.1
theorem k0_off685_inb : ∀ (v4428 : BitVec 32) (k0_hw234 : k0_chk234 v4428), ∀ a, (k0_off685 v4428) a + S1x1x512.size a ≤ S784x8x512.size a := fun v4428 k0_hw234 => k0_hw234.2

def k0_off686 (v4443 : BitVec 32) : Fin 3 → Nat :=
  let c1023_i32_2769 : BitVec 32 := 1023#32
  let v4444 : BitVec 32 := Scalar.andi v4443 c1023_i32_2769
  let v4538 : Index := Scalar.indexCast v4444
  let c2_2830 : Index := 2#32
  let c0_2831 : Index := 0#32
  ![v4538.toNat, 2, 0]

def k0_chk235 (v4443 : BitVec 32) : Prop :=
  (∀ a, (k0_off673 v4443) a + S1x1x512.size a ≤ S784x8x512.size a) ∧
  (∀ a, (k0_off686 v4443) a + S1x1x512.size a ≤ S784x8x512.size a)
theorem k0_off673_inb : ∀ (v4443 : BitVec 32) (k0_hw235 : k0_chk235 v4443), ∀ a, (k0_off673 v4443) a + S1x1x512.size a ≤ S784x8x512.size a := fun v4443 k0_hw235 => k0_hw235.1
theorem k0_off686_inb : ∀ (v4443 : BitVec 32) (k0_hw235 : k0_chk235 v4443), ∀ a, (k0_off686 v4443) a + S1x1x512.size a ≤ S784x8x512.size a := fun v4443 k0_hw235 => k0_hw235.2

def k0_off687 (v4458 : BitVec 32) : Fin 3 → Nat :=
  let c1023_i32_2779 : BitVec 32 := 1023#32
  let v4459 : BitVec 32 := Scalar.andi v4458 c1023_i32_2779
  let v4542 : Index := Scalar.indexCast v4459
  let c3_2832 : Index := 3#32
  let c0_2833 : Index := 0#32
  ![v4542.toNat, 3, 0]

def k0_chk236 (v4458 : BitVec 32) : Prop :=
  (∀ a, (k0_off675 v4458) a + S1x1x512.size a ≤ S784x8x512.size a) ∧
  (∀ a, (k0_off687 v4458) a + S1x1x512.size a ≤ S784x8x512.size a)
theorem k0_off675_inb : ∀ (v4458 : BitVec 32) (k0_hw236 : k0_chk236 v4458), ∀ a, (k0_off675 v4458) a + S1x1x512.size a ≤ S784x8x512.size a := fun v4458 k0_hw236 => k0_hw236.1
theorem k0_off687_inb : ∀ (v4458 : BitVec 32) (k0_hw236 : k0_chk236 v4458), ∀ a, (k0_off687 v4458) a + S1x1x512.size a ≤ S784x8x512.size a := fun v4458 k0_hw236 => k0_hw236.2

def k0_off688 (v4473 : BitVec 32) : Fin 3 → Nat :=
  let c1023_i32_2789 : BitVec 32 := 1023#32
  let v4474 : BitVec 32 := Scalar.andi v4473 c1023_i32_2789
  let v4546 : Index := Scalar.indexCast v4474
  let c4_2834 : Index := 4#32
  let c0_2835 : Index := 0#32
  ![v4546.toNat, 4, 0]

def k0_chk237 (v4473 : BitVec 32) : Prop :=
  (∀ a, (k0_off677 v4473) a + S1x1x512.size a ≤ S784x8x512.size a) ∧
  (∀ a, (k0_off688 v4473) a + S1x1x512.size a ≤ S784x8x512.size a)
theorem k0_off677_inb : ∀ (v4473 : BitVec 32) (k0_hw237 : k0_chk237 v4473), ∀ a, (k0_off677 v4473) a + S1x1x512.size a ≤ S784x8x512.size a := fun v4473 k0_hw237 => k0_hw237.1
theorem k0_off688_inb : ∀ (v4473 : BitVec 32) (k0_hw237 : k0_chk237 v4473), ∀ a, (k0_off688 v4473) a + S1x1x512.size a ≤ S784x8x512.size a := fun v4473 k0_hw237 => k0_hw237.2

def k0_off689 (v4488 : BitVec 32) : Fin 3 → Nat :=
  let c1023_i32_2799 : BitVec 32 := 1023#32
  let v4489 : BitVec 32 := Scalar.andi v4488 c1023_i32_2799
  let v4550 : Index := Scalar.indexCast v4489
  let c5_2836 : Index := 5#32
  let c0_2837 : Index := 0#32
  ![v4550.toNat, 5, 0]

def k0_chk238 (v4488 : BitVec 32) : Prop :=
  (∀ a, (k0_off679 v4488) a + S1x1x512.size a ≤ S784x8x512.size a) ∧
  (∀ a, (k0_off689 v4488) a + S1x1x512.size a ≤ S784x8x512.size a)
theorem k0_off679_inb : ∀ (v4488 : BitVec 32) (k0_hw238 : k0_chk238 v4488), ∀ a, (k0_off679 v4488) a + S1x1x512.size a ≤ S784x8x512.size a := fun v4488 k0_hw238 => k0_hw238.1
theorem k0_off689_inb : ∀ (v4488 : BitVec 32) (k0_hw238 : k0_chk238 v4488), ∀ a, (k0_off689 v4488) a + S1x1x512.size a ≤ S784x8x512.size a := fun v4488 k0_hw238 => k0_hw238.2

def k0_off690 (v4503 : BitVec 32) : Fin 3 → Nat :=
  let c1023_i32_2809 : BitVec 32 := 1023#32
  let v4504 : BitVec 32 := Scalar.andi v4503 c1023_i32_2809
  let v4554 : Index := Scalar.indexCast v4504
  let c6_2838 : Index := 6#32
  let c0_2839 : Index := 0#32
  ![v4554.toNat, 6, 0]

def k0_chk239 (v4503 : BitVec 32) : Prop :=
  (∀ a, (k0_off681 v4503) a + S1x1x512.size a ≤ S784x8x512.size a) ∧
  (∀ a, (k0_off690 v4503) a + S1x1x512.size a ≤ S784x8x512.size a)
theorem k0_off681_inb : ∀ (v4503 : BitVec 32) (k0_hw239 : k0_chk239 v4503), ∀ a, (k0_off681 v4503) a + S1x1x512.size a ≤ S784x8x512.size a := fun v4503 k0_hw239 => k0_hw239.1
theorem k0_off690_inb : ∀ (v4503 : BitVec 32) (k0_hw239 : k0_chk239 v4503), ∀ a, (k0_off690 v4503) a + S1x1x512.size a ≤ S784x8x512.size a := fun v4503 k0_hw239 => k0_hw239.2

def k0_off691 (i : grid0.Coords) : Fin 2 → Nat :=
  let arg0 : BitVec 32 := BitVec.ofNat 32 (i 0).val
  let c8_i32_2842 : BitVec 32 := 8#32
  let v4562 : BitVec 32 := Scalar.muli arg0 c8_i32_2842
  let c0_i32_2843 : BitVec 32 := 0#32
  let v4563 : BitVec 32 := Scalar.addi v4562 c0_i32_2843
  let v4564 : Index := Scalar.indexCast v4563
  let c30 : Index := 30#32
  ![v4564.toNat, 30]
def k0_off692 (v4565 : BitVec 32) : Fin 3 → Nat :=
  let c1023_i32_2844 : BitVec 32 := 1023#32
  let v4566 : BitVec 32 := Scalar.andi v4565 c1023_i32_2844
  let v4573 : Index := Scalar.indexCast v4566
  let c0_2849 : Index := 0#32
  let c0_2850 : Index := 0#32
  ![v4573.toNat, 0, 0]

def k0_off693 (i : grid0.Coords) : Fin 2 → Nat :=
  let arg0 : BitVec 32 := BitVec.ofNat 32 (i 0).val
  let c8_i32_2851 : BitVec 32 := 8#32
  let v4577 : BitVec 32 := Scalar.muli arg0 c8_i32_2851
  let c1_i32_2852 : BitVec 32 := 1#32
  let v4578 : BitVec 32 := Scalar.addi v4577 c1_i32_2852
  let v4579 : Index := Scalar.indexCast v4578
  let c30_2853 : Index := 30#32
  ![v4579.toNat, 30]
def k0_off694 (v4580 : BitVec 32) : Fin 3 → Nat :=
  let c1023_i32_2854 : BitVec 32 := 1023#32
  let v4581 : BitVec 32 := Scalar.andi v4580 c1023_i32_2854
  let v4588 : Index := Scalar.indexCast v4581
  let c1_2859 : Index := 1#32
  let c0_2860 : Index := 0#32
  ![v4588.toNat, 1, 0]

def k0_off695 (i : grid0.Coords) : Fin 2 → Nat :=
  let arg0 : BitVec 32 := BitVec.ofNat 32 (i 0).val
  let c8_i32_2861 : BitVec 32 := 8#32
  let v4592 : BitVec 32 := Scalar.muli arg0 c8_i32_2861
  let c2_i32_2862 : BitVec 32 := 2#32
  let v4593 : BitVec 32 := Scalar.addi v4592 c2_i32_2862
  let v4594 : Index := Scalar.indexCast v4593
  let c30_2863 : Index := 30#32
  ![v4594.toNat, 30]
def k0_off696 (v4595 : BitVec 32) : Fin 3 → Nat :=
  let c1023_i32_2864 : BitVec 32 := 1023#32
  let v4596 : BitVec 32 := Scalar.andi v4595 c1023_i32_2864
  let v4603 : Index := Scalar.indexCast v4596
  let c2_2869 : Index := 2#32
  let c0_2870 : Index := 0#32
  ![v4603.toNat, 2, 0]

def k0_off697 (i : grid0.Coords) : Fin 2 → Nat :=
  let arg0 : BitVec 32 := BitVec.ofNat 32 (i 0).val
  let c8_i32_2871 : BitVec 32 := 8#32
  let v4607 : BitVec 32 := Scalar.muli arg0 c8_i32_2871
  let c3_i32_2872 : BitVec 32 := 3#32
  let v4608 : BitVec 32 := Scalar.addi v4607 c3_i32_2872
  let v4609 : Index := Scalar.indexCast v4608
  let c30_2873 : Index := 30#32
  ![v4609.toNat, 30]
def k0_off698 (v4610 : BitVec 32) : Fin 3 → Nat :=
  let c1023_i32_2874 : BitVec 32 := 1023#32
  let v4611 : BitVec 32 := Scalar.andi v4610 c1023_i32_2874
  let v4618 : Index := Scalar.indexCast v4611
  let c3_2879 : Index := 3#32
  let c0_2880 : Index := 0#32
  ![v4618.toNat, 3, 0]

def k0_off699 (i : grid0.Coords) : Fin 2 → Nat :=
  let arg0 : BitVec 32 := BitVec.ofNat 32 (i 0).val
  let c8_i32_2881 : BitVec 32 := 8#32
  let v4622 : BitVec 32 := Scalar.muli arg0 c8_i32_2881
  let c4_i32_2882 : BitVec 32 := 4#32
  let v4623 : BitVec 32 := Scalar.addi v4622 c4_i32_2882
  let v4624 : Index := Scalar.indexCast v4623
  let c30_2883 : Index := 30#32
  ![v4624.toNat, 30]
def k0_off700 (v4625 : BitVec 32) : Fin 3 → Nat :=
  let c1023_i32_2884 : BitVec 32 := 1023#32
  let v4626 : BitVec 32 := Scalar.andi v4625 c1023_i32_2884
  let v4633 : Index := Scalar.indexCast v4626
  let c4_2889 : Index := 4#32
  let c0_2890 : Index := 0#32
  ![v4633.toNat, 4, 0]

def k0_off701 (i : grid0.Coords) : Fin 2 → Nat :=
  let arg0 : BitVec 32 := BitVec.ofNat 32 (i 0).val
  let c8_i32_2891 : BitVec 32 := 8#32
  let v4637 : BitVec 32 := Scalar.muli arg0 c8_i32_2891
  let c5_i32_2892 : BitVec 32 := 5#32
  let v4638 : BitVec 32 := Scalar.addi v4637 c5_i32_2892
  let v4639 : Index := Scalar.indexCast v4638
  let c30_2893 : Index := 30#32
  ![v4639.toNat, 30]
def k0_off702 (v4640 : BitVec 32) : Fin 3 → Nat :=
  let c1023_i32_2894 : BitVec 32 := 1023#32
  let v4641 : BitVec 32 := Scalar.andi v4640 c1023_i32_2894
  let v4648 : Index := Scalar.indexCast v4641
  let c5_2899 : Index := 5#32
  let c0_2900 : Index := 0#32
  ![v4648.toNat, 5, 0]

def k0_off703 (i : grid0.Coords) : Fin 2 → Nat :=
  let arg0 : BitVec 32 := BitVec.ofNat 32 (i 0).val
  let c8_i32_2901 : BitVec 32 := 8#32
  let v4652 : BitVec 32 := Scalar.muli arg0 c8_i32_2901
  let c6_i32_2902 : BitVec 32 := 6#32
  let v4653 : BitVec 32 := Scalar.addi v4652 c6_i32_2902
  let v4654 : Index := Scalar.indexCast v4653
  let c30_2903 : Index := 30#32
  ![v4654.toNat, 30]
def k0_off704 (v4655 : BitVec 32) : Fin 3 → Nat :=
  let c1023_i32_2904 : BitVec 32 := 1023#32
  let v4656 : BitVec 32 := Scalar.andi v4655 c1023_i32_2904
  let v4663 : Index := Scalar.indexCast v4656
  let c6_2909 : Index := 6#32
  let c0_2910 : Index := 0#32
  ![v4663.toNat, 6, 0]

def k0_off705 (i : grid0.Coords) : Fin 2 → Nat :=
  let arg0 : BitVec 32 := BitVec.ofNat 32 (i 0).val
  let c8_i32_2911 : BitVec 32 := 8#32
  let v4667 : BitVec 32 := Scalar.muli arg0 c8_i32_2911
  let c7_i32_2912 : BitVec 32 := 7#32
  let v4668 : BitVec 32 := Scalar.addi v4667 c7_i32_2912
  let v4669 : Index := Scalar.indexCast v4668
  let c30_2913 : Index := 30#32
  ![v4669.toNat, 30]
def k0_off706 (v4670 : BitVec 32) : Fin 3 → Nat :=
  let c1023_i32_2914 : BitVec 32 := 1023#32
  let v4671 : BitVec 32 := Scalar.andi v4670 c1023_i32_2914
  let v4678 : Index := Scalar.indexCast v4671
  let c7_2919 : Index := 7#32
  let c0_2920 : Index := 0#32
  ![v4678.toNat, 7, 0]

def k0_chk248 (v4670 : BitVec 32) : Prop :=
  (∀ a, (k0_off706 v4670) a + S1x1x512.size a ≤ S784x8x512.size a)
theorem k0_off706_inb : ∀ (v4670 : BitVec 32) (k0_hw248 : k0_chk248 v4670), ∀ a, (k0_off706 v4670) a + S1x1x512.size a ≤ S784x8x512.size a := fun v4670 k0_hw248 => k0_hw248

def k0_off707 (v4565 : BitVec 32) : Fin 3 → Nat :=
  let c1023_i32_2844 : BitVec 32 := 1023#32
  let v4566 : BitVec 32 := Scalar.andi v4565 c1023_i32_2844
  let v4682 : Index := Scalar.indexCast v4566
  let c0_2921 : Index := 0#32
  let c0_2922 : Index := 0#32
  ![v4682.toNat, 0, 0]

def k0_chk241 (v4565 : BitVec 32) : Prop :=
  (∀ a, (k0_off692 v4565) a + S1x1x512.size a ≤ S784x8x512.size a) ∧
  (∀ a, (k0_off707 v4565) a + S1x1x512.size a ≤ S784x8x512.size a)
theorem k0_off692_inb : ∀ (v4565 : BitVec 32) (k0_hw241 : k0_chk241 v4565), ∀ a, (k0_off692 v4565) a + S1x1x512.size a ≤ S784x8x512.size a := fun v4565 k0_hw241 => k0_hw241.1
theorem k0_off707_inb : ∀ (v4565 : BitVec 32) (k0_hw241 : k0_chk241 v4565), ∀ a, (k0_off707 v4565) a + S1x1x512.size a ≤ S784x8x512.size a := fun v4565 k0_hw241 => k0_hw241.2

def k0_off708 (v4580 : BitVec 32) : Fin 3 → Nat :=
  let c1023_i32_2854 : BitVec 32 := 1023#32
  let v4581 : BitVec 32 := Scalar.andi v4580 c1023_i32_2854
  let v4686 : Index := Scalar.indexCast v4581
  let c1_2923 : Index := 1#32
  let c0_2924 : Index := 0#32
  ![v4686.toNat, 1, 0]

def k0_chk242 (v4580 : BitVec 32) : Prop :=
  (∀ a, (k0_off694 v4580) a + S1x1x512.size a ≤ S784x8x512.size a) ∧
  (∀ a, (k0_off708 v4580) a + S1x1x512.size a ≤ S784x8x512.size a)
theorem k0_off694_inb : ∀ (v4580 : BitVec 32) (k0_hw242 : k0_chk242 v4580), ∀ a, (k0_off694 v4580) a + S1x1x512.size a ≤ S784x8x512.size a := fun v4580 k0_hw242 => k0_hw242.1
theorem k0_off708_inb : ∀ (v4580 : BitVec 32) (k0_hw242 : k0_chk242 v4580), ∀ a, (k0_off708 v4580) a + S1x1x512.size a ≤ S784x8x512.size a := fun v4580 k0_hw242 => k0_hw242.2

def k0_off709 (v4595 : BitVec 32) : Fin 3 → Nat :=
  let c1023_i32_2864 : BitVec 32 := 1023#32
  let v4596 : BitVec 32 := Scalar.andi v4595 c1023_i32_2864
  let v4690 : Index := Scalar.indexCast v4596
  let c2_2925 : Index := 2#32
  let c0_2926 : Index := 0#32
  ![v4690.toNat, 2, 0]

def k0_chk243 (v4595 : BitVec 32) : Prop :=
  (∀ a, (k0_off696 v4595) a + S1x1x512.size a ≤ S784x8x512.size a) ∧
  (∀ a, (k0_off709 v4595) a + S1x1x512.size a ≤ S784x8x512.size a)
theorem k0_off696_inb : ∀ (v4595 : BitVec 32) (k0_hw243 : k0_chk243 v4595), ∀ a, (k0_off696 v4595) a + S1x1x512.size a ≤ S784x8x512.size a := fun v4595 k0_hw243 => k0_hw243.1
theorem k0_off709_inb : ∀ (v4595 : BitVec 32) (k0_hw243 : k0_chk243 v4595), ∀ a, (k0_off709 v4595) a + S1x1x512.size a ≤ S784x8x512.size a := fun v4595 k0_hw243 => k0_hw243.2

def k0_off710 (v4610 : BitVec 32) : Fin 3 → Nat :=
  let c1023_i32_2874 : BitVec 32 := 1023#32
  let v4611 : BitVec 32 := Scalar.andi v4610 c1023_i32_2874
  let v4694 : Index := Scalar.indexCast v4611
  let c3_2927 : Index := 3#32
  let c0_2928 : Index := 0#32
  ![v4694.toNat, 3, 0]

def k0_chk244 (v4610 : BitVec 32) : Prop :=
  (∀ a, (k0_off698 v4610) a + S1x1x512.size a ≤ S784x8x512.size a) ∧
  (∀ a, (k0_off710 v4610) a + S1x1x512.size a ≤ S784x8x512.size a)
theorem k0_off698_inb : ∀ (v4610 : BitVec 32) (k0_hw244 : k0_chk244 v4610), ∀ a, (k0_off698 v4610) a + S1x1x512.size a ≤ S784x8x512.size a := fun v4610 k0_hw244 => k0_hw244.1
theorem k0_off710_inb : ∀ (v4610 : BitVec 32) (k0_hw244 : k0_chk244 v4610), ∀ a, (k0_off710 v4610) a + S1x1x512.size a ≤ S784x8x512.size a := fun v4610 k0_hw244 => k0_hw244.2

def k0_off711 (v4625 : BitVec 32) : Fin 3 → Nat :=
  let c1023_i32_2884 : BitVec 32 := 1023#32
  let v4626 : BitVec 32 := Scalar.andi v4625 c1023_i32_2884
  let v4698 : Index := Scalar.indexCast v4626
  let c4_2929 : Index := 4#32
  let c0_2930 : Index := 0#32
  ![v4698.toNat, 4, 0]

def k0_chk245 (v4625 : BitVec 32) : Prop :=
  (∀ a, (k0_off700 v4625) a + S1x1x512.size a ≤ S784x8x512.size a) ∧
  (∀ a, (k0_off711 v4625) a + S1x1x512.size a ≤ S784x8x512.size a)
theorem k0_off700_inb : ∀ (v4625 : BitVec 32) (k0_hw245 : k0_chk245 v4625), ∀ a, (k0_off700 v4625) a + S1x1x512.size a ≤ S784x8x512.size a := fun v4625 k0_hw245 => k0_hw245.1
theorem k0_off711_inb : ∀ (v4625 : BitVec 32) (k0_hw245 : k0_chk245 v4625), ∀ a, (k0_off711 v4625) a + S1x1x512.size a ≤ S784x8x512.size a := fun v4625 k0_hw245 => k0_hw245.2

def k0_off712 (v4640 : BitVec 32) : Fin 3 → Nat :=
  let c1023_i32_2894 : BitVec 32 := 1023#32
  let v4641 : BitVec 32 := Scalar.andi v4640 c1023_i32_2894
  let v4702 : Index := Scalar.indexCast v4641
  let c5_2931 : Index := 5#32
  let c0_2932 : Index := 0#32
  ![v4702.toNat, 5, 0]

def k0_chk246 (v4640 : BitVec 32) : Prop :=
  (∀ a, (k0_off702 v4640) a + S1x1x512.size a ≤ S784x8x512.size a) ∧
  (∀ a, (k0_off712 v4640) a + S1x1x512.size a ≤ S784x8x512.size a)
theorem k0_off702_inb : ∀ (v4640 : BitVec 32) (k0_hw246 : k0_chk246 v4640), ∀ a, (k0_off702 v4640) a + S1x1x512.size a ≤ S784x8x512.size a := fun v4640 k0_hw246 => k0_hw246.1
theorem k0_off712_inb : ∀ (v4640 : BitVec 32) (k0_hw246 : k0_chk246 v4640), ∀ a, (k0_off712 v4640) a + S1x1x512.size a ≤ S784x8x512.size a := fun v4640 k0_hw246 => k0_hw246.2

def k0_off713 (v4655 : BitVec 32) : Fin 3 → Nat :=
  let c1023_i32_2904 : BitVec 32 := 1023#32
  let v4656 : BitVec 32 := Scalar.andi v4655 c1023_i32_2904
  let v4706 : Index := Scalar.indexCast v4656
  let c6_2933 : Index := 6#32
  let c0_2934 : Index := 0#32
  ![v4706.toNat, 6, 0]

def k0_chk247 (v4655 : BitVec 32) : Prop :=
  (∀ a, (k0_off704 v4655) a + S1x1x512.size a ≤ S784x8x512.size a) ∧
  (∀ a, (k0_off713 v4655) a + S1x1x512.size a ≤ S784x8x512.size a)
theorem k0_off704_inb : ∀ (v4655 : BitVec 32) (k0_hw247 : k0_chk247 v4655), ∀ a, (k0_off704 v4655) a + S1x1x512.size a ≤ S784x8x512.size a := fun v4655 k0_hw247 => k0_hw247.1
theorem k0_off713_inb : ∀ (v4655 : BitVec 32) (k0_hw247 : k0_chk247 v4655), ∀ a, (k0_off713 v4655) a + S1x1x512.size a ≤ S784x8x512.size a := fun v4655 k0_hw247 => k0_hw247.2

def k0_off714 (i : grid0.Coords) : Fin 2 → Nat :=
  let arg0 : BitVec 32 := BitVec.ofNat 32 (i 0).val
  let c8_i32_2937 : BitVec 32 := 8#32
  let v4714 : BitVec 32 := Scalar.muli arg0 c8_i32_2937
  let c0_i32_2938 : BitVec 32 := 0#32
  let v4715 : BitVec 32 := Scalar.addi v4714 c0_i32_2938
  let v4716 : Index := Scalar.indexCast v4715
  let c31 : Index := 31#32
  ![v4716.toNat, 31]
def k0_off715 (v4717 : BitVec 32) : Fin 3 → Nat :=
  let c1023_i32_2939 : BitVec 32 := 1023#32
  let v4718 : BitVec 32 := Scalar.andi v4717 c1023_i32_2939
  let v4725 : Index := Scalar.indexCast v4718
  let c0_2944 : Index := 0#32
  let c0_2945 : Index := 0#32
  ![v4725.toNat, 0, 0]

def k0_off716 (i : grid0.Coords) : Fin 2 → Nat :=
  let arg0 : BitVec 32 := BitVec.ofNat 32 (i 0).val
  let c8_i32_2946 : BitVec 32 := 8#32
  let v4729 : BitVec 32 := Scalar.muli arg0 c8_i32_2946
  let c1_i32_2947 : BitVec 32 := 1#32
  let v4730 : BitVec 32 := Scalar.addi v4729 c1_i32_2947
  let v4731 : Index := Scalar.indexCast v4730
  let c31_2948 : Index := 31#32
  ![v4731.toNat, 31]
def k0_off717 (v4732 : BitVec 32) : Fin 3 → Nat :=
  let c1023_i32_2949 : BitVec 32 := 1023#32
  let v4733 : BitVec 32 := Scalar.andi v4732 c1023_i32_2949
  let v4740 : Index := Scalar.indexCast v4733
  let c1_2954 : Index := 1#32
  let c0_2955 : Index := 0#32
  ![v4740.toNat, 1, 0]

def k0_off718 (i : grid0.Coords) : Fin 2 → Nat :=
  let arg0 : BitVec 32 := BitVec.ofNat 32 (i 0).val
  let c8_i32_2956 : BitVec 32 := 8#32
  let v4744 : BitVec 32 := Scalar.muli arg0 c8_i32_2956
  let c2_i32_2957 : BitVec 32 := 2#32
  let v4745 : BitVec 32 := Scalar.addi v4744 c2_i32_2957
  let v4746 : Index := Scalar.indexCast v4745
  let c31_2958 : Index := 31#32
  ![v4746.toNat, 31]
def k0_off719 (v4747 : BitVec 32) : Fin 3 → Nat :=
  let c1023_i32_2959 : BitVec 32 := 1023#32
  let v4748 : BitVec 32 := Scalar.andi v4747 c1023_i32_2959
  let v4755 : Index := Scalar.indexCast v4748
  let c2_2964 : Index := 2#32
  let c0_2965 : Index := 0#32
  ![v4755.toNat, 2, 0]

def k0_off720 (i : grid0.Coords) : Fin 2 → Nat :=
  let arg0 : BitVec 32 := BitVec.ofNat 32 (i 0).val
  let c8_i32_2966 : BitVec 32 := 8#32
  let v4759 : BitVec 32 := Scalar.muli arg0 c8_i32_2966
  let c3_i32_2967 : BitVec 32 := 3#32
  let v4760 : BitVec 32 := Scalar.addi v4759 c3_i32_2967
  let v4761 : Index := Scalar.indexCast v4760
  let c31_2968 : Index := 31#32
  ![v4761.toNat, 31]
def k0_off721 (v4762 : BitVec 32) : Fin 3 → Nat :=
  let c1023_i32_2969 : BitVec 32 := 1023#32
  let v4763 : BitVec 32 := Scalar.andi v4762 c1023_i32_2969
  let v4770 : Index := Scalar.indexCast v4763
  let c3_2974 : Index := 3#32
  let c0_2975 : Index := 0#32
  ![v4770.toNat, 3, 0]

def k0_off722 (i : grid0.Coords) : Fin 2 → Nat :=
  let arg0 : BitVec 32 := BitVec.ofNat 32 (i 0).val
  let c8_i32_2976 : BitVec 32 := 8#32
  let v4774 : BitVec 32 := Scalar.muli arg0 c8_i32_2976
  let c4_i32_2977 : BitVec 32 := 4#32
  let v4775 : BitVec 32 := Scalar.addi v4774 c4_i32_2977
  let v4776 : Index := Scalar.indexCast v4775
  let c31_2978 : Index := 31#32
  ![v4776.toNat, 31]
def k0_off723 (v4777 : BitVec 32) : Fin 3 → Nat :=
  let c1023_i32_2979 : BitVec 32 := 1023#32
  let v4778 : BitVec 32 := Scalar.andi v4777 c1023_i32_2979
  let v4785 : Index := Scalar.indexCast v4778
  let c4_2984 : Index := 4#32
  let c0_2985 : Index := 0#32
  ![v4785.toNat, 4, 0]

def k0_off724 (i : grid0.Coords) : Fin 2 → Nat :=
  let arg0 : BitVec 32 := BitVec.ofNat 32 (i 0).val
  let c8_i32_2986 : BitVec 32 := 8#32
  let v4789 : BitVec 32 := Scalar.muli arg0 c8_i32_2986
  let c5_i32_2987 : BitVec 32 := 5#32
  let v4790 : BitVec 32 := Scalar.addi v4789 c5_i32_2987
  let v4791 : Index := Scalar.indexCast v4790
  let c31_2988 : Index := 31#32
  ![v4791.toNat, 31]
def k0_off725 (v4792 : BitVec 32) : Fin 3 → Nat :=
  let c1023_i32_2989 : BitVec 32 := 1023#32
  let v4793 : BitVec 32 := Scalar.andi v4792 c1023_i32_2989
  let v4800 : Index := Scalar.indexCast v4793
  let c5_2994 : Index := 5#32
  let c0_2995 : Index := 0#32
  ![v4800.toNat, 5, 0]

def k0_off726 (i : grid0.Coords) : Fin 2 → Nat :=
  let arg0 : BitVec 32 := BitVec.ofNat 32 (i 0).val
  let c8_i32_2996 : BitVec 32 := 8#32
  let v4804 : BitVec 32 := Scalar.muli arg0 c8_i32_2996
  let c6_i32_2997 : BitVec 32 := 6#32
  let v4805 : BitVec 32 := Scalar.addi v4804 c6_i32_2997
  let v4806 : Index := Scalar.indexCast v4805
  let c31_2998 : Index := 31#32
  ![v4806.toNat, 31]
def k0_off727 (v4807 : BitVec 32) : Fin 3 → Nat :=
  let c1023_i32_2999 : BitVec 32 := 1023#32
  let v4808 : BitVec 32 := Scalar.andi v4807 c1023_i32_2999
  let v4815 : Index := Scalar.indexCast v4808
  let c6_3004 : Index := 6#32
  let c0_3005 : Index := 0#32
  ![v4815.toNat, 6, 0]

def k0_off728 (i : grid0.Coords) : Fin 2 → Nat :=
  let arg0 : BitVec 32 := BitVec.ofNat 32 (i 0).val
  let c8_i32_3006 : BitVec 32 := 8#32
  let v4819 : BitVec 32 := Scalar.muli arg0 c8_i32_3006
  let c7_i32_3007 : BitVec 32 := 7#32
  let v4820 : BitVec 32 := Scalar.addi v4819 c7_i32_3007
  let v4821 : Index := Scalar.indexCast v4820
  let c31_3008 : Index := 31#32
  ![v4821.toNat, 31]
def k0_off729 (v4822 : BitVec 32) : Fin 3 → Nat :=
  let c1023_i32_3009 : BitVec 32 := 1023#32
  let v4823 : BitVec 32 := Scalar.andi v4822 c1023_i32_3009
  let v4830 : Index := Scalar.indexCast v4823
  let c7_3014 : Index := 7#32
  let c0_3015 : Index := 0#32
  ![v4830.toNat, 7, 0]

def k0_chk256 (v4822 : BitVec 32) : Prop :=
  (∀ a, (k0_off729 v4822) a + S1x1x512.size a ≤ S784x8x512.size a)
theorem k0_off729_inb : ∀ (v4822 : BitVec 32) (k0_hw256 : k0_chk256 v4822), ∀ a, (k0_off729 v4822) a + S1x1x512.size a ≤ S784x8x512.size a := fun v4822 k0_hw256 => k0_hw256

def k0_off730 (v4717 : BitVec 32) : Fin 3 → Nat :=
  let c1023_i32_2939 : BitVec 32 := 1023#32
  let v4718 : BitVec 32 := Scalar.andi v4717 c1023_i32_2939
  let v4834 : Index := Scalar.indexCast v4718
  let c0_3016 : Index := 0#32
  let c0_3017 : Index := 0#32
  ![v4834.toNat, 0, 0]

def k0_chk249 (v4717 : BitVec 32) : Prop :=
  (∀ a, (k0_off715 v4717) a + S1x1x512.size a ≤ S784x8x512.size a) ∧
  (∀ a, (k0_off730 v4717) a + S1x1x512.size a ≤ S784x8x512.size a)
theorem k0_off715_inb : ∀ (v4717 : BitVec 32) (k0_hw249 : k0_chk249 v4717), ∀ a, (k0_off715 v4717) a + S1x1x512.size a ≤ S784x8x512.size a := fun v4717 k0_hw249 => k0_hw249.1
theorem k0_off730_inb : ∀ (v4717 : BitVec 32) (k0_hw249 : k0_chk249 v4717), ∀ a, (k0_off730 v4717) a + S1x1x512.size a ≤ S784x8x512.size a := fun v4717 k0_hw249 => k0_hw249.2

def k0_off731 (v4732 : BitVec 32) : Fin 3 → Nat :=
  let c1023_i32_2949 : BitVec 32 := 1023#32
  let v4733 : BitVec 32 := Scalar.andi v4732 c1023_i32_2949
  let v4838 : Index := Scalar.indexCast v4733
  let c1_3018 : Index := 1#32
  let c0_3019 : Index := 0#32
  ![v4838.toNat, 1, 0]

def k0_chk250 (v4732 : BitVec 32) : Prop :=
  (∀ a, (k0_off717 v4732) a + S1x1x512.size a ≤ S784x8x512.size a) ∧
  (∀ a, (k0_off731 v4732) a + S1x1x512.size a ≤ S784x8x512.size a)
theorem k0_off717_inb : ∀ (v4732 : BitVec 32) (k0_hw250 : k0_chk250 v4732), ∀ a, (k0_off717 v4732) a + S1x1x512.size a ≤ S784x8x512.size a := fun v4732 k0_hw250 => k0_hw250.1
theorem k0_off731_inb : ∀ (v4732 : BitVec 32) (k0_hw250 : k0_chk250 v4732), ∀ a, (k0_off731 v4732) a + S1x1x512.size a ≤ S784x8x512.size a := fun v4732 k0_hw250 => k0_hw250.2

def k0_off732 (v4747 : BitVec 32) : Fin 3 → Nat :=
  let c1023_i32_2959 : BitVec 32 := 1023#32
  let v4748 : BitVec 32 := Scalar.andi v4747 c1023_i32_2959
  let v4842 : Index := Scalar.indexCast v4748
  let c2_3020 : Index := 2#32
  let c0_3021 : Index := 0#32
  ![v4842.toNat, 2, 0]

def k0_chk251 (v4747 : BitVec 32) : Prop :=
  (∀ a, (k0_off719 v4747) a + S1x1x512.size a ≤ S784x8x512.size a) ∧
  (∀ a, (k0_off732 v4747) a + S1x1x512.size a ≤ S784x8x512.size a)
theorem k0_off719_inb : ∀ (v4747 : BitVec 32) (k0_hw251 : k0_chk251 v4747), ∀ a, (k0_off719 v4747) a + S1x1x512.size a ≤ S784x8x512.size a := fun v4747 k0_hw251 => k0_hw251.1
theorem k0_off732_inb : ∀ (v4747 : BitVec 32) (k0_hw251 : k0_chk251 v4747), ∀ a, (k0_off732 v4747) a + S1x1x512.size a ≤ S784x8x512.size a := fun v4747 k0_hw251 => k0_hw251.2

def k0_off733 (v4762 : BitVec 32) : Fin 3 → Nat :=
  let c1023_i32_2969 : BitVec 32 := 1023#32
  let v4763 : BitVec 32 := Scalar.andi v4762 c1023_i32_2969
  let v4846 : Index := Scalar.indexCast v4763
  let c3_3022 : Index := 3#32
  let c0_3023 : Index := 0#32
  ![v4846.toNat, 3, 0]

def k0_chk252 (v4762 : BitVec 32) : Prop :=
  (∀ a, (k0_off721 v4762) a + S1x1x512.size a ≤ S784x8x512.size a) ∧
  (∀ a, (k0_off733 v4762) a + S1x1x512.size a ≤ S784x8x512.size a)
theorem k0_off721_inb : ∀ (v4762 : BitVec 32) (k0_hw252 : k0_chk252 v4762), ∀ a, (k0_off721 v4762) a + S1x1x512.size a ≤ S784x8x512.size a := fun v4762 k0_hw252 => k0_hw252.1
theorem k0_off733_inb : ∀ (v4762 : BitVec 32) (k0_hw252 : k0_chk252 v4762), ∀ a, (k0_off733 v4762) a + S1x1x512.size a ≤ S784x8x512.size a := fun v4762 k0_hw252 => k0_hw252.2

def k0_off734 (v4777 : BitVec 32) : Fin 3 → Nat :=
  let c1023_i32_2979 : BitVec 32 := 1023#32
  let v4778 : BitVec 32 := Scalar.andi v4777 c1023_i32_2979
  let v4850 : Index := Scalar.indexCast v4778
  let c4_3024 : Index := 4#32
  let c0_3025 : Index := 0#32
  ![v4850.toNat, 4, 0]

def k0_chk253 (v4777 : BitVec 32) : Prop :=
  (∀ a, (k0_off723 v4777) a + S1x1x512.size a ≤ S784x8x512.size a) ∧
  (∀ a, (k0_off734 v4777) a + S1x1x512.size a ≤ S784x8x512.size a)
theorem k0_off723_inb : ∀ (v4777 : BitVec 32) (k0_hw253 : k0_chk253 v4777), ∀ a, (k0_off723 v4777) a + S1x1x512.size a ≤ S784x8x512.size a := fun v4777 k0_hw253 => k0_hw253.1
theorem k0_off734_inb : ∀ (v4777 : BitVec 32) (k0_hw253 : k0_chk253 v4777), ∀ a, (k0_off734 v4777) a + S1x1x512.size a ≤ S784x8x512.size a := fun v4777 k0_hw253 => k0_hw253.2

def k0_off735 (v4792 : BitVec 32) : Fin 3 → Nat :=
  let c1023_i32_2989 : BitVec 32 := 1023#32
  let v4793 : BitVec 32 := Scalar.andi v4792 c1023_i32_2989
  let v4854 : Index := Scalar.indexCast v4793
  let c5_3026 : Index := 5#32
  let c0_3027 : Index := 0#32
  ![v4854.toNat, 5, 0]

def k0_chk254 (v4792 : BitVec 32) : Prop :=
  (∀ a, (k0_off725 v4792) a + S1x1x512.size a ≤ S784x8x512.size a) ∧
  (∀ a, (k0_off735 v4792) a + S1x1x512.size a ≤ S784x8x512.size a)
theorem k0_off725_inb : ∀ (v4792 : BitVec 32) (k0_hw254 : k0_chk254 v4792), ∀ a, (k0_off725 v4792) a + S1x1x512.size a ≤ S784x8x512.size a := fun v4792 k0_hw254 => k0_hw254.1
theorem k0_off735_inb : ∀ (v4792 : BitVec 32) (k0_hw254 : k0_chk254 v4792), ∀ a, (k0_off735 v4792) a + S1x1x512.size a ≤ S784x8x512.size a := fun v4792 k0_hw254 => k0_hw254.2

def k0_off736 (v4807 : BitVec 32) : Fin 3 → Nat :=
  let c1023_i32_2999 : BitVec 32 := 1023#32
  let v4808 : BitVec 32 := Scalar.andi v4807 c1023_i32_2999
  let v4858 : Index := Scalar.indexCast v4808
  let c6_3028 : Index := 6#32
  let c0_3029 : Index := 0#32
  ![v4858.toNat, 6, 0]

def k0_chk255 (v4807 : BitVec 32) : Prop :=
  (∀ a, (k0_off727 v4807) a + S1x1x512.size a ≤ S784x8x512.size a) ∧
  (∀ a, (k0_off736 v4807) a + S1x1x512.size a ≤ S784x8x512.size a)
theorem k0_off727_inb : ∀ (v4807 : BitVec 32) (k0_hw255 : k0_chk255 v4807), ∀ a, (k0_off727 v4807) a + S1x1x512.size a ≤ S784x8x512.size a := fun v4807 k0_hw255 => k0_hw255.1
theorem k0_off736_inb : ∀ (v4807 : BitVec 32) (k0_hw255 : k0_chk255 v4807), ∀ a, (k0_off736 v4807) a + S1x1x512.size a ≤ S784x8x512.size a := fun v4807 k0_hw255 => k0_hw255.2

def k0_off737 (i : grid0.Coords) : Fin 2 → Nat :=
  let arg0 : BitVec 32 := BitVec.ofNat 32 (i 0).val
  let c8_i32_3032 : BitVec 32 := 8#32
  let v4866 : BitVec 32 := Scalar.muli arg0 c8_i32_3032
  let c0_i32_3033 : BitVec 32 := 0#32
  let v4867 : BitVec 32 := Scalar.addi v4866 c0_i32_3033
  let v4868 : Index := Scalar.indexCast v4867
  let c32 : Index := 32#32
  ![v4868.toNat, 32]
def k0_off738 (v4869 : BitVec 32) : Fin 3 → Nat :=
  let c1023_i32_3034 : BitVec 32 := 1023#32
  let v4870 : BitVec 32 := Scalar.andi v4869 c1023_i32_3034
  let v4877 : Index := Scalar.indexCast v4870
  let c0_3039 : Index := 0#32
  let c0_3040 : Index := 0#32
  ![v4877.toNat, 0, 0]

def k0_off739 (i : grid0.Coords) : Fin 2 → Nat :=
  let arg0 : BitVec 32 := BitVec.ofNat 32 (i 0).val
  let c8_i32_3041 : BitVec 32 := 8#32
  let v4881 : BitVec 32 := Scalar.muli arg0 c8_i32_3041
  let c1_i32_3042 : BitVec 32 := 1#32
  let v4882 : BitVec 32 := Scalar.addi v4881 c1_i32_3042
  let v4883 : Index := Scalar.indexCast v4882
  let c32_3043 : Index := 32#32
  ![v4883.toNat, 32]
def k0_off740 (v4884 : BitVec 32) : Fin 3 → Nat :=
  let c1023_i32_3044 : BitVec 32 := 1023#32
  let v4885 : BitVec 32 := Scalar.andi v4884 c1023_i32_3044
  let v4892 : Index := Scalar.indexCast v4885
  let c1_3049 : Index := 1#32
  let c0_3050 : Index := 0#32
  ![v4892.toNat, 1, 0]

def k0_off741 (i : grid0.Coords) : Fin 2 → Nat :=
  let arg0 : BitVec 32 := BitVec.ofNat 32 (i 0).val
  let c8_i32_3051 : BitVec 32 := 8#32
  let v4896 : BitVec 32 := Scalar.muli arg0 c8_i32_3051
  let c2_i32_3052 : BitVec 32 := 2#32
  let v4897 : BitVec 32 := Scalar.addi v4896 c2_i32_3052
  let v4898 : Index := Scalar.indexCast v4897
  let c32_3053 : Index := 32#32
  ![v4898.toNat, 32]
def k0_off742 (v4899 : BitVec 32) : Fin 3 → Nat :=
  let c1023_i32_3054 : BitVec 32 := 1023#32
  let v4900 : BitVec 32 := Scalar.andi v4899 c1023_i32_3054
  let v4907 : Index := Scalar.indexCast v4900
  let c2_3059 : Index := 2#32
  let c0_3060 : Index := 0#32
  ![v4907.toNat, 2, 0]

def k0_off743 (i : grid0.Coords) : Fin 2 → Nat :=
  let arg0 : BitVec 32 := BitVec.ofNat 32 (i 0).val
  let c8_i32_3061 : BitVec 32 := 8#32
  let v4911 : BitVec 32 := Scalar.muli arg0 c8_i32_3061
  let c3_i32_3062 : BitVec 32 := 3#32
  let v4912 : BitVec 32 := Scalar.addi v4911 c3_i32_3062
  let v4913 : Index := Scalar.indexCast v4912
  let c32_3063 : Index := 32#32
  ![v4913.toNat, 32]
def k0_off744 (v4914 : BitVec 32) : Fin 3 → Nat :=
  let c1023_i32_3064 : BitVec 32 := 1023#32
  let v4915 : BitVec 32 := Scalar.andi v4914 c1023_i32_3064
  let v4922 : Index := Scalar.indexCast v4915
  let c3_3069 : Index := 3#32
  let c0_3070 : Index := 0#32
  ![v4922.toNat, 3, 0]

def k0_off745 (i : grid0.Coords) : Fin 2 → Nat :=
  let arg0 : BitVec 32 := BitVec.ofNat 32 (i 0).val
  let c8_i32_3071 : BitVec 32 := 8#32
  let v4926 : BitVec 32 := Scalar.muli arg0 c8_i32_3071
  let c4_i32_3072 : BitVec 32 := 4#32
  let v4927 : BitVec 32 := Scalar.addi v4926 c4_i32_3072
  let v4928 : Index := Scalar.indexCast v4927
  let c32_3073 : Index := 32#32
  ![v4928.toNat, 32]
def k0_off746 (v4929 : BitVec 32) : Fin 3 → Nat :=
  let c1023_i32_3074 : BitVec 32 := 1023#32
  let v4930 : BitVec 32 := Scalar.andi v4929 c1023_i32_3074
  let v4937 : Index := Scalar.indexCast v4930
  let c4_3079 : Index := 4#32
  let c0_3080 : Index := 0#32
  ![v4937.toNat, 4, 0]

def k0_off747 (i : grid0.Coords) : Fin 2 → Nat :=
  let arg0 : BitVec 32 := BitVec.ofNat 32 (i 0).val
  let c8_i32_3081 : BitVec 32 := 8#32
  let v4941 : BitVec 32 := Scalar.muli arg0 c8_i32_3081
  let c5_i32_3082 : BitVec 32 := 5#32
  let v4942 : BitVec 32 := Scalar.addi v4941 c5_i32_3082
  let v4943 : Index := Scalar.indexCast v4942
  let c32_3083 : Index := 32#32
  ![v4943.toNat, 32]
def k0_off748 (v4944 : BitVec 32) : Fin 3 → Nat :=
  let c1023_i32_3084 : BitVec 32 := 1023#32
  let v4945 : BitVec 32 := Scalar.andi v4944 c1023_i32_3084
  let v4952 : Index := Scalar.indexCast v4945
  let c5_3089 : Index := 5#32
  let c0_3090 : Index := 0#32
  ![v4952.toNat, 5, 0]

def k0_off749 (i : grid0.Coords) : Fin 2 → Nat :=
  let arg0 : BitVec 32 := BitVec.ofNat 32 (i 0).val
  let c8_i32_3091 : BitVec 32 := 8#32
  let v4956 : BitVec 32 := Scalar.muli arg0 c8_i32_3091
  let c6_i32_3092 : BitVec 32 := 6#32
  let v4957 : BitVec 32 := Scalar.addi v4956 c6_i32_3092
  let v4958 : Index := Scalar.indexCast v4957
  let c32_3093 : Index := 32#32
  ![v4958.toNat, 32]
def k0_off750 (v4959 : BitVec 32) : Fin 3 → Nat :=
  let c1023_i32_3094 : BitVec 32 := 1023#32
  let v4960 : BitVec 32 := Scalar.andi v4959 c1023_i32_3094
  let v4967 : Index := Scalar.indexCast v4960
  let c6_3099 : Index := 6#32
  let c0_3100 : Index := 0#32
  ![v4967.toNat, 6, 0]

def k0_off751 (i : grid0.Coords) : Fin 2 → Nat :=
  let arg0 : BitVec 32 := BitVec.ofNat 32 (i 0).val
  let c8_i32_3101 : BitVec 32 := 8#32
  let v4971 : BitVec 32 := Scalar.muli arg0 c8_i32_3101
  let c7_i32_3102 : BitVec 32 := 7#32
  let v4972 : BitVec 32 := Scalar.addi v4971 c7_i32_3102
  let v4973 : Index := Scalar.indexCast v4972
  let c32_3103 : Index := 32#32
  ![v4973.toNat, 32]
def k0_off752 (v4974 : BitVec 32) : Fin 3 → Nat :=
  let c1023_i32_3104 : BitVec 32 := 1023#32
  let v4975 : BitVec 32 := Scalar.andi v4974 c1023_i32_3104
  let v4982 : Index := Scalar.indexCast v4975
  let c7_3109 : Index := 7#32
  let c0_3110 : Index := 0#32
  ![v4982.toNat, 7, 0]

def k0_chk264 (v4974 : BitVec 32) : Prop :=
  (∀ a, (k0_off752 v4974) a + S1x1x512.size a ≤ S784x8x512.size a)
theorem k0_off752_inb : ∀ (v4974 : BitVec 32) (k0_hw264 : k0_chk264 v4974), ∀ a, (k0_off752 v4974) a + S1x1x512.size a ≤ S784x8x512.size a := fun v4974 k0_hw264 => k0_hw264

def k0_off753 (v4869 : BitVec 32) : Fin 3 → Nat :=
  let c1023_i32_3034 : BitVec 32 := 1023#32
  let v4870 : BitVec 32 := Scalar.andi v4869 c1023_i32_3034
  let v4986 : Index := Scalar.indexCast v4870
  let c0_3111 : Index := 0#32
  let c0_3112 : Index := 0#32
  ![v4986.toNat, 0, 0]

def k0_chk257 (v4869 : BitVec 32) : Prop :=
  (∀ a, (k0_off738 v4869) a + S1x1x512.size a ≤ S784x8x512.size a) ∧
  (∀ a, (k0_off753 v4869) a + S1x1x512.size a ≤ S784x8x512.size a)
theorem k0_off738_inb : ∀ (v4869 : BitVec 32) (k0_hw257 : k0_chk257 v4869), ∀ a, (k0_off738 v4869) a + S1x1x512.size a ≤ S784x8x512.size a := fun v4869 k0_hw257 => k0_hw257.1
theorem k0_off753_inb : ∀ (v4869 : BitVec 32) (k0_hw257 : k0_chk257 v4869), ∀ a, (k0_off753 v4869) a + S1x1x512.size a ≤ S784x8x512.size a := fun v4869 k0_hw257 => k0_hw257.2

def k0_off754 (v4884 : BitVec 32) : Fin 3 → Nat :=
  let c1023_i32_3044 : BitVec 32 := 1023#32
  let v4885 : BitVec 32 := Scalar.andi v4884 c1023_i32_3044
  let v4990 : Index := Scalar.indexCast v4885
  let c1_3113 : Index := 1#32
  let c0_3114 : Index := 0#32
  ![v4990.toNat, 1, 0]

def k0_chk258 (v4884 : BitVec 32) : Prop :=
  (∀ a, (k0_off740 v4884) a + S1x1x512.size a ≤ S784x8x512.size a) ∧
  (∀ a, (k0_off754 v4884) a + S1x1x512.size a ≤ S784x8x512.size a)
theorem k0_off740_inb : ∀ (v4884 : BitVec 32) (k0_hw258 : k0_chk258 v4884), ∀ a, (k0_off740 v4884) a + S1x1x512.size a ≤ S784x8x512.size a := fun v4884 k0_hw258 => k0_hw258.1
theorem k0_off754_inb : ∀ (v4884 : BitVec 32) (k0_hw258 : k0_chk258 v4884), ∀ a, (k0_off754 v4884) a + S1x1x512.size a ≤ S784x8x512.size a := fun v4884 k0_hw258 => k0_hw258.2

def k0_off755 (v4899 : BitVec 32) : Fin 3 → Nat :=
  let c1023_i32_3054 : BitVec 32 := 1023#32
  let v4900 : BitVec 32 := Scalar.andi v4899 c1023_i32_3054
  let v4994 : Index := Scalar.indexCast v4900
  let c2_3115 : Index := 2#32
  let c0_3116 : Index := 0#32
  ![v4994.toNat, 2, 0]

def k0_chk259 (v4899 : BitVec 32) : Prop :=
  (∀ a, (k0_off742 v4899) a + S1x1x512.size a ≤ S784x8x512.size a) ∧
  (∀ a, (k0_off755 v4899) a + S1x1x512.size a ≤ S784x8x512.size a)
theorem k0_off742_inb : ∀ (v4899 : BitVec 32) (k0_hw259 : k0_chk259 v4899), ∀ a, (k0_off742 v4899) a + S1x1x512.size a ≤ S784x8x512.size a := fun v4899 k0_hw259 => k0_hw259.1
theorem k0_off755_inb : ∀ (v4899 : BitVec 32) (k0_hw259 : k0_chk259 v4899), ∀ a, (k0_off755 v4899) a + S1x1x512.size a ≤ S784x8x512.size a := fun v4899 k0_hw259 => k0_hw259.2

def k0_off756 (v4914 : BitVec 32) : Fin 3 → Nat :=
  let c1023_i32_3064 : BitVec 32 := 1023#32
  let v4915 : BitVec 32 := Scalar.andi v4914 c1023_i32_3064
  let v4998 : Index := Scalar.indexCast v4915
  let c3_3117 : Index := 3#32
  let c0_3118 : Index := 0#32
  ![v4998.toNat, 3, 0]

def k0_chk260 (v4914 : BitVec 32) : Prop :=
  (∀ a, (k0_off744 v4914) a + S1x1x512.size a ≤ S784x8x512.size a) ∧
  (∀ a, (k0_off756 v4914) a + S1x1x512.size a ≤ S784x8x512.size a)
theorem k0_off744_inb : ∀ (v4914 : BitVec 32) (k0_hw260 : k0_chk260 v4914), ∀ a, (k0_off744 v4914) a + S1x1x512.size a ≤ S784x8x512.size a := fun v4914 k0_hw260 => k0_hw260.1
theorem k0_off756_inb : ∀ (v4914 : BitVec 32) (k0_hw260 : k0_chk260 v4914), ∀ a, (k0_off756 v4914) a + S1x1x512.size a ≤ S784x8x512.size a := fun v4914 k0_hw260 => k0_hw260.2

def k0_off757 (v4929 : BitVec 32) : Fin 3 → Nat :=
  let c1023_i32_3074 : BitVec 32 := 1023#32
  let v4930 : BitVec 32 := Scalar.andi v4929 c1023_i32_3074
  let v5002 : Index := Scalar.indexCast v4930
  let c4_3119 : Index := 4#32
  let c0_3120 : Index := 0#32
  ![v5002.toNat, 4, 0]

def k0_chk261 (v4929 : BitVec 32) : Prop :=
  (∀ a, (k0_off746 v4929) a + S1x1x512.size a ≤ S784x8x512.size a) ∧
  (∀ a, (k0_off757 v4929) a + S1x1x512.size a ≤ S784x8x512.size a)
theorem k0_off746_inb : ∀ (v4929 : BitVec 32) (k0_hw261 : k0_chk261 v4929), ∀ a, (k0_off746 v4929) a + S1x1x512.size a ≤ S784x8x512.size a := fun v4929 k0_hw261 => k0_hw261.1
theorem k0_off757_inb : ∀ (v4929 : BitVec 32) (k0_hw261 : k0_chk261 v4929), ∀ a, (k0_off757 v4929) a + S1x1x512.size a ≤ S784x8x512.size a := fun v4929 k0_hw261 => k0_hw261.2

def k0_off758 (v4944 : BitVec 32) : Fin 3 → Nat :=
  let c1023_i32_3084 : BitVec 32 := 1023#32
  let v4945 : BitVec 32 := Scalar.andi v4944 c1023_i32_3084
  let v5006 : Index := Scalar.indexCast v4945
  let c5_3121 : Index := 5#32
  let c0_3122 : Index := 0#32
  ![v5006.toNat, 5, 0]

def k0_chk262 (v4944 : BitVec 32) : Prop :=
  (∀ a, (k0_off748 v4944) a + S1x1x512.size a ≤ S784x8x512.size a) ∧
  (∀ a, (k0_off758 v4944) a + S1x1x512.size a ≤ S784x8x512.size a)
theorem k0_off748_inb : ∀ (v4944 : BitVec 32) (k0_hw262 : k0_chk262 v4944), ∀ a, (k0_off748 v4944) a + S1x1x512.size a ≤ S784x8x512.size a := fun v4944 k0_hw262 => k0_hw262.1
theorem k0_off758_inb : ∀ (v4944 : BitVec 32) (k0_hw262 : k0_chk262 v4944), ∀ a, (k0_off758 v4944) a + S1x1x512.size a ≤ S784x8x512.size a := fun v4944 k0_hw262 => k0_hw262.2

def k0_off759 (v4959 : BitVec 32) : Fin 3 → Nat :=
  let c1023_i32_3094 : BitVec 32 := 1023#32
  let v4960 : BitVec 32 := Scalar.andi v4959 c1023_i32_3094
  let v5010 : Index := Scalar.indexCast v4960
  let c6_3123 : Index := 6#32
  let c0_3124 : Index := 0#32
  ![v5010.toNat, 6, 0]

def k0_chk263 (v4959 : BitVec 32) : Prop :=
  (∀ a, (k0_off750 v4959) a + S1x1x512.size a ≤ S784x8x512.size a) ∧
  (∀ a, (k0_off759 v4959) a + S1x1x512.size a ≤ S784x8x512.size a)
theorem k0_off750_inb : ∀ (v4959 : BitVec 32) (k0_hw263 : k0_chk263 v4959), ∀ a, (k0_off750 v4959) a + S1x1x512.size a ≤ S784x8x512.size a := fun v4959 k0_hw263 => k0_hw263.1
theorem k0_off759_inb : ∀ (v4959 : BitVec 32) (k0_hw263 : k0_chk263 v4959), ∀ a, (k0_off759 v4959) a + S1x1x512.size a ≤ S784x8x512.size a := fun v4959 k0_hw263 => k0_hw263.2

def k0_off760 (i : grid0.Coords) : Fin 2 → Nat :=
  let arg0 : BitVec 32 := BitVec.ofNat 32 (i 0).val
  let c8_i32_3127 : BitVec 32 := 8#32
  let v5018 : BitVec 32 := Scalar.muli arg0 c8_i32_3127
  let c0_i32_3128 : BitVec 32 := 0#32
  let v5019 : BitVec 32 := Scalar.addi v5018 c0_i32_3128
  let v5020 : Index := Scalar.indexCast v5019
  let c33 : Index := 33#32
  ![v5020.toNat, 33]
def k0_off761 (v5021 : BitVec 32) : Fin 3 → Nat :=
  let c1023_i32_3129 : BitVec 32 := 1023#32
  let v5022 : BitVec 32 := Scalar.andi v5021 c1023_i32_3129
  let v5029 : Index := Scalar.indexCast v5022
  let c0_3134 : Index := 0#32
  let c0_3135 : Index := 0#32
  ![v5029.toNat, 0, 0]

def k0_off762 (i : grid0.Coords) : Fin 2 → Nat :=
  let arg0 : BitVec 32 := BitVec.ofNat 32 (i 0).val
  let c8_i32_3136 : BitVec 32 := 8#32
  let v5033 : BitVec 32 := Scalar.muli arg0 c8_i32_3136
  let c1_i32_3137 : BitVec 32 := 1#32
  let v5034 : BitVec 32 := Scalar.addi v5033 c1_i32_3137
  let v5035 : Index := Scalar.indexCast v5034
  let c33_3138 : Index := 33#32
  ![v5035.toNat, 33]
def k0_off763 (v5036 : BitVec 32) : Fin 3 → Nat :=
  let c1023_i32_3139 : BitVec 32 := 1023#32
  let v5037 : BitVec 32 := Scalar.andi v5036 c1023_i32_3139
  let v5044 : Index := Scalar.indexCast v5037
  let c1_3144 : Index := 1#32
  let c0_3145 : Index := 0#32
  ![v5044.toNat, 1, 0]

def k0_off764 (i : grid0.Coords) : Fin 2 → Nat :=
  let arg0 : BitVec 32 := BitVec.ofNat 32 (i 0).val
  let c8_i32_3146 : BitVec 32 := 8#32
  let v5048 : BitVec 32 := Scalar.muli arg0 c8_i32_3146
  let c2_i32_3147 : BitVec 32 := 2#32
  let v5049 : BitVec 32 := Scalar.addi v5048 c2_i32_3147
  let v5050 : Index := Scalar.indexCast v5049
  let c33_3148 : Index := 33#32
  ![v5050.toNat, 33]
def k0_off765 (v5051 : BitVec 32) : Fin 3 → Nat :=
  let c1023_i32_3149 : BitVec 32 := 1023#32
  let v5052 : BitVec 32 := Scalar.andi v5051 c1023_i32_3149
  let v5059 : Index := Scalar.indexCast v5052
  let c2_3154 : Index := 2#32
  let c0_3155 : Index := 0#32
  ![v5059.toNat, 2, 0]

def k0_off766 (i : grid0.Coords) : Fin 2 → Nat :=
  let arg0 : BitVec 32 := BitVec.ofNat 32 (i 0).val
  let c8_i32_3156 : BitVec 32 := 8#32
  let v5063 : BitVec 32 := Scalar.muli arg0 c8_i32_3156
  let c3_i32_3157 : BitVec 32 := 3#32
  let v5064 : BitVec 32 := Scalar.addi v5063 c3_i32_3157
  let v5065 : Index := Scalar.indexCast v5064
  let c33_3158 : Index := 33#32
  ![v5065.toNat, 33]
def k0_off767 (v5066 : BitVec 32) : Fin 3 → Nat :=
  let c1023_i32_3159 : BitVec 32 := 1023#32
  let v5067 : BitVec 32 := Scalar.andi v5066 c1023_i32_3159
  let v5074 : Index := Scalar.indexCast v5067
  let c3_3164 : Index := 3#32
  let c0_3165 : Index := 0#32
  ![v5074.toNat, 3, 0]

def k0_off768 (i : grid0.Coords) : Fin 2 → Nat :=
  let arg0 : BitVec 32 := BitVec.ofNat 32 (i 0).val
  let c8_i32_3166 : BitVec 32 := 8#32
  let v5078 : BitVec 32 := Scalar.muli arg0 c8_i32_3166
  let c4_i32_3167 : BitVec 32 := 4#32
  let v5079 : BitVec 32 := Scalar.addi v5078 c4_i32_3167
  let v5080 : Index := Scalar.indexCast v5079
  let c33_3168 : Index := 33#32
  ![v5080.toNat, 33]
def k0_off769 (v5081 : BitVec 32) : Fin 3 → Nat :=
  let c1023_i32_3169 : BitVec 32 := 1023#32
  let v5082 : BitVec 32 := Scalar.andi v5081 c1023_i32_3169
  let v5089 : Index := Scalar.indexCast v5082
  let c4_3174 : Index := 4#32
  let c0_3175 : Index := 0#32
  ![v5089.toNat, 4, 0]

def k0_off770 (i : grid0.Coords) : Fin 2 → Nat :=
  let arg0 : BitVec 32 := BitVec.ofNat 32 (i 0).val
  let c8_i32_3176 : BitVec 32 := 8#32
  let v5093 : BitVec 32 := Scalar.muli arg0 c8_i32_3176
  let c5_i32_3177 : BitVec 32 := 5#32
  let v5094 : BitVec 32 := Scalar.addi v5093 c5_i32_3177
  let v5095 : Index := Scalar.indexCast v5094
  let c33_3178 : Index := 33#32
  ![v5095.toNat, 33]
def k0_off771 (v5096 : BitVec 32) : Fin 3 → Nat :=
  let c1023_i32_3179 : BitVec 32 := 1023#32
  let v5097 : BitVec 32 := Scalar.andi v5096 c1023_i32_3179
  let v5104 : Index := Scalar.indexCast v5097
  let c5_3184 : Index := 5#32
  let c0_3185 : Index := 0#32
  ![v5104.toNat, 5, 0]

def k0_off772 (i : grid0.Coords) : Fin 2 → Nat :=
  let arg0 : BitVec 32 := BitVec.ofNat 32 (i 0).val
  let c8_i32_3186 : BitVec 32 := 8#32
  let v5108 : BitVec 32 := Scalar.muli arg0 c8_i32_3186
  let c6_i32_3187 : BitVec 32 := 6#32
  let v5109 : BitVec 32 := Scalar.addi v5108 c6_i32_3187
  let v5110 : Index := Scalar.indexCast v5109
  let c33_3188 : Index := 33#32
  ![v5110.toNat, 33]
def k0_off773 (v5111 : BitVec 32) : Fin 3 → Nat :=
  let c1023_i32_3189 : BitVec 32 := 1023#32
  let v5112 : BitVec 32 := Scalar.andi v5111 c1023_i32_3189
  let v5119 : Index := Scalar.indexCast v5112
  let c6_3194 : Index := 6#32
  let c0_3195 : Index := 0#32
  ![v5119.toNat, 6, 0]

def k0_off774 (i : grid0.Coords) : Fin 2 → Nat :=
  let arg0 : BitVec 32 := BitVec.ofNat 32 (i 0).val
  let c8_i32_3196 : BitVec 32 := 8#32
  let v5123 : BitVec 32 := Scalar.muli arg0 c8_i32_3196
  let c7_i32_3197 : BitVec 32 := 7#32
  let v5124 : BitVec 32 := Scalar.addi v5123 c7_i32_3197
  let v5125 : Index := Scalar.indexCast v5124
  let c33_3198 : Index := 33#32
  ![v5125.toNat, 33]
def k0_off775 (v5126 : BitVec 32) : Fin 3 → Nat :=
  let c1023_i32_3199 : BitVec 32 := 1023#32
  let v5127 : BitVec 32 := Scalar.andi v5126 c1023_i32_3199
  let v5134 : Index := Scalar.indexCast v5127
  let c7_3204 : Index := 7#32
  let c0_3205 : Index := 0#32
  ![v5134.toNat, 7, 0]

def k0_chk272 (v5126 : BitVec 32) : Prop :=
  (∀ a, (k0_off775 v5126) a + S1x1x512.size a ≤ S784x8x512.size a)
theorem k0_off775_inb : ∀ (v5126 : BitVec 32) (k0_hw272 : k0_chk272 v5126), ∀ a, (k0_off775 v5126) a + S1x1x512.size a ≤ S784x8x512.size a := fun v5126 k0_hw272 => k0_hw272

def k0_off776 (v5021 : BitVec 32) : Fin 3 → Nat :=
  let c1023_i32_3129 : BitVec 32 := 1023#32
  let v5022 : BitVec 32 := Scalar.andi v5021 c1023_i32_3129
  let v5138 : Index := Scalar.indexCast v5022
  let c0_3206 : Index := 0#32
  let c0_3207 : Index := 0#32
  ![v5138.toNat, 0, 0]

def k0_chk265 (v5021 : BitVec 32) : Prop :=
  (∀ a, (k0_off761 v5021) a + S1x1x512.size a ≤ S784x8x512.size a) ∧
  (∀ a, (k0_off776 v5021) a + S1x1x512.size a ≤ S784x8x512.size a)
theorem k0_off761_inb : ∀ (v5021 : BitVec 32) (k0_hw265 : k0_chk265 v5021), ∀ a, (k0_off761 v5021) a + S1x1x512.size a ≤ S784x8x512.size a := fun v5021 k0_hw265 => k0_hw265.1
theorem k0_off776_inb : ∀ (v5021 : BitVec 32) (k0_hw265 : k0_chk265 v5021), ∀ a, (k0_off776 v5021) a + S1x1x512.size a ≤ S784x8x512.size a := fun v5021 k0_hw265 => k0_hw265.2

def k0_off777 (v5036 : BitVec 32) : Fin 3 → Nat :=
  let c1023_i32_3139 : BitVec 32 := 1023#32
  let v5037 : BitVec 32 := Scalar.andi v5036 c1023_i32_3139
  let v5142 : Index := Scalar.indexCast v5037
  let c1_3208 : Index := 1#32
  let c0_3209 : Index := 0#32
  ![v5142.toNat, 1, 0]

def k0_chk266 (v5036 : BitVec 32) : Prop :=
  (∀ a, (k0_off763 v5036) a + S1x1x512.size a ≤ S784x8x512.size a) ∧
  (∀ a, (k0_off777 v5036) a + S1x1x512.size a ≤ S784x8x512.size a)
theorem k0_off763_inb : ∀ (v5036 : BitVec 32) (k0_hw266 : k0_chk266 v5036), ∀ a, (k0_off763 v5036) a + S1x1x512.size a ≤ S784x8x512.size a := fun v5036 k0_hw266 => k0_hw266.1
theorem k0_off777_inb : ∀ (v5036 : BitVec 32) (k0_hw266 : k0_chk266 v5036), ∀ a, (k0_off777 v5036) a + S1x1x512.size a ≤ S784x8x512.size a := fun v5036 k0_hw266 => k0_hw266.2

def k0_off778 (v5051 : BitVec 32) : Fin 3 → Nat :=
  let c1023_i32_3149 : BitVec 32 := 1023#32
  let v5052 : BitVec 32 := Scalar.andi v5051 c1023_i32_3149
  let v5146 : Index := Scalar.indexCast v5052
  let c2_3210 : Index := 2#32
  let c0_3211 : Index := 0#32
  ![v5146.toNat, 2, 0]

def k0_chk267 (v5051 : BitVec 32) : Prop :=
  (∀ a, (k0_off765 v5051) a + S1x1x512.size a ≤ S784x8x512.size a) ∧
  (∀ a, (k0_off778 v5051) a + S1x1x512.size a ≤ S784x8x512.size a)
theorem k0_off765_inb : ∀ (v5051 : BitVec 32) (k0_hw267 : k0_chk267 v5051), ∀ a, (k0_off765 v5051) a + S1x1x512.size a ≤ S784x8x512.size a := fun v5051 k0_hw267 => k0_hw267.1
theorem k0_off778_inb : ∀ (v5051 : BitVec 32) (k0_hw267 : k0_chk267 v5051), ∀ a, (k0_off778 v5051) a + S1x1x512.size a ≤ S784x8x512.size a := fun v5051 k0_hw267 => k0_hw267.2

def k0_off779 (v5066 : BitVec 32) : Fin 3 → Nat :=
  let c1023_i32_3159 : BitVec 32 := 1023#32
  let v5067 : BitVec 32 := Scalar.andi v5066 c1023_i32_3159
  let v5150 : Index := Scalar.indexCast v5067
  let c3_3212 : Index := 3#32
  let c0_3213 : Index := 0#32
  ![v5150.toNat, 3, 0]

def k0_chk268 (v5066 : BitVec 32) : Prop :=
  (∀ a, (k0_off767 v5066) a + S1x1x512.size a ≤ S784x8x512.size a) ∧
  (∀ a, (k0_off779 v5066) a + S1x1x512.size a ≤ S784x8x512.size a)
theorem k0_off767_inb : ∀ (v5066 : BitVec 32) (k0_hw268 : k0_chk268 v5066), ∀ a, (k0_off767 v5066) a + S1x1x512.size a ≤ S784x8x512.size a := fun v5066 k0_hw268 => k0_hw268.1
theorem k0_off779_inb : ∀ (v5066 : BitVec 32) (k0_hw268 : k0_chk268 v5066), ∀ a, (k0_off779 v5066) a + S1x1x512.size a ≤ S784x8x512.size a := fun v5066 k0_hw268 => k0_hw268.2

def k0_off780 (v5081 : BitVec 32) : Fin 3 → Nat :=
  let c1023_i32_3169 : BitVec 32 := 1023#32
  let v5082 : BitVec 32 := Scalar.andi v5081 c1023_i32_3169
  let v5154 : Index := Scalar.indexCast v5082
  let c4_3214 : Index := 4#32
  let c0_3215 : Index := 0#32
  ![v5154.toNat, 4, 0]

def k0_chk269 (v5081 : BitVec 32) : Prop :=
  (∀ a, (k0_off769 v5081) a + S1x1x512.size a ≤ S784x8x512.size a) ∧
  (∀ a, (k0_off780 v5081) a + S1x1x512.size a ≤ S784x8x512.size a)
theorem k0_off769_inb : ∀ (v5081 : BitVec 32) (k0_hw269 : k0_chk269 v5081), ∀ a, (k0_off769 v5081) a + S1x1x512.size a ≤ S784x8x512.size a := fun v5081 k0_hw269 => k0_hw269.1
theorem k0_off780_inb : ∀ (v5081 : BitVec 32) (k0_hw269 : k0_chk269 v5081), ∀ a, (k0_off780 v5081) a + S1x1x512.size a ≤ S784x8x512.size a := fun v5081 k0_hw269 => k0_hw269.2

def k0_off781 (v5096 : BitVec 32) : Fin 3 → Nat :=
  let c1023_i32_3179 : BitVec 32 := 1023#32
  let v5097 : BitVec 32 := Scalar.andi v5096 c1023_i32_3179
  let v5158 : Index := Scalar.indexCast v5097
  let c5_3216 : Index := 5#32
  let c0_3217 : Index := 0#32
  ![v5158.toNat, 5, 0]

def k0_chk270 (v5096 : BitVec 32) : Prop :=
  (∀ a, (k0_off771 v5096) a + S1x1x512.size a ≤ S784x8x512.size a) ∧
  (∀ a, (k0_off781 v5096) a + S1x1x512.size a ≤ S784x8x512.size a)
theorem k0_off771_inb : ∀ (v5096 : BitVec 32) (k0_hw270 : k0_chk270 v5096), ∀ a, (k0_off771 v5096) a + S1x1x512.size a ≤ S784x8x512.size a := fun v5096 k0_hw270 => k0_hw270.1
theorem k0_off781_inb : ∀ (v5096 : BitVec 32) (k0_hw270 : k0_chk270 v5096), ∀ a, (k0_off781 v5096) a + S1x1x512.size a ≤ S784x8x512.size a := fun v5096 k0_hw270 => k0_hw270.2

def k0_off782 (v5111 : BitVec 32) : Fin 3 → Nat :=
  let c1023_i32_3189 : BitVec 32 := 1023#32
  let v5112 : BitVec 32 := Scalar.andi v5111 c1023_i32_3189
  let v5162 : Index := Scalar.indexCast v5112
  let c6_3218 : Index := 6#32
  let c0_3219 : Index := 0#32
  ![v5162.toNat, 6, 0]

def k0_chk271 (v5111 : BitVec 32) : Prop :=
  (∀ a, (k0_off773 v5111) a + S1x1x512.size a ≤ S784x8x512.size a) ∧
  (∀ a, (k0_off782 v5111) a + S1x1x512.size a ≤ S784x8x512.size a)
theorem k0_off773_inb : ∀ (v5111 : BitVec 32) (k0_hw271 : k0_chk271 v5111), ∀ a, (k0_off773 v5111) a + S1x1x512.size a ≤ S784x8x512.size a := fun v5111 k0_hw271 => k0_hw271.1
theorem k0_off782_inb : ∀ (v5111 : BitVec 32) (k0_hw271 : k0_chk271 v5111), ∀ a, (k0_off782 v5111) a + S1x1x512.size a ≤ S784x8x512.size a := fun v5111 k0_hw271 => k0_hw271.2

def k0_off783 (i : grid0.Coords) : Fin 2 → Nat :=
  let arg0 : BitVec 32 := BitVec.ofNat 32 (i 0).val
  let c8_i32_3222 : BitVec 32 := 8#32
  let v5170 : BitVec 32 := Scalar.muli arg0 c8_i32_3222
  let c0_i32_3223 : BitVec 32 := 0#32
  let v5171 : BitVec 32 := Scalar.addi v5170 c0_i32_3223
  let v5172 : Index := Scalar.indexCast v5171
  let c34 : Index := 34#32
  ![v5172.toNat, 34]
def k0_off784 (v5173 : BitVec 32) : Fin 3 → Nat :=
  let c1023_i32_3224 : BitVec 32 := 1023#32
  let v5174 : BitVec 32 := Scalar.andi v5173 c1023_i32_3224
  let v5181 : Index := Scalar.indexCast v5174
  let c0_3229 : Index := 0#32
  let c0_3230 : Index := 0#32
  ![v5181.toNat, 0, 0]

def k0_off785 (i : grid0.Coords) : Fin 2 → Nat :=
  let arg0 : BitVec 32 := BitVec.ofNat 32 (i 0).val
  let c8_i32_3231 : BitVec 32 := 8#32
  let v5185 : BitVec 32 := Scalar.muli arg0 c8_i32_3231
  let c1_i32_3232 : BitVec 32 := 1#32
  let v5186 : BitVec 32 := Scalar.addi v5185 c1_i32_3232
  let v5187 : Index := Scalar.indexCast v5186
  let c34_3233 : Index := 34#32
  ![v5187.toNat, 34]
def k0_off786 (v5188 : BitVec 32) : Fin 3 → Nat :=
  let c1023_i32_3234 : BitVec 32 := 1023#32
  let v5189 : BitVec 32 := Scalar.andi v5188 c1023_i32_3234
  let v5196 : Index := Scalar.indexCast v5189
  let c1_3239 : Index := 1#32
  let c0_3240 : Index := 0#32
  ![v5196.toNat, 1, 0]

def k0_off787 (i : grid0.Coords) : Fin 2 → Nat :=
  let arg0 : BitVec 32 := BitVec.ofNat 32 (i 0).val
  let c8_i32_3241 : BitVec 32 := 8#32
  let v5200 : BitVec 32 := Scalar.muli arg0 c8_i32_3241
  let c2_i32_3242 : BitVec 32 := 2#32
  let v5201 : BitVec 32 := Scalar.addi v5200 c2_i32_3242
  let v5202 : Index := Scalar.indexCast v5201
  let c34_3243 : Index := 34#32
  ![v5202.toNat, 34]
def k0_off788 (v5203 : BitVec 32) : Fin 3 → Nat :=
  let c1023_i32_3244 : BitVec 32 := 1023#32
  let v5204 : BitVec 32 := Scalar.andi v5203 c1023_i32_3244
  let v5211 : Index := Scalar.indexCast v5204
  let c2_3249 : Index := 2#32
  let c0_3250 : Index := 0#32
  ![v5211.toNat, 2, 0]

def k0_off789 (i : grid0.Coords) : Fin 2 → Nat :=
  let arg0 : BitVec 32 := BitVec.ofNat 32 (i 0).val
  let c8_i32_3251 : BitVec 32 := 8#32
  let v5215 : BitVec 32 := Scalar.muli arg0 c8_i32_3251
  let c3_i32_3252 : BitVec 32 := 3#32
  let v5216 : BitVec 32 := Scalar.addi v5215 c3_i32_3252
  let v5217 : Index := Scalar.indexCast v5216
  let c34_3253 : Index := 34#32
  ![v5217.toNat, 34]
def k0_off790 (v5218 : BitVec 32) : Fin 3 → Nat :=
  let c1023_i32_3254 : BitVec 32 := 1023#32
  let v5219 : BitVec 32 := Scalar.andi v5218 c1023_i32_3254
  let v5226 : Index := Scalar.indexCast v5219
  let c3_3259 : Index := 3#32
  let c0_3260 : Index := 0#32
  ![v5226.toNat, 3, 0]

def k0_off791 (i : grid0.Coords) : Fin 2 → Nat :=
  let arg0 : BitVec 32 := BitVec.ofNat 32 (i 0).val
  let c8_i32_3261 : BitVec 32 := 8#32
  let v5230 : BitVec 32 := Scalar.muli arg0 c8_i32_3261
  let c4_i32_3262 : BitVec 32 := 4#32
  let v5231 : BitVec 32 := Scalar.addi v5230 c4_i32_3262
  let v5232 : Index := Scalar.indexCast v5231
  let c34_3263 : Index := 34#32
  ![v5232.toNat, 34]
def k0_off792 (v5233 : BitVec 32) : Fin 3 → Nat :=
  let c1023_i32_3264 : BitVec 32 := 1023#32
  let v5234 : BitVec 32 := Scalar.andi v5233 c1023_i32_3264
  let v5241 : Index := Scalar.indexCast v5234
  let c4_3269 : Index := 4#32
  let c0_3270 : Index := 0#32
  ![v5241.toNat, 4, 0]

def k0_off793 (i : grid0.Coords) : Fin 2 → Nat :=
  let arg0 : BitVec 32 := BitVec.ofNat 32 (i 0).val
  let c8_i32_3271 : BitVec 32 := 8#32
  let v5245 : BitVec 32 := Scalar.muli arg0 c8_i32_3271
  let c5_i32_3272 : BitVec 32 := 5#32
  let v5246 : BitVec 32 := Scalar.addi v5245 c5_i32_3272
  let v5247 : Index := Scalar.indexCast v5246
  let c34_3273 : Index := 34#32
  ![v5247.toNat, 34]
def k0_off794 (v5248 : BitVec 32) : Fin 3 → Nat :=
  let c1023_i32_3274 : BitVec 32 := 1023#32
  let v5249 : BitVec 32 := Scalar.andi v5248 c1023_i32_3274
  let v5256 : Index := Scalar.indexCast v5249
  let c5_3279 : Index := 5#32
  let c0_3280 : Index := 0#32
  ![v5256.toNat, 5, 0]

def k0_off795 (i : grid0.Coords) : Fin 2 → Nat :=
  let arg0 : BitVec 32 := BitVec.ofNat 32 (i 0).val
  let c8_i32_3281 : BitVec 32 := 8#32
  let v5260 : BitVec 32 := Scalar.muli arg0 c8_i32_3281
  let c6_i32_3282 : BitVec 32 := 6#32
  let v5261 : BitVec 32 := Scalar.addi v5260 c6_i32_3282
  let v5262 : Index := Scalar.indexCast v5261
  let c34_3283 : Index := 34#32
  ![v5262.toNat, 34]
def k0_off796 (v5263 : BitVec 32) : Fin 3 → Nat :=
  let c1023_i32_3284 : BitVec 32 := 1023#32
  let v5264 : BitVec 32 := Scalar.andi v5263 c1023_i32_3284
  let v5271 : Index := Scalar.indexCast v5264
  let c6_3289 : Index := 6#32
  let c0_3290 : Index := 0#32
  ![v5271.toNat, 6, 0]

def k0_off797 (i : grid0.Coords) : Fin 2 → Nat :=
  let arg0 : BitVec 32 := BitVec.ofNat 32 (i 0).val
  let c8_i32_3291 : BitVec 32 := 8#32
  let v5275 : BitVec 32 := Scalar.muli arg0 c8_i32_3291
  let c7_i32_3292 : BitVec 32 := 7#32
  let v5276 : BitVec 32 := Scalar.addi v5275 c7_i32_3292
  let v5277 : Index := Scalar.indexCast v5276
  let c34_3293 : Index := 34#32
  ![v5277.toNat, 34]
def k0_off798 (v5278 : BitVec 32) : Fin 3 → Nat :=
  let c1023_i32_3294 : BitVec 32 := 1023#32
  let v5279 : BitVec 32 := Scalar.andi v5278 c1023_i32_3294
  let v5286 : Index := Scalar.indexCast v5279
  let c7_3299 : Index := 7#32
  let c0_3300 : Index := 0#32
  ![v5286.toNat, 7, 0]

def k0_chk280 (v5278 : BitVec 32) : Prop :=
  (∀ a, (k0_off798 v5278) a + S1x1x512.size a ≤ S784x8x512.size a)
theorem k0_off798_inb : ∀ (v5278 : BitVec 32) (k0_hw280 : k0_chk280 v5278), ∀ a, (k0_off798 v5278) a + S1x1x512.size a ≤ S784x8x512.size a := fun v5278 k0_hw280 => k0_hw280

def k0_off799 (v5173 : BitVec 32) : Fin 3 → Nat :=
  let c1023_i32_3224 : BitVec 32 := 1023#32
  let v5174 : BitVec 32 := Scalar.andi v5173 c1023_i32_3224
  let v5290 : Index := Scalar.indexCast v5174
  let c0_3301 : Index := 0#32
  let c0_3302 : Index := 0#32
  ![v5290.toNat, 0, 0]

def k0_chk273 (v5173 : BitVec 32) : Prop :=
  (∀ a, (k0_off784 v5173) a + S1x1x512.size a ≤ S784x8x512.size a) ∧
  (∀ a, (k0_off799 v5173) a + S1x1x512.size a ≤ S784x8x512.size a)
theorem k0_off784_inb : ∀ (v5173 : BitVec 32) (k0_hw273 : k0_chk273 v5173), ∀ a, (k0_off784 v5173) a + S1x1x512.size a ≤ S784x8x512.size a := fun v5173 k0_hw273 => k0_hw273.1
theorem k0_off799_inb : ∀ (v5173 : BitVec 32) (k0_hw273 : k0_chk273 v5173), ∀ a, (k0_off799 v5173) a + S1x1x512.size a ≤ S784x8x512.size a := fun v5173 k0_hw273 => k0_hw273.2

def k0_off800 (v5188 : BitVec 32) : Fin 3 → Nat :=
  let c1023_i32_3234 : BitVec 32 := 1023#32
  let v5189 : BitVec 32 := Scalar.andi v5188 c1023_i32_3234
  let v5294 : Index := Scalar.indexCast v5189
  let c1_3303 : Index := 1#32
  let c0_3304 : Index := 0#32
  ![v5294.toNat, 1, 0]

def k0_chk274 (v5188 : BitVec 32) : Prop :=
  (∀ a, (k0_off786 v5188) a + S1x1x512.size a ≤ S784x8x512.size a) ∧
  (∀ a, (k0_off800 v5188) a + S1x1x512.size a ≤ S784x8x512.size a)
theorem k0_off786_inb : ∀ (v5188 : BitVec 32) (k0_hw274 : k0_chk274 v5188), ∀ a, (k0_off786 v5188) a + S1x1x512.size a ≤ S784x8x512.size a := fun v5188 k0_hw274 => k0_hw274.1
theorem k0_off800_inb : ∀ (v5188 : BitVec 32) (k0_hw274 : k0_chk274 v5188), ∀ a, (k0_off800 v5188) a + S1x1x512.size a ≤ S784x8x512.size a := fun v5188 k0_hw274 => k0_hw274.2

def k0_off801 (v5203 : BitVec 32) : Fin 3 → Nat :=
  let c1023_i32_3244 : BitVec 32 := 1023#32
  let v5204 : BitVec 32 := Scalar.andi v5203 c1023_i32_3244
  let v5298 : Index := Scalar.indexCast v5204
  let c2_3305 : Index := 2#32
  let c0_3306 : Index := 0#32
  ![v5298.toNat, 2, 0]

def k0_chk275 (v5203 : BitVec 32) : Prop :=
  (∀ a, (k0_off788 v5203) a + S1x1x512.size a ≤ S784x8x512.size a) ∧
  (∀ a, (k0_off801 v5203) a + S1x1x512.size a ≤ S784x8x512.size a)
theorem k0_off788_inb : ∀ (v5203 : BitVec 32) (k0_hw275 : k0_chk275 v5203), ∀ a, (k0_off788 v5203) a + S1x1x512.size a ≤ S784x8x512.size a := fun v5203 k0_hw275 => k0_hw275.1
theorem k0_off801_inb : ∀ (v5203 : BitVec 32) (k0_hw275 : k0_chk275 v5203), ∀ a, (k0_off801 v5203) a + S1x1x512.size a ≤ S784x8x512.size a := fun v5203 k0_hw275 => k0_hw275.2

def k0_off802 (v5218 : BitVec 32) : Fin 3 → Nat :=
  let c1023_i32_3254 : BitVec 32 := 1023#32
  let v5219 : BitVec 32 := Scalar.andi v5218 c1023_i32_3254
  let v5302 : Index := Scalar.indexCast v5219
  let c3_3307 : Index := 3#32
  let c0_3308 : Index := 0#32
  ![v5302.toNat, 3, 0]

def k0_chk276 (v5218 : BitVec 32) : Prop :=
  (∀ a, (k0_off790 v5218) a + S1x1x512.size a ≤ S784x8x512.size a) ∧
  (∀ a, (k0_off802 v5218) a + S1x1x512.size a ≤ S784x8x512.size a)
theorem k0_off790_inb : ∀ (v5218 : BitVec 32) (k0_hw276 : k0_chk276 v5218), ∀ a, (k0_off790 v5218) a + S1x1x512.size a ≤ S784x8x512.size a := fun v5218 k0_hw276 => k0_hw276.1
theorem k0_off802_inb : ∀ (v5218 : BitVec 32) (k0_hw276 : k0_chk276 v5218), ∀ a, (k0_off802 v5218) a + S1x1x512.size a ≤ S784x8x512.size a := fun v5218 k0_hw276 => k0_hw276.2

def k0_off803 (v5233 : BitVec 32) : Fin 3 → Nat :=
  let c1023_i32_3264 : BitVec 32 := 1023#32
  let v5234 : BitVec 32 := Scalar.andi v5233 c1023_i32_3264
  let v5306 : Index := Scalar.indexCast v5234
  let c4_3309 : Index := 4#32
  let c0_3310 : Index := 0#32
  ![v5306.toNat, 4, 0]

def k0_chk277 (v5233 : BitVec 32) : Prop :=
  (∀ a, (k0_off792 v5233) a + S1x1x512.size a ≤ S784x8x512.size a) ∧
  (∀ a, (k0_off803 v5233) a + S1x1x512.size a ≤ S784x8x512.size a)
theorem k0_off792_inb : ∀ (v5233 : BitVec 32) (k0_hw277 : k0_chk277 v5233), ∀ a, (k0_off792 v5233) a + S1x1x512.size a ≤ S784x8x512.size a := fun v5233 k0_hw277 => k0_hw277.1
theorem k0_off803_inb : ∀ (v5233 : BitVec 32) (k0_hw277 : k0_chk277 v5233), ∀ a, (k0_off803 v5233) a + S1x1x512.size a ≤ S784x8x512.size a := fun v5233 k0_hw277 => k0_hw277.2

def k0_off804 (v5248 : BitVec 32) : Fin 3 → Nat :=
  let c1023_i32_3274 : BitVec 32 := 1023#32
  let v5249 : BitVec 32 := Scalar.andi v5248 c1023_i32_3274
  let v5310 : Index := Scalar.indexCast v5249
  let c5_3311 : Index := 5#32
  let c0_3312 : Index := 0#32
  ![v5310.toNat, 5, 0]

def k0_chk278 (v5248 : BitVec 32) : Prop :=
  (∀ a, (k0_off794 v5248) a + S1x1x512.size a ≤ S784x8x512.size a) ∧
  (∀ a, (k0_off804 v5248) a + S1x1x512.size a ≤ S784x8x512.size a)
theorem k0_off794_inb : ∀ (v5248 : BitVec 32) (k0_hw278 : k0_chk278 v5248), ∀ a, (k0_off794 v5248) a + S1x1x512.size a ≤ S784x8x512.size a := fun v5248 k0_hw278 => k0_hw278.1
theorem k0_off804_inb : ∀ (v5248 : BitVec 32) (k0_hw278 : k0_chk278 v5248), ∀ a, (k0_off804 v5248) a + S1x1x512.size a ≤ S784x8x512.size a := fun v5248 k0_hw278 => k0_hw278.2

def k0_off805 (v5263 : BitVec 32) : Fin 3 → Nat :=
  let c1023_i32_3284 : BitVec 32 := 1023#32
  let v5264 : BitVec 32 := Scalar.andi v5263 c1023_i32_3284
  let v5314 : Index := Scalar.indexCast v5264
  let c6_3313 : Index := 6#32
  let c0_3314 : Index := 0#32
  ![v5314.toNat, 6, 0]

def k0_chk279 (v5263 : BitVec 32) : Prop :=
  (∀ a, (k0_off796 v5263) a + S1x1x512.size a ≤ S784x8x512.size a) ∧
  (∀ a, (k0_off805 v5263) a + S1x1x512.size a ≤ S784x8x512.size a)
theorem k0_off796_inb : ∀ (v5263 : BitVec 32) (k0_hw279 : k0_chk279 v5263), ∀ a, (k0_off796 v5263) a + S1x1x512.size a ≤ S784x8x512.size a := fun v5263 k0_hw279 => k0_hw279.1
theorem k0_off805_inb : ∀ (v5263 : BitVec 32) (k0_hw279 : k0_chk279 v5263), ∀ a, (k0_off805 v5263) a + S1x1x512.size a ≤ S784x8x512.size a := fun v5263 k0_hw279 => k0_hw279.2

def k0_off806 (i : grid0.Coords) : Fin 2 → Nat :=
  let arg0 : BitVec 32 := BitVec.ofNat 32 (i 0).val
  let c8_i32_3317 : BitVec 32 := 8#32
  let v5322 : BitVec 32 := Scalar.muli arg0 c8_i32_3317
  let c0_i32_3318 : BitVec 32 := 0#32
  let v5323 : BitVec 32 := Scalar.addi v5322 c0_i32_3318
  let v5324 : Index := Scalar.indexCast v5323
  let c35 : Index := 35#32
  ![v5324.toNat, 35]
def k0_off807 (v5325 : BitVec 32) : Fin 3 → Nat :=
  let c1023_i32_3319 : BitVec 32 := 1023#32
  let v5326 : BitVec 32 := Scalar.andi v5325 c1023_i32_3319
  let v5333 : Index := Scalar.indexCast v5326
  let c0_3324 : Index := 0#32
  let c0_3325 : Index := 0#32
  ![v5333.toNat, 0, 0]

def k0_off808 (i : grid0.Coords) : Fin 2 → Nat :=
  let arg0 : BitVec 32 := BitVec.ofNat 32 (i 0).val
  let c8_i32_3326 : BitVec 32 := 8#32
  let v5337 : BitVec 32 := Scalar.muli arg0 c8_i32_3326
  let c1_i32_3327 : BitVec 32 := 1#32
  let v5338 : BitVec 32 := Scalar.addi v5337 c1_i32_3327
  let v5339 : Index := Scalar.indexCast v5338
  let c35_3328 : Index := 35#32
  ![v5339.toNat, 35]
def k0_off809 (v5340 : BitVec 32) : Fin 3 → Nat :=
  let c1023_i32_3329 : BitVec 32 := 1023#32
  let v5341 : BitVec 32 := Scalar.andi v5340 c1023_i32_3329
  let v5348 : Index := Scalar.indexCast v5341
  let c1_3334 : Index := 1#32
  let c0_3335 : Index := 0#32
  ![v5348.toNat, 1, 0]

def k0_off810 (i : grid0.Coords) : Fin 2 → Nat :=
  let arg0 : BitVec 32 := BitVec.ofNat 32 (i 0).val
  let c8_i32_3336 : BitVec 32 := 8#32
  let v5352 : BitVec 32 := Scalar.muli arg0 c8_i32_3336
  let c2_i32_3337 : BitVec 32 := 2#32
  let v5353 : BitVec 32 := Scalar.addi v5352 c2_i32_3337
  let v5354 : Index := Scalar.indexCast v5353
  let c35_3338 : Index := 35#32
  ![v5354.toNat, 35]
def k0_off811 (v5355 : BitVec 32) : Fin 3 → Nat :=
  let c1023_i32_3339 : BitVec 32 := 1023#32
  let v5356 : BitVec 32 := Scalar.andi v5355 c1023_i32_3339
  let v5363 : Index := Scalar.indexCast v5356
  let c2_3344 : Index := 2#32
  let c0_3345 : Index := 0#32
  ![v5363.toNat, 2, 0]

def k0_off812 (i : grid0.Coords) : Fin 2 → Nat :=
  let arg0 : BitVec 32 := BitVec.ofNat 32 (i 0).val
  let c8_i32_3346 : BitVec 32 := 8#32
  let v5367 : BitVec 32 := Scalar.muli arg0 c8_i32_3346
  let c3_i32_3347 : BitVec 32 := 3#32
  let v5368 : BitVec 32 := Scalar.addi v5367 c3_i32_3347
  let v5369 : Index := Scalar.indexCast v5368
  let c35_3348 : Index := 35#32
  ![v5369.toNat, 35]
def k0_off813 (v5370 : BitVec 32) : Fin 3 → Nat :=
  let c1023_i32_3349 : BitVec 32 := 1023#32
  let v5371 : BitVec 32 := Scalar.andi v5370 c1023_i32_3349
  let v5378 : Index := Scalar.indexCast v5371
  let c3_3354 : Index := 3#32
  let c0_3355 : Index := 0#32
  ![v5378.toNat, 3, 0]

def k0_off814 (i : grid0.Coords) : Fin 2 → Nat :=
  let arg0 : BitVec 32 := BitVec.ofNat 32 (i 0).val
  let c8_i32_3356 : BitVec 32 := 8#32
  let v5382 : BitVec 32 := Scalar.muli arg0 c8_i32_3356
  let c4_i32_3357 : BitVec 32 := 4#32
  let v5383 : BitVec 32 := Scalar.addi v5382 c4_i32_3357
  let v5384 : Index := Scalar.indexCast v5383
  let c35_3358 : Index := 35#32
  ![v5384.toNat, 35]
def k0_off815 (v5385 : BitVec 32) : Fin 3 → Nat :=
  let c1023_i32_3359 : BitVec 32 := 1023#32
  let v5386 : BitVec 32 := Scalar.andi v5385 c1023_i32_3359
  let v5393 : Index := Scalar.indexCast v5386
  let c4_3364 : Index := 4#32
  let c0_3365 : Index := 0#32
  ![v5393.toNat, 4, 0]

def k0_off816 (i : grid0.Coords) : Fin 2 → Nat :=
  let arg0 : BitVec 32 := BitVec.ofNat 32 (i 0).val
  let c8_i32_3366 : BitVec 32 := 8#32
  let v5397 : BitVec 32 := Scalar.muli arg0 c8_i32_3366
  let c5_i32_3367 : BitVec 32 := 5#32
  let v5398 : BitVec 32 := Scalar.addi v5397 c5_i32_3367
  let v5399 : Index := Scalar.indexCast v5398
  let c35_3368 : Index := 35#32
  ![v5399.toNat, 35]
def k0_off817 (v5400 : BitVec 32) : Fin 3 → Nat :=
  let c1023_i32_3369 : BitVec 32 := 1023#32
  let v5401 : BitVec 32 := Scalar.andi v5400 c1023_i32_3369
  let v5408 : Index := Scalar.indexCast v5401
  let c5_3374 : Index := 5#32
  let c0_3375 : Index := 0#32
  ![v5408.toNat, 5, 0]

def k0_off818 (i : grid0.Coords) : Fin 2 → Nat :=
  let arg0 : BitVec 32 := BitVec.ofNat 32 (i 0).val
  let c8_i32_3376 : BitVec 32 := 8#32
  let v5412 : BitVec 32 := Scalar.muli arg0 c8_i32_3376
  let c6_i32_3377 : BitVec 32 := 6#32
  let v5413 : BitVec 32 := Scalar.addi v5412 c6_i32_3377
  let v5414 : Index := Scalar.indexCast v5413
  let c35_3378 : Index := 35#32
  ![v5414.toNat, 35]
def k0_off819 (v5415 : BitVec 32) : Fin 3 → Nat :=
  let c1023_i32_3379 : BitVec 32 := 1023#32
  let v5416 : BitVec 32 := Scalar.andi v5415 c1023_i32_3379
  let v5423 : Index := Scalar.indexCast v5416
  let c6_3384 : Index := 6#32
  let c0_3385 : Index := 0#32
  ![v5423.toNat, 6, 0]

def k0_off820 (i : grid0.Coords) : Fin 2 → Nat :=
  let arg0 : BitVec 32 := BitVec.ofNat 32 (i 0).val
  let c8_i32_3386 : BitVec 32 := 8#32
  let v5427 : BitVec 32 := Scalar.muli arg0 c8_i32_3386
  let c7_i32_3387 : BitVec 32 := 7#32
  let v5428 : BitVec 32 := Scalar.addi v5427 c7_i32_3387
  let v5429 : Index := Scalar.indexCast v5428
  let c35_3388 : Index := 35#32
  ![v5429.toNat, 35]
def k0_off821 (v5430 : BitVec 32) : Fin 3 → Nat :=
  let c1023_i32_3389 : BitVec 32 := 1023#32
  let v5431 : BitVec 32 := Scalar.andi v5430 c1023_i32_3389
  let v5438 : Index := Scalar.indexCast v5431
  let c7_3394 : Index := 7#32
  let c0_3395 : Index := 0#32
  ![v5438.toNat, 7, 0]

def k0_chk288 (v5430 : BitVec 32) : Prop :=
  (∀ a, (k0_off821 v5430) a + S1x1x512.size a ≤ S784x8x512.size a)
theorem k0_off821_inb : ∀ (v5430 : BitVec 32) (k0_hw288 : k0_chk288 v5430), ∀ a, (k0_off821 v5430) a + S1x1x512.size a ≤ S784x8x512.size a := fun v5430 k0_hw288 => k0_hw288

def k0_off822 (v5325 : BitVec 32) : Fin 3 → Nat :=
  let c1023_i32_3319 : BitVec 32 := 1023#32
  let v5326 : BitVec 32 := Scalar.andi v5325 c1023_i32_3319
  let v5442 : Index := Scalar.indexCast v5326
  let c0_3396 : Index := 0#32
  let c0_3397 : Index := 0#32
  ![v5442.toNat, 0, 0]

def k0_chk281 (v5325 : BitVec 32) : Prop :=
  (∀ a, (k0_off807 v5325) a + S1x1x512.size a ≤ S784x8x512.size a) ∧
  (∀ a, (k0_off822 v5325) a + S1x1x512.size a ≤ S784x8x512.size a)
theorem k0_off807_inb : ∀ (v5325 : BitVec 32) (k0_hw281 : k0_chk281 v5325), ∀ a, (k0_off807 v5325) a + S1x1x512.size a ≤ S784x8x512.size a := fun v5325 k0_hw281 => k0_hw281.1
theorem k0_off822_inb : ∀ (v5325 : BitVec 32) (k0_hw281 : k0_chk281 v5325), ∀ a, (k0_off822 v5325) a + S1x1x512.size a ≤ S784x8x512.size a := fun v5325 k0_hw281 => k0_hw281.2

def k0_off823 (v5340 : BitVec 32) : Fin 3 → Nat :=
  let c1023_i32_3329 : BitVec 32 := 1023#32
  let v5341 : BitVec 32 := Scalar.andi v5340 c1023_i32_3329
  let v5446 : Index := Scalar.indexCast v5341
  let c1_3398 : Index := 1#32
  let c0_3399 : Index := 0#32
  ![v5446.toNat, 1, 0]

def k0_chk282 (v5340 : BitVec 32) : Prop :=
  (∀ a, (k0_off809 v5340) a + S1x1x512.size a ≤ S784x8x512.size a) ∧
  (∀ a, (k0_off823 v5340) a + S1x1x512.size a ≤ S784x8x512.size a)
theorem k0_off809_inb : ∀ (v5340 : BitVec 32) (k0_hw282 : k0_chk282 v5340), ∀ a, (k0_off809 v5340) a + S1x1x512.size a ≤ S784x8x512.size a := fun v5340 k0_hw282 => k0_hw282.1
theorem k0_off823_inb : ∀ (v5340 : BitVec 32) (k0_hw282 : k0_chk282 v5340), ∀ a, (k0_off823 v5340) a + S1x1x512.size a ≤ S784x8x512.size a := fun v5340 k0_hw282 => k0_hw282.2

def k0_off824 (v5355 : BitVec 32) : Fin 3 → Nat :=
  let c1023_i32_3339 : BitVec 32 := 1023#32
  let v5356 : BitVec 32 := Scalar.andi v5355 c1023_i32_3339
  let v5450 : Index := Scalar.indexCast v5356
  let c2_3400 : Index := 2#32
  let c0_3401 : Index := 0#32
  ![v5450.toNat, 2, 0]

def k0_chk283 (v5355 : BitVec 32) : Prop :=
  (∀ a, (k0_off811 v5355) a + S1x1x512.size a ≤ S784x8x512.size a) ∧
  (∀ a, (k0_off824 v5355) a + S1x1x512.size a ≤ S784x8x512.size a)
theorem k0_off811_inb : ∀ (v5355 : BitVec 32) (k0_hw283 : k0_chk283 v5355), ∀ a, (k0_off811 v5355) a + S1x1x512.size a ≤ S784x8x512.size a := fun v5355 k0_hw283 => k0_hw283.1
theorem k0_off824_inb : ∀ (v5355 : BitVec 32) (k0_hw283 : k0_chk283 v5355), ∀ a, (k0_off824 v5355) a + S1x1x512.size a ≤ S784x8x512.size a := fun v5355 k0_hw283 => k0_hw283.2

def k0_off825 (v5370 : BitVec 32) : Fin 3 → Nat :=
  let c1023_i32_3349 : BitVec 32 := 1023#32
  let v5371 : BitVec 32 := Scalar.andi v5370 c1023_i32_3349
  let v5454 : Index := Scalar.indexCast v5371
  let c3_3402 : Index := 3#32
  let c0_3403 : Index := 0#32
  ![v5454.toNat, 3, 0]

def k0_chk284 (v5370 : BitVec 32) : Prop :=
  (∀ a, (k0_off813 v5370) a + S1x1x512.size a ≤ S784x8x512.size a) ∧
  (∀ a, (k0_off825 v5370) a + S1x1x512.size a ≤ S784x8x512.size a)
theorem k0_off813_inb : ∀ (v5370 : BitVec 32) (k0_hw284 : k0_chk284 v5370), ∀ a, (k0_off813 v5370) a + S1x1x512.size a ≤ S784x8x512.size a := fun v5370 k0_hw284 => k0_hw284.1
theorem k0_off825_inb : ∀ (v5370 : BitVec 32) (k0_hw284 : k0_chk284 v5370), ∀ a, (k0_off825 v5370) a + S1x1x512.size a ≤ S784x8x512.size a := fun v5370 k0_hw284 => k0_hw284.2

def k0_off826 (v5385 : BitVec 32) : Fin 3 → Nat :=
  let c1023_i32_3359 : BitVec 32 := 1023#32
  let v5386 : BitVec 32 := Scalar.andi v5385 c1023_i32_3359
  let v5458 : Index := Scalar.indexCast v5386
  let c4_3404 : Index := 4#32
  let c0_3405 : Index := 0#32
  ![v5458.toNat, 4, 0]

def k0_chk285 (v5385 : BitVec 32) : Prop :=
  (∀ a, (k0_off815 v5385) a + S1x1x512.size a ≤ S784x8x512.size a) ∧
  (∀ a, (k0_off826 v5385) a + S1x1x512.size a ≤ S784x8x512.size a)
theorem k0_off815_inb : ∀ (v5385 : BitVec 32) (k0_hw285 : k0_chk285 v5385), ∀ a, (k0_off815 v5385) a + S1x1x512.size a ≤ S784x8x512.size a := fun v5385 k0_hw285 => k0_hw285.1
theorem k0_off826_inb : ∀ (v5385 : BitVec 32) (k0_hw285 : k0_chk285 v5385), ∀ a, (k0_off826 v5385) a + S1x1x512.size a ≤ S784x8x512.size a := fun v5385 k0_hw285 => k0_hw285.2

def k0_off827 (v5400 : BitVec 32) : Fin 3 → Nat :=
  let c1023_i32_3369 : BitVec 32 := 1023#32
  let v5401 : BitVec 32 := Scalar.andi v5400 c1023_i32_3369
  let v5462 : Index := Scalar.indexCast v5401
  let c5_3406 : Index := 5#32
  let c0_3407 : Index := 0#32
  ![v5462.toNat, 5, 0]

def k0_chk286 (v5400 : BitVec 32) : Prop :=
  (∀ a, (k0_off817 v5400) a + S1x1x512.size a ≤ S784x8x512.size a) ∧
  (∀ a, (k0_off827 v5400) a + S1x1x512.size a ≤ S784x8x512.size a)
theorem k0_off817_inb : ∀ (v5400 : BitVec 32) (k0_hw286 : k0_chk286 v5400), ∀ a, (k0_off817 v5400) a + S1x1x512.size a ≤ S784x8x512.size a := fun v5400 k0_hw286 => k0_hw286.1
theorem k0_off827_inb : ∀ (v5400 : BitVec 32) (k0_hw286 : k0_chk286 v5400), ∀ a, (k0_off827 v5400) a + S1x1x512.size a ≤ S784x8x512.size a := fun v5400 k0_hw286 => k0_hw286.2

def k0_off828 (v5415 : BitVec 32) : Fin 3 → Nat :=
  let c1023_i32_3379 : BitVec 32 := 1023#32
  let v5416 : BitVec 32 := Scalar.andi v5415 c1023_i32_3379
  let v5466 : Index := Scalar.indexCast v5416
  let c6_3408 : Index := 6#32
  let c0_3409 : Index := 0#32
  ![v5466.toNat, 6, 0]

def k0_chk287 (v5415 : BitVec 32) : Prop :=
  (∀ a, (k0_off819 v5415) a + S1x1x512.size a ≤ S784x8x512.size a) ∧
  (∀ a, (k0_off828 v5415) a + S1x1x512.size a ≤ S784x8x512.size a)
theorem k0_off819_inb : ∀ (v5415 : BitVec 32) (k0_hw287 : k0_chk287 v5415), ∀ a, (k0_off819 v5415) a + S1x1x512.size a ≤ S784x8x512.size a := fun v5415 k0_hw287 => k0_hw287.1
theorem k0_off828_inb : ∀ (v5415 : BitVec 32) (k0_hw287 : k0_chk287 v5415), ∀ a, (k0_off828 v5415) a + S1x1x512.size a ≤ S784x8x512.size a := fun v5415 k0_hw287 => k0_hw287.2

def k0_off829 (i : grid0.Coords) : Fin 2 → Nat :=
  let arg0 : BitVec 32 := BitVec.ofNat 32 (i 0).val
  let c8_i32_3412 : BitVec 32 := 8#32
  let v5474 : BitVec 32 := Scalar.muli arg0 c8_i32_3412
  let c0_i32_3413 : BitVec 32 := 0#32
  let v5475 : BitVec 32 := Scalar.addi v5474 c0_i32_3413
  let v5476 : Index := Scalar.indexCast v5475
  let c36 : Index := 36#32
  ![v5476.toNat, 36]
def k0_off830 (v5477 : BitVec 32) : Fin 3 → Nat :=
  let c1023_i32_3414 : BitVec 32 := 1023#32
  let v5478 : BitVec 32 := Scalar.andi v5477 c1023_i32_3414
  let v5485 : Index := Scalar.indexCast v5478
  let c0_3419 : Index := 0#32
  let c0_3420 : Index := 0#32
  ![v5485.toNat, 0, 0]

def k0_off831 (i : grid0.Coords) : Fin 2 → Nat :=
  let arg0 : BitVec 32 := BitVec.ofNat 32 (i 0).val
  let c8_i32_3421 : BitVec 32 := 8#32
  let v5489 : BitVec 32 := Scalar.muli arg0 c8_i32_3421
  let c1_i32_3422 : BitVec 32 := 1#32
  let v5490 : BitVec 32 := Scalar.addi v5489 c1_i32_3422
  let v5491 : Index := Scalar.indexCast v5490
  let c36_3423 : Index := 36#32
  ![v5491.toNat, 36]
def k0_off832 (v5492 : BitVec 32) : Fin 3 → Nat :=
  let c1023_i32_3424 : BitVec 32 := 1023#32
  let v5493 : BitVec 32 := Scalar.andi v5492 c1023_i32_3424
  let v5500 : Index := Scalar.indexCast v5493
  let c1_3429 : Index := 1#32
  let c0_3430 : Index := 0#32
  ![v5500.toNat, 1, 0]

def k0_off833 (i : grid0.Coords) : Fin 2 → Nat :=
  let arg0 : BitVec 32 := BitVec.ofNat 32 (i 0).val
  let c8_i32_3431 : BitVec 32 := 8#32
  let v5504 : BitVec 32 := Scalar.muli arg0 c8_i32_3431
  let c2_i32_3432 : BitVec 32 := 2#32
  let v5505 : BitVec 32 := Scalar.addi v5504 c2_i32_3432
  let v5506 : Index := Scalar.indexCast v5505
  let c36_3433 : Index := 36#32
  ![v5506.toNat, 36]
def k0_off834 (v5507 : BitVec 32) : Fin 3 → Nat :=
  let c1023_i32_3434 : BitVec 32 := 1023#32
  let v5508 : BitVec 32 := Scalar.andi v5507 c1023_i32_3434
  let v5515 : Index := Scalar.indexCast v5508
  let c2_3439 : Index := 2#32
  let c0_3440 : Index := 0#32
  ![v5515.toNat, 2, 0]

def k0_off835 (i : grid0.Coords) : Fin 2 → Nat :=
  let arg0 : BitVec 32 := BitVec.ofNat 32 (i 0).val
  let c8_i32_3441 : BitVec 32 := 8#32
  let v5519 : BitVec 32 := Scalar.muli arg0 c8_i32_3441
  let c3_i32_3442 : BitVec 32 := 3#32
  let v5520 : BitVec 32 := Scalar.addi v5519 c3_i32_3442
  let v5521 : Index := Scalar.indexCast v5520
  let c36_3443 : Index := 36#32
  ![v5521.toNat, 36]
def k0_off836 (v5522 : BitVec 32) : Fin 3 → Nat :=
  let c1023_i32_3444 : BitVec 32 := 1023#32
  let v5523 : BitVec 32 := Scalar.andi v5522 c1023_i32_3444
  let v5530 : Index := Scalar.indexCast v5523
  let c3_3449 : Index := 3#32
  let c0_3450 : Index := 0#32
  ![v5530.toNat, 3, 0]

def k0_off837 (i : grid0.Coords) : Fin 2 → Nat :=
  let arg0 : BitVec 32 := BitVec.ofNat 32 (i 0).val
  let c8_i32_3451 : BitVec 32 := 8#32
  let v5534 : BitVec 32 := Scalar.muli arg0 c8_i32_3451
  let c4_i32_3452 : BitVec 32 := 4#32
  let v5535 : BitVec 32 := Scalar.addi v5534 c4_i32_3452
  let v5536 : Index := Scalar.indexCast v5535
  let c36_3453 : Index := 36#32
  ![v5536.toNat, 36]
def k0_off838 (v5537 : BitVec 32) : Fin 3 → Nat :=
  let c1023_i32_3454 : BitVec 32 := 1023#32
  let v5538 : BitVec 32 := Scalar.andi v5537 c1023_i32_3454
  let v5545 : Index := Scalar.indexCast v5538
  let c4_3459 : Index := 4#32
  let c0_3460 : Index := 0#32
  ![v5545.toNat, 4, 0]

def k0_off839 (i : grid0.Coords) : Fin 2 → Nat :=
  let arg0 : BitVec 32 := BitVec.ofNat 32 (i 0).val
  let c8_i32_3461 : BitVec 32 := 8#32
  let v5549 : BitVec 32 := Scalar.muli arg0 c8_i32_3461
  let c5_i32_3462 : BitVec 32 := 5#32
  let v5550 : BitVec 32 := Scalar.addi v5549 c5_i32_3462
  let v5551 : Index := Scalar.indexCast v5550
  let c36_3463 : Index := 36#32
  ![v5551.toNat, 36]
def k0_off840 (v5552 : BitVec 32) : Fin 3 → Nat :=
  let c1023_i32_3464 : BitVec 32 := 1023#32
  let v5553 : BitVec 32 := Scalar.andi v5552 c1023_i32_3464
  let v5560 : Index := Scalar.indexCast v5553
  let c5_3469 : Index := 5#32
  let c0_3470 : Index := 0#32
  ![v5560.toNat, 5, 0]

def k0_off841 (i : grid0.Coords) : Fin 2 → Nat :=
  let arg0 : BitVec 32 := BitVec.ofNat 32 (i 0).val
  let c8_i32_3471 : BitVec 32 := 8#32
  let v5564 : BitVec 32 := Scalar.muli arg0 c8_i32_3471
  let c6_i32_3472 : BitVec 32 := 6#32
  let v5565 : BitVec 32 := Scalar.addi v5564 c6_i32_3472
  let v5566 : Index := Scalar.indexCast v5565
  let c36_3473 : Index := 36#32
  ![v5566.toNat, 36]
def k0_off842 (v5567 : BitVec 32) : Fin 3 → Nat :=
  let c1023_i32_3474 : BitVec 32 := 1023#32
  let v5568 : BitVec 32 := Scalar.andi v5567 c1023_i32_3474
  let v5575 : Index := Scalar.indexCast v5568
  let c6_3479 : Index := 6#32
  let c0_3480 : Index := 0#32
  ![v5575.toNat, 6, 0]

def k0_off843 (i : grid0.Coords) : Fin 2 → Nat :=
  let arg0 : BitVec 32 := BitVec.ofNat 32 (i 0).val
  let c8_i32_3481 : BitVec 32 := 8#32
  let v5579 : BitVec 32 := Scalar.muli arg0 c8_i32_3481
  let c7_i32_3482 : BitVec 32 := 7#32
  let v5580 : BitVec 32 := Scalar.addi v5579 c7_i32_3482
  let v5581 : Index := Scalar.indexCast v5580
  let c36_3483 : Index := 36#32
  ![v5581.toNat, 36]
def k0_off844 (v5582 : BitVec 32) : Fin 3 → Nat :=
  let c1023_i32_3484 : BitVec 32 := 1023#32
  let v5583 : BitVec 32 := Scalar.andi v5582 c1023_i32_3484
  let v5590 : Index := Scalar.indexCast v5583
  let c7_3489 : Index := 7#32
  let c0_3490 : Index := 0#32
  ![v5590.toNat, 7, 0]

def k0_chk296 (v5582 : BitVec 32) : Prop :=
  (∀ a, (k0_off844 v5582) a + S1x1x512.size a ≤ S784x8x512.size a)
theorem k0_off844_inb : ∀ (v5582 : BitVec 32) (k0_hw296 : k0_chk296 v5582), ∀ a, (k0_off844 v5582) a + S1x1x512.size a ≤ S784x8x512.size a := fun v5582 k0_hw296 => k0_hw296

def k0_off845 (v5477 : BitVec 32) : Fin 3 → Nat :=
  let c1023_i32_3414 : BitVec 32 := 1023#32
  let v5478 : BitVec 32 := Scalar.andi v5477 c1023_i32_3414
  let v5594 : Index := Scalar.indexCast v5478
  let c0_3491 : Index := 0#32
  let c0_3492 : Index := 0#32
  ![v5594.toNat, 0, 0]

def k0_chk289 (v5477 : BitVec 32) : Prop :=
  (∀ a, (k0_off830 v5477) a + S1x1x512.size a ≤ S784x8x512.size a) ∧
  (∀ a, (k0_off845 v5477) a + S1x1x512.size a ≤ S784x8x512.size a)
theorem k0_off830_inb : ∀ (v5477 : BitVec 32) (k0_hw289 : k0_chk289 v5477), ∀ a, (k0_off830 v5477) a + S1x1x512.size a ≤ S784x8x512.size a := fun v5477 k0_hw289 => k0_hw289.1
theorem k0_off845_inb : ∀ (v5477 : BitVec 32) (k0_hw289 : k0_chk289 v5477), ∀ a, (k0_off845 v5477) a + S1x1x512.size a ≤ S784x8x512.size a := fun v5477 k0_hw289 => k0_hw289.2

def k0_off846 (v5492 : BitVec 32) : Fin 3 → Nat :=
  let c1023_i32_3424 : BitVec 32 := 1023#32
  let v5493 : BitVec 32 := Scalar.andi v5492 c1023_i32_3424
  let v5598 : Index := Scalar.indexCast v5493
  let c1_3493 : Index := 1#32
  let c0_3494 : Index := 0#32
  ![v5598.toNat, 1, 0]

def k0_chk290 (v5492 : BitVec 32) : Prop :=
  (∀ a, (k0_off832 v5492) a + S1x1x512.size a ≤ S784x8x512.size a) ∧
  (∀ a, (k0_off846 v5492) a + S1x1x512.size a ≤ S784x8x512.size a)
theorem k0_off832_inb : ∀ (v5492 : BitVec 32) (k0_hw290 : k0_chk290 v5492), ∀ a, (k0_off832 v5492) a + S1x1x512.size a ≤ S784x8x512.size a := fun v5492 k0_hw290 => k0_hw290.1
theorem k0_off846_inb : ∀ (v5492 : BitVec 32) (k0_hw290 : k0_chk290 v5492), ∀ a, (k0_off846 v5492) a + S1x1x512.size a ≤ S784x8x512.size a := fun v5492 k0_hw290 => k0_hw290.2

def k0_off847 (v5507 : BitVec 32) : Fin 3 → Nat :=
  let c1023_i32_3434 : BitVec 32 := 1023#32
  let v5508 : BitVec 32 := Scalar.andi v5507 c1023_i32_3434
  let v5602 : Index := Scalar.indexCast v5508
  let c2_3495 : Index := 2#32
  let c0_3496 : Index := 0#32
  ![v5602.toNat, 2, 0]

def k0_chk291 (v5507 : BitVec 32) : Prop :=
  (∀ a, (k0_off834 v5507) a + S1x1x512.size a ≤ S784x8x512.size a) ∧
  (∀ a, (k0_off847 v5507) a + S1x1x512.size a ≤ S784x8x512.size a)
theorem k0_off834_inb : ∀ (v5507 : BitVec 32) (k0_hw291 : k0_chk291 v5507), ∀ a, (k0_off834 v5507) a + S1x1x512.size a ≤ S784x8x512.size a := fun v5507 k0_hw291 => k0_hw291.1
theorem k0_off847_inb : ∀ (v5507 : BitVec 32) (k0_hw291 : k0_chk291 v5507), ∀ a, (k0_off847 v5507) a + S1x1x512.size a ≤ S784x8x512.size a := fun v5507 k0_hw291 => k0_hw291.2

def k0_off848 (v5522 : BitVec 32) : Fin 3 → Nat :=
  let c1023_i32_3444 : BitVec 32 := 1023#32
  let v5523 : BitVec 32 := Scalar.andi v5522 c1023_i32_3444
  let v5606 : Index := Scalar.indexCast v5523
  let c3_3497 : Index := 3#32
  let c0_3498 : Index := 0#32
  ![v5606.toNat, 3, 0]

def k0_chk292 (v5522 : BitVec 32) : Prop :=
  (∀ a, (k0_off836 v5522) a + S1x1x512.size a ≤ S784x8x512.size a) ∧
  (∀ a, (k0_off848 v5522) a + S1x1x512.size a ≤ S784x8x512.size a)
theorem k0_off836_inb : ∀ (v5522 : BitVec 32) (k0_hw292 : k0_chk292 v5522), ∀ a, (k0_off836 v5522) a + S1x1x512.size a ≤ S784x8x512.size a := fun v5522 k0_hw292 => k0_hw292.1
theorem k0_off848_inb : ∀ (v5522 : BitVec 32) (k0_hw292 : k0_chk292 v5522), ∀ a, (k0_off848 v5522) a + S1x1x512.size a ≤ S784x8x512.size a := fun v5522 k0_hw292 => k0_hw292.2

def k0_off849 (v5537 : BitVec 32) : Fin 3 → Nat :=
  let c1023_i32_3454 : BitVec 32 := 1023#32
  let v5538 : BitVec 32 := Scalar.andi v5537 c1023_i32_3454
  let v5610 : Index := Scalar.indexCast v5538
  let c4_3499 : Index := 4#32
  let c0_3500 : Index := 0#32
  ![v5610.toNat, 4, 0]

def k0_chk293 (v5537 : BitVec 32) : Prop :=
  (∀ a, (k0_off838 v5537) a + S1x1x512.size a ≤ S784x8x512.size a) ∧
  (∀ a, (k0_off849 v5537) a + S1x1x512.size a ≤ S784x8x512.size a)
theorem k0_off838_inb : ∀ (v5537 : BitVec 32) (k0_hw293 : k0_chk293 v5537), ∀ a, (k0_off838 v5537) a + S1x1x512.size a ≤ S784x8x512.size a := fun v5537 k0_hw293 => k0_hw293.1
theorem k0_off849_inb : ∀ (v5537 : BitVec 32) (k0_hw293 : k0_chk293 v5537), ∀ a, (k0_off849 v5537) a + S1x1x512.size a ≤ S784x8x512.size a := fun v5537 k0_hw293 => k0_hw293.2

def k0_off850 (v5552 : BitVec 32) : Fin 3 → Nat :=
  let c1023_i32_3464 : BitVec 32 := 1023#32
  let v5553 : BitVec 32 := Scalar.andi v5552 c1023_i32_3464
  let v5614 : Index := Scalar.indexCast v5553
  let c5_3501 : Index := 5#32
  let c0_3502 : Index := 0#32
  ![v5614.toNat, 5, 0]

def k0_chk294 (v5552 : BitVec 32) : Prop :=
  (∀ a, (k0_off840 v5552) a + S1x1x512.size a ≤ S784x8x512.size a) ∧
  (∀ a, (k0_off850 v5552) a + S1x1x512.size a ≤ S784x8x512.size a)
theorem k0_off840_inb : ∀ (v5552 : BitVec 32) (k0_hw294 : k0_chk294 v5552), ∀ a, (k0_off840 v5552) a + S1x1x512.size a ≤ S784x8x512.size a := fun v5552 k0_hw294 => k0_hw294.1
theorem k0_off850_inb : ∀ (v5552 : BitVec 32) (k0_hw294 : k0_chk294 v5552), ∀ a, (k0_off850 v5552) a + S1x1x512.size a ≤ S784x8x512.size a := fun v5552 k0_hw294 => k0_hw294.2

def k0_off851 (v5567 : BitVec 32) : Fin 3 → Nat :=
  let c1023_i32_3474 : BitVec 32 := 1023#32
  let v5568 : BitVec 32 := Scalar.andi v5567 c1023_i32_3474
  let v5618 : Index := Scalar.indexCast v5568
  let c6_3503 : Index := 6#32
  let c0_3504 : Index := 0#32
  ![v5618.toNat, 6, 0]

def k0_chk295 (v5567 : BitVec 32) : Prop :=
  (∀ a, (k0_off842 v5567) a + S1x1x512.size a ≤ S784x8x512.size a) ∧
  (∀ a, (k0_off851 v5567) a + S1x1x512.size a ≤ S784x8x512.size a)
theorem k0_off842_inb : ∀ (v5567 : BitVec 32) (k0_hw295 : k0_chk295 v5567), ∀ a, (k0_off842 v5567) a + S1x1x512.size a ≤ S784x8x512.size a := fun v5567 k0_hw295 => k0_hw295.1
theorem k0_off851_inb : ∀ (v5567 : BitVec 32) (k0_hw295 : k0_chk295 v5567), ∀ a, (k0_off851 v5567) a + S1x1x512.size a ≤ S784x8x512.size a := fun v5567 k0_hw295 => k0_hw295.2

def k0_off852 (i : grid0.Coords) : Fin 2 → Nat :=
  let arg0 : BitVec 32 := BitVec.ofNat 32 (i 0).val
  let c8_i32_3507 : BitVec 32 := 8#32
  let v5626 : BitVec 32 := Scalar.muli arg0 c8_i32_3507
  let c0_i32_3508 : BitVec 32 := 0#32
  let v5627 : BitVec 32 := Scalar.addi v5626 c0_i32_3508
  let v5628 : Index := Scalar.indexCast v5627
  let c37 : Index := 37#32
  ![v5628.toNat, 37]
def k0_off853 (v5629 : BitVec 32) : Fin 3 → Nat :=
  let c1023_i32_3509 : BitVec 32 := 1023#32
  let v5630 : BitVec 32 := Scalar.andi v5629 c1023_i32_3509
  let v5637 : Index := Scalar.indexCast v5630
  let c0_3514 : Index := 0#32
  let c0_3515 : Index := 0#32
  ![v5637.toNat, 0, 0]

def k0_off854 (i : grid0.Coords) : Fin 2 → Nat :=
  let arg0 : BitVec 32 := BitVec.ofNat 32 (i 0).val
  let c8_i32_3516 : BitVec 32 := 8#32
  let v5641 : BitVec 32 := Scalar.muli arg0 c8_i32_3516
  let c1_i32_3517 : BitVec 32 := 1#32
  let v5642 : BitVec 32 := Scalar.addi v5641 c1_i32_3517
  let v5643 : Index := Scalar.indexCast v5642
  let c37_3518 : Index := 37#32
  ![v5643.toNat, 37]
def k0_off855 (v5644 : BitVec 32) : Fin 3 → Nat :=
  let c1023_i32_3519 : BitVec 32 := 1023#32
  let v5645 : BitVec 32 := Scalar.andi v5644 c1023_i32_3519
  let v5652 : Index := Scalar.indexCast v5645
  let c1_3524 : Index := 1#32
  let c0_3525 : Index := 0#32
  ![v5652.toNat, 1, 0]

def k0_off856 (i : grid0.Coords) : Fin 2 → Nat :=
  let arg0 : BitVec 32 := BitVec.ofNat 32 (i 0).val
  let c8_i32_3526 : BitVec 32 := 8#32
  let v5656 : BitVec 32 := Scalar.muli arg0 c8_i32_3526
  let c2_i32_3527 : BitVec 32 := 2#32
  let v5657 : BitVec 32 := Scalar.addi v5656 c2_i32_3527
  let v5658 : Index := Scalar.indexCast v5657
  let c37_3528 : Index := 37#32
  ![v5658.toNat, 37]
def k0_off857 (v5659 : BitVec 32) : Fin 3 → Nat :=
  let c1023_i32_3529 : BitVec 32 := 1023#32
  let v5660 : BitVec 32 := Scalar.andi v5659 c1023_i32_3529
  let v5667 : Index := Scalar.indexCast v5660
  let c2_3534 : Index := 2#32
  let c0_3535 : Index := 0#32
  ![v5667.toNat, 2, 0]

def k0_off858 (i : grid0.Coords) : Fin 2 → Nat :=
  let arg0 : BitVec 32 := BitVec.ofNat 32 (i 0).val
  let c8_i32_3536 : BitVec 32 := 8#32
  let v5671 : BitVec 32 := Scalar.muli arg0 c8_i32_3536
  let c3_i32_3537 : BitVec 32 := 3#32
  let v5672 : BitVec 32 := Scalar.addi v5671 c3_i32_3537
  let v5673 : Index := Scalar.indexCast v5672
  let c37_3538 : Index := 37#32
  ![v5673.toNat, 37]
def k0_off859 (v5674 : BitVec 32) : Fin 3 → Nat :=
  let c1023_i32_3539 : BitVec 32 := 1023#32
  let v5675 : BitVec 32 := Scalar.andi v5674 c1023_i32_3539
  let v5682 : Index := Scalar.indexCast v5675
  let c3_3544 : Index := 3#32
  let c0_3545 : Index := 0#32
  ![v5682.toNat, 3, 0]

def k0_off860 (i : grid0.Coords) : Fin 2 → Nat :=
  let arg0 : BitVec 32 := BitVec.ofNat 32 (i 0).val
  let c8_i32_3546 : BitVec 32 := 8#32
  let v5686 : BitVec 32 := Scalar.muli arg0 c8_i32_3546
  let c4_i32_3547 : BitVec 32 := 4#32
  let v5687 : BitVec 32 := Scalar.addi v5686 c4_i32_3547
  let v5688 : Index := Scalar.indexCast v5687
  let c37_3548 : Index := 37#32
  ![v5688.toNat, 37]
def k0_off861 (v5689 : BitVec 32) : Fin 3 → Nat :=
  let c1023_i32_3549 : BitVec 32 := 1023#32
  let v5690 : BitVec 32 := Scalar.andi v5689 c1023_i32_3549
  let v5697 : Index := Scalar.indexCast v5690
  let c4_3554 : Index := 4#32
  let c0_3555 : Index := 0#32
  ![v5697.toNat, 4, 0]

def k0_off862 (i : grid0.Coords) : Fin 2 → Nat :=
  let arg0 : BitVec 32 := BitVec.ofNat 32 (i 0).val
  let c8_i32_3556 : BitVec 32 := 8#32
  let v5701 : BitVec 32 := Scalar.muli arg0 c8_i32_3556
  let c5_i32_3557 : BitVec 32 := 5#32
  let v5702 : BitVec 32 := Scalar.addi v5701 c5_i32_3557
  let v5703 : Index := Scalar.indexCast v5702
  let c37_3558 : Index := 37#32
  ![v5703.toNat, 37]
def k0_off863 (v5704 : BitVec 32) : Fin 3 → Nat :=
  let c1023_i32_3559 : BitVec 32 := 1023#32
  let v5705 : BitVec 32 := Scalar.andi v5704 c1023_i32_3559
  let v5712 : Index := Scalar.indexCast v5705
  let c5_3564 : Index := 5#32
  let c0_3565 : Index := 0#32
  ![v5712.toNat, 5, 0]

def k0_off864 (i : grid0.Coords) : Fin 2 → Nat :=
  let arg0 : BitVec 32 := BitVec.ofNat 32 (i 0).val
  let c8_i32_3566 : BitVec 32 := 8#32
  let v5716 : BitVec 32 := Scalar.muli arg0 c8_i32_3566
  let c6_i32_3567 : BitVec 32 := 6#32
  let v5717 : BitVec 32 := Scalar.addi v5716 c6_i32_3567
  let v5718 : Index := Scalar.indexCast v5717
  let c37_3568 : Index := 37#32
  ![v5718.toNat, 37]
def k0_off865 (v5719 : BitVec 32) : Fin 3 → Nat :=
  let c1023_i32_3569 : BitVec 32 := 1023#32
  let v5720 : BitVec 32 := Scalar.andi v5719 c1023_i32_3569
  let v5727 : Index := Scalar.indexCast v5720
  let c6_3574 : Index := 6#32
  let c0_3575 : Index := 0#32
  ![v5727.toNat, 6, 0]

def k0_off866 (i : grid0.Coords) : Fin 2 → Nat :=
  let arg0 : BitVec 32 := BitVec.ofNat 32 (i 0).val
  let c8_i32_3576 : BitVec 32 := 8#32
  let v5731 : BitVec 32 := Scalar.muli arg0 c8_i32_3576
  let c7_i32_3577 : BitVec 32 := 7#32
  let v5732 : BitVec 32 := Scalar.addi v5731 c7_i32_3577
  let v5733 : Index := Scalar.indexCast v5732
  let c37_3578 : Index := 37#32
  ![v5733.toNat, 37]
def k0_off867 (v5734 : BitVec 32) : Fin 3 → Nat :=
  let c1023_i32_3579 : BitVec 32 := 1023#32
  let v5735 : BitVec 32 := Scalar.andi v5734 c1023_i32_3579
  let v5742 : Index := Scalar.indexCast v5735
  let c7_3584 : Index := 7#32
  let c0_3585 : Index := 0#32
  ![v5742.toNat, 7, 0]

def k0_chk304 (v5734 : BitVec 32) : Prop :=
  (∀ a, (k0_off867 v5734) a + S1x1x512.size a ≤ S784x8x512.size a)
theorem k0_off867_inb : ∀ (v5734 : BitVec 32) (k0_hw304 : k0_chk304 v5734), ∀ a, (k0_off867 v5734) a + S1x1x512.size a ≤ S784x8x512.size a := fun v5734 k0_hw304 => k0_hw304

def k0_off868 (v5629 : BitVec 32) : Fin 3 → Nat :=
  let c1023_i32_3509 : BitVec 32 := 1023#32
  let v5630 : BitVec 32 := Scalar.andi v5629 c1023_i32_3509
  let v5746 : Index := Scalar.indexCast v5630
  let c0_3586 : Index := 0#32
  let c0_3587 : Index := 0#32
  ![v5746.toNat, 0, 0]

def k0_chk297 (v5629 : BitVec 32) : Prop :=
  (∀ a, (k0_off853 v5629) a + S1x1x512.size a ≤ S784x8x512.size a) ∧
  (∀ a, (k0_off868 v5629) a + S1x1x512.size a ≤ S784x8x512.size a)
theorem k0_off853_inb : ∀ (v5629 : BitVec 32) (k0_hw297 : k0_chk297 v5629), ∀ a, (k0_off853 v5629) a + S1x1x512.size a ≤ S784x8x512.size a := fun v5629 k0_hw297 => k0_hw297.1
theorem k0_off868_inb : ∀ (v5629 : BitVec 32) (k0_hw297 : k0_chk297 v5629), ∀ a, (k0_off868 v5629) a + S1x1x512.size a ≤ S784x8x512.size a := fun v5629 k0_hw297 => k0_hw297.2

def k0_off869 (v5644 : BitVec 32) : Fin 3 → Nat :=
  let c1023_i32_3519 : BitVec 32 := 1023#32
  let v5645 : BitVec 32 := Scalar.andi v5644 c1023_i32_3519
  let v5750 : Index := Scalar.indexCast v5645
  let c1_3588 : Index := 1#32
  let c0_3589 : Index := 0#32
  ![v5750.toNat, 1, 0]

def k0_chk298 (v5644 : BitVec 32) : Prop :=
  (∀ a, (k0_off855 v5644) a + S1x1x512.size a ≤ S784x8x512.size a) ∧
  (∀ a, (k0_off869 v5644) a + S1x1x512.size a ≤ S784x8x512.size a)
theorem k0_off855_inb : ∀ (v5644 : BitVec 32) (k0_hw298 : k0_chk298 v5644), ∀ a, (k0_off855 v5644) a + S1x1x512.size a ≤ S784x8x512.size a := fun v5644 k0_hw298 => k0_hw298.1
theorem k0_off869_inb : ∀ (v5644 : BitVec 32) (k0_hw298 : k0_chk298 v5644), ∀ a, (k0_off869 v5644) a + S1x1x512.size a ≤ S784x8x512.size a := fun v5644 k0_hw298 => k0_hw298.2

def k0_off870 (v5659 : BitVec 32) : Fin 3 → Nat :=
  let c1023_i32_3529 : BitVec 32 := 1023#32
  let v5660 : BitVec 32 := Scalar.andi v5659 c1023_i32_3529
  let v5754 : Index := Scalar.indexCast v5660
  let c2_3590 : Index := 2#32
  let c0_3591 : Index := 0#32
  ![v5754.toNat, 2, 0]

def k0_chk299 (v5659 : BitVec 32) : Prop :=
  (∀ a, (k0_off857 v5659) a + S1x1x512.size a ≤ S784x8x512.size a) ∧
  (∀ a, (k0_off870 v5659) a + S1x1x512.size a ≤ S784x8x512.size a)
theorem k0_off857_inb : ∀ (v5659 : BitVec 32) (k0_hw299 : k0_chk299 v5659), ∀ a, (k0_off857 v5659) a + S1x1x512.size a ≤ S784x8x512.size a := fun v5659 k0_hw299 => k0_hw299.1
theorem k0_off870_inb : ∀ (v5659 : BitVec 32) (k0_hw299 : k0_chk299 v5659), ∀ a, (k0_off870 v5659) a + S1x1x512.size a ≤ S784x8x512.size a := fun v5659 k0_hw299 => k0_hw299.2

def k0_off871 (v5674 : BitVec 32) : Fin 3 → Nat :=
  let c1023_i32_3539 : BitVec 32 := 1023#32
  let v5675 : BitVec 32 := Scalar.andi v5674 c1023_i32_3539
  let v5758 : Index := Scalar.indexCast v5675
  let c3_3592 : Index := 3#32
  let c0_3593 : Index := 0#32
  ![v5758.toNat, 3, 0]

def k0_chk300 (v5674 : BitVec 32) : Prop :=
  (∀ a, (k0_off859 v5674) a + S1x1x512.size a ≤ S784x8x512.size a) ∧
  (∀ a, (k0_off871 v5674) a + S1x1x512.size a ≤ S784x8x512.size a)
theorem k0_off859_inb : ∀ (v5674 : BitVec 32) (k0_hw300 : k0_chk300 v5674), ∀ a, (k0_off859 v5674) a + S1x1x512.size a ≤ S784x8x512.size a := fun v5674 k0_hw300 => k0_hw300.1
theorem k0_off871_inb : ∀ (v5674 : BitVec 32) (k0_hw300 : k0_chk300 v5674), ∀ a, (k0_off871 v5674) a + S1x1x512.size a ≤ S784x8x512.size a := fun v5674 k0_hw300 => k0_hw300.2

def k0_off872 (v5689 : BitVec 32) : Fin 3 → Nat :=
  let c1023_i32_3549 : BitVec 32 := 1023#32
  let v5690 : BitVec 32 := Scalar.andi v5689 c1023_i32_3549
  let v5762 : Index := Scalar.indexCast v5690
  let c4_3594 : Index := 4#32
  let c0_3595 : Index := 0#32
  ![v5762.toNat, 4, 0]

def k0_chk301 (v5689 : BitVec 32) : Prop :=
  (∀ a, (k0_off861 v5689) a + S1x1x512.size a ≤ S784x8x512.size a) ∧
  (∀ a, (k0_off872 v5689) a + S1x1x512.size a ≤ S784x8x512.size a)
theorem k0_off861_inb : ∀ (v5689 : BitVec 32) (k0_hw301 : k0_chk301 v5689), ∀ a, (k0_off861 v5689) a + S1x1x512.size a ≤ S784x8x512.size a := fun v5689 k0_hw301 => k0_hw301.1
theorem k0_off872_inb : ∀ (v5689 : BitVec 32) (k0_hw301 : k0_chk301 v5689), ∀ a, (k0_off872 v5689) a + S1x1x512.size a ≤ S784x8x512.size a := fun v5689 k0_hw301 => k0_hw301.2

def k0_off873 (v5704 : BitVec 32) : Fin 3 → Nat :=
  let c1023_i32_3559 : BitVec 32 := 1023#32
  let v5705 : BitVec 32 := Scalar.andi v5704 c1023_i32_3559
  let v5766 : Index := Scalar.indexCast v5705
  let c5_3596 : Index := 5#32
  let c0_3597 : Index := 0#32
  ![v5766.toNat, 5, 0]

def k0_chk302 (v5704 : BitVec 32) : Prop :=
  (∀ a, (k0_off863 v5704) a + S1x1x512.size a ≤ S784x8x512.size a) ∧
  (∀ a, (k0_off873 v5704) a + S1x1x512.size a ≤ S784x8x512.size a)
theorem k0_off863_inb : ∀ (v5704 : BitVec 32) (k0_hw302 : k0_chk302 v5704), ∀ a, (k0_off863 v5704) a + S1x1x512.size a ≤ S784x8x512.size a := fun v5704 k0_hw302 => k0_hw302.1
theorem k0_off873_inb : ∀ (v5704 : BitVec 32) (k0_hw302 : k0_chk302 v5704), ∀ a, (k0_off873 v5704) a + S1x1x512.size a ≤ S784x8x512.size a := fun v5704 k0_hw302 => k0_hw302.2

def k0_off874 (v5719 : BitVec 32) : Fin 3 → Nat :=
  let c1023_i32_3569 : BitVec 32 := 1023#32
  let v5720 : BitVec 32 := Scalar.andi v5719 c1023_i32_3569
  let v5770 : Index := Scalar.indexCast v5720
  let c6_3598 : Index := 6#32
  let c0_3599 : Index := 0#32
  ![v5770.toNat, 6, 0]

def k0_chk303 (v5719 : BitVec 32) : Prop :=
  (∀ a, (k0_off865 v5719) a + S1x1x512.size a ≤ S784x8x512.size a) ∧
  (∀ a, (k0_off874 v5719) a + S1x1x512.size a ≤ S784x8x512.size a)
theorem k0_off865_inb : ∀ (v5719 : BitVec 32) (k0_hw303 : k0_chk303 v5719), ∀ a, (k0_off865 v5719) a + S1x1x512.size a ≤ S784x8x512.size a := fun v5719 k0_hw303 => k0_hw303.1
theorem k0_off874_inb : ∀ (v5719 : BitVec 32) (k0_hw303 : k0_chk303 v5719), ∀ a, (k0_off874 v5719) a + S1x1x512.size a ≤ S784x8x512.size a := fun v5719 k0_hw303 => k0_hw303.2

def k0_off875 (i : grid0.Coords) : Fin 2 → Nat :=
  let arg0 : BitVec 32 := BitVec.ofNat 32 (i 0).val
  let c8_i32_3602 : BitVec 32 := 8#32
  let v5778 : BitVec 32 := Scalar.muli arg0 c8_i32_3602
  let c0_i32_3603 : BitVec 32 := 0#32
  let v5779 : BitVec 32 := Scalar.addi v5778 c0_i32_3603
  let v5780 : Index := Scalar.indexCast v5779
  let c38 : Index := 38#32
  ![v5780.toNat, 38]
def k0_off876 (v5781 : BitVec 32) : Fin 3 → Nat :=
  let c1023_i32_3604 : BitVec 32 := 1023#32
  let v5782 : BitVec 32 := Scalar.andi v5781 c1023_i32_3604
  let v5789 : Index := Scalar.indexCast v5782
  let c0_3609 : Index := 0#32
  let c0_3610 : Index := 0#32
  ![v5789.toNat, 0, 0]

def k0_off877 (i : grid0.Coords) : Fin 2 → Nat :=
  let arg0 : BitVec 32 := BitVec.ofNat 32 (i 0).val
  let c8_i32_3611 : BitVec 32 := 8#32
  let v5793 : BitVec 32 := Scalar.muli arg0 c8_i32_3611
  let c1_i32_3612 : BitVec 32 := 1#32
  let v5794 : BitVec 32 := Scalar.addi v5793 c1_i32_3612
  let v5795 : Index := Scalar.indexCast v5794
  let c38_3613 : Index := 38#32
  ![v5795.toNat, 38]
def k0_off878 (v5796 : BitVec 32) : Fin 3 → Nat :=
  let c1023_i32_3614 : BitVec 32 := 1023#32
  let v5797 : BitVec 32 := Scalar.andi v5796 c1023_i32_3614
  let v5804 : Index := Scalar.indexCast v5797
  let c1_3619 : Index := 1#32
  let c0_3620 : Index := 0#32
  ![v5804.toNat, 1, 0]

def k0_off879 (i : grid0.Coords) : Fin 2 → Nat :=
  let arg0 : BitVec 32 := BitVec.ofNat 32 (i 0).val
  let c8_i32_3621 : BitVec 32 := 8#32
  let v5808 : BitVec 32 := Scalar.muli arg0 c8_i32_3621
  let c2_i32_3622 : BitVec 32 := 2#32
  let v5809 : BitVec 32 := Scalar.addi v5808 c2_i32_3622
  let v5810 : Index := Scalar.indexCast v5809
  let c38_3623 : Index := 38#32
  ![v5810.toNat, 38]
def k0_off880 (v5811 : BitVec 32) : Fin 3 → Nat :=
  let c1023_i32_3624 : BitVec 32 := 1023#32
  let v5812 : BitVec 32 := Scalar.andi v5811 c1023_i32_3624
  let v5819 : Index := Scalar.indexCast v5812
  let c2_3629 : Index := 2#32
  let c0_3630 : Index := 0#32
  ![v5819.toNat, 2, 0]

def k0_off881 (i : grid0.Coords) : Fin 2 → Nat :=
  let arg0 : BitVec 32 := BitVec.ofNat 32 (i 0).val
  let c8_i32_3631 : BitVec 32 := 8#32
  let v5823 : BitVec 32 := Scalar.muli arg0 c8_i32_3631
  let c3_i32_3632 : BitVec 32 := 3#32
  let v5824 : BitVec 32 := Scalar.addi v5823 c3_i32_3632
  let v5825 : Index := Scalar.indexCast v5824
  let c38_3633 : Index := 38#32
  ![v5825.toNat, 38]
def k0_off882 (v5826 : BitVec 32) : Fin 3 → Nat :=
  let c1023_i32_3634 : BitVec 32 := 1023#32
  let v5827 : BitVec 32 := Scalar.andi v5826 c1023_i32_3634
  let v5834 : Index := Scalar.indexCast v5827
  let c3_3639 : Index := 3#32
  let c0_3640 : Index := 0#32
  ![v5834.toNat, 3, 0]

def k0_off883 (i : grid0.Coords) : Fin 2 → Nat :=
  let arg0 : BitVec 32 := BitVec.ofNat 32 (i 0).val
  let c8_i32_3641 : BitVec 32 := 8#32
  let v5838 : BitVec 32 := Scalar.muli arg0 c8_i32_3641
  let c4_i32_3642 : BitVec 32 := 4#32
  let v5839 : BitVec 32 := Scalar.addi v5838 c4_i32_3642
  let v5840 : Index := Scalar.indexCast v5839
  let c38_3643 : Index := 38#32
  ![v5840.toNat, 38]
def k0_off884 (v5841 : BitVec 32) : Fin 3 → Nat :=
  let c1023_i32_3644 : BitVec 32 := 1023#32
  let v5842 : BitVec 32 := Scalar.andi v5841 c1023_i32_3644
  let v5849 : Index := Scalar.indexCast v5842
  let c4_3649 : Index := 4#32
  let c0_3650 : Index := 0#32
  ![v5849.toNat, 4, 0]

def k0_off885 (i : grid0.Coords) : Fin 2 → Nat :=
  let arg0 : BitVec 32 := BitVec.ofNat 32 (i 0).val
  let c8_i32_3651 : BitVec 32 := 8#32
  let v5853 : BitVec 32 := Scalar.muli arg0 c8_i32_3651
  let c5_i32_3652 : BitVec 32 := 5#32
  let v5854 : BitVec 32 := Scalar.addi v5853 c5_i32_3652
  let v5855 : Index := Scalar.indexCast v5854
  let c38_3653 : Index := 38#32
  ![v5855.toNat, 38]
def k0_off886 (v5856 : BitVec 32) : Fin 3 → Nat :=
  let c1023_i32_3654 : BitVec 32 := 1023#32
  let v5857 : BitVec 32 := Scalar.andi v5856 c1023_i32_3654
  let v5864 : Index := Scalar.indexCast v5857
  let c5_3659 : Index := 5#32
  let c0_3660 : Index := 0#32
  ![v5864.toNat, 5, 0]

def k0_off887 (i : grid0.Coords) : Fin 2 → Nat :=
  let arg0 : BitVec 32 := BitVec.ofNat 32 (i 0).val
  let c8_i32_3661 : BitVec 32 := 8#32
  let v5868 : BitVec 32 := Scalar.muli arg0 c8_i32_3661
  let c6_i32_3662 : BitVec 32 := 6#32
  let v5869 : BitVec 32 := Scalar.addi v5868 c6_i32_3662
  let v5870 : Index := Scalar.indexCast v5869
  let c38_3663 : Index := 38#32
  ![v5870.toNat, 38]
def k0_off888 (v5871 : BitVec 32) : Fin 3 → Nat :=
  let c1023_i32_3664 : BitVec 32 := 1023#32
  let v5872 : BitVec 32 := Scalar.andi v5871 c1023_i32_3664
  let v5879 : Index := Scalar.indexCast v5872
  let c6_3669 : Index := 6#32
  let c0_3670 : Index := 0#32
  ![v5879.toNat, 6, 0]

def k0_off889 (i : grid0.Coords) : Fin 2 → Nat :=
  let arg0 : BitVec 32 := BitVec.ofNat 32 (i 0).val
  let c8_i32_3671 : BitVec 32 := 8#32
  let v5883 : BitVec 32 := Scalar.muli arg0 c8_i32_3671
  let c7_i32_3672 : BitVec 32 := 7#32
  let v5884 : BitVec 32 := Scalar.addi v5883 c7_i32_3672
  let v5885 : Index := Scalar.indexCast v5884
  let c38_3673 : Index := 38#32
  ![v5885.toNat, 38]
def k0_off890 (v5886 : BitVec 32) : Fin 3 → Nat :=
  let c1023_i32_3674 : BitVec 32 := 1023#32
  let v5887 : BitVec 32 := Scalar.andi v5886 c1023_i32_3674
  let v5894 : Index := Scalar.indexCast v5887
  let c7_3679 : Index := 7#32
  let c0_3680 : Index := 0#32
  ![v5894.toNat, 7, 0]

def k0_chk312 (v5886 : BitVec 32) : Prop :=
  (∀ a, (k0_off890 v5886) a + S1x1x512.size a ≤ S784x8x512.size a)
theorem k0_off890_inb : ∀ (v5886 : BitVec 32) (k0_hw312 : k0_chk312 v5886), ∀ a, (k0_off890 v5886) a + S1x1x512.size a ≤ S784x8x512.size a := fun v5886 k0_hw312 => k0_hw312

def k0_off891 (v5781 : BitVec 32) : Fin 3 → Nat :=
  let c1023_i32_3604 : BitVec 32 := 1023#32
  let v5782 : BitVec 32 := Scalar.andi v5781 c1023_i32_3604
  let v5898 : Index := Scalar.indexCast v5782
  let c0_3681 : Index := 0#32
  let c0_3682 : Index := 0#32
  ![v5898.toNat, 0, 0]

def k0_chk305 (v5781 : BitVec 32) : Prop :=
  (∀ a, (k0_off876 v5781) a + S1x1x512.size a ≤ S784x8x512.size a) ∧
  (∀ a, (k0_off891 v5781) a + S1x1x512.size a ≤ S784x8x512.size a)
theorem k0_off876_inb : ∀ (v5781 : BitVec 32) (k0_hw305 : k0_chk305 v5781), ∀ a, (k0_off876 v5781) a + S1x1x512.size a ≤ S784x8x512.size a := fun v5781 k0_hw305 => k0_hw305.1
theorem k0_off891_inb : ∀ (v5781 : BitVec 32) (k0_hw305 : k0_chk305 v5781), ∀ a, (k0_off891 v5781) a + S1x1x512.size a ≤ S784x8x512.size a := fun v5781 k0_hw305 => k0_hw305.2

def k0_off892 (v5796 : BitVec 32) : Fin 3 → Nat :=
  let c1023_i32_3614 : BitVec 32 := 1023#32
  let v5797 : BitVec 32 := Scalar.andi v5796 c1023_i32_3614
  let v5902 : Index := Scalar.indexCast v5797
  let c1_3683 : Index := 1#32
  let c0_3684 : Index := 0#32
  ![v5902.toNat, 1, 0]

def k0_chk306 (v5796 : BitVec 32) : Prop :=
  (∀ a, (k0_off878 v5796) a + S1x1x512.size a ≤ S784x8x512.size a) ∧
  (∀ a, (k0_off892 v5796) a + S1x1x512.size a ≤ S784x8x512.size a)
theorem k0_off878_inb : ∀ (v5796 : BitVec 32) (k0_hw306 : k0_chk306 v5796), ∀ a, (k0_off878 v5796) a + S1x1x512.size a ≤ S784x8x512.size a := fun v5796 k0_hw306 => k0_hw306.1
theorem k0_off892_inb : ∀ (v5796 : BitVec 32) (k0_hw306 : k0_chk306 v5796), ∀ a, (k0_off892 v5796) a + S1x1x512.size a ≤ S784x8x512.size a := fun v5796 k0_hw306 => k0_hw306.2

def k0_off893 (v5811 : BitVec 32) : Fin 3 → Nat :=
  let c1023_i32_3624 : BitVec 32 := 1023#32
  let v5812 : BitVec 32 := Scalar.andi v5811 c1023_i32_3624
  let v5906 : Index := Scalar.indexCast v5812
  let c2_3685 : Index := 2#32
  let c0_3686 : Index := 0#32
  ![v5906.toNat, 2, 0]

def k0_chk307 (v5811 : BitVec 32) : Prop :=
  (∀ a, (k0_off880 v5811) a + S1x1x512.size a ≤ S784x8x512.size a) ∧
  (∀ a, (k0_off893 v5811) a + S1x1x512.size a ≤ S784x8x512.size a)
theorem k0_off880_inb : ∀ (v5811 : BitVec 32) (k0_hw307 : k0_chk307 v5811), ∀ a, (k0_off880 v5811) a + S1x1x512.size a ≤ S784x8x512.size a := fun v5811 k0_hw307 => k0_hw307.1
theorem k0_off893_inb : ∀ (v5811 : BitVec 32) (k0_hw307 : k0_chk307 v5811), ∀ a, (k0_off893 v5811) a + S1x1x512.size a ≤ S784x8x512.size a := fun v5811 k0_hw307 => k0_hw307.2

def k0_off894 (v5826 : BitVec 32) : Fin 3 → Nat :=
  let c1023_i32_3634 : BitVec 32 := 1023#32
  let v5827 : BitVec 32 := Scalar.andi v5826 c1023_i32_3634
  let v5910 : Index := Scalar.indexCast v5827
  let c3_3687 : Index := 3#32
  let c0_3688 : Index := 0#32
  ![v5910.toNat, 3, 0]

def k0_chk308 (v5826 : BitVec 32) : Prop :=
  (∀ a, (k0_off882 v5826) a + S1x1x512.size a ≤ S784x8x512.size a) ∧
  (∀ a, (k0_off894 v5826) a + S1x1x512.size a ≤ S784x8x512.size a)
theorem k0_off882_inb : ∀ (v5826 : BitVec 32) (k0_hw308 : k0_chk308 v5826), ∀ a, (k0_off882 v5826) a + S1x1x512.size a ≤ S784x8x512.size a := fun v5826 k0_hw308 => k0_hw308.1
theorem k0_off894_inb : ∀ (v5826 : BitVec 32) (k0_hw308 : k0_chk308 v5826), ∀ a, (k0_off894 v5826) a + S1x1x512.size a ≤ S784x8x512.size a := fun v5826 k0_hw308 => k0_hw308.2

def k0_off895 (v5841 : BitVec 32) : Fin 3 → Nat :=
  let c1023_i32_3644 : BitVec 32 := 1023#32
  let v5842 : BitVec 32 := Scalar.andi v5841 c1023_i32_3644
  let v5914 : Index := Scalar.indexCast v5842
  let c4_3689 : Index := 4#32
  let c0_3690 : Index := 0#32
  ![v5914.toNat, 4, 0]

def k0_chk309 (v5841 : BitVec 32) : Prop :=
  (∀ a, (k0_off884 v5841) a + S1x1x512.size a ≤ S784x8x512.size a) ∧
  (∀ a, (k0_off895 v5841) a + S1x1x512.size a ≤ S784x8x512.size a)
theorem k0_off884_inb : ∀ (v5841 : BitVec 32) (k0_hw309 : k0_chk309 v5841), ∀ a, (k0_off884 v5841) a + S1x1x512.size a ≤ S784x8x512.size a := fun v5841 k0_hw309 => k0_hw309.1
theorem k0_off895_inb : ∀ (v5841 : BitVec 32) (k0_hw309 : k0_chk309 v5841), ∀ a, (k0_off895 v5841) a + S1x1x512.size a ≤ S784x8x512.size a := fun v5841 k0_hw309 => k0_hw309.2

def k0_off896 (v5856 : BitVec 32) : Fin 3 → Nat :=
  let c1023_i32_3654 : BitVec 32 := 1023#32
  let v5857 : BitVec 32 := Scalar.andi v5856 c1023_i32_3654
  let v5918 : Index := Scalar.indexCast v5857
  let c5_3691 : Index := 5#32
  let c0_3692 : Index := 0#32
  ![v5918.toNat, 5, 0]

def k0_chk310 (v5856 : BitVec 32) : Prop :=
  (∀ a, (k0_off886 v5856) a + S1x1x512.size a ≤ S784x8x512.size a) ∧
  (∀ a, (k0_off896 v5856) a + S1x1x512.size a ≤ S784x8x512.size a)
theorem k0_off886_inb : ∀ (v5856 : BitVec 32) (k0_hw310 : k0_chk310 v5856), ∀ a, (k0_off886 v5856) a + S1x1x512.size a ≤ S784x8x512.size a := fun v5856 k0_hw310 => k0_hw310.1
theorem k0_off896_inb : ∀ (v5856 : BitVec 32) (k0_hw310 : k0_chk310 v5856), ∀ a, (k0_off896 v5856) a + S1x1x512.size a ≤ S784x8x512.size a := fun v5856 k0_hw310 => k0_hw310.2

def k0_off897 (v5871 : BitVec 32) : Fin 3 → Nat :=
  let c1023_i32_3664 : BitVec 32 := 1023#32
  let v5872 : BitVec 32 := Scalar.andi v5871 c1023_i32_3664
  let v5922 : Index := Scalar.indexCast v5872
  let c6_3693 : Index := 6#32
  let c0_3694 : Index := 0#32
  ![v5922.toNat, 6, 0]

def k0_chk311 (v5871 : BitVec 32) : Prop :=
  (∀ a, (k0_off888 v5871) a + S1x1x512.size a ≤ S784x8x512.size a) ∧
  (∀ a, (k0_off897 v5871) a + S1x1x512.size a ≤ S784x8x512.size a)
theorem k0_off888_inb : ∀ (v5871 : BitVec 32) (k0_hw311 : k0_chk311 v5871), ∀ a, (k0_off888 v5871) a + S1x1x512.size a ≤ S784x8x512.size a := fun v5871 k0_hw311 => k0_hw311.1
theorem k0_off897_inb : ∀ (v5871 : BitVec 32) (k0_hw311 : k0_chk311 v5871), ∀ a, (k0_off897 v5871) a + S1x1x512.size a ≤ S784x8x512.size a := fun v5871 k0_hw311 => k0_hw311.2

def k0_off898 (i : grid0.Coords) : Fin 2 → Nat :=
  let arg0 : BitVec 32 := BitVec.ofNat 32 (i 0).val
  let c8_i32_3697 : BitVec 32 := 8#32
  let v5930 : BitVec 32 := Scalar.muli arg0 c8_i32_3697
  let c0_i32_3698 : BitVec 32 := 0#32
  let v5931 : BitVec 32 := Scalar.addi v5930 c0_i32_3698
  let v5932 : Index := Scalar.indexCast v5931
  let c39 : Index := 39#32
  ![v5932.toNat, 39]
def k0_off899 (v5933 : BitVec 32) : Fin 3 → Nat :=
  let c1023_i32_3699 : BitVec 32 := 1023#32
  let v5934 : BitVec 32 := Scalar.andi v5933 c1023_i32_3699
  let v5941 : Index := Scalar.indexCast v5934
  let c0_3704 : Index := 0#32
  let c0_3705 : Index := 0#32
  ![v5941.toNat, 0, 0]

def k0_off900 (i : grid0.Coords) : Fin 2 → Nat :=
  let arg0 : BitVec 32 := BitVec.ofNat 32 (i 0).val
  let c8_i32_3706 : BitVec 32 := 8#32
  let v5945 : BitVec 32 := Scalar.muli arg0 c8_i32_3706
  let c1_i32_3707 : BitVec 32 := 1#32
  let v5946 : BitVec 32 := Scalar.addi v5945 c1_i32_3707
  let v5947 : Index := Scalar.indexCast v5946
  let c39_3708 : Index := 39#32
  ![v5947.toNat, 39]
def k0_off901 (v5948 : BitVec 32) : Fin 3 → Nat :=
  let c1023_i32_3709 : BitVec 32 := 1023#32
  let v5949 : BitVec 32 := Scalar.andi v5948 c1023_i32_3709
  let v5956 : Index := Scalar.indexCast v5949
  let c1_3714 : Index := 1#32
  let c0_3715 : Index := 0#32
  ![v5956.toNat, 1, 0]

def k0_off902 (i : grid0.Coords) : Fin 2 → Nat :=
  let arg0 : BitVec 32 := BitVec.ofNat 32 (i 0).val
  let c8_i32_3716 : BitVec 32 := 8#32
  let v5960 : BitVec 32 := Scalar.muli arg0 c8_i32_3716
  let c2_i32_3717 : BitVec 32 := 2#32
  let v5961 : BitVec 32 := Scalar.addi v5960 c2_i32_3717
  let v5962 : Index := Scalar.indexCast v5961
  let c39_3718 : Index := 39#32
  ![v5962.toNat, 39]
def k0_off903 (v5963 : BitVec 32) : Fin 3 → Nat :=
  let c1023_i32_3719 : BitVec 32 := 1023#32
  let v5964 : BitVec 32 := Scalar.andi v5963 c1023_i32_3719
  let v5971 : Index := Scalar.indexCast v5964
  let c2_3724 : Index := 2#32
  let c0_3725 : Index := 0#32
  ![v5971.toNat, 2, 0]

def k0_off904 (i : grid0.Coords) : Fin 2 → Nat :=
  let arg0 : BitVec 32 := BitVec.ofNat 32 (i 0).val
  let c8_i32_3726 : BitVec 32 := 8#32
  let v5975 : BitVec 32 := Scalar.muli arg0 c8_i32_3726
  let c3_i32_3727 : BitVec 32 := 3#32
  let v5976 : BitVec 32 := Scalar.addi v5975 c3_i32_3727
  let v5977 : Index := Scalar.indexCast v5976
  let c39_3728 : Index := 39#32
  ![v5977.toNat, 39]
def k0_off905 (v5978 : BitVec 32) : Fin 3 → Nat :=
  let c1023_i32_3729 : BitVec 32 := 1023#32
  let v5979 : BitVec 32 := Scalar.andi v5978 c1023_i32_3729
  let v5986 : Index := Scalar.indexCast v5979
  let c3_3734 : Index := 3#32
  let c0_3735 : Index := 0#32
  ![v5986.toNat, 3, 0]

def k0_off906 (i : grid0.Coords) : Fin 2 → Nat :=
  let arg0 : BitVec 32 := BitVec.ofNat 32 (i 0).val
  let c8_i32_3736 : BitVec 32 := 8#32
  let v5990 : BitVec 32 := Scalar.muli arg0 c8_i32_3736
  let c4_i32_3737 : BitVec 32 := 4#32
  let v5991 : BitVec 32 := Scalar.addi v5990 c4_i32_3737
  let v5992 : Index := Scalar.indexCast v5991
  let c39_3738 : Index := 39#32
  ![v5992.toNat, 39]
def k0_off907 (v5993 : BitVec 32) : Fin 3 → Nat :=
  let c1023_i32_3739 : BitVec 32 := 1023#32
  let v5994 : BitVec 32 := Scalar.andi v5993 c1023_i32_3739
  let v6001 : Index := Scalar.indexCast v5994
  let c4_3744 : Index := 4#32
  let c0_3745 : Index := 0#32
  ![v6001.toNat, 4, 0]

def k0_off908 (i : grid0.Coords) : Fin 2 → Nat :=
  let arg0 : BitVec 32 := BitVec.ofNat 32 (i 0).val
  let c8_i32_3746 : BitVec 32 := 8#32
  let v6005 : BitVec 32 := Scalar.muli arg0 c8_i32_3746
  let c5_i32_3747 : BitVec 32 := 5#32
  let v6006 : BitVec 32 := Scalar.addi v6005 c5_i32_3747
  let v6007 : Index := Scalar.indexCast v6006
  let c39_3748 : Index := 39#32
  ![v6007.toNat, 39]
def k0_off909 (v6008 : BitVec 32) : Fin 3 → Nat :=
  let c1023_i32_3749 : BitVec 32 := 1023#32
  let v6009 : BitVec 32 := Scalar.andi v6008 c1023_i32_3749
  let v6016 : Index := Scalar.indexCast v6009
  let c5_3754 : Index := 5#32
  let c0_3755 : Index := 0#32
  ![v6016.toNat, 5, 0]

def k0_off910 (i : grid0.Coords) : Fin 2 → Nat :=
  let arg0 : BitVec 32 := BitVec.ofNat 32 (i 0).val
  let c8_i32_3756 : BitVec 32 := 8#32
  let v6020 : BitVec 32 := Scalar.muli arg0 c8_i32_3756
  let c6_i32_3757 : BitVec 32 := 6#32
  let v6021 : BitVec 32 := Scalar.addi v6020 c6_i32_3757
  let v6022 : Index := Scalar.indexCast v6021
  let c39_3758 : Index := 39#32
  ![v6022.toNat, 39]
def k0_off911 (v6023 : BitVec 32) : Fin 3 → Nat :=
  let c1023_i32_3759 : BitVec 32 := 1023#32
  let v6024 : BitVec 32 := Scalar.andi v6023 c1023_i32_3759
  let v6031 : Index := Scalar.indexCast v6024
  let c6_3764 : Index := 6#32
  let c0_3765 : Index := 0#32
  ![v6031.toNat, 6, 0]

def k0_off912 (i : grid0.Coords) : Fin 2 → Nat :=
  let arg0 : BitVec 32 := BitVec.ofNat 32 (i 0).val
  let c8_i32_3766 : BitVec 32 := 8#32
  let v6035 : BitVec 32 := Scalar.muli arg0 c8_i32_3766
  let c7_i32_3767 : BitVec 32 := 7#32
  let v6036 : BitVec 32 := Scalar.addi v6035 c7_i32_3767
  let v6037 : Index := Scalar.indexCast v6036
  let c39_3768 : Index := 39#32
  ![v6037.toNat, 39]
def k0_off913 (v6038 : BitVec 32) : Fin 3 → Nat :=
  let c1023_i32_3769 : BitVec 32 := 1023#32
  let v6039 : BitVec 32 := Scalar.andi v6038 c1023_i32_3769
  let v6046 : Index := Scalar.indexCast v6039
  let c7_3774 : Index := 7#32
  let c0_3775 : Index := 0#32
  ![v6046.toNat, 7, 0]

def k0_chk320 (v6038 : BitVec 32) : Prop :=
  (∀ a, (k0_off913 v6038) a + S1x1x512.size a ≤ S784x8x512.size a)
theorem k0_off913_inb : ∀ (v6038 : BitVec 32) (k0_hw320 : k0_chk320 v6038), ∀ a, (k0_off913 v6038) a + S1x1x512.size a ≤ S784x8x512.size a := fun v6038 k0_hw320 => k0_hw320

def k0_off914 (v5933 : BitVec 32) : Fin 3 → Nat :=
  let c1023_i32_3699 : BitVec 32 := 1023#32
  let v5934 : BitVec 32 := Scalar.andi v5933 c1023_i32_3699
  let v6050 : Index := Scalar.indexCast v5934
  let c0_3776 : Index := 0#32
  let c0_3777 : Index := 0#32
  ![v6050.toNat, 0, 0]

def k0_chk313 (v5933 : BitVec 32) : Prop :=
  (∀ a, (k0_off899 v5933) a + S1x1x512.size a ≤ S784x8x512.size a) ∧
  (∀ a, (k0_off914 v5933) a + S1x1x512.size a ≤ S784x8x512.size a)
theorem k0_off899_inb : ∀ (v5933 : BitVec 32) (k0_hw313 : k0_chk313 v5933), ∀ a, (k0_off899 v5933) a + S1x1x512.size a ≤ S784x8x512.size a := fun v5933 k0_hw313 => k0_hw313.1
theorem k0_off914_inb : ∀ (v5933 : BitVec 32) (k0_hw313 : k0_chk313 v5933), ∀ a, (k0_off914 v5933) a + S1x1x512.size a ≤ S784x8x512.size a := fun v5933 k0_hw313 => k0_hw313.2

def k0_off915 (v5948 : BitVec 32) : Fin 3 → Nat :=
  let c1023_i32_3709 : BitVec 32 := 1023#32
  let v5949 : BitVec 32 := Scalar.andi v5948 c1023_i32_3709
  let v6054 : Index := Scalar.indexCast v5949
  let c1_3778 : Index := 1#32
  let c0_3779 : Index := 0#32
  ![v6054.toNat, 1, 0]

def k0_chk314 (v5948 : BitVec 32) : Prop :=
  (∀ a, (k0_off901 v5948) a + S1x1x512.size a ≤ S784x8x512.size a) ∧
  (∀ a, (k0_off915 v5948) a + S1x1x512.size a ≤ S784x8x512.size a)
theorem k0_off901_inb : ∀ (v5948 : BitVec 32) (k0_hw314 : k0_chk314 v5948), ∀ a, (k0_off901 v5948) a + S1x1x512.size a ≤ S784x8x512.size a := fun v5948 k0_hw314 => k0_hw314.1
theorem k0_off915_inb : ∀ (v5948 : BitVec 32) (k0_hw314 : k0_chk314 v5948), ∀ a, (k0_off915 v5948) a + S1x1x512.size a ≤ S784x8x512.size a := fun v5948 k0_hw314 => k0_hw314.2

def k0_off916 (v5963 : BitVec 32) : Fin 3 → Nat :=
  let c1023_i32_3719 : BitVec 32 := 1023#32
  let v5964 : BitVec 32 := Scalar.andi v5963 c1023_i32_3719
  let v6058 : Index := Scalar.indexCast v5964
  let c2_3780 : Index := 2#32
  let c0_3781 : Index := 0#32
  ![v6058.toNat, 2, 0]

def k0_chk315 (v5963 : BitVec 32) : Prop :=
  (∀ a, (k0_off903 v5963) a + S1x1x512.size a ≤ S784x8x512.size a) ∧
  (∀ a, (k0_off916 v5963) a + S1x1x512.size a ≤ S784x8x512.size a)
theorem k0_off903_inb : ∀ (v5963 : BitVec 32) (k0_hw315 : k0_chk315 v5963), ∀ a, (k0_off903 v5963) a + S1x1x512.size a ≤ S784x8x512.size a := fun v5963 k0_hw315 => k0_hw315.1
theorem k0_off916_inb : ∀ (v5963 : BitVec 32) (k0_hw315 : k0_chk315 v5963), ∀ a, (k0_off916 v5963) a + S1x1x512.size a ≤ S784x8x512.size a := fun v5963 k0_hw315 => k0_hw315.2

def k0_off917 (v5978 : BitVec 32) : Fin 3 → Nat :=
  let c1023_i32_3729 : BitVec 32 := 1023#32
  let v5979 : BitVec 32 := Scalar.andi v5978 c1023_i32_3729
  let v6062 : Index := Scalar.indexCast v5979
  let c3_3782 : Index := 3#32
  let c0_3783 : Index := 0#32
  ![v6062.toNat, 3, 0]

def k0_chk316 (v5978 : BitVec 32) : Prop :=
  (∀ a, (k0_off905 v5978) a + S1x1x512.size a ≤ S784x8x512.size a) ∧
  (∀ a, (k0_off917 v5978) a + S1x1x512.size a ≤ S784x8x512.size a)
theorem k0_off905_inb : ∀ (v5978 : BitVec 32) (k0_hw316 : k0_chk316 v5978), ∀ a, (k0_off905 v5978) a + S1x1x512.size a ≤ S784x8x512.size a := fun v5978 k0_hw316 => k0_hw316.1
theorem k0_off917_inb : ∀ (v5978 : BitVec 32) (k0_hw316 : k0_chk316 v5978), ∀ a, (k0_off917 v5978) a + S1x1x512.size a ≤ S784x8x512.size a := fun v5978 k0_hw316 => k0_hw316.2

def k0_off918 (v5993 : BitVec 32) : Fin 3 → Nat :=
  let c1023_i32_3739 : BitVec 32 := 1023#32
  let v5994 : BitVec 32 := Scalar.andi v5993 c1023_i32_3739
  let v6066 : Index := Scalar.indexCast v5994
  let c4_3784 : Index := 4#32
  let c0_3785 : Index := 0#32
  ![v6066.toNat, 4, 0]

def k0_chk317 (v5993 : BitVec 32) : Prop :=
  (∀ a, (k0_off907 v5993) a + S1x1x512.size a ≤ S784x8x512.size a) ∧
  (∀ a, (k0_off918 v5993) a + S1x1x512.size a ≤ S784x8x512.size a)
theorem k0_off907_inb : ∀ (v5993 : BitVec 32) (k0_hw317 : k0_chk317 v5993), ∀ a, (k0_off907 v5993) a + S1x1x512.size a ≤ S784x8x512.size a := fun v5993 k0_hw317 => k0_hw317.1
theorem k0_off918_inb : ∀ (v5993 : BitVec 32) (k0_hw317 : k0_chk317 v5993), ∀ a, (k0_off918 v5993) a + S1x1x512.size a ≤ S784x8x512.size a := fun v5993 k0_hw317 => k0_hw317.2

def k0_off919 (v6008 : BitVec 32) : Fin 3 → Nat :=
  let c1023_i32_3749 : BitVec 32 := 1023#32
  let v6009 : BitVec 32 := Scalar.andi v6008 c1023_i32_3749
  let v6070 : Index := Scalar.indexCast v6009
  let c5_3786 : Index := 5#32
  let c0_3787 : Index := 0#32
  ![v6070.toNat, 5, 0]

def k0_chk318 (v6008 : BitVec 32) : Prop :=
  (∀ a, (k0_off909 v6008) a + S1x1x512.size a ≤ S784x8x512.size a) ∧
  (∀ a, (k0_off919 v6008) a + S1x1x512.size a ≤ S784x8x512.size a)
theorem k0_off909_inb : ∀ (v6008 : BitVec 32) (k0_hw318 : k0_chk318 v6008), ∀ a, (k0_off909 v6008) a + S1x1x512.size a ≤ S784x8x512.size a := fun v6008 k0_hw318 => k0_hw318.1
theorem k0_off919_inb : ∀ (v6008 : BitVec 32) (k0_hw318 : k0_chk318 v6008), ∀ a, (k0_off919 v6008) a + S1x1x512.size a ≤ S784x8x512.size a := fun v6008 k0_hw318 => k0_hw318.2

def k0_off920 (v6023 : BitVec 32) : Fin 3 → Nat :=
  let c1023_i32_3759 : BitVec 32 := 1023#32
  let v6024 : BitVec 32 := Scalar.andi v6023 c1023_i32_3759
  let v6074 : Index := Scalar.indexCast v6024
  let c6_3788 : Index := 6#32
  let c0_3789 : Index := 0#32
  ![v6074.toNat, 6, 0]

def k0_chk319 (v6023 : BitVec 32) : Prop :=
  (∀ a, (k0_off911 v6023) a + S1x1x512.size a ≤ S784x8x512.size a) ∧
  (∀ a, (k0_off920 v6023) a + S1x1x512.size a ≤ S784x8x512.size a)
theorem k0_off911_inb : ∀ (v6023 : BitVec 32) (k0_hw319 : k0_chk319 v6023), ∀ a, (k0_off911 v6023) a + S1x1x512.size a ≤ S784x8x512.size a := fun v6023 k0_hw319 => k0_hw319.1
theorem k0_off920_inb : ∀ (v6023 : BitVec 32) (k0_hw319 : k0_chk319 v6023), ∀ a, (k0_off920 v6023) a + S1x1x512.size a ≤ S784x8x512.size a := fun v6023 k0_hw319 => k0_hw319.2

def k0_off921 (i : grid0.Coords) : Fin 2 → Nat :=
  let arg0 : BitVec 32 := BitVec.ofNat 32 (i 0).val
  let c8_i32_3792 : BitVec 32 := 8#32
  let v6082 : BitVec 32 := Scalar.muli arg0 c8_i32_3792
  let c0_i32_3793 : BitVec 32 := 0#32
  let v6083 : BitVec 32 := Scalar.addi v6082 c0_i32_3793
  let v6084 : Index := Scalar.indexCast v6083
  let c40 : Index := 40#32
  ![v6084.toNat, 40]
def k0_off922 (v6085 : BitVec 32) : Fin 3 → Nat :=
  let c1023_i32_3794 : BitVec 32 := 1023#32
  let v6086 : BitVec 32 := Scalar.andi v6085 c1023_i32_3794
  let v6093 : Index := Scalar.indexCast v6086
  let c0_3799 : Index := 0#32
  let c0_3800 : Index := 0#32
  ![v6093.toNat, 0, 0]

def k0_off923 (i : grid0.Coords) : Fin 2 → Nat :=
  let arg0 : BitVec 32 := BitVec.ofNat 32 (i 0).val
  let c8_i32_3801 : BitVec 32 := 8#32
  let v6097 : BitVec 32 := Scalar.muli arg0 c8_i32_3801
  let c1_i32_3802 : BitVec 32 := 1#32
  let v6098 : BitVec 32 := Scalar.addi v6097 c1_i32_3802
  let v6099 : Index := Scalar.indexCast v6098
  let c40_3803 : Index := 40#32
  ![v6099.toNat, 40]
def k0_off924 (v6100 : BitVec 32) : Fin 3 → Nat :=
  let c1023_i32_3804 : BitVec 32 := 1023#32
  let v6101 : BitVec 32 := Scalar.andi v6100 c1023_i32_3804
  let v6108 : Index := Scalar.indexCast v6101
  let c1_3809 : Index := 1#32
  let c0_3810 : Index := 0#32
  ![v6108.toNat, 1, 0]

def k0_off925 (i : grid0.Coords) : Fin 2 → Nat :=
  let arg0 : BitVec 32 := BitVec.ofNat 32 (i 0).val
  let c8_i32_3811 : BitVec 32 := 8#32
  let v6112 : BitVec 32 := Scalar.muli arg0 c8_i32_3811
  let c2_i32_3812 : BitVec 32 := 2#32
  let v6113 : BitVec 32 := Scalar.addi v6112 c2_i32_3812
  let v6114 : Index := Scalar.indexCast v6113
  let c40_3813 : Index := 40#32
  ![v6114.toNat, 40]
def k0_off926 (v6115 : BitVec 32) : Fin 3 → Nat :=
  let c1023_i32_3814 : BitVec 32 := 1023#32
  let v6116 : BitVec 32 := Scalar.andi v6115 c1023_i32_3814
  let v6123 : Index := Scalar.indexCast v6116
  let c2_3819 : Index := 2#32
  let c0_3820 : Index := 0#32
  ![v6123.toNat, 2, 0]

def k0_off927 (i : grid0.Coords) : Fin 2 → Nat :=
  let arg0 : BitVec 32 := BitVec.ofNat 32 (i 0).val
  let c8_i32_3821 : BitVec 32 := 8#32
  let v6127 : BitVec 32 := Scalar.muli arg0 c8_i32_3821
  let c3_i32_3822 : BitVec 32 := 3#32
  let v6128 : BitVec 32 := Scalar.addi v6127 c3_i32_3822
  let v6129 : Index := Scalar.indexCast v6128
  let c40_3823 : Index := 40#32
  ![v6129.toNat, 40]
def k0_off928 (v6130 : BitVec 32) : Fin 3 → Nat :=
  let c1023_i32_3824 : BitVec 32 := 1023#32
  let v6131 : BitVec 32 := Scalar.andi v6130 c1023_i32_3824
  let v6138 : Index := Scalar.indexCast v6131
  let c3_3829 : Index := 3#32
  let c0_3830 : Index := 0#32
  ![v6138.toNat, 3, 0]

def k0_off929 (i : grid0.Coords) : Fin 2 → Nat :=
  let arg0 : BitVec 32 := BitVec.ofNat 32 (i 0).val
  let c8_i32_3831 : BitVec 32 := 8#32
  let v6142 : BitVec 32 := Scalar.muli arg0 c8_i32_3831
  let c4_i32_3832 : BitVec 32 := 4#32
  let v6143 : BitVec 32 := Scalar.addi v6142 c4_i32_3832
  let v6144 : Index := Scalar.indexCast v6143
  let c40_3833 : Index := 40#32
  ![v6144.toNat, 40]
def k0_off930 (v6145 : BitVec 32) : Fin 3 → Nat :=
  let c1023_i32_3834 : BitVec 32 := 1023#32
  let v6146 : BitVec 32 := Scalar.andi v6145 c1023_i32_3834
  let v6153 : Index := Scalar.indexCast v6146
  let c4_3839 : Index := 4#32
  let c0_3840 : Index := 0#32
  ![v6153.toNat, 4, 0]

def k0_off931 (i : grid0.Coords) : Fin 2 → Nat :=
  let arg0 : BitVec 32 := BitVec.ofNat 32 (i 0).val
  let c8_i32_3841 : BitVec 32 := 8#32
  let v6157 : BitVec 32 := Scalar.muli arg0 c8_i32_3841
  let c5_i32_3842 : BitVec 32 := 5#32
  let v6158 : BitVec 32 := Scalar.addi v6157 c5_i32_3842
  let v6159 : Index := Scalar.indexCast v6158
  let c40_3843 : Index := 40#32
  ![v6159.toNat, 40]
def k0_off932 (v6160 : BitVec 32) : Fin 3 → Nat :=
  let c1023_i32_3844 : BitVec 32 := 1023#32
  let v6161 : BitVec 32 := Scalar.andi v6160 c1023_i32_3844
  let v6168 : Index := Scalar.indexCast v6161
  let c5_3849 : Index := 5#32
  let c0_3850 : Index := 0#32
  ![v6168.toNat, 5, 0]

def k0_off933 (i : grid0.Coords) : Fin 2 → Nat :=
  let arg0 : BitVec 32 := BitVec.ofNat 32 (i 0).val
  let c8_i32_3851 : BitVec 32 := 8#32
  let v6172 : BitVec 32 := Scalar.muli arg0 c8_i32_3851
  let c6_i32_3852 : BitVec 32 := 6#32
  let v6173 : BitVec 32 := Scalar.addi v6172 c6_i32_3852
  let v6174 : Index := Scalar.indexCast v6173
  let c40_3853 : Index := 40#32
  ![v6174.toNat, 40]
def k0_off934 (v6175 : BitVec 32) : Fin 3 → Nat :=
  let c1023_i32_3854 : BitVec 32 := 1023#32
  let v6176 : BitVec 32 := Scalar.andi v6175 c1023_i32_3854
  let v6183 : Index := Scalar.indexCast v6176
  let c6_3859 : Index := 6#32
  let c0_3860 : Index := 0#32
  ![v6183.toNat, 6, 0]

def k0_off935 (i : grid0.Coords) : Fin 2 → Nat :=
  let arg0 : BitVec 32 := BitVec.ofNat 32 (i 0).val
  let c8_i32_3861 : BitVec 32 := 8#32
  let v6187 : BitVec 32 := Scalar.muli arg0 c8_i32_3861
  let c7_i32_3862 : BitVec 32 := 7#32
  let v6188 : BitVec 32 := Scalar.addi v6187 c7_i32_3862
  let v6189 : Index := Scalar.indexCast v6188
  let c40_3863 : Index := 40#32
  ![v6189.toNat, 40]
def k0_off936 (v6190 : BitVec 32) : Fin 3 → Nat :=
  let c1023_i32_3864 : BitVec 32 := 1023#32
  let v6191 : BitVec 32 := Scalar.andi v6190 c1023_i32_3864
  let v6198 : Index := Scalar.indexCast v6191
  let c7_3869 : Index := 7#32
  let c0_3870 : Index := 0#32
  ![v6198.toNat, 7, 0]

def k0_chk328 (v6190 : BitVec 32) : Prop :=
  (∀ a, (k0_off936 v6190) a + S1x1x512.size a ≤ S784x8x512.size a)
theorem k0_off936_inb : ∀ (v6190 : BitVec 32) (k0_hw328 : k0_chk328 v6190), ∀ a, (k0_off936 v6190) a + S1x1x512.size a ≤ S784x8x512.size a := fun v6190 k0_hw328 => k0_hw328

def k0_off937 (v6085 : BitVec 32) : Fin 3 → Nat :=
  let c1023_i32_3794 : BitVec 32 := 1023#32
  let v6086 : BitVec 32 := Scalar.andi v6085 c1023_i32_3794
  let v6202 : Index := Scalar.indexCast v6086
  let c0_3871 : Index := 0#32
  let c0_3872 : Index := 0#32
  ![v6202.toNat, 0, 0]

def k0_chk321 (v6085 : BitVec 32) : Prop :=
  (∀ a, (k0_off922 v6085) a + S1x1x512.size a ≤ S784x8x512.size a) ∧
  (∀ a, (k0_off937 v6085) a + S1x1x512.size a ≤ S784x8x512.size a)
theorem k0_off922_inb : ∀ (v6085 : BitVec 32) (k0_hw321 : k0_chk321 v6085), ∀ a, (k0_off922 v6085) a + S1x1x512.size a ≤ S784x8x512.size a := fun v6085 k0_hw321 => k0_hw321.1
theorem k0_off937_inb : ∀ (v6085 : BitVec 32) (k0_hw321 : k0_chk321 v6085), ∀ a, (k0_off937 v6085) a + S1x1x512.size a ≤ S784x8x512.size a := fun v6085 k0_hw321 => k0_hw321.2

def k0_off938 (v6100 : BitVec 32) : Fin 3 → Nat :=
  let c1023_i32_3804 : BitVec 32 := 1023#32
  let v6101 : BitVec 32 := Scalar.andi v6100 c1023_i32_3804
  let v6206 : Index := Scalar.indexCast v6101
  let c1_3873 : Index := 1#32
  let c0_3874 : Index := 0#32
  ![v6206.toNat, 1, 0]

def k0_chk322 (v6100 : BitVec 32) : Prop :=
  (∀ a, (k0_off924 v6100) a + S1x1x512.size a ≤ S784x8x512.size a) ∧
  (∀ a, (k0_off938 v6100) a + S1x1x512.size a ≤ S784x8x512.size a)
theorem k0_off924_inb : ∀ (v6100 : BitVec 32) (k0_hw322 : k0_chk322 v6100), ∀ a, (k0_off924 v6100) a + S1x1x512.size a ≤ S784x8x512.size a := fun v6100 k0_hw322 => k0_hw322.1
theorem k0_off938_inb : ∀ (v6100 : BitVec 32) (k0_hw322 : k0_chk322 v6100), ∀ a, (k0_off938 v6100) a + S1x1x512.size a ≤ S784x8x512.size a := fun v6100 k0_hw322 => k0_hw322.2

def k0_off939 (v6115 : BitVec 32) : Fin 3 → Nat :=
  let c1023_i32_3814 : BitVec 32 := 1023#32
  let v6116 : BitVec 32 := Scalar.andi v6115 c1023_i32_3814
  let v6210 : Index := Scalar.indexCast v6116
  let c2_3875 : Index := 2#32
  let c0_3876 : Index := 0#32
  ![v6210.toNat, 2, 0]

def k0_chk323 (v6115 : BitVec 32) : Prop :=
  (∀ a, (k0_off926 v6115) a + S1x1x512.size a ≤ S784x8x512.size a) ∧
  (∀ a, (k0_off939 v6115) a + S1x1x512.size a ≤ S784x8x512.size a)
theorem k0_off926_inb : ∀ (v6115 : BitVec 32) (k0_hw323 : k0_chk323 v6115), ∀ a, (k0_off926 v6115) a + S1x1x512.size a ≤ S784x8x512.size a := fun v6115 k0_hw323 => k0_hw323.1
theorem k0_off939_inb : ∀ (v6115 : BitVec 32) (k0_hw323 : k0_chk323 v6115), ∀ a, (k0_off939 v6115) a + S1x1x512.size a ≤ S784x8x512.size a := fun v6115 k0_hw323 => k0_hw323.2

def k0_off940 (v6130 : BitVec 32) : Fin 3 → Nat :=
  let c1023_i32_3824 : BitVec 32 := 1023#32
  let v6131 : BitVec 32 := Scalar.andi v6130 c1023_i32_3824
  let v6214 : Index := Scalar.indexCast v6131
  let c3_3877 : Index := 3#32
  let c0_3878 : Index := 0#32
  ![v6214.toNat, 3, 0]

def k0_chk324 (v6130 : BitVec 32) : Prop :=
  (∀ a, (k0_off928 v6130) a + S1x1x512.size a ≤ S784x8x512.size a) ∧
  (∀ a, (k0_off940 v6130) a + S1x1x512.size a ≤ S784x8x512.size a)
theorem k0_off928_inb : ∀ (v6130 : BitVec 32) (k0_hw324 : k0_chk324 v6130), ∀ a, (k0_off928 v6130) a + S1x1x512.size a ≤ S784x8x512.size a := fun v6130 k0_hw324 => k0_hw324.1
theorem k0_off940_inb : ∀ (v6130 : BitVec 32) (k0_hw324 : k0_chk324 v6130), ∀ a, (k0_off940 v6130) a + S1x1x512.size a ≤ S784x8x512.size a := fun v6130 k0_hw324 => k0_hw324.2

def k0_off941 (v6145 : BitVec 32) : Fin 3 → Nat :=
  let c1023_i32_3834 : BitVec 32 := 1023#32
  let v6146 : BitVec 32 := Scalar.andi v6145 c1023_i32_3834
  let v6218 : Index := Scalar.indexCast v6146
  let c4_3879 : Index := 4#32
  let c0_3880 : Index := 0#32
  ![v6218.toNat, 4, 0]

def k0_chk325 (v6145 : BitVec 32) : Prop :=
  (∀ a, (k0_off930 v6145) a + S1x1x512.size a ≤ S784x8x512.size a) ∧
  (∀ a, (k0_off941 v6145) a + S1x1x512.size a ≤ S784x8x512.size a)
theorem k0_off930_inb : ∀ (v6145 : BitVec 32) (k0_hw325 : k0_chk325 v6145), ∀ a, (k0_off930 v6145) a + S1x1x512.size a ≤ S784x8x512.size a := fun v6145 k0_hw325 => k0_hw325.1
theorem k0_off941_inb : ∀ (v6145 : BitVec 32) (k0_hw325 : k0_chk325 v6145), ∀ a, (k0_off941 v6145) a + S1x1x512.size a ≤ S784x8x512.size a := fun v6145 k0_hw325 => k0_hw325.2

def k0_off942 (v6160 : BitVec 32) : Fin 3 → Nat :=
  let c1023_i32_3844 : BitVec 32 := 1023#32
  let v6161 : BitVec 32 := Scalar.andi v6160 c1023_i32_3844
  let v6222 : Index := Scalar.indexCast v6161
  let c5_3881 : Index := 5#32
  let c0_3882 : Index := 0#32
  ![v6222.toNat, 5, 0]

def k0_chk326 (v6160 : BitVec 32) : Prop :=
  (∀ a, (k0_off932 v6160) a + S1x1x512.size a ≤ S784x8x512.size a) ∧
  (∀ a, (k0_off942 v6160) a + S1x1x512.size a ≤ S784x8x512.size a)
theorem k0_off932_inb : ∀ (v6160 : BitVec 32) (k0_hw326 : k0_chk326 v6160), ∀ a, (k0_off932 v6160) a + S1x1x512.size a ≤ S784x8x512.size a := fun v6160 k0_hw326 => k0_hw326.1
theorem k0_off942_inb : ∀ (v6160 : BitVec 32) (k0_hw326 : k0_chk326 v6160), ∀ a, (k0_off942 v6160) a + S1x1x512.size a ≤ S784x8x512.size a := fun v6160 k0_hw326 => k0_hw326.2

def k0_off943 (v6175 : BitVec 32) : Fin 3 → Nat :=
  let c1023_i32_3854 : BitVec 32 := 1023#32
  let v6176 : BitVec 32 := Scalar.andi v6175 c1023_i32_3854
  let v6226 : Index := Scalar.indexCast v6176
  let c6_3883 : Index := 6#32
  let c0_3884 : Index := 0#32
  ![v6226.toNat, 6, 0]

def k0_chk327 (v6175 : BitVec 32) : Prop :=
  (∀ a, (k0_off934 v6175) a + S1x1x512.size a ≤ S784x8x512.size a) ∧
  (∀ a, (k0_off943 v6175) a + S1x1x512.size a ≤ S784x8x512.size a)
theorem k0_off934_inb : ∀ (v6175 : BitVec 32) (k0_hw327 : k0_chk327 v6175), ∀ a, (k0_off934 v6175) a + S1x1x512.size a ≤ S784x8x512.size a := fun v6175 k0_hw327 => k0_hw327.1
theorem k0_off943_inb : ∀ (v6175 : BitVec 32) (k0_hw327 : k0_chk327 v6175), ∀ a, (k0_off943 v6175) a + S1x1x512.size a ≤ S784x8x512.size a := fun v6175 k0_hw327 => k0_hw327.2

def k0_off944 (i : grid0.Coords) : Fin 2 → Nat :=
  let arg0 : BitVec 32 := BitVec.ofNat 32 (i 0).val
  let c8_i32_3887 : BitVec 32 := 8#32
  let v6234 : BitVec 32 := Scalar.muli arg0 c8_i32_3887
  let c0_i32_3888 : BitVec 32 := 0#32
  let v6235 : BitVec 32 := Scalar.addi v6234 c0_i32_3888
  let v6236 : Index := Scalar.indexCast v6235
  let c41 : Index := 41#32
  ![v6236.toNat, 41]
def k0_off945 (v6237 : BitVec 32) : Fin 3 → Nat :=
  let c1023_i32_3889 : BitVec 32 := 1023#32
  let v6238 : BitVec 32 := Scalar.andi v6237 c1023_i32_3889
  let v6245 : Index := Scalar.indexCast v6238
  let c0_3894 : Index := 0#32
  let c0_3895 : Index := 0#32
  ![v6245.toNat, 0, 0]

def k0_off946 (i : grid0.Coords) : Fin 2 → Nat :=
  let arg0 : BitVec 32 := BitVec.ofNat 32 (i 0).val
  let c8_i32_3896 : BitVec 32 := 8#32
  let v6249 : BitVec 32 := Scalar.muli arg0 c8_i32_3896
  let c1_i32_3897 : BitVec 32 := 1#32
  let v6250 : BitVec 32 := Scalar.addi v6249 c1_i32_3897
  let v6251 : Index := Scalar.indexCast v6250
  let c41_3898 : Index := 41#32
  ![v6251.toNat, 41]
def k0_off947 (v6252 : BitVec 32) : Fin 3 → Nat :=
  let c1023_i32_3899 : BitVec 32 := 1023#32
  let v6253 : BitVec 32 := Scalar.andi v6252 c1023_i32_3899
  let v6260 : Index := Scalar.indexCast v6253
  let c1_3904 : Index := 1#32
  let c0_3905 : Index := 0#32
  ![v6260.toNat, 1, 0]

def k0_off948 (i : grid0.Coords) : Fin 2 → Nat :=
  let arg0 : BitVec 32 := BitVec.ofNat 32 (i 0).val
  let c8_i32_3906 : BitVec 32 := 8#32
  let v6264 : BitVec 32 := Scalar.muli arg0 c8_i32_3906
  let c2_i32_3907 : BitVec 32 := 2#32
  let v6265 : BitVec 32 := Scalar.addi v6264 c2_i32_3907
  let v6266 : Index := Scalar.indexCast v6265
  let c41_3908 : Index := 41#32
  ![v6266.toNat, 41]
def k0_off949 (v6267 : BitVec 32) : Fin 3 → Nat :=
  let c1023_i32_3909 : BitVec 32 := 1023#32
  let v6268 : BitVec 32 := Scalar.andi v6267 c1023_i32_3909
  let v6275 : Index := Scalar.indexCast v6268
  let c2_3914 : Index := 2#32
  let c0_3915 : Index := 0#32
  ![v6275.toNat, 2, 0]

def k0_off950 (i : grid0.Coords) : Fin 2 → Nat :=
  let arg0 : BitVec 32 := BitVec.ofNat 32 (i 0).val
  let c8_i32_3916 : BitVec 32 := 8#32
  let v6279 : BitVec 32 := Scalar.muli arg0 c8_i32_3916
  let c3_i32_3917 : BitVec 32 := 3#32
  let v6280 : BitVec 32 := Scalar.addi v6279 c3_i32_3917
  let v6281 : Index := Scalar.indexCast v6280
  let c41_3918 : Index := 41#32
  ![v6281.toNat, 41]
def k0_off951 (v6282 : BitVec 32) : Fin 3 → Nat :=
  let c1023_i32_3919 : BitVec 32 := 1023#32
  let v6283 : BitVec 32 := Scalar.andi v6282 c1023_i32_3919
  let v6290 : Index := Scalar.indexCast v6283
  let c3_3924 : Index := 3#32
  let c0_3925 : Index := 0#32
  ![v6290.toNat, 3, 0]

def k0_off952 (i : grid0.Coords) : Fin 2 → Nat :=
  let arg0 : BitVec 32 := BitVec.ofNat 32 (i 0).val
  let c8_i32_3926 : BitVec 32 := 8#32
  let v6294 : BitVec 32 := Scalar.muli arg0 c8_i32_3926
  let c4_i32_3927 : BitVec 32 := 4#32
  let v6295 : BitVec 32 := Scalar.addi v6294 c4_i32_3927
  let v6296 : Index := Scalar.indexCast v6295
  let c41_3928 : Index := 41#32
  ![v6296.toNat, 41]
def k0_off953 (v6297 : BitVec 32) : Fin 3 → Nat :=
  let c1023_i32_3929 : BitVec 32 := 1023#32
  let v6298 : BitVec 32 := Scalar.andi v6297 c1023_i32_3929
  let v6305 : Index := Scalar.indexCast v6298
  let c4_3934 : Index := 4#32
  let c0_3935 : Index := 0#32
  ![v6305.toNat, 4, 0]

def k0_off954 (i : grid0.Coords) : Fin 2 → Nat :=
  let arg0 : BitVec 32 := BitVec.ofNat 32 (i 0).val
  let c8_i32_3936 : BitVec 32 := 8#32
  let v6309 : BitVec 32 := Scalar.muli arg0 c8_i32_3936
  let c5_i32_3937 : BitVec 32 := 5#32
  let v6310 : BitVec 32 := Scalar.addi v6309 c5_i32_3937
  let v6311 : Index := Scalar.indexCast v6310
  let c41_3938 : Index := 41#32
  ![v6311.toNat, 41]
def k0_off955 (v6312 : BitVec 32) : Fin 3 → Nat :=
  let c1023_i32_3939 : BitVec 32 := 1023#32
  let v6313 : BitVec 32 := Scalar.andi v6312 c1023_i32_3939
  let v6320 : Index := Scalar.indexCast v6313
  let c5_3944 : Index := 5#32
  let c0_3945 : Index := 0#32
  ![v6320.toNat, 5, 0]

def k0_off956 (i : grid0.Coords) : Fin 2 → Nat :=
  let arg0 : BitVec 32 := BitVec.ofNat 32 (i 0).val
  let c8_i32_3946 : BitVec 32 := 8#32
  let v6324 : BitVec 32 := Scalar.muli arg0 c8_i32_3946
  let c6_i32_3947 : BitVec 32 := 6#32
  let v6325 : BitVec 32 := Scalar.addi v6324 c6_i32_3947
  let v6326 : Index := Scalar.indexCast v6325
  let c41_3948 : Index := 41#32
  ![v6326.toNat, 41]
def k0_off957 (v6327 : BitVec 32) : Fin 3 → Nat :=
  let c1023_i32_3949 : BitVec 32 := 1023#32
  let v6328 : BitVec 32 := Scalar.andi v6327 c1023_i32_3949
  let v6335 : Index := Scalar.indexCast v6328
  let c6_3954 : Index := 6#32
  let c0_3955 : Index := 0#32
  ![v6335.toNat, 6, 0]

def k0_off958 (i : grid0.Coords) : Fin 2 → Nat :=
  let arg0 : BitVec 32 := BitVec.ofNat 32 (i 0).val
  let c8_i32_3956 : BitVec 32 := 8#32
  let v6339 : BitVec 32 := Scalar.muli arg0 c8_i32_3956
  let c7_i32_3957 : BitVec 32 := 7#32
  let v6340 : BitVec 32 := Scalar.addi v6339 c7_i32_3957
  let v6341 : Index := Scalar.indexCast v6340
  let c41_3958 : Index := 41#32
  ![v6341.toNat, 41]
def k0_off959 (v6342 : BitVec 32) : Fin 3 → Nat :=
  let c1023_i32_3959 : BitVec 32 := 1023#32
  let v6343 : BitVec 32 := Scalar.andi v6342 c1023_i32_3959
  let v6350 : Index := Scalar.indexCast v6343
  let c7_3964 : Index := 7#32
  let c0_3965 : Index := 0#32
  ![v6350.toNat, 7, 0]

def k0_chk336 (v6342 : BitVec 32) : Prop :=
  (∀ a, (k0_off959 v6342) a + S1x1x512.size a ≤ S784x8x512.size a)
theorem k0_off959_inb : ∀ (v6342 : BitVec 32) (k0_hw336 : k0_chk336 v6342), ∀ a, (k0_off959 v6342) a + S1x1x512.size a ≤ S784x8x512.size a := fun v6342 k0_hw336 => k0_hw336

def k0_off960 (v6237 : BitVec 32) : Fin 3 → Nat :=
  let c1023_i32_3889 : BitVec 32 := 1023#32
  let v6238 : BitVec 32 := Scalar.andi v6237 c1023_i32_3889
  let v6354 : Index := Scalar.indexCast v6238
  let c0_3966 : Index := 0#32
  let c0_3967 : Index := 0#32
  ![v6354.toNat, 0, 0]

def k0_chk329 (v6237 : BitVec 32) : Prop :=
  (∀ a, (k0_off945 v6237) a + S1x1x512.size a ≤ S784x8x512.size a) ∧
  (∀ a, (k0_off960 v6237) a + S1x1x512.size a ≤ S784x8x512.size a)
theorem k0_off945_inb : ∀ (v6237 : BitVec 32) (k0_hw329 : k0_chk329 v6237), ∀ a, (k0_off945 v6237) a + S1x1x512.size a ≤ S784x8x512.size a := fun v6237 k0_hw329 => k0_hw329.1
theorem k0_off960_inb : ∀ (v6237 : BitVec 32) (k0_hw329 : k0_chk329 v6237), ∀ a, (k0_off960 v6237) a + S1x1x512.size a ≤ S784x8x512.size a := fun v6237 k0_hw329 => k0_hw329.2

def k0_off961 (v6252 : BitVec 32) : Fin 3 → Nat :=
  let c1023_i32_3899 : BitVec 32 := 1023#32
  let v6253 : BitVec 32 := Scalar.andi v6252 c1023_i32_3899
  let v6358 : Index := Scalar.indexCast v6253
  let c1_3968 : Index := 1#32
  let c0_3969 : Index := 0#32
  ![v6358.toNat, 1, 0]

def k0_chk330 (v6252 : BitVec 32) : Prop :=
  (∀ a, (k0_off947 v6252) a + S1x1x512.size a ≤ S784x8x512.size a) ∧
  (∀ a, (k0_off961 v6252) a + S1x1x512.size a ≤ S784x8x512.size a)
theorem k0_off947_inb : ∀ (v6252 : BitVec 32) (k0_hw330 : k0_chk330 v6252), ∀ a, (k0_off947 v6252) a + S1x1x512.size a ≤ S784x8x512.size a := fun v6252 k0_hw330 => k0_hw330.1
theorem k0_off961_inb : ∀ (v6252 : BitVec 32) (k0_hw330 : k0_chk330 v6252), ∀ a, (k0_off961 v6252) a + S1x1x512.size a ≤ S784x8x512.size a := fun v6252 k0_hw330 => k0_hw330.2

def k0_off962 (v6267 : BitVec 32) : Fin 3 → Nat :=
  let c1023_i32_3909 : BitVec 32 := 1023#32
  let v6268 : BitVec 32 := Scalar.andi v6267 c1023_i32_3909
  let v6362 : Index := Scalar.indexCast v6268
  let c2_3970 : Index := 2#32
  let c0_3971 : Index := 0#32
  ![v6362.toNat, 2, 0]

def k0_chk331 (v6267 : BitVec 32) : Prop :=
  (∀ a, (k0_off949 v6267) a + S1x1x512.size a ≤ S784x8x512.size a) ∧
  (∀ a, (k0_off962 v6267) a + S1x1x512.size a ≤ S784x8x512.size a)
theorem k0_off949_inb : ∀ (v6267 : BitVec 32) (k0_hw331 : k0_chk331 v6267), ∀ a, (k0_off949 v6267) a + S1x1x512.size a ≤ S784x8x512.size a := fun v6267 k0_hw331 => k0_hw331.1
theorem k0_off962_inb : ∀ (v6267 : BitVec 32) (k0_hw331 : k0_chk331 v6267), ∀ a, (k0_off962 v6267) a + S1x1x512.size a ≤ S784x8x512.size a := fun v6267 k0_hw331 => k0_hw331.2

def k0_off963 (v6282 : BitVec 32) : Fin 3 → Nat :=
  let c1023_i32_3919 : BitVec 32 := 1023#32
  let v6283 : BitVec 32 := Scalar.andi v6282 c1023_i32_3919
  let v6366 : Index := Scalar.indexCast v6283
  let c3_3972 : Index := 3#32
  let c0_3973 : Index := 0#32
  ![v6366.toNat, 3, 0]

def k0_chk332 (v6282 : BitVec 32) : Prop :=
  (∀ a, (k0_off951 v6282) a + S1x1x512.size a ≤ S784x8x512.size a) ∧
  (∀ a, (k0_off963 v6282) a + S1x1x512.size a ≤ S784x8x512.size a)
theorem k0_off951_inb : ∀ (v6282 : BitVec 32) (k0_hw332 : k0_chk332 v6282), ∀ a, (k0_off951 v6282) a + S1x1x512.size a ≤ S784x8x512.size a := fun v6282 k0_hw332 => k0_hw332.1
theorem k0_off963_inb : ∀ (v6282 : BitVec 32) (k0_hw332 : k0_chk332 v6282), ∀ a, (k0_off963 v6282) a + S1x1x512.size a ≤ S784x8x512.size a := fun v6282 k0_hw332 => k0_hw332.2

def k0_off964 (v6297 : BitVec 32) : Fin 3 → Nat :=
  let c1023_i32_3929 : BitVec 32 := 1023#32
  let v6298 : BitVec 32 := Scalar.andi v6297 c1023_i32_3929
  let v6370 : Index := Scalar.indexCast v6298
  let c4_3974 : Index := 4#32
  let c0_3975 : Index := 0#32
  ![v6370.toNat, 4, 0]

def k0_chk333 (v6297 : BitVec 32) : Prop :=
  (∀ a, (k0_off953 v6297) a + S1x1x512.size a ≤ S784x8x512.size a) ∧
  (∀ a, (k0_off964 v6297) a + S1x1x512.size a ≤ S784x8x512.size a)
theorem k0_off953_inb : ∀ (v6297 : BitVec 32) (k0_hw333 : k0_chk333 v6297), ∀ a, (k0_off953 v6297) a + S1x1x512.size a ≤ S784x8x512.size a := fun v6297 k0_hw333 => k0_hw333.1
theorem k0_off964_inb : ∀ (v6297 : BitVec 32) (k0_hw333 : k0_chk333 v6297), ∀ a, (k0_off964 v6297) a + S1x1x512.size a ≤ S784x8x512.size a := fun v6297 k0_hw333 => k0_hw333.2

def k0_off965 (v6312 : BitVec 32) : Fin 3 → Nat :=
  let c1023_i32_3939 : BitVec 32 := 1023#32
  let v6313 : BitVec 32 := Scalar.andi v6312 c1023_i32_3939
  let v6374 : Index := Scalar.indexCast v6313
  let c5_3976 : Index := 5#32
  let c0_3977 : Index := 0#32
  ![v6374.toNat, 5, 0]

def k0_chk334 (v6312 : BitVec 32) : Prop :=
  (∀ a, (k0_off955 v6312) a + S1x1x512.size a ≤ S784x8x512.size a) ∧
  (∀ a, (k0_off965 v6312) a + S1x1x512.size a ≤ S784x8x512.size a)
theorem k0_off955_inb : ∀ (v6312 : BitVec 32) (k0_hw334 : k0_chk334 v6312), ∀ a, (k0_off955 v6312) a + S1x1x512.size a ≤ S784x8x512.size a := fun v6312 k0_hw334 => k0_hw334.1
theorem k0_off965_inb : ∀ (v6312 : BitVec 32) (k0_hw334 : k0_chk334 v6312), ∀ a, (k0_off965 v6312) a + S1x1x512.size a ≤ S784x8x512.size a := fun v6312 k0_hw334 => k0_hw334.2

def k0_off966 (v6327 : BitVec 32) : Fin 3 → Nat :=
  let c1023_i32_3949 : BitVec 32 := 1023#32
  let v6328 : BitVec 32 := Scalar.andi v6327 c1023_i32_3949
  let v6378 : Index := Scalar.indexCast v6328
  let c6_3978 : Index := 6#32
  let c0_3979 : Index := 0#32
  ![v6378.toNat, 6, 0]

def k0_chk335 (v6327 : BitVec 32) : Prop :=
  (∀ a, (k0_off957 v6327) a + S1x1x512.size a ≤ S784x8x512.size a) ∧
  (∀ a, (k0_off966 v6327) a + S1x1x512.size a ≤ S784x8x512.size a)
theorem k0_off957_inb : ∀ (v6327 : BitVec 32) (k0_hw335 : k0_chk335 v6327), ∀ a, (k0_off957 v6327) a + S1x1x512.size a ≤ S784x8x512.size a := fun v6327 k0_hw335 => k0_hw335.1
theorem k0_off966_inb : ∀ (v6327 : BitVec 32) (k0_hw335 : k0_chk335 v6327), ∀ a, (k0_off966 v6327) a + S1x1x512.size a ≤ S784x8x512.size a := fun v6327 k0_hw335 => k0_hw335.2

def k0_off967 (i : grid0.Coords) : Fin 2 → Nat :=
  let arg0 : BitVec 32 := BitVec.ofNat 32 (i 0).val
  let c8_i32_3982 : BitVec 32 := 8#32
  let v6386 : BitVec 32 := Scalar.muli arg0 c8_i32_3982
  let c0_i32_3983 : BitVec 32 := 0#32
  let v6387 : BitVec 32 := Scalar.addi v6386 c0_i32_3983
  let v6388 : Index := Scalar.indexCast v6387
  let c42 : Index := 42#32
  ![v6388.toNat, 42]
def k0_off968 (v6389 : BitVec 32) : Fin 3 → Nat :=
  let c1023_i32_3984 : BitVec 32 := 1023#32
  let v6390 : BitVec 32 := Scalar.andi v6389 c1023_i32_3984
  let v6397 : Index := Scalar.indexCast v6390
  let c0_3989 : Index := 0#32
  let c0_3990 : Index := 0#32
  ![v6397.toNat, 0, 0]

def k0_off969 (i : grid0.Coords) : Fin 2 → Nat :=
  let arg0 : BitVec 32 := BitVec.ofNat 32 (i 0).val
  let c8_i32_3991 : BitVec 32 := 8#32
  let v6401 : BitVec 32 := Scalar.muli arg0 c8_i32_3991
  let c1_i32_3992 : BitVec 32 := 1#32
  let v6402 : BitVec 32 := Scalar.addi v6401 c1_i32_3992
  let v6403 : Index := Scalar.indexCast v6402
  let c42_3993 : Index := 42#32
  ![v6403.toNat, 42]
def k0_off970 (v6404 : BitVec 32) : Fin 3 → Nat :=
  let c1023_i32_3994 : BitVec 32 := 1023#32
  let v6405 : BitVec 32 := Scalar.andi v6404 c1023_i32_3994
  let v6412 : Index := Scalar.indexCast v6405
  let c1_3999 : Index := 1#32
  let c0_4000 : Index := 0#32
  ![v6412.toNat, 1, 0]

def k0_off971 (i : grid0.Coords) : Fin 2 → Nat :=
  let arg0 : BitVec 32 := BitVec.ofNat 32 (i 0).val
  let c8_i32_4001 : BitVec 32 := 8#32
  let v6416 : BitVec 32 := Scalar.muli arg0 c8_i32_4001
  let c2_i32_4002 : BitVec 32 := 2#32
  let v6417 : BitVec 32 := Scalar.addi v6416 c2_i32_4002
  let v6418 : Index := Scalar.indexCast v6417
  let c42_4003 : Index := 42#32
  ![v6418.toNat, 42]
def k0_off972 (v6419 : BitVec 32) : Fin 3 → Nat :=
  let c1023_i32_4004 : BitVec 32 := 1023#32
  let v6420 : BitVec 32 := Scalar.andi v6419 c1023_i32_4004
  let v6427 : Index := Scalar.indexCast v6420
  let c2_4009 : Index := 2#32
  let c0_4010 : Index := 0#32
  ![v6427.toNat, 2, 0]

def k0_off973 (i : grid0.Coords) : Fin 2 → Nat :=
  let arg0 : BitVec 32 := BitVec.ofNat 32 (i 0).val
  let c8_i32_4011 : BitVec 32 := 8#32
  let v6431 : BitVec 32 := Scalar.muli arg0 c8_i32_4011
  let c3_i32_4012 : BitVec 32 := 3#32
  let v6432 : BitVec 32 := Scalar.addi v6431 c3_i32_4012
  let v6433 : Index := Scalar.indexCast v6432
  let c42_4013 : Index := 42#32
  ![v6433.toNat, 42]
def k0_off974 (v6434 : BitVec 32) : Fin 3 → Nat :=
  let c1023_i32_4014 : BitVec 32 := 1023#32
  let v6435 : BitVec 32 := Scalar.andi v6434 c1023_i32_4014
  let v6442 : Index := Scalar.indexCast v6435
  let c3_4019 : Index := 3#32
  let c0_4020 : Index := 0#32
  ![v6442.toNat, 3, 0]

def k0_off975 (i : grid0.Coords) : Fin 2 → Nat :=
  let arg0 : BitVec 32 := BitVec.ofNat 32 (i 0).val
  let c8_i32_4021 : BitVec 32 := 8#32
  let v6446 : BitVec 32 := Scalar.muli arg0 c8_i32_4021
  let c4_i32_4022 : BitVec 32 := 4#32
  let v6447 : BitVec 32 := Scalar.addi v6446 c4_i32_4022
  let v6448 : Index := Scalar.indexCast v6447
  let c42_4023 : Index := 42#32
  ![v6448.toNat, 42]
def k0_off976 (v6449 : BitVec 32) : Fin 3 → Nat :=
  let c1023_i32_4024 : BitVec 32 := 1023#32
  let v6450 : BitVec 32 := Scalar.andi v6449 c1023_i32_4024
  let v6457 : Index := Scalar.indexCast v6450
  let c4_4029 : Index := 4#32
  let c0_4030 : Index := 0#32
  ![v6457.toNat, 4, 0]

def k0_off977 (i : grid0.Coords) : Fin 2 → Nat :=
  let arg0 : BitVec 32 := BitVec.ofNat 32 (i 0).val
  let c8_i32_4031 : BitVec 32 := 8#32
  let v6461 : BitVec 32 := Scalar.muli arg0 c8_i32_4031
  let c5_i32_4032 : BitVec 32 := 5#32
  let v6462 : BitVec 32 := Scalar.addi v6461 c5_i32_4032
  let v6463 : Index := Scalar.indexCast v6462
  let c42_4033 : Index := 42#32
  ![v6463.toNat, 42]
def k0_off978 (v6464 : BitVec 32) : Fin 3 → Nat :=
  let c1023_i32_4034 : BitVec 32 := 1023#32
  let v6465 : BitVec 32 := Scalar.andi v6464 c1023_i32_4034
  let v6472 : Index := Scalar.indexCast v6465
  let c5_4039 : Index := 5#32
  let c0_4040 : Index := 0#32
  ![v6472.toNat, 5, 0]

def k0_off979 (i : grid0.Coords) : Fin 2 → Nat :=
  let arg0 : BitVec 32 := BitVec.ofNat 32 (i 0).val
  let c8_i32_4041 : BitVec 32 := 8#32
  let v6476 : BitVec 32 := Scalar.muli arg0 c8_i32_4041
  let c6_i32_4042 : BitVec 32 := 6#32
  let v6477 : BitVec 32 := Scalar.addi v6476 c6_i32_4042
  let v6478 : Index := Scalar.indexCast v6477
  let c42_4043 : Index := 42#32
  ![v6478.toNat, 42]
def k0_off980 (v6479 : BitVec 32) : Fin 3 → Nat :=
  let c1023_i32_4044 : BitVec 32 := 1023#32
  let v6480 : BitVec 32 := Scalar.andi v6479 c1023_i32_4044
  let v6487 : Index := Scalar.indexCast v6480
  let c6_4049 : Index := 6#32
  let c0_4050 : Index := 0#32
  ![v6487.toNat, 6, 0]

def k0_off981 (i : grid0.Coords) : Fin 2 → Nat :=
  let arg0 : BitVec 32 := BitVec.ofNat 32 (i 0).val
  let c8_i32_4051 : BitVec 32 := 8#32
  let v6491 : BitVec 32 := Scalar.muli arg0 c8_i32_4051
  let c7_i32_4052 : BitVec 32 := 7#32
  let v6492 : BitVec 32 := Scalar.addi v6491 c7_i32_4052
  let v6493 : Index := Scalar.indexCast v6492
  let c42_4053 : Index := 42#32
  ![v6493.toNat, 42]
def k0_off982 (v6494 : BitVec 32) : Fin 3 → Nat :=
  let c1023_i32_4054 : BitVec 32 := 1023#32
  let v6495 : BitVec 32 := Scalar.andi v6494 c1023_i32_4054
  let v6502 : Index := Scalar.indexCast v6495
  let c7_4059 : Index := 7#32
  let c0_4060 : Index := 0#32
  ![v6502.toNat, 7, 0]

def k0_chk344 (v6494 : BitVec 32) : Prop :=
  (∀ a, (k0_off982 v6494) a + S1x1x512.size a ≤ S784x8x512.size a)
theorem k0_off982_inb : ∀ (v6494 : BitVec 32) (k0_hw344 : k0_chk344 v6494), ∀ a, (k0_off982 v6494) a + S1x1x512.size a ≤ S784x8x512.size a := fun v6494 k0_hw344 => k0_hw344

def k0_off983 (v6389 : BitVec 32) : Fin 3 → Nat :=
  let c1023_i32_3984 : BitVec 32 := 1023#32
  let v6390 : BitVec 32 := Scalar.andi v6389 c1023_i32_3984
  let v6506 : Index := Scalar.indexCast v6390
  let c0_4061 : Index := 0#32
  let c0_4062 : Index := 0#32
  ![v6506.toNat, 0, 0]

def k0_chk337 (v6389 : BitVec 32) : Prop :=
  (∀ a, (k0_off968 v6389) a + S1x1x512.size a ≤ S784x8x512.size a) ∧
  (∀ a, (k0_off983 v6389) a + S1x1x512.size a ≤ S784x8x512.size a)
theorem k0_off968_inb : ∀ (v6389 : BitVec 32) (k0_hw337 : k0_chk337 v6389), ∀ a, (k0_off968 v6389) a + S1x1x512.size a ≤ S784x8x512.size a := fun v6389 k0_hw337 => k0_hw337.1
theorem k0_off983_inb : ∀ (v6389 : BitVec 32) (k0_hw337 : k0_chk337 v6389), ∀ a, (k0_off983 v6389) a + S1x1x512.size a ≤ S784x8x512.size a := fun v6389 k0_hw337 => k0_hw337.2

def k0_off984 (v6404 : BitVec 32) : Fin 3 → Nat :=
  let c1023_i32_3994 : BitVec 32 := 1023#32
  let v6405 : BitVec 32 := Scalar.andi v6404 c1023_i32_3994
  let v6510 : Index := Scalar.indexCast v6405
  let c1_4063 : Index := 1#32
  let c0_4064 : Index := 0#32
  ![v6510.toNat, 1, 0]

def k0_chk338 (v6404 : BitVec 32) : Prop :=
  (∀ a, (k0_off970 v6404) a + S1x1x512.size a ≤ S784x8x512.size a) ∧
  (∀ a, (k0_off984 v6404) a + S1x1x512.size a ≤ S784x8x512.size a)
theorem k0_off970_inb : ∀ (v6404 : BitVec 32) (k0_hw338 : k0_chk338 v6404), ∀ a, (k0_off970 v6404) a + S1x1x512.size a ≤ S784x8x512.size a := fun v6404 k0_hw338 => k0_hw338.1
theorem k0_off984_inb : ∀ (v6404 : BitVec 32) (k0_hw338 : k0_chk338 v6404), ∀ a, (k0_off984 v6404) a + S1x1x512.size a ≤ S784x8x512.size a := fun v6404 k0_hw338 => k0_hw338.2

def k0_off985 (v6419 : BitVec 32) : Fin 3 → Nat :=
  let c1023_i32_4004 : BitVec 32 := 1023#32
  let v6420 : BitVec 32 := Scalar.andi v6419 c1023_i32_4004
  let v6514 : Index := Scalar.indexCast v6420
  let c2_4065 : Index := 2#32
  let c0_4066 : Index := 0#32
  ![v6514.toNat, 2, 0]

def k0_chk339 (v6419 : BitVec 32) : Prop :=
  (∀ a, (k0_off972 v6419) a + S1x1x512.size a ≤ S784x8x512.size a) ∧
  (∀ a, (k0_off985 v6419) a + S1x1x512.size a ≤ S784x8x512.size a)
theorem k0_off972_inb : ∀ (v6419 : BitVec 32) (k0_hw339 : k0_chk339 v6419), ∀ a, (k0_off972 v6419) a + S1x1x512.size a ≤ S784x8x512.size a := fun v6419 k0_hw339 => k0_hw339.1
theorem k0_off985_inb : ∀ (v6419 : BitVec 32) (k0_hw339 : k0_chk339 v6419), ∀ a, (k0_off985 v6419) a + S1x1x512.size a ≤ S784x8x512.size a := fun v6419 k0_hw339 => k0_hw339.2

def k0_off986 (v6434 : BitVec 32) : Fin 3 → Nat :=
  let c1023_i32_4014 : BitVec 32 := 1023#32
  let v6435 : BitVec 32 := Scalar.andi v6434 c1023_i32_4014
  let v6518 : Index := Scalar.indexCast v6435
  let c3_4067 : Index := 3#32
  let c0_4068 : Index := 0#32
  ![v6518.toNat, 3, 0]

def k0_chk340 (v6434 : BitVec 32) : Prop :=
  (∀ a, (k0_off974 v6434) a + S1x1x512.size a ≤ S784x8x512.size a) ∧
  (∀ a, (k0_off986 v6434) a + S1x1x512.size a ≤ S784x8x512.size a)
theorem k0_off974_inb : ∀ (v6434 : BitVec 32) (k0_hw340 : k0_chk340 v6434), ∀ a, (k0_off974 v6434) a + S1x1x512.size a ≤ S784x8x512.size a := fun v6434 k0_hw340 => k0_hw340.1
theorem k0_off986_inb : ∀ (v6434 : BitVec 32) (k0_hw340 : k0_chk340 v6434), ∀ a, (k0_off986 v6434) a + S1x1x512.size a ≤ S784x8x512.size a := fun v6434 k0_hw340 => k0_hw340.2

def k0_off987 (v6449 : BitVec 32) : Fin 3 → Nat :=
  let c1023_i32_4024 : BitVec 32 := 1023#32
  let v6450 : BitVec 32 := Scalar.andi v6449 c1023_i32_4024
  let v6522 : Index := Scalar.indexCast v6450
  let c4_4069 : Index := 4#32
  let c0_4070 : Index := 0#32
  ![v6522.toNat, 4, 0]

def k0_chk341 (v6449 : BitVec 32) : Prop :=
  (∀ a, (k0_off976 v6449) a + S1x1x512.size a ≤ S784x8x512.size a) ∧
  (∀ a, (k0_off987 v6449) a + S1x1x512.size a ≤ S784x8x512.size a)
theorem k0_off976_inb : ∀ (v6449 : BitVec 32) (k0_hw341 : k0_chk341 v6449), ∀ a, (k0_off976 v6449) a + S1x1x512.size a ≤ S784x8x512.size a := fun v6449 k0_hw341 => k0_hw341.1
theorem k0_off987_inb : ∀ (v6449 : BitVec 32) (k0_hw341 : k0_chk341 v6449), ∀ a, (k0_off987 v6449) a + S1x1x512.size a ≤ S784x8x512.size a := fun v6449 k0_hw341 => k0_hw341.2

def k0_off988 (v6464 : BitVec 32) : Fin 3 → Nat :=
  let c1023_i32_4034 : BitVec 32 := 1023#32
  let v6465 : BitVec 32 := Scalar.andi v6464 c1023_i32_4034
  let v6526 : Index := Scalar.indexCast v6465
  let c5_4071 : Index := 5#32
  let c0_4072 : Index := 0#32
  ![v6526.toNat, 5, 0]

def k0_chk342 (v6464 : BitVec 32) : Prop :=
  (∀ a, (k0_off978 v6464) a + S1x1x512.size a ≤ S784x8x512.size a) ∧
  (∀ a, (k0_off988 v6464) a + S1x1x512.size a ≤ S784x8x512.size a)
theorem k0_off978_inb : ∀ (v6464 : BitVec 32) (k0_hw342 : k0_chk342 v6464), ∀ a, (k0_off978 v6464) a + S1x1x512.size a ≤ S784x8x512.size a := fun v6464 k0_hw342 => k0_hw342.1
theorem k0_off988_inb : ∀ (v6464 : BitVec 32) (k0_hw342 : k0_chk342 v6464), ∀ a, (k0_off988 v6464) a + S1x1x512.size a ≤ S784x8x512.size a := fun v6464 k0_hw342 => k0_hw342.2

def k0_off989 (v6479 : BitVec 32) : Fin 3 → Nat :=
  let c1023_i32_4044 : BitVec 32 := 1023#32
  let v6480 : BitVec 32 := Scalar.andi v6479 c1023_i32_4044
  let v6530 : Index := Scalar.indexCast v6480
  let c6_4073 : Index := 6#32
  let c0_4074 : Index := 0#32
  ![v6530.toNat, 6, 0]

def k0_chk343 (v6479 : BitVec 32) : Prop :=
  (∀ a, (k0_off980 v6479) a + S1x1x512.size a ≤ S784x8x512.size a) ∧
  (∀ a, (k0_off989 v6479) a + S1x1x512.size a ≤ S784x8x512.size a)
theorem k0_off980_inb : ∀ (v6479 : BitVec 32) (k0_hw343 : k0_chk343 v6479), ∀ a, (k0_off980 v6479) a + S1x1x512.size a ≤ S784x8x512.size a := fun v6479 k0_hw343 => k0_hw343.1
theorem k0_off989_inb : ∀ (v6479 : BitVec 32) (k0_hw343 : k0_chk343 v6479), ∀ a, (k0_off989 v6479) a + S1x1x512.size a ≤ S784x8x512.size a := fun v6479 k0_hw343 => k0_hw343.2

def k0_off990 (i : grid0.Coords) : Fin 2 → Nat :=
  let arg0 : BitVec 32 := BitVec.ofNat 32 (i 0).val
  let c8_i32_4077 : BitVec 32 := 8#32
  let v6538 : BitVec 32 := Scalar.muli arg0 c8_i32_4077
  let c0_i32_4078 : BitVec 32 := 0#32
  let v6539 : BitVec 32 := Scalar.addi v6538 c0_i32_4078
  let v6540 : Index := Scalar.indexCast v6539
  let c43 : Index := 43#32
  ![v6540.toNat, 43]
def k0_off991 (v6541 : BitVec 32) : Fin 3 → Nat :=
  let c1023_i32_4079 : BitVec 32 := 1023#32
  let v6542 : BitVec 32 := Scalar.andi v6541 c1023_i32_4079
  let v6549 : Index := Scalar.indexCast v6542
  let c0_4084 : Index := 0#32
  let c0_4085 : Index := 0#32
  ![v6549.toNat, 0, 0]

def k0_off992 (i : grid0.Coords) : Fin 2 → Nat :=
  let arg0 : BitVec 32 := BitVec.ofNat 32 (i 0).val
  let c8_i32_4086 : BitVec 32 := 8#32
  let v6553 : BitVec 32 := Scalar.muli arg0 c8_i32_4086
  let c1_i32_4087 : BitVec 32 := 1#32
  let v6554 : BitVec 32 := Scalar.addi v6553 c1_i32_4087
  let v6555 : Index := Scalar.indexCast v6554
  let c43_4088 : Index := 43#32
  ![v6555.toNat, 43]
def k0_off993 (v6556 : BitVec 32) : Fin 3 → Nat :=
  let c1023_i32_4089 : BitVec 32 := 1023#32
  let v6557 : BitVec 32 := Scalar.andi v6556 c1023_i32_4089
  let v6564 : Index := Scalar.indexCast v6557
  let c1_4094 : Index := 1#32
  let c0_4095 : Index := 0#32
  ![v6564.toNat, 1, 0]

def k0_off994 (i : grid0.Coords) : Fin 2 → Nat :=
  let arg0 : BitVec 32 := BitVec.ofNat 32 (i 0).val
  let c8_i32_4096 : BitVec 32 := 8#32
  let v6568 : BitVec 32 := Scalar.muli arg0 c8_i32_4096
  let c2_i32_4097 : BitVec 32 := 2#32
  let v6569 : BitVec 32 := Scalar.addi v6568 c2_i32_4097
  let v6570 : Index := Scalar.indexCast v6569
  let c43_4098 : Index := 43#32
  ![v6570.toNat, 43]
def k0_off995 (v6571 : BitVec 32) : Fin 3 → Nat :=
  let c1023_i32_4099 : BitVec 32 := 1023#32
  let v6572 : BitVec 32 := Scalar.andi v6571 c1023_i32_4099
  let v6579 : Index := Scalar.indexCast v6572
  let c2_4104 : Index := 2#32
  let c0_4105 : Index := 0#32
  ![v6579.toNat, 2, 0]

def k0_off996 (i : grid0.Coords) : Fin 2 → Nat :=
  let arg0 : BitVec 32 := BitVec.ofNat 32 (i 0).val
  let c8_i32_4106 : BitVec 32 := 8#32
  let v6583 : BitVec 32 := Scalar.muli arg0 c8_i32_4106
  let c3_i32_4107 : BitVec 32 := 3#32
  let v6584 : BitVec 32 := Scalar.addi v6583 c3_i32_4107
  let v6585 : Index := Scalar.indexCast v6584
  let c43_4108 : Index := 43#32
  ![v6585.toNat, 43]
def k0_off997 (v6586 : BitVec 32) : Fin 3 → Nat :=
  let c1023_i32_4109 : BitVec 32 := 1023#32
  let v6587 : BitVec 32 := Scalar.andi v6586 c1023_i32_4109
  let v6594 : Index := Scalar.indexCast v6587
  let c3_4114 : Index := 3#32
  let c0_4115 : Index := 0#32
  ![v6594.toNat, 3, 0]

def k0_off998 (i : grid0.Coords) : Fin 2 → Nat :=
  let arg0 : BitVec 32 := BitVec.ofNat 32 (i 0).val
  let c8_i32_4116 : BitVec 32 := 8#32
  let v6598 : BitVec 32 := Scalar.muli arg0 c8_i32_4116
  let c4_i32_4117 : BitVec 32 := 4#32
  let v6599 : BitVec 32 := Scalar.addi v6598 c4_i32_4117
  let v6600 : Index := Scalar.indexCast v6599
  let c43_4118 : Index := 43#32
  ![v6600.toNat, 43]
def k0_off999 (v6601 : BitVec 32) : Fin 3 → Nat :=
  let c1023_i32_4119 : BitVec 32 := 1023#32
  let v6602 : BitVec 32 := Scalar.andi v6601 c1023_i32_4119
  let v6609 : Index := Scalar.indexCast v6602
  let c4_4124 : Index := 4#32
  let c0_4125 : Index := 0#32
  ![v6609.toNat, 4, 0]

def k0_off1000 (i : grid0.Coords) : Fin 2 → Nat :=
  let arg0 : BitVec 32 := BitVec.ofNat 32 (i 0).val
  let c8_i32_4126 : BitVec 32 := 8#32
  let v6613 : BitVec 32 := Scalar.muli arg0 c8_i32_4126
  let c5_i32_4127 : BitVec 32 := 5#32
  let v6614 : BitVec 32 := Scalar.addi v6613 c5_i32_4127
  let v6615 : Index := Scalar.indexCast v6614
  let c43_4128 : Index := 43#32
  ![v6615.toNat, 43]
def k0_off1001 (v6616 : BitVec 32) : Fin 3 → Nat :=
  let c1023_i32_4129 : BitVec 32 := 1023#32
  let v6617 : BitVec 32 := Scalar.andi v6616 c1023_i32_4129
  let v6624 : Index := Scalar.indexCast v6617
  let c5_4134 : Index := 5#32
  let c0_4135 : Index := 0#32
  ![v6624.toNat, 5, 0]

def k0_off1002 (i : grid0.Coords) : Fin 2 → Nat :=
  let arg0 : BitVec 32 := BitVec.ofNat 32 (i 0).val
  let c8_i32_4136 : BitVec 32 := 8#32
  let v6628 : BitVec 32 := Scalar.muli arg0 c8_i32_4136
  let c6_i32_4137 : BitVec 32 := 6#32
  let v6629 : BitVec 32 := Scalar.addi v6628 c6_i32_4137
  let v6630 : Index := Scalar.indexCast v6629
  let c43_4138 : Index := 43#32
  ![v6630.toNat, 43]
def k0_off1003 (v6631 : BitVec 32) : Fin 3 → Nat :=
  let c1023_i32_4139 : BitVec 32 := 1023#32
  let v6632 : BitVec 32 := Scalar.andi v6631 c1023_i32_4139
  let v6639 : Index := Scalar.indexCast v6632
  let c6_4144 : Index := 6#32
  let c0_4145 : Index := 0#32
  ![v6639.toNat, 6, 0]

def k0_off1004 (i : grid0.Coords) : Fin 2 → Nat :=
  let arg0 : BitVec 32 := BitVec.ofNat 32 (i 0).val
  let c8_i32_4146 : BitVec 32 := 8#32
  let v6643 : BitVec 32 := Scalar.muli arg0 c8_i32_4146
  let c7_i32_4147 : BitVec 32 := 7#32
  let v6644 : BitVec 32 := Scalar.addi v6643 c7_i32_4147
  let v6645 : Index := Scalar.indexCast v6644
  let c43_4148 : Index := 43#32
  ![v6645.toNat, 43]
def k0_off1005 (v6646 : BitVec 32) : Fin 3 → Nat :=
  let c1023_i32_4149 : BitVec 32 := 1023#32
  let v6647 : BitVec 32 := Scalar.andi v6646 c1023_i32_4149
  let v6654 : Index := Scalar.indexCast v6647
  let c7_4154 : Index := 7#32
  let c0_4155 : Index := 0#32
  ![v6654.toNat, 7, 0]

def k0_chk352 (v6646 : BitVec 32) : Prop :=
  (∀ a, (k0_off1005 v6646) a + S1x1x512.size a ≤ S784x8x512.size a)
theorem k0_off1005_inb : ∀ (v6646 : BitVec 32) (k0_hw352 : k0_chk352 v6646), ∀ a, (k0_off1005 v6646) a + S1x1x512.size a ≤ S784x8x512.size a := fun v6646 k0_hw352 => k0_hw352

def k0_off1006 (v6541 : BitVec 32) : Fin 3 → Nat :=
  let c1023_i32_4079 : BitVec 32 := 1023#32
  let v6542 : BitVec 32 := Scalar.andi v6541 c1023_i32_4079
  let v6658 : Index := Scalar.indexCast v6542
  let c0_4156 : Index := 0#32
  let c0_4157 : Index := 0#32
  ![v6658.toNat, 0, 0]

def k0_chk345 (v6541 : BitVec 32) : Prop :=
  (∀ a, (k0_off991 v6541) a + S1x1x512.size a ≤ S784x8x512.size a) ∧
  (∀ a, (k0_off1006 v6541) a + S1x1x512.size a ≤ S784x8x512.size a)
theorem k0_off991_inb : ∀ (v6541 : BitVec 32) (k0_hw345 : k0_chk345 v6541), ∀ a, (k0_off991 v6541) a + S1x1x512.size a ≤ S784x8x512.size a := fun v6541 k0_hw345 => k0_hw345.1
theorem k0_off1006_inb : ∀ (v6541 : BitVec 32) (k0_hw345 : k0_chk345 v6541), ∀ a, (k0_off1006 v6541) a + S1x1x512.size a ≤ S784x8x512.size a := fun v6541 k0_hw345 => k0_hw345.2

def k0_off1007 (v6556 : BitVec 32) : Fin 3 → Nat :=
  let c1023_i32_4089 : BitVec 32 := 1023#32
  let v6557 : BitVec 32 := Scalar.andi v6556 c1023_i32_4089
  let v6662 : Index := Scalar.indexCast v6557
  let c1_4158 : Index := 1#32
  let c0_4159 : Index := 0#32
  ![v6662.toNat, 1, 0]

def k0_chk346 (v6556 : BitVec 32) : Prop :=
  (∀ a, (k0_off993 v6556) a + S1x1x512.size a ≤ S784x8x512.size a) ∧
  (∀ a, (k0_off1007 v6556) a + S1x1x512.size a ≤ S784x8x512.size a)
theorem k0_off993_inb : ∀ (v6556 : BitVec 32) (k0_hw346 : k0_chk346 v6556), ∀ a, (k0_off993 v6556) a + S1x1x512.size a ≤ S784x8x512.size a := fun v6556 k0_hw346 => k0_hw346.1
theorem k0_off1007_inb : ∀ (v6556 : BitVec 32) (k0_hw346 : k0_chk346 v6556), ∀ a, (k0_off1007 v6556) a + S1x1x512.size a ≤ S784x8x512.size a := fun v6556 k0_hw346 => k0_hw346.2

def k0_off1008 (v6571 : BitVec 32) : Fin 3 → Nat :=
  let c1023_i32_4099 : BitVec 32 := 1023#32
  let v6572 : BitVec 32 := Scalar.andi v6571 c1023_i32_4099
  let v6666 : Index := Scalar.indexCast v6572
  let c2_4160 : Index := 2#32
  let c0_4161 : Index := 0#32
  ![v6666.toNat, 2, 0]

def k0_chk347 (v6571 : BitVec 32) : Prop :=
  (∀ a, (k0_off995 v6571) a + S1x1x512.size a ≤ S784x8x512.size a) ∧
  (∀ a, (k0_off1008 v6571) a + S1x1x512.size a ≤ S784x8x512.size a)
theorem k0_off995_inb : ∀ (v6571 : BitVec 32) (k0_hw347 : k0_chk347 v6571), ∀ a, (k0_off995 v6571) a + S1x1x512.size a ≤ S784x8x512.size a := fun v6571 k0_hw347 => k0_hw347.1
theorem k0_off1008_inb : ∀ (v6571 : BitVec 32) (k0_hw347 : k0_chk347 v6571), ∀ a, (k0_off1008 v6571) a + S1x1x512.size a ≤ S784x8x512.size a := fun v6571 k0_hw347 => k0_hw347.2

def k0_off1009 (v6586 : BitVec 32) : Fin 3 → Nat :=
  let c1023_i32_4109 : BitVec 32 := 1023#32
  let v6587 : BitVec 32 := Scalar.andi v6586 c1023_i32_4109
  let v6670 : Index := Scalar.indexCast v6587
  let c3_4162 : Index := 3#32
  let c0_4163 : Index := 0#32
  ![v6670.toNat, 3, 0]

def k0_chk348 (v6586 : BitVec 32) : Prop :=
  (∀ a, (k0_off997 v6586) a + S1x1x512.size a ≤ S784x8x512.size a) ∧
  (∀ a, (k0_off1009 v6586) a + S1x1x512.size a ≤ S784x8x512.size a)
theorem k0_off997_inb : ∀ (v6586 : BitVec 32) (k0_hw348 : k0_chk348 v6586), ∀ a, (k0_off997 v6586) a + S1x1x512.size a ≤ S784x8x512.size a := fun v6586 k0_hw348 => k0_hw348.1
theorem k0_off1009_inb : ∀ (v6586 : BitVec 32) (k0_hw348 : k0_chk348 v6586), ∀ a, (k0_off1009 v6586) a + S1x1x512.size a ≤ S784x8x512.size a := fun v6586 k0_hw348 => k0_hw348.2

def k0_off1010 (v6601 : BitVec 32) : Fin 3 → Nat :=
  let c1023_i32_4119 : BitVec 32 := 1023#32
  let v6602 : BitVec 32 := Scalar.andi v6601 c1023_i32_4119
  let v6674 : Index := Scalar.indexCast v6602
  let c4_4164 : Index := 4#32
  let c0_4165 : Index := 0#32
  ![v6674.toNat, 4, 0]

def k0_chk349 (v6601 : BitVec 32) : Prop :=
  (∀ a, (k0_off999 v6601) a + S1x1x512.size a ≤ S784x8x512.size a) ∧
  (∀ a, (k0_off1010 v6601) a + S1x1x512.size a ≤ S784x8x512.size a)
theorem k0_off999_inb : ∀ (v6601 : BitVec 32) (k0_hw349 : k0_chk349 v6601), ∀ a, (k0_off999 v6601) a + S1x1x512.size a ≤ S784x8x512.size a := fun v6601 k0_hw349 => k0_hw349.1
theorem k0_off1010_inb : ∀ (v6601 : BitVec 32) (k0_hw349 : k0_chk349 v6601), ∀ a, (k0_off1010 v6601) a + S1x1x512.size a ≤ S784x8x512.size a := fun v6601 k0_hw349 => k0_hw349.2

def k0_off1011 (v6616 : BitVec 32) : Fin 3 → Nat :=
  let c1023_i32_4129 : BitVec 32 := 1023#32
  let v6617 : BitVec 32 := Scalar.andi v6616 c1023_i32_4129
  let v6678 : Index := Scalar.indexCast v6617
  let c5_4166 : Index := 5#32
  let c0_4167 : Index := 0#32
  ![v6678.toNat, 5, 0]

def k0_chk350 (v6616 : BitVec 32) : Prop :=
  (∀ a, (k0_off1001 v6616) a + S1x1x512.size a ≤ S784x8x512.size a) ∧
  (∀ a, (k0_off1011 v6616) a + S1x1x512.size a ≤ S784x8x512.size a)
theorem k0_off1001_inb : ∀ (v6616 : BitVec 32) (k0_hw350 : k0_chk350 v6616), ∀ a, (k0_off1001 v6616) a + S1x1x512.size a ≤ S784x8x512.size a := fun v6616 k0_hw350 => k0_hw350.1
theorem k0_off1011_inb : ∀ (v6616 : BitVec 32) (k0_hw350 : k0_chk350 v6616), ∀ a, (k0_off1011 v6616) a + S1x1x512.size a ≤ S784x8x512.size a := fun v6616 k0_hw350 => k0_hw350.2

def k0_off1012 (v6631 : BitVec 32) : Fin 3 → Nat :=
  let c1023_i32_4139 : BitVec 32 := 1023#32
  let v6632 : BitVec 32 := Scalar.andi v6631 c1023_i32_4139
  let v6682 : Index := Scalar.indexCast v6632
  let c6_4168 : Index := 6#32
  let c0_4169 : Index := 0#32
  ![v6682.toNat, 6, 0]

def k0_chk351 (v6631 : BitVec 32) : Prop :=
  (∀ a, (k0_off1003 v6631) a + S1x1x512.size a ≤ S784x8x512.size a) ∧
  (∀ a, (k0_off1012 v6631) a + S1x1x512.size a ≤ S784x8x512.size a)
theorem k0_off1003_inb : ∀ (v6631 : BitVec 32) (k0_hw351 : k0_chk351 v6631), ∀ a, (k0_off1003 v6631) a + S1x1x512.size a ≤ S784x8x512.size a := fun v6631 k0_hw351 => k0_hw351.1
theorem k0_off1012_inb : ∀ (v6631 : BitVec 32) (k0_hw351 : k0_chk351 v6631), ∀ a, (k0_off1012 v6631) a + S1x1x512.size a ≤ S784x8x512.size a := fun v6631 k0_hw351 => k0_hw351.2

def k0_off1013 (i : grid0.Coords) : Fin 2 → Nat :=
  let arg0 : BitVec 32 := BitVec.ofNat 32 (i 0).val
  let c8_i32_4172 : BitVec 32 := 8#32
  let v6690 : BitVec 32 := Scalar.muli arg0 c8_i32_4172
  let c0_i32_4173 : BitVec 32 := 0#32
  let v6691 : BitVec 32 := Scalar.addi v6690 c0_i32_4173
  let v6692 : Index := Scalar.indexCast v6691
  let c44 : Index := 44#32
  ![v6692.toNat, 44]
def k0_off1014 (v6693 : BitVec 32) : Fin 3 → Nat :=
  let c1023_i32_4174 : BitVec 32 := 1023#32
  let v6694 : BitVec 32 := Scalar.andi v6693 c1023_i32_4174
  let v6701 : Index := Scalar.indexCast v6694
  let c0_4179 : Index := 0#32
  let c0_4180 : Index := 0#32
  ![v6701.toNat, 0, 0]

def k0_off1015 (i : grid0.Coords) : Fin 2 → Nat :=
  let arg0 : BitVec 32 := BitVec.ofNat 32 (i 0).val
  let c8_i32_4181 : BitVec 32 := 8#32
  let v6705 : BitVec 32 := Scalar.muli arg0 c8_i32_4181
  let c1_i32_4182 : BitVec 32 := 1#32
  let v6706 : BitVec 32 := Scalar.addi v6705 c1_i32_4182
  let v6707 : Index := Scalar.indexCast v6706
  let c44_4183 : Index := 44#32
  ![v6707.toNat, 44]
def k0_off1016 (v6708 : BitVec 32) : Fin 3 → Nat :=
  let c1023_i32_4184 : BitVec 32 := 1023#32
  let v6709 : BitVec 32 := Scalar.andi v6708 c1023_i32_4184
  let v6716 : Index := Scalar.indexCast v6709
  let c1_4189 : Index := 1#32
  let c0_4190 : Index := 0#32
  ![v6716.toNat, 1, 0]

def k0_off1017 (i : grid0.Coords) : Fin 2 → Nat :=
  let arg0 : BitVec 32 := BitVec.ofNat 32 (i 0).val
  let c8_i32_4191 : BitVec 32 := 8#32
  let v6720 : BitVec 32 := Scalar.muli arg0 c8_i32_4191
  let c2_i32_4192 : BitVec 32 := 2#32
  let v6721 : BitVec 32 := Scalar.addi v6720 c2_i32_4192
  let v6722 : Index := Scalar.indexCast v6721
  let c44_4193 : Index := 44#32
  ![v6722.toNat, 44]
def k0_off1018 (v6723 : BitVec 32) : Fin 3 → Nat :=
  let c1023_i32_4194 : BitVec 32 := 1023#32
  let v6724 : BitVec 32 := Scalar.andi v6723 c1023_i32_4194
  let v6731 : Index := Scalar.indexCast v6724
  let c2_4199 : Index := 2#32
  let c0_4200 : Index := 0#32
  ![v6731.toNat, 2, 0]

def k0_off1019 (i : grid0.Coords) : Fin 2 → Nat :=
  let arg0 : BitVec 32 := BitVec.ofNat 32 (i 0).val
  let c8_i32_4201 : BitVec 32 := 8#32
  let v6735 : BitVec 32 := Scalar.muli arg0 c8_i32_4201
  let c3_i32_4202 : BitVec 32 := 3#32
  let v6736 : BitVec 32 := Scalar.addi v6735 c3_i32_4202
  let v6737 : Index := Scalar.indexCast v6736
  let c44_4203 : Index := 44#32
  ![v6737.toNat, 44]
def k0_off1020 (v6738 : BitVec 32) : Fin 3 → Nat :=
  let c1023_i32_4204 : BitVec 32 := 1023#32
  let v6739 : BitVec 32 := Scalar.andi v6738 c1023_i32_4204
  let v6746 : Index := Scalar.indexCast v6739
  let c3_4209 : Index := 3#32
  let c0_4210 : Index := 0#32
  ![v6746.toNat, 3, 0]

def k0_off1021 (i : grid0.Coords) : Fin 2 → Nat :=
  let arg0 : BitVec 32 := BitVec.ofNat 32 (i 0).val
  let c8_i32_4211 : BitVec 32 := 8#32
  let v6750 : BitVec 32 := Scalar.muli arg0 c8_i32_4211
  let c4_i32_4212 : BitVec 32 := 4#32
  let v6751 : BitVec 32 := Scalar.addi v6750 c4_i32_4212
  let v6752 : Index := Scalar.indexCast v6751
  let c44_4213 : Index := 44#32
  ![v6752.toNat, 44]
def k0_off1022 (v6753 : BitVec 32) : Fin 3 → Nat :=
  let c1023_i32_4214 : BitVec 32 := 1023#32
  let v6754 : BitVec 32 := Scalar.andi v6753 c1023_i32_4214
  let v6761 : Index := Scalar.indexCast v6754
  let c4_4219 : Index := 4#32
  let c0_4220 : Index := 0#32
  ![v6761.toNat, 4, 0]

def k0_off1023 (i : grid0.Coords) : Fin 2 → Nat :=
  let arg0 : BitVec 32 := BitVec.ofNat 32 (i 0).val
  let c8_i32_4221 : BitVec 32 := 8#32
  let v6765 : BitVec 32 := Scalar.muli arg0 c8_i32_4221
  let c5_i32_4222 : BitVec 32 := 5#32
  let v6766 : BitVec 32 := Scalar.addi v6765 c5_i32_4222
  let v6767 : Index := Scalar.indexCast v6766
  let c44_4223 : Index := 44#32
  ![v6767.toNat, 44]
def k0_off1024 (v6768 : BitVec 32) : Fin 3 → Nat :=
  let c1023_i32_4224 : BitVec 32 := 1023#32
  let v6769 : BitVec 32 := Scalar.andi v6768 c1023_i32_4224
  let v6776 : Index := Scalar.indexCast v6769
  let c5_4229 : Index := 5#32
  let c0_4230 : Index := 0#32
  ![v6776.toNat, 5, 0]

def k0_off1025 (i : grid0.Coords) : Fin 2 → Nat :=
  let arg0 : BitVec 32 := BitVec.ofNat 32 (i 0).val
  let c8_i32_4231 : BitVec 32 := 8#32
  let v6780 : BitVec 32 := Scalar.muli arg0 c8_i32_4231
  let c6_i32_4232 : BitVec 32 := 6#32
  let v6781 : BitVec 32 := Scalar.addi v6780 c6_i32_4232
  let v6782 : Index := Scalar.indexCast v6781
  let c44_4233 : Index := 44#32
  ![v6782.toNat, 44]
def k0_off1026 (v6783 : BitVec 32) : Fin 3 → Nat :=
  let c1023_i32_4234 : BitVec 32 := 1023#32
  let v6784 : BitVec 32 := Scalar.andi v6783 c1023_i32_4234
  let v6791 : Index := Scalar.indexCast v6784
  let c6_4239 : Index := 6#32
  let c0_4240 : Index := 0#32
  ![v6791.toNat, 6, 0]

def k0_off1027 (i : grid0.Coords) : Fin 2 → Nat :=
  let arg0 : BitVec 32 := BitVec.ofNat 32 (i 0).val
  let c8_i32_4241 : BitVec 32 := 8#32
  let v6795 : BitVec 32 := Scalar.muli arg0 c8_i32_4241
  let c7_i32_4242 : BitVec 32 := 7#32
  let v6796 : BitVec 32 := Scalar.addi v6795 c7_i32_4242
  let v6797 : Index := Scalar.indexCast v6796
  let c44_4243 : Index := 44#32
  ![v6797.toNat, 44]
def k0_off1028 (v6798 : BitVec 32) : Fin 3 → Nat :=
  let c1023_i32_4244 : BitVec 32 := 1023#32
  let v6799 : BitVec 32 := Scalar.andi v6798 c1023_i32_4244
  let v6806 : Index := Scalar.indexCast v6799
  let c7_4249 : Index := 7#32
  let c0_4250 : Index := 0#32
  ![v6806.toNat, 7, 0]

def k0_chk360 (v6798 : BitVec 32) : Prop :=
  (∀ a, (k0_off1028 v6798) a + S1x1x512.size a ≤ S784x8x512.size a)
theorem k0_off1028_inb : ∀ (v6798 : BitVec 32) (k0_hw360 : k0_chk360 v6798), ∀ a, (k0_off1028 v6798) a + S1x1x512.size a ≤ S784x8x512.size a := fun v6798 k0_hw360 => k0_hw360

def k0_off1029 (v6693 : BitVec 32) : Fin 3 → Nat :=
  let c1023_i32_4174 : BitVec 32 := 1023#32
  let v6694 : BitVec 32 := Scalar.andi v6693 c1023_i32_4174
  let v6810 : Index := Scalar.indexCast v6694
  let c0_4251 : Index := 0#32
  let c0_4252 : Index := 0#32
  ![v6810.toNat, 0, 0]

def k0_chk353 (v6693 : BitVec 32) : Prop :=
  (∀ a, (k0_off1014 v6693) a + S1x1x512.size a ≤ S784x8x512.size a) ∧
  (∀ a, (k0_off1029 v6693) a + S1x1x512.size a ≤ S784x8x512.size a)
theorem k0_off1014_inb : ∀ (v6693 : BitVec 32) (k0_hw353 : k0_chk353 v6693), ∀ a, (k0_off1014 v6693) a + S1x1x512.size a ≤ S784x8x512.size a := fun v6693 k0_hw353 => k0_hw353.1
theorem k0_off1029_inb : ∀ (v6693 : BitVec 32) (k0_hw353 : k0_chk353 v6693), ∀ a, (k0_off1029 v6693) a + S1x1x512.size a ≤ S784x8x512.size a := fun v6693 k0_hw353 => k0_hw353.2

def k0_off1030 (v6708 : BitVec 32) : Fin 3 → Nat :=
  let c1023_i32_4184 : BitVec 32 := 1023#32
  let v6709 : BitVec 32 := Scalar.andi v6708 c1023_i32_4184
  let v6814 : Index := Scalar.indexCast v6709
  let c1_4253 : Index := 1#32
  let c0_4254 : Index := 0#32
  ![v6814.toNat, 1, 0]

def k0_chk354 (v6708 : BitVec 32) : Prop :=
  (∀ a, (k0_off1016 v6708) a + S1x1x512.size a ≤ S784x8x512.size a) ∧
  (∀ a, (k0_off1030 v6708) a + S1x1x512.size a ≤ S784x8x512.size a)
theorem k0_off1016_inb : ∀ (v6708 : BitVec 32) (k0_hw354 : k0_chk354 v6708), ∀ a, (k0_off1016 v6708) a + S1x1x512.size a ≤ S784x8x512.size a := fun v6708 k0_hw354 => k0_hw354.1
theorem k0_off1030_inb : ∀ (v6708 : BitVec 32) (k0_hw354 : k0_chk354 v6708), ∀ a, (k0_off1030 v6708) a + S1x1x512.size a ≤ S784x8x512.size a := fun v6708 k0_hw354 => k0_hw354.2

def k0_off1031 (v6723 : BitVec 32) : Fin 3 → Nat :=
  let c1023_i32_4194 : BitVec 32 := 1023#32
  let v6724 : BitVec 32 := Scalar.andi v6723 c1023_i32_4194
  let v6818 : Index := Scalar.indexCast v6724
  let c2_4255 : Index := 2#32
  let c0_4256 : Index := 0#32
  ![v6818.toNat, 2, 0]

def k0_chk355 (v6723 : BitVec 32) : Prop :=
  (∀ a, (k0_off1018 v6723) a + S1x1x512.size a ≤ S784x8x512.size a) ∧
  (∀ a, (k0_off1031 v6723) a + S1x1x512.size a ≤ S784x8x512.size a)
theorem k0_off1018_inb : ∀ (v6723 : BitVec 32) (k0_hw355 : k0_chk355 v6723), ∀ a, (k0_off1018 v6723) a + S1x1x512.size a ≤ S784x8x512.size a := fun v6723 k0_hw355 => k0_hw355.1
theorem k0_off1031_inb : ∀ (v6723 : BitVec 32) (k0_hw355 : k0_chk355 v6723), ∀ a, (k0_off1031 v6723) a + S1x1x512.size a ≤ S784x8x512.size a := fun v6723 k0_hw355 => k0_hw355.2

def k0_off1032 (v6738 : BitVec 32) : Fin 3 → Nat :=
  let c1023_i32_4204 : BitVec 32 := 1023#32
  let v6739 : BitVec 32 := Scalar.andi v6738 c1023_i32_4204
  let v6822 : Index := Scalar.indexCast v6739
  let c3_4257 : Index := 3#32
  let c0_4258 : Index := 0#32
  ![v6822.toNat, 3, 0]

def k0_chk356 (v6738 : BitVec 32) : Prop :=
  (∀ a, (k0_off1020 v6738) a + S1x1x512.size a ≤ S784x8x512.size a) ∧
  (∀ a, (k0_off1032 v6738) a + S1x1x512.size a ≤ S784x8x512.size a)
theorem k0_off1020_inb : ∀ (v6738 : BitVec 32) (k0_hw356 : k0_chk356 v6738), ∀ a, (k0_off1020 v6738) a + S1x1x512.size a ≤ S784x8x512.size a := fun v6738 k0_hw356 => k0_hw356.1
theorem k0_off1032_inb : ∀ (v6738 : BitVec 32) (k0_hw356 : k0_chk356 v6738), ∀ a, (k0_off1032 v6738) a + S1x1x512.size a ≤ S784x8x512.size a := fun v6738 k0_hw356 => k0_hw356.2

def k0_off1033 (v6753 : BitVec 32) : Fin 3 → Nat :=
  let c1023_i32_4214 : BitVec 32 := 1023#32
  let v6754 : BitVec 32 := Scalar.andi v6753 c1023_i32_4214
  let v6826 : Index := Scalar.indexCast v6754
  let c4_4259 : Index := 4#32
  let c0_4260 : Index := 0#32
  ![v6826.toNat, 4, 0]

def k0_chk357 (v6753 : BitVec 32) : Prop :=
  (∀ a, (k0_off1022 v6753) a + S1x1x512.size a ≤ S784x8x512.size a) ∧
  (∀ a, (k0_off1033 v6753) a + S1x1x512.size a ≤ S784x8x512.size a)
theorem k0_off1022_inb : ∀ (v6753 : BitVec 32) (k0_hw357 : k0_chk357 v6753), ∀ a, (k0_off1022 v6753) a + S1x1x512.size a ≤ S784x8x512.size a := fun v6753 k0_hw357 => k0_hw357.1
theorem k0_off1033_inb : ∀ (v6753 : BitVec 32) (k0_hw357 : k0_chk357 v6753), ∀ a, (k0_off1033 v6753) a + S1x1x512.size a ≤ S784x8x512.size a := fun v6753 k0_hw357 => k0_hw357.2

def k0_off1034 (v6768 : BitVec 32) : Fin 3 → Nat :=
  let c1023_i32_4224 : BitVec 32 := 1023#32
  let v6769 : BitVec 32 := Scalar.andi v6768 c1023_i32_4224
  let v6830 : Index := Scalar.indexCast v6769
  let c5_4261 : Index := 5#32
  let c0_4262 : Index := 0#32
  ![v6830.toNat, 5, 0]

def k0_chk358 (v6768 : BitVec 32) : Prop :=
  (∀ a, (k0_off1024 v6768) a + S1x1x512.size a ≤ S784x8x512.size a) ∧
  (∀ a, (k0_off1034 v6768) a + S1x1x512.size a ≤ S784x8x512.size a)
theorem k0_off1024_inb : ∀ (v6768 : BitVec 32) (k0_hw358 : k0_chk358 v6768), ∀ a, (k0_off1024 v6768) a + S1x1x512.size a ≤ S784x8x512.size a := fun v6768 k0_hw358 => k0_hw358.1
theorem k0_off1034_inb : ∀ (v6768 : BitVec 32) (k0_hw358 : k0_chk358 v6768), ∀ a, (k0_off1034 v6768) a + S1x1x512.size a ≤ S784x8x512.size a := fun v6768 k0_hw358 => k0_hw358.2

def k0_off1035 (v6783 : BitVec 32) : Fin 3 → Nat :=
  let c1023_i32_4234 : BitVec 32 := 1023#32
  let v6784 : BitVec 32 := Scalar.andi v6783 c1023_i32_4234
  let v6834 : Index := Scalar.indexCast v6784
  let c6_4263 : Index := 6#32
  let c0_4264 : Index := 0#32
  ![v6834.toNat, 6, 0]

def k0_chk359 (v6783 : BitVec 32) : Prop :=
  (∀ a, (k0_off1026 v6783) a + S1x1x512.size a ≤ S784x8x512.size a) ∧
  (∀ a, (k0_off1035 v6783) a + S1x1x512.size a ≤ S784x8x512.size a)
theorem k0_off1026_inb : ∀ (v6783 : BitVec 32) (k0_hw359 : k0_chk359 v6783), ∀ a, (k0_off1026 v6783) a + S1x1x512.size a ≤ S784x8x512.size a := fun v6783 k0_hw359 => k0_hw359.1
theorem k0_off1035_inb : ∀ (v6783 : BitVec 32) (k0_hw359 : k0_chk359 v6783), ∀ a, (k0_off1035 v6783) a + S1x1x512.size a ≤ S784x8x512.size a := fun v6783 k0_hw359 => k0_hw359.2

def k0_off1036 (i : grid0.Coords) : Fin 2 → Nat :=
  let arg0 : BitVec 32 := BitVec.ofNat 32 (i 0).val
  let c8_i32_4267 : BitVec 32 := 8#32
  let v6842 : BitVec 32 := Scalar.muli arg0 c8_i32_4267
  let c0_i32_4268 : BitVec 32 := 0#32
  let v6843 : BitVec 32 := Scalar.addi v6842 c0_i32_4268
  let v6844 : Index := Scalar.indexCast v6843
  let c45 : Index := 45#32
  ![v6844.toNat, 45]
def k0_off1037 (v6845 : BitVec 32) : Fin 3 → Nat :=
  let c1023_i32_4269 : BitVec 32 := 1023#32
  let v6846 : BitVec 32 := Scalar.andi v6845 c1023_i32_4269
  let v6853 : Index := Scalar.indexCast v6846
  let c0_4274 : Index := 0#32
  let c0_4275 : Index := 0#32
  ![v6853.toNat, 0, 0]

def k0_off1038 (i : grid0.Coords) : Fin 2 → Nat :=
  let arg0 : BitVec 32 := BitVec.ofNat 32 (i 0).val
  let c8_i32_4276 : BitVec 32 := 8#32
  let v6857 : BitVec 32 := Scalar.muli arg0 c8_i32_4276
  let c1_i32_4277 : BitVec 32 := 1#32
  let v6858 : BitVec 32 := Scalar.addi v6857 c1_i32_4277
  let v6859 : Index := Scalar.indexCast v6858
  let c45_4278 : Index := 45#32
  ![v6859.toNat, 45]
def k0_off1039 (v6860 : BitVec 32) : Fin 3 → Nat :=
  let c1023_i32_4279 : BitVec 32 := 1023#32
  let v6861 : BitVec 32 := Scalar.andi v6860 c1023_i32_4279
  let v6868 : Index := Scalar.indexCast v6861
  let c1_4284 : Index := 1#32
  let c0_4285 : Index := 0#32
  ![v6868.toNat, 1, 0]

def k0_off1040 (i : grid0.Coords) : Fin 2 → Nat :=
  let arg0 : BitVec 32 := BitVec.ofNat 32 (i 0).val
  let c8_i32_4286 : BitVec 32 := 8#32
  let v6872 : BitVec 32 := Scalar.muli arg0 c8_i32_4286
  let c2_i32_4287 : BitVec 32 := 2#32
  let v6873 : BitVec 32 := Scalar.addi v6872 c2_i32_4287
  let v6874 : Index := Scalar.indexCast v6873
  let c45_4288 : Index := 45#32
  ![v6874.toNat, 45]
def k0_off1041 (v6875 : BitVec 32) : Fin 3 → Nat :=
  let c1023_i32_4289 : BitVec 32 := 1023#32
  let v6876 : BitVec 32 := Scalar.andi v6875 c1023_i32_4289
  let v6883 : Index := Scalar.indexCast v6876
  let c2_4294 : Index := 2#32
  let c0_4295 : Index := 0#32
  ![v6883.toNat, 2, 0]

def k0_off1042 (i : grid0.Coords) : Fin 2 → Nat :=
  let arg0 : BitVec 32 := BitVec.ofNat 32 (i 0).val
  let c8_i32_4296 : BitVec 32 := 8#32
  let v6887 : BitVec 32 := Scalar.muli arg0 c8_i32_4296
  let c3_i32_4297 : BitVec 32 := 3#32
  let v6888 : BitVec 32 := Scalar.addi v6887 c3_i32_4297
  let v6889 : Index := Scalar.indexCast v6888
  let c45_4298 : Index := 45#32
  ![v6889.toNat, 45]
def k0_off1043 (v6890 : BitVec 32) : Fin 3 → Nat :=
  let c1023_i32_4299 : BitVec 32 := 1023#32
  let v6891 : BitVec 32 := Scalar.andi v6890 c1023_i32_4299
  let v6898 : Index := Scalar.indexCast v6891
  let c3_4304 : Index := 3#32
  let c0_4305 : Index := 0#32
  ![v6898.toNat, 3, 0]

def k0_off1044 (i : grid0.Coords) : Fin 2 → Nat :=
  let arg0 : BitVec 32 := BitVec.ofNat 32 (i 0).val
  let c8_i32_4306 : BitVec 32 := 8#32
  let v6902 : BitVec 32 := Scalar.muli arg0 c8_i32_4306
  let c4_i32_4307 : BitVec 32 := 4#32
  let v6903 : BitVec 32 := Scalar.addi v6902 c4_i32_4307
  let v6904 : Index := Scalar.indexCast v6903
  let c45_4308 : Index := 45#32
  ![v6904.toNat, 45]
def k0_off1045 (v6905 : BitVec 32) : Fin 3 → Nat :=
  let c1023_i32_4309 : BitVec 32 := 1023#32
  let v6906 : BitVec 32 := Scalar.andi v6905 c1023_i32_4309
  let v6913 : Index := Scalar.indexCast v6906
  let c4_4314 : Index := 4#32
  let c0_4315 : Index := 0#32
  ![v6913.toNat, 4, 0]

def k0_off1046 (i : grid0.Coords) : Fin 2 → Nat :=
  let arg0 : BitVec 32 := BitVec.ofNat 32 (i 0).val
  let c8_i32_4316 : BitVec 32 := 8#32
  let v6917 : BitVec 32 := Scalar.muli arg0 c8_i32_4316
  let c5_i32_4317 : BitVec 32 := 5#32
  let v6918 : BitVec 32 := Scalar.addi v6917 c5_i32_4317
  let v6919 : Index := Scalar.indexCast v6918
  let c45_4318 : Index := 45#32
  ![v6919.toNat, 45]
def k0_off1047 (v6920 : BitVec 32) : Fin 3 → Nat :=
  let c1023_i32_4319 : BitVec 32 := 1023#32
  let v6921 : BitVec 32 := Scalar.andi v6920 c1023_i32_4319
  let v6928 : Index := Scalar.indexCast v6921
  let c5_4324 : Index := 5#32
  let c0_4325 : Index := 0#32
  ![v6928.toNat, 5, 0]

def k0_off1048 (i : grid0.Coords) : Fin 2 → Nat :=
  let arg0 : BitVec 32 := BitVec.ofNat 32 (i 0).val
  let c8_i32_4326 : BitVec 32 := 8#32
  let v6932 : BitVec 32 := Scalar.muli arg0 c8_i32_4326
  let c6_i32_4327 : BitVec 32 := 6#32
  let v6933 : BitVec 32 := Scalar.addi v6932 c6_i32_4327
  let v6934 : Index := Scalar.indexCast v6933
  let c45_4328 : Index := 45#32
  ![v6934.toNat, 45]
def k0_off1049 (v6935 : BitVec 32) : Fin 3 → Nat :=
  let c1023_i32_4329 : BitVec 32 := 1023#32
  let v6936 : BitVec 32 := Scalar.andi v6935 c1023_i32_4329
  let v6943 : Index := Scalar.indexCast v6936
  let c6_4334 : Index := 6#32
  let c0_4335 : Index := 0#32
  ![v6943.toNat, 6, 0]

def k0_off1050 (i : grid0.Coords) : Fin 2 → Nat :=
  let arg0 : BitVec 32 := BitVec.ofNat 32 (i 0).val
  let c8_i32_4336 : BitVec 32 := 8#32
  let v6947 : BitVec 32 := Scalar.muli arg0 c8_i32_4336
  let c7_i32_4337 : BitVec 32 := 7#32
  let v6948 : BitVec 32 := Scalar.addi v6947 c7_i32_4337
  let v6949 : Index := Scalar.indexCast v6948
  let c45_4338 : Index := 45#32
  ![v6949.toNat, 45]
def k0_off1051 (v6950 : BitVec 32) : Fin 3 → Nat :=
  let c1023_i32_4339 : BitVec 32 := 1023#32
  let v6951 : BitVec 32 := Scalar.andi v6950 c1023_i32_4339
  let v6958 : Index := Scalar.indexCast v6951
  let c7_4344 : Index := 7#32
  let c0_4345 : Index := 0#32
  ![v6958.toNat, 7, 0]

def k0_chk368 (v6950 : BitVec 32) : Prop :=
  (∀ a, (k0_off1051 v6950) a + S1x1x512.size a ≤ S784x8x512.size a)
theorem k0_off1051_inb : ∀ (v6950 : BitVec 32) (k0_hw368 : k0_chk368 v6950), ∀ a, (k0_off1051 v6950) a + S1x1x512.size a ≤ S784x8x512.size a := fun v6950 k0_hw368 => k0_hw368

def k0_off1052 (v6845 : BitVec 32) : Fin 3 → Nat :=
  let c1023_i32_4269 : BitVec 32 := 1023#32
  let v6846 : BitVec 32 := Scalar.andi v6845 c1023_i32_4269
  let v6962 : Index := Scalar.indexCast v6846
  let c0_4346 : Index := 0#32
  let c0_4347 : Index := 0#32
  ![v6962.toNat, 0, 0]

def k0_chk361 (v6845 : BitVec 32) : Prop :=
  (∀ a, (k0_off1037 v6845) a + S1x1x512.size a ≤ S784x8x512.size a) ∧
  (∀ a, (k0_off1052 v6845) a + S1x1x512.size a ≤ S784x8x512.size a)
theorem k0_off1037_inb : ∀ (v6845 : BitVec 32) (k0_hw361 : k0_chk361 v6845), ∀ a, (k0_off1037 v6845) a + S1x1x512.size a ≤ S784x8x512.size a := fun v6845 k0_hw361 => k0_hw361.1
theorem k0_off1052_inb : ∀ (v6845 : BitVec 32) (k0_hw361 : k0_chk361 v6845), ∀ a, (k0_off1052 v6845) a + S1x1x512.size a ≤ S784x8x512.size a := fun v6845 k0_hw361 => k0_hw361.2

def k0_off1053 (v6860 : BitVec 32) : Fin 3 → Nat :=
  let c1023_i32_4279 : BitVec 32 := 1023#32
  let v6861 : BitVec 32 := Scalar.andi v6860 c1023_i32_4279
  let v6966 : Index := Scalar.indexCast v6861
  let c1_4348 : Index := 1#32
  let c0_4349 : Index := 0#32
  ![v6966.toNat, 1, 0]

def k0_chk362 (v6860 : BitVec 32) : Prop :=
  (∀ a, (k0_off1039 v6860) a + S1x1x512.size a ≤ S784x8x512.size a) ∧
  (∀ a, (k0_off1053 v6860) a + S1x1x512.size a ≤ S784x8x512.size a)
theorem k0_off1039_inb : ∀ (v6860 : BitVec 32) (k0_hw362 : k0_chk362 v6860), ∀ a, (k0_off1039 v6860) a + S1x1x512.size a ≤ S784x8x512.size a := fun v6860 k0_hw362 => k0_hw362.1
theorem k0_off1053_inb : ∀ (v6860 : BitVec 32) (k0_hw362 : k0_chk362 v6860), ∀ a, (k0_off1053 v6860) a + S1x1x512.size a ≤ S784x8x512.size a := fun v6860 k0_hw362 => k0_hw362.2

def k0_off1054 (v6875 : BitVec 32) : Fin 3 → Nat :=
  let c1023_i32_4289 : BitVec 32 := 1023#32
  let v6876 : BitVec 32 := Scalar.andi v6875 c1023_i32_4289
  let v6970 : Index := Scalar.indexCast v6876
  let c2_4350 : Index := 2#32
  let c0_4351 : Index := 0#32
  ![v6970.toNat, 2, 0]

def k0_chk363 (v6875 : BitVec 32) : Prop :=
  (∀ a, (k0_off1041 v6875) a + S1x1x512.size a ≤ S784x8x512.size a) ∧
  (∀ a, (k0_off1054 v6875) a + S1x1x512.size a ≤ S784x8x512.size a)
theorem k0_off1041_inb : ∀ (v6875 : BitVec 32) (k0_hw363 : k0_chk363 v6875), ∀ a, (k0_off1041 v6875) a + S1x1x512.size a ≤ S784x8x512.size a := fun v6875 k0_hw363 => k0_hw363.1
theorem k0_off1054_inb : ∀ (v6875 : BitVec 32) (k0_hw363 : k0_chk363 v6875), ∀ a, (k0_off1054 v6875) a + S1x1x512.size a ≤ S784x8x512.size a := fun v6875 k0_hw363 => k0_hw363.2

def k0_off1055 (v6890 : BitVec 32) : Fin 3 → Nat :=
  let c1023_i32_4299 : BitVec 32 := 1023#32
  let v6891 : BitVec 32 := Scalar.andi v6890 c1023_i32_4299
  let v6974 : Index := Scalar.indexCast v6891
  let c3_4352 : Index := 3#32
  let c0_4353 : Index := 0#32
  ![v6974.toNat, 3, 0]

def k0_chk364 (v6890 : BitVec 32) : Prop :=
  (∀ a, (k0_off1043 v6890) a + S1x1x512.size a ≤ S784x8x512.size a) ∧
  (∀ a, (k0_off1055 v6890) a + S1x1x512.size a ≤ S784x8x512.size a)
theorem k0_off1043_inb : ∀ (v6890 : BitVec 32) (k0_hw364 : k0_chk364 v6890), ∀ a, (k0_off1043 v6890) a + S1x1x512.size a ≤ S784x8x512.size a := fun v6890 k0_hw364 => k0_hw364.1
theorem k0_off1055_inb : ∀ (v6890 : BitVec 32) (k0_hw364 : k0_chk364 v6890), ∀ a, (k0_off1055 v6890) a + S1x1x512.size a ≤ S784x8x512.size a := fun v6890 k0_hw364 => k0_hw364.2

def k0_off1056 (v6905 : BitVec 32) : Fin 3 → Nat :=
  let c1023_i32_4309 : BitVec 32 := 1023#32
  let v6906 : BitVec 32 := Scalar.andi v6905 c1023_i32_4309
  let v6978 : Index := Scalar.indexCast v6906
  let c4_4354 : Index := 4#32
  let c0_4355 : Index := 0#32
  ![v6978.toNat, 4, 0]

def k0_chk365 (v6905 : BitVec 32) : Prop :=
  (∀ a, (k0_off1045 v6905) a + S1x1x512.size a ≤ S784x8x512.size a) ∧
  (∀ a, (k0_off1056 v6905) a + S1x1x512.size a ≤ S784x8x512.size a)
theorem k0_off1045_inb : ∀ (v6905 : BitVec 32) (k0_hw365 : k0_chk365 v6905), ∀ a, (k0_off1045 v6905) a + S1x1x512.size a ≤ S784x8x512.size a := fun v6905 k0_hw365 => k0_hw365.1
theorem k0_off1056_inb : ∀ (v6905 : BitVec 32) (k0_hw365 : k0_chk365 v6905), ∀ a, (k0_off1056 v6905) a + S1x1x512.size a ≤ S784x8x512.size a := fun v6905 k0_hw365 => k0_hw365.2

def k0_off1057 (v6920 : BitVec 32) : Fin 3 → Nat :=
  let c1023_i32_4319 : BitVec 32 := 1023#32
  let v6921 : BitVec 32 := Scalar.andi v6920 c1023_i32_4319
  let v6982 : Index := Scalar.indexCast v6921
  let c5_4356 : Index := 5#32
  let c0_4357 : Index := 0#32
  ![v6982.toNat, 5, 0]

def k0_chk366 (v6920 : BitVec 32) : Prop :=
  (∀ a, (k0_off1047 v6920) a + S1x1x512.size a ≤ S784x8x512.size a) ∧
  (∀ a, (k0_off1057 v6920) a + S1x1x512.size a ≤ S784x8x512.size a)
theorem k0_off1047_inb : ∀ (v6920 : BitVec 32) (k0_hw366 : k0_chk366 v6920), ∀ a, (k0_off1047 v6920) a + S1x1x512.size a ≤ S784x8x512.size a := fun v6920 k0_hw366 => k0_hw366.1
theorem k0_off1057_inb : ∀ (v6920 : BitVec 32) (k0_hw366 : k0_chk366 v6920), ∀ a, (k0_off1057 v6920) a + S1x1x512.size a ≤ S784x8x512.size a := fun v6920 k0_hw366 => k0_hw366.2

def k0_off1058 (v6935 : BitVec 32) : Fin 3 → Nat :=
  let c1023_i32_4329 : BitVec 32 := 1023#32
  let v6936 : BitVec 32 := Scalar.andi v6935 c1023_i32_4329
  let v6986 : Index := Scalar.indexCast v6936
  let c6_4358 : Index := 6#32
  let c0_4359 : Index := 0#32
  ![v6986.toNat, 6, 0]

def k0_chk367 (v6935 : BitVec 32) : Prop :=
  (∀ a, (k0_off1049 v6935) a + S1x1x512.size a ≤ S784x8x512.size a) ∧
  (∀ a, (k0_off1058 v6935) a + S1x1x512.size a ≤ S784x8x512.size a)
theorem k0_off1049_inb : ∀ (v6935 : BitVec 32) (k0_hw367 : k0_chk367 v6935), ∀ a, (k0_off1049 v6935) a + S1x1x512.size a ≤ S784x8x512.size a := fun v6935 k0_hw367 => k0_hw367.1
theorem k0_off1058_inb : ∀ (v6935 : BitVec 32) (k0_hw367 : k0_chk367 v6935), ∀ a, (k0_off1058 v6935) a + S1x1x512.size a ≤ S784x8x512.size a := fun v6935 k0_hw367 => k0_hw367.2

def k0_off1059 (i : grid0.Coords) : Fin 2 → Nat :=
  let arg0 : BitVec 32 := BitVec.ofNat 32 (i 0).val
  let c8_i32_4362 : BitVec 32 := 8#32
  let v6994 : BitVec 32 := Scalar.muli arg0 c8_i32_4362
  let c0_i32_4363 : BitVec 32 := 0#32
  let v6995 : BitVec 32 := Scalar.addi v6994 c0_i32_4363
  let v6996 : Index := Scalar.indexCast v6995
  let c46 : Index := 46#32
  ![v6996.toNat, 46]
def k0_off1060 (v6997 : BitVec 32) : Fin 3 → Nat :=
  let c1023_i32_4364 : BitVec 32 := 1023#32
  let v6998 : BitVec 32 := Scalar.andi v6997 c1023_i32_4364
  let v7005 : Index := Scalar.indexCast v6998
  let c0_4369 : Index := 0#32
  let c0_4370 : Index := 0#32
  ![v7005.toNat, 0, 0]

def k0_off1061 (i : grid0.Coords) : Fin 2 → Nat :=
  let arg0 : BitVec 32 := BitVec.ofNat 32 (i 0).val
  let c8_i32_4371 : BitVec 32 := 8#32
  let v7009 : BitVec 32 := Scalar.muli arg0 c8_i32_4371
  let c1_i32_4372 : BitVec 32 := 1#32
  let v7010 : BitVec 32 := Scalar.addi v7009 c1_i32_4372
  let v7011 : Index := Scalar.indexCast v7010
  let c46_4373 : Index := 46#32
  ![v7011.toNat, 46]
def k0_off1062 (v7012 : BitVec 32) : Fin 3 → Nat :=
  let c1023_i32_4374 : BitVec 32 := 1023#32
  let v7013 : BitVec 32 := Scalar.andi v7012 c1023_i32_4374
  let v7020 : Index := Scalar.indexCast v7013
  let c1_4379 : Index := 1#32
  let c0_4380 : Index := 0#32
  ![v7020.toNat, 1, 0]

def k0_off1063 (i : grid0.Coords) : Fin 2 → Nat :=
  let arg0 : BitVec 32 := BitVec.ofNat 32 (i 0).val
  let c8_i32_4381 : BitVec 32 := 8#32
  let v7024 : BitVec 32 := Scalar.muli arg0 c8_i32_4381
  let c2_i32_4382 : BitVec 32 := 2#32
  let v7025 : BitVec 32 := Scalar.addi v7024 c2_i32_4382
  let v7026 : Index := Scalar.indexCast v7025
  let c46_4383 : Index := 46#32
  ![v7026.toNat, 46]
def k0_off1064 (v7027 : BitVec 32) : Fin 3 → Nat :=
  let c1023_i32_4384 : BitVec 32 := 1023#32
  let v7028 : BitVec 32 := Scalar.andi v7027 c1023_i32_4384
  let v7035 : Index := Scalar.indexCast v7028
  let c2_4389 : Index := 2#32
  let c0_4390 : Index := 0#32
  ![v7035.toNat, 2, 0]

def k0_off1065 (i : grid0.Coords) : Fin 2 → Nat :=
  let arg0 : BitVec 32 := BitVec.ofNat 32 (i 0).val
  let c8_i32_4391 : BitVec 32 := 8#32
  let v7039 : BitVec 32 := Scalar.muli arg0 c8_i32_4391
  let c3_i32_4392 : BitVec 32 := 3#32
  let v7040 : BitVec 32 := Scalar.addi v7039 c3_i32_4392
  let v7041 : Index := Scalar.indexCast v7040
  let c46_4393 : Index := 46#32
  ![v7041.toNat, 46]
def k0_off1066 (v7042 : BitVec 32) : Fin 3 → Nat :=
  let c1023_i32_4394 : BitVec 32 := 1023#32
  let v7043 : BitVec 32 := Scalar.andi v7042 c1023_i32_4394
  let v7050 : Index := Scalar.indexCast v7043
  let c3_4399 : Index := 3#32
  let c0_4400 : Index := 0#32
  ![v7050.toNat, 3, 0]

def k0_off1067 (i : grid0.Coords) : Fin 2 → Nat :=
  let arg0 : BitVec 32 := BitVec.ofNat 32 (i 0).val
  let c8_i32_4401 : BitVec 32 := 8#32
  let v7054 : BitVec 32 := Scalar.muli arg0 c8_i32_4401
  let c4_i32_4402 : BitVec 32 := 4#32
  let v7055 : BitVec 32 := Scalar.addi v7054 c4_i32_4402
  let v7056 : Index := Scalar.indexCast v7055
  let c46_4403 : Index := 46#32
  ![v7056.toNat, 46]
def k0_off1068 (v7057 : BitVec 32) : Fin 3 → Nat :=
  let c1023_i32_4404 : BitVec 32 := 1023#32
  let v7058 : BitVec 32 := Scalar.andi v7057 c1023_i32_4404
  let v7065 : Index := Scalar.indexCast v7058
  let c4_4409 : Index := 4#32
  let c0_4410 : Index := 0#32
  ![v7065.toNat, 4, 0]

def k0_off1069 (i : grid0.Coords) : Fin 2 → Nat :=
  let arg0 : BitVec 32 := BitVec.ofNat 32 (i 0).val
  let c8_i32_4411 : BitVec 32 := 8#32
  let v7069 : BitVec 32 := Scalar.muli arg0 c8_i32_4411
  let c5_i32_4412 : BitVec 32 := 5#32
  let v7070 : BitVec 32 := Scalar.addi v7069 c5_i32_4412
  let v7071 : Index := Scalar.indexCast v7070
  let c46_4413 : Index := 46#32
  ![v7071.toNat, 46]
def k0_off1070 (v7072 : BitVec 32) : Fin 3 → Nat :=
  let c1023_i32_4414 : BitVec 32 := 1023#32
  let v7073 : BitVec 32 := Scalar.andi v7072 c1023_i32_4414
  let v7080 : Index := Scalar.indexCast v7073
  let c5_4419 : Index := 5#32
  let c0_4420 : Index := 0#32
  ![v7080.toNat, 5, 0]

def k0_off1071 (i : grid0.Coords) : Fin 2 → Nat :=
  let arg0 : BitVec 32 := BitVec.ofNat 32 (i 0).val
  let c8_i32_4421 : BitVec 32 := 8#32
  let v7084 : BitVec 32 := Scalar.muli arg0 c8_i32_4421
  let c6_i32_4422 : BitVec 32 := 6#32
  let v7085 : BitVec 32 := Scalar.addi v7084 c6_i32_4422
  let v7086 : Index := Scalar.indexCast v7085
  let c46_4423 : Index := 46#32
  ![v7086.toNat, 46]
def k0_off1072 (v7087 : BitVec 32) : Fin 3 → Nat :=
  let c1023_i32_4424 : BitVec 32 := 1023#32
  let v7088 : BitVec 32 := Scalar.andi v7087 c1023_i32_4424
  let v7095 : Index := Scalar.indexCast v7088
  let c6_4429 : Index := 6#32
  let c0_4430 : Index := 0#32
  ![v7095.toNat, 6, 0]

def k0_off1073 (i : grid0.Coords) : Fin 2 → Nat :=
  let arg0 : BitVec 32 := BitVec.ofNat 32 (i 0).val
  let c8_i32_4431 : BitVec 32 := 8#32
  let v7099 : BitVec 32 := Scalar.muli arg0 c8_i32_4431
  let c7_i32_4432 : BitVec 32 := 7#32
  let v7100 : BitVec 32 := Scalar.addi v7099 c7_i32_4432
  let v7101 : Index := Scalar.indexCast v7100
  let c46_4433 : Index := 46#32
  ![v7101.toNat, 46]
def k0_off1074 (v7102 : BitVec 32) : Fin 3 → Nat :=
  let c1023_i32_4434 : BitVec 32 := 1023#32
  let v7103 : BitVec 32 := Scalar.andi v7102 c1023_i32_4434
  let v7110 : Index := Scalar.indexCast v7103
  let c7_4439 : Index := 7#32
  let c0_4440 : Index := 0#32
  ![v7110.toNat, 7, 0]

def k0_chk376 (v7102 : BitVec 32) : Prop :=
  (∀ a, (k0_off1074 v7102) a + S1x1x512.size a ≤ S784x8x512.size a)
theorem k0_off1074_inb : ∀ (v7102 : BitVec 32) (k0_hw376 : k0_chk376 v7102), ∀ a, (k0_off1074 v7102) a + S1x1x512.size a ≤ S784x8x512.size a := fun v7102 k0_hw376 => k0_hw376

def k0_off1075 (v6997 : BitVec 32) : Fin 3 → Nat :=
  let c1023_i32_4364 : BitVec 32 := 1023#32
  let v6998 : BitVec 32 := Scalar.andi v6997 c1023_i32_4364
  let v7114 : Index := Scalar.indexCast v6998
  let c0_4441 : Index := 0#32
  let c0_4442 : Index := 0#32
  ![v7114.toNat, 0, 0]

def k0_chk369 (v6997 : BitVec 32) : Prop :=
  (∀ a, (k0_off1060 v6997) a + S1x1x512.size a ≤ S784x8x512.size a) ∧
  (∀ a, (k0_off1075 v6997) a + S1x1x512.size a ≤ S784x8x512.size a)
theorem k0_off1060_inb : ∀ (v6997 : BitVec 32) (k0_hw369 : k0_chk369 v6997), ∀ a, (k0_off1060 v6997) a + S1x1x512.size a ≤ S784x8x512.size a := fun v6997 k0_hw369 => k0_hw369.1
theorem k0_off1075_inb : ∀ (v6997 : BitVec 32) (k0_hw369 : k0_chk369 v6997), ∀ a, (k0_off1075 v6997) a + S1x1x512.size a ≤ S784x8x512.size a := fun v6997 k0_hw369 => k0_hw369.2

def k0_off1076 (v7012 : BitVec 32) : Fin 3 → Nat :=
  let c1023_i32_4374 : BitVec 32 := 1023#32
  let v7013 : BitVec 32 := Scalar.andi v7012 c1023_i32_4374
  let v7118 : Index := Scalar.indexCast v7013
  let c1_4443 : Index := 1#32
  let c0_4444 : Index := 0#32
  ![v7118.toNat, 1, 0]

def k0_chk370 (v7012 : BitVec 32) : Prop :=
  (∀ a, (k0_off1062 v7012) a + S1x1x512.size a ≤ S784x8x512.size a) ∧
  (∀ a, (k0_off1076 v7012) a + S1x1x512.size a ≤ S784x8x512.size a)
theorem k0_off1062_inb : ∀ (v7012 : BitVec 32) (k0_hw370 : k0_chk370 v7012), ∀ a, (k0_off1062 v7012) a + S1x1x512.size a ≤ S784x8x512.size a := fun v7012 k0_hw370 => k0_hw370.1
theorem k0_off1076_inb : ∀ (v7012 : BitVec 32) (k0_hw370 : k0_chk370 v7012), ∀ a, (k0_off1076 v7012) a + S1x1x512.size a ≤ S784x8x512.size a := fun v7012 k0_hw370 => k0_hw370.2

def k0_off1077 (v7027 : BitVec 32) : Fin 3 → Nat :=
  let c1023_i32_4384 : BitVec 32 := 1023#32
  let v7028 : BitVec 32 := Scalar.andi v7027 c1023_i32_4384
  let v7122 : Index := Scalar.indexCast v7028
  let c2_4445 : Index := 2#32
  let c0_4446 : Index := 0#32
  ![v7122.toNat, 2, 0]

def k0_chk371 (v7027 : BitVec 32) : Prop :=
  (∀ a, (k0_off1064 v7027) a + S1x1x512.size a ≤ S784x8x512.size a) ∧
  (∀ a, (k0_off1077 v7027) a + S1x1x512.size a ≤ S784x8x512.size a)
theorem k0_off1064_inb : ∀ (v7027 : BitVec 32) (k0_hw371 : k0_chk371 v7027), ∀ a, (k0_off1064 v7027) a + S1x1x512.size a ≤ S784x8x512.size a := fun v7027 k0_hw371 => k0_hw371.1
theorem k0_off1077_inb : ∀ (v7027 : BitVec 32) (k0_hw371 : k0_chk371 v7027), ∀ a, (k0_off1077 v7027) a + S1x1x512.size a ≤ S784x8x512.size a := fun v7027 k0_hw371 => k0_hw371.2

def k0_off1078 (v7042 : BitVec 32) : Fin 3 → Nat :=
  let c1023_i32_4394 : BitVec 32 := 1023#32
  let v7043 : BitVec 32 := Scalar.andi v7042 c1023_i32_4394
  let v7126 : Index := Scalar.indexCast v7043
  let c3_4447 : Index := 3#32
  let c0_4448 : Index := 0#32
  ![v7126.toNat, 3, 0]

def k0_chk372 (v7042 : BitVec 32) : Prop :=
  (∀ a, (k0_off1066 v7042) a + S1x1x512.size a ≤ S784x8x512.size a) ∧
  (∀ a, (k0_off1078 v7042) a + S1x1x512.size a ≤ S784x8x512.size a)
theorem k0_off1066_inb : ∀ (v7042 : BitVec 32) (k0_hw372 : k0_chk372 v7042), ∀ a, (k0_off1066 v7042) a + S1x1x512.size a ≤ S784x8x512.size a := fun v7042 k0_hw372 => k0_hw372.1
theorem k0_off1078_inb : ∀ (v7042 : BitVec 32) (k0_hw372 : k0_chk372 v7042), ∀ a, (k0_off1078 v7042) a + S1x1x512.size a ≤ S784x8x512.size a := fun v7042 k0_hw372 => k0_hw372.2

def k0_off1079 (v7057 : BitVec 32) : Fin 3 → Nat :=
  let c1023_i32_4404 : BitVec 32 := 1023#32
  let v7058 : BitVec 32 := Scalar.andi v7057 c1023_i32_4404
  let v7130 : Index := Scalar.indexCast v7058
  let c4_4449 : Index := 4#32
  let c0_4450 : Index := 0#32
  ![v7130.toNat, 4, 0]

def k0_chk373 (v7057 : BitVec 32) : Prop :=
  (∀ a, (k0_off1068 v7057) a + S1x1x512.size a ≤ S784x8x512.size a) ∧
  (∀ a, (k0_off1079 v7057) a + S1x1x512.size a ≤ S784x8x512.size a)
theorem k0_off1068_inb : ∀ (v7057 : BitVec 32) (k0_hw373 : k0_chk373 v7057), ∀ a, (k0_off1068 v7057) a + S1x1x512.size a ≤ S784x8x512.size a := fun v7057 k0_hw373 => k0_hw373.1
theorem k0_off1079_inb : ∀ (v7057 : BitVec 32) (k0_hw373 : k0_chk373 v7057), ∀ a, (k0_off1079 v7057) a + S1x1x512.size a ≤ S784x8x512.size a := fun v7057 k0_hw373 => k0_hw373.2

def k0_off1080 (v7072 : BitVec 32) : Fin 3 → Nat :=
  let c1023_i32_4414 : BitVec 32 := 1023#32
  let v7073 : BitVec 32 := Scalar.andi v7072 c1023_i32_4414
  let v7134 : Index := Scalar.indexCast v7073
  let c5_4451 : Index := 5#32
  let c0_4452 : Index := 0#32
  ![v7134.toNat, 5, 0]

def k0_chk374 (v7072 : BitVec 32) : Prop :=
  (∀ a, (k0_off1070 v7072) a + S1x1x512.size a ≤ S784x8x512.size a) ∧
  (∀ a, (k0_off1080 v7072) a + S1x1x512.size a ≤ S784x8x512.size a)
theorem k0_off1070_inb : ∀ (v7072 : BitVec 32) (k0_hw374 : k0_chk374 v7072), ∀ a, (k0_off1070 v7072) a + S1x1x512.size a ≤ S784x8x512.size a := fun v7072 k0_hw374 => k0_hw374.1
theorem k0_off1080_inb : ∀ (v7072 : BitVec 32) (k0_hw374 : k0_chk374 v7072), ∀ a, (k0_off1080 v7072) a + S1x1x512.size a ≤ S784x8x512.size a := fun v7072 k0_hw374 => k0_hw374.2

def k0_off1081 (v7087 : BitVec 32) : Fin 3 → Nat :=
  let c1023_i32_4424 : BitVec 32 := 1023#32
  let v7088 : BitVec 32 := Scalar.andi v7087 c1023_i32_4424
  let v7138 : Index := Scalar.indexCast v7088
  let c6_4453 : Index := 6#32
  let c0_4454 : Index := 0#32
  ![v7138.toNat, 6, 0]

def k0_chk375 (v7087 : BitVec 32) : Prop :=
  (∀ a, (k0_off1072 v7087) a + S1x1x512.size a ≤ S784x8x512.size a) ∧
  (∀ a, (k0_off1081 v7087) a + S1x1x512.size a ≤ S784x8x512.size a)
theorem k0_off1072_inb : ∀ (v7087 : BitVec 32) (k0_hw375 : k0_chk375 v7087), ∀ a, (k0_off1072 v7087) a + S1x1x512.size a ≤ S784x8x512.size a := fun v7087 k0_hw375 => k0_hw375.1
theorem k0_off1081_inb : ∀ (v7087 : BitVec 32) (k0_hw375 : k0_chk375 v7087), ∀ a, (k0_off1081 v7087) a + S1x1x512.size a ≤ S784x8x512.size a := fun v7087 k0_hw375 => k0_hw375.2

def k0_off1082 (i : grid0.Coords) : Fin 2 → Nat :=
  let arg0 : BitVec 32 := BitVec.ofNat 32 (i 0).val
  let c8_i32_4457 : BitVec 32 := 8#32
  let v7146 : BitVec 32 := Scalar.muli arg0 c8_i32_4457
  let c0_i32_4458 : BitVec 32 := 0#32
  let v7147 : BitVec 32 := Scalar.addi v7146 c0_i32_4458
  let v7148 : Index := Scalar.indexCast v7147
  let c47 : Index := 47#32
  ![v7148.toNat, 47]
def k0_off1083 (v7149 : BitVec 32) : Fin 3 → Nat :=
  let c1023_i32_4459 : BitVec 32 := 1023#32
  let v7150 : BitVec 32 := Scalar.andi v7149 c1023_i32_4459
  let v7157 : Index := Scalar.indexCast v7150
  let c0_4464 : Index := 0#32
  let c0_4465 : Index := 0#32
  ![v7157.toNat, 0, 0]

def k0_off1084 (i : grid0.Coords) : Fin 2 → Nat :=
  let arg0 : BitVec 32 := BitVec.ofNat 32 (i 0).val
  let c8_i32_4466 : BitVec 32 := 8#32
  let v7161 : BitVec 32 := Scalar.muli arg0 c8_i32_4466
  let c1_i32_4467 : BitVec 32 := 1#32
  let v7162 : BitVec 32 := Scalar.addi v7161 c1_i32_4467
  let v7163 : Index := Scalar.indexCast v7162
  let c47_4468 : Index := 47#32
  ![v7163.toNat, 47]
def k0_off1085 (v7164 : BitVec 32) : Fin 3 → Nat :=
  let c1023_i32_4469 : BitVec 32 := 1023#32
  let v7165 : BitVec 32 := Scalar.andi v7164 c1023_i32_4469
  let v7172 : Index := Scalar.indexCast v7165
  let c1_4474 : Index := 1#32
  let c0_4475 : Index := 0#32
  ![v7172.toNat, 1, 0]

def k0_off1086 (i : grid0.Coords) : Fin 2 → Nat :=
  let arg0 : BitVec 32 := BitVec.ofNat 32 (i 0).val
  let c8_i32_4476 : BitVec 32 := 8#32
  let v7176 : BitVec 32 := Scalar.muli arg0 c8_i32_4476
  let c2_i32_4477 : BitVec 32 := 2#32
  let v7177 : BitVec 32 := Scalar.addi v7176 c2_i32_4477
  let v7178 : Index := Scalar.indexCast v7177
  let c47_4478 : Index := 47#32
  ![v7178.toNat, 47]
def k0_off1087 (v7179 : BitVec 32) : Fin 3 → Nat :=
  let c1023_i32_4479 : BitVec 32 := 1023#32
  let v7180 : BitVec 32 := Scalar.andi v7179 c1023_i32_4479
  let v7187 : Index := Scalar.indexCast v7180
  let c2_4484 : Index := 2#32
  let c0_4485 : Index := 0#32
  ![v7187.toNat, 2, 0]

def k0_off1088 (i : grid0.Coords) : Fin 2 → Nat :=
  let arg0 : BitVec 32 := BitVec.ofNat 32 (i 0).val
  let c8_i32_4486 : BitVec 32 := 8#32
  let v7191 : BitVec 32 := Scalar.muli arg0 c8_i32_4486
  let c3_i32_4487 : BitVec 32 := 3#32
  let v7192 : BitVec 32 := Scalar.addi v7191 c3_i32_4487
  let v7193 : Index := Scalar.indexCast v7192
  let c47_4488 : Index := 47#32
  ![v7193.toNat, 47]
def k0_off1089 (v7194 : BitVec 32) : Fin 3 → Nat :=
  let c1023_i32_4489 : BitVec 32 := 1023#32
  let v7195 : BitVec 32 := Scalar.andi v7194 c1023_i32_4489
  let v7202 : Index := Scalar.indexCast v7195
  let c3_4494 : Index := 3#32
  let c0_4495 : Index := 0#32
  ![v7202.toNat, 3, 0]

def k0_off1090 (i : grid0.Coords) : Fin 2 → Nat :=
  let arg0 : BitVec 32 := BitVec.ofNat 32 (i 0).val
  let c8_i32_4496 : BitVec 32 := 8#32
  let v7206 : BitVec 32 := Scalar.muli arg0 c8_i32_4496
  let c4_i32_4497 : BitVec 32 := 4#32
  let v7207 : BitVec 32 := Scalar.addi v7206 c4_i32_4497
  let v7208 : Index := Scalar.indexCast v7207
  let c47_4498 : Index := 47#32
  ![v7208.toNat, 47]
def k0_off1091 (v7209 : BitVec 32) : Fin 3 → Nat :=
  let c1023_i32_4499 : BitVec 32 := 1023#32
  let v7210 : BitVec 32 := Scalar.andi v7209 c1023_i32_4499
  let v7217 : Index := Scalar.indexCast v7210
  let c4_4504 : Index := 4#32
  let c0_4505 : Index := 0#32
  ![v7217.toNat, 4, 0]

def k0_off1092 (i : grid0.Coords) : Fin 2 → Nat :=
  let arg0 : BitVec 32 := BitVec.ofNat 32 (i 0).val
  let c8_i32_4506 : BitVec 32 := 8#32
  let v7221 : BitVec 32 := Scalar.muli arg0 c8_i32_4506
  let c5_i32_4507 : BitVec 32 := 5#32
  let v7222 : BitVec 32 := Scalar.addi v7221 c5_i32_4507
  let v7223 : Index := Scalar.indexCast v7222
  let c47_4508 : Index := 47#32
  ![v7223.toNat, 47]
def k0_off1093 (v7224 : BitVec 32) : Fin 3 → Nat :=
  let c1023_i32_4509 : BitVec 32 := 1023#32
  let v7225 : BitVec 32 := Scalar.andi v7224 c1023_i32_4509
  let v7232 : Index := Scalar.indexCast v7225
  let c5_4514 : Index := 5#32
  let c0_4515 : Index := 0#32
  ![v7232.toNat, 5, 0]

def k0_off1094 (i : grid0.Coords) : Fin 2 → Nat :=
  let arg0 : BitVec 32 := BitVec.ofNat 32 (i 0).val
  let c8_i32_4516 : BitVec 32 := 8#32
  let v7236 : BitVec 32 := Scalar.muli arg0 c8_i32_4516
  let c6_i32_4517 : BitVec 32 := 6#32
  let v7237 : BitVec 32 := Scalar.addi v7236 c6_i32_4517
  let v7238 : Index := Scalar.indexCast v7237
  let c47_4518 : Index := 47#32
  ![v7238.toNat, 47]
def k0_off1095 (v7239 : BitVec 32) : Fin 3 → Nat :=
  let c1023_i32_4519 : BitVec 32 := 1023#32
  let v7240 : BitVec 32 := Scalar.andi v7239 c1023_i32_4519
  let v7247 : Index := Scalar.indexCast v7240
  let c6_4524 : Index := 6#32
  let c0_4525 : Index := 0#32
  ![v7247.toNat, 6, 0]

def k0_off1096 (i : grid0.Coords) : Fin 2 → Nat :=
  let arg0 : BitVec 32 := BitVec.ofNat 32 (i 0).val
  let c8_i32_4526 : BitVec 32 := 8#32
  let v7251 : BitVec 32 := Scalar.muli arg0 c8_i32_4526
  let c7_i32_4527 : BitVec 32 := 7#32
  let v7252 : BitVec 32 := Scalar.addi v7251 c7_i32_4527
  let v7253 : Index := Scalar.indexCast v7252
  let c47_4528 : Index := 47#32
  ![v7253.toNat, 47]
def k0_off1097 (v7254 : BitVec 32) : Fin 3 → Nat :=
  let c1023_i32_4529 : BitVec 32 := 1023#32
  let v7255 : BitVec 32 := Scalar.andi v7254 c1023_i32_4529
  let v7262 : Index := Scalar.indexCast v7255
  let c7_4534 : Index := 7#32
  let c0_4535 : Index := 0#32
  ![v7262.toNat, 7, 0]

def k0_chk384 (v7254 : BitVec 32) : Prop :=
  (∀ a, (k0_off1097 v7254) a + S1x1x512.size a ≤ S784x8x512.size a)
theorem k0_off1097_inb : ∀ (v7254 : BitVec 32) (k0_hw384 : k0_chk384 v7254), ∀ a, (k0_off1097 v7254) a + S1x1x512.size a ≤ S784x8x512.size a := fun v7254 k0_hw384 => k0_hw384

def k0_off1098 (v7149 : BitVec 32) : Fin 3 → Nat :=
  let c1023_i32_4459 : BitVec 32 := 1023#32
  let v7150 : BitVec 32 := Scalar.andi v7149 c1023_i32_4459
  let v7266 : Index := Scalar.indexCast v7150
  let c0_4536 : Index := 0#32
  let c0_4537 : Index := 0#32
  ![v7266.toNat, 0, 0]

def k0_chk377 (v7149 : BitVec 32) : Prop :=
  (∀ a, (k0_off1083 v7149) a + S1x1x512.size a ≤ S784x8x512.size a) ∧
  (∀ a, (k0_off1098 v7149) a + S1x1x512.size a ≤ S784x8x512.size a)
theorem k0_off1083_inb : ∀ (v7149 : BitVec 32) (k0_hw377 : k0_chk377 v7149), ∀ a, (k0_off1083 v7149) a + S1x1x512.size a ≤ S784x8x512.size a := fun v7149 k0_hw377 => k0_hw377.1
theorem k0_off1098_inb : ∀ (v7149 : BitVec 32) (k0_hw377 : k0_chk377 v7149), ∀ a, (k0_off1098 v7149) a + S1x1x512.size a ≤ S784x8x512.size a := fun v7149 k0_hw377 => k0_hw377.2

def k0_off1099 (v7164 : BitVec 32) : Fin 3 → Nat :=
  let c1023_i32_4469 : BitVec 32 := 1023#32
  let v7165 : BitVec 32 := Scalar.andi v7164 c1023_i32_4469
  let v7270 : Index := Scalar.indexCast v7165
  let c1_4538 : Index := 1#32
  let c0_4539 : Index := 0#32
  ![v7270.toNat, 1, 0]

def k0_chk378 (v7164 : BitVec 32) : Prop :=
  (∀ a, (k0_off1085 v7164) a + S1x1x512.size a ≤ S784x8x512.size a) ∧
  (∀ a, (k0_off1099 v7164) a + S1x1x512.size a ≤ S784x8x512.size a)
theorem k0_off1085_inb : ∀ (v7164 : BitVec 32) (k0_hw378 : k0_chk378 v7164), ∀ a, (k0_off1085 v7164) a + S1x1x512.size a ≤ S784x8x512.size a := fun v7164 k0_hw378 => k0_hw378.1
theorem k0_off1099_inb : ∀ (v7164 : BitVec 32) (k0_hw378 : k0_chk378 v7164), ∀ a, (k0_off1099 v7164) a + S1x1x512.size a ≤ S784x8x512.size a := fun v7164 k0_hw378 => k0_hw378.2

def k0_off1100 (v7179 : BitVec 32) : Fin 3 → Nat :=
  let c1023_i32_4479 : BitVec 32 := 1023#32
  let v7180 : BitVec 32 := Scalar.andi v7179 c1023_i32_4479
  let v7274 : Index := Scalar.indexCast v7180
  let c2_4540 : Index := 2#32
  let c0_4541 : Index := 0#32
  ![v7274.toNat, 2, 0]

def k0_chk379 (v7179 : BitVec 32) : Prop :=
  (∀ a, (k0_off1087 v7179) a + S1x1x512.size a ≤ S784x8x512.size a) ∧
  (∀ a, (k0_off1100 v7179) a + S1x1x512.size a ≤ S784x8x512.size a)
theorem k0_off1087_inb : ∀ (v7179 : BitVec 32) (k0_hw379 : k0_chk379 v7179), ∀ a, (k0_off1087 v7179) a + S1x1x512.size a ≤ S784x8x512.size a := fun v7179 k0_hw379 => k0_hw379.1
theorem k0_off1100_inb : ∀ (v7179 : BitVec 32) (k0_hw379 : k0_chk379 v7179), ∀ a, (k0_off1100 v7179) a + S1x1x512.size a ≤ S784x8x512.size a := fun v7179 k0_hw379 => k0_hw379.2

def k0_off1101 (v7194 : BitVec 32) : Fin 3 → Nat :=
  let c1023_i32_4489 : BitVec 32 := 1023#32
  let v7195 : BitVec 32 := Scalar.andi v7194 c1023_i32_4489
  let v7278 : Index := Scalar.indexCast v7195
  let c3_4542 : Index := 3#32
  let c0_4543 : Index := 0#32
  ![v7278.toNat, 3, 0]

def k0_chk380 (v7194 : BitVec 32) : Prop :=
  (∀ a, (k0_off1089 v7194) a + S1x1x512.size a ≤ S784x8x512.size a) ∧
  (∀ a, (k0_off1101 v7194) a + S1x1x512.size a ≤ S784x8x512.size a)
theorem k0_off1089_inb : ∀ (v7194 : BitVec 32) (k0_hw380 : k0_chk380 v7194), ∀ a, (k0_off1089 v7194) a + S1x1x512.size a ≤ S784x8x512.size a := fun v7194 k0_hw380 => k0_hw380.1
theorem k0_off1101_inb : ∀ (v7194 : BitVec 32) (k0_hw380 : k0_chk380 v7194), ∀ a, (k0_off1101 v7194) a + S1x1x512.size a ≤ S784x8x512.size a := fun v7194 k0_hw380 => k0_hw380.2

def k0_off1102 (v7209 : BitVec 32) : Fin 3 → Nat :=
  let c1023_i32_4499 : BitVec 32 := 1023#32
  let v7210 : BitVec 32 := Scalar.andi v7209 c1023_i32_4499
  let v7282 : Index := Scalar.indexCast v7210
  let c4_4544 : Index := 4#32
  let c0_4545 : Index := 0#32
  ![v7282.toNat, 4, 0]

def k0_chk381 (v7209 : BitVec 32) : Prop :=
  (∀ a, (k0_off1091 v7209) a + S1x1x512.size a ≤ S784x8x512.size a) ∧
  (∀ a, (k0_off1102 v7209) a + S1x1x512.size a ≤ S784x8x512.size a)
theorem k0_off1091_inb : ∀ (v7209 : BitVec 32) (k0_hw381 : k0_chk381 v7209), ∀ a, (k0_off1091 v7209) a + S1x1x512.size a ≤ S784x8x512.size a := fun v7209 k0_hw381 => k0_hw381.1
theorem k0_off1102_inb : ∀ (v7209 : BitVec 32) (k0_hw381 : k0_chk381 v7209), ∀ a, (k0_off1102 v7209) a + S1x1x512.size a ≤ S784x8x512.size a := fun v7209 k0_hw381 => k0_hw381.2

def k0_off1103 (v7224 : BitVec 32) : Fin 3 → Nat :=
  let c1023_i32_4509 : BitVec 32 := 1023#32
  let v7225 : BitVec 32 := Scalar.andi v7224 c1023_i32_4509
  let v7286 : Index := Scalar.indexCast v7225
  let c5_4546 : Index := 5#32
  let c0_4547 : Index := 0#32
  ![v7286.toNat, 5, 0]

def k0_chk382 (v7224 : BitVec 32) : Prop :=
  (∀ a, (k0_off1093 v7224) a + S1x1x512.size a ≤ S784x8x512.size a) ∧
  (∀ a, (k0_off1103 v7224) a + S1x1x512.size a ≤ S784x8x512.size a)
theorem k0_off1093_inb : ∀ (v7224 : BitVec 32) (k0_hw382 : k0_chk382 v7224), ∀ a, (k0_off1093 v7224) a + S1x1x512.size a ≤ S784x8x512.size a := fun v7224 k0_hw382 => k0_hw382.1
theorem k0_off1103_inb : ∀ (v7224 : BitVec 32) (k0_hw382 : k0_chk382 v7224), ∀ a, (k0_off1103 v7224) a + S1x1x512.size a ≤ S784x8x512.size a := fun v7224 k0_hw382 => k0_hw382.2

def k0_off1104 (v7239 : BitVec 32) : Fin 3 → Nat :=
  let c1023_i32_4519 : BitVec 32 := 1023#32
  let v7240 : BitVec 32 := Scalar.andi v7239 c1023_i32_4519
  let v7290 : Index := Scalar.indexCast v7240
  let c6_4548 : Index := 6#32
  let c0_4549 : Index := 0#32
  ![v7290.toNat, 6, 0]

def k0_chk383 (v7239 : BitVec 32) : Prop :=
  (∀ a, (k0_off1095 v7239) a + S1x1x512.size a ≤ S784x8x512.size a) ∧
  (∀ a, (k0_off1104 v7239) a + S1x1x512.size a ≤ S784x8x512.size a)
theorem k0_off1095_inb : ∀ (v7239 : BitVec 32) (k0_hw383 : k0_chk383 v7239), ∀ a, (k0_off1095 v7239) a + S1x1x512.size a ≤ S784x8x512.size a := fun v7239 k0_hw383 => k0_hw383.1
theorem k0_off1104_inb : ∀ (v7239 : BitVec 32) (k0_hw383 : k0_chk383 v7239), ∀ a, (k0_off1104 v7239) a + S1x1x512.size a ≤ S784x8x512.size a := fun v7239 k0_hw383 => k0_hw383.2

def k0_off1105 (i : grid0.Coords) : Fin 2 → Nat :=
  let arg0 : BitVec 32 := BitVec.ofNat 32 (i 0).val
  let c8_i32_4552 : BitVec 32 := 8#32
  let v7298 : BitVec 32 := Scalar.muli arg0 c8_i32_4552
  let c0_i32_4553 : BitVec 32 := 0#32
  let v7299 : BitVec 32 := Scalar.addi v7298 c0_i32_4553
  let v7300 : Index := Scalar.indexCast v7299
  let c48 : Index := 48#32
  ![v7300.toNat, 48]
def k0_off1106 (v7301 : BitVec 32) : Fin 3 → Nat :=
  let c1023_i32_4554 : BitVec 32 := 1023#32
  let v7302 : BitVec 32 := Scalar.andi v7301 c1023_i32_4554
  let v7309 : Index := Scalar.indexCast v7302
  let c0_4559 : Index := 0#32
  let c0_4560 : Index := 0#32
  ![v7309.toNat, 0, 0]

def k0_off1107 (i : grid0.Coords) : Fin 2 → Nat :=
  let arg0 : BitVec 32 := BitVec.ofNat 32 (i 0).val
  let c8_i32_4561 : BitVec 32 := 8#32
  let v7313 : BitVec 32 := Scalar.muli arg0 c8_i32_4561
  let c1_i32_4562 : BitVec 32 := 1#32
  let v7314 : BitVec 32 := Scalar.addi v7313 c1_i32_4562
  let v7315 : Index := Scalar.indexCast v7314
  let c48_4563 : Index := 48#32
  ![v7315.toNat, 48]
def k0_off1108 (v7316 : BitVec 32) : Fin 3 → Nat :=
  let c1023_i32_4564 : BitVec 32 := 1023#32
  let v7317 : BitVec 32 := Scalar.andi v7316 c1023_i32_4564
  let v7324 : Index := Scalar.indexCast v7317
  let c1_4569 : Index := 1#32
  let c0_4570 : Index := 0#32
  ![v7324.toNat, 1, 0]

def k0_off1109 (i : grid0.Coords) : Fin 2 → Nat :=
  let arg0 : BitVec 32 := BitVec.ofNat 32 (i 0).val
  let c8_i32_4571 : BitVec 32 := 8#32
  let v7328 : BitVec 32 := Scalar.muli arg0 c8_i32_4571
  let c2_i32_4572 : BitVec 32 := 2#32
  let v7329 : BitVec 32 := Scalar.addi v7328 c2_i32_4572
  let v7330 : Index := Scalar.indexCast v7329
  let c48_4573 : Index := 48#32
  ![v7330.toNat, 48]
def k0_off1110 (v7331 : BitVec 32) : Fin 3 → Nat :=
  let c1023_i32_4574 : BitVec 32 := 1023#32
  let v7332 : BitVec 32 := Scalar.andi v7331 c1023_i32_4574
  let v7339 : Index := Scalar.indexCast v7332
  let c2_4579 : Index := 2#32
  let c0_4580 : Index := 0#32
  ![v7339.toNat, 2, 0]

def k0_off1111 (i : grid0.Coords) : Fin 2 → Nat :=
  let arg0 : BitVec 32 := BitVec.ofNat 32 (i 0).val
  let c8_i32_4581 : BitVec 32 := 8#32
  let v7343 : BitVec 32 := Scalar.muli arg0 c8_i32_4581
  let c3_i32_4582 : BitVec 32 := 3#32
  let v7344 : BitVec 32 := Scalar.addi v7343 c3_i32_4582
  let v7345 : Index := Scalar.indexCast v7344
  let c48_4583 : Index := 48#32
  ![v7345.toNat, 48]
def k0_off1112 (v7346 : BitVec 32) : Fin 3 → Nat :=
  let c1023_i32_4584 : BitVec 32 := 1023#32
  let v7347 : BitVec 32 := Scalar.andi v7346 c1023_i32_4584
  let v7354 : Index := Scalar.indexCast v7347
  let c3_4589 : Index := 3#32
  let c0_4590 : Index := 0#32
  ![v7354.toNat, 3, 0]

def k0_off1113 (i : grid0.Coords) : Fin 2 → Nat :=
  let arg0 : BitVec 32 := BitVec.ofNat 32 (i 0).val
  let c8_i32_4591 : BitVec 32 := 8#32
  let v7358 : BitVec 32 := Scalar.muli arg0 c8_i32_4591
  let c4_i32_4592 : BitVec 32 := 4#32
  let v7359 : BitVec 32 := Scalar.addi v7358 c4_i32_4592
  let v7360 : Index := Scalar.indexCast v7359
  let c48_4593 : Index := 48#32
  ![v7360.toNat, 48]
def k0_off1114 (v7361 : BitVec 32) : Fin 3 → Nat :=
  let c1023_i32_4594 : BitVec 32 := 1023#32
  let v7362 : BitVec 32 := Scalar.andi v7361 c1023_i32_4594
  let v7369 : Index := Scalar.indexCast v7362
  let c4_4599 : Index := 4#32
  let c0_4600 : Index := 0#32
  ![v7369.toNat, 4, 0]

def k0_off1115 (i : grid0.Coords) : Fin 2 → Nat :=
  let arg0 : BitVec 32 := BitVec.ofNat 32 (i 0).val
  let c8_i32_4601 : BitVec 32 := 8#32
  let v7373 : BitVec 32 := Scalar.muli arg0 c8_i32_4601
  let c5_i32_4602 : BitVec 32 := 5#32
  let v7374 : BitVec 32 := Scalar.addi v7373 c5_i32_4602
  let v7375 : Index := Scalar.indexCast v7374
  let c48_4603 : Index := 48#32
  ![v7375.toNat, 48]
def k0_off1116 (v7376 : BitVec 32) : Fin 3 → Nat :=
  let c1023_i32_4604 : BitVec 32 := 1023#32
  let v7377 : BitVec 32 := Scalar.andi v7376 c1023_i32_4604
  let v7384 : Index := Scalar.indexCast v7377
  let c5_4609 : Index := 5#32
  let c0_4610 : Index := 0#32
  ![v7384.toNat, 5, 0]

def k0_off1117 (i : grid0.Coords) : Fin 2 → Nat :=
  let arg0 : BitVec 32 := BitVec.ofNat 32 (i 0).val
  let c8_i32_4611 : BitVec 32 := 8#32
  let v7388 : BitVec 32 := Scalar.muli arg0 c8_i32_4611
  let c6_i32_4612 : BitVec 32 := 6#32
  let v7389 : BitVec 32 := Scalar.addi v7388 c6_i32_4612
  let v7390 : Index := Scalar.indexCast v7389
  let c48_4613 : Index := 48#32
  ![v7390.toNat, 48]
def k0_off1118 (v7391 : BitVec 32) : Fin 3 → Nat :=
  let c1023_i32_4614 : BitVec 32 := 1023#32
  let v7392 : BitVec 32 := Scalar.andi v7391 c1023_i32_4614
  let v7399 : Index := Scalar.indexCast v7392
  let c6_4619 : Index := 6#32
  let c0_4620 : Index := 0#32
  ![v7399.toNat, 6, 0]

def k0_off1119 (i : grid0.Coords) : Fin 2 → Nat :=
  let arg0 : BitVec 32 := BitVec.ofNat 32 (i 0).val
  let c8_i32_4621 : BitVec 32 := 8#32
  let v7403 : BitVec 32 := Scalar.muli arg0 c8_i32_4621
  let c7_i32_4622 : BitVec 32 := 7#32
  let v7404 : BitVec 32 := Scalar.addi v7403 c7_i32_4622
  let v7405 : Index := Scalar.indexCast v7404
  let c48_4623 : Index := 48#32
  ![v7405.toNat, 48]
def k0_off1120 (v7406 : BitVec 32) : Fin 3 → Nat :=
  let c1023_i32_4624 : BitVec 32 := 1023#32
  let v7407 : BitVec 32 := Scalar.andi v7406 c1023_i32_4624
  let v7414 : Index := Scalar.indexCast v7407
  let c7_4629 : Index := 7#32
  let c0_4630 : Index := 0#32
  ![v7414.toNat, 7, 0]

def k0_chk392 (v7406 : BitVec 32) : Prop :=
  (∀ a, (k0_off1120 v7406) a + S1x1x512.size a ≤ S784x8x512.size a)
theorem k0_off1120_inb : ∀ (v7406 : BitVec 32) (k0_hw392 : k0_chk392 v7406), ∀ a, (k0_off1120 v7406) a + S1x1x512.size a ≤ S784x8x512.size a := fun v7406 k0_hw392 => k0_hw392

def k0_off1121 (v7301 : BitVec 32) : Fin 3 → Nat :=
  let c1023_i32_4554 : BitVec 32 := 1023#32
  let v7302 : BitVec 32 := Scalar.andi v7301 c1023_i32_4554
  let v7418 : Index := Scalar.indexCast v7302
  let c0_4631 : Index := 0#32
  let c0_4632 : Index := 0#32
  ![v7418.toNat, 0, 0]

def k0_chk385 (v7301 : BitVec 32) : Prop :=
  (∀ a, (k0_off1106 v7301) a + S1x1x512.size a ≤ S784x8x512.size a) ∧
  (∀ a, (k0_off1121 v7301) a + S1x1x512.size a ≤ S784x8x512.size a)
theorem k0_off1106_inb : ∀ (v7301 : BitVec 32) (k0_hw385 : k0_chk385 v7301), ∀ a, (k0_off1106 v7301) a + S1x1x512.size a ≤ S784x8x512.size a := fun v7301 k0_hw385 => k0_hw385.1
theorem k0_off1121_inb : ∀ (v7301 : BitVec 32) (k0_hw385 : k0_chk385 v7301), ∀ a, (k0_off1121 v7301) a + S1x1x512.size a ≤ S784x8x512.size a := fun v7301 k0_hw385 => k0_hw385.2

def k0_off1122 (v7316 : BitVec 32) : Fin 3 → Nat :=
  let c1023_i32_4564 : BitVec 32 := 1023#32
  let v7317 : BitVec 32 := Scalar.andi v7316 c1023_i32_4564
  let v7422 : Index := Scalar.indexCast v7317
  let c1_4633 : Index := 1#32
  let c0_4634 : Index := 0#32
  ![v7422.toNat, 1, 0]

def k0_chk386 (v7316 : BitVec 32) : Prop :=
  (∀ a, (k0_off1108 v7316) a + S1x1x512.size a ≤ S784x8x512.size a) ∧
  (∀ a, (k0_off1122 v7316) a + S1x1x512.size a ≤ S784x8x512.size a)
theorem k0_off1108_inb : ∀ (v7316 : BitVec 32) (k0_hw386 : k0_chk386 v7316), ∀ a, (k0_off1108 v7316) a + S1x1x512.size a ≤ S784x8x512.size a := fun v7316 k0_hw386 => k0_hw386.1
theorem k0_off1122_inb : ∀ (v7316 : BitVec 32) (k0_hw386 : k0_chk386 v7316), ∀ a, (k0_off1122 v7316) a + S1x1x512.size a ≤ S784x8x512.size a := fun v7316 k0_hw386 => k0_hw386.2

def k0_off1123 (v7331 : BitVec 32) : Fin 3 → Nat :=
  let c1023_i32_4574 : BitVec 32 := 1023#32
  let v7332 : BitVec 32 := Scalar.andi v7331 c1023_i32_4574
  let v7426 : Index := Scalar.indexCast v7332
  let c2_4635 : Index := 2#32
  let c0_4636 : Index := 0#32
  ![v7426.toNat, 2, 0]

def k0_chk387 (v7331 : BitVec 32) : Prop :=
  (∀ a, (k0_off1110 v7331) a + S1x1x512.size a ≤ S784x8x512.size a) ∧
  (∀ a, (k0_off1123 v7331) a + S1x1x512.size a ≤ S784x8x512.size a)
theorem k0_off1110_inb : ∀ (v7331 : BitVec 32) (k0_hw387 : k0_chk387 v7331), ∀ a, (k0_off1110 v7331) a + S1x1x512.size a ≤ S784x8x512.size a := fun v7331 k0_hw387 => k0_hw387.1
theorem k0_off1123_inb : ∀ (v7331 : BitVec 32) (k0_hw387 : k0_chk387 v7331), ∀ a, (k0_off1123 v7331) a + S1x1x512.size a ≤ S784x8x512.size a := fun v7331 k0_hw387 => k0_hw387.2

def k0_off1124 (v7346 : BitVec 32) : Fin 3 → Nat :=
  let c1023_i32_4584 : BitVec 32 := 1023#32
  let v7347 : BitVec 32 := Scalar.andi v7346 c1023_i32_4584
  let v7430 : Index := Scalar.indexCast v7347
  let c3_4637 : Index := 3#32
  let c0_4638 : Index := 0#32
  ![v7430.toNat, 3, 0]

def k0_chk388 (v7346 : BitVec 32) : Prop :=
  (∀ a, (k0_off1112 v7346) a + S1x1x512.size a ≤ S784x8x512.size a) ∧
  (∀ a, (k0_off1124 v7346) a + S1x1x512.size a ≤ S784x8x512.size a)
theorem k0_off1112_inb : ∀ (v7346 : BitVec 32) (k0_hw388 : k0_chk388 v7346), ∀ a, (k0_off1112 v7346) a + S1x1x512.size a ≤ S784x8x512.size a := fun v7346 k0_hw388 => k0_hw388.1
theorem k0_off1124_inb : ∀ (v7346 : BitVec 32) (k0_hw388 : k0_chk388 v7346), ∀ a, (k0_off1124 v7346) a + S1x1x512.size a ≤ S784x8x512.size a := fun v7346 k0_hw388 => k0_hw388.2

def k0_off1125 (v7361 : BitVec 32) : Fin 3 → Nat :=
  let c1023_i32_4594 : BitVec 32 := 1023#32
  let v7362 : BitVec 32 := Scalar.andi v7361 c1023_i32_4594
  let v7434 : Index := Scalar.indexCast v7362
  let c4_4639 : Index := 4#32
  let c0_4640 : Index := 0#32
  ![v7434.toNat, 4, 0]

def k0_chk389 (v7361 : BitVec 32) : Prop :=
  (∀ a, (k0_off1114 v7361) a + S1x1x512.size a ≤ S784x8x512.size a) ∧
  (∀ a, (k0_off1125 v7361) a + S1x1x512.size a ≤ S784x8x512.size a)
theorem k0_off1114_inb : ∀ (v7361 : BitVec 32) (k0_hw389 : k0_chk389 v7361), ∀ a, (k0_off1114 v7361) a + S1x1x512.size a ≤ S784x8x512.size a := fun v7361 k0_hw389 => k0_hw389.1
theorem k0_off1125_inb : ∀ (v7361 : BitVec 32) (k0_hw389 : k0_chk389 v7361), ∀ a, (k0_off1125 v7361) a + S1x1x512.size a ≤ S784x8x512.size a := fun v7361 k0_hw389 => k0_hw389.2

def k0_off1126 (v7376 : BitVec 32) : Fin 3 → Nat :=
  let c1023_i32_4604 : BitVec 32 := 1023#32
  let v7377 : BitVec 32 := Scalar.andi v7376 c1023_i32_4604
  let v7438 : Index := Scalar.indexCast v7377
  let c5_4641 : Index := 5#32
  let c0_4642 : Index := 0#32
  ![v7438.toNat, 5, 0]

def k0_chk390 (v7376 : BitVec 32) : Prop :=
  (∀ a, (k0_off1116 v7376) a + S1x1x512.size a ≤ S784x8x512.size a) ∧
  (∀ a, (k0_off1126 v7376) a + S1x1x512.size a ≤ S784x8x512.size a)
theorem k0_off1116_inb : ∀ (v7376 : BitVec 32) (k0_hw390 : k0_chk390 v7376), ∀ a, (k0_off1116 v7376) a + S1x1x512.size a ≤ S784x8x512.size a := fun v7376 k0_hw390 => k0_hw390.1
theorem k0_off1126_inb : ∀ (v7376 : BitVec 32) (k0_hw390 : k0_chk390 v7376), ∀ a, (k0_off1126 v7376) a + S1x1x512.size a ≤ S784x8x512.size a := fun v7376 k0_hw390 => k0_hw390.2

def k0_off1127 (v7391 : BitVec 32) : Fin 3 → Nat :=
  let c1023_i32_4614 : BitVec 32 := 1023#32
  let v7392 : BitVec 32 := Scalar.andi v7391 c1023_i32_4614
  let v7442 : Index := Scalar.indexCast v7392
  let c6_4643 : Index := 6#32
  let c0_4644 : Index := 0#32
  ![v7442.toNat, 6, 0]

def k0_chk391 (v7391 : BitVec 32) : Prop :=
  (∀ a, (k0_off1118 v7391) a + S1x1x512.size a ≤ S784x8x512.size a) ∧
  (∀ a, (k0_off1127 v7391) a + S1x1x512.size a ≤ S784x8x512.size a)
theorem k0_off1118_inb : ∀ (v7391 : BitVec 32) (k0_hw391 : k0_chk391 v7391), ∀ a, (k0_off1118 v7391) a + S1x1x512.size a ≤ S784x8x512.size a := fun v7391 k0_hw391 => k0_hw391.1
theorem k0_off1127_inb : ∀ (v7391 : BitVec 32) (k0_hw391 : k0_chk391 v7391), ∀ a, (k0_off1127 v7391) a + S1x1x512.size a ≤ S784x8x512.size a := fun v7391 k0_hw391 => k0_hw391.2

def k0_off1128 (i : grid0.Coords) : Fin 2 → Nat :=
  let arg0 : BitVec 32 := BitVec.ofNat 32 (i 0).val
  let c8_i32_4647 : BitVec 32 := 8#32
  let v7450 : BitVec 32 := Scalar.muli arg0 c8_i32_4647
  let c0_i32_4648 : BitVec 32 := 0#32
  let v7451 : BitVec 32 := Scalar.addi v7450 c0_i32_4648
  let v7452 : Index := Scalar.indexCast v7451
  let c49 : Index := 49#32
  ![v7452.toNat, 49]
def k0_off1129 (v7453 : BitVec 32) : Fin 3 → Nat :=
  let c1023_i32_4649 : BitVec 32 := 1023#32
  let v7454 : BitVec 32 := Scalar.andi v7453 c1023_i32_4649
  let v7461 : Index := Scalar.indexCast v7454
  let c0_4654 : Index := 0#32
  let c0_4655 : Index := 0#32
  ![v7461.toNat, 0, 0]

def k0_off1130 (i : grid0.Coords) : Fin 2 → Nat :=
  let arg0 : BitVec 32 := BitVec.ofNat 32 (i 0).val
  let c8_i32_4656 : BitVec 32 := 8#32
  let v7465 : BitVec 32 := Scalar.muli arg0 c8_i32_4656
  let c1_i32_4657 : BitVec 32 := 1#32
  let v7466 : BitVec 32 := Scalar.addi v7465 c1_i32_4657
  let v7467 : Index := Scalar.indexCast v7466
  let c49_4658 : Index := 49#32
  ![v7467.toNat, 49]
def k0_off1131 (v7468 : BitVec 32) : Fin 3 → Nat :=
  let c1023_i32_4659 : BitVec 32 := 1023#32
  let v7469 : BitVec 32 := Scalar.andi v7468 c1023_i32_4659
  let v7476 : Index := Scalar.indexCast v7469
  let c1_4664 : Index := 1#32
  let c0_4665 : Index := 0#32
  ![v7476.toNat, 1, 0]

def k0_off1132 (i : grid0.Coords) : Fin 2 → Nat :=
  let arg0 : BitVec 32 := BitVec.ofNat 32 (i 0).val
  let c8_i32_4666 : BitVec 32 := 8#32
  let v7480 : BitVec 32 := Scalar.muli arg0 c8_i32_4666
  let c2_i32_4667 : BitVec 32 := 2#32
  let v7481 : BitVec 32 := Scalar.addi v7480 c2_i32_4667
  let v7482 : Index := Scalar.indexCast v7481
  let c49_4668 : Index := 49#32
  ![v7482.toNat, 49]
def k0_off1133 (v7483 : BitVec 32) : Fin 3 → Nat :=
  let c1023_i32_4669 : BitVec 32 := 1023#32
  let v7484 : BitVec 32 := Scalar.andi v7483 c1023_i32_4669
  let v7491 : Index := Scalar.indexCast v7484
  let c2_4674 : Index := 2#32
  let c0_4675 : Index := 0#32
  ![v7491.toNat, 2, 0]

def k0_off1134 (i : grid0.Coords) : Fin 2 → Nat :=
  let arg0 : BitVec 32 := BitVec.ofNat 32 (i 0).val
  let c8_i32_4676 : BitVec 32 := 8#32
  let v7495 : BitVec 32 := Scalar.muli arg0 c8_i32_4676
  let c3_i32_4677 : BitVec 32 := 3#32
  let v7496 : BitVec 32 := Scalar.addi v7495 c3_i32_4677
  let v7497 : Index := Scalar.indexCast v7496
  let c49_4678 : Index := 49#32
  ![v7497.toNat, 49]
def k0_off1135 (v7498 : BitVec 32) : Fin 3 → Nat :=
  let c1023_i32_4679 : BitVec 32 := 1023#32
  let v7499 : BitVec 32 := Scalar.andi v7498 c1023_i32_4679
  let v7506 : Index := Scalar.indexCast v7499
  let c3_4684 : Index := 3#32
  let c0_4685 : Index := 0#32
  ![v7506.toNat, 3, 0]

def k0_off1136 (i : grid0.Coords) : Fin 2 → Nat :=
  let arg0 : BitVec 32 := BitVec.ofNat 32 (i 0).val
  let c8_i32_4686 : BitVec 32 := 8#32
  let v7510 : BitVec 32 := Scalar.muli arg0 c8_i32_4686
  let c4_i32_4687 : BitVec 32 := 4#32
  let v7511 : BitVec 32 := Scalar.addi v7510 c4_i32_4687
  let v7512 : Index := Scalar.indexCast v7511
  let c49_4688 : Index := 49#32
  ![v7512.toNat, 49]
def k0_off1137 (v7513 : BitVec 32) : Fin 3 → Nat :=
  let c1023_i32_4689 : BitVec 32 := 1023#32
  let v7514 : BitVec 32 := Scalar.andi v7513 c1023_i32_4689
  let v7521 : Index := Scalar.indexCast v7514
  let c4_4694 : Index := 4#32
  let c0_4695 : Index := 0#32
  ![v7521.toNat, 4, 0]

def k0_off1138 (i : grid0.Coords) : Fin 2 → Nat :=
  let arg0 : BitVec 32 := BitVec.ofNat 32 (i 0).val
  let c8_i32_4696 : BitVec 32 := 8#32
  let v7525 : BitVec 32 := Scalar.muli arg0 c8_i32_4696
  let c5_i32_4697 : BitVec 32 := 5#32
  let v7526 : BitVec 32 := Scalar.addi v7525 c5_i32_4697
  let v7527 : Index := Scalar.indexCast v7526
  let c49_4698 : Index := 49#32
  ![v7527.toNat, 49]
def k0_off1139 (v7528 : BitVec 32) : Fin 3 → Nat :=
  let c1023_i32_4699 : BitVec 32 := 1023#32
  let v7529 : BitVec 32 := Scalar.andi v7528 c1023_i32_4699
  let v7536 : Index := Scalar.indexCast v7529
  let c5_4704 : Index := 5#32
  let c0_4705 : Index := 0#32
  ![v7536.toNat, 5, 0]

def k0_off1140 (i : grid0.Coords) : Fin 2 → Nat :=
  let arg0 : BitVec 32 := BitVec.ofNat 32 (i 0).val
  let c8_i32_4706 : BitVec 32 := 8#32
  let v7540 : BitVec 32 := Scalar.muli arg0 c8_i32_4706
  let c6_i32_4707 : BitVec 32 := 6#32
  let v7541 : BitVec 32 := Scalar.addi v7540 c6_i32_4707
  let v7542 : Index := Scalar.indexCast v7541
  let c49_4708 : Index := 49#32
  ![v7542.toNat, 49]
def k0_off1141 (v7543 : BitVec 32) : Fin 3 → Nat :=
  let c1023_i32_4709 : BitVec 32 := 1023#32
  let v7544 : BitVec 32 := Scalar.andi v7543 c1023_i32_4709
  let v7551 : Index := Scalar.indexCast v7544
  let c6_4714 : Index := 6#32
  let c0_4715 : Index := 0#32
  ![v7551.toNat, 6, 0]

def k0_off1142 (i : grid0.Coords) : Fin 2 → Nat :=
  let arg0 : BitVec 32 := BitVec.ofNat 32 (i 0).val
  let c8_i32_4716 : BitVec 32 := 8#32
  let v7555 : BitVec 32 := Scalar.muli arg0 c8_i32_4716
  let c7_i32_4717 : BitVec 32 := 7#32
  let v7556 : BitVec 32 := Scalar.addi v7555 c7_i32_4717
  let v7557 : Index := Scalar.indexCast v7556
  let c49_4718 : Index := 49#32
  ![v7557.toNat, 49]
def k0_off1143 (v7558 : BitVec 32) : Fin 3 → Nat :=
  let c1023_i32_4719 : BitVec 32 := 1023#32
  let v7559 : BitVec 32 := Scalar.andi v7558 c1023_i32_4719
  let v7566 : Index := Scalar.indexCast v7559
  let c7_4724 : Index := 7#32
  let c0_4725 : Index := 0#32
  ![v7566.toNat, 7, 0]

def k0_chk400 (v7558 : BitVec 32) : Prop :=
  (∀ a, (k0_off1143 v7558) a + S1x1x512.size a ≤ S784x8x512.size a)
theorem k0_off1143_inb : ∀ (v7558 : BitVec 32) (k0_hw400 : k0_chk400 v7558), ∀ a, (k0_off1143 v7558) a + S1x1x512.size a ≤ S784x8x512.size a := fun v7558 k0_hw400 => k0_hw400

def k0_off1144 (v7453 : BitVec 32) : Fin 3 → Nat :=
  let c1023_i32_4649 : BitVec 32 := 1023#32
  let v7454 : BitVec 32 := Scalar.andi v7453 c1023_i32_4649
  let v7570 : Index := Scalar.indexCast v7454
  let c0_4726 : Index := 0#32
  let c0_4727 : Index := 0#32
  ![v7570.toNat, 0, 0]

def k0_chk393 (v7453 : BitVec 32) : Prop :=
  (∀ a, (k0_off1129 v7453) a + S1x1x512.size a ≤ S784x8x512.size a) ∧
  (∀ a, (k0_off1144 v7453) a + S1x1x512.size a ≤ S784x8x512.size a)
theorem k0_off1129_inb : ∀ (v7453 : BitVec 32) (k0_hw393 : k0_chk393 v7453), ∀ a, (k0_off1129 v7453) a + S1x1x512.size a ≤ S784x8x512.size a := fun v7453 k0_hw393 => k0_hw393.1
theorem k0_off1144_inb : ∀ (v7453 : BitVec 32) (k0_hw393 : k0_chk393 v7453), ∀ a, (k0_off1144 v7453) a + S1x1x512.size a ≤ S784x8x512.size a := fun v7453 k0_hw393 => k0_hw393.2

def k0_off1145 (v7468 : BitVec 32) : Fin 3 → Nat :=
  let c1023_i32_4659 : BitVec 32 := 1023#32
  let v7469 : BitVec 32 := Scalar.andi v7468 c1023_i32_4659
  let v7574 : Index := Scalar.indexCast v7469
  let c1_4728 : Index := 1#32
  let c0_4729 : Index := 0#32
  ![v7574.toNat, 1, 0]

def k0_chk394 (v7468 : BitVec 32) : Prop :=
  (∀ a, (k0_off1131 v7468) a + S1x1x512.size a ≤ S784x8x512.size a) ∧
  (∀ a, (k0_off1145 v7468) a + S1x1x512.size a ≤ S784x8x512.size a)
theorem k0_off1131_inb : ∀ (v7468 : BitVec 32) (k0_hw394 : k0_chk394 v7468), ∀ a, (k0_off1131 v7468) a + S1x1x512.size a ≤ S784x8x512.size a := fun v7468 k0_hw394 => k0_hw394.1
theorem k0_off1145_inb : ∀ (v7468 : BitVec 32) (k0_hw394 : k0_chk394 v7468), ∀ a, (k0_off1145 v7468) a + S1x1x512.size a ≤ S784x8x512.size a := fun v7468 k0_hw394 => k0_hw394.2

def k0_off1146 (v7483 : BitVec 32) : Fin 3 → Nat :=
  let c1023_i32_4669 : BitVec 32 := 1023#32
  let v7484 : BitVec 32 := Scalar.andi v7483 c1023_i32_4669
  let v7578 : Index := Scalar.indexCast v7484
  let c2_4730 : Index := 2#32
  let c0_4731 : Index := 0#32
  ![v7578.toNat, 2, 0]

def k0_chk395 (v7483 : BitVec 32) : Prop :=
  (∀ a, (k0_off1133 v7483) a + S1x1x512.size a ≤ S784x8x512.size a) ∧
  (∀ a, (k0_off1146 v7483) a + S1x1x512.size a ≤ S784x8x512.size a)
theorem k0_off1133_inb : ∀ (v7483 : BitVec 32) (k0_hw395 : k0_chk395 v7483), ∀ a, (k0_off1133 v7483) a + S1x1x512.size a ≤ S784x8x512.size a := fun v7483 k0_hw395 => k0_hw395.1
theorem k0_off1146_inb : ∀ (v7483 : BitVec 32) (k0_hw395 : k0_chk395 v7483), ∀ a, (k0_off1146 v7483) a + S1x1x512.size a ≤ S784x8x512.size a := fun v7483 k0_hw395 => k0_hw395.2

def k0_off1147 (v7498 : BitVec 32) : Fin 3 → Nat :=
  let c1023_i32_4679 : BitVec 32 := 1023#32
  let v7499 : BitVec 32 := Scalar.andi v7498 c1023_i32_4679
  let v7582 : Index := Scalar.indexCast v7499
  let c3_4732 : Index := 3#32
  let c0_4733 : Index := 0#32
  ![v7582.toNat, 3, 0]

def k0_chk396 (v7498 : BitVec 32) : Prop :=
  (∀ a, (k0_off1135 v7498) a + S1x1x512.size a ≤ S784x8x512.size a) ∧
  (∀ a, (k0_off1147 v7498) a + S1x1x512.size a ≤ S784x8x512.size a)
theorem k0_off1135_inb : ∀ (v7498 : BitVec 32) (k0_hw396 : k0_chk396 v7498), ∀ a, (k0_off1135 v7498) a + S1x1x512.size a ≤ S784x8x512.size a := fun v7498 k0_hw396 => k0_hw396.1
theorem k0_off1147_inb : ∀ (v7498 : BitVec 32) (k0_hw396 : k0_chk396 v7498), ∀ a, (k0_off1147 v7498) a + S1x1x512.size a ≤ S784x8x512.size a := fun v7498 k0_hw396 => k0_hw396.2

def k0_off1148 (v7513 : BitVec 32) : Fin 3 → Nat :=
  let c1023_i32_4689 : BitVec 32 := 1023#32
  let v7514 : BitVec 32 := Scalar.andi v7513 c1023_i32_4689
  let v7586 : Index := Scalar.indexCast v7514
  let c4_4734 : Index := 4#32
  let c0_4735 : Index := 0#32
  ![v7586.toNat, 4, 0]

def k0_chk397 (v7513 : BitVec 32) : Prop :=
  (∀ a, (k0_off1137 v7513) a + S1x1x512.size a ≤ S784x8x512.size a) ∧
  (∀ a, (k0_off1148 v7513) a + S1x1x512.size a ≤ S784x8x512.size a)
theorem k0_off1137_inb : ∀ (v7513 : BitVec 32) (k0_hw397 : k0_chk397 v7513), ∀ a, (k0_off1137 v7513) a + S1x1x512.size a ≤ S784x8x512.size a := fun v7513 k0_hw397 => k0_hw397.1
theorem k0_off1148_inb : ∀ (v7513 : BitVec 32) (k0_hw397 : k0_chk397 v7513), ∀ a, (k0_off1148 v7513) a + S1x1x512.size a ≤ S784x8x512.size a := fun v7513 k0_hw397 => k0_hw397.2

def k0_off1149 (v7528 : BitVec 32) : Fin 3 → Nat :=
  let c1023_i32_4699 : BitVec 32 := 1023#32
  let v7529 : BitVec 32 := Scalar.andi v7528 c1023_i32_4699
  let v7590 : Index := Scalar.indexCast v7529
  let c5_4736 : Index := 5#32
  let c0_4737 : Index := 0#32
  ![v7590.toNat, 5, 0]

def k0_chk398 (v7528 : BitVec 32) : Prop :=
  (∀ a, (k0_off1139 v7528) a + S1x1x512.size a ≤ S784x8x512.size a) ∧
  (∀ a, (k0_off1149 v7528) a + S1x1x512.size a ≤ S784x8x512.size a)
theorem k0_off1139_inb : ∀ (v7528 : BitVec 32) (k0_hw398 : k0_chk398 v7528), ∀ a, (k0_off1139 v7528) a + S1x1x512.size a ≤ S784x8x512.size a := fun v7528 k0_hw398 => k0_hw398.1
theorem k0_off1149_inb : ∀ (v7528 : BitVec 32) (k0_hw398 : k0_chk398 v7528), ∀ a, (k0_off1149 v7528) a + S1x1x512.size a ≤ S784x8x512.size a := fun v7528 k0_hw398 => k0_hw398.2

def k0_off1150 (v7543 : BitVec 32) : Fin 3 → Nat :=
  let c1023_i32_4709 : BitVec 32 := 1023#32
  let v7544 : BitVec 32 := Scalar.andi v7543 c1023_i32_4709
  let v7594 : Index := Scalar.indexCast v7544
  let c6_4738 : Index := 6#32
  let c0_4739 : Index := 0#32
  ![v7594.toNat, 6, 0]

def k0_chk399 (v7543 : BitVec 32) : Prop :=
  (∀ a, (k0_off1141 v7543) a + S1x1x512.size a ≤ S784x8x512.size a) ∧
  (∀ a, (k0_off1150 v7543) a + S1x1x512.size a ≤ S784x8x512.size a)
theorem k0_off1141_inb : ∀ (v7543 : BitVec 32) (k0_hw399 : k0_chk399 v7543), ∀ a, (k0_off1141 v7543) a + S1x1x512.size a ≤ S784x8x512.size a := fun v7543 k0_hw399 => k0_hw399.1
theorem k0_off1150_inb : ∀ (v7543 : BitVec 32) (k0_hw399 : k0_chk399 v7543), ∀ a, (k0_off1150 v7543) a + S1x1x512.size a ≤ S784x8x512.size a := fun v7543 k0_hw399 => k0_hw399.2

def k0_off1151 (i : grid0.Coords) : Fin 2 → Nat :=
  let arg0 : BitVec 32 := BitVec.ofNat 32 (i 0).val
  let c8_i32_4742 : BitVec 32 := 8#32
  let v7602 : BitVec 32 := Scalar.muli arg0 c8_i32_4742
  let c0_i32_4743 : BitVec 32 := 0#32
  let v7603 : BitVec 32 := Scalar.addi v7602 c0_i32_4743
  let v7604 : Index := Scalar.indexCast v7603
  let c50 : Index := 50#32
  ![v7604.toNat, 50]
def k0_off1152 (v7605 : BitVec 32) : Fin 3 → Nat :=
  let c1023_i32_4744 : BitVec 32 := 1023#32
  let v7606 : BitVec 32 := Scalar.andi v7605 c1023_i32_4744
  let v7613 : Index := Scalar.indexCast v7606
  let c0_4749 : Index := 0#32
  let c0_4750 : Index := 0#32
  ![v7613.toNat, 0, 0]

def k0_off1153 (i : grid0.Coords) : Fin 2 → Nat :=
  let arg0 : BitVec 32 := BitVec.ofNat 32 (i 0).val
  let c8_i32_4751 : BitVec 32 := 8#32
  let v7617 : BitVec 32 := Scalar.muli arg0 c8_i32_4751
  let c1_i32_4752 : BitVec 32 := 1#32
  let v7618 : BitVec 32 := Scalar.addi v7617 c1_i32_4752
  let v7619 : Index := Scalar.indexCast v7618
  let c50_4753 : Index := 50#32
  ![v7619.toNat, 50]
def k0_off1154 (v7620 : BitVec 32) : Fin 3 → Nat :=
  let c1023_i32_4754 : BitVec 32 := 1023#32
  let v7621 : BitVec 32 := Scalar.andi v7620 c1023_i32_4754
  let v7628 : Index := Scalar.indexCast v7621
  let c1_4759 : Index := 1#32
  let c0_4760 : Index := 0#32
  ![v7628.toNat, 1, 0]

def k0_off1155 (i : grid0.Coords) : Fin 2 → Nat :=
  let arg0 : BitVec 32 := BitVec.ofNat 32 (i 0).val
  let c8_i32_4761 : BitVec 32 := 8#32
  let v7632 : BitVec 32 := Scalar.muli arg0 c8_i32_4761
  let c2_i32_4762 : BitVec 32 := 2#32
  let v7633 : BitVec 32 := Scalar.addi v7632 c2_i32_4762
  let v7634 : Index := Scalar.indexCast v7633
  let c50_4763 : Index := 50#32
  ![v7634.toNat, 50]
def k0_off1156 (v7635 : BitVec 32) : Fin 3 → Nat :=
  let c1023_i32_4764 : BitVec 32 := 1023#32
  let v7636 : BitVec 32 := Scalar.andi v7635 c1023_i32_4764
  let v7643 : Index := Scalar.indexCast v7636
  let c2_4769 : Index := 2#32
  let c0_4770 : Index := 0#32
  ![v7643.toNat, 2, 0]

def k0_off1157 (i : grid0.Coords) : Fin 2 → Nat :=
  let arg0 : BitVec 32 := BitVec.ofNat 32 (i 0).val
  let c8_i32_4771 : BitVec 32 := 8#32
  let v7647 : BitVec 32 := Scalar.muli arg0 c8_i32_4771
  let c3_i32_4772 : BitVec 32 := 3#32
  let v7648 : BitVec 32 := Scalar.addi v7647 c3_i32_4772
  let v7649 : Index := Scalar.indexCast v7648
  let c50_4773 : Index := 50#32
  ![v7649.toNat, 50]
def k0_off1158 (v7650 : BitVec 32) : Fin 3 → Nat :=
  let c1023_i32_4774 : BitVec 32 := 1023#32
  let v7651 : BitVec 32 := Scalar.andi v7650 c1023_i32_4774
  let v7658 : Index := Scalar.indexCast v7651
  let c3_4779 : Index := 3#32
  let c0_4780 : Index := 0#32
  ![v7658.toNat, 3, 0]

def k0_off1159 (i : grid0.Coords) : Fin 2 → Nat :=
  let arg0 : BitVec 32 := BitVec.ofNat 32 (i 0).val
  let c8_i32_4781 : BitVec 32 := 8#32
  let v7662 : BitVec 32 := Scalar.muli arg0 c8_i32_4781
  let c4_i32_4782 : BitVec 32 := 4#32
  let v7663 : BitVec 32 := Scalar.addi v7662 c4_i32_4782
  let v7664 : Index := Scalar.indexCast v7663
  let c50_4783 : Index := 50#32
  ![v7664.toNat, 50]
def k0_off1160 (v7665 : BitVec 32) : Fin 3 → Nat :=
  let c1023_i32_4784 : BitVec 32 := 1023#32
  let v7666 : BitVec 32 := Scalar.andi v7665 c1023_i32_4784
  let v7673 : Index := Scalar.indexCast v7666
  let c4_4789 : Index := 4#32
  let c0_4790 : Index := 0#32
  ![v7673.toNat, 4, 0]

def k0_off1161 (i : grid0.Coords) : Fin 2 → Nat :=
  let arg0 : BitVec 32 := BitVec.ofNat 32 (i 0).val
  let c8_i32_4791 : BitVec 32 := 8#32
  let v7677 : BitVec 32 := Scalar.muli arg0 c8_i32_4791
  let c5_i32_4792 : BitVec 32 := 5#32
  let v7678 : BitVec 32 := Scalar.addi v7677 c5_i32_4792
  let v7679 : Index := Scalar.indexCast v7678
  let c50_4793 : Index := 50#32
  ![v7679.toNat, 50]
def k0_off1162 (v7680 : BitVec 32) : Fin 3 → Nat :=
  let c1023_i32_4794 : BitVec 32 := 1023#32
  let v7681 : BitVec 32 := Scalar.andi v7680 c1023_i32_4794
  let v7688 : Index := Scalar.indexCast v7681
  let c5_4799 : Index := 5#32
  let c0_4800 : Index := 0#32
  ![v7688.toNat, 5, 0]

def k0_off1163 (i : grid0.Coords) : Fin 2 → Nat :=
  let arg0 : BitVec 32 := BitVec.ofNat 32 (i 0).val
  let c8_i32_4801 : BitVec 32 := 8#32
  let v7692 : BitVec 32 := Scalar.muli arg0 c8_i32_4801
  let c6_i32_4802 : BitVec 32 := 6#32
  let v7693 : BitVec 32 := Scalar.addi v7692 c6_i32_4802
  let v7694 : Index := Scalar.indexCast v7693
  let c50_4803 : Index := 50#32
  ![v7694.toNat, 50]
def k0_off1164 (v7695 : BitVec 32) : Fin 3 → Nat :=
  let c1023_i32_4804 : BitVec 32 := 1023#32
  let v7696 : BitVec 32 := Scalar.andi v7695 c1023_i32_4804
  let v7703 : Index := Scalar.indexCast v7696
  let c6_4809 : Index := 6#32
  let c0_4810 : Index := 0#32
  ![v7703.toNat, 6, 0]

def k0_off1165 (i : grid0.Coords) : Fin 2 → Nat :=
  let arg0 : BitVec 32 := BitVec.ofNat 32 (i 0).val
  let c8_i32_4811 : BitVec 32 := 8#32
  let v7707 : BitVec 32 := Scalar.muli arg0 c8_i32_4811
  let c7_i32_4812 : BitVec 32 := 7#32
  let v7708 : BitVec 32 := Scalar.addi v7707 c7_i32_4812
  let v7709 : Index := Scalar.indexCast v7708
  let c50_4813 : Index := 50#32
  ![v7709.toNat, 50]
def k0_off1166 (v7710 : BitVec 32) : Fin 3 → Nat :=
  let c1023_i32_4814 : BitVec 32 := 1023#32
  let v7711 : BitVec 32 := Scalar.andi v7710 c1023_i32_4814
  let v7718 : Index := Scalar.indexCast v7711
  let c7_4819 : Index := 7#32
  let c0_4820 : Index := 0#32
  ![v7718.toNat, 7, 0]

def k0_chk408 (v7710 : BitVec 32) : Prop :=
  (∀ a, (k0_off1166 v7710) a + S1x1x512.size a ≤ S784x8x512.size a)
theorem k0_off1166_inb : ∀ (v7710 : BitVec 32) (k0_hw408 : k0_chk408 v7710), ∀ a, (k0_off1166 v7710) a + S1x1x512.size a ≤ S784x8x512.size a := fun v7710 k0_hw408 => k0_hw408

def k0_off1167 (v7605 : BitVec 32) : Fin 3 → Nat :=
  let c1023_i32_4744 : BitVec 32 := 1023#32
  let v7606 : BitVec 32 := Scalar.andi v7605 c1023_i32_4744
  let v7722 : Index := Scalar.indexCast v7606
  let c0_4821 : Index := 0#32
  let c0_4822 : Index := 0#32
  ![v7722.toNat, 0, 0]

def k0_chk401 (v7605 : BitVec 32) : Prop :=
  (∀ a, (k0_off1152 v7605) a + S1x1x512.size a ≤ S784x8x512.size a) ∧
  (∀ a, (k0_off1167 v7605) a + S1x1x512.size a ≤ S784x8x512.size a)
theorem k0_off1152_inb : ∀ (v7605 : BitVec 32) (k0_hw401 : k0_chk401 v7605), ∀ a, (k0_off1152 v7605) a + S1x1x512.size a ≤ S784x8x512.size a := fun v7605 k0_hw401 => k0_hw401.1
theorem k0_off1167_inb : ∀ (v7605 : BitVec 32) (k0_hw401 : k0_chk401 v7605), ∀ a, (k0_off1167 v7605) a + S1x1x512.size a ≤ S784x8x512.size a := fun v7605 k0_hw401 => k0_hw401.2

def k0_off1168 (v7620 : BitVec 32) : Fin 3 → Nat :=
  let c1023_i32_4754 : BitVec 32 := 1023#32
  let v7621 : BitVec 32 := Scalar.andi v7620 c1023_i32_4754
  let v7726 : Index := Scalar.indexCast v7621
  let c1_4823 : Index := 1#32
  let c0_4824 : Index := 0#32
  ![v7726.toNat, 1, 0]

def k0_chk402 (v7620 : BitVec 32) : Prop :=
  (∀ a, (k0_off1154 v7620) a + S1x1x512.size a ≤ S784x8x512.size a) ∧
  (∀ a, (k0_off1168 v7620) a + S1x1x512.size a ≤ S784x8x512.size a)
theorem k0_off1154_inb : ∀ (v7620 : BitVec 32) (k0_hw402 : k0_chk402 v7620), ∀ a, (k0_off1154 v7620) a + S1x1x512.size a ≤ S784x8x512.size a := fun v7620 k0_hw402 => k0_hw402.1
theorem k0_off1168_inb : ∀ (v7620 : BitVec 32) (k0_hw402 : k0_chk402 v7620), ∀ a, (k0_off1168 v7620) a + S1x1x512.size a ≤ S784x8x512.size a := fun v7620 k0_hw402 => k0_hw402.2

def k0_off1169 (v7635 : BitVec 32) : Fin 3 → Nat :=
  let c1023_i32_4764 : BitVec 32 := 1023#32
  let v7636 : BitVec 32 := Scalar.andi v7635 c1023_i32_4764
  let v7730 : Index := Scalar.indexCast v7636
  let c2_4825 : Index := 2#32
  let c0_4826 : Index := 0#32
  ![v7730.toNat, 2, 0]

def k0_chk403 (v7635 : BitVec 32) : Prop :=
  (∀ a, (k0_off1156 v7635) a + S1x1x512.size a ≤ S784x8x512.size a) ∧
  (∀ a, (k0_off1169 v7635) a + S1x1x512.size a ≤ S784x8x512.size a)
theorem k0_off1156_inb : ∀ (v7635 : BitVec 32) (k0_hw403 : k0_chk403 v7635), ∀ a, (k0_off1156 v7635) a + S1x1x512.size a ≤ S784x8x512.size a := fun v7635 k0_hw403 => k0_hw403.1
theorem k0_off1169_inb : ∀ (v7635 : BitVec 32) (k0_hw403 : k0_chk403 v7635), ∀ a, (k0_off1169 v7635) a + S1x1x512.size a ≤ S784x8x512.size a := fun v7635 k0_hw403 => k0_hw403.2

def k0_off1170 (v7650 : BitVec 32) : Fin 3 → Nat :=
  let c1023_i32_4774 : BitVec 32 := 1023#32
  let v7651 : BitVec 32 := Scalar.andi v7650 c1023_i32_4774
  let v7734 : Index := Scalar.indexCast v7651
  let c3_4827 : Index := 3#32
  let c0_4828 : Index := 0#32
  ![v7734.toNat, 3, 0]

def k0_chk404 (v7650 : BitVec 32) : Prop :=
  (∀ a, (k0_off1158 v7650) a + S1x1x512.size a ≤ S784x8x512.size a) ∧
  (∀ a, (k0_off1170 v7650) a + S1x1x512.size a ≤ S784x8x512.size a)
theorem k0_off1158_inb : ∀ (v7650 : BitVec 32) (k0_hw404 : k0_chk404 v7650), ∀ a, (k0_off1158 v7650) a + S1x1x512.size a ≤ S784x8x512.size a := fun v7650 k0_hw404 => k0_hw404.1
theorem k0_off1170_inb : ∀ (v7650 : BitVec 32) (k0_hw404 : k0_chk404 v7650), ∀ a, (k0_off1170 v7650) a + S1x1x512.size a ≤ S784x8x512.size a := fun v7650 k0_hw404 => k0_hw404.2

def k0_off1171 (v7665 : BitVec 32) : Fin 3 → Nat :=
  let c1023_i32_4784 : BitVec 32 := 1023#32
  let v7666 : BitVec 32 := Scalar.andi v7665 c1023_i32_4784
  let v7738 : Index := Scalar.indexCast v7666
  let c4_4829 : Index := 4#32
  let c0_4830 : Index := 0#32
  ![v7738.toNat, 4, 0]

def k0_chk405 (v7665 : BitVec 32) : Prop :=
  (∀ a, (k0_off1160 v7665) a + S1x1x512.size a ≤ S784x8x512.size a) ∧
  (∀ a, (k0_off1171 v7665) a + S1x1x512.size a ≤ S784x8x512.size a)
theorem k0_off1160_inb : ∀ (v7665 : BitVec 32) (k0_hw405 : k0_chk405 v7665), ∀ a, (k0_off1160 v7665) a + S1x1x512.size a ≤ S784x8x512.size a := fun v7665 k0_hw405 => k0_hw405.1
theorem k0_off1171_inb : ∀ (v7665 : BitVec 32) (k0_hw405 : k0_chk405 v7665), ∀ a, (k0_off1171 v7665) a + S1x1x512.size a ≤ S784x8x512.size a := fun v7665 k0_hw405 => k0_hw405.2

def k0_off1172 (v7680 : BitVec 32) : Fin 3 → Nat :=
  let c1023_i32_4794 : BitVec 32 := 1023#32
  let v7681 : BitVec 32 := Scalar.andi v7680 c1023_i32_4794
  let v7742 : Index := Scalar.indexCast v7681
  let c5_4831 : Index := 5#32
  let c0_4832 : Index := 0#32
  ![v7742.toNat, 5, 0]

def k0_chk406 (v7680 : BitVec 32) : Prop :=
  (∀ a, (k0_off1162 v7680) a + S1x1x512.size a ≤ S784x8x512.size a) ∧
  (∀ a, (k0_off1172 v7680) a + S1x1x512.size a ≤ S784x8x512.size a)
theorem k0_off1162_inb : ∀ (v7680 : BitVec 32) (k0_hw406 : k0_chk406 v7680), ∀ a, (k0_off1162 v7680) a + S1x1x512.size a ≤ S784x8x512.size a := fun v7680 k0_hw406 => k0_hw406.1
theorem k0_off1172_inb : ∀ (v7680 : BitVec 32) (k0_hw406 : k0_chk406 v7680), ∀ a, (k0_off1172 v7680) a + S1x1x512.size a ≤ S784x8x512.size a := fun v7680 k0_hw406 => k0_hw406.2

def k0_off1173 (v7695 : BitVec 32) : Fin 3 → Nat :=
  let c1023_i32_4804 : BitVec 32 := 1023#32
  let v7696 : BitVec 32 := Scalar.andi v7695 c1023_i32_4804
  let v7746 : Index := Scalar.indexCast v7696
  let c6_4833 : Index := 6#32
  let c0_4834 : Index := 0#32
  ![v7746.toNat, 6, 0]

def k0_chk407 (v7695 : BitVec 32) : Prop :=
  (∀ a, (k0_off1164 v7695) a + S1x1x512.size a ≤ S784x8x512.size a) ∧
  (∀ a, (k0_off1173 v7695) a + S1x1x512.size a ≤ S784x8x512.size a)
theorem k0_off1164_inb : ∀ (v7695 : BitVec 32) (k0_hw407 : k0_chk407 v7695), ∀ a, (k0_off1164 v7695) a + S1x1x512.size a ≤ S784x8x512.size a := fun v7695 k0_hw407 => k0_hw407.1
theorem k0_off1173_inb : ∀ (v7695 : BitVec 32) (k0_hw407 : k0_chk407 v7695), ∀ a, (k0_off1173 v7695) a + S1x1x512.size a ≤ S784x8x512.size a := fun v7695 k0_hw407 => k0_hw407.2

def k0_off1174 (i : grid0.Coords) : Fin 2 → Nat :=
  let arg0 : BitVec 32 := BitVec.ofNat 32 (i 0).val
  let c8_i32_4837 : BitVec 32 := 8#32
  let v7754 : BitVec 32 := Scalar.muli arg0 c8_i32_4837
  let c0_i32_4838 : BitVec 32 := 0#32
  let v7755 : BitVec 32 := Scalar.addi v7754 c0_i32_4838
  let v7756 : Index := Scalar.indexCast v7755
  let c51 : Index := 51#32
  ![v7756.toNat, 51]
def k0_off1175 (v7757 : BitVec 32) : Fin 3 → Nat :=
  let c1023_i32_4839 : BitVec 32 := 1023#32
  let v7758 : BitVec 32 := Scalar.andi v7757 c1023_i32_4839
  let v7765 : Index := Scalar.indexCast v7758
  let c0_4844 : Index := 0#32
  let c0_4845 : Index := 0#32
  ![v7765.toNat, 0, 0]

def k0_off1176 (i : grid0.Coords) : Fin 2 → Nat :=
  let arg0 : BitVec 32 := BitVec.ofNat 32 (i 0).val
  let c8_i32_4846 : BitVec 32 := 8#32
  let v7769 : BitVec 32 := Scalar.muli arg0 c8_i32_4846
  let c1_i32_4847 : BitVec 32 := 1#32
  let v7770 : BitVec 32 := Scalar.addi v7769 c1_i32_4847
  let v7771 : Index := Scalar.indexCast v7770
  let c51_4848 : Index := 51#32
  ![v7771.toNat, 51]
def k0_off1177 (v7772 : BitVec 32) : Fin 3 → Nat :=
  let c1023_i32_4849 : BitVec 32 := 1023#32
  let v7773 : BitVec 32 := Scalar.andi v7772 c1023_i32_4849
  let v7780 : Index := Scalar.indexCast v7773
  let c1_4854 : Index := 1#32
  let c0_4855 : Index := 0#32
  ![v7780.toNat, 1, 0]

def k0_off1178 (i : grid0.Coords) : Fin 2 → Nat :=
  let arg0 : BitVec 32 := BitVec.ofNat 32 (i 0).val
  let c8_i32_4856 : BitVec 32 := 8#32
  let v7784 : BitVec 32 := Scalar.muli arg0 c8_i32_4856
  let c2_i32_4857 : BitVec 32 := 2#32
  let v7785 : BitVec 32 := Scalar.addi v7784 c2_i32_4857
  let v7786 : Index := Scalar.indexCast v7785
  let c51_4858 : Index := 51#32
  ![v7786.toNat, 51]
def k0_off1179 (v7787 : BitVec 32) : Fin 3 → Nat :=
  let c1023_i32_4859 : BitVec 32 := 1023#32
  let v7788 : BitVec 32 := Scalar.andi v7787 c1023_i32_4859
  let v7795 : Index := Scalar.indexCast v7788
  let c2_4864 : Index := 2#32
  let c0_4865 : Index := 0#32
  ![v7795.toNat, 2, 0]

def k0_off1180 (i : grid0.Coords) : Fin 2 → Nat :=
  let arg0 : BitVec 32 := BitVec.ofNat 32 (i 0).val
  let c8_i32_4866 : BitVec 32 := 8#32
  let v7799 : BitVec 32 := Scalar.muli arg0 c8_i32_4866
  let c3_i32_4867 : BitVec 32 := 3#32
  let v7800 : BitVec 32 := Scalar.addi v7799 c3_i32_4867
  let v7801 : Index := Scalar.indexCast v7800
  let c51_4868 : Index := 51#32
  ![v7801.toNat, 51]
def k0_off1181 (v7802 : BitVec 32) : Fin 3 → Nat :=
  let c1023_i32_4869 : BitVec 32 := 1023#32
  let v7803 : BitVec 32 := Scalar.andi v7802 c1023_i32_4869
  let v7810 : Index := Scalar.indexCast v7803
  let c3_4874 : Index := 3#32
  let c0_4875 : Index := 0#32
  ![v7810.toNat, 3, 0]

def k0_off1182 (i : grid0.Coords) : Fin 2 → Nat :=
  let arg0 : BitVec 32 := BitVec.ofNat 32 (i 0).val
  let c8_i32_4876 : BitVec 32 := 8#32
  let v7814 : BitVec 32 := Scalar.muli arg0 c8_i32_4876
  let c4_i32_4877 : BitVec 32 := 4#32
  let v7815 : BitVec 32 := Scalar.addi v7814 c4_i32_4877
  let v7816 : Index := Scalar.indexCast v7815
  let c51_4878 : Index := 51#32
  ![v7816.toNat, 51]
def k0_off1183 (v7817 : BitVec 32) : Fin 3 → Nat :=
  let c1023_i32_4879 : BitVec 32 := 1023#32
  let v7818 : BitVec 32 := Scalar.andi v7817 c1023_i32_4879
  let v7825 : Index := Scalar.indexCast v7818
  let c4_4884 : Index := 4#32
  let c0_4885 : Index := 0#32
  ![v7825.toNat, 4, 0]

def k0_off1184 (i : grid0.Coords) : Fin 2 → Nat :=
  let arg0 : BitVec 32 := BitVec.ofNat 32 (i 0).val
  let c8_i32_4886 : BitVec 32 := 8#32
  let v7829 : BitVec 32 := Scalar.muli arg0 c8_i32_4886
  let c5_i32_4887 : BitVec 32 := 5#32
  let v7830 : BitVec 32 := Scalar.addi v7829 c5_i32_4887
  let v7831 : Index := Scalar.indexCast v7830
  let c51_4888 : Index := 51#32
  ![v7831.toNat, 51]
def k0_off1185 (v7832 : BitVec 32) : Fin 3 → Nat :=
  let c1023_i32_4889 : BitVec 32 := 1023#32
  let v7833 : BitVec 32 := Scalar.andi v7832 c1023_i32_4889
  let v7840 : Index := Scalar.indexCast v7833
  let c5_4894 : Index := 5#32
  let c0_4895 : Index := 0#32
  ![v7840.toNat, 5, 0]

def k0_off1186 (i : grid0.Coords) : Fin 2 → Nat :=
  let arg0 : BitVec 32 := BitVec.ofNat 32 (i 0).val
  let c8_i32_4896 : BitVec 32 := 8#32
  let v7844 : BitVec 32 := Scalar.muli arg0 c8_i32_4896
  let c6_i32_4897 : BitVec 32 := 6#32
  let v7845 : BitVec 32 := Scalar.addi v7844 c6_i32_4897
  let v7846 : Index := Scalar.indexCast v7845
  let c51_4898 : Index := 51#32
  ![v7846.toNat, 51]
def k0_off1187 (v7847 : BitVec 32) : Fin 3 → Nat :=
  let c1023_i32_4899 : BitVec 32 := 1023#32
  let v7848 : BitVec 32 := Scalar.andi v7847 c1023_i32_4899
  let v7855 : Index := Scalar.indexCast v7848
  let c6_4904 : Index := 6#32
  let c0_4905 : Index := 0#32
  ![v7855.toNat, 6, 0]

def k0_off1188 (i : grid0.Coords) : Fin 2 → Nat :=
  let arg0 : BitVec 32 := BitVec.ofNat 32 (i 0).val
  let c8_i32_4906 : BitVec 32 := 8#32
  let v7859 : BitVec 32 := Scalar.muli arg0 c8_i32_4906
  let c7_i32_4907 : BitVec 32 := 7#32
  let v7860 : BitVec 32 := Scalar.addi v7859 c7_i32_4907
  let v7861 : Index := Scalar.indexCast v7860
  let c51_4908 : Index := 51#32
  ![v7861.toNat, 51]
def k0_off1189 (v7862 : BitVec 32) : Fin 3 → Nat :=
  let c1023_i32_4909 : BitVec 32 := 1023#32
  let v7863 : BitVec 32 := Scalar.andi v7862 c1023_i32_4909
  let v7870 : Index := Scalar.indexCast v7863
  let c7_4914 : Index := 7#32
  let c0_4915 : Index := 0#32
  ![v7870.toNat, 7, 0]

def k0_chk416 (v7862 : BitVec 32) : Prop :=
  (∀ a, (k0_off1189 v7862) a + S1x1x512.size a ≤ S784x8x512.size a)
theorem k0_off1189_inb : ∀ (v7862 : BitVec 32) (k0_hw416 : k0_chk416 v7862), ∀ a, (k0_off1189 v7862) a + S1x1x512.size a ≤ S784x8x512.size a := fun v7862 k0_hw416 => k0_hw416

def k0_off1190 (v7757 : BitVec 32) : Fin 3 → Nat :=
  let c1023_i32_4839 : BitVec 32 := 1023#32
  let v7758 : BitVec 32 := Scalar.andi v7757 c1023_i32_4839
  let v7874 : Index := Scalar.indexCast v7758
  let c0_4916 : Index := 0#32
  let c0_4917 : Index := 0#32
  ![v7874.toNat, 0, 0]

def k0_chk409 (v7757 : BitVec 32) : Prop :=
  (∀ a, (k0_off1175 v7757) a + S1x1x512.size a ≤ S784x8x512.size a) ∧
  (∀ a, (k0_off1190 v7757) a + S1x1x512.size a ≤ S784x8x512.size a)
theorem k0_off1175_inb : ∀ (v7757 : BitVec 32) (k0_hw409 : k0_chk409 v7757), ∀ a, (k0_off1175 v7757) a + S1x1x512.size a ≤ S784x8x512.size a := fun v7757 k0_hw409 => k0_hw409.1
theorem k0_off1190_inb : ∀ (v7757 : BitVec 32) (k0_hw409 : k0_chk409 v7757), ∀ a, (k0_off1190 v7757) a + S1x1x512.size a ≤ S784x8x512.size a := fun v7757 k0_hw409 => k0_hw409.2

def k0_off1191 (v7772 : BitVec 32) : Fin 3 → Nat :=
  let c1023_i32_4849 : BitVec 32 := 1023#32
  let v7773 : BitVec 32 := Scalar.andi v7772 c1023_i32_4849
  let v7878 : Index := Scalar.indexCast v7773
  let c1_4918 : Index := 1#32
  let c0_4919 : Index := 0#32
  ![v7878.toNat, 1, 0]

def k0_chk410 (v7772 : BitVec 32) : Prop :=
  (∀ a, (k0_off1177 v7772) a + S1x1x512.size a ≤ S784x8x512.size a) ∧
  (∀ a, (k0_off1191 v7772) a + S1x1x512.size a ≤ S784x8x512.size a)
theorem k0_off1177_inb : ∀ (v7772 : BitVec 32) (k0_hw410 : k0_chk410 v7772), ∀ a, (k0_off1177 v7772) a + S1x1x512.size a ≤ S784x8x512.size a := fun v7772 k0_hw410 => k0_hw410.1
theorem k0_off1191_inb : ∀ (v7772 : BitVec 32) (k0_hw410 : k0_chk410 v7772), ∀ a, (k0_off1191 v7772) a + S1x1x512.size a ≤ S784x8x512.size a := fun v7772 k0_hw410 => k0_hw410.2

def k0_off1192 (v7787 : BitVec 32) : Fin 3 → Nat :=
  let c1023_i32_4859 : BitVec 32 := 1023#32
  let v7788 : BitVec 32 := Scalar.andi v7787 c1023_i32_4859
  let v7882 : Index := Scalar.indexCast v7788
  let c2_4920 : Index := 2#32
  let c0_4921 : Index := 0#32
  ![v7882.toNat, 2, 0]

def k0_chk411 (v7787 : BitVec 32) : Prop :=
  (∀ a, (k0_off1179 v7787) a + S1x1x512.size a ≤ S784x8x512.size a) ∧
  (∀ a, (k0_off1192 v7787) a + S1x1x512.size a ≤ S784x8x512.size a)
theorem k0_off1179_inb : ∀ (v7787 : BitVec 32) (k0_hw411 : k0_chk411 v7787), ∀ a, (k0_off1179 v7787) a + S1x1x512.size a ≤ S784x8x512.size a := fun v7787 k0_hw411 => k0_hw411.1
theorem k0_off1192_inb : ∀ (v7787 : BitVec 32) (k0_hw411 : k0_chk411 v7787), ∀ a, (k0_off1192 v7787) a + S1x1x512.size a ≤ S784x8x512.size a := fun v7787 k0_hw411 => k0_hw411.2

def k0_off1193 (v7802 : BitVec 32) : Fin 3 → Nat :=
  let c1023_i32_4869 : BitVec 32 := 1023#32
  let v7803 : BitVec 32 := Scalar.andi v7802 c1023_i32_4869
  let v7886 : Index := Scalar.indexCast v7803
  let c3_4922 : Index := 3#32
  let c0_4923 : Index := 0#32
  ![v7886.toNat, 3, 0]

def k0_chk412 (v7802 : BitVec 32) : Prop :=
  (∀ a, (k0_off1181 v7802) a + S1x1x512.size a ≤ S784x8x512.size a) ∧
  (∀ a, (k0_off1193 v7802) a + S1x1x512.size a ≤ S784x8x512.size a)
theorem k0_off1181_inb : ∀ (v7802 : BitVec 32) (k0_hw412 : k0_chk412 v7802), ∀ a, (k0_off1181 v7802) a + S1x1x512.size a ≤ S784x8x512.size a := fun v7802 k0_hw412 => k0_hw412.1
theorem k0_off1193_inb : ∀ (v7802 : BitVec 32) (k0_hw412 : k0_chk412 v7802), ∀ a, (k0_off1193 v7802) a + S1x1x512.size a ≤ S784x8x512.size a := fun v7802 k0_hw412 => k0_hw412.2

def k0_off1194 (v7817 : BitVec 32) : Fin 3 → Nat :=
  let c1023_i32_4879 : BitVec 32 := 1023#32
  let v7818 : BitVec 32 := Scalar.andi v7817 c1023_i32_4879
  let v7890 : Index := Scalar.indexCast v7818
  let c4_4924 : Index := 4#32
  let c0_4925 : Index := 0#32
  ![v7890.toNat, 4, 0]

def k0_chk413 (v7817 : BitVec 32) : Prop :=
  (∀ a, (k0_off1183 v7817) a + S1x1x512.size a ≤ S784x8x512.size a) ∧
  (∀ a, (k0_off1194 v7817) a + S1x1x512.size a ≤ S784x8x512.size a)
theorem k0_off1183_inb : ∀ (v7817 : BitVec 32) (k0_hw413 : k0_chk413 v7817), ∀ a, (k0_off1183 v7817) a + S1x1x512.size a ≤ S784x8x512.size a := fun v7817 k0_hw413 => k0_hw413.1
theorem k0_off1194_inb : ∀ (v7817 : BitVec 32) (k0_hw413 : k0_chk413 v7817), ∀ a, (k0_off1194 v7817) a + S1x1x512.size a ≤ S784x8x512.size a := fun v7817 k0_hw413 => k0_hw413.2

def k0_off1195 (v7832 : BitVec 32) : Fin 3 → Nat :=
  let c1023_i32_4889 : BitVec 32 := 1023#32
  let v7833 : BitVec 32 := Scalar.andi v7832 c1023_i32_4889
  let v7894 : Index := Scalar.indexCast v7833
  let c5_4926 : Index := 5#32
  let c0_4927 : Index := 0#32
  ![v7894.toNat, 5, 0]

def k0_chk414 (v7832 : BitVec 32) : Prop :=
  (∀ a, (k0_off1185 v7832) a + S1x1x512.size a ≤ S784x8x512.size a) ∧
  (∀ a, (k0_off1195 v7832) a + S1x1x512.size a ≤ S784x8x512.size a)
theorem k0_off1185_inb : ∀ (v7832 : BitVec 32) (k0_hw414 : k0_chk414 v7832), ∀ a, (k0_off1185 v7832) a + S1x1x512.size a ≤ S784x8x512.size a := fun v7832 k0_hw414 => k0_hw414.1
theorem k0_off1195_inb : ∀ (v7832 : BitVec 32) (k0_hw414 : k0_chk414 v7832), ∀ a, (k0_off1195 v7832) a + S1x1x512.size a ≤ S784x8x512.size a := fun v7832 k0_hw414 => k0_hw414.2

def k0_off1196 (v7847 : BitVec 32) : Fin 3 → Nat :=
  let c1023_i32_4899 : BitVec 32 := 1023#32
  let v7848 : BitVec 32 := Scalar.andi v7847 c1023_i32_4899
  let v7898 : Index := Scalar.indexCast v7848
  let c6_4928 : Index := 6#32
  let c0_4929 : Index := 0#32
  ![v7898.toNat, 6, 0]

def k0_chk415 (v7847 : BitVec 32) : Prop :=
  (∀ a, (k0_off1187 v7847) a + S1x1x512.size a ≤ S784x8x512.size a) ∧
  (∀ a, (k0_off1196 v7847) a + S1x1x512.size a ≤ S784x8x512.size a)
theorem k0_off1187_inb : ∀ (v7847 : BitVec 32) (k0_hw415 : k0_chk415 v7847), ∀ a, (k0_off1187 v7847) a + S1x1x512.size a ≤ S784x8x512.size a := fun v7847 k0_hw415 => k0_hw415.1
theorem k0_off1196_inb : ∀ (v7847 : BitVec 32) (k0_hw415 : k0_chk415 v7847), ∀ a, (k0_off1196 v7847) a + S1x1x512.size a ≤ S784x8x512.size a := fun v7847 k0_hw415 => k0_hw415.2

def k0_off1197 (i : grid0.Coords) : Fin 2 → Nat :=
  let arg0 : BitVec 32 := BitVec.ofNat 32 (i 0).val
  let c8_i32_4932 : BitVec 32 := 8#32
  let v7906 : BitVec 32 := Scalar.muli arg0 c8_i32_4932
  let c0_i32_4933 : BitVec 32 := 0#32
  let v7907 : BitVec 32 := Scalar.addi v7906 c0_i32_4933
  let v7908 : Index := Scalar.indexCast v7907
  let c52 : Index := 52#32
  ![v7908.toNat, 52]
def k0_off1198 (v7909 : BitVec 32) : Fin 3 → Nat :=
  let c1023_i32_4934 : BitVec 32 := 1023#32
  let v7910 : BitVec 32 := Scalar.andi v7909 c1023_i32_4934
  let v7917 : Index := Scalar.indexCast v7910
  let c0_4939 : Index := 0#32
  let c0_4940 : Index := 0#32
  ![v7917.toNat, 0, 0]

def k0_off1199 (i : grid0.Coords) : Fin 2 → Nat :=
  let arg0 : BitVec 32 := BitVec.ofNat 32 (i 0).val
  let c8_i32_4941 : BitVec 32 := 8#32
  let v7921 : BitVec 32 := Scalar.muli arg0 c8_i32_4941
  let c1_i32_4942 : BitVec 32 := 1#32
  let v7922 : BitVec 32 := Scalar.addi v7921 c1_i32_4942
  let v7923 : Index := Scalar.indexCast v7922
  let c52_4943 : Index := 52#32
  ![v7923.toNat, 52]
def k0_off1200 (v7924 : BitVec 32) : Fin 3 → Nat :=
  let c1023_i32_4944 : BitVec 32 := 1023#32
  let v7925 : BitVec 32 := Scalar.andi v7924 c1023_i32_4944
  let v7932 : Index := Scalar.indexCast v7925
  let c1_4949 : Index := 1#32
  let c0_4950 : Index := 0#32
  ![v7932.toNat, 1, 0]

def k0_off1201 (i : grid0.Coords) : Fin 2 → Nat :=
  let arg0 : BitVec 32 := BitVec.ofNat 32 (i 0).val
  let c8_i32_4951 : BitVec 32 := 8#32
  let v7936 : BitVec 32 := Scalar.muli arg0 c8_i32_4951
  let c2_i32_4952 : BitVec 32 := 2#32
  let v7937 : BitVec 32 := Scalar.addi v7936 c2_i32_4952
  let v7938 : Index := Scalar.indexCast v7937
  let c52_4953 : Index := 52#32
  ![v7938.toNat, 52]
def k0_off1202 (v7939 : BitVec 32) : Fin 3 → Nat :=
  let c1023_i32_4954 : BitVec 32 := 1023#32
  let v7940 : BitVec 32 := Scalar.andi v7939 c1023_i32_4954
  let v7947 : Index := Scalar.indexCast v7940
  let c2_4959 : Index := 2#32
  let c0_4960 : Index := 0#32
  ![v7947.toNat, 2, 0]

def k0_off1203 (i : grid0.Coords) : Fin 2 → Nat :=
  let arg0 : BitVec 32 := BitVec.ofNat 32 (i 0).val
  let c8_i32_4961 : BitVec 32 := 8#32
  let v7951 : BitVec 32 := Scalar.muli arg0 c8_i32_4961
  let c3_i32_4962 : BitVec 32 := 3#32
  let v7952 : BitVec 32 := Scalar.addi v7951 c3_i32_4962
  let v7953 : Index := Scalar.indexCast v7952
  let c52_4963 : Index := 52#32
  ![v7953.toNat, 52]
def k0_off1204 (v7954 : BitVec 32) : Fin 3 → Nat :=
  let c1023_i32_4964 : BitVec 32 := 1023#32
  let v7955 : BitVec 32 := Scalar.andi v7954 c1023_i32_4964
  let v7962 : Index := Scalar.indexCast v7955
  let c3_4969 : Index := 3#32
  let c0_4970 : Index := 0#32
  ![v7962.toNat, 3, 0]

def k0_off1205 (i : grid0.Coords) : Fin 2 → Nat :=
  let arg0 : BitVec 32 := BitVec.ofNat 32 (i 0).val
  let c8_i32_4971 : BitVec 32 := 8#32
  let v7966 : BitVec 32 := Scalar.muli arg0 c8_i32_4971
  let c4_i32_4972 : BitVec 32 := 4#32
  let v7967 : BitVec 32 := Scalar.addi v7966 c4_i32_4972
  let v7968 : Index := Scalar.indexCast v7967
  let c52_4973 : Index := 52#32
  ![v7968.toNat, 52]
def k0_off1206 (v7969 : BitVec 32) : Fin 3 → Nat :=
  let c1023_i32_4974 : BitVec 32 := 1023#32
  let v7970 : BitVec 32 := Scalar.andi v7969 c1023_i32_4974
  let v7977 : Index := Scalar.indexCast v7970
  let c4_4979 : Index := 4#32
  let c0_4980 : Index := 0#32
  ![v7977.toNat, 4, 0]

def k0_off1207 (i : grid0.Coords) : Fin 2 → Nat :=
  let arg0 : BitVec 32 := BitVec.ofNat 32 (i 0).val
  let c8_i32_4981 : BitVec 32 := 8#32
  let v7981 : BitVec 32 := Scalar.muli arg0 c8_i32_4981
  let c5_i32_4982 : BitVec 32 := 5#32
  let v7982 : BitVec 32 := Scalar.addi v7981 c5_i32_4982
  let v7983 : Index := Scalar.indexCast v7982
  let c52_4983 : Index := 52#32
  ![v7983.toNat, 52]
def k0_off1208 (v7984 : BitVec 32) : Fin 3 → Nat :=
  let c1023_i32_4984 : BitVec 32 := 1023#32
  let v7985 : BitVec 32 := Scalar.andi v7984 c1023_i32_4984
  let v7992 : Index := Scalar.indexCast v7985
  let c5_4989 : Index := 5#32
  let c0_4990 : Index := 0#32
  ![v7992.toNat, 5, 0]

def k0_off1209 (i : grid0.Coords) : Fin 2 → Nat :=
  let arg0 : BitVec 32 := BitVec.ofNat 32 (i 0).val
  let c8_i32_4991 : BitVec 32 := 8#32
  let v7996 : BitVec 32 := Scalar.muli arg0 c8_i32_4991
  let c6_i32_4992 : BitVec 32 := 6#32
  let v7997 : BitVec 32 := Scalar.addi v7996 c6_i32_4992
  let v7998 : Index := Scalar.indexCast v7997
  let c52_4993 : Index := 52#32
  ![v7998.toNat, 52]
def k0_off1210 (v7999 : BitVec 32) : Fin 3 → Nat :=
  let c1023_i32_4994 : BitVec 32 := 1023#32
  let v8000 : BitVec 32 := Scalar.andi v7999 c1023_i32_4994
  let v8007 : Index := Scalar.indexCast v8000
  let c6_4999 : Index := 6#32
  let c0_5000 : Index := 0#32
  ![v8007.toNat, 6, 0]

def k0_off1211 (i : grid0.Coords) : Fin 2 → Nat :=
  let arg0 : BitVec 32 := BitVec.ofNat 32 (i 0).val
  let c8_i32_5001 : BitVec 32 := 8#32
  let v8011 : BitVec 32 := Scalar.muli arg0 c8_i32_5001
  let c7_i32_5002 : BitVec 32 := 7#32
  let v8012 : BitVec 32 := Scalar.addi v8011 c7_i32_5002
  let v8013 : Index := Scalar.indexCast v8012
  let c52_5003 : Index := 52#32
  ![v8013.toNat, 52]
def k0_off1212 (v8014 : BitVec 32) : Fin 3 → Nat :=
  let c1023_i32_5004 : BitVec 32 := 1023#32
  let v8015 : BitVec 32 := Scalar.andi v8014 c1023_i32_5004
  let v8022 : Index := Scalar.indexCast v8015
  let c7_5009 : Index := 7#32
  let c0_5010 : Index := 0#32
  ![v8022.toNat, 7, 0]

def k0_chk424 (v8014 : BitVec 32) : Prop :=
  (∀ a, (k0_off1212 v8014) a + S1x1x512.size a ≤ S784x8x512.size a)
theorem k0_off1212_inb : ∀ (v8014 : BitVec 32) (k0_hw424 : k0_chk424 v8014), ∀ a, (k0_off1212 v8014) a + S1x1x512.size a ≤ S784x8x512.size a := fun v8014 k0_hw424 => k0_hw424

def k0_off1213 (v7909 : BitVec 32) : Fin 3 → Nat :=
  let c1023_i32_4934 : BitVec 32 := 1023#32
  let v7910 : BitVec 32 := Scalar.andi v7909 c1023_i32_4934
  let v8026 : Index := Scalar.indexCast v7910
  let c0_5011 : Index := 0#32
  let c0_5012 : Index := 0#32
  ![v8026.toNat, 0, 0]

def k0_chk417 (v7909 : BitVec 32) : Prop :=
  (∀ a, (k0_off1198 v7909) a + S1x1x512.size a ≤ S784x8x512.size a) ∧
  (∀ a, (k0_off1213 v7909) a + S1x1x512.size a ≤ S784x8x512.size a)
theorem k0_off1198_inb : ∀ (v7909 : BitVec 32) (k0_hw417 : k0_chk417 v7909), ∀ a, (k0_off1198 v7909) a + S1x1x512.size a ≤ S784x8x512.size a := fun v7909 k0_hw417 => k0_hw417.1
theorem k0_off1213_inb : ∀ (v7909 : BitVec 32) (k0_hw417 : k0_chk417 v7909), ∀ a, (k0_off1213 v7909) a + S1x1x512.size a ≤ S784x8x512.size a := fun v7909 k0_hw417 => k0_hw417.2

def k0_off1214 (v7924 : BitVec 32) : Fin 3 → Nat :=
  let c1023_i32_4944 : BitVec 32 := 1023#32
  let v7925 : BitVec 32 := Scalar.andi v7924 c1023_i32_4944
  let v8030 : Index := Scalar.indexCast v7925
  let c1_5013 : Index := 1#32
  let c0_5014 : Index := 0#32
  ![v8030.toNat, 1, 0]

def k0_chk418 (v7924 : BitVec 32) : Prop :=
  (∀ a, (k0_off1200 v7924) a + S1x1x512.size a ≤ S784x8x512.size a) ∧
  (∀ a, (k0_off1214 v7924) a + S1x1x512.size a ≤ S784x8x512.size a)
theorem k0_off1200_inb : ∀ (v7924 : BitVec 32) (k0_hw418 : k0_chk418 v7924), ∀ a, (k0_off1200 v7924) a + S1x1x512.size a ≤ S784x8x512.size a := fun v7924 k0_hw418 => k0_hw418.1
theorem k0_off1214_inb : ∀ (v7924 : BitVec 32) (k0_hw418 : k0_chk418 v7924), ∀ a, (k0_off1214 v7924) a + S1x1x512.size a ≤ S784x8x512.size a := fun v7924 k0_hw418 => k0_hw418.2

def k0_off1215 (v7939 : BitVec 32) : Fin 3 → Nat :=
  let c1023_i32_4954 : BitVec 32 := 1023#32
  let v7940 : BitVec 32 := Scalar.andi v7939 c1023_i32_4954
  let v8034 : Index := Scalar.indexCast v7940
  let c2_5015 : Index := 2#32
  let c0_5016 : Index := 0#32
  ![v8034.toNat, 2, 0]

def k0_chk419 (v7939 : BitVec 32) : Prop :=
  (∀ a, (k0_off1202 v7939) a + S1x1x512.size a ≤ S784x8x512.size a) ∧
  (∀ a, (k0_off1215 v7939) a + S1x1x512.size a ≤ S784x8x512.size a)
theorem k0_off1202_inb : ∀ (v7939 : BitVec 32) (k0_hw419 : k0_chk419 v7939), ∀ a, (k0_off1202 v7939) a + S1x1x512.size a ≤ S784x8x512.size a := fun v7939 k0_hw419 => k0_hw419.1
theorem k0_off1215_inb : ∀ (v7939 : BitVec 32) (k0_hw419 : k0_chk419 v7939), ∀ a, (k0_off1215 v7939) a + S1x1x512.size a ≤ S784x8x512.size a := fun v7939 k0_hw419 => k0_hw419.2

def k0_off1216 (v7954 : BitVec 32) : Fin 3 → Nat :=
  let c1023_i32_4964 : BitVec 32 := 1023#32
  let v7955 : BitVec 32 := Scalar.andi v7954 c1023_i32_4964
  let v8038 : Index := Scalar.indexCast v7955
  let c3_5017 : Index := 3#32
  let c0_5018 : Index := 0#32
  ![v8038.toNat, 3, 0]

def k0_chk420 (v7954 : BitVec 32) : Prop :=
  (∀ a, (k0_off1204 v7954) a + S1x1x512.size a ≤ S784x8x512.size a) ∧
  (∀ a, (k0_off1216 v7954) a + S1x1x512.size a ≤ S784x8x512.size a)
theorem k0_off1204_inb : ∀ (v7954 : BitVec 32) (k0_hw420 : k0_chk420 v7954), ∀ a, (k0_off1204 v7954) a + S1x1x512.size a ≤ S784x8x512.size a := fun v7954 k0_hw420 => k0_hw420.1
theorem k0_off1216_inb : ∀ (v7954 : BitVec 32) (k0_hw420 : k0_chk420 v7954), ∀ a, (k0_off1216 v7954) a + S1x1x512.size a ≤ S784x8x512.size a := fun v7954 k0_hw420 => k0_hw420.2

def k0_off1217 (v7969 : BitVec 32) : Fin 3 → Nat :=
  let c1023_i32_4974 : BitVec 32 := 1023#32
  let v7970 : BitVec 32 := Scalar.andi v7969 c1023_i32_4974
  let v8042 : Index := Scalar.indexCast v7970
  let c4_5019 : Index := 4#32
  let c0_5020 : Index := 0#32
  ![v8042.toNat, 4, 0]

def k0_chk421 (v7969 : BitVec 32) : Prop :=
  (∀ a, (k0_off1206 v7969) a + S1x1x512.size a ≤ S784x8x512.size a) ∧
  (∀ a, (k0_off1217 v7969) a + S1x1x512.size a ≤ S784x8x512.size a)
theorem k0_off1206_inb : ∀ (v7969 : BitVec 32) (k0_hw421 : k0_chk421 v7969), ∀ a, (k0_off1206 v7969) a + S1x1x512.size a ≤ S784x8x512.size a := fun v7969 k0_hw421 => k0_hw421.1
theorem k0_off1217_inb : ∀ (v7969 : BitVec 32) (k0_hw421 : k0_chk421 v7969), ∀ a, (k0_off1217 v7969) a + S1x1x512.size a ≤ S784x8x512.size a := fun v7969 k0_hw421 => k0_hw421.2

def k0_off1218 (v7984 : BitVec 32) : Fin 3 → Nat :=
  let c1023_i32_4984 : BitVec 32 := 1023#32
  let v7985 : BitVec 32 := Scalar.andi v7984 c1023_i32_4984
  let v8046 : Index := Scalar.indexCast v7985
  let c5_5021 : Index := 5#32
  let c0_5022 : Index := 0#32
  ![v8046.toNat, 5, 0]

def k0_chk422 (v7984 : BitVec 32) : Prop :=
  (∀ a, (k0_off1208 v7984) a + S1x1x512.size a ≤ S784x8x512.size a) ∧
  (∀ a, (k0_off1218 v7984) a + S1x1x512.size a ≤ S784x8x512.size a)
theorem k0_off1208_inb : ∀ (v7984 : BitVec 32) (k0_hw422 : k0_chk422 v7984), ∀ a, (k0_off1208 v7984) a + S1x1x512.size a ≤ S784x8x512.size a := fun v7984 k0_hw422 => k0_hw422.1
theorem k0_off1218_inb : ∀ (v7984 : BitVec 32) (k0_hw422 : k0_chk422 v7984), ∀ a, (k0_off1218 v7984) a + S1x1x512.size a ≤ S784x8x512.size a := fun v7984 k0_hw422 => k0_hw422.2

def k0_off1219 (v7999 : BitVec 32) : Fin 3 → Nat :=
  let c1023_i32_4994 : BitVec 32 := 1023#32
  let v8000 : BitVec 32 := Scalar.andi v7999 c1023_i32_4994
  let v8050 : Index := Scalar.indexCast v8000
  let c6_5023 : Index := 6#32
  let c0_5024 : Index := 0#32
  ![v8050.toNat, 6, 0]

def k0_chk423 (v7999 : BitVec 32) : Prop :=
  (∀ a, (k0_off1210 v7999) a + S1x1x512.size a ≤ S784x8x512.size a) ∧
  (∀ a, (k0_off1219 v7999) a + S1x1x512.size a ≤ S784x8x512.size a)
theorem k0_off1210_inb : ∀ (v7999 : BitVec 32) (k0_hw423 : k0_chk423 v7999), ∀ a, (k0_off1210 v7999) a + S1x1x512.size a ≤ S784x8x512.size a := fun v7999 k0_hw423 => k0_hw423.1
theorem k0_off1219_inb : ∀ (v7999 : BitVec 32) (k0_hw423 : k0_chk423 v7999), ∀ a, (k0_off1219 v7999) a + S1x1x512.size a ≤ S784x8x512.size a := fun v7999 k0_hw423 => k0_hw423.2

def k0_off1220 (i : grid0.Coords) : Fin 2 → Nat :=
  let arg0 : BitVec 32 := BitVec.ofNat 32 (i 0).val
  let c8_i32_5027 : BitVec 32 := 8#32
  let v8058 : BitVec 32 := Scalar.muli arg0 c8_i32_5027
  let c0_i32_5028 : BitVec 32 := 0#32
  let v8059 : BitVec 32 := Scalar.addi v8058 c0_i32_5028
  let v8060 : Index := Scalar.indexCast v8059
  let c53 : Index := 53#32
  ![v8060.toNat, 53]
def k0_off1221 (v8061 : BitVec 32) : Fin 3 → Nat :=
  let c1023_i32_5029 : BitVec 32 := 1023#32
  let v8062 : BitVec 32 := Scalar.andi v8061 c1023_i32_5029
  let v8069 : Index := Scalar.indexCast v8062
  let c0_5034 : Index := 0#32
  let c0_5035 : Index := 0#32
  ![v8069.toNat, 0, 0]

def k0_off1222 (i : grid0.Coords) : Fin 2 → Nat :=
  let arg0 : BitVec 32 := BitVec.ofNat 32 (i 0).val
  let c8_i32_5036 : BitVec 32 := 8#32
  let v8073 : BitVec 32 := Scalar.muli arg0 c8_i32_5036
  let c1_i32_5037 : BitVec 32 := 1#32
  let v8074 : BitVec 32 := Scalar.addi v8073 c1_i32_5037
  let v8075 : Index := Scalar.indexCast v8074
  let c53_5038 : Index := 53#32
  ![v8075.toNat, 53]
def k0_off1223 (v8076 : BitVec 32) : Fin 3 → Nat :=
  let c1023_i32_5039 : BitVec 32 := 1023#32
  let v8077 : BitVec 32 := Scalar.andi v8076 c1023_i32_5039
  let v8084 : Index := Scalar.indexCast v8077
  let c1_5044 : Index := 1#32
  let c0_5045 : Index := 0#32
  ![v8084.toNat, 1, 0]

def k0_off1224 (i : grid0.Coords) : Fin 2 → Nat :=
  let arg0 : BitVec 32 := BitVec.ofNat 32 (i 0).val
  let c8_i32_5046 : BitVec 32 := 8#32
  let v8088 : BitVec 32 := Scalar.muli arg0 c8_i32_5046
  let c2_i32_5047 : BitVec 32 := 2#32
  let v8089 : BitVec 32 := Scalar.addi v8088 c2_i32_5047
  let v8090 : Index := Scalar.indexCast v8089
  let c53_5048 : Index := 53#32
  ![v8090.toNat, 53]
def k0_off1225 (v8091 : BitVec 32) : Fin 3 → Nat :=
  let c1023_i32_5049 : BitVec 32 := 1023#32
  let v8092 : BitVec 32 := Scalar.andi v8091 c1023_i32_5049
  let v8099 : Index := Scalar.indexCast v8092
  let c2_5054 : Index := 2#32
  let c0_5055 : Index := 0#32
  ![v8099.toNat, 2, 0]

def k0_off1226 (i : grid0.Coords) : Fin 2 → Nat :=
  let arg0 : BitVec 32 := BitVec.ofNat 32 (i 0).val
  let c8_i32_5056 : BitVec 32 := 8#32
  let v8103 : BitVec 32 := Scalar.muli arg0 c8_i32_5056
  let c3_i32_5057 : BitVec 32 := 3#32
  let v8104 : BitVec 32 := Scalar.addi v8103 c3_i32_5057
  let v8105 : Index := Scalar.indexCast v8104
  let c53_5058 : Index := 53#32
  ![v8105.toNat, 53]
def k0_off1227 (v8106 : BitVec 32) : Fin 3 → Nat :=
  let c1023_i32_5059 : BitVec 32 := 1023#32
  let v8107 : BitVec 32 := Scalar.andi v8106 c1023_i32_5059
  let v8114 : Index := Scalar.indexCast v8107
  let c3_5064 : Index := 3#32
  let c0_5065 : Index := 0#32
  ![v8114.toNat, 3, 0]

def k0_off1228 (i : grid0.Coords) : Fin 2 → Nat :=
  let arg0 : BitVec 32 := BitVec.ofNat 32 (i 0).val
  let c8_i32_5066 : BitVec 32 := 8#32
  let v8118 : BitVec 32 := Scalar.muli arg0 c8_i32_5066
  let c4_i32_5067 : BitVec 32 := 4#32
  let v8119 : BitVec 32 := Scalar.addi v8118 c4_i32_5067
  let v8120 : Index := Scalar.indexCast v8119
  let c53_5068 : Index := 53#32
  ![v8120.toNat, 53]
def k0_off1229 (v8121 : BitVec 32) : Fin 3 → Nat :=
  let c1023_i32_5069 : BitVec 32 := 1023#32
  let v8122 : BitVec 32 := Scalar.andi v8121 c1023_i32_5069
  let v8129 : Index := Scalar.indexCast v8122
  let c4_5074 : Index := 4#32
  let c0_5075 : Index := 0#32
  ![v8129.toNat, 4, 0]

def k0_off1230 (i : grid0.Coords) : Fin 2 → Nat :=
  let arg0 : BitVec 32 := BitVec.ofNat 32 (i 0).val
  let c8_i32_5076 : BitVec 32 := 8#32
  let v8133 : BitVec 32 := Scalar.muli arg0 c8_i32_5076
  let c5_i32_5077 : BitVec 32 := 5#32
  let v8134 : BitVec 32 := Scalar.addi v8133 c5_i32_5077
  let v8135 : Index := Scalar.indexCast v8134
  let c53_5078 : Index := 53#32
  ![v8135.toNat, 53]
def k0_off1231 (v8136 : BitVec 32) : Fin 3 → Nat :=
  let c1023_i32_5079 : BitVec 32 := 1023#32
  let v8137 : BitVec 32 := Scalar.andi v8136 c1023_i32_5079
  let v8144 : Index := Scalar.indexCast v8137
  let c5_5084 : Index := 5#32
  let c0_5085 : Index := 0#32
  ![v8144.toNat, 5, 0]

def k0_off1232 (i : grid0.Coords) : Fin 2 → Nat :=
  let arg0 : BitVec 32 := BitVec.ofNat 32 (i 0).val
  let c8_i32_5086 : BitVec 32 := 8#32
  let v8148 : BitVec 32 := Scalar.muli arg0 c8_i32_5086
  let c6_i32_5087 : BitVec 32 := 6#32
  let v8149 : BitVec 32 := Scalar.addi v8148 c6_i32_5087
  let v8150 : Index := Scalar.indexCast v8149
  let c53_5088 : Index := 53#32
  ![v8150.toNat, 53]
def k0_off1233 (v8151 : BitVec 32) : Fin 3 → Nat :=
  let c1023_i32_5089 : BitVec 32 := 1023#32
  let v8152 : BitVec 32 := Scalar.andi v8151 c1023_i32_5089
  let v8159 : Index := Scalar.indexCast v8152
  let c6_5094 : Index := 6#32
  let c0_5095 : Index := 0#32
  ![v8159.toNat, 6, 0]

def k0_off1234 (i : grid0.Coords) : Fin 2 → Nat :=
  let arg0 : BitVec 32 := BitVec.ofNat 32 (i 0).val
  let c8_i32_5096 : BitVec 32 := 8#32
  let v8163 : BitVec 32 := Scalar.muli arg0 c8_i32_5096
  let c7_i32_5097 : BitVec 32 := 7#32
  let v8164 : BitVec 32 := Scalar.addi v8163 c7_i32_5097
  let v8165 : Index := Scalar.indexCast v8164
  let c53_5098 : Index := 53#32
  ![v8165.toNat, 53]
def k0_off1235 (v8166 : BitVec 32) : Fin 3 → Nat :=
  let c1023_i32_5099 : BitVec 32 := 1023#32
  let v8167 : BitVec 32 := Scalar.andi v8166 c1023_i32_5099
  let v8174 : Index := Scalar.indexCast v8167
  let c7_5104 : Index := 7#32
  let c0_5105 : Index := 0#32
  ![v8174.toNat, 7, 0]

def k0_chk432 (v8166 : BitVec 32) : Prop :=
  (∀ a, (k0_off1235 v8166) a + S1x1x512.size a ≤ S784x8x512.size a)
theorem k0_off1235_inb : ∀ (v8166 : BitVec 32) (k0_hw432 : k0_chk432 v8166), ∀ a, (k0_off1235 v8166) a + S1x1x512.size a ≤ S784x8x512.size a := fun v8166 k0_hw432 => k0_hw432

def k0_off1236 (v8061 : BitVec 32) : Fin 3 → Nat :=
  let c1023_i32_5029 : BitVec 32 := 1023#32
  let v8062 : BitVec 32 := Scalar.andi v8061 c1023_i32_5029
  let v8178 : Index := Scalar.indexCast v8062
  let c0_5106 : Index := 0#32
  let c0_5107 : Index := 0#32
  ![v8178.toNat, 0, 0]

def k0_chk425 (v8061 : BitVec 32) : Prop :=
  (∀ a, (k0_off1221 v8061) a + S1x1x512.size a ≤ S784x8x512.size a) ∧
  (∀ a, (k0_off1236 v8061) a + S1x1x512.size a ≤ S784x8x512.size a)
theorem k0_off1221_inb : ∀ (v8061 : BitVec 32) (k0_hw425 : k0_chk425 v8061), ∀ a, (k0_off1221 v8061) a + S1x1x512.size a ≤ S784x8x512.size a := fun v8061 k0_hw425 => k0_hw425.1
theorem k0_off1236_inb : ∀ (v8061 : BitVec 32) (k0_hw425 : k0_chk425 v8061), ∀ a, (k0_off1236 v8061) a + S1x1x512.size a ≤ S784x8x512.size a := fun v8061 k0_hw425 => k0_hw425.2

def k0_off1237 (v8076 : BitVec 32) : Fin 3 → Nat :=
  let c1023_i32_5039 : BitVec 32 := 1023#32
  let v8077 : BitVec 32 := Scalar.andi v8076 c1023_i32_5039
  let v8182 : Index := Scalar.indexCast v8077
  let c1_5108 : Index := 1#32
  let c0_5109 : Index := 0#32
  ![v8182.toNat, 1, 0]

def k0_chk426 (v8076 : BitVec 32) : Prop :=
  (∀ a, (k0_off1223 v8076) a + S1x1x512.size a ≤ S784x8x512.size a) ∧
  (∀ a, (k0_off1237 v8076) a + S1x1x512.size a ≤ S784x8x512.size a)
theorem k0_off1223_inb : ∀ (v8076 : BitVec 32) (k0_hw426 : k0_chk426 v8076), ∀ a, (k0_off1223 v8076) a + S1x1x512.size a ≤ S784x8x512.size a := fun v8076 k0_hw426 => k0_hw426.1
theorem k0_off1237_inb : ∀ (v8076 : BitVec 32) (k0_hw426 : k0_chk426 v8076), ∀ a, (k0_off1237 v8076) a + S1x1x512.size a ≤ S784x8x512.size a := fun v8076 k0_hw426 => k0_hw426.2

def k0_off1238 (v8091 : BitVec 32) : Fin 3 → Nat :=
  let c1023_i32_5049 : BitVec 32 := 1023#32
  let v8092 : BitVec 32 := Scalar.andi v8091 c1023_i32_5049
  let v8186 : Index := Scalar.indexCast v8092
  let c2_5110 : Index := 2#32
  let c0_5111 : Index := 0#32
  ![v8186.toNat, 2, 0]

def k0_chk427 (v8091 : BitVec 32) : Prop :=
  (∀ a, (k0_off1225 v8091) a + S1x1x512.size a ≤ S784x8x512.size a) ∧
  (∀ a, (k0_off1238 v8091) a + S1x1x512.size a ≤ S784x8x512.size a)
theorem k0_off1225_inb : ∀ (v8091 : BitVec 32) (k0_hw427 : k0_chk427 v8091), ∀ a, (k0_off1225 v8091) a + S1x1x512.size a ≤ S784x8x512.size a := fun v8091 k0_hw427 => k0_hw427.1
theorem k0_off1238_inb : ∀ (v8091 : BitVec 32) (k0_hw427 : k0_chk427 v8091), ∀ a, (k0_off1238 v8091) a + S1x1x512.size a ≤ S784x8x512.size a := fun v8091 k0_hw427 => k0_hw427.2

def k0_off1239 (v8106 : BitVec 32) : Fin 3 → Nat :=
  let c1023_i32_5059 : BitVec 32 := 1023#32
  let v8107 : BitVec 32 := Scalar.andi v8106 c1023_i32_5059
  let v8190 : Index := Scalar.indexCast v8107
  let c3_5112 : Index := 3#32
  let c0_5113 : Index := 0#32
  ![v8190.toNat, 3, 0]

def k0_chk428 (v8106 : BitVec 32) : Prop :=
  (∀ a, (k0_off1227 v8106) a + S1x1x512.size a ≤ S784x8x512.size a) ∧
  (∀ a, (k0_off1239 v8106) a + S1x1x512.size a ≤ S784x8x512.size a)
theorem k0_off1227_inb : ∀ (v8106 : BitVec 32) (k0_hw428 : k0_chk428 v8106), ∀ a, (k0_off1227 v8106) a + S1x1x512.size a ≤ S784x8x512.size a := fun v8106 k0_hw428 => k0_hw428.1
theorem k0_off1239_inb : ∀ (v8106 : BitVec 32) (k0_hw428 : k0_chk428 v8106), ∀ a, (k0_off1239 v8106) a + S1x1x512.size a ≤ S784x8x512.size a := fun v8106 k0_hw428 => k0_hw428.2

def k0_off1240 (v8121 : BitVec 32) : Fin 3 → Nat :=
  let c1023_i32_5069 : BitVec 32 := 1023#32
  let v8122 : BitVec 32 := Scalar.andi v8121 c1023_i32_5069
  let v8194 : Index := Scalar.indexCast v8122
  let c4_5114 : Index := 4#32
  let c0_5115 : Index := 0#32
  ![v8194.toNat, 4, 0]

def k0_chk429 (v8121 : BitVec 32) : Prop :=
  (∀ a, (k0_off1229 v8121) a + S1x1x512.size a ≤ S784x8x512.size a) ∧
  (∀ a, (k0_off1240 v8121) a + S1x1x512.size a ≤ S784x8x512.size a)
theorem k0_off1229_inb : ∀ (v8121 : BitVec 32) (k0_hw429 : k0_chk429 v8121), ∀ a, (k0_off1229 v8121) a + S1x1x512.size a ≤ S784x8x512.size a := fun v8121 k0_hw429 => k0_hw429.1
theorem k0_off1240_inb : ∀ (v8121 : BitVec 32) (k0_hw429 : k0_chk429 v8121), ∀ a, (k0_off1240 v8121) a + S1x1x512.size a ≤ S784x8x512.size a := fun v8121 k0_hw429 => k0_hw429.2

def k0_off1241 (v8136 : BitVec 32) : Fin 3 → Nat :=
  let c1023_i32_5079 : BitVec 32 := 1023#32
  let v8137 : BitVec 32 := Scalar.andi v8136 c1023_i32_5079
  let v8198 : Index := Scalar.indexCast v8137
  let c5_5116 : Index := 5#32
  let c0_5117 : Index := 0#32
  ![v8198.toNat, 5, 0]

def k0_chk430 (v8136 : BitVec 32) : Prop :=
  (∀ a, (k0_off1231 v8136) a + S1x1x512.size a ≤ S784x8x512.size a) ∧
  (∀ a, (k0_off1241 v8136) a + S1x1x512.size a ≤ S784x8x512.size a)
theorem k0_off1231_inb : ∀ (v8136 : BitVec 32) (k0_hw430 : k0_chk430 v8136), ∀ a, (k0_off1231 v8136) a + S1x1x512.size a ≤ S784x8x512.size a := fun v8136 k0_hw430 => k0_hw430.1
theorem k0_off1241_inb : ∀ (v8136 : BitVec 32) (k0_hw430 : k0_chk430 v8136), ∀ a, (k0_off1241 v8136) a + S1x1x512.size a ≤ S784x8x512.size a := fun v8136 k0_hw430 => k0_hw430.2

def k0_off1242 (v8151 : BitVec 32) : Fin 3 → Nat :=
  let c1023_i32_5089 : BitVec 32 := 1023#32
  let v8152 : BitVec 32 := Scalar.andi v8151 c1023_i32_5089
  let v8202 : Index := Scalar.indexCast v8152
  let c6_5118 : Index := 6#32
  let c0_5119 : Index := 0#32
  ![v8202.toNat, 6, 0]

def k0_chk431 (v8151 : BitVec 32) : Prop :=
  (∀ a, (k0_off1233 v8151) a + S1x1x512.size a ≤ S784x8x512.size a) ∧
  (∀ a, (k0_off1242 v8151) a + S1x1x512.size a ≤ S784x8x512.size a)
theorem k0_off1233_inb : ∀ (v8151 : BitVec 32) (k0_hw431 : k0_chk431 v8151), ∀ a, (k0_off1233 v8151) a + S1x1x512.size a ≤ S784x8x512.size a := fun v8151 k0_hw431 => k0_hw431.1
theorem k0_off1242_inb : ∀ (v8151 : BitVec 32) (k0_hw431 : k0_chk431 v8151), ∀ a, (k0_off1242 v8151) a + S1x1x512.size a ≤ S784x8x512.size a := fun v8151 k0_hw431 => k0_hw431.2

def k0_off1243 (i : grid0.Coords) : Fin 2 → Nat :=
  let arg0 : BitVec 32 := BitVec.ofNat 32 (i 0).val
  let c8_i32_5122 : BitVec 32 := 8#32
  let v8210 : BitVec 32 := Scalar.muli arg0 c8_i32_5122
  let c0_i32_5123 : BitVec 32 := 0#32
  let v8211 : BitVec 32 := Scalar.addi v8210 c0_i32_5123
  let v8212 : Index := Scalar.indexCast v8211
  let c54 : Index := 54#32
  ![v8212.toNat, 54]
def k0_off1244 (v8213 : BitVec 32) : Fin 3 → Nat :=
  let c1023_i32_5124 : BitVec 32 := 1023#32
  let v8214 : BitVec 32 := Scalar.andi v8213 c1023_i32_5124
  let v8221 : Index := Scalar.indexCast v8214
  let c0_5129 : Index := 0#32
  let c0_5130 : Index := 0#32
  ![v8221.toNat, 0, 0]

def k0_off1245 (i : grid0.Coords) : Fin 2 → Nat :=
  let arg0 : BitVec 32 := BitVec.ofNat 32 (i 0).val
  let c8_i32_5131 : BitVec 32 := 8#32
  let v8225 : BitVec 32 := Scalar.muli arg0 c8_i32_5131
  let c1_i32_5132 : BitVec 32 := 1#32
  let v8226 : BitVec 32 := Scalar.addi v8225 c1_i32_5132
  let v8227 : Index := Scalar.indexCast v8226
  let c54_5133 : Index := 54#32
  ![v8227.toNat, 54]
def k0_off1246 (v8228 : BitVec 32) : Fin 3 → Nat :=
  let c1023_i32_5134 : BitVec 32 := 1023#32
  let v8229 : BitVec 32 := Scalar.andi v8228 c1023_i32_5134
  let v8236 : Index := Scalar.indexCast v8229
  let c1_5139 : Index := 1#32
  let c0_5140 : Index := 0#32
  ![v8236.toNat, 1, 0]

def k0_off1247 (i : grid0.Coords) : Fin 2 → Nat :=
  let arg0 : BitVec 32 := BitVec.ofNat 32 (i 0).val
  let c8_i32_5141 : BitVec 32 := 8#32
  let v8240 : BitVec 32 := Scalar.muli arg0 c8_i32_5141
  let c2_i32_5142 : BitVec 32 := 2#32
  let v8241 : BitVec 32 := Scalar.addi v8240 c2_i32_5142
  let v8242 : Index := Scalar.indexCast v8241
  let c54_5143 : Index := 54#32
  ![v8242.toNat, 54]
def k0_off1248 (v8243 : BitVec 32) : Fin 3 → Nat :=
  let c1023_i32_5144 : BitVec 32 := 1023#32
  let v8244 : BitVec 32 := Scalar.andi v8243 c1023_i32_5144
  let v8251 : Index := Scalar.indexCast v8244
  let c2_5149 : Index := 2#32
  let c0_5150 : Index := 0#32
  ![v8251.toNat, 2, 0]

def k0_off1249 (i : grid0.Coords) : Fin 2 → Nat :=
  let arg0 : BitVec 32 := BitVec.ofNat 32 (i 0).val
  let c8_i32_5151 : BitVec 32 := 8#32
  let v8255 : BitVec 32 := Scalar.muli arg0 c8_i32_5151
  let c3_i32_5152 : BitVec 32 := 3#32
  let v8256 : BitVec 32 := Scalar.addi v8255 c3_i32_5152
  let v8257 : Index := Scalar.indexCast v8256
  let c54_5153 : Index := 54#32
  ![v8257.toNat, 54]
def k0_off1250 (v8258 : BitVec 32) : Fin 3 → Nat :=
  let c1023_i32_5154 : BitVec 32 := 1023#32
  let v8259 : BitVec 32 := Scalar.andi v8258 c1023_i32_5154
  let v8266 : Index := Scalar.indexCast v8259
  let c3_5159 : Index := 3#32
  let c0_5160 : Index := 0#32
  ![v8266.toNat, 3, 0]

def k0_off1251 (i : grid0.Coords) : Fin 2 → Nat :=
  let arg0 : BitVec 32 := BitVec.ofNat 32 (i 0).val
  let c8_i32_5161 : BitVec 32 := 8#32
  let v8270 : BitVec 32 := Scalar.muli arg0 c8_i32_5161
  let c4_i32_5162 : BitVec 32 := 4#32
  let v8271 : BitVec 32 := Scalar.addi v8270 c4_i32_5162
  let v8272 : Index := Scalar.indexCast v8271
  let c54_5163 : Index := 54#32
  ![v8272.toNat, 54]
def k0_off1252 (v8273 : BitVec 32) : Fin 3 → Nat :=
  let c1023_i32_5164 : BitVec 32 := 1023#32
  let v8274 : BitVec 32 := Scalar.andi v8273 c1023_i32_5164
  let v8281 : Index := Scalar.indexCast v8274
  let c4_5169 : Index := 4#32
  let c0_5170 : Index := 0#32
  ![v8281.toNat, 4, 0]

def k0_off1253 (i : grid0.Coords) : Fin 2 → Nat :=
  let arg0 : BitVec 32 := BitVec.ofNat 32 (i 0).val
  let c8_i32_5171 : BitVec 32 := 8#32
  let v8285 : BitVec 32 := Scalar.muli arg0 c8_i32_5171
  let c5_i32_5172 : BitVec 32 := 5#32
  let v8286 : BitVec 32 := Scalar.addi v8285 c5_i32_5172
  let v8287 : Index := Scalar.indexCast v8286
  let c54_5173 : Index := 54#32
  ![v8287.toNat, 54]
def k0_off1254 (v8288 : BitVec 32) : Fin 3 → Nat :=
  let c1023_i32_5174 : BitVec 32 := 1023#32
  let v8289 : BitVec 32 := Scalar.andi v8288 c1023_i32_5174
  let v8296 : Index := Scalar.indexCast v8289
  let c5_5179 : Index := 5#32
  let c0_5180 : Index := 0#32
  ![v8296.toNat, 5, 0]

def k0_off1255 (i : grid0.Coords) : Fin 2 → Nat :=
  let arg0 : BitVec 32 := BitVec.ofNat 32 (i 0).val
  let c8_i32_5181 : BitVec 32 := 8#32
  let v8300 : BitVec 32 := Scalar.muli arg0 c8_i32_5181
  let c6_i32_5182 : BitVec 32 := 6#32
  let v8301 : BitVec 32 := Scalar.addi v8300 c6_i32_5182
  let v8302 : Index := Scalar.indexCast v8301
  let c54_5183 : Index := 54#32
  ![v8302.toNat, 54]
def k0_off1256 (v8303 : BitVec 32) : Fin 3 → Nat :=
  let c1023_i32_5184 : BitVec 32 := 1023#32
  let v8304 : BitVec 32 := Scalar.andi v8303 c1023_i32_5184
  let v8311 : Index := Scalar.indexCast v8304
  let c6_5189 : Index := 6#32
  let c0_5190 : Index := 0#32
  ![v8311.toNat, 6, 0]

def k0_off1257 (i : grid0.Coords) : Fin 2 → Nat :=
  let arg0 : BitVec 32 := BitVec.ofNat 32 (i 0).val
  let c8_i32_5191 : BitVec 32 := 8#32
  let v8315 : BitVec 32 := Scalar.muli arg0 c8_i32_5191
  let c7_i32_5192 : BitVec 32 := 7#32
  let v8316 : BitVec 32 := Scalar.addi v8315 c7_i32_5192
  let v8317 : Index := Scalar.indexCast v8316
  let c54_5193 : Index := 54#32
  ![v8317.toNat, 54]
def k0_off1258 (v8318 : BitVec 32) : Fin 3 → Nat :=
  let c1023_i32_5194 : BitVec 32 := 1023#32
  let v8319 : BitVec 32 := Scalar.andi v8318 c1023_i32_5194
  let v8326 : Index := Scalar.indexCast v8319
  let c7_5199 : Index := 7#32
  let c0_5200 : Index := 0#32
  ![v8326.toNat, 7, 0]

def k0_chk440 (v8318 : BitVec 32) : Prop :=
  (∀ a, (k0_off1258 v8318) a + S1x1x512.size a ≤ S784x8x512.size a)
theorem k0_off1258_inb : ∀ (v8318 : BitVec 32) (k0_hw440 : k0_chk440 v8318), ∀ a, (k0_off1258 v8318) a + S1x1x512.size a ≤ S784x8x512.size a := fun v8318 k0_hw440 => k0_hw440

def k0_off1259 (v8213 : BitVec 32) : Fin 3 → Nat :=
  let c1023_i32_5124 : BitVec 32 := 1023#32
  let v8214 : BitVec 32 := Scalar.andi v8213 c1023_i32_5124
  let v8330 : Index := Scalar.indexCast v8214
  let c0_5201 : Index := 0#32
  let c0_5202 : Index := 0#32
  ![v8330.toNat, 0, 0]

def k0_chk433 (v8213 : BitVec 32) : Prop :=
  (∀ a, (k0_off1244 v8213) a + S1x1x512.size a ≤ S784x8x512.size a) ∧
  (∀ a, (k0_off1259 v8213) a + S1x1x512.size a ≤ S784x8x512.size a)
theorem k0_off1244_inb : ∀ (v8213 : BitVec 32) (k0_hw433 : k0_chk433 v8213), ∀ a, (k0_off1244 v8213) a + S1x1x512.size a ≤ S784x8x512.size a := fun v8213 k0_hw433 => k0_hw433.1
theorem k0_off1259_inb : ∀ (v8213 : BitVec 32) (k0_hw433 : k0_chk433 v8213), ∀ a, (k0_off1259 v8213) a + S1x1x512.size a ≤ S784x8x512.size a := fun v8213 k0_hw433 => k0_hw433.2

def k0_off1260 (v8228 : BitVec 32) : Fin 3 → Nat :=
  let c1023_i32_5134 : BitVec 32 := 1023#32
  let v8229 : BitVec 32 := Scalar.andi v8228 c1023_i32_5134
  let v8334 : Index := Scalar.indexCast v8229
  let c1_5203 : Index := 1#32
  let c0_5204 : Index := 0#32
  ![v8334.toNat, 1, 0]

def k0_chk434 (v8228 : BitVec 32) : Prop :=
  (∀ a, (k0_off1246 v8228) a + S1x1x512.size a ≤ S784x8x512.size a) ∧
  (∀ a, (k0_off1260 v8228) a + S1x1x512.size a ≤ S784x8x512.size a)
theorem k0_off1246_inb : ∀ (v8228 : BitVec 32) (k0_hw434 : k0_chk434 v8228), ∀ a, (k0_off1246 v8228) a + S1x1x512.size a ≤ S784x8x512.size a := fun v8228 k0_hw434 => k0_hw434.1
theorem k0_off1260_inb : ∀ (v8228 : BitVec 32) (k0_hw434 : k0_chk434 v8228), ∀ a, (k0_off1260 v8228) a + S1x1x512.size a ≤ S784x8x512.size a := fun v8228 k0_hw434 => k0_hw434.2

def k0_off1261 (v8243 : BitVec 32) : Fin 3 → Nat :=
  let c1023_i32_5144 : BitVec 32 := 1023#32
  let v8244 : BitVec 32 := Scalar.andi v8243 c1023_i32_5144
  let v8338 : Index := Scalar.indexCast v8244
  let c2_5205 : Index := 2#32
  let c0_5206 : Index := 0#32
  ![v8338.toNat, 2, 0]

def k0_chk435 (v8243 : BitVec 32) : Prop :=
  (∀ a, (k0_off1248 v8243) a + S1x1x512.size a ≤ S784x8x512.size a) ∧
  (∀ a, (k0_off1261 v8243) a + S1x1x512.size a ≤ S784x8x512.size a)
theorem k0_off1248_inb : ∀ (v8243 : BitVec 32) (k0_hw435 : k0_chk435 v8243), ∀ a, (k0_off1248 v8243) a + S1x1x512.size a ≤ S784x8x512.size a := fun v8243 k0_hw435 => k0_hw435.1
theorem k0_off1261_inb : ∀ (v8243 : BitVec 32) (k0_hw435 : k0_chk435 v8243), ∀ a, (k0_off1261 v8243) a + S1x1x512.size a ≤ S784x8x512.size a := fun v8243 k0_hw435 => k0_hw435.2

def k0_off1262 (v8258 : BitVec 32) : Fin 3 → Nat :=
  let c1023_i32_5154 : BitVec 32 := 1023#32
  let v8259 : BitVec 32 := Scalar.andi v8258 c1023_i32_5154
  let v8342 : Index := Scalar.indexCast v8259
  let c3_5207 : Index := 3#32
  let c0_5208 : Index := 0#32
  ![v8342.toNat, 3, 0]

def k0_chk436 (v8258 : BitVec 32) : Prop :=
  (∀ a, (k0_off1250 v8258) a + S1x1x512.size a ≤ S784x8x512.size a) ∧
  (∀ a, (k0_off1262 v8258) a + S1x1x512.size a ≤ S784x8x512.size a)
theorem k0_off1250_inb : ∀ (v8258 : BitVec 32) (k0_hw436 : k0_chk436 v8258), ∀ a, (k0_off1250 v8258) a + S1x1x512.size a ≤ S784x8x512.size a := fun v8258 k0_hw436 => k0_hw436.1
theorem k0_off1262_inb : ∀ (v8258 : BitVec 32) (k0_hw436 : k0_chk436 v8258), ∀ a, (k0_off1262 v8258) a + S1x1x512.size a ≤ S784x8x512.size a := fun v8258 k0_hw436 => k0_hw436.2

def k0_off1263 (v8273 : BitVec 32) : Fin 3 → Nat :=
  let c1023_i32_5164 : BitVec 32 := 1023#32
  let v8274 : BitVec 32 := Scalar.andi v8273 c1023_i32_5164
  let v8346 : Index := Scalar.indexCast v8274
  let c4_5209 : Index := 4#32
  let c0_5210 : Index := 0#32
  ![v8346.toNat, 4, 0]

def k0_chk437 (v8273 : BitVec 32) : Prop :=
  (∀ a, (k0_off1252 v8273) a + S1x1x512.size a ≤ S784x8x512.size a) ∧
  (∀ a, (k0_off1263 v8273) a + S1x1x512.size a ≤ S784x8x512.size a)
theorem k0_off1252_inb : ∀ (v8273 : BitVec 32) (k0_hw437 : k0_chk437 v8273), ∀ a, (k0_off1252 v8273) a + S1x1x512.size a ≤ S784x8x512.size a := fun v8273 k0_hw437 => k0_hw437.1
theorem k0_off1263_inb : ∀ (v8273 : BitVec 32) (k0_hw437 : k0_chk437 v8273), ∀ a, (k0_off1263 v8273) a + S1x1x512.size a ≤ S784x8x512.size a := fun v8273 k0_hw437 => k0_hw437.2

def k0_off1264 (v8288 : BitVec 32) : Fin 3 → Nat :=
  let c1023_i32_5174 : BitVec 32 := 1023#32
  let v8289 : BitVec 32 := Scalar.andi v8288 c1023_i32_5174
  let v8350 : Index := Scalar.indexCast v8289
  let c5_5211 : Index := 5#32
  let c0_5212 : Index := 0#32
  ![v8350.toNat, 5, 0]

def k0_chk438 (v8288 : BitVec 32) : Prop :=
  (∀ a, (k0_off1254 v8288) a + S1x1x512.size a ≤ S784x8x512.size a) ∧
  (∀ a, (k0_off1264 v8288) a + S1x1x512.size a ≤ S784x8x512.size a)
theorem k0_off1254_inb : ∀ (v8288 : BitVec 32) (k0_hw438 : k0_chk438 v8288), ∀ a, (k0_off1254 v8288) a + S1x1x512.size a ≤ S784x8x512.size a := fun v8288 k0_hw438 => k0_hw438.1
theorem k0_off1264_inb : ∀ (v8288 : BitVec 32) (k0_hw438 : k0_chk438 v8288), ∀ a, (k0_off1264 v8288) a + S1x1x512.size a ≤ S784x8x512.size a := fun v8288 k0_hw438 => k0_hw438.2

def k0_off1265 (v8303 : BitVec 32) : Fin 3 → Nat :=
  let c1023_i32_5184 : BitVec 32 := 1023#32
  let v8304 : BitVec 32 := Scalar.andi v8303 c1023_i32_5184
  let v8354 : Index := Scalar.indexCast v8304
  let c6_5213 : Index := 6#32
  let c0_5214 : Index := 0#32
  ![v8354.toNat, 6, 0]

def k0_chk439 (v8303 : BitVec 32) : Prop :=
  (∀ a, (k0_off1256 v8303) a + S1x1x512.size a ≤ S784x8x512.size a) ∧
  (∀ a, (k0_off1265 v8303) a + S1x1x512.size a ≤ S784x8x512.size a)
theorem k0_off1256_inb : ∀ (v8303 : BitVec 32) (k0_hw439 : k0_chk439 v8303), ∀ a, (k0_off1256 v8303) a + S1x1x512.size a ≤ S784x8x512.size a := fun v8303 k0_hw439 => k0_hw439.1
theorem k0_off1265_inb : ∀ (v8303 : BitVec 32) (k0_hw439 : k0_chk439 v8303), ∀ a, (k0_off1265 v8303) a + S1x1x512.size a ≤ S784x8x512.size a := fun v8303 k0_hw439 => k0_hw439.2

def k0_off1266 (i : grid0.Coords) : Fin 2 → Nat :=
  let arg0 : BitVec 32 := BitVec.ofNat 32 (i 0).val
  let c8_i32_5217 : BitVec 32 := 8#32
  let v8362 : BitVec 32 := Scalar.muli arg0 c8_i32_5217
  let c0_i32_5218 : BitVec 32 := 0#32
  let v8363 : BitVec 32 := Scalar.addi v8362 c0_i32_5218
  let v8364 : Index := Scalar.indexCast v8363
  let c55 : Index := 55#32
  ![v8364.toNat, 55]
def k0_off1267 (v8365 : BitVec 32) : Fin 3 → Nat :=
  let c1023_i32_5219 : BitVec 32 := 1023#32
  let v8366 : BitVec 32 := Scalar.andi v8365 c1023_i32_5219
  let v8373 : Index := Scalar.indexCast v8366
  let c0_5224 : Index := 0#32
  let c0_5225 : Index := 0#32
  ![v8373.toNat, 0, 0]

def k0_off1268 (i : grid0.Coords) : Fin 2 → Nat :=
  let arg0 : BitVec 32 := BitVec.ofNat 32 (i 0).val
  let c8_i32_5226 : BitVec 32 := 8#32
  let v8377 : BitVec 32 := Scalar.muli arg0 c8_i32_5226
  let c1_i32_5227 : BitVec 32 := 1#32
  let v8378 : BitVec 32 := Scalar.addi v8377 c1_i32_5227
  let v8379 : Index := Scalar.indexCast v8378
  let c55_5228 : Index := 55#32
  ![v8379.toNat, 55]
def k0_off1269 (v8380 : BitVec 32) : Fin 3 → Nat :=
  let c1023_i32_5229 : BitVec 32 := 1023#32
  let v8381 : BitVec 32 := Scalar.andi v8380 c1023_i32_5229
  let v8388 : Index := Scalar.indexCast v8381
  let c1_5234 : Index := 1#32
  let c0_5235 : Index := 0#32
  ![v8388.toNat, 1, 0]

def k0_off1270 (i : grid0.Coords) : Fin 2 → Nat :=
  let arg0 : BitVec 32 := BitVec.ofNat 32 (i 0).val
  let c8_i32_5236 : BitVec 32 := 8#32
  let v8392 : BitVec 32 := Scalar.muli arg0 c8_i32_5236
  let c2_i32_5237 : BitVec 32 := 2#32
  let v8393 : BitVec 32 := Scalar.addi v8392 c2_i32_5237
  let v8394 : Index := Scalar.indexCast v8393
  let c55_5238 : Index := 55#32
  ![v8394.toNat, 55]
def k0_off1271 (v8395 : BitVec 32) : Fin 3 → Nat :=
  let c1023_i32_5239 : BitVec 32 := 1023#32
  let v8396 : BitVec 32 := Scalar.andi v8395 c1023_i32_5239
  let v8403 : Index := Scalar.indexCast v8396
  let c2_5244 : Index := 2#32
  let c0_5245 : Index := 0#32
  ![v8403.toNat, 2, 0]

def k0_off1272 (i : grid0.Coords) : Fin 2 → Nat :=
  let arg0 : BitVec 32 := BitVec.ofNat 32 (i 0).val
  let c8_i32_5246 : BitVec 32 := 8#32
  let v8407 : BitVec 32 := Scalar.muli arg0 c8_i32_5246
  let c3_i32_5247 : BitVec 32 := 3#32
  let v8408 : BitVec 32 := Scalar.addi v8407 c3_i32_5247
  let v8409 : Index := Scalar.indexCast v8408
  let c55_5248 : Index := 55#32
  ![v8409.toNat, 55]
def k0_off1273 (v8410 : BitVec 32) : Fin 3 → Nat :=
  let c1023_i32_5249 : BitVec 32 := 1023#32
  let v8411 : BitVec 32 := Scalar.andi v8410 c1023_i32_5249
  let v8418 : Index := Scalar.indexCast v8411
  let c3_5254 : Index := 3#32
  let c0_5255 : Index := 0#32
  ![v8418.toNat, 3, 0]

def k0_off1274 (i : grid0.Coords) : Fin 2 → Nat :=
  let arg0 : BitVec 32 := BitVec.ofNat 32 (i 0).val
  let c8_i32_5256 : BitVec 32 := 8#32
  let v8422 : BitVec 32 := Scalar.muli arg0 c8_i32_5256
  let c4_i32_5257 : BitVec 32 := 4#32
  let v8423 : BitVec 32 := Scalar.addi v8422 c4_i32_5257
  let v8424 : Index := Scalar.indexCast v8423
  let c55_5258 : Index := 55#32
  ![v8424.toNat, 55]
def k0_off1275 (v8425 : BitVec 32) : Fin 3 → Nat :=
  let c1023_i32_5259 : BitVec 32 := 1023#32
  let v8426 : BitVec 32 := Scalar.andi v8425 c1023_i32_5259
  let v8433 : Index := Scalar.indexCast v8426
  let c4_5264 : Index := 4#32
  let c0_5265 : Index := 0#32
  ![v8433.toNat, 4, 0]

def k0_off1276 (i : grid0.Coords) : Fin 2 → Nat :=
  let arg0 : BitVec 32 := BitVec.ofNat 32 (i 0).val
  let c8_i32_5266 : BitVec 32 := 8#32
  let v8437 : BitVec 32 := Scalar.muli arg0 c8_i32_5266
  let c5_i32_5267 : BitVec 32 := 5#32
  let v8438 : BitVec 32 := Scalar.addi v8437 c5_i32_5267
  let v8439 : Index := Scalar.indexCast v8438
  let c55_5268 : Index := 55#32
  ![v8439.toNat, 55]
def k0_off1277 (v8440 : BitVec 32) : Fin 3 → Nat :=
  let c1023_i32_5269 : BitVec 32 := 1023#32
  let v8441 : BitVec 32 := Scalar.andi v8440 c1023_i32_5269
  let v8448 : Index := Scalar.indexCast v8441
  let c5_5274 : Index := 5#32
  let c0_5275 : Index := 0#32
  ![v8448.toNat, 5, 0]

def k0_off1278 (i : grid0.Coords) : Fin 2 → Nat :=
  let arg0 : BitVec 32 := BitVec.ofNat 32 (i 0).val
  let c8_i32_5276 : BitVec 32 := 8#32
  let v8452 : BitVec 32 := Scalar.muli arg0 c8_i32_5276
  let c6_i32_5277 : BitVec 32 := 6#32
  let v8453 : BitVec 32 := Scalar.addi v8452 c6_i32_5277
  let v8454 : Index := Scalar.indexCast v8453
  let c55_5278 : Index := 55#32
  ![v8454.toNat, 55]
def k0_off1279 (v8455 : BitVec 32) : Fin 3 → Nat :=
  let c1023_i32_5279 : BitVec 32 := 1023#32
  let v8456 : BitVec 32 := Scalar.andi v8455 c1023_i32_5279
  let v8463 : Index := Scalar.indexCast v8456
  let c6_5284 : Index := 6#32
  let c0_5285 : Index := 0#32
  ![v8463.toNat, 6, 0]

def k0_off1280 (i : grid0.Coords) : Fin 2 → Nat :=
  let arg0 : BitVec 32 := BitVec.ofNat 32 (i 0).val
  let c8_i32_5286 : BitVec 32 := 8#32
  let v8467 : BitVec 32 := Scalar.muli arg0 c8_i32_5286
  let c7_i32_5287 : BitVec 32 := 7#32
  let v8468 : BitVec 32 := Scalar.addi v8467 c7_i32_5287
  let v8469 : Index := Scalar.indexCast v8468
  let c55_5288 : Index := 55#32
  ![v8469.toNat, 55]
def k0_off1281 (v8470 : BitVec 32) : Fin 3 → Nat :=
  let c1023_i32_5289 : BitVec 32 := 1023#32
  let v8471 : BitVec 32 := Scalar.andi v8470 c1023_i32_5289
  let v8478 : Index := Scalar.indexCast v8471
  let c7_5294 : Index := 7#32
  let c0_5295 : Index := 0#32
  ![v8478.toNat, 7, 0]

def k0_chk448 (v8470 : BitVec 32) : Prop :=
  (∀ a, (k0_off1281 v8470) a + S1x1x512.size a ≤ S784x8x512.size a)
theorem k0_off1281_inb : ∀ (v8470 : BitVec 32) (k0_hw448 : k0_chk448 v8470), ∀ a, (k0_off1281 v8470) a + S1x1x512.size a ≤ S784x8x512.size a := fun v8470 k0_hw448 => k0_hw448

def k0_off1282 (v8365 : BitVec 32) : Fin 3 → Nat :=
  let c1023_i32_5219 : BitVec 32 := 1023#32
  let v8366 : BitVec 32 := Scalar.andi v8365 c1023_i32_5219
  let v8482 : Index := Scalar.indexCast v8366
  let c0_5296 : Index := 0#32
  let c0_5297 : Index := 0#32
  ![v8482.toNat, 0, 0]

def k0_chk441 (v8365 : BitVec 32) : Prop :=
  (∀ a, (k0_off1267 v8365) a + S1x1x512.size a ≤ S784x8x512.size a) ∧
  (∀ a, (k0_off1282 v8365) a + S1x1x512.size a ≤ S784x8x512.size a)
theorem k0_off1267_inb : ∀ (v8365 : BitVec 32) (k0_hw441 : k0_chk441 v8365), ∀ a, (k0_off1267 v8365) a + S1x1x512.size a ≤ S784x8x512.size a := fun v8365 k0_hw441 => k0_hw441.1
theorem k0_off1282_inb : ∀ (v8365 : BitVec 32) (k0_hw441 : k0_chk441 v8365), ∀ a, (k0_off1282 v8365) a + S1x1x512.size a ≤ S784x8x512.size a := fun v8365 k0_hw441 => k0_hw441.2

def k0_off1283 (v8380 : BitVec 32) : Fin 3 → Nat :=
  let c1023_i32_5229 : BitVec 32 := 1023#32
  let v8381 : BitVec 32 := Scalar.andi v8380 c1023_i32_5229
  let v8486 : Index := Scalar.indexCast v8381
  let c1_5298 : Index := 1#32
  let c0_5299 : Index := 0#32
  ![v8486.toNat, 1, 0]

def k0_chk442 (v8380 : BitVec 32) : Prop :=
  (∀ a, (k0_off1269 v8380) a + S1x1x512.size a ≤ S784x8x512.size a) ∧
  (∀ a, (k0_off1283 v8380) a + S1x1x512.size a ≤ S784x8x512.size a)
theorem k0_off1269_inb : ∀ (v8380 : BitVec 32) (k0_hw442 : k0_chk442 v8380), ∀ a, (k0_off1269 v8380) a + S1x1x512.size a ≤ S784x8x512.size a := fun v8380 k0_hw442 => k0_hw442.1
theorem k0_off1283_inb : ∀ (v8380 : BitVec 32) (k0_hw442 : k0_chk442 v8380), ∀ a, (k0_off1283 v8380) a + S1x1x512.size a ≤ S784x8x512.size a := fun v8380 k0_hw442 => k0_hw442.2

def k0_off1284 (v8395 : BitVec 32) : Fin 3 → Nat :=
  let c1023_i32_5239 : BitVec 32 := 1023#32
  let v8396 : BitVec 32 := Scalar.andi v8395 c1023_i32_5239
  let v8490 : Index := Scalar.indexCast v8396
  let c2_5300 : Index := 2#32
  let c0_5301 : Index := 0#32
  ![v8490.toNat, 2, 0]

def k0_chk443 (v8395 : BitVec 32) : Prop :=
  (∀ a, (k0_off1271 v8395) a + S1x1x512.size a ≤ S784x8x512.size a) ∧
  (∀ a, (k0_off1284 v8395) a + S1x1x512.size a ≤ S784x8x512.size a)
theorem k0_off1271_inb : ∀ (v8395 : BitVec 32) (k0_hw443 : k0_chk443 v8395), ∀ a, (k0_off1271 v8395) a + S1x1x512.size a ≤ S784x8x512.size a := fun v8395 k0_hw443 => k0_hw443.1
theorem k0_off1284_inb : ∀ (v8395 : BitVec 32) (k0_hw443 : k0_chk443 v8395), ∀ a, (k0_off1284 v8395) a + S1x1x512.size a ≤ S784x8x512.size a := fun v8395 k0_hw443 => k0_hw443.2

def k0_off1285 (v8410 : BitVec 32) : Fin 3 → Nat :=
  let c1023_i32_5249 : BitVec 32 := 1023#32
  let v8411 : BitVec 32 := Scalar.andi v8410 c1023_i32_5249
  let v8494 : Index := Scalar.indexCast v8411
  let c3_5302 : Index := 3#32
  let c0_5303 : Index := 0#32
  ![v8494.toNat, 3, 0]

def k0_chk444 (v8410 : BitVec 32) : Prop :=
  (∀ a, (k0_off1273 v8410) a + S1x1x512.size a ≤ S784x8x512.size a) ∧
  (∀ a, (k0_off1285 v8410) a + S1x1x512.size a ≤ S784x8x512.size a)
theorem k0_off1273_inb : ∀ (v8410 : BitVec 32) (k0_hw444 : k0_chk444 v8410), ∀ a, (k0_off1273 v8410) a + S1x1x512.size a ≤ S784x8x512.size a := fun v8410 k0_hw444 => k0_hw444.1
theorem k0_off1285_inb : ∀ (v8410 : BitVec 32) (k0_hw444 : k0_chk444 v8410), ∀ a, (k0_off1285 v8410) a + S1x1x512.size a ≤ S784x8x512.size a := fun v8410 k0_hw444 => k0_hw444.2

def k0_off1286 (v8425 : BitVec 32) : Fin 3 → Nat :=
  let c1023_i32_5259 : BitVec 32 := 1023#32
  let v8426 : BitVec 32 := Scalar.andi v8425 c1023_i32_5259
  let v8498 : Index := Scalar.indexCast v8426
  let c4_5304 : Index := 4#32
  let c0_5305 : Index := 0#32
  ![v8498.toNat, 4, 0]

def k0_chk445 (v8425 : BitVec 32) : Prop :=
  (∀ a, (k0_off1275 v8425) a + S1x1x512.size a ≤ S784x8x512.size a) ∧
  (∀ a, (k0_off1286 v8425) a + S1x1x512.size a ≤ S784x8x512.size a)
theorem k0_off1275_inb : ∀ (v8425 : BitVec 32) (k0_hw445 : k0_chk445 v8425), ∀ a, (k0_off1275 v8425) a + S1x1x512.size a ≤ S784x8x512.size a := fun v8425 k0_hw445 => k0_hw445.1
theorem k0_off1286_inb : ∀ (v8425 : BitVec 32) (k0_hw445 : k0_chk445 v8425), ∀ a, (k0_off1286 v8425) a + S1x1x512.size a ≤ S784x8x512.size a := fun v8425 k0_hw445 => k0_hw445.2

def k0_off1287 (v8440 : BitVec 32) : Fin 3 → Nat :=
  let c1023_i32_5269 : BitVec 32 := 1023#32
  let v8441 : BitVec 32 := Scalar.andi v8440 c1023_i32_5269
  let v8502 : Index := Scalar.indexCast v8441
  let c5_5306 : Index := 5#32
  let c0_5307 : Index := 0#32
  ![v8502.toNat, 5, 0]

def k0_chk446 (v8440 : BitVec 32) : Prop :=
  (∀ a, (k0_off1277 v8440) a + S1x1x512.size a ≤ S784x8x512.size a) ∧
  (∀ a, (k0_off1287 v8440) a + S1x1x512.size a ≤ S784x8x512.size a)
theorem k0_off1277_inb : ∀ (v8440 : BitVec 32) (k0_hw446 : k0_chk446 v8440), ∀ a, (k0_off1277 v8440) a + S1x1x512.size a ≤ S784x8x512.size a := fun v8440 k0_hw446 => k0_hw446.1
theorem k0_off1287_inb : ∀ (v8440 : BitVec 32) (k0_hw446 : k0_chk446 v8440), ∀ a, (k0_off1287 v8440) a + S1x1x512.size a ≤ S784x8x512.size a := fun v8440 k0_hw446 => k0_hw446.2

def k0_off1288 (v8455 : BitVec 32) : Fin 3 → Nat :=
  let c1023_i32_5279 : BitVec 32 := 1023#32
  let v8456 : BitVec 32 := Scalar.andi v8455 c1023_i32_5279
  let v8506 : Index := Scalar.indexCast v8456
  let c6_5308 : Index := 6#32
  let c0_5309 : Index := 0#32
  ![v8506.toNat, 6, 0]

def k0_chk447 (v8455 : BitVec 32) : Prop :=
  (∀ a, (k0_off1279 v8455) a + S1x1x512.size a ≤ S784x8x512.size a) ∧
  (∀ a, (k0_off1288 v8455) a + S1x1x512.size a ≤ S784x8x512.size a)
theorem k0_off1279_inb : ∀ (v8455 : BitVec 32) (k0_hw447 : k0_chk447 v8455), ∀ a, (k0_off1279 v8455) a + S1x1x512.size a ≤ S784x8x512.size a := fun v8455 k0_hw447 => k0_hw447.1
theorem k0_off1288_inb : ∀ (v8455 : BitVec 32) (k0_hw447 : k0_chk447 v8455), ∀ a, (k0_off1288 v8455) a + S1x1x512.size a ≤ S784x8x512.size a := fun v8455 k0_hw447 => k0_hw447.2

def k0_off1289 (i : grid0.Coords) : Fin 2 → Nat :=
  let arg0 : BitVec 32 := BitVec.ofNat 32 (i 0).val
  let c8_i32_5312 : BitVec 32 := 8#32
  let v8514 : BitVec 32 := Scalar.muli arg0 c8_i32_5312
  let c0_i32_5313 : BitVec 32 := 0#32
  let v8515 : BitVec 32 := Scalar.addi v8514 c0_i32_5313
  let v8516 : Index := Scalar.indexCast v8515
  let c56 : Index := 56#32
  ![v8516.toNat, 56]
def k0_off1290 (v8517 : BitVec 32) : Fin 3 → Nat :=
  let c1023_i32_5314 : BitVec 32 := 1023#32
  let v8518 : BitVec 32 := Scalar.andi v8517 c1023_i32_5314
  let v8525 : Index := Scalar.indexCast v8518
  let c0_5319 : Index := 0#32
  let c0_5320 : Index := 0#32
  ![v8525.toNat, 0, 0]

def k0_off1291 (i : grid0.Coords) : Fin 2 → Nat :=
  let arg0 : BitVec 32 := BitVec.ofNat 32 (i 0).val
  let c8_i32_5321 : BitVec 32 := 8#32
  let v8529 : BitVec 32 := Scalar.muli arg0 c8_i32_5321
  let c1_i32_5322 : BitVec 32 := 1#32
  let v8530 : BitVec 32 := Scalar.addi v8529 c1_i32_5322
  let v8531 : Index := Scalar.indexCast v8530
  let c56_5323 : Index := 56#32
  ![v8531.toNat, 56]
def k0_off1292 (v8532 : BitVec 32) : Fin 3 → Nat :=
  let c1023_i32_5324 : BitVec 32 := 1023#32
  let v8533 : BitVec 32 := Scalar.andi v8532 c1023_i32_5324
  let v8540 : Index := Scalar.indexCast v8533
  let c1_5329 : Index := 1#32
  let c0_5330 : Index := 0#32
  ![v8540.toNat, 1, 0]

def k0_off1293 (i : grid0.Coords) : Fin 2 → Nat :=
  let arg0 : BitVec 32 := BitVec.ofNat 32 (i 0).val
  let c8_i32_5331 : BitVec 32 := 8#32
  let v8544 : BitVec 32 := Scalar.muli arg0 c8_i32_5331
  let c2_i32_5332 : BitVec 32 := 2#32
  let v8545 : BitVec 32 := Scalar.addi v8544 c2_i32_5332
  let v8546 : Index := Scalar.indexCast v8545
  let c56_5333 : Index := 56#32
  ![v8546.toNat, 56]
def k0_off1294 (v8547 : BitVec 32) : Fin 3 → Nat :=
  let c1023_i32_5334 : BitVec 32 := 1023#32
  let v8548 : BitVec 32 := Scalar.andi v8547 c1023_i32_5334
  let v8555 : Index := Scalar.indexCast v8548
  let c2_5339 : Index := 2#32
  let c0_5340 : Index := 0#32
  ![v8555.toNat, 2, 0]

def k0_off1295 (i : grid0.Coords) : Fin 2 → Nat :=
  let arg0 : BitVec 32 := BitVec.ofNat 32 (i 0).val
  let c8_i32_5341 : BitVec 32 := 8#32
  let v8559 : BitVec 32 := Scalar.muli arg0 c8_i32_5341
  let c3_i32_5342 : BitVec 32 := 3#32
  let v8560 : BitVec 32 := Scalar.addi v8559 c3_i32_5342
  let v8561 : Index := Scalar.indexCast v8560
  let c56_5343 : Index := 56#32
  ![v8561.toNat, 56]
def k0_off1296 (v8562 : BitVec 32) : Fin 3 → Nat :=
  let c1023_i32_5344 : BitVec 32 := 1023#32
  let v8563 : BitVec 32 := Scalar.andi v8562 c1023_i32_5344
  let v8570 : Index := Scalar.indexCast v8563
  let c3_5349 : Index := 3#32
  let c0_5350 : Index := 0#32
  ![v8570.toNat, 3, 0]

def k0_off1297 (i : grid0.Coords) : Fin 2 → Nat :=
  let arg0 : BitVec 32 := BitVec.ofNat 32 (i 0).val
  let c8_i32_5351 : BitVec 32 := 8#32
  let v8574 : BitVec 32 := Scalar.muli arg0 c8_i32_5351
  let c4_i32_5352 : BitVec 32 := 4#32
  let v8575 : BitVec 32 := Scalar.addi v8574 c4_i32_5352
  let v8576 : Index := Scalar.indexCast v8575
  let c56_5353 : Index := 56#32
  ![v8576.toNat, 56]
def k0_off1298 (v8577 : BitVec 32) : Fin 3 → Nat :=
  let c1023_i32_5354 : BitVec 32 := 1023#32
  let v8578 : BitVec 32 := Scalar.andi v8577 c1023_i32_5354
  let v8585 : Index := Scalar.indexCast v8578
  let c4_5359 : Index := 4#32
  let c0_5360 : Index := 0#32
  ![v8585.toNat, 4, 0]

def k0_off1299 (i : grid0.Coords) : Fin 2 → Nat :=
  let arg0 : BitVec 32 := BitVec.ofNat 32 (i 0).val
  let c8_i32_5361 : BitVec 32 := 8#32
  let v8589 : BitVec 32 := Scalar.muli arg0 c8_i32_5361
  let c5_i32_5362 : BitVec 32 := 5#32
  let v8590 : BitVec 32 := Scalar.addi v8589 c5_i32_5362
  let v8591 : Index := Scalar.indexCast v8590
  let c56_5363 : Index := 56#32
  ![v8591.toNat, 56]
def k0_off1300 (v8592 : BitVec 32) : Fin 3 → Nat :=
  let c1023_i32_5364 : BitVec 32 := 1023#32
  let v8593 : BitVec 32 := Scalar.andi v8592 c1023_i32_5364
  let v8600 : Index := Scalar.indexCast v8593
  let c5_5369 : Index := 5#32
  let c0_5370 : Index := 0#32
  ![v8600.toNat, 5, 0]

def k0_off1301 (i : grid0.Coords) : Fin 2 → Nat :=
  let arg0 : BitVec 32 := BitVec.ofNat 32 (i 0).val
  let c8_i32_5371 : BitVec 32 := 8#32
  let v8604 : BitVec 32 := Scalar.muli arg0 c8_i32_5371
  let c6_i32_5372 : BitVec 32 := 6#32
  let v8605 : BitVec 32 := Scalar.addi v8604 c6_i32_5372
  let v8606 : Index := Scalar.indexCast v8605
  let c56_5373 : Index := 56#32
  ![v8606.toNat, 56]
def k0_off1302 (v8607 : BitVec 32) : Fin 3 → Nat :=
  let c1023_i32_5374 : BitVec 32 := 1023#32
  let v8608 : BitVec 32 := Scalar.andi v8607 c1023_i32_5374
  let v8615 : Index := Scalar.indexCast v8608
  let c6_5379 : Index := 6#32
  let c0_5380 : Index := 0#32
  ![v8615.toNat, 6, 0]

def k0_off1303 (i : grid0.Coords) : Fin 2 → Nat :=
  let arg0 : BitVec 32 := BitVec.ofNat 32 (i 0).val
  let c8_i32_5381 : BitVec 32 := 8#32
  let v8619 : BitVec 32 := Scalar.muli arg0 c8_i32_5381
  let c7_i32_5382 : BitVec 32 := 7#32
  let v8620 : BitVec 32 := Scalar.addi v8619 c7_i32_5382
  let v8621 : Index := Scalar.indexCast v8620
  let c56_5383 : Index := 56#32
  ![v8621.toNat, 56]
def k0_off1304 (v8622 : BitVec 32) : Fin 3 → Nat :=
  let c1023_i32_5384 : BitVec 32 := 1023#32
  let v8623 : BitVec 32 := Scalar.andi v8622 c1023_i32_5384
  let v8630 : Index := Scalar.indexCast v8623
  let c7_5389 : Index := 7#32
  let c0_5390 : Index := 0#32
  ![v8630.toNat, 7, 0]

def k0_chk456 (v8622 : BitVec 32) : Prop :=
  (∀ a, (k0_off1304 v8622) a + S1x1x512.size a ≤ S784x8x512.size a)
theorem k0_off1304_inb : ∀ (v8622 : BitVec 32) (k0_hw456 : k0_chk456 v8622), ∀ a, (k0_off1304 v8622) a + S1x1x512.size a ≤ S784x8x512.size a := fun v8622 k0_hw456 => k0_hw456

def k0_off1305 (v8517 : BitVec 32) : Fin 3 → Nat :=
  let c1023_i32_5314 : BitVec 32 := 1023#32
  let v8518 : BitVec 32 := Scalar.andi v8517 c1023_i32_5314
  let v8634 : Index := Scalar.indexCast v8518
  let c0_5391 : Index := 0#32
  let c0_5392 : Index := 0#32
  ![v8634.toNat, 0, 0]

def k0_chk449 (v8517 : BitVec 32) : Prop :=
  (∀ a, (k0_off1290 v8517) a + S1x1x512.size a ≤ S784x8x512.size a) ∧
  (∀ a, (k0_off1305 v8517) a + S1x1x512.size a ≤ S784x8x512.size a)
theorem k0_off1290_inb : ∀ (v8517 : BitVec 32) (k0_hw449 : k0_chk449 v8517), ∀ a, (k0_off1290 v8517) a + S1x1x512.size a ≤ S784x8x512.size a := fun v8517 k0_hw449 => k0_hw449.1
theorem k0_off1305_inb : ∀ (v8517 : BitVec 32) (k0_hw449 : k0_chk449 v8517), ∀ a, (k0_off1305 v8517) a + S1x1x512.size a ≤ S784x8x512.size a := fun v8517 k0_hw449 => k0_hw449.2

def k0_off1306 (v8532 : BitVec 32) : Fin 3 → Nat :=
  let c1023_i32_5324 : BitVec 32 := 1023#32
  let v8533 : BitVec 32 := Scalar.andi v8532 c1023_i32_5324
  let v8638 : Index := Scalar.indexCast v8533
  let c1_5393 : Index := 1#32
  let c0_5394 : Index := 0#32
  ![v8638.toNat, 1, 0]

def k0_chk450 (v8532 : BitVec 32) : Prop :=
  (∀ a, (k0_off1292 v8532) a + S1x1x512.size a ≤ S784x8x512.size a) ∧
  (∀ a, (k0_off1306 v8532) a + S1x1x512.size a ≤ S784x8x512.size a)
theorem k0_off1292_inb : ∀ (v8532 : BitVec 32) (k0_hw450 : k0_chk450 v8532), ∀ a, (k0_off1292 v8532) a + S1x1x512.size a ≤ S784x8x512.size a := fun v8532 k0_hw450 => k0_hw450.1
theorem k0_off1306_inb : ∀ (v8532 : BitVec 32) (k0_hw450 : k0_chk450 v8532), ∀ a, (k0_off1306 v8532) a + S1x1x512.size a ≤ S784x8x512.size a := fun v8532 k0_hw450 => k0_hw450.2

def k0_off1307 (v8547 : BitVec 32) : Fin 3 → Nat :=
  let c1023_i32_5334 : BitVec 32 := 1023#32
  let v8548 : BitVec 32 := Scalar.andi v8547 c1023_i32_5334
  let v8642 : Index := Scalar.indexCast v8548
  let c2_5395 : Index := 2#32
  let c0_5396 : Index := 0#32
  ![v8642.toNat, 2, 0]

def k0_chk451 (v8547 : BitVec 32) : Prop :=
  (∀ a, (k0_off1294 v8547) a + S1x1x512.size a ≤ S784x8x512.size a) ∧
  (∀ a, (k0_off1307 v8547) a + S1x1x512.size a ≤ S784x8x512.size a)
theorem k0_off1294_inb : ∀ (v8547 : BitVec 32) (k0_hw451 : k0_chk451 v8547), ∀ a, (k0_off1294 v8547) a + S1x1x512.size a ≤ S784x8x512.size a := fun v8547 k0_hw451 => k0_hw451.1
theorem k0_off1307_inb : ∀ (v8547 : BitVec 32) (k0_hw451 : k0_chk451 v8547), ∀ a, (k0_off1307 v8547) a + S1x1x512.size a ≤ S784x8x512.size a := fun v8547 k0_hw451 => k0_hw451.2

def k0_off1308 (v8562 : BitVec 32) : Fin 3 → Nat :=
  let c1023_i32_5344 : BitVec 32 := 1023#32
  let v8563 : BitVec 32 := Scalar.andi v8562 c1023_i32_5344
  let v8646 : Index := Scalar.indexCast v8563
  let c3_5397 : Index := 3#32
  let c0_5398 : Index := 0#32
  ![v8646.toNat, 3, 0]

def k0_chk452 (v8562 : BitVec 32) : Prop :=
  (∀ a, (k0_off1296 v8562) a + S1x1x512.size a ≤ S784x8x512.size a) ∧
  (∀ a, (k0_off1308 v8562) a + S1x1x512.size a ≤ S784x8x512.size a)
theorem k0_off1296_inb : ∀ (v8562 : BitVec 32) (k0_hw452 : k0_chk452 v8562), ∀ a, (k0_off1296 v8562) a + S1x1x512.size a ≤ S784x8x512.size a := fun v8562 k0_hw452 => k0_hw452.1
theorem k0_off1308_inb : ∀ (v8562 : BitVec 32) (k0_hw452 : k0_chk452 v8562), ∀ a, (k0_off1308 v8562) a + S1x1x512.size a ≤ S784x8x512.size a := fun v8562 k0_hw452 => k0_hw452.2

def k0_off1309 (v8577 : BitVec 32) : Fin 3 → Nat :=
  let c1023_i32_5354 : BitVec 32 := 1023#32
  let v8578 : BitVec 32 := Scalar.andi v8577 c1023_i32_5354
  let v8650 : Index := Scalar.indexCast v8578
  let c4_5399 : Index := 4#32
  let c0_5400 : Index := 0#32
  ![v8650.toNat, 4, 0]

def k0_chk453 (v8577 : BitVec 32) : Prop :=
  (∀ a, (k0_off1298 v8577) a + S1x1x512.size a ≤ S784x8x512.size a) ∧
  (∀ a, (k0_off1309 v8577) a + S1x1x512.size a ≤ S784x8x512.size a)
theorem k0_off1298_inb : ∀ (v8577 : BitVec 32) (k0_hw453 : k0_chk453 v8577), ∀ a, (k0_off1298 v8577) a + S1x1x512.size a ≤ S784x8x512.size a := fun v8577 k0_hw453 => k0_hw453.1
theorem k0_off1309_inb : ∀ (v8577 : BitVec 32) (k0_hw453 : k0_chk453 v8577), ∀ a, (k0_off1309 v8577) a + S1x1x512.size a ≤ S784x8x512.size a := fun v8577 k0_hw453 => k0_hw453.2

def k0_off1310 (v8592 : BitVec 32) : Fin 3 → Nat :=
  let c1023_i32_5364 : BitVec 32 := 1023#32
  let v8593 : BitVec 32 := Scalar.andi v8592 c1023_i32_5364
  let v8654 : Index := Scalar.indexCast v8593
  let c5_5401 : Index := 5#32
  let c0_5402 : Index := 0#32
  ![v8654.toNat, 5, 0]

def k0_chk454 (v8592 : BitVec 32) : Prop :=
  (∀ a, (k0_off1300 v8592) a + S1x1x512.size a ≤ S784x8x512.size a) ∧
  (∀ a, (k0_off1310 v8592) a + S1x1x512.size a ≤ S784x8x512.size a)
theorem k0_off1300_inb : ∀ (v8592 : BitVec 32) (k0_hw454 : k0_chk454 v8592), ∀ a, (k0_off1300 v8592) a + S1x1x512.size a ≤ S784x8x512.size a := fun v8592 k0_hw454 => k0_hw454.1
theorem k0_off1310_inb : ∀ (v8592 : BitVec 32) (k0_hw454 : k0_chk454 v8592), ∀ a, (k0_off1310 v8592) a + S1x1x512.size a ≤ S784x8x512.size a := fun v8592 k0_hw454 => k0_hw454.2

def k0_off1311 (v8607 : BitVec 32) : Fin 3 → Nat :=
  let c1023_i32_5374 : BitVec 32 := 1023#32
  let v8608 : BitVec 32 := Scalar.andi v8607 c1023_i32_5374
  let v8658 : Index := Scalar.indexCast v8608
  let c6_5403 : Index := 6#32
  let c0_5404 : Index := 0#32
  ![v8658.toNat, 6, 0]

def k0_chk455 (v8607 : BitVec 32) : Prop :=
  (∀ a, (k0_off1302 v8607) a + S1x1x512.size a ≤ S784x8x512.size a) ∧
  (∀ a, (k0_off1311 v8607) a + S1x1x512.size a ≤ S784x8x512.size a)
theorem k0_off1302_inb : ∀ (v8607 : BitVec 32) (k0_hw455 : k0_chk455 v8607), ∀ a, (k0_off1302 v8607) a + S1x1x512.size a ≤ S784x8x512.size a := fun v8607 k0_hw455 => k0_hw455.1
theorem k0_off1311_inb : ∀ (v8607 : BitVec 32) (k0_hw455 : k0_chk455 v8607), ∀ a, (k0_off1311 v8607) a + S1x1x512.size a ≤ S784x8x512.size a := fun v8607 k0_hw455 => k0_hw455.2

def k0_off1312 (i : grid0.Coords) : Fin 2 → Nat :=
  let arg0 : BitVec 32 := BitVec.ofNat 32 (i 0).val
  let c8_i32_5407 : BitVec 32 := 8#32
  let v8666 : BitVec 32 := Scalar.muli arg0 c8_i32_5407
  let c0_i32_5408 : BitVec 32 := 0#32
  let v8667 : BitVec 32 := Scalar.addi v8666 c0_i32_5408
  let v8668 : Index := Scalar.indexCast v8667
  let c57 : Index := 57#32
  ![v8668.toNat, 57]
def k0_off1313 (v8669 : BitVec 32) : Fin 3 → Nat :=
  let c1023_i32_5409 : BitVec 32 := 1023#32
  let v8670 : BitVec 32 := Scalar.andi v8669 c1023_i32_5409
  let v8677 : Index := Scalar.indexCast v8670
  let c0_5414 : Index := 0#32
  let c0_5415 : Index := 0#32
  ![v8677.toNat, 0, 0]

def k0_off1314 (i : grid0.Coords) : Fin 2 → Nat :=
  let arg0 : BitVec 32 := BitVec.ofNat 32 (i 0).val
  let c8_i32_5416 : BitVec 32 := 8#32
  let v8681 : BitVec 32 := Scalar.muli arg0 c8_i32_5416
  let c1_i32_5417 : BitVec 32 := 1#32
  let v8682 : BitVec 32 := Scalar.addi v8681 c1_i32_5417
  let v8683 : Index := Scalar.indexCast v8682
  let c57_5418 : Index := 57#32
  ![v8683.toNat, 57]
def k0_off1315 (v8684 : BitVec 32) : Fin 3 → Nat :=
  let c1023_i32_5419 : BitVec 32 := 1023#32
  let v8685 : BitVec 32 := Scalar.andi v8684 c1023_i32_5419
  let v8692 : Index := Scalar.indexCast v8685
  let c1_5424 : Index := 1#32
  let c0_5425 : Index := 0#32
  ![v8692.toNat, 1, 0]

def k0_off1316 (i : grid0.Coords) : Fin 2 → Nat :=
  let arg0 : BitVec 32 := BitVec.ofNat 32 (i 0).val
  let c8_i32_5426 : BitVec 32 := 8#32
  let v8696 : BitVec 32 := Scalar.muli arg0 c8_i32_5426
  let c2_i32_5427 : BitVec 32 := 2#32
  let v8697 : BitVec 32 := Scalar.addi v8696 c2_i32_5427
  let v8698 : Index := Scalar.indexCast v8697
  let c57_5428 : Index := 57#32
  ![v8698.toNat, 57]
def k0_off1317 (v8699 : BitVec 32) : Fin 3 → Nat :=
  let c1023_i32_5429 : BitVec 32 := 1023#32
  let v8700 : BitVec 32 := Scalar.andi v8699 c1023_i32_5429
  let v8707 : Index := Scalar.indexCast v8700
  let c2_5434 : Index := 2#32
  let c0_5435 : Index := 0#32
  ![v8707.toNat, 2, 0]

def k0_off1318 (i : grid0.Coords) : Fin 2 → Nat :=
  let arg0 : BitVec 32 := BitVec.ofNat 32 (i 0).val
  let c8_i32_5436 : BitVec 32 := 8#32
  let v8711 : BitVec 32 := Scalar.muli arg0 c8_i32_5436
  let c3_i32_5437 : BitVec 32 := 3#32
  let v8712 : BitVec 32 := Scalar.addi v8711 c3_i32_5437
  let v8713 : Index := Scalar.indexCast v8712
  let c57_5438 : Index := 57#32
  ![v8713.toNat, 57]
def k0_off1319 (v8714 : BitVec 32) : Fin 3 → Nat :=
  let c1023_i32_5439 : BitVec 32 := 1023#32
  let v8715 : BitVec 32 := Scalar.andi v8714 c1023_i32_5439
  let v8722 : Index := Scalar.indexCast v8715
  let c3_5444 : Index := 3#32
  let c0_5445 : Index := 0#32
  ![v8722.toNat, 3, 0]

def k0_off1320 (i : grid0.Coords) : Fin 2 → Nat :=
  let arg0 : BitVec 32 := BitVec.ofNat 32 (i 0).val
  let c8_i32_5446 : BitVec 32 := 8#32
  let v8726 : BitVec 32 := Scalar.muli arg0 c8_i32_5446
  let c4_i32_5447 : BitVec 32 := 4#32
  let v8727 : BitVec 32 := Scalar.addi v8726 c4_i32_5447
  let v8728 : Index := Scalar.indexCast v8727
  let c57_5448 : Index := 57#32
  ![v8728.toNat, 57]
def k0_off1321 (v8729 : BitVec 32) : Fin 3 → Nat :=
  let c1023_i32_5449 : BitVec 32 := 1023#32
  let v8730 : BitVec 32 := Scalar.andi v8729 c1023_i32_5449
  let v8737 : Index := Scalar.indexCast v8730
  let c4_5454 : Index := 4#32
  let c0_5455 : Index := 0#32
  ![v8737.toNat, 4, 0]

def k0_off1322 (i : grid0.Coords) : Fin 2 → Nat :=
  let arg0 : BitVec 32 := BitVec.ofNat 32 (i 0).val
  let c8_i32_5456 : BitVec 32 := 8#32
  let v8741 : BitVec 32 := Scalar.muli arg0 c8_i32_5456
  let c5_i32_5457 : BitVec 32 := 5#32
  let v8742 : BitVec 32 := Scalar.addi v8741 c5_i32_5457
  let v8743 : Index := Scalar.indexCast v8742
  let c57_5458 : Index := 57#32
  ![v8743.toNat, 57]
def k0_off1323 (v8744 : BitVec 32) : Fin 3 → Nat :=
  let c1023_i32_5459 : BitVec 32 := 1023#32
  let v8745 : BitVec 32 := Scalar.andi v8744 c1023_i32_5459
  let v8752 : Index := Scalar.indexCast v8745
  let c5_5464 : Index := 5#32
  let c0_5465 : Index := 0#32
  ![v8752.toNat, 5, 0]

def k0_off1324 (i : grid0.Coords) : Fin 2 → Nat :=
  let arg0 : BitVec 32 := BitVec.ofNat 32 (i 0).val
  let c8_i32_5466 : BitVec 32 := 8#32
  let v8756 : BitVec 32 := Scalar.muli arg0 c8_i32_5466
  let c6_i32_5467 : BitVec 32 := 6#32
  let v8757 : BitVec 32 := Scalar.addi v8756 c6_i32_5467
  let v8758 : Index := Scalar.indexCast v8757
  let c57_5468 : Index := 57#32
  ![v8758.toNat, 57]
def k0_off1325 (v8759 : BitVec 32) : Fin 3 → Nat :=
  let c1023_i32_5469 : BitVec 32 := 1023#32
  let v8760 : BitVec 32 := Scalar.andi v8759 c1023_i32_5469
  let v8767 : Index := Scalar.indexCast v8760
  let c6_5474 : Index := 6#32
  let c0_5475 : Index := 0#32
  ![v8767.toNat, 6, 0]

def k0_off1326 (i : grid0.Coords) : Fin 2 → Nat :=
  let arg0 : BitVec 32 := BitVec.ofNat 32 (i 0).val
  let c8_i32_5476 : BitVec 32 := 8#32
  let v8771 : BitVec 32 := Scalar.muli arg0 c8_i32_5476
  let c7_i32_5477 : BitVec 32 := 7#32
  let v8772 : BitVec 32 := Scalar.addi v8771 c7_i32_5477
  let v8773 : Index := Scalar.indexCast v8772
  let c57_5478 : Index := 57#32
  ![v8773.toNat, 57]
def k0_off1327 (v8774 : BitVec 32) : Fin 3 → Nat :=
  let c1023_i32_5479 : BitVec 32 := 1023#32
  let v8775 : BitVec 32 := Scalar.andi v8774 c1023_i32_5479
  let v8782 : Index := Scalar.indexCast v8775
  let c7_5484 : Index := 7#32
  let c0_5485 : Index := 0#32
  ![v8782.toNat, 7, 0]

def k0_chk464 (v8774 : BitVec 32) : Prop :=
  (∀ a, (k0_off1327 v8774) a + S1x1x512.size a ≤ S784x8x512.size a)
theorem k0_off1327_inb : ∀ (v8774 : BitVec 32) (k0_hw464 : k0_chk464 v8774), ∀ a, (k0_off1327 v8774) a + S1x1x512.size a ≤ S784x8x512.size a := fun v8774 k0_hw464 => k0_hw464

def k0_off1328 (v8669 : BitVec 32) : Fin 3 → Nat :=
  let c1023_i32_5409 : BitVec 32 := 1023#32
  let v8670 : BitVec 32 := Scalar.andi v8669 c1023_i32_5409
  let v8786 : Index := Scalar.indexCast v8670
  let c0_5486 : Index := 0#32
  let c0_5487 : Index := 0#32
  ![v8786.toNat, 0, 0]

def k0_chk457 (v8669 : BitVec 32) : Prop :=
  (∀ a, (k0_off1313 v8669) a + S1x1x512.size a ≤ S784x8x512.size a) ∧
  (∀ a, (k0_off1328 v8669) a + S1x1x512.size a ≤ S784x8x512.size a)
theorem k0_off1313_inb : ∀ (v8669 : BitVec 32) (k0_hw457 : k0_chk457 v8669), ∀ a, (k0_off1313 v8669) a + S1x1x512.size a ≤ S784x8x512.size a := fun v8669 k0_hw457 => k0_hw457.1
theorem k0_off1328_inb : ∀ (v8669 : BitVec 32) (k0_hw457 : k0_chk457 v8669), ∀ a, (k0_off1328 v8669) a + S1x1x512.size a ≤ S784x8x512.size a := fun v8669 k0_hw457 => k0_hw457.2

def k0_off1329 (v8684 : BitVec 32) : Fin 3 → Nat :=
  let c1023_i32_5419 : BitVec 32 := 1023#32
  let v8685 : BitVec 32 := Scalar.andi v8684 c1023_i32_5419
  let v8790 : Index := Scalar.indexCast v8685
  let c1_5488 : Index := 1#32
  let c0_5489 : Index := 0#32
  ![v8790.toNat, 1, 0]

def k0_chk458 (v8684 : BitVec 32) : Prop :=
  (∀ a, (k0_off1315 v8684) a + S1x1x512.size a ≤ S784x8x512.size a) ∧
  (∀ a, (k0_off1329 v8684) a + S1x1x512.size a ≤ S784x8x512.size a)
theorem k0_off1315_inb : ∀ (v8684 : BitVec 32) (k0_hw458 : k0_chk458 v8684), ∀ a, (k0_off1315 v8684) a + S1x1x512.size a ≤ S784x8x512.size a := fun v8684 k0_hw458 => k0_hw458.1
theorem k0_off1329_inb : ∀ (v8684 : BitVec 32) (k0_hw458 : k0_chk458 v8684), ∀ a, (k0_off1329 v8684) a + S1x1x512.size a ≤ S784x8x512.size a := fun v8684 k0_hw458 => k0_hw458.2

def k0_off1330 (v8699 : BitVec 32) : Fin 3 → Nat :=
  let c1023_i32_5429 : BitVec 32 := 1023#32
  let v8700 : BitVec 32 := Scalar.andi v8699 c1023_i32_5429
  let v8794 : Index := Scalar.indexCast v8700
  let c2_5490 : Index := 2#32
  let c0_5491 : Index := 0#32
  ![v8794.toNat, 2, 0]

def k0_chk459 (v8699 : BitVec 32) : Prop :=
  (∀ a, (k0_off1317 v8699) a + S1x1x512.size a ≤ S784x8x512.size a) ∧
  (∀ a, (k0_off1330 v8699) a + S1x1x512.size a ≤ S784x8x512.size a)
theorem k0_off1317_inb : ∀ (v8699 : BitVec 32) (k0_hw459 : k0_chk459 v8699), ∀ a, (k0_off1317 v8699) a + S1x1x512.size a ≤ S784x8x512.size a := fun v8699 k0_hw459 => k0_hw459.1
theorem k0_off1330_inb : ∀ (v8699 : BitVec 32) (k0_hw459 : k0_chk459 v8699), ∀ a, (k0_off1330 v8699) a + S1x1x512.size a ≤ S784x8x512.size a := fun v8699 k0_hw459 => k0_hw459.2

def k0_off1331 (v8714 : BitVec 32) : Fin 3 → Nat :=
  let c1023_i32_5439 : BitVec 32 := 1023#32
  let v8715 : BitVec 32 := Scalar.andi v8714 c1023_i32_5439
  let v8798 : Index := Scalar.indexCast v8715
  let c3_5492 : Index := 3#32
  let c0_5493 : Index := 0#32
  ![v8798.toNat, 3, 0]

def k0_chk460 (v8714 : BitVec 32) : Prop :=
  (∀ a, (k0_off1319 v8714) a + S1x1x512.size a ≤ S784x8x512.size a) ∧
  (∀ a, (k0_off1331 v8714) a + S1x1x512.size a ≤ S784x8x512.size a)
theorem k0_off1319_inb : ∀ (v8714 : BitVec 32) (k0_hw460 : k0_chk460 v8714), ∀ a, (k0_off1319 v8714) a + S1x1x512.size a ≤ S784x8x512.size a := fun v8714 k0_hw460 => k0_hw460.1
theorem k0_off1331_inb : ∀ (v8714 : BitVec 32) (k0_hw460 : k0_chk460 v8714), ∀ a, (k0_off1331 v8714) a + S1x1x512.size a ≤ S784x8x512.size a := fun v8714 k0_hw460 => k0_hw460.2

def k0_off1332 (v8729 : BitVec 32) : Fin 3 → Nat :=
  let c1023_i32_5449 : BitVec 32 := 1023#32
  let v8730 : BitVec 32 := Scalar.andi v8729 c1023_i32_5449
  let v8802 : Index := Scalar.indexCast v8730
  let c4_5494 : Index := 4#32
  let c0_5495 : Index := 0#32
  ![v8802.toNat, 4, 0]

def k0_chk461 (v8729 : BitVec 32) : Prop :=
  (∀ a, (k0_off1321 v8729) a + S1x1x512.size a ≤ S784x8x512.size a) ∧
  (∀ a, (k0_off1332 v8729) a + S1x1x512.size a ≤ S784x8x512.size a)
theorem k0_off1321_inb : ∀ (v8729 : BitVec 32) (k0_hw461 : k0_chk461 v8729), ∀ a, (k0_off1321 v8729) a + S1x1x512.size a ≤ S784x8x512.size a := fun v8729 k0_hw461 => k0_hw461.1
theorem k0_off1332_inb : ∀ (v8729 : BitVec 32) (k0_hw461 : k0_chk461 v8729), ∀ a, (k0_off1332 v8729) a + S1x1x512.size a ≤ S784x8x512.size a := fun v8729 k0_hw461 => k0_hw461.2

def k0_off1333 (v8744 : BitVec 32) : Fin 3 → Nat :=
  let c1023_i32_5459 : BitVec 32 := 1023#32
  let v8745 : BitVec 32 := Scalar.andi v8744 c1023_i32_5459
  let v8806 : Index := Scalar.indexCast v8745
  let c5_5496 : Index := 5#32
  let c0_5497 : Index := 0#32
  ![v8806.toNat, 5, 0]

def k0_chk462 (v8744 : BitVec 32) : Prop :=
  (∀ a, (k0_off1323 v8744) a + S1x1x512.size a ≤ S784x8x512.size a) ∧
  (∀ a, (k0_off1333 v8744) a + S1x1x512.size a ≤ S784x8x512.size a)
theorem k0_off1323_inb : ∀ (v8744 : BitVec 32) (k0_hw462 : k0_chk462 v8744), ∀ a, (k0_off1323 v8744) a + S1x1x512.size a ≤ S784x8x512.size a := fun v8744 k0_hw462 => k0_hw462.1
theorem k0_off1333_inb : ∀ (v8744 : BitVec 32) (k0_hw462 : k0_chk462 v8744), ∀ a, (k0_off1333 v8744) a + S1x1x512.size a ≤ S784x8x512.size a := fun v8744 k0_hw462 => k0_hw462.2

def k0_off1334 (v8759 : BitVec 32) : Fin 3 → Nat :=
  let c1023_i32_5469 : BitVec 32 := 1023#32
  let v8760 : BitVec 32 := Scalar.andi v8759 c1023_i32_5469
  let v8810 : Index := Scalar.indexCast v8760
  let c6_5498 : Index := 6#32
  let c0_5499 : Index := 0#32
  ![v8810.toNat, 6, 0]

def k0_chk463 (v8759 : BitVec 32) : Prop :=
  (∀ a, (k0_off1325 v8759) a + S1x1x512.size a ≤ S784x8x512.size a) ∧
  (∀ a, (k0_off1334 v8759) a + S1x1x512.size a ≤ S784x8x512.size a)
theorem k0_off1325_inb : ∀ (v8759 : BitVec 32) (k0_hw463 : k0_chk463 v8759), ∀ a, (k0_off1325 v8759) a + S1x1x512.size a ≤ S784x8x512.size a := fun v8759 k0_hw463 => k0_hw463.1
theorem k0_off1334_inb : ∀ (v8759 : BitVec 32) (k0_hw463 : k0_chk463 v8759), ∀ a, (k0_off1334 v8759) a + S1x1x512.size a ≤ S784x8x512.size a := fun v8759 k0_hw463 => k0_hw463.2

def k0_off1335 (i : grid0.Coords) : Fin 2 → Nat :=
  let arg0 : BitVec 32 := BitVec.ofNat 32 (i 0).val
  let c8_i32_5502 : BitVec 32 := 8#32
  let v8818 : BitVec 32 := Scalar.muli arg0 c8_i32_5502
  let c0_i32_5503 : BitVec 32 := 0#32
  let v8819 : BitVec 32 := Scalar.addi v8818 c0_i32_5503
  let v8820 : Index := Scalar.indexCast v8819
  let c58 : Index := 58#32
  ![v8820.toNat, 58]
def k0_off1336 (v8821 : BitVec 32) : Fin 3 → Nat :=
  let c1023_i32_5504 : BitVec 32 := 1023#32
  let v8822 : BitVec 32 := Scalar.andi v8821 c1023_i32_5504
  let v8829 : Index := Scalar.indexCast v8822
  let c0_5509 : Index := 0#32
  let c0_5510 : Index := 0#32
  ![v8829.toNat, 0, 0]

def k0_off1337 (i : grid0.Coords) : Fin 2 → Nat :=
  let arg0 : BitVec 32 := BitVec.ofNat 32 (i 0).val
  let c8_i32_5511 : BitVec 32 := 8#32
  let v8833 : BitVec 32 := Scalar.muli arg0 c8_i32_5511
  let c1_i32_5512 : BitVec 32 := 1#32
  let v8834 : BitVec 32 := Scalar.addi v8833 c1_i32_5512
  let v8835 : Index := Scalar.indexCast v8834
  let c58_5513 : Index := 58#32
  ![v8835.toNat, 58]
def k0_off1338 (v8836 : BitVec 32) : Fin 3 → Nat :=
  let c1023_i32_5514 : BitVec 32 := 1023#32
  let v8837 : BitVec 32 := Scalar.andi v8836 c1023_i32_5514
  let v8844 : Index := Scalar.indexCast v8837
  let c1_5519 : Index := 1#32
  let c0_5520 : Index := 0#32
  ![v8844.toNat, 1, 0]

def k0_off1339 (i : grid0.Coords) : Fin 2 → Nat :=
  let arg0 : BitVec 32 := BitVec.ofNat 32 (i 0).val
  let c8_i32_5521 : BitVec 32 := 8#32
  let v8848 : BitVec 32 := Scalar.muli arg0 c8_i32_5521
  let c2_i32_5522 : BitVec 32 := 2#32
  let v8849 : BitVec 32 := Scalar.addi v8848 c2_i32_5522
  let v8850 : Index := Scalar.indexCast v8849
  let c58_5523 : Index := 58#32
  ![v8850.toNat, 58]
def k0_off1340 (v8851 : BitVec 32) : Fin 3 → Nat :=
  let c1023_i32_5524 : BitVec 32 := 1023#32
  let v8852 : BitVec 32 := Scalar.andi v8851 c1023_i32_5524
  let v8859 : Index := Scalar.indexCast v8852
  let c2_5529 : Index := 2#32
  let c0_5530 : Index := 0#32
  ![v8859.toNat, 2, 0]

def k0_off1341 (i : grid0.Coords) : Fin 2 → Nat :=
  let arg0 : BitVec 32 := BitVec.ofNat 32 (i 0).val
  let c8_i32_5531 : BitVec 32 := 8#32
  let v8863 : BitVec 32 := Scalar.muli arg0 c8_i32_5531
  let c3_i32_5532 : BitVec 32 := 3#32
  let v8864 : BitVec 32 := Scalar.addi v8863 c3_i32_5532
  let v8865 : Index := Scalar.indexCast v8864
  let c58_5533 : Index := 58#32
  ![v8865.toNat, 58]
def k0_off1342 (v8866 : BitVec 32) : Fin 3 → Nat :=
  let c1023_i32_5534 : BitVec 32 := 1023#32
  let v8867 : BitVec 32 := Scalar.andi v8866 c1023_i32_5534
  let v8874 : Index := Scalar.indexCast v8867
  let c3_5539 : Index := 3#32
  let c0_5540 : Index := 0#32
  ![v8874.toNat, 3, 0]

def k0_off1343 (i : grid0.Coords) : Fin 2 → Nat :=
  let arg0 : BitVec 32 := BitVec.ofNat 32 (i 0).val
  let c8_i32_5541 : BitVec 32 := 8#32
  let v8878 : BitVec 32 := Scalar.muli arg0 c8_i32_5541
  let c4_i32_5542 : BitVec 32 := 4#32
  let v8879 : BitVec 32 := Scalar.addi v8878 c4_i32_5542
  let v8880 : Index := Scalar.indexCast v8879
  let c58_5543 : Index := 58#32
  ![v8880.toNat, 58]
def k0_off1344 (v8881 : BitVec 32) : Fin 3 → Nat :=
  let c1023_i32_5544 : BitVec 32 := 1023#32
  let v8882 : BitVec 32 := Scalar.andi v8881 c1023_i32_5544
  let v8889 : Index := Scalar.indexCast v8882
  let c4_5549 : Index := 4#32
  let c0_5550 : Index := 0#32
  ![v8889.toNat, 4, 0]

def k0_off1345 (i : grid0.Coords) : Fin 2 → Nat :=
  let arg0 : BitVec 32 := BitVec.ofNat 32 (i 0).val
  let c8_i32_5551 : BitVec 32 := 8#32
  let v8893 : BitVec 32 := Scalar.muli arg0 c8_i32_5551
  let c5_i32_5552 : BitVec 32 := 5#32
  let v8894 : BitVec 32 := Scalar.addi v8893 c5_i32_5552
  let v8895 : Index := Scalar.indexCast v8894
  let c58_5553 : Index := 58#32
  ![v8895.toNat, 58]
def k0_off1346 (v8896 : BitVec 32) : Fin 3 → Nat :=
  let c1023_i32_5554 : BitVec 32 := 1023#32
  let v8897 : BitVec 32 := Scalar.andi v8896 c1023_i32_5554
  let v8904 : Index := Scalar.indexCast v8897
  let c5_5559 : Index := 5#32
  let c0_5560 : Index := 0#32
  ![v8904.toNat, 5, 0]

def k0_off1347 (i : grid0.Coords) : Fin 2 → Nat :=
  let arg0 : BitVec 32 := BitVec.ofNat 32 (i 0).val
  let c8_i32_5561 : BitVec 32 := 8#32
  let v8908 : BitVec 32 := Scalar.muli arg0 c8_i32_5561
  let c6_i32_5562 : BitVec 32 := 6#32
  let v8909 : BitVec 32 := Scalar.addi v8908 c6_i32_5562
  let v8910 : Index := Scalar.indexCast v8909
  let c58_5563 : Index := 58#32
  ![v8910.toNat, 58]
def k0_off1348 (v8911 : BitVec 32) : Fin 3 → Nat :=
  let c1023_i32_5564 : BitVec 32 := 1023#32
  let v8912 : BitVec 32 := Scalar.andi v8911 c1023_i32_5564
  let v8919 : Index := Scalar.indexCast v8912
  let c6_5569 : Index := 6#32
  let c0_5570 : Index := 0#32
  ![v8919.toNat, 6, 0]

def k0_off1349 (i : grid0.Coords) : Fin 2 → Nat :=
  let arg0 : BitVec 32 := BitVec.ofNat 32 (i 0).val
  let c8_i32_5571 : BitVec 32 := 8#32
  let v8923 : BitVec 32 := Scalar.muli arg0 c8_i32_5571
  let c7_i32_5572 : BitVec 32 := 7#32
  let v8924 : BitVec 32 := Scalar.addi v8923 c7_i32_5572
  let v8925 : Index := Scalar.indexCast v8924
  let c58_5573 : Index := 58#32
  ![v8925.toNat, 58]
def k0_off1350 (v8926 : BitVec 32) : Fin 3 → Nat :=
  let c1023_i32_5574 : BitVec 32 := 1023#32
  let v8927 : BitVec 32 := Scalar.andi v8926 c1023_i32_5574
  let v8934 : Index := Scalar.indexCast v8927
  let c7_5579 : Index := 7#32
  let c0_5580 : Index := 0#32
  ![v8934.toNat, 7, 0]

def k0_chk472 (v8926 : BitVec 32) : Prop :=
  (∀ a, (k0_off1350 v8926) a + S1x1x512.size a ≤ S784x8x512.size a)
theorem k0_off1350_inb : ∀ (v8926 : BitVec 32) (k0_hw472 : k0_chk472 v8926), ∀ a, (k0_off1350 v8926) a + S1x1x512.size a ≤ S784x8x512.size a := fun v8926 k0_hw472 => k0_hw472

def k0_off1351 (v8821 : BitVec 32) : Fin 3 → Nat :=
  let c1023_i32_5504 : BitVec 32 := 1023#32
  let v8822 : BitVec 32 := Scalar.andi v8821 c1023_i32_5504
  let v8938 : Index := Scalar.indexCast v8822
  let c0_5581 : Index := 0#32
  let c0_5582 : Index := 0#32
  ![v8938.toNat, 0, 0]

def k0_chk465 (v8821 : BitVec 32) : Prop :=
  (∀ a, (k0_off1336 v8821) a + S1x1x512.size a ≤ S784x8x512.size a) ∧
  (∀ a, (k0_off1351 v8821) a + S1x1x512.size a ≤ S784x8x512.size a)
theorem k0_off1336_inb : ∀ (v8821 : BitVec 32) (k0_hw465 : k0_chk465 v8821), ∀ a, (k0_off1336 v8821) a + S1x1x512.size a ≤ S784x8x512.size a := fun v8821 k0_hw465 => k0_hw465.1
theorem k0_off1351_inb : ∀ (v8821 : BitVec 32) (k0_hw465 : k0_chk465 v8821), ∀ a, (k0_off1351 v8821) a + S1x1x512.size a ≤ S784x8x512.size a := fun v8821 k0_hw465 => k0_hw465.2

def k0_off1352 (v8836 : BitVec 32) : Fin 3 → Nat :=
  let c1023_i32_5514 : BitVec 32 := 1023#32
  let v8837 : BitVec 32 := Scalar.andi v8836 c1023_i32_5514
  let v8942 : Index := Scalar.indexCast v8837
  let c1_5583 : Index := 1#32
  let c0_5584 : Index := 0#32
  ![v8942.toNat, 1, 0]

def k0_chk466 (v8836 : BitVec 32) : Prop :=
  (∀ a, (k0_off1338 v8836) a + S1x1x512.size a ≤ S784x8x512.size a) ∧
  (∀ a, (k0_off1352 v8836) a + S1x1x512.size a ≤ S784x8x512.size a)
theorem k0_off1338_inb : ∀ (v8836 : BitVec 32) (k0_hw466 : k0_chk466 v8836), ∀ a, (k0_off1338 v8836) a + S1x1x512.size a ≤ S784x8x512.size a := fun v8836 k0_hw466 => k0_hw466.1
theorem k0_off1352_inb : ∀ (v8836 : BitVec 32) (k0_hw466 : k0_chk466 v8836), ∀ a, (k0_off1352 v8836) a + S1x1x512.size a ≤ S784x8x512.size a := fun v8836 k0_hw466 => k0_hw466.2

def k0_off1353 (v8851 : BitVec 32) : Fin 3 → Nat :=
  let c1023_i32_5524 : BitVec 32 := 1023#32
  let v8852 : BitVec 32 := Scalar.andi v8851 c1023_i32_5524
  let v8946 : Index := Scalar.indexCast v8852
  let c2_5585 : Index := 2#32
  let c0_5586 : Index := 0#32
  ![v8946.toNat, 2, 0]

def k0_chk467 (v8851 : BitVec 32) : Prop :=
  (∀ a, (k0_off1340 v8851) a + S1x1x512.size a ≤ S784x8x512.size a) ∧
  (∀ a, (k0_off1353 v8851) a + S1x1x512.size a ≤ S784x8x512.size a)
theorem k0_off1340_inb : ∀ (v8851 : BitVec 32) (k0_hw467 : k0_chk467 v8851), ∀ a, (k0_off1340 v8851) a + S1x1x512.size a ≤ S784x8x512.size a := fun v8851 k0_hw467 => k0_hw467.1
theorem k0_off1353_inb : ∀ (v8851 : BitVec 32) (k0_hw467 : k0_chk467 v8851), ∀ a, (k0_off1353 v8851) a + S1x1x512.size a ≤ S784x8x512.size a := fun v8851 k0_hw467 => k0_hw467.2

def k0_off1354 (v8866 : BitVec 32) : Fin 3 → Nat :=
  let c1023_i32_5534 : BitVec 32 := 1023#32
  let v8867 : BitVec 32 := Scalar.andi v8866 c1023_i32_5534
  let v8950 : Index := Scalar.indexCast v8867
  let c3_5587 : Index := 3#32
  let c0_5588 : Index := 0#32
  ![v8950.toNat, 3, 0]

def k0_chk468 (v8866 : BitVec 32) : Prop :=
  (∀ a, (k0_off1342 v8866) a + S1x1x512.size a ≤ S784x8x512.size a) ∧
  (∀ a, (k0_off1354 v8866) a + S1x1x512.size a ≤ S784x8x512.size a)
theorem k0_off1342_inb : ∀ (v8866 : BitVec 32) (k0_hw468 : k0_chk468 v8866), ∀ a, (k0_off1342 v8866) a + S1x1x512.size a ≤ S784x8x512.size a := fun v8866 k0_hw468 => k0_hw468.1
theorem k0_off1354_inb : ∀ (v8866 : BitVec 32) (k0_hw468 : k0_chk468 v8866), ∀ a, (k0_off1354 v8866) a + S1x1x512.size a ≤ S784x8x512.size a := fun v8866 k0_hw468 => k0_hw468.2

def k0_off1355 (v8881 : BitVec 32) : Fin 3 → Nat :=
  let c1023_i32_5544 : BitVec 32 := 1023#32
  let v8882 : BitVec 32 := Scalar.andi v8881 c1023_i32_5544
  let v8954 : Index := Scalar.indexCast v8882
  let c4_5589 : Index := 4#32
  let c0_5590 : Index := 0#32
  ![v8954.toNat, 4, 0]

def k0_chk469 (v8881 : BitVec 32) : Prop :=
  (∀ a, (k0_off1344 v8881) a + S1x1x512.size a ≤ S784x8x512.size a) ∧
  (∀ a, (k0_off1355 v8881) a + S1x1x512.size a ≤ S784x8x512.size a)
theorem k0_off1344_inb : ∀ (v8881 : BitVec 32) (k0_hw469 : k0_chk469 v8881), ∀ a, (k0_off1344 v8881) a + S1x1x512.size a ≤ S784x8x512.size a := fun v8881 k0_hw469 => k0_hw469.1
theorem k0_off1355_inb : ∀ (v8881 : BitVec 32) (k0_hw469 : k0_chk469 v8881), ∀ a, (k0_off1355 v8881) a + S1x1x512.size a ≤ S784x8x512.size a := fun v8881 k0_hw469 => k0_hw469.2

def k0_off1356 (v8896 : BitVec 32) : Fin 3 → Nat :=
  let c1023_i32_5554 : BitVec 32 := 1023#32
  let v8897 : BitVec 32 := Scalar.andi v8896 c1023_i32_5554
  let v8958 : Index := Scalar.indexCast v8897
  let c5_5591 : Index := 5#32
  let c0_5592 : Index := 0#32
  ![v8958.toNat, 5, 0]

def k0_chk470 (v8896 : BitVec 32) : Prop :=
  (∀ a, (k0_off1346 v8896) a + S1x1x512.size a ≤ S784x8x512.size a) ∧
  (∀ a, (k0_off1356 v8896) a + S1x1x512.size a ≤ S784x8x512.size a)
theorem k0_off1346_inb : ∀ (v8896 : BitVec 32) (k0_hw470 : k0_chk470 v8896), ∀ a, (k0_off1346 v8896) a + S1x1x512.size a ≤ S784x8x512.size a := fun v8896 k0_hw470 => k0_hw470.1
theorem k0_off1356_inb : ∀ (v8896 : BitVec 32) (k0_hw470 : k0_chk470 v8896), ∀ a, (k0_off1356 v8896) a + S1x1x512.size a ≤ S784x8x512.size a := fun v8896 k0_hw470 => k0_hw470.2

def k0_off1357 (v8911 : BitVec 32) : Fin 3 → Nat :=
  let c1023_i32_5564 : BitVec 32 := 1023#32
  let v8912 : BitVec 32 := Scalar.andi v8911 c1023_i32_5564
  let v8962 : Index := Scalar.indexCast v8912
  let c6_5593 : Index := 6#32
  let c0_5594 : Index := 0#32
  ![v8962.toNat, 6, 0]

def k0_chk471 (v8911 : BitVec 32) : Prop :=
  (∀ a, (k0_off1348 v8911) a + S1x1x512.size a ≤ S784x8x512.size a) ∧
  (∀ a, (k0_off1357 v8911) a + S1x1x512.size a ≤ S784x8x512.size a)
theorem k0_off1348_inb : ∀ (v8911 : BitVec 32) (k0_hw471 : k0_chk471 v8911), ∀ a, (k0_off1348 v8911) a + S1x1x512.size a ≤ S784x8x512.size a := fun v8911 k0_hw471 => k0_hw471.1
theorem k0_off1357_inb : ∀ (v8911 : BitVec 32) (k0_hw471 : k0_chk471 v8911), ∀ a, (k0_off1357 v8911) a + S1x1x512.size a ≤ S784x8x512.size a := fun v8911 k0_hw471 => k0_hw471.2

def k0_off1358 (i : grid0.Coords) : Fin 2 → Nat :=
  let arg0 : BitVec 32 := BitVec.ofNat 32 (i 0).val
  let c8_i32_5597 : BitVec 32 := 8#32
  let v8970 : BitVec 32 := Scalar.muli arg0 c8_i32_5597
  let c0_i32_5598 : BitVec 32 := 0#32
  let v8971 : BitVec 32 := Scalar.addi v8970 c0_i32_5598
  let v8972 : Index := Scalar.indexCast v8971
  let c59 : Index := 59#32
  ![v8972.toNat, 59]
def k0_off1359 (v8973 : BitVec 32) : Fin 3 → Nat :=
  let c1023_i32_5599 : BitVec 32 := 1023#32
  let v8974 : BitVec 32 := Scalar.andi v8973 c1023_i32_5599
  let v8981 : Index := Scalar.indexCast v8974
  let c0_5604 : Index := 0#32
  let c0_5605 : Index := 0#32
  ![v8981.toNat, 0, 0]

def k0_off1360 (i : grid0.Coords) : Fin 2 → Nat :=
  let arg0 : BitVec 32 := BitVec.ofNat 32 (i 0).val
  let c8_i32_5606 : BitVec 32 := 8#32
  let v8985 : BitVec 32 := Scalar.muli arg0 c8_i32_5606
  let c1_i32_5607 : BitVec 32 := 1#32
  let v8986 : BitVec 32 := Scalar.addi v8985 c1_i32_5607
  let v8987 : Index := Scalar.indexCast v8986
  let c59_5608 : Index := 59#32
  ![v8987.toNat, 59]
def k0_off1361 (v8988 : BitVec 32) : Fin 3 → Nat :=
  let c1023_i32_5609 : BitVec 32 := 1023#32
  let v8989 : BitVec 32 := Scalar.andi v8988 c1023_i32_5609
  let v8996 : Index := Scalar.indexCast v8989
  let c1_5614 : Index := 1#32
  let c0_5615 : Index := 0#32
  ![v8996.toNat, 1, 0]

def k0_off1362 (i : grid0.Coords) : Fin 2 → Nat :=
  let arg0 : BitVec 32 := BitVec.ofNat 32 (i 0).val
  let c8_i32_5616 : BitVec 32 := 8#32
  let v9000 : BitVec 32 := Scalar.muli arg0 c8_i32_5616
  let c2_i32_5617 : BitVec 32 := 2#32
  let v9001 : BitVec 32 := Scalar.addi v9000 c2_i32_5617
  let v9002 : Index := Scalar.indexCast v9001
  let c59_5618 : Index := 59#32
  ![v9002.toNat, 59]
def k0_off1363 (v9003 : BitVec 32) : Fin 3 → Nat :=
  let c1023_i32_5619 : BitVec 32 := 1023#32
  let v9004 : BitVec 32 := Scalar.andi v9003 c1023_i32_5619
  let v9011 : Index := Scalar.indexCast v9004
  let c2_5624 : Index := 2#32
  let c0_5625 : Index := 0#32
  ![v9011.toNat, 2, 0]

def k0_off1364 (i : grid0.Coords) : Fin 2 → Nat :=
  let arg0 : BitVec 32 := BitVec.ofNat 32 (i 0).val
  let c8_i32_5626 : BitVec 32 := 8#32
  let v9015 : BitVec 32 := Scalar.muli arg0 c8_i32_5626
  let c3_i32_5627 : BitVec 32 := 3#32
  let v9016 : BitVec 32 := Scalar.addi v9015 c3_i32_5627
  let v9017 : Index := Scalar.indexCast v9016
  let c59_5628 : Index := 59#32
  ![v9017.toNat, 59]
def k0_off1365 (v9018 : BitVec 32) : Fin 3 → Nat :=
  let c1023_i32_5629 : BitVec 32 := 1023#32
  let v9019 : BitVec 32 := Scalar.andi v9018 c1023_i32_5629
  let v9026 : Index := Scalar.indexCast v9019
  let c3_5634 : Index := 3#32
  let c0_5635 : Index := 0#32
  ![v9026.toNat, 3, 0]

def k0_off1366 (i : grid0.Coords) : Fin 2 → Nat :=
  let arg0 : BitVec 32 := BitVec.ofNat 32 (i 0).val
  let c8_i32_5636 : BitVec 32 := 8#32
  let v9030 : BitVec 32 := Scalar.muli arg0 c8_i32_5636
  let c4_i32_5637 : BitVec 32 := 4#32
  let v9031 : BitVec 32 := Scalar.addi v9030 c4_i32_5637
  let v9032 : Index := Scalar.indexCast v9031
  let c59_5638 : Index := 59#32
  ![v9032.toNat, 59]
def k0_off1367 (v9033 : BitVec 32) : Fin 3 → Nat :=
  let c1023_i32_5639 : BitVec 32 := 1023#32
  let v9034 : BitVec 32 := Scalar.andi v9033 c1023_i32_5639
  let v9041 : Index := Scalar.indexCast v9034
  let c4_5644 : Index := 4#32
  let c0_5645 : Index := 0#32
  ![v9041.toNat, 4, 0]

def k0_off1368 (i : grid0.Coords) : Fin 2 → Nat :=
  let arg0 : BitVec 32 := BitVec.ofNat 32 (i 0).val
  let c8_i32_5646 : BitVec 32 := 8#32
  let v9045 : BitVec 32 := Scalar.muli arg0 c8_i32_5646
  let c5_i32_5647 : BitVec 32 := 5#32
  let v9046 : BitVec 32 := Scalar.addi v9045 c5_i32_5647
  let v9047 : Index := Scalar.indexCast v9046
  let c59_5648 : Index := 59#32
  ![v9047.toNat, 59]
def k0_off1369 (v9048 : BitVec 32) : Fin 3 → Nat :=
  let c1023_i32_5649 : BitVec 32 := 1023#32
  let v9049 : BitVec 32 := Scalar.andi v9048 c1023_i32_5649
  let v9056 : Index := Scalar.indexCast v9049
  let c5_5654 : Index := 5#32
  let c0_5655 : Index := 0#32
  ![v9056.toNat, 5, 0]

def k0_off1370 (i : grid0.Coords) : Fin 2 → Nat :=
  let arg0 : BitVec 32 := BitVec.ofNat 32 (i 0).val
  let c8_i32_5656 : BitVec 32 := 8#32
  let v9060 : BitVec 32 := Scalar.muli arg0 c8_i32_5656
  let c6_i32_5657 : BitVec 32 := 6#32
  let v9061 : BitVec 32 := Scalar.addi v9060 c6_i32_5657
  let v9062 : Index := Scalar.indexCast v9061
  let c59_5658 : Index := 59#32
  ![v9062.toNat, 59]
def k0_off1371 (v9063 : BitVec 32) : Fin 3 → Nat :=
  let c1023_i32_5659 : BitVec 32 := 1023#32
  let v9064 : BitVec 32 := Scalar.andi v9063 c1023_i32_5659
  let v9071 : Index := Scalar.indexCast v9064
  let c6_5664 : Index := 6#32
  let c0_5665 : Index := 0#32
  ![v9071.toNat, 6, 0]

def k0_off1372 (i : grid0.Coords) : Fin 2 → Nat :=
  let arg0 : BitVec 32 := BitVec.ofNat 32 (i 0).val
  let c8_i32_5666 : BitVec 32 := 8#32
  let v9075 : BitVec 32 := Scalar.muli arg0 c8_i32_5666
  let c7_i32_5667 : BitVec 32 := 7#32
  let v9076 : BitVec 32 := Scalar.addi v9075 c7_i32_5667
  let v9077 : Index := Scalar.indexCast v9076
  let c59_5668 : Index := 59#32
  ![v9077.toNat, 59]
def k0_off1373 (v9078 : BitVec 32) : Fin 3 → Nat :=
  let c1023_i32_5669 : BitVec 32 := 1023#32
  let v9079 : BitVec 32 := Scalar.andi v9078 c1023_i32_5669
  let v9086 : Index := Scalar.indexCast v9079
  let c7_5674 : Index := 7#32
  let c0_5675 : Index := 0#32
  ![v9086.toNat, 7, 0]

def k0_chk480 (v9078 : BitVec 32) : Prop :=
  (∀ a, (k0_off1373 v9078) a + S1x1x512.size a ≤ S784x8x512.size a)
theorem k0_off1373_inb : ∀ (v9078 : BitVec 32) (k0_hw480 : k0_chk480 v9078), ∀ a, (k0_off1373 v9078) a + S1x1x512.size a ≤ S784x8x512.size a := fun v9078 k0_hw480 => k0_hw480

def k0_off1374 (v8973 : BitVec 32) : Fin 3 → Nat :=
  let c1023_i32_5599 : BitVec 32 := 1023#32
  let v8974 : BitVec 32 := Scalar.andi v8973 c1023_i32_5599
  let v9090 : Index := Scalar.indexCast v8974
  let c0_5676 : Index := 0#32
  let c0_5677 : Index := 0#32
  ![v9090.toNat, 0, 0]

def k0_chk473 (v8973 : BitVec 32) : Prop :=
  (∀ a, (k0_off1359 v8973) a + S1x1x512.size a ≤ S784x8x512.size a) ∧
  (∀ a, (k0_off1374 v8973) a + S1x1x512.size a ≤ S784x8x512.size a)
theorem k0_off1359_inb : ∀ (v8973 : BitVec 32) (k0_hw473 : k0_chk473 v8973), ∀ a, (k0_off1359 v8973) a + S1x1x512.size a ≤ S784x8x512.size a := fun v8973 k0_hw473 => k0_hw473.1
theorem k0_off1374_inb : ∀ (v8973 : BitVec 32) (k0_hw473 : k0_chk473 v8973), ∀ a, (k0_off1374 v8973) a + S1x1x512.size a ≤ S784x8x512.size a := fun v8973 k0_hw473 => k0_hw473.2

def k0_off1375 (v8988 : BitVec 32) : Fin 3 → Nat :=
  let c1023_i32_5609 : BitVec 32 := 1023#32
  let v8989 : BitVec 32 := Scalar.andi v8988 c1023_i32_5609
  let v9094 : Index := Scalar.indexCast v8989
  let c1_5678 : Index := 1#32
  let c0_5679 : Index := 0#32
  ![v9094.toNat, 1, 0]

def k0_chk474 (v8988 : BitVec 32) : Prop :=
  (∀ a, (k0_off1361 v8988) a + S1x1x512.size a ≤ S784x8x512.size a) ∧
  (∀ a, (k0_off1375 v8988) a + S1x1x512.size a ≤ S784x8x512.size a)
theorem k0_off1361_inb : ∀ (v8988 : BitVec 32) (k0_hw474 : k0_chk474 v8988), ∀ a, (k0_off1361 v8988) a + S1x1x512.size a ≤ S784x8x512.size a := fun v8988 k0_hw474 => k0_hw474.1
theorem k0_off1375_inb : ∀ (v8988 : BitVec 32) (k0_hw474 : k0_chk474 v8988), ∀ a, (k0_off1375 v8988) a + S1x1x512.size a ≤ S784x8x512.size a := fun v8988 k0_hw474 => k0_hw474.2

def k0_off1376 (v9003 : BitVec 32) : Fin 3 → Nat :=
  let c1023_i32_5619 : BitVec 32 := 1023#32
  let v9004 : BitVec 32 := Scalar.andi v9003 c1023_i32_5619
  let v9098 : Index := Scalar.indexCast v9004
  let c2_5680 : Index := 2#32
  let c0_5681 : Index := 0#32
  ![v9098.toNat, 2, 0]

def k0_chk475 (v9003 : BitVec 32) : Prop :=
  (∀ a, (k0_off1363 v9003) a + S1x1x512.size a ≤ S784x8x512.size a) ∧
  (∀ a, (k0_off1376 v9003) a + S1x1x512.size a ≤ S784x8x512.size a)
theorem k0_off1363_inb : ∀ (v9003 : BitVec 32) (k0_hw475 : k0_chk475 v9003), ∀ a, (k0_off1363 v9003) a + S1x1x512.size a ≤ S784x8x512.size a := fun v9003 k0_hw475 => k0_hw475.1
theorem k0_off1376_inb : ∀ (v9003 : BitVec 32) (k0_hw475 : k0_chk475 v9003), ∀ a, (k0_off1376 v9003) a + S1x1x512.size a ≤ S784x8x512.size a := fun v9003 k0_hw475 => k0_hw475.2

def k0_off1377 (v9018 : BitVec 32) : Fin 3 → Nat :=
  let c1023_i32_5629 : BitVec 32 := 1023#32
  let v9019 : BitVec 32 := Scalar.andi v9018 c1023_i32_5629
  let v9102 : Index := Scalar.indexCast v9019
  let c3_5682 : Index := 3#32
  let c0_5683 : Index := 0#32
  ![v9102.toNat, 3, 0]

def k0_chk476 (v9018 : BitVec 32) : Prop :=
  (∀ a, (k0_off1365 v9018) a + S1x1x512.size a ≤ S784x8x512.size a) ∧
  (∀ a, (k0_off1377 v9018) a + S1x1x512.size a ≤ S784x8x512.size a)
theorem k0_off1365_inb : ∀ (v9018 : BitVec 32) (k0_hw476 : k0_chk476 v9018), ∀ a, (k0_off1365 v9018) a + S1x1x512.size a ≤ S784x8x512.size a := fun v9018 k0_hw476 => k0_hw476.1
theorem k0_off1377_inb : ∀ (v9018 : BitVec 32) (k0_hw476 : k0_chk476 v9018), ∀ a, (k0_off1377 v9018) a + S1x1x512.size a ≤ S784x8x512.size a := fun v9018 k0_hw476 => k0_hw476.2

def k0_off1378 (v9033 : BitVec 32) : Fin 3 → Nat :=
  let c1023_i32_5639 : BitVec 32 := 1023#32
  let v9034 : BitVec 32 := Scalar.andi v9033 c1023_i32_5639
  let v9106 : Index := Scalar.indexCast v9034
  let c4_5684 : Index := 4#32
  let c0_5685 : Index := 0#32
  ![v9106.toNat, 4, 0]

def k0_chk477 (v9033 : BitVec 32) : Prop :=
  (∀ a, (k0_off1367 v9033) a + S1x1x512.size a ≤ S784x8x512.size a) ∧
  (∀ a, (k0_off1378 v9033) a + S1x1x512.size a ≤ S784x8x512.size a)
theorem k0_off1367_inb : ∀ (v9033 : BitVec 32) (k0_hw477 : k0_chk477 v9033), ∀ a, (k0_off1367 v9033) a + S1x1x512.size a ≤ S784x8x512.size a := fun v9033 k0_hw477 => k0_hw477.1
theorem k0_off1378_inb : ∀ (v9033 : BitVec 32) (k0_hw477 : k0_chk477 v9033), ∀ a, (k0_off1378 v9033) a + S1x1x512.size a ≤ S784x8x512.size a := fun v9033 k0_hw477 => k0_hw477.2

def k0_off1379 (v9048 : BitVec 32) : Fin 3 → Nat :=
  let c1023_i32_5649 : BitVec 32 := 1023#32
  let v9049 : BitVec 32 := Scalar.andi v9048 c1023_i32_5649
  let v9110 : Index := Scalar.indexCast v9049
  let c5_5686 : Index := 5#32
  let c0_5687 : Index := 0#32
  ![v9110.toNat, 5, 0]

def k0_chk478 (v9048 : BitVec 32) : Prop :=
  (∀ a, (k0_off1369 v9048) a + S1x1x512.size a ≤ S784x8x512.size a) ∧
  (∀ a, (k0_off1379 v9048) a + S1x1x512.size a ≤ S784x8x512.size a)
theorem k0_off1369_inb : ∀ (v9048 : BitVec 32) (k0_hw478 : k0_chk478 v9048), ∀ a, (k0_off1369 v9048) a + S1x1x512.size a ≤ S784x8x512.size a := fun v9048 k0_hw478 => k0_hw478.1
theorem k0_off1379_inb : ∀ (v9048 : BitVec 32) (k0_hw478 : k0_chk478 v9048), ∀ a, (k0_off1379 v9048) a + S1x1x512.size a ≤ S784x8x512.size a := fun v9048 k0_hw478 => k0_hw478.2

def k0_off1380 (v9063 : BitVec 32) : Fin 3 → Nat :=
  let c1023_i32_5659 : BitVec 32 := 1023#32
  let v9064 : BitVec 32 := Scalar.andi v9063 c1023_i32_5659
  let v9114 : Index := Scalar.indexCast v9064
  let c6_5688 : Index := 6#32
  let c0_5689 : Index := 0#32
  ![v9114.toNat, 6, 0]

def k0_chk479 (v9063 : BitVec 32) : Prop :=
  (∀ a, (k0_off1371 v9063) a + S1x1x512.size a ≤ S784x8x512.size a) ∧
  (∀ a, (k0_off1380 v9063) a + S1x1x512.size a ≤ S784x8x512.size a)
theorem k0_off1371_inb : ∀ (v9063 : BitVec 32) (k0_hw479 : k0_chk479 v9063), ∀ a, (k0_off1371 v9063) a + S1x1x512.size a ≤ S784x8x512.size a := fun v9063 k0_hw479 => k0_hw479.1
theorem k0_off1380_inb : ∀ (v9063 : BitVec 32) (k0_hw479 : k0_chk479 v9063), ∀ a, (k0_off1380 v9063) a + S1x1x512.size a ≤ S784x8x512.size a := fun v9063 k0_hw479 => k0_hw479.2

def k0_off1381 (i : grid0.Coords) : Fin 2 → Nat :=
  let arg0 : BitVec 32 := BitVec.ofNat 32 (i 0).val
  let c8_i32_5692 : BitVec 32 := 8#32
  let v9122 : BitVec 32 := Scalar.muli arg0 c8_i32_5692
  let c0_i32_5693 : BitVec 32 := 0#32
  let v9123 : BitVec 32 := Scalar.addi v9122 c0_i32_5693
  let v9124 : Index := Scalar.indexCast v9123
  let c60 : Index := 60#32
  ![v9124.toNat, 60]
def k0_off1382 (v9125 : BitVec 32) : Fin 3 → Nat :=
  let c1023_i32_5694 : BitVec 32 := 1023#32
  let v9126 : BitVec 32 := Scalar.andi v9125 c1023_i32_5694
  let v9133 : Index := Scalar.indexCast v9126
  let c0_5699 : Index := 0#32
  let c0_5700 : Index := 0#32
  ![v9133.toNat, 0, 0]

def k0_off1383 (i : grid0.Coords) : Fin 2 → Nat :=
  let arg0 : BitVec 32 := BitVec.ofNat 32 (i 0).val
  let c8_i32_5701 : BitVec 32 := 8#32
  let v9137 : BitVec 32 := Scalar.muli arg0 c8_i32_5701
  let c1_i32_5702 : BitVec 32 := 1#32
  let v9138 : BitVec 32 := Scalar.addi v9137 c1_i32_5702
  let v9139 : Index := Scalar.indexCast v9138
  let c60_5703 : Index := 60#32
  ![v9139.toNat, 60]
def k0_off1384 (v9140 : BitVec 32) : Fin 3 → Nat :=
  let c1023_i32_5704 : BitVec 32 := 1023#32
  let v9141 : BitVec 32 := Scalar.andi v9140 c1023_i32_5704
  let v9148 : Index := Scalar.indexCast v9141
  let c1_5709 : Index := 1#32
  let c0_5710 : Index := 0#32
  ![v9148.toNat, 1, 0]

def k0_off1385 (i : grid0.Coords) : Fin 2 → Nat :=
  let arg0 : BitVec 32 := BitVec.ofNat 32 (i 0).val
  let c8_i32_5711 : BitVec 32 := 8#32
  let v9152 : BitVec 32 := Scalar.muli arg0 c8_i32_5711
  let c2_i32_5712 : BitVec 32 := 2#32
  let v9153 : BitVec 32 := Scalar.addi v9152 c2_i32_5712
  let v9154 : Index := Scalar.indexCast v9153
  let c60_5713 : Index := 60#32
  ![v9154.toNat, 60]
def k0_off1386 (v9155 : BitVec 32) : Fin 3 → Nat :=
  let c1023_i32_5714 : BitVec 32 := 1023#32
  let v9156 : BitVec 32 := Scalar.andi v9155 c1023_i32_5714
  let v9163 : Index := Scalar.indexCast v9156
  let c2_5719 : Index := 2#32
  let c0_5720 : Index := 0#32
  ![v9163.toNat, 2, 0]

def k0_off1387 (i : grid0.Coords) : Fin 2 → Nat :=
  let arg0 : BitVec 32 := BitVec.ofNat 32 (i 0).val
  let c8_i32_5721 : BitVec 32 := 8#32
  let v9167 : BitVec 32 := Scalar.muli arg0 c8_i32_5721
  let c3_i32_5722 : BitVec 32 := 3#32
  let v9168 : BitVec 32 := Scalar.addi v9167 c3_i32_5722
  let v9169 : Index := Scalar.indexCast v9168
  let c60_5723 : Index := 60#32
  ![v9169.toNat, 60]
def k0_off1388 (v9170 : BitVec 32) : Fin 3 → Nat :=
  let c1023_i32_5724 : BitVec 32 := 1023#32
  let v9171 : BitVec 32 := Scalar.andi v9170 c1023_i32_5724
  let v9178 : Index := Scalar.indexCast v9171
  let c3_5729 : Index := 3#32
  let c0_5730 : Index := 0#32
  ![v9178.toNat, 3, 0]

def k0_off1389 (i : grid0.Coords) : Fin 2 → Nat :=
  let arg0 : BitVec 32 := BitVec.ofNat 32 (i 0).val
  let c8_i32_5731 : BitVec 32 := 8#32
  let v9182 : BitVec 32 := Scalar.muli arg0 c8_i32_5731
  let c4_i32_5732 : BitVec 32 := 4#32
  let v9183 : BitVec 32 := Scalar.addi v9182 c4_i32_5732
  let v9184 : Index := Scalar.indexCast v9183
  let c60_5733 : Index := 60#32
  ![v9184.toNat, 60]
def k0_off1390 (v9185 : BitVec 32) : Fin 3 → Nat :=
  let c1023_i32_5734 : BitVec 32 := 1023#32
  let v9186 : BitVec 32 := Scalar.andi v9185 c1023_i32_5734
  let v9193 : Index := Scalar.indexCast v9186
  let c4_5739 : Index := 4#32
  let c0_5740 : Index := 0#32
  ![v9193.toNat, 4, 0]

def k0_off1391 (i : grid0.Coords) : Fin 2 → Nat :=
  let arg0 : BitVec 32 := BitVec.ofNat 32 (i 0).val
  let c8_i32_5741 : BitVec 32 := 8#32
  let v9197 : BitVec 32 := Scalar.muli arg0 c8_i32_5741
  let c5_i32_5742 : BitVec 32 := 5#32
  let v9198 : BitVec 32 := Scalar.addi v9197 c5_i32_5742
  let v9199 : Index := Scalar.indexCast v9198
  let c60_5743 : Index := 60#32
  ![v9199.toNat, 60]
def k0_off1392 (v9200 : BitVec 32) : Fin 3 → Nat :=
  let c1023_i32_5744 : BitVec 32 := 1023#32
  let v9201 : BitVec 32 := Scalar.andi v9200 c1023_i32_5744
  let v9208 : Index := Scalar.indexCast v9201
  let c5_5749 : Index := 5#32
  let c0_5750 : Index := 0#32
  ![v9208.toNat, 5, 0]

def k0_off1393 (i : grid0.Coords) : Fin 2 → Nat :=
  let arg0 : BitVec 32 := BitVec.ofNat 32 (i 0).val
  let c8_i32_5751 : BitVec 32 := 8#32
  let v9212 : BitVec 32 := Scalar.muli arg0 c8_i32_5751
  let c6_i32_5752 : BitVec 32 := 6#32
  let v9213 : BitVec 32 := Scalar.addi v9212 c6_i32_5752
  let v9214 : Index := Scalar.indexCast v9213
  let c60_5753 : Index := 60#32
  ![v9214.toNat, 60]
def k0_off1394 (v9215 : BitVec 32) : Fin 3 → Nat :=
  let c1023_i32_5754 : BitVec 32 := 1023#32
  let v9216 : BitVec 32 := Scalar.andi v9215 c1023_i32_5754
  let v9223 : Index := Scalar.indexCast v9216
  let c6_5759 : Index := 6#32
  let c0_5760 : Index := 0#32
  ![v9223.toNat, 6, 0]

def k0_off1395 (i : grid0.Coords) : Fin 2 → Nat :=
  let arg0 : BitVec 32 := BitVec.ofNat 32 (i 0).val
  let c8_i32_5761 : BitVec 32 := 8#32
  let v9227 : BitVec 32 := Scalar.muli arg0 c8_i32_5761
  let c7_i32_5762 : BitVec 32 := 7#32
  let v9228 : BitVec 32 := Scalar.addi v9227 c7_i32_5762
  let v9229 : Index := Scalar.indexCast v9228
  let c60_5763 : Index := 60#32
  ![v9229.toNat, 60]
def k0_off1396 (v9230 : BitVec 32) : Fin 3 → Nat :=
  let c1023_i32_5764 : BitVec 32 := 1023#32
  let v9231 : BitVec 32 := Scalar.andi v9230 c1023_i32_5764
  let v9238 : Index := Scalar.indexCast v9231
  let c7_5769 : Index := 7#32
  let c0_5770 : Index := 0#32
  ![v9238.toNat, 7, 0]

def k0_chk488 (v9230 : BitVec 32) : Prop :=
  (∀ a, (k0_off1396 v9230) a + S1x1x512.size a ≤ S784x8x512.size a)
theorem k0_off1396_inb : ∀ (v9230 : BitVec 32) (k0_hw488 : k0_chk488 v9230), ∀ a, (k0_off1396 v9230) a + S1x1x512.size a ≤ S784x8x512.size a := fun v9230 k0_hw488 => k0_hw488

def k0_off1397 (v9125 : BitVec 32) : Fin 3 → Nat :=
  let c1023_i32_5694 : BitVec 32 := 1023#32
  let v9126 : BitVec 32 := Scalar.andi v9125 c1023_i32_5694
  let v9242 : Index := Scalar.indexCast v9126
  let c0_5771 : Index := 0#32
  let c0_5772 : Index := 0#32
  ![v9242.toNat, 0, 0]

def k0_chk481 (v9125 : BitVec 32) : Prop :=
  (∀ a, (k0_off1382 v9125) a + S1x1x512.size a ≤ S784x8x512.size a) ∧
  (∀ a, (k0_off1397 v9125) a + S1x1x512.size a ≤ S784x8x512.size a)
theorem k0_off1382_inb : ∀ (v9125 : BitVec 32) (k0_hw481 : k0_chk481 v9125), ∀ a, (k0_off1382 v9125) a + S1x1x512.size a ≤ S784x8x512.size a := fun v9125 k0_hw481 => k0_hw481.1
theorem k0_off1397_inb : ∀ (v9125 : BitVec 32) (k0_hw481 : k0_chk481 v9125), ∀ a, (k0_off1397 v9125) a + S1x1x512.size a ≤ S784x8x512.size a := fun v9125 k0_hw481 => k0_hw481.2

def k0_off1398 (v9140 : BitVec 32) : Fin 3 → Nat :=
  let c1023_i32_5704 : BitVec 32 := 1023#32
  let v9141 : BitVec 32 := Scalar.andi v9140 c1023_i32_5704
  let v9246 : Index := Scalar.indexCast v9141
  let c1_5773 : Index := 1#32
  let c0_5774 : Index := 0#32
  ![v9246.toNat, 1, 0]

def k0_chk482 (v9140 : BitVec 32) : Prop :=
  (∀ a, (k0_off1384 v9140) a + S1x1x512.size a ≤ S784x8x512.size a) ∧
  (∀ a, (k0_off1398 v9140) a + S1x1x512.size a ≤ S784x8x512.size a)
theorem k0_off1384_inb : ∀ (v9140 : BitVec 32) (k0_hw482 : k0_chk482 v9140), ∀ a, (k0_off1384 v9140) a + S1x1x512.size a ≤ S784x8x512.size a := fun v9140 k0_hw482 => k0_hw482.1
theorem k0_off1398_inb : ∀ (v9140 : BitVec 32) (k0_hw482 : k0_chk482 v9140), ∀ a, (k0_off1398 v9140) a + S1x1x512.size a ≤ S784x8x512.size a := fun v9140 k0_hw482 => k0_hw482.2

def k0_off1399 (v9155 : BitVec 32) : Fin 3 → Nat :=
  let c1023_i32_5714 : BitVec 32 := 1023#32
  let v9156 : BitVec 32 := Scalar.andi v9155 c1023_i32_5714
  let v9250 : Index := Scalar.indexCast v9156
  let c2_5775 : Index := 2#32
  let c0_5776 : Index := 0#32
  ![v9250.toNat, 2, 0]

def k0_chk483 (v9155 : BitVec 32) : Prop :=
  (∀ a, (k0_off1386 v9155) a + S1x1x512.size a ≤ S784x8x512.size a) ∧
  (∀ a, (k0_off1399 v9155) a + S1x1x512.size a ≤ S784x8x512.size a)
theorem k0_off1386_inb : ∀ (v9155 : BitVec 32) (k0_hw483 : k0_chk483 v9155), ∀ a, (k0_off1386 v9155) a + S1x1x512.size a ≤ S784x8x512.size a := fun v9155 k0_hw483 => k0_hw483.1
theorem k0_off1399_inb : ∀ (v9155 : BitVec 32) (k0_hw483 : k0_chk483 v9155), ∀ a, (k0_off1399 v9155) a + S1x1x512.size a ≤ S784x8x512.size a := fun v9155 k0_hw483 => k0_hw483.2

def k0_off1400 (v9170 : BitVec 32) : Fin 3 → Nat :=
  let c1023_i32_5724 : BitVec 32 := 1023#32
  let v9171 : BitVec 32 := Scalar.andi v9170 c1023_i32_5724
  let v9254 : Index := Scalar.indexCast v9171
  let c3_5777 : Index := 3#32
  let c0_5778 : Index := 0#32
  ![v9254.toNat, 3, 0]

def k0_chk484 (v9170 : BitVec 32) : Prop :=
  (∀ a, (k0_off1388 v9170) a + S1x1x512.size a ≤ S784x8x512.size a) ∧
  (∀ a, (k0_off1400 v9170) a + S1x1x512.size a ≤ S784x8x512.size a)
theorem k0_off1388_inb : ∀ (v9170 : BitVec 32) (k0_hw484 : k0_chk484 v9170), ∀ a, (k0_off1388 v9170) a + S1x1x512.size a ≤ S784x8x512.size a := fun v9170 k0_hw484 => k0_hw484.1
theorem k0_off1400_inb : ∀ (v9170 : BitVec 32) (k0_hw484 : k0_chk484 v9170), ∀ a, (k0_off1400 v9170) a + S1x1x512.size a ≤ S784x8x512.size a := fun v9170 k0_hw484 => k0_hw484.2

def k0_off1401 (v9185 : BitVec 32) : Fin 3 → Nat :=
  let c1023_i32_5734 : BitVec 32 := 1023#32
  let v9186 : BitVec 32 := Scalar.andi v9185 c1023_i32_5734
  let v9258 : Index := Scalar.indexCast v9186
  let c4_5779 : Index := 4#32
  let c0_5780 : Index := 0#32
  ![v9258.toNat, 4, 0]

def k0_chk485 (v9185 : BitVec 32) : Prop :=
  (∀ a, (k0_off1390 v9185) a + S1x1x512.size a ≤ S784x8x512.size a) ∧
  (∀ a, (k0_off1401 v9185) a + S1x1x512.size a ≤ S784x8x512.size a)
theorem k0_off1390_inb : ∀ (v9185 : BitVec 32) (k0_hw485 : k0_chk485 v9185), ∀ a, (k0_off1390 v9185) a + S1x1x512.size a ≤ S784x8x512.size a := fun v9185 k0_hw485 => k0_hw485.1
theorem k0_off1401_inb : ∀ (v9185 : BitVec 32) (k0_hw485 : k0_chk485 v9185), ∀ a, (k0_off1401 v9185) a + S1x1x512.size a ≤ S784x8x512.size a := fun v9185 k0_hw485 => k0_hw485.2

def k0_off1402 (v9200 : BitVec 32) : Fin 3 → Nat :=
  let c1023_i32_5744 : BitVec 32 := 1023#32
  let v9201 : BitVec 32 := Scalar.andi v9200 c1023_i32_5744
  let v9262 : Index := Scalar.indexCast v9201
  let c5_5781 : Index := 5#32
  let c0_5782 : Index := 0#32
  ![v9262.toNat, 5, 0]

def k0_chk486 (v9200 : BitVec 32) : Prop :=
  (∀ a, (k0_off1392 v9200) a + S1x1x512.size a ≤ S784x8x512.size a) ∧
  (∀ a, (k0_off1402 v9200) a + S1x1x512.size a ≤ S784x8x512.size a)
theorem k0_off1392_inb : ∀ (v9200 : BitVec 32) (k0_hw486 : k0_chk486 v9200), ∀ a, (k0_off1392 v9200) a + S1x1x512.size a ≤ S784x8x512.size a := fun v9200 k0_hw486 => k0_hw486.1
theorem k0_off1402_inb : ∀ (v9200 : BitVec 32) (k0_hw486 : k0_chk486 v9200), ∀ a, (k0_off1402 v9200) a + S1x1x512.size a ≤ S784x8x512.size a := fun v9200 k0_hw486 => k0_hw486.2

def k0_off1403 (v9215 : BitVec 32) : Fin 3 → Nat :=
  let c1023_i32_5754 : BitVec 32 := 1023#32
  let v9216 : BitVec 32 := Scalar.andi v9215 c1023_i32_5754
  let v9266 : Index := Scalar.indexCast v9216
  let c6_5783 : Index := 6#32
  let c0_5784 : Index := 0#32
  ![v9266.toNat, 6, 0]

def k0_chk487 (v9215 : BitVec 32) : Prop :=
  (∀ a, (k0_off1394 v9215) a + S1x1x512.size a ≤ S784x8x512.size a) ∧
  (∀ a, (k0_off1403 v9215) a + S1x1x512.size a ≤ S784x8x512.size a)
theorem k0_off1394_inb : ∀ (v9215 : BitVec 32) (k0_hw487 : k0_chk487 v9215), ∀ a, (k0_off1394 v9215) a + S1x1x512.size a ≤ S784x8x512.size a := fun v9215 k0_hw487 => k0_hw487.1
theorem k0_off1403_inb : ∀ (v9215 : BitVec 32) (k0_hw487 : k0_chk487 v9215), ∀ a, (k0_off1403 v9215) a + S1x1x512.size a ≤ S784x8x512.size a := fun v9215 k0_hw487 => k0_hw487.2

def k0_off1404 (i : grid0.Coords) : Fin 2 → Nat :=
  let arg0 : BitVec 32 := BitVec.ofNat 32 (i 0).val
  let c8_i32_5787 : BitVec 32 := 8#32
  let v9274 : BitVec 32 := Scalar.muli arg0 c8_i32_5787
  let c0_i32_5788 : BitVec 32 := 0#32
  let v9275 : BitVec 32 := Scalar.addi v9274 c0_i32_5788
  let v9276 : Index := Scalar.indexCast v9275
  let c61 : Index := 61#32
  ![v9276.toNat, 61]
def k0_off1405 (v9277 : BitVec 32) : Fin 3 → Nat :=
  let c1023_i32_5789 : BitVec 32 := 1023#32
  let v9278 : BitVec 32 := Scalar.andi v9277 c1023_i32_5789
  let v9285 : Index := Scalar.indexCast v9278
  let c0_5794 : Index := 0#32
  let c0_5795 : Index := 0#32
  ![v9285.toNat, 0, 0]

def k0_off1406 (i : grid0.Coords) : Fin 2 → Nat :=
  let arg0 : BitVec 32 := BitVec.ofNat 32 (i 0).val
  let c8_i32_5796 : BitVec 32 := 8#32
  let v9289 : BitVec 32 := Scalar.muli arg0 c8_i32_5796
  let c1_i32_5797 : BitVec 32 := 1#32
  let v9290 : BitVec 32 := Scalar.addi v9289 c1_i32_5797
  let v9291 : Index := Scalar.indexCast v9290
  let c61_5798 : Index := 61#32
  ![v9291.toNat, 61]
def k0_off1407 (v9292 : BitVec 32) : Fin 3 → Nat :=
  let c1023_i32_5799 : BitVec 32 := 1023#32
  let v9293 : BitVec 32 := Scalar.andi v9292 c1023_i32_5799
  let v9300 : Index := Scalar.indexCast v9293
  let c1_5804 : Index := 1#32
  let c0_5805 : Index := 0#32
  ![v9300.toNat, 1, 0]

def k0_off1408 (i : grid0.Coords) : Fin 2 → Nat :=
  let arg0 : BitVec 32 := BitVec.ofNat 32 (i 0).val
  let c8_i32_5806 : BitVec 32 := 8#32
  let v9304 : BitVec 32 := Scalar.muli arg0 c8_i32_5806
  let c2_i32_5807 : BitVec 32 := 2#32
  let v9305 : BitVec 32 := Scalar.addi v9304 c2_i32_5807
  let v9306 : Index := Scalar.indexCast v9305
  let c61_5808 : Index := 61#32
  ![v9306.toNat, 61]
def k0_off1409 (v9307 : BitVec 32) : Fin 3 → Nat :=
  let c1023_i32_5809 : BitVec 32 := 1023#32
  let v9308 : BitVec 32 := Scalar.andi v9307 c1023_i32_5809
  let v9315 : Index := Scalar.indexCast v9308
  let c2_5814 : Index := 2#32
  let c0_5815 : Index := 0#32
  ![v9315.toNat, 2, 0]

def k0_off1410 (i : grid0.Coords) : Fin 2 → Nat :=
  let arg0 : BitVec 32 := BitVec.ofNat 32 (i 0).val
  let c8_i32_5816 : BitVec 32 := 8#32
  let v9319 : BitVec 32 := Scalar.muli arg0 c8_i32_5816
  let c3_i32_5817 : BitVec 32 := 3#32
  let v9320 : BitVec 32 := Scalar.addi v9319 c3_i32_5817
  let v9321 : Index := Scalar.indexCast v9320
  let c61_5818 : Index := 61#32
  ![v9321.toNat, 61]
def k0_off1411 (v9322 : BitVec 32) : Fin 3 → Nat :=
  let c1023_i32_5819 : BitVec 32 := 1023#32
  let v9323 : BitVec 32 := Scalar.andi v9322 c1023_i32_5819
  let v9330 : Index := Scalar.indexCast v9323
  let c3_5824 : Index := 3#32
  let c0_5825 : Index := 0#32
  ![v9330.toNat, 3, 0]

def k0_off1412 (i : grid0.Coords) : Fin 2 → Nat :=
  let arg0 : BitVec 32 := BitVec.ofNat 32 (i 0).val
  let c8_i32_5826 : BitVec 32 := 8#32
  let v9334 : BitVec 32 := Scalar.muli arg0 c8_i32_5826
  let c4_i32_5827 : BitVec 32 := 4#32
  let v9335 : BitVec 32 := Scalar.addi v9334 c4_i32_5827
  let v9336 : Index := Scalar.indexCast v9335
  let c61_5828 : Index := 61#32
  ![v9336.toNat, 61]
def k0_off1413 (v9337 : BitVec 32) : Fin 3 → Nat :=
  let c1023_i32_5829 : BitVec 32 := 1023#32
  let v9338 : BitVec 32 := Scalar.andi v9337 c1023_i32_5829
  let v9345 : Index := Scalar.indexCast v9338
  let c4_5834 : Index := 4#32
  let c0_5835 : Index := 0#32
  ![v9345.toNat, 4, 0]

def k0_off1414 (i : grid0.Coords) : Fin 2 → Nat :=
  let arg0 : BitVec 32 := BitVec.ofNat 32 (i 0).val
  let c8_i32_5836 : BitVec 32 := 8#32
  let v9349 : BitVec 32 := Scalar.muli arg0 c8_i32_5836
  let c5_i32_5837 : BitVec 32 := 5#32
  let v9350 : BitVec 32 := Scalar.addi v9349 c5_i32_5837
  let v9351 : Index := Scalar.indexCast v9350
  let c61_5838 : Index := 61#32
  ![v9351.toNat, 61]
def k0_off1415 (v9352 : BitVec 32) : Fin 3 → Nat :=
  let c1023_i32_5839 : BitVec 32 := 1023#32
  let v9353 : BitVec 32 := Scalar.andi v9352 c1023_i32_5839
  let v9360 : Index := Scalar.indexCast v9353
  let c5_5844 : Index := 5#32
  let c0_5845 : Index := 0#32
  ![v9360.toNat, 5, 0]

def k0_off1416 (i : grid0.Coords) : Fin 2 → Nat :=
  let arg0 : BitVec 32 := BitVec.ofNat 32 (i 0).val
  let c8_i32_5846 : BitVec 32 := 8#32
  let v9364 : BitVec 32 := Scalar.muli arg0 c8_i32_5846
  let c6_i32_5847 : BitVec 32 := 6#32
  let v9365 : BitVec 32 := Scalar.addi v9364 c6_i32_5847
  let v9366 : Index := Scalar.indexCast v9365
  let c61_5848 : Index := 61#32
  ![v9366.toNat, 61]
def k0_off1417 (v9367 : BitVec 32) : Fin 3 → Nat :=
  let c1023_i32_5849 : BitVec 32 := 1023#32
  let v9368 : BitVec 32 := Scalar.andi v9367 c1023_i32_5849
  let v9375 : Index := Scalar.indexCast v9368
  let c6_5854 : Index := 6#32
  let c0_5855 : Index := 0#32
  ![v9375.toNat, 6, 0]

def k0_off1418 (i : grid0.Coords) : Fin 2 → Nat :=
  let arg0 : BitVec 32 := BitVec.ofNat 32 (i 0).val
  let c8_i32_5856 : BitVec 32 := 8#32
  let v9379 : BitVec 32 := Scalar.muli arg0 c8_i32_5856
  let c7_i32_5857 : BitVec 32 := 7#32
  let v9380 : BitVec 32 := Scalar.addi v9379 c7_i32_5857
  let v9381 : Index := Scalar.indexCast v9380
  let c61_5858 : Index := 61#32
  ![v9381.toNat, 61]
def k0_off1419 (v9382 : BitVec 32) : Fin 3 → Nat :=
  let c1023_i32_5859 : BitVec 32 := 1023#32
  let v9383 : BitVec 32 := Scalar.andi v9382 c1023_i32_5859
  let v9390 : Index := Scalar.indexCast v9383
  let c7_5864 : Index := 7#32
  let c0_5865 : Index := 0#32
  ![v9390.toNat, 7, 0]

def k0_chk496 (v9382 : BitVec 32) : Prop :=
  (∀ a, (k0_off1419 v9382) a + S1x1x512.size a ≤ S784x8x512.size a)
theorem k0_off1419_inb : ∀ (v9382 : BitVec 32) (k0_hw496 : k0_chk496 v9382), ∀ a, (k0_off1419 v9382) a + S1x1x512.size a ≤ S784x8x512.size a := fun v9382 k0_hw496 => k0_hw496

def k0_off1420 (v9277 : BitVec 32) : Fin 3 → Nat :=
  let c1023_i32_5789 : BitVec 32 := 1023#32
  let v9278 : BitVec 32 := Scalar.andi v9277 c1023_i32_5789
  let v9394 : Index := Scalar.indexCast v9278
  let c0_5866 : Index := 0#32
  let c0_5867 : Index := 0#32
  ![v9394.toNat, 0, 0]

def k0_chk489 (v9277 : BitVec 32) : Prop :=
  (∀ a, (k0_off1405 v9277) a + S1x1x512.size a ≤ S784x8x512.size a) ∧
  (∀ a, (k0_off1420 v9277) a + S1x1x512.size a ≤ S784x8x512.size a)
theorem k0_off1405_inb : ∀ (v9277 : BitVec 32) (k0_hw489 : k0_chk489 v9277), ∀ a, (k0_off1405 v9277) a + S1x1x512.size a ≤ S784x8x512.size a := fun v9277 k0_hw489 => k0_hw489.1
theorem k0_off1420_inb : ∀ (v9277 : BitVec 32) (k0_hw489 : k0_chk489 v9277), ∀ a, (k0_off1420 v9277) a + S1x1x512.size a ≤ S784x8x512.size a := fun v9277 k0_hw489 => k0_hw489.2

def k0_off1421 (v9292 : BitVec 32) : Fin 3 → Nat :=
  let c1023_i32_5799 : BitVec 32 := 1023#32
  let v9293 : BitVec 32 := Scalar.andi v9292 c1023_i32_5799
  let v9398 : Index := Scalar.indexCast v9293
  let c1_5868 : Index := 1#32
  let c0_5869 : Index := 0#32
  ![v9398.toNat, 1, 0]

def k0_chk490 (v9292 : BitVec 32) : Prop :=
  (∀ a, (k0_off1407 v9292) a + S1x1x512.size a ≤ S784x8x512.size a) ∧
  (∀ a, (k0_off1421 v9292) a + S1x1x512.size a ≤ S784x8x512.size a)
theorem k0_off1407_inb : ∀ (v9292 : BitVec 32) (k0_hw490 : k0_chk490 v9292), ∀ a, (k0_off1407 v9292) a + S1x1x512.size a ≤ S784x8x512.size a := fun v9292 k0_hw490 => k0_hw490.1
theorem k0_off1421_inb : ∀ (v9292 : BitVec 32) (k0_hw490 : k0_chk490 v9292), ∀ a, (k0_off1421 v9292) a + S1x1x512.size a ≤ S784x8x512.size a := fun v9292 k0_hw490 => k0_hw490.2

def k0_off1422 (v9307 : BitVec 32) : Fin 3 → Nat :=
  let c1023_i32_5809 : BitVec 32 := 1023#32
  let v9308 : BitVec 32 := Scalar.andi v9307 c1023_i32_5809
  let v9402 : Index := Scalar.indexCast v9308
  let c2_5870 : Index := 2#32
  let c0_5871 : Index := 0#32
  ![v9402.toNat, 2, 0]

def k0_chk491 (v9307 : BitVec 32) : Prop :=
  (∀ a, (k0_off1409 v9307) a + S1x1x512.size a ≤ S784x8x512.size a) ∧
  (∀ a, (k0_off1422 v9307) a + S1x1x512.size a ≤ S784x8x512.size a)
theorem k0_off1409_inb : ∀ (v9307 : BitVec 32) (k0_hw491 : k0_chk491 v9307), ∀ a, (k0_off1409 v9307) a + S1x1x512.size a ≤ S784x8x512.size a := fun v9307 k0_hw491 => k0_hw491.1
theorem k0_off1422_inb : ∀ (v9307 : BitVec 32) (k0_hw491 : k0_chk491 v9307), ∀ a, (k0_off1422 v9307) a + S1x1x512.size a ≤ S784x8x512.size a := fun v9307 k0_hw491 => k0_hw491.2

def k0_off1423 (v9322 : BitVec 32) : Fin 3 → Nat :=
  let c1023_i32_5819 : BitVec 32 := 1023#32
  let v9323 : BitVec 32 := Scalar.andi v9322 c1023_i32_5819
  let v9406 : Index := Scalar.indexCast v9323
  let c3_5872 : Index := 3#32
  let c0_5873 : Index := 0#32
  ![v9406.toNat, 3, 0]

def k0_chk492 (v9322 : BitVec 32) : Prop :=
  (∀ a, (k0_off1411 v9322) a + S1x1x512.size a ≤ S784x8x512.size a) ∧
  (∀ a, (k0_off1423 v9322) a + S1x1x512.size a ≤ S784x8x512.size a)
theorem k0_off1411_inb : ∀ (v9322 : BitVec 32) (k0_hw492 : k0_chk492 v9322), ∀ a, (k0_off1411 v9322) a + S1x1x512.size a ≤ S784x8x512.size a := fun v9322 k0_hw492 => k0_hw492.1
theorem k0_off1423_inb : ∀ (v9322 : BitVec 32) (k0_hw492 : k0_chk492 v9322), ∀ a, (k0_off1423 v9322) a + S1x1x512.size a ≤ S784x8x512.size a := fun v9322 k0_hw492 => k0_hw492.2

def k0_off1424 (v9337 : BitVec 32) : Fin 3 → Nat :=
  let c1023_i32_5829 : BitVec 32 := 1023#32
  let v9338 : BitVec 32 := Scalar.andi v9337 c1023_i32_5829
  let v9410 : Index := Scalar.indexCast v9338
  let c4_5874 : Index := 4#32
  let c0_5875 : Index := 0#32
  ![v9410.toNat, 4, 0]

def k0_chk493 (v9337 : BitVec 32) : Prop :=
  (∀ a, (k0_off1413 v9337) a + S1x1x512.size a ≤ S784x8x512.size a) ∧
  (∀ a, (k0_off1424 v9337) a + S1x1x512.size a ≤ S784x8x512.size a)
theorem k0_off1413_inb : ∀ (v9337 : BitVec 32) (k0_hw493 : k0_chk493 v9337), ∀ a, (k0_off1413 v9337) a + S1x1x512.size a ≤ S784x8x512.size a := fun v9337 k0_hw493 => k0_hw493.1
theorem k0_off1424_inb : ∀ (v9337 : BitVec 32) (k0_hw493 : k0_chk493 v9337), ∀ a, (k0_off1424 v9337) a + S1x1x512.size a ≤ S784x8x512.size a := fun v9337 k0_hw493 => k0_hw493.2

def k0_off1425 (v9352 : BitVec 32) : Fin 3 → Nat :=
  let c1023_i32_5839 : BitVec 32 := 1023#32
  let v9353 : BitVec 32 := Scalar.andi v9352 c1023_i32_5839
  let v9414 : Index := Scalar.indexCast v9353
  let c5_5876 : Index := 5#32
  let c0_5877 : Index := 0#32
  ![v9414.toNat, 5, 0]

def k0_chk494 (v9352 : BitVec 32) : Prop :=
  (∀ a, (k0_off1415 v9352) a + S1x1x512.size a ≤ S784x8x512.size a) ∧
  (∀ a, (k0_off1425 v9352) a + S1x1x512.size a ≤ S784x8x512.size a)
theorem k0_off1415_inb : ∀ (v9352 : BitVec 32) (k0_hw494 : k0_chk494 v9352), ∀ a, (k0_off1415 v9352) a + S1x1x512.size a ≤ S784x8x512.size a := fun v9352 k0_hw494 => k0_hw494.1
theorem k0_off1425_inb : ∀ (v9352 : BitVec 32) (k0_hw494 : k0_chk494 v9352), ∀ a, (k0_off1425 v9352) a + S1x1x512.size a ≤ S784x8x512.size a := fun v9352 k0_hw494 => k0_hw494.2

def k0_off1426 (v9367 : BitVec 32) : Fin 3 → Nat :=
  let c1023_i32_5849 : BitVec 32 := 1023#32
  let v9368 : BitVec 32 := Scalar.andi v9367 c1023_i32_5849
  let v9418 : Index := Scalar.indexCast v9368
  let c6_5878 : Index := 6#32
  let c0_5879 : Index := 0#32
  ![v9418.toNat, 6, 0]

def k0_chk495 (v9367 : BitVec 32) : Prop :=
  (∀ a, (k0_off1417 v9367) a + S1x1x512.size a ≤ S784x8x512.size a) ∧
  (∀ a, (k0_off1426 v9367) a + S1x1x512.size a ≤ S784x8x512.size a)
theorem k0_off1417_inb : ∀ (v9367 : BitVec 32) (k0_hw495 : k0_chk495 v9367), ∀ a, (k0_off1417 v9367) a + S1x1x512.size a ≤ S784x8x512.size a := fun v9367 k0_hw495 => k0_hw495.1
theorem k0_off1426_inb : ∀ (v9367 : BitVec 32) (k0_hw495 : k0_chk495 v9367), ∀ a, (k0_off1426 v9367) a + S1x1x512.size a ≤ S784x8x512.size a := fun v9367 k0_hw495 => k0_hw495.2

def k0_off1427 (i : grid0.Coords) : Fin 2 → Nat :=
  let arg0 : BitVec 32 := BitVec.ofNat 32 (i 0).val
  let c8_i32_5882 : BitVec 32 := 8#32
  let v9426 : BitVec 32 := Scalar.muli arg0 c8_i32_5882
  let c0_i32_5883 : BitVec 32 := 0#32
  let v9427 : BitVec 32 := Scalar.addi v9426 c0_i32_5883
  let v9428 : Index := Scalar.indexCast v9427
  let c62 : Index := 62#32
  ![v9428.toNat, 62]
def k0_off1428 (v9429 : BitVec 32) : Fin 3 → Nat :=
  let c1023_i32_5884 : BitVec 32 := 1023#32
  let v9430 : BitVec 32 := Scalar.andi v9429 c1023_i32_5884
  let v9437 : Index := Scalar.indexCast v9430
  let c0_5889 : Index := 0#32
  let c0_5890 : Index := 0#32
  ![v9437.toNat, 0, 0]

def k0_off1429 (i : grid0.Coords) : Fin 2 → Nat :=
  let arg0 : BitVec 32 := BitVec.ofNat 32 (i 0).val
  let c8_i32_5891 : BitVec 32 := 8#32
  let v9441 : BitVec 32 := Scalar.muli arg0 c8_i32_5891
  let c1_i32_5892 : BitVec 32 := 1#32
  let v9442 : BitVec 32 := Scalar.addi v9441 c1_i32_5892
  let v9443 : Index := Scalar.indexCast v9442
  let c62_5893 : Index := 62#32
  ![v9443.toNat, 62]
def k0_off1430 (v9444 : BitVec 32) : Fin 3 → Nat :=
  let c1023_i32_5894 : BitVec 32 := 1023#32
  let v9445 : BitVec 32 := Scalar.andi v9444 c1023_i32_5894
  let v9452 : Index := Scalar.indexCast v9445
  let c1_5899 : Index := 1#32
  let c0_5900 : Index := 0#32
  ![v9452.toNat, 1, 0]

def k0_off1431 (i : grid0.Coords) : Fin 2 → Nat :=
  let arg0 : BitVec 32 := BitVec.ofNat 32 (i 0).val
  let c8_i32_5901 : BitVec 32 := 8#32
  let v9456 : BitVec 32 := Scalar.muli arg0 c8_i32_5901
  let c2_i32_5902 : BitVec 32 := 2#32
  let v9457 : BitVec 32 := Scalar.addi v9456 c2_i32_5902
  let v9458 : Index := Scalar.indexCast v9457
  let c62_5903 : Index := 62#32
  ![v9458.toNat, 62]
def k0_off1432 (v9459 : BitVec 32) : Fin 3 → Nat :=
  let c1023_i32_5904 : BitVec 32 := 1023#32
  let v9460 : BitVec 32 := Scalar.andi v9459 c1023_i32_5904
  let v9467 : Index := Scalar.indexCast v9460
  let c2_5909 : Index := 2#32
  let c0_5910 : Index := 0#32
  ![v9467.toNat, 2, 0]

def k0_off1433 (i : grid0.Coords) : Fin 2 → Nat :=
  let arg0 : BitVec 32 := BitVec.ofNat 32 (i 0).val
  let c8_i32_5911 : BitVec 32 := 8#32
  let v9471 : BitVec 32 := Scalar.muli arg0 c8_i32_5911
  let c3_i32_5912 : BitVec 32 := 3#32
  let v9472 : BitVec 32 := Scalar.addi v9471 c3_i32_5912
  let v9473 : Index := Scalar.indexCast v9472
  let c62_5913 : Index := 62#32
  ![v9473.toNat, 62]
def k0_off1434 (v9474 : BitVec 32) : Fin 3 → Nat :=
  let c1023_i32_5914 : BitVec 32 := 1023#32
  let v9475 : BitVec 32 := Scalar.andi v9474 c1023_i32_5914
  let v9482 : Index := Scalar.indexCast v9475
  let c3_5919 : Index := 3#32
  let c0_5920 : Index := 0#32
  ![v9482.toNat, 3, 0]

def k0_off1435 (i : grid0.Coords) : Fin 2 → Nat :=
  let arg0 : BitVec 32 := BitVec.ofNat 32 (i 0).val
  let c8_i32_5921 : BitVec 32 := 8#32
  let v9486 : BitVec 32 := Scalar.muli arg0 c8_i32_5921
  let c4_i32_5922 : BitVec 32 := 4#32
  let v9487 : BitVec 32 := Scalar.addi v9486 c4_i32_5922
  let v9488 : Index := Scalar.indexCast v9487
  let c62_5923 : Index := 62#32
  ![v9488.toNat, 62]
def k0_off1436 (v9489 : BitVec 32) : Fin 3 → Nat :=
  let c1023_i32_5924 : BitVec 32 := 1023#32
  let v9490 : BitVec 32 := Scalar.andi v9489 c1023_i32_5924
  let v9497 : Index := Scalar.indexCast v9490
  let c4_5929 : Index := 4#32
  let c0_5930 : Index := 0#32
  ![v9497.toNat, 4, 0]

def k0_off1437 (i : grid0.Coords) : Fin 2 → Nat :=
  let arg0 : BitVec 32 := BitVec.ofNat 32 (i 0).val
  let c8_i32_5931 : BitVec 32 := 8#32
  let v9501 : BitVec 32 := Scalar.muli arg0 c8_i32_5931
  let c5_i32_5932 : BitVec 32 := 5#32
  let v9502 : BitVec 32 := Scalar.addi v9501 c5_i32_5932
  let v9503 : Index := Scalar.indexCast v9502
  let c62_5933 : Index := 62#32
  ![v9503.toNat, 62]
def k0_off1438 (v9504 : BitVec 32) : Fin 3 → Nat :=
  let c1023_i32_5934 : BitVec 32 := 1023#32
  let v9505 : BitVec 32 := Scalar.andi v9504 c1023_i32_5934
  let v9512 : Index := Scalar.indexCast v9505
  let c5_5939 : Index := 5#32
  let c0_5940 : Index := 0#32
  ![v9512.toNat, 5, 0]

def k0_off1439 (i : grid0.Coords) : Fin 2 → Nat :=
  let arg0 : BitVec 32 := BitVec.ofNat 32 (i 0).val
  let c8_i32_5941 : BitVec 32 := 8#32
  let v9516 : BitVec 32 := Scalar.muli arg0 c8_i32_5941
  let c6_i32_5942 : BitVec 32 := 6#32
  let v9517 : BitVec 32 := Scalar.addi v9516 c6_i32_5942
  let v9518 : Index := Scalar.indexCast v9517
  let c62_5943 : Index := 62#32
  ![v9518.toNat, 62]
def k0_off1440 (v9519 : BitVec 32) : Fin 3 → Nat :=
  let c1023_i32_5944 : BitVec 32 := 1023#32
  let v9520 : BitVec 32 := Scalar.andi v9519 c1023_i32_5944
  let v9527 : Index := Scalar.indexCast v9520
  let c6_5949 : Index := 6#32
  let c0_5950 : Index := 0#32
  ![v9527.toNat, 6, 0]

def k0_off1441 (i : grid0.Coords) : Fin 2 → Nat :=
  let arg0 : BitVec 32 := BitVec.ofNat 32 (i 0).val
  let c8_i32_5951 : BitVec 32 := 8#32
  let v9531 : BitVec 32 := Scalar.muli arg0 c8_i32_5951
  let c7_i32_5952 : BitVec 32 := 7#32
  let v9532 : BitVec 32 := Scalar.addi v9531 c7_i32_5952
  let v9533 : Index := Scalar.indexCast v9532
  let c62_5953 : Index := 62#32
  ![v9533.toNat, 62]
def k0_off1442 (v9534 : BitVec 32) : Fin 3 → Nat :=
  let c1023_i32_5954 : BitVec 32 := 1023#32
  let v9535 : BitVec 32 := Scalar.andi v9534 c1023_i32_5954
  let v9542 : Index := Scalar.indexCast v9535
  let c7_5959 : Index := 7#32
  let c0_5960 : Index := 0#32
  ![v9542.toNat, 7, 0]

def k0_chk504 (v9534 : BitVec 32) : Prop :=
  (∀ a, (k0_off1442 v9534) a + S1x1x512.size a ≤ S784x8x512.size a)
theorem k0_off1442_inb : ∀ (v9534 : BitVec 32) (k0_hw504 : k0_chk504 v9534), ∀ a, (k0_off1442 v9534) a + S1x1x512.size a ≤ S784x8x512.size a := fun v9534 k0_hw504 => k0_hw504

def k0_off1443 (v9429 : BitVec 32) : Fin 3 → Nat :=
  let c1023_i32_5884 : BitVec 32 := 1023#32
  let v9430 : BitVec 32 := Scalar.andi v9429 c1023_i32_5884
  let v9546 : Index := Scalar.indexCast v9430
  let c0_5961 : Index := 0#32
  let c0_5962 : Index := 0#32
  ![v9546.toNat, 0, 0]

def k0_chk497 (v9429 : BitVec 32) : Prop :=
  (∀ a, (k0_off1428 v9429) a + S1x1x512.size a ≤ S784x8x512.size a) ∧
  (∀ a, (k0_off1443 v9429) a + S1x1x512.size a ≤ S784x8x512.size a)
theorem k0_off1428_inb : ∀ (v9429 : BitVec 32) (k0_hw497 : k0_chk497 v9429), ∀ a, (k0_off1428 v9429) a + S1x1x512.size a ≤ S784x8x512.size a := fun v9429 k0_hw497 => k0_hw497.1
theorem k0_off1443_inb : ∀ (v9429 : BitVec 32) (k0_hw497 : k0_chk497 v9429), ∀ a, (k0_off1443 v9429) a + S1x1x512.size a ≤ S784x8x512.size a := fun v9429 k0_hw497 => k0_hw497.2

def k0_off1444 (v9444 : BitVec 32) : Fin 3 → Nat :=
  let c1023_i32_5894 : BitVec 32 := 1023#32
  let v9445 : BitVec 32 := Scalar.andi v9444 c1023_i32_5894
  let v9550 : Index := Scalar.indexCast v9445
  let c1_5963 : Index := 1#32
  let c0_5964 : Index := 0#32
  ![v9550.toNat, 1, 0]

def k0_chk498 (v9444 : BitVec 32) : Prop :=
  (∀ a, (k0_off1430 v9444) a + S1x1x512.size a ≤ S784x8x512.size a) ∧
  (∀ a, (k0_off1444 v9444) a + S1x1x512.size a ≤ S784x8x512.size a)
theorem k0_off1430_inb : ∀ (v9444 : BitVec 32) (k0_hw498 : k0_chk498 v9444), ∀ a, (k0_off1430 v9444) a + S1x1x512.size a ≤ S784x8x512.size a := fun v9444 k0_hw498 => k0_hw498.1
theorem k0_off1444_inb : ∀ (v9444 : BitVec 32) (k0_hw498 : k0_chk498 v9444), ∀ a, (k0_off1444 v9444) a + S1x1x512.size a ≤ S784x8x512.size a := fun v9444 k0_hw498 => k0_hw498.2

def k0_off1445 (v9459 : BitVec 32) : Fin 3 → Nat :=
  let c1023_i32_5904 : BitVec 32 := 1023#32
  let v9460 : BitVec 32 := Scalar.andi v9459 c1023_i32_5904
  let v9554 : Index := Scalar.indexCast v9460
  let c2_5965 : Index := 2#32
  let c0_5966 : Index := 0#32
  ![v9554.toNat, 2, 0]

def k0_chk499 (v9459 : BitVec 32) : Prop :=
  (∀ a, (k0_off1432 v9459) a + S1x1x512.size a ≤ S784x8x512.size a) ∧
  (∀ a, (k0_off1445 v9459) a + S1x1x512.size a ≤ S784x8x512.size a)
theorem k0_off1432_inb : ∀ (v9459 : BitVec 32) (k0_hw499 : k0_chk499 v9459), ∀ a, (k0_off1432 v9459) a + S1x1x512.size a ≤ S784x8x512.size a := fun v9459 k0_hw499 => k0_hw499.1
theorem k0_off1445_inb : ∀ (v9459 : BitVec 32) (k0_hw499 : k0_chk499 v9459), ∀ a, (k0_off1445 v9459) a + S1x1x512.size a ≤ S784x8x512.size a := fun v9459 k0_hw499 => k0_hw499.2

def k0_off1446 (v9474 : BitVec 32) : Fin 3 → Nat :=
  let c1023_i32_5914 : BitVec 32 := 1023#32
  let v9475 : BitVec 32 := Scalar.andi v9474 c1023_i32_5914
  let v9558 : Index := Scalar.indexCast v9475
  let c3_5967 : Index := 3#32
  let c0_5968 : Index := 0#32
  ![v9558.toNat, 3, 0]

def k0_chk500 (v9474 : BitVec 32) : Prop :=
  (∀ a, (k0_off1434 v9474) a + S1x1x512.size a ≤ S784x8x512.size a) ∧
  (∀ a, (k0_off1446 v9474) a + S1x1x512.size a ≤ S784x8x512.size a)
theorem k0_off1434_inb : ∀ (v9474 : BitVec 32) (k0_hw500 : k0_chk500 v9474), ∀ a, (k0_off1434 v9474) a + S1x1x512.size a ≤ S784x8x512.size a := fun v9474 k0_hw500 => k0_hw500.1
theorem k0_off1446_inb : ∀ (v9474 : BitVec 32) (k0_hw500 : k0_chk500 v9474), ∀ a, (k0_off1446 v9474) a + S1x1x512.size a ≤ S784x8x512.size a := fun v9474 k0_hw500 => k0_hw500.2

def k0_off1447 (v9489 : BitVec 32) : Fin 3 → Nat :=
  let c1023_i32_5924 : BitVec 32 := 1023#32
  let v9490 : BitVec 32 := Scalar.andi v9489 c1023_i32_5924
  let v9562 : Index := Scalar.indexCast v9490
  let c4_5969 : Index := 4#32
  let c0_5970 : Index := 0#32
  ![v9562.toNat, 4, 0]

def k0_chk501 (v9489 : BitVec 32) : Prop :=
  (∀ a, (k0_off1436 v9489) a + S1x1x512.size a ≤ S784x8x512.size a) ∧
  (∀ a, (k0_off1447 v9489) a + S1x1x512.size a ≤ S784x8x512.size a)
theorem k0_off1436_inb : ∀ (v9489 : BitVec 32) (k0_hw501 : k0_chk501 v9489), ∀ a, (k0_off1436 v9489) a + S1x1x512.size a ≤ S784x8x512.size a := fun v9489 k0_hw501 => k0_hw501.1
theorem k0_off1447_inb : ∀ (v9489 : BitVec 32) (k0_hw501 : k0_chk501 v9489), ∀ a, (k0_off1447 v9489) a + S1x1x512.size a ≤ S784x8x512.size a := fun v9489 k0_hw501 => k0_hw501.2

def k0_off1448 (v9504 : BitVec 32) : Fin 3 → Nat :=
  let c1023_i32_5934 : BitVec 32 := 1023#32
  let v9505 : BitVec 32 := Scalar.andi v9504 c1023_i32_5934
  let v9566 : Index := Scalar.indexCast v9505
  let c5_5971 : Index := 5#32
  let c0_5972 : Index := 0#32
  ![v9566.toNat, 5, 0]

def k0_chk502 (v9504 : BitVec 32) : Prop :=
  (∀ a, (k0_off1438 v9504) a + S1x1x512.size a ≤ S784x8x512.size a) ∧
  (∀ a, (k0_off1448 v9504) a + S1x1x512.size a ≤ S784x8x512.size a)
theorem k0_off1438_inb : ∀ (v9504 : BitVec 32) (k0_hw502 : k0_chk502 v9504), ∀ a, (k0_off1438 v9504) a + S1x1x512.size a ≤ S784x8x512.size a := fun v9504 k0_hw502 => k0_hw502.1
theorem k0_off1448_inb : ∀ (v9504 : BitVec 32) (k0_hw502 : k0_chk502 v9504), ∀ a, (k0_off1448 v9504) a + S1x1x512.size a ≤ S784x8x512.size a := fun v9504 k0_hw502 => k0_hw502.2

def k0_off1449 (v9519 : BitVec 32) : Fin 3 → Nat :=
  let c1023_i32_5944 : BitVec 32 := 1023#32
  let v9520 : BitVec 32 := Scalar.andi v9519 c1023_i32_5944
  let v9570 : Index := Scalar.indexCast v9520
  let c6_5973 : Index := 6#32
  let c0_5974 : Index := 0#32
  ![v9570.toNat, 6, 0]

def k0_chk503 (v9519 : BitVec 32) : Prop :=
  (∀ a, (k0_off1440 v9519) a + S1x1x512.size a ≤ S784x8x512.size a) ∧
  (∀ a, (k0_off1449 v9519) a + S1x1x512.size a ≤ S784x8x512.size a)
theorem k0_off1440_inb : ∀ (v9519 : BitVec 32) (k0_hw503 : k0_chk503 v9519), ∀ a, (k0_off1440 v9519) a + S1x1x512.size a ≤ S784x8x512.size a := fun v9519 k0_hw503 => k0_hw503.1
theorem k0_off1449_inb : ∀ (v9519 : BitVec 32) (k0_hw503 : k0_chk503 v9519), ∀ a, (k0_off1449 v9519) a + S1x1x512.size a ≤ S784x8x512.size a := fun v9519 k0_hw503 => k0_hw503.2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S63x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S784x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S64x63x3 : Shape := ⟨3, ![64, 63, 3]⟩
abbrev S64x63x512 : Shape := ⟨3, ![64, 63, 512]⟩
abbrev S64 : Shape := ⟨1, ![64]⟩
abbrev S64x63x1 : Shape := ⟨3, ![64, 63, 1]⟩
abbrev S64x63 : Shape := ⟨2, ![64, 63]⟩
abbrev S_ : Shape := ⟨0, ![]⟩
abbrev S63 : Shape := ⟨1, ![63]⟩
abbrev S1x63 : Shape := ⟨2, ![1, 63]⟩
abbrev S64x1 : Shape := ⟨2, ![64, 1]⟩
abbrev S28 : Shape := ⟨1, ![28]⟩
abbrev S1x1x1x28x1 : Shape := ⟨5, ![1, 1, 1, 28, 1]⟩
abbrev S1x1x1x1x28 : Shape := ⟨5, ![1, 1, 1, 1, 28]⟩
abbrev S64x63x1x1x1 : Shape := ⟨5, ![64, 63, 1, 1, 1]⟩
abbrev S64x63x1x28x1 : Shape := ⟨5, ![64, 63, 1, 28, 1]⟩
abbrev S64x63x1x1x28 : Shape := ⟨5, ![64, 63, 1, 1, 28]⟩
abbrev S64x63x1x28x28 : Shape := ⟨5, ![64, 63, 1, 28, 28]⟩
abbrev S64x63x512x1x1 : Shape := ⟨5, ![64, 63, 512, 1, 1]⟩
abbrev S64x63x512x28x28 : Shape := ⟨5, ![64, 63, 512, 28, 28]⟩
abbrev S64x512x28x28 : Shape := ⟨4, ![64, 512, 28, 28]⟩

abbrev nBuf : Space → Nat
  | .hbm => 84
  | .vmem => 0
  | .smem => 0
  | _ => 0

abbrev bufTy : (tb : Table) → Fin (tcTables nBuf tb) → BufTy
  | .hbm, ⟨0, _⟩ => ⟨S64x63x3, .f32⟩
  | .hbm, ⟨1, _⟩ => ⟨S64x63x512, .f32⟩
  | .hbm, ⟨2, _⟩ => ⟨S64, .i32⟩
  | .hbm, ⟨3, _⟩ => ⟨S64x63x1, .f32⟩
  | .hbm, ⟨4, _⟩ => ⟨S64x63, .f32⟩
  | .hbm, ⟨5, _⟩ => ⟨S64x63x1, .f32⟩
  | .hbm, ⟨6, _⟩ => ⟨S64x63, .f32⟩
  | .hbm, ⟨7, _⟩ => ⟨S_, .f32⟩
  | .hbm, ⟨8, _⟩ => ⟨S64x63, .f32⟩
  | .hbm, ⟨9, _⟩ => ⟨S64x63, .f32⟩
  | .hbm, ⟨10, _⟩ => ⟨S_, .f32⟩
  | .hbm, ⟨11, _⟩ => ⟨S64x63, .f32⟩
  | .hbm, ⟨12, _⟩ => ⟨S64x63, .f32⟩
  | .hbm, ⟨13, _⟩ => ⟨S64x63, .i32⟩
  | .hbm, ⟨14, _⟩ => ⟨S_, .f32⟩
  | .hbm, ⟨15, _⟩ => ⟨S64x63, .f32⟩
  | .hbm, ⟨16, _⟩ => ⟨S64x63, .f32⟩
  | .hbm, ⟨17, _⟩ => ⟨S_, .f32⟩
  | .hbm, ⟨18, _⟩ => ⟨S64x63, .f32⟩
  | .hbm, ⟨19, _⟩ => ⟨S64x63, .f32⟩
  | .hbm, ⟨20, _⟩ => ⟨S64x63, .i32⟩
  | .hbm, ⟨21, _⟩ => ⟨S63, .i32⟩
  | .hbm, ⟨22, _⟩ => ⟨S1x63, .i32⟩
  | .hbm, ⟨23, _⟩ => ⟨S64x1, .i32⟩
  | .hbm, ⟨24, _⟩ => ⟨S64x63, .i32⟩
  | .hbm, ⟨25, _⟩ => ⟨S64x63, .i32⟩
  | .hbm, ⟨26, _⟩ => ⟨S64x63, .i1⟩
  | .hbm, ⟨27, _⟩ => ⟨S_, .i32⟩
  | .hbm, ⟨28, _⟩ => ⟨S64x63, .i32⟩
  | .hbm, ⟨29, _⟩ => ⟨S64x63, .i1⟩
  | .hbm, ⟨30, _⟩ => ⟨S64x63, .i1⟩
  | .hbm, ⟨31, _⟩ => ⟨S_, .i32⟩
  | .hbm, ⟨32, _⟩ => ⟨S64x63, .i32⟩
  | .hbm, ⟨33, _⟩ => ⟨S64x63, .i1⟩
  | .hbm, ⟨34, _⟩ => ⟨S64x63, .i1⟩
  | .hbm, ⟨35, _⟩ => ⟨S64x63x1, .i1⟩
  | .hbm, ⟨36, _⟩ => ⟨S_, .f32⟩
  | .hbm, ⟨37, _⟩ => ⟨S_, .f32⟩
  | .hbm, ⟨38, _⟩ => ⟨S64x63x512, .i1⟩
  | .hbm, ⟨39, _⟩ => ⟨S64x63x512, .f32⟩
  | .hbm, ⟨40, _⟩ => ⟨S64x63x512, .f32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S64x63, .i32⟩
  | .hbm, ⟨45, _⟩ => ⟨S64x63, .i32⟩
  | .hbm, ⟨46, _⟩ => ⟨S_, .i32⟩
  | .hbm, ⟨47, _⟩ => ⟨S64x63, .i32⟩
  | .hbm, ⟨48, _⟩ => ⟨S64x63, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S64x63, .i32⟩
  | .hbm, ⟨53, _⟩ => ⟨S64x63, .i32⟩
  | .hbm, ⟨54, _⟩ => ⟨S_, .i32⟩
  | .hbm, ⟨55, _⟩ => ⟨S64x63, .i32⟩
  | .hbm, ⟨56, _⟩ => ⟨S64x63, .i32⟩
  | .hbm, ⟨57, _⟩ => ⟨S28, .i32⟩
  | .hbm, ⟨58, _⟩ => ⟨S1x1x1x28x1, .i32⟩
  | .hbm, ⟨59, _⟩ => ⟨S28, .i32⟩
  | .hbm, ⟨60, _⟩ => ⟨S1x1x1x1x28, .i32⟩
  | .hbm, ⟨61, _⟩ => ⟨S64x63x1x1x1, .i32⟩
  | .hbm, ⟨62, _⟩ => ⟨S64x63x1x28x1, .i32⟩
  | .hbm, ⟨63, _⟩ => ⟨S64x63x1x28x1, .i32⟩
  | .hbm, ⟨64, _⟩ => ⟨S64x63x1x28x1, .i1⟩
  | .hbm, ⟨65, _⟩ => ⟨S64x63x1x1x1, .i32⟩
  | .hbm, ⟨66, _⟩ => ⟨S64x63x1x1x28, .i32⟩
  | .hbm, ⟨67, _⟩ => ⟨S64x63x1x1x28, .i32⟩
  | .hbm, ⟨68, _⟩ => ⟨S64x63x1x1x28, .i1⟩
  | .hbm, ⟨69, _⟩ => ⟨S64x63x1x28x28, .i1⟩
  | .hbm, ⟨70, _⟩ => ⟨S64x63x1x28x28, .i1⟩
  | .hbm, ⟨71, _⟩ => ⟨S64x63x1x28x28, .i1⟩
  | .hbm, ⟨72, _⟩ => ⟨S64x63x512x1x1, .f32⟩
  | .hbm, ⟨73, _⟩ => ⟨S_, .f32⟩
  | .hbm, ⟨74, _⟩ => ⟨S_, .f32⟩
  | .hbm, ⟨75, _⟩ => ⟨S64x63x512x28x28, .i1⟩
  | .hbm, ⟨76, _⟩ => ⟨S64x63x512x28x28, .f32⟩
  | .hbm, ⟨77, _⟩ => ⟨S64x63x512x28x28, .f32⟩
  | .hbm, ⟨78, _⟩ => ⟨S64x63x512x28x28, .f32⟩
  | .hbm, ⟨79, _⟩ => ⟨S_, .f32⟩
  | .hbm, ⟨80, _⟩ => ⟨S64x512x28x28, .f32⟩
  | .hbm, ⟨81, _⟩ => ⟨S_, .f32⟩
  | .hbm, ⟨82, _⟩ => ⟨S64x512x28x28, .f32⟩
  | .hbm, ⟨83, _⟩ => ⟨S64x512x28x28, .f32⟩
  | _, _ => ⟨S64x63x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v27 : Ref sig .tc := ⟨.hbm, 40, rfl⟩
abbrev main_c_5 : Ref sig .tc := ⟨.hbm, 41, rfl⟩
abbrev main_c_6 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_v28 : Ref sig .tc := ⟨.hbm, 48, rfl⟩
abbrev main_c_7 : Ref sig .tc := ⟨.hbm, 49, rfl⟩
abbrev main_c_8 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_9 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_call3_v3 : Ref sig .tc := ⟨.hbm, 77, rfl⟩
abbrev main_v46 : Ref sig .tc := ⟨.hbm, 78, rfl⟩
abbrev main_cst_10 : Ref sig .tc := ⟨.hbm, 79, rfl⟩
abbrev main_v47 : Ref sig .tc := ⟨.hbm, 80, rfl⟩
abbrev main_cst_11 : Ref sig .tc := ⟨.hbm, 81, rfl⟩
abbrev main_v48 : Ref sig .tc := ⟨.hbm, 82, rfl⟩
abbrev main_v49 : Ref sig .tc := ⟨.hbm, 83, rfl⟩

abbrev nD : Nat := 1
abbrev τ : Topo := Topo.v7x

variable {F : FTy → Type} [FloatOps F]
-- ==== Proof.Step.lean ====
/- What one grid point's block is, agent by agent, and the rules that run the kernel's body one operation at a time.

   A word of the table names the cell of one agent of one batch (its low ten bits) and whether the agent counts (the
   bits above). The body clears its block, then takes the agents in order: of each it reads the word, the encoding and
   the cell's row for all eight batches, and then stores the eight new rows. `row n p b` is what the row of cell `p`,
   batch `b` holds after the first `n` agents; `block n b` is the whole block when the new rows of agent `n` have been
   stored for the batches below `b`. Each rule takes the operation at the head of the program off and says what the
   block holds after it. Nothing here depends on the float arithmetic, or on the program that runs the operations. -/
module

public import Idealize.ShloMosaic.Lib.Pipeline.FrameBody
public import Idealize.ShloMosaic.Lib.VecWindow
public import Idealize.ShloMosaic.Lib.WholeRead
public import Idealize.ShloMosaic.Lib.Tactic
public import Idealize.ShloMosaic.Lib.Pointwise.Index

@[expose] public section

set_option maxRecDepth 16384

noncomputable section

namespace Cert.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The table: a word per batch and agent. -/
abbrev STab : Shape := ⟨2, ![64, 63]⟩
/-- A block of the encodings: an agent, a batch of eight, a lane. -/
abbrev SEnc : Shape := ⟨3, ![63, 8, 512]⟩
/-- A block of the output: a cell, a batch of eight, a lane. -/
abbrev SOut : Shape := ⟨3, ![784, 8, 512]⟩
/-- One row of a block, as it is loaded and stored. -/
abbrev SRow : Shape := ⟨3, ![1, 1, 512]⟩
/-- One row, as the arithmetic sees it. -/
abbrev SLane : Shape := ⟨2, ![1, 512]⟩

theorem row_casts : SRow.ShapeCasts SLane := by decide +kernel
theorem lane_casts : SLane.ShapeCasts SRow := by decide +kernel

variable {F : FTy → Type} [FloatOps F]

/-! ## The values -/

/-- The batch of the whole array that batch `b` of grid point `g` is, as the body computes it. -/
def batch (g b : ℕ) : ℕ :=
  (Scalar.indexCast (Scalar.addi (Scalar.muli (BitVec.ofNat 32 g) 8#32) (BitVec.ofNat 32 b))).toNat

/-- The word of agent `n` of batch `b` at grid point `g`. -/
def word (w : STab.Idx → BitVec 32) (g b n : ℕ) : BitVec 32 :=
  if h : batch g b < 64 ∧ n < 63 then w (ix2 ⟨batch g b, h.1⟩ ⟨n, h.2⟩) else 0#32

/-- The cell a word names. -/
def cellOfWord (v : BitVec 32) : ℕ := (Scalar.indexCast (Scalar.andi v 1023#32)).toNat

/-- The encoding of agent `n` of batch `b`, a row. -/
def encRow (x : SEnc.Idx → F .f32) (b n : ℕ) : SRow.Idx → F .f32 := fun i =>
  if h : n < 63 ∧ b < 8 then x (ix3 ⟨n, h.1⟩ ⟨b, h.2⟩ (i 2)) else Scalar.ofBits .f32 0#32

/-- The new row: the greater of the old row `o` and the encoding `e` times the word's upper bits. -/
def newRow (v : BitVec 32) (e o : SRow.Idx → F .f32) : SRow.Idx → F .f32 :=
  shapeCast SRow (maximumf (shapeCast SLane o row_casts : FVec F SLane .f32)
    (mulf (shapeCast SLane e row_casts : FVec F SLane .f32) (broadcast SLane (Scalar.sitofp .f32 (Scalar.shrsi v 10#32))))) lane_casts

variable (w : STab.Idx → BitVec 32) (x : SEnc.Idx → F .f32) (g : ℕ)

/-- The row of cell `p` and batch `b` after the first `n` agents: zero, then each agent of the cell in turn. -/
def row : ℕ → ℕ → ℕ → SRow.Idx → F .f32
  | 0, _, _ => fun _ => Scalar.ofBits .f32 0#32
  | n + 1, p, b => if p = cellOfWord (word w g b n) then newRow (word w g b n) (encRow x b n) (row n p b) else row n p b

/-- The block once the first `n` agents are done and agent `n` is done for the batches below `b`. -/
def block (n b : ℕ) : SOut.Idx → F .f32 := fun y =>
  (if (y 1).val < b then row w x g (n + 1) (y 0).val (y 1).val else row w x g n (y 0).val (y 1).val) (ix3 0 0 (y 2))

/-- An agent done for all eight batches is done. -/
theorem block_eight (n : ℕ) : block w x g n 8 = block w x g (n + 1) 0 := by
  funext y
  have h : (y 1).val < 8 := (y 1).isLt
  simp only [block, h, if_true, Nat.not_lt_zero, if_false]

/-- A position in a row is its lane. -/
theorem row_idx (i : SRow.Idx) : i = ix3 0 0 (i 2) := by
  funext a
  match a with
  | ⟨0, _⟩ => exact Subsingleton.elim (α := Fin 1) _ _
  | ⟨1, _⟩ => exact Subsingleton.elim (α := Fin 1) _ _
  | ⟨2, _⟩ => rfl

/-! ## The rules -/

section Rules

variable {nD : ℕ} {τ : Topo} {sig : RefSig} {Λ : Labels}

local notation "𝕄" => MT nD τ sig Unit (Elt F) ℕ (UR sig nD τ) ℕ

variable (defs : Defs nD τ sig (Elt F) Λ) (c : Dev nD)
variable (a1 : Memref sig .tc .smem STab .i32) (a2 : Memref sig .tc .vmem SEnc .f32) (a3 : Memref sig .tc .vmem SOut .f32)

/-- The three buffers held: the table and the encodings as they are, the output block at `O`. -/
def Held (O : SOut.Idx → F .f32) : sProp 𝕄 :=
  iprop(owns (c : Thread nD τ) a1 fullShare.right w ∗ owns (c : Thread nD τ) a2 fullShare x ∗ owns (c : Thread nD τ) a3 fullShare O)

/-- The program `p`, started with the block at `O`, ends with it at `O'`. -/
def Runs (p : Prog (TpuEff nD τ sig (Elt F) Λ .tc) PUnit) (O O' : SOut.Idx → F .f32) : Prop :=
  ∀ (E : Set ℕ) (K : PUnit → sProp 𝕄),
    iprop(Held w x c a1 a2 a3 O ∗ (Held w x c a1 a2 a3 O' -∗ K ⟨⟩)) ⊢ wp frame (wpE defs Variants.none c none) E p K

variable {defs c a1 a2 a3 w x g} {O O' : SOut.Idx → F .f32}

/-- A program that has returned leaves the block as it is. -/
theorem runs_ret : Runs w x defs c a1 a2 a3 (.ret ⟨⟩) O O := by
  intro E K
  iintro ⟨H, Hk⟩
  sl_step
  iapply Hk; iexact H

/-- A side condition that holds is assumed for nothing. -/
theorem runs_assume {P : Prop} {d : Decidable P} {k : PLift P → Prog (TpuEff nD τ sig (Elt F) Λ .tc) PUnit} (h : P)
    (hk : Runs w x defs c a1 a2 a3 (k ⟨h⟩) O O') : Runs w x defs c a1 a2 a3 (.op (.assume P d) k) O O' :=
  fun E K => (hk E K).trans (wp_assume Variants.none (c : Thread nD τ) none E h)

/-- A load of one word of the table gives that word. -/
theorem runs_word {b n : ℕ} {inb} {hl} {k : ((Rect.unit (s := STab) ![batch g b, n] ![1, 1] inb).shape.Idx → Elt F .i32) → Prog (TpuEff nD τ sig (Elt F) Λ .tc) PUnit}
    (hk : Runs w x defs c a1 a2 a3 (k fun _ => word w g b n) O O') :
    Runs w x defs c a1 a2 a3 (.op (.load a1 (Rect.unit (s := STab) ![batch g b, n] ![1, 1] inb).toLoadRect hl) k) O O' := by
  intro E K
  have h0 : batch g b < 64 := inb 0
  have h1 : n < 63 := inb 1
  have hv : ∀ f : a1.view.ty.Contents (Elt F), a1.view.read (Elt F) f = w →
      a1.view.readAt (Elt F) (Rect.unit (s := STab) ![batch g b, n] ![1, 1] inb).toLoadRect f = fun _ => word w g b n := by
    intro f hf
    funext i
    rw [word, dif_pos ⟨h0, h1⟩, ← hf]
    refine congrArg (a1.view.read (Elt F) f) (funext fun a => Fin.ext ?_)
    match a with
    | ⟨0, _⟩ => have : (i 0).val < 1 := (i 0).isLt; show batch g b + 1 * (i 0).val = batch g b; omega
    | ⟨1, _⟩ => have : (i 1).val < 1 := (i 1).isLt; show n + 1 * (i 1).val = n; omega
  unfold Held owns
  iintro ⟨⟨⟨%f, %hf, H1⟩, H2, H3⟩, Hk⟩
  iapply (wp_load Variants.none (c : Thread nD τ) none E (m := a1) (a1.view.setOn_subset_set _)) $$ H1
  iintro H1
  rw [hv f hf]
  iapply (hk E K)
  unfold Held owns
  isplitr [Hk]
  · isplitl [H1]
    · iexists f; isplitr; · ipureintro; exact hf
      iexact H1
    isplitl [H2]; · iexact H2
    iexact H3
  iexact Hk

/-- A load of the row of agent `n`, batch `b` of the encodings gives that row. -/
theorem runs_enc {b n : ℕ} {inb} {hl} {k : ((Rect.unit (s := SEnc) ![n, b, 0] ![1, 1, 512] inb).shape.Idx → Elt F .f32) → Prog (TpuEff nD τ sig (Elt F) Λ .tc) PUnit}
    (hk : Runs w x defs c a1 a2 a3 (k (encRow x b n)) O O') :
    Runs w x defs c a1 a2 a3 (.op (.load a2 (Rect.unit (s := SEnc) ![n, b, 0] ![1, 1, 512] inb).toLoadRect hl) k) O O' := by
  intro E K
  have h0 : n < 63 := inb 0
  have h1 : b < 8 := inb 1
  have hv : ∀ f : a2.view.ty.Contents (Elt F), a2.view.read (Elt F) f = x →
      a2.view.readAt (Elt F) (Rect.unit (s := SEnc) ![n, b, 0] ![1, 1, 512] inb).toLoadRect f = encRow x b n := by
    intro f hf
    funext i
    rw [encRow, dif_pos ⟨h0, h1⟩, ← hf]
    refine congrArg (a2.view.read (Elt F) f) (funext fun a => Fin.ext ?_)
    match a with
    | ⟨0, _⟩ => have : (i 0).val < 1 := (i 0).isLt; show n + 1 * (i 0).val = n; omega
    | ⟨1, _⟩ => have : (i 1).val < 1 := (i 1).isLt; show b + 1 * (i 1).val = b; omega
    | ⟨2, _⟩ => show 0 + 1 * (i 2).val = (i 2).val; omega
  unfold Held owns
  iintro ⟨⟨H1, ⟨%f, %hf, H2⟩, H3⟩, Hk⟩
  iapply (wp_load Variants.none (c : Thread nD τ) none E (m := a2) (a2.view.setOn_subset_set _)) $$ H2
  iintro H2
  rw [hv f hf]
  iapply (hk E K)
  unfold Held owns
  isplitr [Hk]
  · isplitl [H1]; · iexact H1
    isplitl [H2]
    · iexists f; isplitr; · ipureintro; exact hf
      iexact H2
    iexact H3
  iexact Hk

/-- A load of the block, its value whatever it is. -/
theorem runs_load {r : LoadRect SOut} {hl} {k : (r.shape.Idx → Elt F .f32) → Prog (TpuEff nD τ sig (Elt F) Λ .tc) PUnit}
    (hk : Runs w x defs c a1 a2 a3 (k fun i => O (r.idx i)) O O') :
    Runs w x defs c a1 a2 a3 (.op (.load a3 r hl) k) O O' := by
  intro E K
  unfold Held owns
  iintro ⟨⟨H1, H2, ⟨%f, %hf, H3⟩⟩, Hk⟩
  iapply (wp_load Variants.none (c : Thread nD τ) none E (m := a3) (a3.view.setOn_subset_set _)) $$ H3
  iintro H3
  rw [show a3.view.readAt (Elt F) r f = fun i => O (r.idx i) from hf ▸ rfl]
  iapply (hk E K)
  unfold Held owns
  isplitr [Hk]
  · isplitl [H1]; · iexact H1
    isplitl [H2]; · iexact H2
    iexists f; isplitr; · ipureintro; exact hf
    iexact H3
  iexact Hk

/-- A load of the row of the cell that agent `n` of batch `b` is in gives the row after the agents before it. -/
theorem runs_out {b n : ℕ} {inb} {hl} {k : ((Rect.unit (s := SOut) ![cellOfWord (word w g b n), b, 0] ![1, 1, 512] inb).shape.Idx → Elt F .f32) → Prog (TpuEff nD τ sig (Elt F) Λ .tc) PUnit}
    (hk : Runs w x defs c a1 a2 a3 (k (row w x g n (cellOfWord (word w g b n)) b)) (block w x g n 0) O') :
    Runs w x defs c a1 a2 a3 (.op (.load a3 (Rect.unit (s := SOut) ![cellOfWord (word w g b n), b, 0] ![1, 1, 512] inb).toLoadRect hl) k) (block w x g n 0) O' := by
  refine runs_load ?_
  refine cast (congrArg (fun v => Runs w x defs c a1 a2 a3 (k v) (block w x g n 0) O') (funext fun i => ?_)) hk
  have e0 : ∀ a b : ℕ, (i 0).val < 1 → a + 1 * (i 0).val = a := by intros; omega
  have e1 : ∀ a b : ℕ, (i 1).val < 1 → a + 1 * (i 1).val = a := by intros; omega
  show _ = row w x g n (cellOfWord (word w g b n) + 1 * (i 0).val) (b + 1 * (i 1).val) (ix3 0 0 _)
  rw [e0 _ 0 (i 0).isLt, e1 _ 0 (i 1).isLt]
  exact congrArg _ ((row_idx i).trans (congrArg (ix3 0 0) (Fin.ext (by show (i 2).val = 0 + 1 * (i 2).val; omega))))

/-- A load whose value is not used. -/
theorem runs_dead {r : LoadRect SOut} {hl} {k : (r.shape.Idx → Elt F .f32) → Prog (TpuEff nD τ sig (Elt F) Λ .tc) PUnit}
    (hk : ∀ v, Runs w x defs c a1 a2 a3 (k v) O O') :
    Runs w x defs c a1 a2 a3 (.op (.load a3 r hl) k) O O' := runs_load (hk _)

/-- A store to the block, from what it holds to what reads as the store over it. -/
theorem runs_write {r : Rect SOut} {v : r.shape.Idx → Elt F .f32} {hx : (a3.access r).Stores Finset.univ} {hm} {O₁ : SOut.Idx → F .f32}
    {k : PUnit → Prog (TpuEff nD τ sig (Elt F) Λ .tc) PUnit}
    (hO : ∀ f : a3.view.ty.Contents (Elt F), a3.view.read (Elt F) f = O → a3.view.read (Elt F) (a3.view.writes (Elt F) f [⟨r, v⟩]) = O₁)
    (hk : Runs w x defs c a1 a2 a3 (k ⟨⟩) O₁ O') :
    Runs w x defs c a1 a2 a3 (.op (.store a3 r v Finset.univ hx hm) k) O O' := by
  intro E K
  unfold Held owns
  iintro ⟨⟨H1, H2, ⟨%f, %hf, H3⟩⟩, Hk⟩
  iapply (wp_store_writes₀ Variants.none (c : Thread nD τ) none E (m := a3) (a3.view.set_slice_subset r)) $$ H3
  iintro H3
  iapply (hk E K)
  unfold Held owns
  isplitr [Hk]
  · isplitl [H1]; · iexact H1
    isplitl [H2]; · iexact H2
    iexists _; isplitr; swap; · iexact H3
    ipureintro; exact hO f hf
  iexact Hk

/-- Zeros stored over the whole block: no agent is done. -/
theorem runs_zero {inb} {v : (Rect.unit (s := SOut) ![0, 0, 0] ![784, 8, 512] inb).shape.Idx → Elt F .f32}
    {hx : (a3.access (Rect.unit (s := SOut) ![0, 0, 0] ![784, 8, 512] inb)).Stores Finset.univ} {hm}
    {k : PUnit → Prog (TpuEff nD τ sig (Elt F) Λ .tc) PUnit}
    (hz : v = fun _ => Scalar.ofBits .f32 0#32)
    (hk : Runs w x defs c a1 a2 a3 (k ⟨⟩) (block w x g 0 0) O') :
    Runs w x defs c a1 a2 a3 (.op (.store a3 (Rect.unit (s := SOut) ![0, 0, 0] ![784, 8, 512] inb) v Finset.univ hx hm) k) O O' := by
  refine runs_write (fun f _ => ?_) hk
  refine (View.read_writes_full a3.view f (off := ![0, 0, 0]) inb v []).trans ?_
  subst hz
  funext y
  simp only [block, Nat.not_lt_zero, if_false, row]

/-- The store of agent `n`'s new row for batch `b`, the batches below `b` done: `b` is done too. -/
theorem runs_store {b n : ℕ} {inb} {v : (Rect.unit (s := SOut) ![cellOfWord (word w g b n), b, 0] ![1, 1, 512] inb).shape.Idx → Elt F .f32}
    {hx : (a3.access (Rect.unit (s := SOut) ![cellOfWord (word w g b n), b, 0] ![1, 1, 512] inb)).Stores Finset.univ} {hm}
    {k : PUnit → Prog (TpuEff nD τ sig (Elt F) Λ .tc) PUnit}
    (hv : v = newRow (word w g b n) (encRow x b n) (row w x g n (cellOfWord (word w g b n)) b))
    (hk : Runs w x defs c a1 a2 a3 (k ⟨⟩) (block w x g n (b + 1)) O') :
    Runs w x defs c a1 a2 a3 (.op (.store a3 (Rect.unit (s := SOut) ![cellOfWord (word w g b n), b, 0] ![1, 1, 512] inb) v Finset.univ hx hm) k) (block w x g n b) O' := by
  refine runs_write (fun f hf => ?_) hk
  funext y
  rw [View.read_writes_cons_unit a3.view f inb v [] y rfl, View.writes_nil, hf]
  subst hv
  have h2 : (y 2).val < 512 := (y 2).isLt
  by_cases hb : (y 1).val = b
  · by_cases hp : (y 0).val = cellOfWord (word w g b n)
    · have hmem : ∀ a, (![cellOfWord (word w g b n), b, 0] : Fin 3 → ℕ) a ≤ (y a).val ∧ (y a).val < (![cellOfWord (word w g b n), b, 0] : Fin 3 → ℕ) a + (![1, 1, 512] : Fin 3 → ℕ) a := by
        intro a
        match a with
        | ⟨0, _⟩ => exact ⟨hp.ge, by show (y 0).val < cellOfWord (word w g b n) + 1; omega⟩
        | ⟨1, _⟩ => exact ⟨hb.ge, by show (y 1).val < b + 1; omega⟩
        | ⟨2, _⟩ => exact ⟨Nat.zero_le _, by show (y 2).val < 0 + 512; omega⟩
      rw [dif_pos hmem]
      simp only [block, hb, Nat.lt_succ_self, if_true, row, hp]
      refine congrArg (newRow _ _ _) ((row_idx _).trans (congrArg (ix3 0 0) (Fin.ext ?_)))
      exact Nat.sub_zero _
    · rw [dif_neg (fun h => hp (by have := h 0; simp only [Matrix.cons_val_zero] at this; omega))]
      simp only [block, hb, Nat.lt_succ_self, Nat.lt_irrefl, if_true, if_false, row, if_neg hp]
  · rw [dif_neg (fun h => hb (by have := h 1; simp only [Matrix.cons_val_one, Matrix.cons_val_zero] at this; omega))]
    have e : (y 1).val < b + 1 ↔ (y 1).val < b := by omega
    simp only [block, e]

/-- Once an agent's eight new rows are stored the agent is done. -/
theorem runs_next {n : ℕ} {p : Prog (TpuEff nD τ sig (Elt F) Λ .tc) PUnit}
    (hk : Runs w x defs c a1 a2 a3 p (block w x g (n + 1) 0) O') : Runs w x defs c a1 a2 a3 p (block w x g n 8) O' :=
  (block_eight w x g n).symm ▸ hk

end Rules

/-- A row of a cell below 784 and a batch below eight is inside the block. -/
theorem row_inb (v : BitVec 32) (b : ℕ) (hv : cellOfWord v < 784) (hb : b < 8) :
    ∀ a, (![cellOfWord v, b, 0] : Fin 3 → ℕ) a + SRow.size a ≤ SOut.size a := by
  intro a
  match a with
  | ⟨0, _⟩ => exact hv
  | ⟨1, _⟩ => exact hb
  | ⟨2, _⟩ => exact le_rfl

end Cert.Scatter
-- ==== Proof.Words.lean ====
/- The words of the table: what the host computes of one agent, and what the kernel reads off it.

   Of an agent at column `a`, row `b` (whole numbers, not yet bounded) with flag `v` the host makes the word
   `28 · clip a + clip b`, its bit ten the flag. The kernel takes the low ten bits as a cell and the bits above as a
   factor. The two agree: the cell is `28 · clip a + clip b`, below 784, and the factor is the flag. -/
module

public import proofs.«01_k».proof.Proof.Step

@[expose] public section

set_option maxRecDepth 16384

noncomputable section

namespace Cert.Scatter

open Idealize.ShloMosaic

/-- A whole number brought into 0 … 27. -/
def clip (a : BitVec 32) : BitVec 32 := IntOp.minsi 27#32 (IntOp.maxsi 0#32 a)

/-- The word of an agent: its column, its row, its flag. -/
def packed (a b : BitVec 32) (v : BitVec 1) : BitVec 32 :=
  IntOp.ori (IntOp.addi (IntOp.muli (clip a) 28#32) (clip b)) (IntOp.shli .host (v.setWidth 32) 10#32)

/-- A clipped number is one of 0 … 27. -/
theorem clip_mem (a : BitVec 32) : ∃ k : Fin 28, clip a = BitVec.ofNat 32 k.val := by
  have h : (clip a).toNat < 28 := by
    unfold clip IntOp.minsi IntOp.maxsi
    by_cases h1 : a.slt 0#32
    · rw [if_pos h1]; decide
    · rw [if_neg h1]
      by_cases h2 : (27#32).slt a
      · rw [if_pos h2]; decide
      · rw [if_neg h2]
        rw [BitVec.slt_eq_decide, decide_eq_true_eq] at h1 h2
        rw [show (0#32 : BitVec 32).toInt = 0 from by decide] at h1
        rw [show (27#32 : BitVec 32).toInt = 27 from by decide] at h2
        have := BitVec.toInt_eq_toNat_cond a
        have := a.isLt
        split at * <;> omega
  exact ⟨⟨_, h⟩, (BitVec.ofNat_toNat 32 (clip a)).symm ▸ (BitVec.setWidth_eq _).symm⟩

/-- What the kernel reads off the word of two numbers already in 0 … 27. -/
theorem packed_small (i j : Fin 28) (v : BitVec 1) :
    cellOfWord (IntOp.ori (IntOp.addi (IntOp.muli (BitVec.ofNat 32 i.val) 28#32) (BitVec.ofNat 32 j.val)) (IntOp.shli .host (v.setWidth 32) 10#32))
        = i.val * 28 + j.val
      ∧ Scalar.shrsi (IntOp.ori (IntOp.addi (IntOp.muli (BitVec.ofNat 32 i.val) 28#32) (BitVec.ofNat 32 j.val)) (IntOp.shli .host (v.setWidth 32) 10#32)) 10#32
        = v.setWidth 32 := by
  have hv : v = 0#1 ∨ v = 1#1 := by
    obtain ⟨⟨n, hn⟩⟩ := v
    have : n = 0 ∨ n = 1 := by omega
    rcases this with rfl | rfl
    · exact .inl rfl
    · exact .inr rfl
  rcases hv with rfl | rfl
  · revert i j; decide +kernel
  · revert i j; decide +kernel

/-- The cell of an agent's word. -/
theorem cell_packed (a b : BitVec 32) (v : BitVec 1) : cellOfWord (packed a b v) = (clip a).toNat * 28 + (clip b).toNat := by
  obtain ⟨i, hi⟩ := clip_mem a
  obtain ⟨j, hj⟩ := clip_mem b
  unfold packed
  rw [hi, hj, (packed_small i j v).1, BitVec.toNat_ofNat, BitVec.toNat_ofNat, Nat.mod_eq_of_lt (by omega), Nat.mod_eq_of_lt (by omega)]

/-- The factor of an agent's word is its flag. -/
theorem factor_packed (a b : BitVec 32) (v : BitVec 1) : Scalar.shrsi (packed a b v) 10#32 = v.setWidth 32 := by
  obtain ⟨i, hi⟩ := clip_mem a
  obtain ⟨j, hj⟩ := clip_mem b
  unfold packed
  rw [hi, hj, (packed_small i j v).2]

/-- A clipped number is below 28. -/
theorem clip_lt (a : BitVec 32) : (clip a).toNat < 28 := by
  obtain ⟨i, hi⟩ := clip_mem a
  rw [hi, BitVec.toNat_ofNat, Nat.mod_eq_of_lt (by omega)]
  exact i.isLt

/-- The cell of an agent's word is inside the grid of 784. -/
theorem cell_packed_lt (a b : BitVec 32) (v : BitVec 1) : cellOfWord (packed a b v) < 784 := by
  rw [cell_packed]
  have := clip_lt a
  have := clip_lt b
  omega

/-- If every word of a table names a cell inside the grid, so does every word the kernel may read of it. -/
theorem word_lt (w : STab.Idx → BitVec 32) (h : ∀ i, cellOfWord (w i) < 784) (g b n : ℕ) : cellOfWord (word w g b n) < 784 := by
  unfold word
  split
  · exact h _
  · decide

/-- Batch `b` of grid point `g` is batch `8 g + b` of the whole. -/
theorem batch_eq (g b : ℕ) (hg : g < 8) (hb : b < 8) : batch g b = 8 * g + b := by
  have : ∀ g b : Fin 8, batch g.val b.val = 8 * g.val + b.val := by decide +kernel
  exact this ⟨g, hg⟩ ⟨b, hb⟩

end Cert.Scatter
-- ==== Proof.Table.lean ====
/- What the host makes of the arguments before the kernel runs: the table of words, one per batch and agent.

   An agent's position is a pair of lengths, 0 … 224 across the grid; times 28 and over 224 it is a column and a row.
   The agent counts when it is one of the batch's first `len` and its column and row are below 28. -/
module

public import proofs.«01_k».proof.Proof.Words

@[expose] public section

noncomputable section

namespace Cert.Scatter

open Idealize.ShloMosaic

variable {F : FTy → Type} [FloatOps F]

/-- The positions: a batch, an agent, one of three lengths. -/
abbrev SPos : Shape := ⟨3, ![64, 63, 3]⟩
/-- A number per batch. -/
abbrev SLen : Shape := ⟨1, ![64]⟩

/-- The column or row a length falls in: times 28, over 224, to a whole number. -/
def coord (p : F .f32) : BitVec 32 :=
  FloatOps.fptosi 32 (FloatOps.hostDivf (FloatOps.mulf p (FloatOps.ofBits .f32 0x41E00000#32)) (FloatOps.ofBits .f32 0x43600000#32))

/-- Whether agent `n` counts: it is among the first `len`, and its column and row are below 28. -/
def counts (len : BitVec 32) (n : ℕ) (a b : BitVec 32) : BitVec 1 :=
  IntOp.andi (IntOp.andi (IntOp.cmpi .sgt len (BitVec.ofNat 32 n)) (IntOp.cmpi .slt a 28#32)) (IntOp.cmpi .slt b 28#32)

/-- The column of an agent. -/
def col (p : SPos.Idx → F .f32) (b : Fin 64) (n : Fin 63) : BitVec 32 := coord (p (ix3 b n 0))
/-- The row of an agent. -/
def line (p : SPos.Idx → F .f32) (b : Fin 64) (n : Fin 63) : BitVec 32 := coord (p (ix3 b n 1))
/-- The flag of an agent. -/
def flag (p : SPos.Idx → F .f32) (l : SLen.Idx → BitVec 32) (b : Fin 64) (n : Fin 63) : BitVec 1 :=
  counts (l (ix1 b)) n.val (col p b n) (line p b n)

/-- The table of words. -/
def table (p : SPos.Idx → F .f32) (l : SLen.Idx → BitVec 32) : STab.Idx → BitVec 32 := fun i =>
  packed (col p (i 0) (i 1)) (line p (i 0) (i 1)) (flag p l (i 0) (i 1))

/-- Every word of the table names a cell of the grid. -/
theorem table_lt (p : SPos.Idx → F .f32) (l : SLen.Idx → BitVec 32) (i : STab.Idx) : cellOfWord (table p l i) < 784 :=
  cell_packed_lt _ _ _

end Cert.Scatter
-- ==== Proof.IdealBody.lean ====
/- The ideal kernel's body at one grid point: whatever its block held, it leaves the block of all 63 agents. The body
   is straight: clear the block, then agent by agent eight reads of a word, an encoding and a row, and eight stores. -/
module

public import proofs.«01_k».proof.Proof.Step
public import proofs.«01_k».proof.Proof.Gen.KernelIdeal.Skeleton

@[expose] public section

set_option maxRecDepth 16384

noncomputable section

namespace Cert.KernelIdeal.Body

open Cert.KernelIdeal Cert.KernelIdeal.Gen Cert.Scatter
open Idealize.ShloMosaic Idealize.ShloMosaic.TcCoe Idealize.SL.Sem

variable {F : FTy → Type} [FloatOps F]

set_option maxHeartbeats 0 in
/-- The body, given a table whose words name cells inside the block, ends with the block as after the 63 agents. -/
theorem body_runs (c : Dev nD) (i : grid0.Coords)
    (arg1 : Memref sig .tc .smem S64x63 .i32) (harg1 : arg1.IsWhole) (arg2 : Memref sig .tc .vmem S63x8x512 .f32) (harg2 : arg2.IsWhole)
    (arg3 : Memref sig .tc .vmem S784x8x512 .f32) (harg3 : arg3.IsWhole) (w : STab.Idx → BitVec 32) (x : SEnc.Idx → F .f32)
    (hw : ∀ b n, cellOfWord (word w (i 0).val b n) < 784) (O : SOut.Idx → F .f32) :
    Runs w x (defs₀ (F := F)) c arg1 arg2 arg3 (cc0__scatter_kernel_skel i arg1 harg1 arg2 harg2 arg3 harg3) O (block w x (i 0).val 63 0) := by
  refine runs_dead fun _ => ?_
  refine runs_zero (g := (i 0).val) rfl ?_
  iterate 63
    iterate 8
      refine runs_word ?_
      refine runs_assume (by first
        | exact row_inb _ _ (hw _ _) (by decide)
        | exact ⟨row_inb _ _ (hw _ _) (by decide), row_inb _ _ (hw _ _) (by decide)⟩) ?_
      refine runs_enc ?_
      refine runs_out ?_
    iterate 8
      refine runs_dead fun _ => ?_
      refine runs_store rfl ?_
    refine runs_next ?_
  exact runs_ret

end Cert.KernelIdeal.Body
-- ==== Proof.IdealHost.lean ====
/- The ideal program around its one kernel call: what the call finds in every buffer, and that the lines before and after
   it are what `main` is made of. The call finds the table of words (`table`) and the encodings with agent and batch
   exchanged; the arguments are as launched. -/
module

public import proofs.«01_k».proof.Proof.Table
public import proofs.«01_k».proof.Proof.Gen.KernelIdeal.Launch
public import Idealize.ShloMosaic.Lib.Pipeline.FrameSuffix
public import Idealize.ShloMosaic.Lib.StableHlo.ReadAt
public import Idealize.ShloMosaic.Lib.WordCmp

@[expose] public section

set_option maxRecDepth 16384

noncomputable section

namespace Cert.KernelIdeal.Host

open Cert.KernelIdeal Cert.KernelIdeal.Gen Cert.Scatter
open Idealize.ShloMosaic Idealize.ShloMosaic.TcCoe
open Idealize.SL Idealize.SL.Sem

variable {F : FTy → Type} [FloatOps F]
variable (m : (ℓ : Loc nD τ sig) → Buf (Elt F) ℓ)

/-- The lines before the call, in their five stretches. -/
abbrev before : List (List (HloOp τ sig (Elt F))) := [hostOps0, hostOps0_1, hostOps0_2, hostOps0_3, hostOps0_4]

/-- What each buffer of core `c` holds when the call is reached. -/
abbrev V0 (c : Dev nD) : Valuation τ sig (Elt F) := StableHlo.after (List.flatten before) (fun b => m (c, b))

/-- The same at one buffer. -/
abbrev V (c : Dev nD) (b : Ref sig .tc) : Buf (Elt F) ((c : Thread nD τ).loc b) := V0 m c (Proc.devRef .tc b)

/-- No line before the call allocates a buffer. -/
theorem before_fresh : (before (F := F)).Forall fun ops => ops.Forall fun op => op.fresh = ∅ := by
  simp only [List.Forall]; repeat' constructor

/-- Nor does a line after it. -/
theorem after_fresh : ∀ ops ∈ ([hostOps1] : List (List (HloOp τ sig (Elt F)))), ∀ op ∈ ops, op.fresh = ∅ := by
  intro ops hops op hop
  simp only [List.mem_cons, List.mem_nil_iff, or_false] at hops
  subst hops
  have h : (hostOps1 : List (HloOp τ sig (Elt F))).Forall fun op => op.fresh = ∅ := by simp only [List.Forall]; repeat' constructor
  exact (List.forall_iff_forall_mem.mp h) op hop

set_option maxHeartbeats 800000 in
/-- `main` is the lines before the call, the call, and the lines after it. -/
theorem main_around (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main before [hostOps1]
    (by simp only [List.Forall]; exact ⟨hostOps0_sub, hostOps0_1_sub, hostOps0_2_sub, hostOps0_3_sub, hostOps0_4_sub⟩) before_fresh main_chain

/-- The lines after the call touch its arrays and buffers it leaves alone, and not the table. -/
theorem after_sub : ∀ ops ∈ ([hostOps1] : List (List (HloOp τ sig (Elt F)))), ∀ op ∈ ops, op.bufs ⊆ Pipeline.tailRefs sig pre0 spec0 := by
  intro ops hops op hop
  simp only [List.mem_cons, List.mem_nil_iff, or_false] at hops
  subst hops
  refine Pipeline.sub_tailRefs pre0 spec0 op ((List.forall_iff_forall_mem.mp hostOps1_sub) op hop) ?_
  simp only [hostOps1, List.mem_cons, List.mem_nil_iff, or_false] at hop
  rcases hop with rfl | rfl
  all_goals
    intro j
    fin_cases j
    simp only [StableHlo.unary_bufs, StableHlo.reshape_bufs, Finset.mem_insert, Finset.mem_singleton, not_or]
    and_intros <;> exact StableHlo.devRef_ne_of_ne (by decide)

/-- They write neither of the call's arrays. -/
theorem after_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  rcases hop with rfl | rfl
  all_goals
    intro w
    fin_cases w <;> simp only [StableHlo.unary_writes, StableHlo.reshape_writes, Finset.mem_singleton] <;>
      exact StableHlo.devRef_ne_of_ne (by decide)

/-- An argument is no line's result: before the call it is as launched. -/
theorem V_arg (c : Dev nD) (b : Ref sig .tc) (hb : b = main_arg0 ∨ b = main_arg1 ∨ b = main_arg2) : V m c b = m ((c : Thread nD τ).loc b) := by
  refine StableHlo.after_of_forall_not_mem (b := Proc.devRef .tc b) _ _ (List.forall_iff_forall_mem.mp ?_)
  simp only [before, hostOps0, hostOps0_1, hostOps0_2, hostOps0_3, hostOps0_4, List.flatten_cons, List.flatten_nil, List.append_nil, List.cons_append,
    List.nil_append, List.Forall, StableHlo.nullary_writes, StableHlo.unary_writes, StableHlo.binary_writes, StableHlo.reshape_writes, Finset.mem_singleton]
  rcases hb with rfl | rfl | rfl
  all_goals
    repeat' apply And.intro
    all_goals exact StableHlo.devRef_ne_of_ne (by decide)

/-- The call finds the table of words. -/
theorem V_table (c : Dev nD) : V m c main_v34 = table (m ((c : Thread nD τ).loc main_arg0)) (m ((c : Thread nD τ).loc main_arg2)) := by
  funext i
  unfold V V0 before
  after_reads_at
  rfl

/-- The call finds the encodings, agent first. -/
theorem V_enc (c : Dev nD) (i : S63x64x512.Idx) : V m c main_v35 i = m ((c : Thread nD τ).loc main_arg1) (ix3 (i 1) (i 0) (i 2)) := by
  unfold V V0 before
  after_reads_at

end Cert.KernelIdeal.Host
-- ==== Proof.IdealRun.lean ====
/- The ideal program's run: what every array holds at the end, and that the arguments and the machine are left alone.

   The kernel call runs the body at eight grid points; each leaves in its block of the output what `block` says after
   all 63 agents, of that point's table words and encodings. -/
module

public import proofs.«01_k».proof.Proof.IdealBody
public import proofs.«01_k».proof.Proof.IdealHost
public import Idealize.ShloMosaic.Lib.Pipeline.FrameBody
public import Idealize.ShloMosaic.Lib.Ring
public import Idealize.ShloMosaic.Lib.Tactic

@[expose] public section

set_option maxRecDepth 16384

noncomputable section

namespace Cert.KernelIdeal.Run

open Cert.KernelIdeal Cert.KernelIdeal.Gen Cert.KernelIdeal.Host Cert.Scatter
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The table -/

/-- The table as the call finds it (there is one device). -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- No block's place depends on the table, so any table is admissible. -/
abbrev adm : (pcfg0 (F := F)).Adm := ⟨tbl m, trivial⟩

/-- The call, at this table. -/
abbrev cfgM : Pipeline.Cfg sig Λ₀ := cfg0 (adm m)

/-- The table's words. -/
abbrev words : STab.Idx → BitVec 32 := table (m (((0 : Dev nD) : Thread nD τ).loc main_arg0)) (m (((0 : Dev nD) : Thread nD τ).loc main_arg2))

theorem tbl_eq : tbl m 0 = words m := V_table m 0

/-- The share of the table the body is given is the table's buffer, read only. -/
theorem table_held (c : Dev nD) : (Pipeline.ΦT pre0 (tbl m) c : sProp 𝕄) = owns (c : Thread nD τ) (Memref.whole main_v34) fullShare.right (words m) := by
  rw [owns_whole, ← tbl_eq]
  unfold Pipeline.ΦT Pipeline.prefHeld
  rw [show (Finset.univ : Finset (Fin 1)) = {(0 : Fin 1)} from by decide, bigSep_singleton]
  rfl

/-! ## The blocks -/

/-- The encodings' block at point `t`. -/
def encBlock (c : Dev nD) (t : Fin (cfgM m).N) : (((cfgM m).win 0).xblock ((cfgM m).grid.coords t)).Idx → Elt F ((cfgM m).win 0).elt :=
  (((cfgM m).win 0).blk t).view.read (Elt F) (V m c (Pipeline.arrRef spec0 0))

/-- What the body leaves in the output's block at point `t`. -/
def outBlock (c : Dev nD) (t : Fin (cfgM m).N) : SOut.Idx → F .f32 :=
  block (words m) (encBlock m c t) (grid0.coords t 0).val 63 0

/-- The current staging buffers at point `t`. -/
abbrev encBuf (t : Fin (cfgM m).N) : Memref sig .tc .vmem S63x8x512 .f32 := spec0_0.stage ((cfgM m).slots t 0)
abbrev outBuf (t : Fin (cfgM m).N) : Memref sig .tc .vmem S784x8x512 .f32 := spec0_1.stage ((cfgM m).slots t 1)

/-- The body as the call runs it at point `t`. -/
abbrev bodyAt (t : Fin (cfgM m).N) : Prog (TpuEff nD τ sig (Elt F) Λ₀ .tc) PUnit :=
  cc0__scatter_kernel (grid0.coords t) (Memref.whole main_v34) (Memref.isWhole_whole _)
    (encBuf m t) (hstage0_0 (((cfgM m).slots t 0).cast nbuf0_0)) (outBuf m t) (hstage0_1 (((cfgM m).slots t 1).cast nbuf0_1))

/-- What the call's buffers hold: the arrays as found; after the body at a point the encodings' block in its buffer, and
    the point's output block in the other; the table's share throughout. -/
def dats (_ : Fin 1) (c : Dev nD) : Dat τ (Elt F) Unit ℕ (UR sig nD τ) ℕ (cfgM m) c where
  A w := V m c (Pipeline.arrRef spec0 w)
  after w t := match w with
    | ⟨0, _⟩ => encBlock m c t
    | ⟨1, _⟩ => outBlock m c t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after_enc (c : Dev nD) (t : Fin (cfgM m).N) : (dats m 0 c).after 0 t = encBlock m c t := by dsimp only [dats]; try rfl
theorem after_out (c : Dev nD) (t : Fin (cfgM m).N) : (dats m 0 c).after 1 t = outBlock m c t := by dsimp only [dats]; try rfl

/-- The encodings' buffer holds its block at every point. -/
theorem before_enc (c : Dev nD) (t : Fin (cfgM m).N) (d) : (dats m 0 c).before 0 t d = encBlock m c t :=
  ((dats m 0 c).before_in_eq_fetched 0 rfl (fun _ => rfl) (fun _ _ _ => rfl)
      (fun t => by rw [after_enc]; unfold Dat.blockOf encBlock; rw [A_eq]; try rfl) t d).trans
    (by unfold Dat.fetched Dat.blockOf encBlock; rw [A_eq]; try rfl)

/-! ## The body at a point -/

/-- What the body is given at point `t`, -/
def bodyPre (c : Dev nD) (t : Fin (cfgM m).N) : sProp 𝕄 :=
  iprop((dats m 0 c).Φ t.castSucc ∗ (dats m 0 c).owesAt () t.castSucc
    ∗ (∃ d, owns (c : Thread nD τ) (encBuf m t) fullShare ((dats m 0 c).before 0 t d))
    ∗ (∃ d, owns (c : Thread nD τ) (outBuf m t) fullShare ((dats m 0 c).before 1 t d)))

/-- and what it gives back. -/
def bodyPost (c : Dev nD) (t : Fin (cfgM m).N) : sProp 𝕄 :=
  iprop((dats m 0 c).Φ t.succ ∗ (dats m 0 c).owesAt () t.succ
    ∗ owns (c : Thread nD τ) (encBuf m t) fullShare ((dats m 0 c).after 0 t)
    ∗ owns (c : Thread nD τ) (outBuf m t) fullShare ((dats m 0 c).after 1 t))

/-- The body at any point leaves the point's block. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  rw [show (dats m 0 c).Φ t.succ = (dats m 0 c).Φ t.castSucc from rfl,
    show (dats m 0 c).owesAt () t.succ = (dats m 0 c).owesAt () t.castSucc from rfl, after_enc, after_out]
  simp only [before_enc]
  rw [show (dats m 0 c).Φ t.castSucc = iprop(Pipeline.ΦA spec0 c ∗ Pipeline.ΦT pre0 (tbl m) c) from rfl, table_held]
  simp only [cc0__scatter_kernel_eq_skeleton]
  iintro ⟨⟨HΦ, HT⟩, Ho, ⟨%d0, H0⟩, ⟨%d1, H1⟩⟩
  iapply (Body.body_runs c (grid0.coords t) (Memref.whole main_v34) (Memref.isWhole_whole _) (encBuf m t) _ (outBuf m t) _ (words m) (encBlock m c t)
    (fun b n => word_lt _ (table_lt _ _) _ b n) ((dats m 0 c).before 1 t d1) Set.univ _)
  unfold Held outBlock
  isplitl [HT H0 H1]
  · isplitl [HT]; · iexact HT
    isplitl [H0]; · iexact H0
    iexact H1
  iintro ⟨HT, H0, H1⟩
  isplitl [HΦ HT]
  · isplitl [HΦ]; · iexact HΦ
    iexact HT
  isplitl [Ho]; · iexact Ho
  isplitl [H0]; · iexact H0
  iexact H1

theorem defs₀_row (t : Fin (cfgM m).N) :
    defs₀ (F := F) .tc (cfgM m).body ((cfgM m).bodyArgs t ((cfgM m).slots t)) = bodyAt m t := by
  unfold defs₀; rw [Defs.onTc_tc]

/-- So the call's body keeps what is said of it, at every point. -/
theorem body_obligation (c : Dev nD) : BodyObligation (dats (F := F) m 0 c) (defs₀ (F := F)) Variants.none () Set.univ (fun _ => false) := fun t => by
  rw [bigSep_W0, bigSep_W0, defs₀_row m]
  exact triple_restated (sound_body m c t) rfl .rfl fun _ => .rfl

/-! ## The run -/

/-- What every buffer outside the call holds at the end. -/
abbrev final (c : Dev nD) (b : Ref sig .tc) : Buf (Elt F) ((c : Thread nD τ).loc b) :=
  Pipeline.afterTail pcfgs (fun _ => adm m) (dats m) 0 (V0 m) [hostOps1] c b

-- the run theorem's implicit arguments are found by unifying its conclusion with this one
set_option backward.isDefEq.respectTransparency.types false in
set_option maxHeartbeats 800000 in
/-- Every execution ends with the call's arrays as the blocks make them, every other buffer as the lines after the call
    leave it, and every semaphore at zero. -/
theorem run : θ_run defs (onTc (τ := τ) (main (F := F))) (s₀ m ρ) (fun r =>
    Pipeline.FramePost (Pipeline.pin pcfgs fun _ => adm m) (dats m) 0 (final m) r ∧ r.2.sem = fun _ => 0) :=
  Pipeline.θ_run_frameP_around_track (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := after_sub) (hfresh := after_fresh) (hkeep := after_keeps)
    (hmain := main_around m Variants.none) (hA := A_eq m) (hpf := V_pre m)
    (hin := fun _ => .rfl) (hout := fun c => by
      show iprop(Pipeline.ΦA spec0 c ∗ Pipeline.ΦT pre0 (tbl m) c) ⊢ _
      iintro ⟨H, -⟩; iexact H)

/-- An argument ends as launched. -/
theorem final_arg (c : Dev nD) (b : Ref sig .tc) (hb : b = main_arg0 ∨ b = main_arg1 ∨ b = main_arg2) : final m c b = m ((c : Thread nD τ).loc b) := by
  unfold final Pipeline.afterTail
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.unary_writes, StableHlo.reshape_writes, Finset.mem_singleton]
      rcases hb with rfl | rfl | rfl
      all_goals
        repeat' apply And.intro
        all_goals exact StableHlo.devRef_ne_of_ne (by decide))),
    Pipeline.withArrays_of_ne _ c (V0 m c) _ b (by
      rcases hb with rfl | rfl | rfl
      · exact (by decide : ∀ w, Pipeline.arrRef spec0 w ≠ main_arg0)
      · exact (by decide : ∀ w, Pipeline.arrRef spec0 w ≠ main_arg1)
      · exact (by decide : ∀ w, Pipeline.arrRef spec0 w ≠ main_arg2))]
  exact V_arg m c b hb

/-- The program ends with its arguments as launched and every semaphore at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (by decide : main_arg0 ∈ Pipeline.restRefs sig spec0)).trans (final_arg m c _ (.inl rfl)),
      ((h.1 c).2 main_arg1 (by decide : main_arg1 ∈ Pipeline.restRefs sig spec0)).trans (final_arg m c _ (.inr (.inl rfl))),
      ((h.1 c).2 main_arg2 (by decide : main_arg2 ∈ Pipeline.restRefs sig spec0)).trans (final_arg m c _ (.inr (.inr rfl)))⟩, h.2⟩) (run m ρ)

end Cert.KernelIdeal.Run
-- ==== Proof.Greatest.lean ====
/- The common meaning of the kernel and its reference over the extended reals: at a batch, a lane and a cell, the greatest
   of zero and, over the agents, the encoding of each agent that counts and is in the cell. -/
module

public import proofs.«01_k».proof.Proof.Table
public import Idealize.ShloMosaic.Lib.Claim
public import Idealize.ShloMosaic.PureOps.Ideal

@[expose] public section

noncomputable section

namespace Cert.Scatter

open Idealize.ShloMosaic

/-- The encodings: a batch, an agent, a lane. -/
abbrev SAll : Shape := ⟨3, ![64, 63, 512]⟩
/-- The result: a batch, a lane, a column, a row. -/
abbrev SGrid : Shape := ⟨4, ![64, 512, 28, 28]⟩

/-- An agent's encoding where it counts, else zero. -/
def counted (v : BitVec 1) (e : Ideal .f32) : EReal := if v = 1#1 then e else 0

/-- What agent `n` brings to a place of the result: its encoding if it counts and is in the place's cell, else zero. -/
def brings (p : SPos.Idx → Ideal .f32) (e : SAll.Idx → Ideal .f32) (l : SLen.Idx → BitVec 32) (i : SGrid.Idx) (n : Fin 63) : EReal :=
  if (clip (col p (i 0) n)).toNat = (i 2).val ∧ (clip (line p (i 0) n)).toNat = (i 3).val then
    counted (flag p l (i 0) n) (e (ix3 (i 0) n (i 1)))
  else 0

/-- The greatest of zero and what the agents bring. -/
def greatest (p : SPos.Idx → Ideal .f32) (e : SAll.Idx → Ideal .f32) (l : SLen.Idx → BitVec 32) : SGrid.Idx → Ideal .f32 := fun i =>
  max (0 : EReal) (Finset.univ.sup (brings p e l i))

/-- The word of zero. -/
theorem zero_eq : (FloatOps.ofBits .f32 0x00000000#32 : Ideal .f32) = (0 : EReal) := by simp [Ideal.ofBits, Ideal.ieee]

/-- A clipped number is the word of a coordinate when it is that coordinate. -/
theorem clip_eq_iff (a : BitVec 32) (x : Fin 28) : clip a = BitVec.ofNat 32 x.val ↔ (clip a).toNat = x.val := by
  have hx : (BitVec.ofNat 32 x.val).toNat = x.val := by rw [BitVec.toNat_ofNat, Nat.mod_eq_of_lt (by omega)]
  exact ⟨fun h => by rw [h, hx], fun h => BitVec.eq_of_toNat_eq (by rw [h, hx])⟩

/-- The choice by "the agent is in this cell", of the choice by "the agent counts". -/
theorem select_here (a b : BitVec 32) (x y : Fin 28) (v : BitVec 1) (e : Ideal .f32) :
    Scalar.select (IntOp.andi (IntOp.cmpi .eq (clip a) (BitVec.ofNat 32 x.val)) (IntOp.cmpi .eq (clip b) (BitVec.ofNat 32 y.val)))
        (Scalar.select v e (FloatOps.ofBits .f32 0x00000000#32)) (FloatOps.ofBits .f32 0x00000000#32 : Ideal .f32)
      = if (clip a).toNat = x.val ∧ (clip b).toNat = y.val then counted v e else (0 : EReal) := by
  have e : ∀ u w : BitVec 32, IntOp.cmpi .eq u w = if u = w then 1#1 else 0#1 := by
    intro u w
    by_cases h : u = w
    · simp [IntOp.cmpi, h]
    · simp [IntOp.cmpi, beq_false_of_ne h, h]
  rw [zero_eq, e, e]
  simp only [← clip_eq_iff]
  by_cases h1 : clip a = BitVec.ofNat 32 x.val <;> by_cases h2 : clip b = BitVec.ofNat 32 y.val <;>
    simp [IntOp.andi, Scalar.select, counted, h1, h2]

/-- The same, the coordinates and the flag spelt out: what an agent brings. -/
theorem brings_eq (p : SPos.Idx → Ideal .f32) (e : SAll.Idx → Ideal .f32) (l : SLen.Idx → BitVec 32) (i : SGrid.Idx) (n : Fin 63) :
    Scalar.select
        (IntOp.andi
          (IntOp.cmpi .eq (IntOp.minsi 27#32 (IntOp.maxsi 0#32 (FloatOps.fptosi 32 (FloatOps.hostDivf
            (FloatOps.mulf (p (ix3 (i 0) n 0)) (FloatOps.ofBits .f32 0x41E00000#32)) (FloatOps.ofBits .f32 0x43600000#32))))) (BitVec.ofNat 32 (i 2).val))
          (IntOp.cmpi .eq (IntOp.minsi 27#32 (IntOp.maxsi 0#32 (FloatOps.fptosi 32 (FloatOps.hostDivf
            (FloatOps.mulf (p (ix3 (i 0) n 1)) (FloatOps.ofBits .f32 0x41E00000#32)) (FloatOps.ofBits .f32 0x43600000#32))))) (BitVec.ofNat 32 (i 3).val)))
        (Scalar.select
          (IntOp.andi
            (IntOp.andi (IntOp.cmpi .sgt (l (ix1 (i 0))) (BitVec.ofNat 32 n.val))
              (IntOp.cmpi .slt (FloatOps.fptosi 32 (FloatOps.hostDivf
                (FloatOps.mulf (p (ix3 (i 0) n 0)) (FloatOps.ofBits .f32 0x41E00000#32)) (FloatOps.ofBits .f32 0x43600000#32))) 28#32))
            (IntOp.cmpi .slt (FloatOps.fptosi 32 (FloatOps.hostDivf
              (FloatOps.mulf (p (ix3 (i 0) n 1)) (FloatOps.ofBits .f32 0x41E00000#32)) (FloatOps.ofBits .f32 0x43600000#32))) 28#32))
          (e (ix3 (i 0) n (i 1))) (FloatOps.ofBits .f32 0x00000000#32))
        (FloatOps.ofBits .f32 0x00000000#32 : Ideal .f32)
      = brings p e l i n := by
  have h := select_here (col p (i 0) n) (line p (i 0) n) (i 2) (i 3) (flag p l (i 0) n) (e (ix3 (i 0) n (i 1)))
  unfold brings
  refine Eq.trans ?_ h
  unfold clip flag counts col line coord
  rfl

end Cert.Scatter
-- ==== Proof.Rows.lean ====
/- What the kernel's rows hold over the extended reals: the row of a cell and a batch, after all agents, is the greatest of
   zero and the counted encodings of the cell's agents. -/
module

public import proofs.«01_k».proof.Proof.Step
public import proofs.«01_k».proof.Proof.Greatest
public import Idealize.ShloMosaic.Lib.Pointwise

@[expose] public section

noncomputable section

namespace Cert.Scatter

open Idealize.ShloMosaic

/-- A row's new element: the greater of the old one and the encoding times the word's upper bits. -/
theorem newRow_at (v : BitVec 32) (e o : SRow.Idx → Ideal .f32) (h : Fin 512) :
    newRow v e o (ix3 0 0 h) = max (o (ix3 0 0 h) : EReal) ((e (ix3 0 0 h) : EReal) * (FloatOps.sitofp .f32 (Scalar.shrsi v 10#32) : Ideal .f32)) := by
  unfold newRow
  pointwise
  rfl

/-- Times a flag: the encoding where the agent counts, else zero. -/
theorem times_flag (v : BitVec 1) (e : Ideal .f32) :
    (e : EReal) * (FloatOps.sitofp .f32 (v.setWidth 32) : Ideal .f32) = counted v e := by
  have hv : v = 0#1 ∨ v = 1#1 := by
    obtain ⟨⟨n, hn⟩⟩ := v
    have : n = 0 ∨ n = 1 := by omega
    rcases this with rfl | rfl
    · exact .inl rfl
    · exact .inr rfl
  have h0 : (FloatOps.sitofp .f32 ((0#1 : BitVec 1).setWidth 32) : Ideal .f32) = (0 : EReal) := by
    change (((((0#1 : BitVec 1).setWidth 32).toInt : ℝ)) : EReal) = 0
    simp
  have h1 : (FloatOps.sitofp .f32 ((1#1 : BitVec 1).setWidth 32) : Ideal .f32) = (1 : EReal) := by
    change (((((1#1 : BitVec 1).setWidth 32).toInt : ℝ)) : EReal) = 1
    simp
  rcases hv with rfl | rfl
  · rw [h0, mul_zero]; rfl
  · rw [h1, mul_one]; rfl

/-- What agent `n` brings to cell `p` of batch `b`, by the table of words. -/
def offers (w : STab.Idx → BitVec 32) (x : SEnc.Idx → Ideal .f32) (g p b : ℕ) (h : Fin 512) (n : ℕ) : EReal :=
  if p = cellOfWord (word w g b n) then
    (encRow x b n (ix3 0 0 h) : EReal) * (FloatOps.sitofp .f32 (Scalar.shrsi (word w g b n) 10#32) : Ideal .f32)
  else 0

/-- After `n` agents a row holds the greatest of zero and what they bring. -/
theorem row_eq (w : STab.Idx → BitVec 32) (x : SEnc.Idx → Ideal .f32) (g p b : ℕ) (h : Fin 512) (n : ℕ) :
    row w x g n p b (ix3 0 0 h) = max (0 : EReal) ((Finset.range n).sup (offers w x g p b h)) := by
  induction n with
  | zero =>
    rw [Finset.range_zero, Finset.sup_empty, max_eq_left bot_le]
    exact zero_eq
  | succ n ih =>
    rw [Finset.range_add_one, Finset.sup_insert]
    change _ = max (0 : EReal) (max (offers w x g p b h n) ((Finset.range n).sup (offers w x g p b h)))
    rw [max_comm (offers w x g p b h n), ← max_assoc, ← ih]
    rw [show row w x g (n + 1) p b
      = if p = cellOfWord (word w g b n) then newRow (word w g b n) (encRow x b n) (row w x g n p b) else row w x g n p b from rfl]
    unfold offers
    by_cases hp : p = cellOfWord (word w g b n)
    · rw [if_pos hp, if_pos hp, newRow_at]
    · rw [if_neg hp, if_neg hp]
      refine (max_eq_left ?_).symm
      rw [ih]
      exact le_max_left _ _

/-- The greatest of zero and the counted encodings, at lane `h`, of batch `B`'s agents in cell `c`. -/
def cellMax (p : SPos.Idx → Ideal .f32) (e : SAll.Idx → Ideal .f32) (l : SLen.Idx → BitVec 32) (B : Fin 64) (h : Fin 512) (c : ℕ) : EReal :=
  max (0 : EReal) (Finset.univ.sup fun n : Fin 63 =>
    if c = (clip (col p B n)).toNat * 28 + (clip (line p B n)).toNat then counted (flag p l B n) (e (ix3 B n h)) else 0)

/-- A row after all agents, the table being the positions' and the block being the encodings'. -/
theorem row_cellMax (p : SPos.Idx → Ideal .f32) (e : SAll.Idx → Ideal .f32) (l : SLen.Idx → BitVec 32) (x : SEnc.Idx → Ideal .f32)
    (g b : ℕ) (hb : b < 8) (B : Fin 64) (hB : batch g b = B.val) (h : Fin 512) (hx : ∀ n : Fin 63, x (ix3 n ⟨b, hb⟩ h) = e (ix3 B n h)) (c : ℕ) :
    row (table p l) x g 63 c b (ix3 0 0 h) = cellMax p e l B h c := by
  have hr : Finset.range 63 = Finset.univ.image (Fin.val : Fin 63 → ℕ) := by decide
  rw [row_eq, hr, Finset.sup_image]
  refine congrArg (max (0 : EReal)) (Finset.sup_congr rfl fun n _ => ?_)
  have hw : word (table p l) g b n.val = packed (col p B n) (line p B n) (flag p l B n) := by
    unfold word
    rw [dif_pos ⟨by omega, n.isLt⟩]
    have : (⟨batch g b, by omega⟩ : Fin 64) = B := Fin.ext hB
    rw [this]
    rfl
  have he : encRow x b n.val (ix3 0 0 h) = e (ix3 B n h) := by
    unfold encRow
    rw [dif_pos ⟨n.isLt, hb⟩]
    exact hx n
  show offers (table p l) x g c b h n.val = _
  unfold offers
  rw [hw, he, cell_packed, factor_packed, times_flag]

/-- A cell of the grid is a place of the result. -/
theorem cellMax_greatest (p : SPos.Idx → Ideal .f32) (e : SAll.Idx → Ideal .f32) (l : SLen.Idx → BitVec 32) (i : SGrid.Idx) :
    cellMax p e l (i 0) (i 1) ((i 2).val * 28 + (i 3).val) = greatest p e l i := by
  refine congrArg (max (0 : EReal)) (Finset.sup_congr rfl fun n _ => ?_)
  unfold brings
  have h3 : (i 3).val < 28 := (i 3).isLt
  have hl := clip_lt (line p (i 0) n)
  refine if_congr ⟨fun h => ⟨by omega, by omega⟩, fun h => by rw [h.1, h.2]⟩ rfl rfl

end Cert.Scatter
-- ==== Proof.IdealArray.lean ====
/- What the ideal kernel leaves in its output array, and what the program returns: at a batch, a lane and a cell, the
   greatest of zero and the counted encodings of the agents in the cell. -/
module

public import proofs.«01_k».proof.Proof.IdealRun
public import proofs.«01_k».proof.Proof.Rows
public import Idealize.ShloMosaic.Lib.Pipeline.ValueKit
public import Idealize.ShloMosaic.Lib.Claim

@[expose] public section

set_option maxRecDepth 16384

noncomputable section

namespace Cert.KernelIdeal.Array

open Cert.KernelIdeal Cert.KernelIdeal.Gen Cert.KernelIdeal.Host Cert.KernelIdeal.Run Cert.Scatter
open Idealize.ShloMosaic Idealize.ShloMosaic.TcCoe
open Idealize.SL Idealize.SL.Sem

variable (m : (ℓ : Loc nD τ sig) → Buf (Elt Ideal) ℓ)

/-- The arguments: the positions, the encodings, the lengths. -/
abbrev pos : SPos.Idx → Ideal .f32 := m (((0 : Dev nD) : Thread nD τ).loc main_arg0)
abbrev enc : SAll.Idx → Ideal .f32 := m (((0 : Dev nD) : Thread nD τ).loc main_arg1)
abbrev len : SLen.Idx → BitVec 32 := m (((0 : Dev nD) : Thread nD τ).loc main_arg2)

/-- The output array: a cell, a batch, a lane. -/
def cells : S784x64x512.Idx → Ideal .f32 := fun y => cellMax (pos m) (enc m) (len m) (y 1) (y 2) (y 0).val

/-- Point `t` of the grid is `t`. -/
theorem coords_val : ∀ t : Fin grid0.N, (grid0.coords t 0).val = t.val := by decide +kernel

/-- A table of zeroes: no block's place depends on the table. -/
def zeroes : (pcfg0 (F := Ideal)).Adm := ⟨fun j => match j with | ⟨0, _⟩ => fun _ => (0#32 : BitVec 32), trivial⟩

/-- The output's blocks cover its array. -/
theorem covers : ((cfgM m).win 1).Covers := (by decide +kernel : ((cfg0 zeroes).win 1).Covers)

/-- The block numbers at point `t`, of the encodings and of the output. -/
theorem enc_index (t : Fin grid0.N) (a : Fin 3) : ((cfgM m).win 0).index t a = ![0, t.val, 0] a :=
  (by decide +kernel : ∀ (t : Fin grid0.N) (a : Fin 3), ((cfg0 zeroes).win 0).index t a = ![0, t.val, 0] a) t a
theorem out_index (t : Fin grid0.N) (a : Fin 3) : ((cfgM m).win 1).index t a = ![0, t.val, 0] a :=
  (by decide +kernel : ∀ (t : Fin grid0.N) (a : Fin 3), ((cfg0 zeroes).win 1).index t a = ![0, t.val, 0] a) t a

theorem point_lt (t : Fin grid0.N) (b : Fin 8) : 8 * t.val + b.val < 64 := by
  have : t.val < 8 := t.isLt
  omega

/-- Where an element of the output's block at point `t` stands in the array. -/
theorem out_place (t : Fin grid0.N) (y : SOut.Idx) :
    (((cfgM m).win 1).blk t).view.emb y = (ix3 (y 0) ⟨8 * t.val + (y 1).val, point_lt t (y 1)⟩ (y 2) : S784x64x512.Idx) := by
  funext a
  apply Fin.ext
  refine (Pipeline.Window.rect_emb_val ((cfgM m).win 1) t y a).trans ?_
  rw [out_index m t a]
  fin_cases a
  · exact (congrArg (· + (y 0).val) (Nat.zero_mul _)).trans (Nat.zero_add _)
  · exact congrArg (· + (y 1).val) (Nat.mul_comm _ _)
  · exact (congrArg (· + (y 2).val) (Nat.zero_mul _)).trans (Nat.zero_add _)

/-- Where an element of the encodings' block at point `t` stands in its array. -/
theorem enc_place (t : Fin grid0.N) (y : SEnc.Idx) :
    (((cfgM m).win 0).blk t).view.emb y = (ix3 (y 0) ⟨8 * t.val + (y 1).val, point_lt t (y 1)⟩ (y 2) : S63x64x512.Idx) := by
  funext a
  apply Fin.ext
  refine (Pipeline.Window.rect_emb_val ((cfgM m).win 0) t y a).trans ?_
  rw [enc_index m t a]
  fin_cases a
  · exact (congrArg (· + (y 0).val) (Nat.zero_mul _)).trans (Nat.zero_add _)
  · exact congrArg (· + (y 1).val) (Nat.mul_comm _ _)
  · exact (congrArg (· + (y 2).val) (Nat.zero_mul _)).trans (Nat.zero_add _)

/-- The encodings' block at point `t`: the encodings of its eight batches. -/
theorem encBlock_at (t : Fin grid0.N) (y : SEnc.Idx) :
    (encBlock m 0 t : SEnc.Idx → Ideal .f32) y = enc m (ix3 ⟨8 * t.val + (y 1).val, point_lt t (y 1)⟩ (y 0) (y 2)) := by
  have h : (encBlock m 0 t : SEnc.Idx → Ideal .f32) y = V m 0 main_v35 ((((cfgM m).win 0).blk t).view.emb y) := by
    unfold encBlock
    rfl
  rw [h, enc_place m t y]
  exact V_enc m 0 _

/-- What the body leaves at an element of the output's block. -/
theorem outBlock_at (t : Fin grid0.N) (y : SOut.Idx) :
    outBlock m 0 t y = cells m (ix3 (y 0) ⟨8 * t.val + (y 1).val, point_lt t (y 1)⟩ (y 2)) := by
  have hb : (y 1).val < 8 := (y 1).isLt
  have ht : t.val < 8 := t.isLt
  unfold outBlock block
  rw [if_neg (Nat.not_lt_zero _)]
  exact row_cellMax (pos m) (enc m) (len m) (encBlock m 0 t) (grid0.coords t 0).val (y 1).val hb ⟨8 * t.val + (y 1).val, point_lt t (y 1)⟩
    (by rw [coords_val, batch_eq _ _ ht hb]) (y 2) (fun n => encBlock_at m t (ix3 n ⟨(y 1).val, hb⟩ (y 2))) (y 0).val

/-- The call leaves `cells` in its output array. -/
theorem out_array : (dats m 0 0).arrAt 1 (cfgM m).N = cells m := by
  refine (dats m 0 0).arrAt_eq_of_covers 1 _ (covers m) fun t hf y => ?_
  rw [after_out]
  exact (outBlock_at m t y).trans (congrArg (cells m) (out_place m t y).symm)

/-- The program returns `greatest` of its arguments. -/
theorem result : final m 0 main_v38 = greatest (pos m) (enc m) (len m) := by
  funext i
  unfold final Pipeline.afterTail
  simp only [List.flatten_cons, List.flatten_nil, List.append_nil]
  unfold hostOps1
  after_reads_at
  refine (congrFun (Pipeline.withArrays_arr spec0 (by decide) 0 (V0 m 0) (fun w => (dats m 0 0).arrAt w (cfgM m).N) 1) _).trans ?_
  rw [out_array]
  exact cellMax_greatest _ _ _ i

/-- The ideal program ends with `greatest` of its arguments, which it leaves as they were. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v38) = greatest (pos m) (enc m) (len m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => by
    obtain rfl : c = 0 := Subsingleton.elim _ _
    exact ⟨((h.1.1 0).2 main_v38 (by decide : main_v38 ∈ Pipeline.restRefs sig spec0)).trans (result m), h.2.1 0⟩)
    (θ_run_and (Run.run m ρ) (Run.unchanged m ρ))

end Cert.KernelIdeal.Array
-- ==== Proof.Reference.lean ====
/- What the reference computes: at a batch, a lane and a cell, the greatest of zero and, over the agents, the encoding of
   each agent that counts and is in the cell. -/
module

public import proofs.«01_k».proof.Proof.Greatest
public import proofs.«01_k».proof.Proof.Gen.ReferenceIdeal
public import Idealize.ShloMosaic.Lib.Claim
public import Idealize.ShloMosaic.Lib.Quiescent
public import Idealize.ShloMosaic.Lib.StableHlo.ReadAt
public import Idealize.ShloMosaic.Lib.WordCmp
public import Idealize.ShloMosaic.PureOps.Reduce

@[expose] public section

set_option maxRecDepth 16384

noncomputable section

namespace Cert.ReferenceIdeal.Value

open Cert.ReferenceIdeal Cert.ReferenceIdeal.Gen Cert.Scatter
open Idealize.ShloMosaic Idealize.ShloMosaic.TcCoe
open Idealize.SL Idealize.SL.Sem

/-- Over the extended reals the greater of two floats is their maximum. -/
theorem maximumf_eq : (FloatOps.maximumf : Ideal .f32 → Ideal .f32 → Ideal .f32) = (max : EReal → EReal → EReal) := rfl

/-- The word of minus infinity. -/
theorem bot_eq : (FloatOps.ofBits .f32 0xFF800000#32 : Ideal .f32) = (⊥ : EReal) := by simp [Ideal.ofBits, Ideal.ieee]

/-- The agents' axis is the one that is reduced. -/
theorem red : S64x63x512x28x28.Reduces [1] S64x512x28x28 := by decide

/-- An index of the result with an agent put in. -/
theorem lift_eq (i : S64x512x28x28.Idx) (n : Fin 63) : Shape.Reduces.lift red i n = ix5 (i 0) n (i 1) (i 2) (i 3) := by
  funext d; fin_cases d <;> rfl

/-- The greater of two arrays at an index. -/
theorem maximumf_at {s : Shape} (x y : FVec Ideal s .f32) (i : s.Idx) : maximumf x y i = max (x i : EReal) (y i) := rfl

/-- A reduction by the greater along one axis, from minus infinity, is the supremum along that axis. -/
theorem reduce_at {s t u : Shape} {a : Fin s.rank} (x : FVec Ideal s .f32) (c : FVec Ideal u .f32) (h : s.ReducesTo [a] t) (h' : s.Reduces [a] t)
    (hu : 0 < u.numel) (hc : c (Shape.Idx.first hu) = (⊥ : EReal)) (j : t.Idx) :
    Host.reduce FloatOps.maximumf x c h hu j = (Finset.univ.sup fun k => (x (h'.lift j k) : EReal)) := by
  have e := Host.reduce_eq_fold_single (max : EReal → EReal → EReal) x c h h' hu j
  rw [hc] at e
  exact e

/-- The reference's last two lines: the greatest over the agents, and no less than zero. -/
theorem last_at (x : FVec Ideal S64x63x512x28x28 .f32) (i : S64x512x28x28.Idx) :
    maximumf (broadcastInDim S64x512x28x28 ![] bcast_S_S64x512x28x28 (constant S_ .f32 0x00000000#32))
      (Host.reduce FloatOps.maximumf x (constant S_ .f32 0xFF800000#32) reducesTo_S64x63x512x28x28_S64x512x28x28_d1 h_S_) i
      = max (0 : EReal) (Finset.univ.sup fun n : Fin 63 => (x (ix5 (i 0) n (i 1) (i 2) (i 3)) : EReal)) := by
  have hz : broadcastInDim S64x512x28x28 ![] bcast_S_S64x512x28x28 (constant (F := Ideal) S_ .f32 0x00000000#32) i = (0 : EReal) := zero_eq
  rw [maximumf_at, reduce_at x _ _ red h_S_ bot_eq, hz]
  have hl : (fun n => x (Shape.Reduces.lift red i n)) = fun n : Fin 63 => x (ix5 (i 0) n (i 1) (i 2) (i 3)) := funext fun n => congrArg x (lift_eq i n)
  rw [hl]
  rfl

variable (m : (ℓ : Loc nD τ sig) → Buf (Elt Ideal) ℓ) (g : Dev nD → PrngReg)

set_option maxHeartbeats 1600000 in
/-- The reference ends with `greatest` of its arguments, which it leaves as they were. -/
theorem run : θ_run (defs (F := Ideal)) (onTc (τ := τ) (main (F := Ideal))) ⟨m, fun _ => 0, g⟩ (fun r => ∀ c : Dev nD,
      r.2.mem ((c.tc : Thread nD τ).loc main_v49)
        = greatest (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  hlo_run
  simp -implicitDefEqProofs only [StableHlo.TRef.toBuf, StableHlo.TRef.ofBuf, cast_cast, cast_eq]
  clean_types
  funext i
  rw [last_at]
  refine congrArg (max (0 : EReal)) (Finset.sup_congr rfl fun n _ => ?_)
  pointwise
  exact brings_eq _ _ _ i n

/-- The reference ends with its arguments as launched and, having no semaphore, every semaphore at zero. -/
theorem unchanged : θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (run m g)

end Cert.ReferenceIdeal.Value
-- ==== Proof.lean ====
/- The certificate: the frames of the kernel, of the ideal kernel and of the reference, and that the last two compute the
   same function over the extended reals. Each is a theorem of a module under Proof/; this file puts them together. -/
module

public import proofs.«01_k».proof.Defs
public import proofs.«01_k».proof.Proof.KernelRun
public import proofs.«01_k».proof.Proof.IdealArray
public import proofs.«01_k».proof.Proof.Reference

@[expose] public section

noncomputable section

namespace Cert.Proof

open Idealize.ShloMosaic Idealize.SL.Sem

/-- The kernel ends, its arguments unchanged, every semaphore at zero. -/
theorem frame_kernel : Cert.quiescent_Kernel := fun m g _ => Cert.Kernel.Run.unchanged m g

/-- So does the ideal kernel, -/
theorem frame_ideal : Cert.quiescent_KernelIdeal := fun m g _ => Cert.KernelIdeal.Run.unchanged m g

/-- and so does the reference. -/
theorem frame_reference : Cert.quiescent_ReferenceIdeal := fun m g _ => Cert.ReferenceIdeal.Value.unchanged m g

/-- The ideal kernel and the reference end with the same array, `greatest` of the positions, the encodings and the lengths. -/
theorem equal_results : Cert.algebraic_KernelIdeal_ReferenceIdeal := by
  intro m g m' g' _ hagree
  refine ⟨fun _ => Cert.Scatter.greatest (Cert.KernelIdeal.Array.pos m) (Cert.KernelIdeal.Array.enc m) (Cert.KernelIdeal.Array.len m),
    Cert.KernelIdeal.Array.run m g, ?_⟩
  refine (θ_run _ _ _).mono (fun r h c => ?_) (Cert.ReferenceIdeal.Value.run m' g')
  obtain rfl : c = 0 := Subsingleton.elim _ _
  refine ⟨(h 0).1.trans ?_, (h 0).2⟩
  obtain ⟨h0, h1, h2⟩ := hagree 0
  rw [h0, h1, h2]

theorem claim : Cert.Claim :=
  ⟨Cert.Kernel.Gen.facts, Cert.KernelIdeal.Gen.facts, Cert.ReferenceIdeal.Gen.facts, frame_kernel, frame_ideal, frame_reference, trivial, equal_results⟩

end Cert.Proof

end
